-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Kernel32Ideal_finite3 [hPre_finite3 : Cert.Pre_finite3.Facts] (m : (ℓ : Loc Cert.Kernel32Ideal.nD Cert.Kernel32Ideal.τ Cert.Kernel32Ideal.sig) → Buf (Elt Ideal) ℓ) : Prop :=
  ∀ c : Dev Cert.Kernel32Ideal.nD,
    (Cert.Pre_finite3.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3))) = (fun _ => 1#1)

def Pre_Reference32Ideal (m : (ℓ : Loc Cert.Reference32Ideal.nD Cert.Reference32Ideal.τ Cert.Reference32Ideal.sig) → Buf (Elt Ideal) ℓ) : Prop :=
  True

def Pre_Reference32Ideal_finite3 [hPre_finite3 : Cert.Pre_finite3.Facts] (m : (ℓ : Loc Cert.Reference32Ideal.nD Cert.Reference32Ideal.τ Cert.Reference32Ideal.sig) → Buf (Elt Ideal) ℓ) : Prop :=
  ∀ c : Dev Cert.Reference32Ideal.nD,
    (Cert.Pre_finite3.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3))) = (fun _ => 1#1)

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Kernel32Ideal_pre_finite3 [hKernel32Ideal : Cert.Kernel32Ideal.Facts] [hPre_finite3 : Cert.Pre_finite3.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal_finite3 m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Reference32Ideal_pre_finite3 [hReference32Ideal : Cert.Reference32Ideal.Facts] [hPre_finite3 : Cert.Pre_finite3.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal_finite3 m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0)
      ∧ r.2.mem ((c.tc : Thread Cert.Kernel48.nD Cert.Kernel48.τ).loc Cert.Kernel48.main_arg1) = m ((c.tc : Thread Cert.Kernel48.nD Cert.Kernel48.τ).loc Cert.Kernel48.main_arg1))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
      ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0)
      ∧ r.2.mem ((c.tc : Thread Cert.Reference48Ideal.nD Cert.Reference48Ideal.τ).loc Cert.Reference48Ideal.main_arg1) = m ((c.tc : Thread Cert.Reference48Ideal.nD Cert.Reference48Ideal.τ).loc Cert.Reference48Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v68_0)) (v1 : (c : Dev Cert.KernelIdeal.nD) → Buf (Elt Ideal) ((c.tc : Thread Cert.KernelIdeal.nD Cert.KernelIdeal.τ).loc Cert.KernelIdeal.main_v68_1)) (v2 : (c : Dev Cert.KernelIdeal.nD) → Buf (Elt Ideal) ((c.tc : Thread Cert.KernelIdeal.nD Cert.KernelIdeal.τ).loc Cert.KernelIdeal.main_v68_2)) (v3 : (c : Dev Cert.KernelIdeal.nD) → Buf (Elt Ideal) ((c.tc : Thread Cert.KernelIdeal.nD Cert.KernelIdeal.τ).loc Cert.KernelIdeal.main_v68_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68_0) = v0 c
          ∧ r.2.mem ((c.tc : Thread Cert.KernelIdeal.nD Cert.KernelIdeal.τ).loc Cert.KernelIdeal.main_v68_1) = v1 c
          ∧ r.2.mem ((c.tc : Thread Cert.KernelIdeal.nD Cert.KernelIdeal.τ).loc Cert.KernelIdeal.main_v68_2) = v2 c
          ∧ r.2.mem ((c.tc : Thread Cert.KernelIdeal.nD Cert.KernelIdeal.τ).loc Cert.KernelIdeal.main_v68_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v11) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v9) = v0 c
          ∧ r.2.mem ((c.tc : Thread Cert.Reference19Ideal.nD Cert.Reference19Ideal.τ).loc Cert.Reference19Ideal.main_v10) = v1 c
          ∧ r.2.mem ((c.tc : Thread Cert.Reference19Ideal.nD Cert.Reference19Ideal.τ).loc Cert.Reference19Ideal.main_v11) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_v6) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_v28) = v1 c
          ∧ r.2.mem ((c.tc : Thread Cert.Reference21Ideal.nD Cert.Reference21Ideal.τ).loc Cert.Reference21Ideal.main_v9) = v2 c
          ∧ r.2.mem ((c.tc : Thread Cert.Reference21Ideal.nD Cert.Reference21Ideal.τ).loc Cert.Reference21Ideal.main_v15) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_v28) = v1 c
          ∧ r.2.mem ((c.tc : Thread Cert.Reference22Ideal.nD Cert.Reference22Ideal.τ).loc Cert.Reference22Ideal.main_v9) = v2 c
          ∧ r.2.mem ((c.tc : Thread Cert.Reference22Ideal.nD Cert.Reference22Ideal.τ).loc Cert.Reference22Ideal.main_v15) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_v28) = v1 c
          ∧ r.2.mem ((c.tc : Thread Cert.Reference23Ideal.nD Cert.Reference23Ideal.τ).loc Cert.Reference23Ideal.main_v9) = v2 c
          ∧ r.2.mem ((c.tc : Thread Cert.Reference23Ideal.nD Cert.Reference23Ideal.τ).loc Cert.Reference23Ideal.main_v15) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_v28) = v1 c
          ∧ r.2.mem ((c.tc : Thread Cert.Reference24Ideal.nD Cert.Reference24Ideal.τ).loc Cert.Reference24Ideal.main_v9) = v2 c
          ∧ r.2.mem ((c.tc : Thread Cert.Reference24Ideal.nD Cert.Reference24Ideal.τ).loc Cert.Reference24Ideal.main_v15) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_v28) = v1 c
          ∧ r.2.mem ((c.tc : Thread Cert.Reference25Ideal.nD Cert.Reference25Ideal.τ).loc Cert.Reference25Ideal.main_v9) = v2 c
          ∧ r.2.mem ((c.tc : Thread Cert.Reference25Ideal.nD Cert.Reference25Ideal.τ).loc Cert.Reference25Ideal.main_v15) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_v28) = v1 c
          ∧ r.2.mem ((c.tc : Thread Cert.Reference26Ideal.nD Cert.Reference26Ideal.τ).loc Cert.Reference26Ideal.main_v9) = v2 c
          ∧ r.2.mem ((c.tc : Thread Cert.Reference26Ideal.nD Cert.Reference26Ideal.τ).loc Cert.Reference26Ideal.main_v15) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v4) = v0 c
          ∧ r.2.mem ((c.tc : Thread Cert.Reference27Ideal.nD Cert.Reference27Ideal.τ).loc Cert.Reference27Ideal.main_v28) = v1 c
          ∧ r.2.mem ((c.tc : Thread Cert.Reference27Ideal.nD Cert.Reference27Ideal.τ).loc Cert.Reference27Ideal.main_v9) = v2 c
          ∧ r.2.mem ((c.tc : Thread Cert.Reference27Ideal.nD Cert.Reference27Ideal.τ).loc Cert.Reference27Ideal.main_v15) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v2) = v0 c
          ∧ r.2.mem ((c.tc : Thread Cert.Reference28Ideal.nD Cert.Reference28Ideal.τ).loc Cert.Reference28Ideal.main_v26) = v1 c
          ∧ r.2.mem ((c.tc : Thread Cert.Reference28Ideal.nD Cert.Reference28Ideal.τ).loc Cert.Reference28Ideal.main_v7) = v2 c
          ∧ r.2.mem ((c.tc : Thread Cert.Reference28Ideal.nD Cert.Reference28Ideal.τ).loc Cert.Reference28Ideal.main_v13) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v0) = v0 c
          ∧ r.2.mem ((c.tc : Thread Cert.Reference29Ideal.nD Cert.Reference29Ideal.τ).loc Cert.Reference29Ideal.main_v24) = v1 c
          ∧ r.2.mem ((c.tc : Thread Cert.Reference29Ideal.nD Cert.Reference29Ideal.τ).loc Cert.Reference29Ideal.main_v5) = v2 c
          ∧ r.2.mem ((c.tc : Thread Cert.Reference29Ideal.nD Cert.Reference29Ideal.τ).loc Cert.Reference29Ideal.main_v11) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v49) = v0 c
          ∧ r.2.mem ((c.tc : Thread Cert.Reference31Ideal.nD Cert.Reference31Ideal.τ).loc Cert.Reference31Ideal.main_v48) = v1 c
          ∧ r.2.mem ((c.tc : Thread Cert.Reference31Ideal.nD Cert.Reference31Ideal.τ).loc Cert.Reference31Ideal.main_v32) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal_pre_finite3 [hKernel32Ideal : Cert.Kernel32Ideal.Facts] [hReference32Ideal : Cert.Reference32Ideal.Facts] [hPre_finite3 : Cert.Pre_finite3.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal_finite3 m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v48) = v0 c
          ∧ r.2.mem ((c.tc : Thread Cert.Reference32Ideal.nD Cert.Reference32Ideal.τ).loc Cert.Reference32Ideal.main_v32) = v1 c
          ∧ r.2.mem ((c.tc : Thread Cert.Reference32Ideal.nD Cert.Reference32Ideal.τ).loc Cert.Reference32Ideal.main_v27) = v2 c
          ∧ r.2.mem ((c.tc : Thread Cert.Reference32Ideal.nD Cert.Reference32Ideal.τ).loc Cert.Reference32Ideal.main_v24) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v3) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v3) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v3) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v3) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v5) = v0 c
          ∧ r.2.mem ((c.tc : Thread Cert.Reference37Ideal.nD Cert.Reference37Ideal.τ).loc Cert.Reference37Ideal.main_v6) = v1 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v5) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v18) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v8) = v0 c
          ∧ r.2.mem ((c.tc : Thread Cert.Reference40Ideal.nD Cert.Reference40Ideal.τ).loc Cert.Reference40Ideal.main_v7) = v1 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v14) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)) →
    ∃ (v0 : (c : Dev Cert.Kernel42Ideal.nD) → Buf (Elt Ideal) ((c.tc : Thread Cert.Kernel42Ideal.nD Cert.Kernel42Ideal.τ).loc Cert.Kernel42Ideal.main_v0_0)) (v1 : (c : Dev Cert.Kernel42Ideal.nD) → Buf (Elt Ideal) ((c.tc : Thread Cert.Kernel42Ideal.nD Cert.Kernel42Ideal.τ).loc Cert.Kernel42Ideal.main_v0_1)) (v2 : (c : Dev Cert.Kernel42Ideal.nD) → Buf (Elt Ideal) ((c.tc : Thread Cert.Kernel42Ideal.nD Cert.Kernel42Ideal.τ).loc Cert.Kernel42Ideal.main_v0_2)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0_0) = v0 c
          ∧ r.2.mem ((c.tc : Thread Cert.Kernel42Ideal.nD Cert.Kernel42Ideal.τ).loc Cert.Kernel42Ideal.main_v0_1) = v1 c
          ∧ r.2.mem ((c.tc : Thread Cert.Kernel42Ideal.nD Cert.Kernel42Ideal.τ).loc Cert.Kernel42Ideal.main_v0_2) = v2 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v26) = v0 c
          ∧ r.2.mem ((c.tc : Thread Cert.Reference42Ideal.nD Cert.Reference42Ideal.τ).loc Cert.Reference42Ideal.main_v23) = v1 c
          ∧ r.2.mem ((c.tc : Thread Cert.Reference42Ideal.nD Cert.Reference42Ideal.τ).loc Cert.Reference42Ideal.main_v20) = v2 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)) →
    ∃ (v0 : (c : Dev Cert.Kernel43Ideal.nD) → Buf (Elt Ideal) ((c.tc : Thread Cert.Kernel43Ideal.nD Cert.Kernel43Ideal.τ).loc Cert.Kernel43Ideal.main_v0)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0) = v0 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v3) = v0 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)) →
    ∃ (v0 : (c : Dev Cert.Kernel44Ideal.nD) → Buf (Elt Ideal) ((c.tc : Thread Cert.Kernel44Ideal.nD Cert.Kernel44Ideal.τ).loc Cert.Kernel44Ideal.main_v0)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0) = v0 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v6) = v0 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)) →
    ∃ (v0 : (c : Dev Cert.Kernel45Ideal.nD) → Buf (Elt Ideal) ((c.tc : Thread Cert.Kernel45Ideal.nD Cert.Kernel45Ideal.τ).loc Cert.Kernel45Ideal.main_v0)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v7) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)) →
    ∃ (v0 : (c : Dev Cert.Kernel46Ideal.nD) → Buf (Elt Ideal) ((c.tc : Thread Cert.Kernel46Ideal.nD Cert.Kernel46Ideal.τ).loc Cert.Kernel46Ideal.main_v0)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0) = v0 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v5) = v0 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)) →
    ∃ (v0 : (c : Dev Cert.Kernel47Ideal.nD) → Buf (Elt Ideal) ((c.tc : Thread Cert.Kernel47Ideal.nD Cert.Kernel47Ideal.τ).loc Cert.Kernel47Ideal.main_v0)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0) = v0 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v8) = v0 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1))

def preserves_Kernel48_Kernel48Ideal : Prop :=
  True

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)
      ∧ m' ((c.tc : Thread Cert.Reference48Ideal.nD Cert.Reference48Ideal.τ).loc Cert.Reference48Ideal.main_arg1) = m ((c.tc : Thread Cert.Kernel48Ideal.nD Cert.Kernel48Ideal.τ).loc Cert.Kernel48Ideal.main_arg1)) →
    ∃ (v0 : (c : Dev Cert.Kernel48Ideal.nD) → Buf (Elt Ideal) ((c.tc : Thread Cert.Kernel48Ideal.nD Cert.Kernel48Ideal.τ).loc Cert.Kernel48Ideal.main_v0)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v0) = v0 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
          ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v11) = v0 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0)
          ∧ r.2.mem ((c.tc : Thread Cert.Reference48Ideal.nD Cert.Reference48Ideal.τ).loc Cert.Reference48Ideal.main_arg1) = m' ((c.tc : Thread Cert.Reference48Ideal.nD Cert.Reference48Ideal.τ).loc Cert.Reference48Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel48 : Cert.Kernel48.Facts) (hKernel48Ideal : Cert.Kernel48Ideal.Facts) (hReference48Ideal : Cert.Reference48Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Kernel32Ideal_pre_finite3 (hKernel32Ideal := hKernel32Ideal) (hPre_finite3 := hPre_finite3)
    ∧ quiescent_Reference32Ideal (hReference32Ideal := hReference32Ideal)
    ∧ quiescent_Reference32Ideal_pre_finite3 (hReference32Ideal := hReference32Ideal) (hPre_finite3 := hPre_finite3)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel48 (hKernel48 := hKernel48)
    ∧ quiescent_Kernel48Ideal (hKernel48Ideal := hKernel48Ideal)
    ∧ quiescent_Reference48Ideal (hReference48Ideal := hReference48Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal_pre_finite3 (hKernel32Ideal := hKernel32Ideal) (hReference32Ideal := hReference32Ideal) (hPre_finite3 := hPre_finite3)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel48_Kernel48Ideal
    ∧ algebraic_Kernel48Ideal_Reference48Ideal (hKernel48Ideal := hKernel48Ideal) (hReference48Ideal := hReference48Ideal)
-- ==== Pre_finite.lean ====
abbrev S2048x1024 : Shape := ⟨2, ![2048, 1024]⟩
abbrev S8x2048x64 : Shape := ⟨3, ![8, 2048, 64]⟩
abbrev S2048x2048 : Shape := ⟨2, ![2048, 2048]⟩
abbrev S2048x64 : Shape := ⟨2, ![2048, 64]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S8x2048x64 : S_.BroadcastsInDim S8x2048x64 (![] : Fin 0 → Fin S8x2048x64.rank)
  reducesTo_S8x2048x64_S_d0_1_2 : S8x2048x64.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S2048x64 : S_.BroadcastsInDim S2048x64 (![] : Fin 0 → Fin S2048x64.rank)
  reducesTo_S2048x64_S_d0_1 : S2048x64.ReducesTo [0, 1] S_

variable [Facts]

def fn_part1 {F : FTy → Type} [FloatOps F] (main_arg4 : FVec F S2048x1024 .bf16) (main_v16 : IVec S_ 1) (main_v17 : FVec F S2048x64 .f32) : IVec S_ 1 :=
  let main_v18 : FVec F S2048x64 .f32 := Host.absf main_v17
  let main_cst_4 : FVec F S_ .f32 := constant S_ .f32 0x7F800000#32
  let main_v19 : FVec F S2048x64 .f32 := broadcastInDim S2048x64 ![] bcast_S_S2048x64 main_cst_4
  let main_v20 : IVec S2048x64 1 := cmpf .olt main_v18 main_v19
  let main_c_5 : IVec S_ 1 := constantI S_ 1 1#1
  let main_v21 : IVec S_ 1 := (fun x v => Host.reduce IntOp.andi x v reducesTo_S2048x64_S_d0_1 h_S_) main_v20 main_c_5
  let main_v22 : IVec S_ 1 := andi main_v16 main_v21
  let main_v23 : FVec F S2048x1024 .f32 := (extf .f32 · bitsLt_bf16_f32) main_arg4
  let main_v24 : FVec F S2048x1024 .f32 := Host.absf main_v23
  let main_cst_6 : FVec F S_ .f32 := constant S_ .f32 0x7F800000#32
  let main_v25 : FVec F S2048x1024 .f32 := broadcastInDim S2048x1024 ![] bcast_S_S2048x1024 main_cst_6
  let main_v26 : IVec S2048x1024 1 := cmpf .olt main_v24 main_v25
  let main_c_7 : IVec S_ 1 := constantI S_ 1 1#1
  let main_v27 : IVec S_ 1 := (fun x v => Host.reduce IntOp.andi x v reducesTo_S2048x1024_S_d0_1 h_S_) main_v26 main_c_7
  let main_v28 : IVec S_ 1 := andi main_v22 main_v27
  main_v28

def fn {F : FTy → Type} [FloatOps F] (main_arg0 : FVec F S2048x1024 .bf16) (main_arg1 : FVec F S8x2048x64 .bf16) (main_arg2 : FVec F S2048x2048 .bf16) (main_arg3 : FVec F S2048x64 .bf16) (main_arg4 : FVec F S2048x1024 .bf16) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S8x2048x64 .f32 := (extf .f32 · bitsLt_bf16_f32) main_arg1
  let main_v6 : FVec F S8x2048x64 .f32 := Host.absf main_v5
  let main_cst_0 : FVec F S_ .f32 := constant S_ .f32 0x7F800000#32
  let main_v7 : FVec F S8x2048x64 .f32 := broadcastInDim S8x2048x64 ![] bcast_S_S8x2048x64 main_cst_0
  let main_v8 : IVec S8x2048x64 1 := cmpf .olt main_v6 main_v7
  let main_c_1 : IVec S_ 1 := constantI S_ 1 1#1
  let main_v9 : IVec S_ 1 := (fun x v => Host.reduce IntOp.andi x v reducesTo_S8x2048x64_S_d0_1_2 h_S_) main_v8 main_c_1
  let main_v10 : IVec S_ 1 := andi main_v4 main_v9
  let main_v11 : FVec F S2048x2048 .f32 := (extf .f32 · bitsLt_bf16_f32) main_arg2
  let main_v12 : FVec F S2048x2048 .f32 := Host.absf main_v11
  let main_cst_2 : FVec F S_ .f32 := constant S_ .f32 0x7F800000#32
  let main_v13 : FVec F S2048x2048 .f32 := broadcastInDim S2048x2048 ![] bcast_S_S2048x2048 main_cst_2
  let main_v14 : IVec S2048x2048 1 := cmpf .olt main_v12 main_v13
  let main_c_3 : IVec S_ 1 := constantI S_ 1 1#1
  let main_v15 : IVec S_ 1 := (fun x v => Host.reduce IntOp.andi x v reducesTo_S2048x2048_S_d0_1 h_S_) main_v14 main_c_3
  let main_v16 : IVec S_ 1 := andi main_v10 main_v15
  let main_v17 : FVec F S2048x64 .f32 := (extf .f32 · bitsLt_bf16_f32) main_arg3
  fn_part1 (F := F) main_arg4 main_v16 main_v17
-- ==== Pre_finite2.lean ====
abbrev S2048x5632 : Shape := ⟨2, ![2048, 5632]⟩
abbrev S_ : Shape := ⟨0, ![]⟩

class Facts : Prop where
  bitsLt_bf16_f32 : FTy.bits .bf16 < FTy.bits .f32
  bcast_S_S2048x5632 : S_.BroadcastsInDim S2048x5632 (![] : Fin 0 → Fin S2048x5632.rank)
  reducesTo_S2048x5632_S_d0_1 : S2048x5632.ReducesTo [0, 1] S_
  h_S_ : 0 < S_.numel

variable [Facts]

def fn {F : FTy → Type} [FloatOps F] (main_arg0 : FVec F S2048x5632 .bf16) (main_arg1 : FVec F S2048x5632 .bf16) (main_arg2 : FVec F S2048x5632 .bf16) : IVec S_ 1 :=
  let main_v0 : FVec F S2048x5632 .f32 := (extf .f32 · bitsLt_bf16_f32) main_arg0
  let main_v1 : FVec F S2048x5632 .f32 := Host.absf main_v0
  let main_cst : FVec F S_ .f32 := constant S_ .f32 0x7F800000#32
  let main_v2 : FVec F S2048x5632 .f32 := broadcastInDim S2048x5632 ![] bcast_S_S2048x5632 main_cst
  let main_v3 : IVec S2048x5632 1 := cmpf .olt main_v1 main_v2
  let main_c : IVec S_ 1 := constantI S_ 1 1#1
  let main_v4 : IVec S_ 1 := (fun x v => Host.reduce IntOp.andi x v reducesTo_S2048x5632_S_d0_1 h_S_) main_v3 main_c
  let main_v5 : FVec F S2048x5632 .f32 := (extf .f32 · bitsLt_bf16_f32) main_arg1
  let main_v6 : FVec F S2048x5632 .f32 := Host.absf main_v5
  let main_cst_0 : FVec F S_ .f32 := constant S_ .f32 0x7F800000#32
  let main_v7 : FVec F S2048x5632 .f32 := broadcastInDim S2048x5632 ![] bcast_S_S2048x5632 main_cst_0
  let main_v8 : IVec S2048x5632 1 := cmpf .olt main_v6 main_v7
  let main_c_1 : IVec S_ 1 := constantI S_ 1 1#1
  let main_v9 : IVec S_ 1 := (fun x v => Host.reduce IntOp.andi x v reducesTo_S2048x5632_S_d0_1 h_S_) main_v8 main_c_1
  let main_v10 : IVec S_ 1 := andi main_v4 main_v9
  let main_v11 : FVec F S2048x5632 .f32 := (extf .f32 · bitsLt_bf16_f32) main_arg2
  let main_v12 : FVec F S2048x5632 .f32 := Host.absf main_v11
  let main_cst_2 : FVec F S_ .f32 := constant S_ .f32 0x7F800000#32
  let main_v13 : FVec F S2048x5632 .f32 := broadcastInDim S2048x5632 ![] bcast_S_S2048x5632 main_cst_2
  let main_v14 : IVec S2048x5632 1 := cmpf .olt main_v12 main_v13
  let main_c_3 : IVec S_ 1 := constantI S_ 1 1#1
  let main_v15 : IVec S_ 1 := (fun x v => Host.reduce IntOp.andi x v reducesTo_S2048x5632_S_d0_1 h_S_) main_v14 main_c_3
  let main_v16 : IVec S_ 1 := andi main_v10 main_v15
  main_v16
-- ==== Pre_finite3.lean ====
abbrev S2048x2048 : Shape := ⟨2, ![2048, 2048]⟩
abbrev S1x2048 : Shape := ⟨2, ![1, 2048]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x2048 .f32) (main_arg1 : FVec F S1x2048 .f32) (main_arg2 : FVec F S1x2048 .f32) (main_arg3 : FVec F S2048x2048 .bf16) : IVec S_ 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S1x2048 .f32 := Host.absf main_arg2
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S2048x2048 .f32 := (extf .f32 · bitsLt_bf16_f32) main_arg3
  let main_v10 : FVec F S2048x2048 .f32 := Host.absf main_v9
  let main_cst_2 : FVec F S_ .f32 := constant S_ .f32 0x7F800000#32
  let main_v11 : FVec F S2048x2048 .f32 := broadcastInDim S2048x2048 ![] bcast_S_S2048x2048 main_cst_2
  let main_v12 : IVec S2048x2048 1 := cmpf .olt main_v10 main_v11
  let main_c_3 : IVec S_ 1 := constantI S_ 1 1#1
  let main_v13 : IVec S_ 1 := (fun x v => Host.reduce IntOp.andi x v reducesTo_S2048x2048_S_d0_1 h_S_) main_v12 main_c_3
  let main_v14 : IVec S_ 1 := andi main_v8 main_v13
  main_v14
-- ==== Kernel.lean ====
abbrev S2048x1024 : Shape := ⟨2, ![2048, 1024]⟩
abbrev S8x2048x64 : Shape := ⟨3, ![8, 2048, 64]⟩
abbrev S2048x2048 : Shape := ⟨2, ![2048, 2048]⟩
abbrev S2048x64 : Shape := ⟨2, ![2048, 64]⟩
abbrev S1x2048x64 : Shape := ⟨3, ![1, 2048, 64]⟩
abbrev S2048x8x128 : Shape := ⟨3, ![2048, 8, 128]⟩
abbrev S2048x8x256 : Shape := ⟨3, ![2048, 8, 256]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S8x2048 : Shape := ⟨2, ![8, 2048]⟩
abbrev S8x2048x1 : Shape := ⟨3, ![8, 2048, 1]⟩
abbrev S8x128x2048 : Shape := ⟨3, ![8, 128, 2048]⟩
abbrev S512x128 : Shape := ⟨2, ![512, 128]⟩
abbrev S1x512x64 : Shape := ⟨3, ![1, 512, 64]⟩
abbrev S512x64 : Shape := ⟨2, ![512, 64]⟩
abbrev S1x512x1 : Shape := ⟨3, ![1, 512, 1]⟩
abbrev S2048x128 : Shape := ⟨2, ![2048, 128]⟩
abbrev S512x256 : Shape := ⟨2, ![512, 256]⟩
abbrev S512x512 : Shape := ⟨2, ![512, 512]⟩
abbrev S512x1 : Shape := ⟨2, ![512, 1]⟩
abbrev S512 : Shape := ⟨1, ![512]⟩

abbrev nBuf : Space → Nat
  | .hbm => 92
  | .vmem => 29
  | .smem => 0
  | _ => 0

abbrev bufTy : (tb : Table) → Fin (tcTables nBuf tb) → BufTy
  | .hbm, ⟨0, _⟩ => ⟨S2048x1024, .bf16⟩
  | .hbm, ⟨1, _⟩ => ⟨S8x2048x64, .bf16⟩
  | .hbm, ⟨2, _⟩ => ⟨S2048x2048, .bf16⟩
  | .hbm, ⟨3, _⟩ => ⟨S2048x64, .bf16⟩
  | .hbm, ⟨4, _⟩ => ⟨S2048x1024, .bf16⟩
  | .hbm, ⟨5, _⟩ => ⟨S1x2048x64, .bf16⟩
  | .hbm, ⟨6, _⟩ => ⟨S8x2048x64, .bf16⟩
  | .hbm, ⟨7, _⟩ => ⟨S2048x1024, .f32⟩
  | .hbm, ⟨8, _⟩ => ⟨S2048x8x128, .f32⟩
  | .hbm, ⟨9, _⟩ => ⟨S8x2048x64, .f32⟩
  | .hbm, ⟨10, _⟩ => ⟨S2048x2048, .f32⟩
  | .hbm, ⟨11, _⟩ => ⟨S2048x8x256, .f32⟩
  | .hbm, ⟨12, _⟩ => ⟨S2048x8x128, .f32⟩
  | .hbm, ⟨13, _⟩ => ⟨S2048x8x128, .f32⟩
  | .hbm, ⟨14, _⟩ => ⟨S8x2048x2048, .f32⟩
  | .hbm, ⟨15, _⟩ => ⟨S8x2048x64, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S2048, .i32⟩
  | .hbm, ⟨22, _⟩ => ⟨S1x2048, .i32⟩
  | .hbm, ⟨23, _⟩ => ⟨S2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S8x2048x2048, .i1⟩
  | .hbm, ⟨31, _⟩ => ⟨S8x2048x2048, .f32⟩
  | .hbm, ⟨32, _⟩ => ⟨S8x2048x2048, .f32⟩
  | .hbm, ⟨33, _⟩ => ⟨S2048x1024, .f32⟩
  | .hbm, ⟨34, _⟩ => ⟨S2048x8x128, .f32⟩
  | .hbm, ⟨35, _⟩ => ⟨S8x2048x64, .f32⟩
  | .hbm, ⟨36, _⟩ => ⟨S2048x2048, .f32⟩
  | .hbm, ⟨37, _⟩ => ⟨S2048x8x256, .f32⟩
  | .hbm, ⟨38, _⟩ => ⟨S2048x8x128, .f32⟩
  | .hbm, ⟨39, _⟩ => ⟨S2048x8x128, .f32⟩
  | .hbm, ⟨40, _⟩ => ⟨S8x2048x2048, .f32⟩
  | .hbm, ⟨41, _⟩ => ⟨S8x2048x64, .f32⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S8x2048x2048, .f32⟩
  | .hbm, ⟨46, _⟩ => ⟨S8x2048x2048, .f32⟩
  | .hbm, ⟨47, _⟩ => ⟨S2048, .i32⟩
  | .hbm, ⟨48, _⟩ => ⟨S1x2048, .i32⟩
  | .hbm, ⟨49, _⟩ => ⟨S2048, .i32⟩
  | .hbm, ⟨50, _⟩ => ⟨S2048x1, .i32⟩
  | .hbm, ⟨51, _⟩ => ⟨S2048x2048, .i32⟩
  | .hbm, ⟨52, _⟩ => ⟨S2048x2048, .i32⟩
  | .hbm, ⟨53, _⟩ => ⟨S2048x2048, .i1⟩
  | .hbm, ⟨54, _⟩ => ⟨S_, .f32⟩
  | .hbm, ⟨55, _⟩ => ⟨S_, .f32⟩
  | .hbm, ⟨56, _⟩ => ⟨S8x2048x2048, .i1⟩
  | .hbm, ⟨57, _⟩ => ⟨S8x2048x2048, .f32⟩
  | .hbm, ⟨58, _⟩ => ⟨S8x2048x2048, .f32⟩
  | .hbm, ⟨59, _⟩ => ⟨S_, .f32⟩
  | .hbm, ⟨60, _⟩ => ⟨S8x2048, .f32⟩
  | .hbm, ⟨61, _⟩ => ⟨S_, .f32⟩
  | .hbm, ⟨62, _⟩ => ⟨S8x2048, .f32⟩
  | .hbm, ⟨63, _⟩ => ⟨S8x2048, .f32⟩
  | .hbm, ⟨64, _⟩ => ⟨S8x2048x1, .f32⟩
  | .hbm, ⟨65, _⟩ => ⟨S8x2048x2048, .f32⟩
  | .hbm, ⟨66, _⟩ => ⟨S8x2048x2048, .f32⟩
  | .hbm, ⟨67, _⟩ => ⟨S8x2048x2048, .f32⟩
  | .hbm, ⟨68, _⟩ => ⟨S_, .f32⟩
  | .hbm, ⟨69, _⟩ => ⟨S8x2048, .f32⟩
  | .hbm, ⟨70, _⟩ => ⟨S8x2048x1, .f32⟩
  | .hbm, ⟨71, _⟩ => ⟨S8x2048x2048, .f32⟩
  | .hbm, ⟨72, _⟩ => ⟨S8x2048x2048, .f32⟩
  | .hbm, ⟨73, _⟩ => ⟨S8x128x2048, .f32⟩
  | .hbm, ⟨74, _⟩ => ⟨S2048x8x128, .f32⟩
  | .hbm, ⟨75, _⟩ => ⟨S2048x1024, .f32⟩
  | .hbm, ⟨76, _⟩ => ⟨S2048x1024, .bf16⟩
  | .hbm, ⟨77, _⟩ => ⟨S_, .f32⟩
  | .hbm, ⟨78, _⟩ => ⟨S8x2048, .f32⟩
  | .hbm, ⟨79, _⟩ => ⟨S8x2048x1, .f32⟩
  | .hbm, ⟨80, _⟩ => ⟨S8x2048x2048, .f32⟩
  | .hbm, ⟨81, _⟩ => ⟨S8x2048x2048, .f32⟩
  | .hbm, ⟨82, _⟩ => ⟨S8x2048x2048, .f32⟩
  | .hbm, ⟨83, _⟩ => ⟨S_, .f32⟩
  | .hbm, ⟨84, _⟩ => ⟨S8x2048, .f32⟩
  | .hbm, ⟨85, _⟩ => ⟨S8x2048x1, .f32⟩
  | .hbm, ⟨86, _⟩ => ⟨S8x2048x1, .f32⟩
  | .hbm, ⟨87, _⟩ => ⟨S8x2048x1, .f32⟩
  | .hbm, ⟨88, _⟩ => ⟨S2048x1024, .bf16⟩
  | .hbm, ⟨89, _⟩ => ⟨S8x2048x64, .bf16⟩
  | .hbm, ⟨90, _⟩ => ⟨S2048x2048, .bf16⟩
  | .hbm, ⟨91, _⟩ => ⟨S8x2048x64, .f32⟩
  | .local _ .vmem, ⟨0, _⟩ => ⟨S512x128, .bf16⟩
  | .local _ .vmem, ⟨1, _⟩ => ⟨S512x128, .bf16⟩
  | .local _ .vmem, ⟨2, _⟩ => ⟨S1x512x64, .bf16⟩
  | .local _ .vmem, ⟨3, _⟩ => ⟨S1x512x64, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x64, .bf16⟩
  | .local _ .vmem, ⟨9, _⟩ => ⟨S512x64, .bf16⟩
  | .local _ .vmem, ⟨10, _⟩ => ⟨S512x128, .bf16⟩
  | .local _ .vmem, ⟨11, _⟩ => ⟨S512x128, .bf16⟩
  | .local _ .vmem, ⟨12, _⟩ => ⟨S1x512x1, .f32⟩
  | .local _ .vmem, ⟨13, _⟩ => ⟨S1x512x1, .f32⟩
  | .local _ .vmem, ⟨14, _⟩ => ⟨S512x128, .bf16⟩
  | .local _ .vmem, ⟨15, _⟩ => ⟨S512x128, .bf16⟩
  | .local _ .vmem, ⟨16, _⟩ => ⟨S2048x128, .bf16⟩
  | .local _ .vmem, ⟨17, _⟩ => ⟨S2048x128, .bf16⟩
  | .local _ .vmem, ⟨18, _⟩ => ⟨S1x2048x64, .bf16⟩
  | .local _ .vmem, ⟨19, _⟩ => ⟨S1x2048x64, .bf16⟩
  | .local _ .vmem, ⟨20, _⟩ => ⟨S512x256, .bf16⟩
  | .local _ .vmem, ⟨21, _⟩ => ⟨S512x256, .bf16⟩
  | .local _ .vmem, ⟨22, _⟩ => ⟨S1x512x64, .f32⟩
  | .local _ .vmem, ⟨23, _⟩ => ⟨S1x512x64, .f32⟩
  | .local _ .vmem, ⟨24, _⟩ => ⟨S2048x128, .f32⟩
  | .local _ .vmem, ⟨25, _⟩ => ⟨S2048x64, .f32⟩
  | .local _ .vmem, ⟨26, _⟩ => ⟨S512x128, .f32⟩
  | .local _ .vmem, ⟨27, _⟩ => ⟨S512x128, .f32⟩
  | .local _ .vmem, ⟨28, _⟩ => ⟨S512x64, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_1 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_2 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v43 : Ref sig .tc := ⟨.hbm, 58, rfl⟩
abbrev main_cst_3 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_5 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_6 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68_0 : Ref sig .tc := ⟨.hbm, 88, rfl⟩
abbrev main_v68_1 : Ref sig .tc := ⟨.hbm, 89, rfl⟩
abbrev main_v68_2 : Ref sig .tc := ⟨.hbm, 90, rfl⟩
abbrev main_v68_3 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .sgt arg2 arg1
  let v9 : BitVec 32 := Scalar.extui v8
  let c0_i32_4 : BitVec 32 := 0#32
  let v10 : BitVec 1 := Scalar.cmpi .ne v9 c0_i32_4
  v10

def k0_mult1 (i : grid0.Coords) : BitVec 32 :=
  let arg2 : BitVec 32 := BitVec.ofNat 32 (i 2).val
  let c512_i32 : BitVec 32 := 512#32
  let v77 : BitVec 32 := Scalar.muli arg2 c512_i32
  v77
def k0_off1 (i : grid0.Coords) : Fin 2 → Nat :=
  let arg2 : BitVec 32 := BitVec.ofNat 32 (i 2).val
  let c512_i32 : BitVec 32 := 512#32
  let v77 : BitVec 32 := Scalar.muli arg2 c512_i32
  let v78 : BitVec 32 := v77
  let v79 : Index := Scalar.indexCast v78
  let c0_56 : Index := 0#32
  ![v79.toNat, 0]
def k0_off2 (i : grid0.Coords) : Fin 2 → Nat :=
  let arg2 : BitVec 32 := BitVec.ofNat 32 (i 2).val
  let c512_i32 : BitVec 32 := 512#32
  let v77 : BitVec 32 := Scalar.muli arg2 c512_i32
  let v78 : BitVec 32 := v77
  let v87 : Index := Scalar.indexCast v78
  let c0_59 : Index := 0#32
  ![v87.toNat, 0]
def k0_cond4 (i : grid0.Coords) : BitVec 1 :=
  let arg2 : BitVec 32 := BitVec.ofNat 32 (i 2).val
  let arg1 : BitVec 32 := BitVec.ofNat 32 (i 1).val
  let v11 : BitVec 1 := Scalar.cmpi .eq arg2 arg1
  let v12 : BitVec 32 := Scalar.extui v11
  let c0_i32_5 : BitVec 32 := 0#32
  let v13 : BitVec 1 := Scalar.cmpi .ne v12 c0_i32_5
  v13

def k0_mult2 (i : grid0.Coords) : BitVec 32 :=
  let arg2 : BitVec 32 := BitVec.ofNat 32 (i 2).val
  let c512_i32 : BitVec 32 := 512#32
  let v82 : BitVec 32 := Scalar.muli arg2 c512_i32
  v82
def k0_off3 (i : grid0.Coords) : Fin 2 → Nat :=
  let arg2 : BitVec 32 := BitVec.ofNat 32 (i 2).val
  let c512_i32 : BitVec 32 := 512#32
  let v82 : BitVec 32 := Scalar.muli arg2 c512_i32
  let v83 : BitVec 32 := v82
  let v84 : Index := Scalar.indexCast v83
  let c0_57 : Index := 0#32
  ![v84.toNat, 0]
def k0_off4 (i : grid0.Coords) : Fin 2 → Nat :=
  let arg2 : BitVec 32 := BitVec.ofNat 32 (i 2).val
  let c512_i32 : BitVec 32 := 512#32
  let v82 : BitVec 32 := Scalar.muli arg2 c512_i32
  let v83 : BitVec 32 := v82
  let v92 : Index := Scalar.indexCast v83
  let c0_60 : Index := 0#32
  ![v92.toNat, 0]
def k0_cond6 (i : grid0.Coords) : BitVec 1 :=
  let arg1 : BitVec 32 := BitVec.ofNat 32 (i 1).val
  let c3_i32_7 : BitVec 32 := 3#32
  let v17 : BitVec 1 := Scalar.cmpi .eq arg1 c3_i32_7
  let arg2 : BitVec 32 := BitVec.ofNat 32 (i 2).val
  let c3_i32_8 : BitVec 32 := 3#32
  let v18 : BitVec 1 := Scalar.cmpi .eq arg2 c3_i32_8
  let v19 : BitVec 1 := Scalar.andi v17 v18
  let v20 : BitVec 32 := Scalar.extui v19
  let c0_i32_9 : BitVec 32 := 0#32
  let v21 : BitVec 1 := Scalar.cmpi .ne v20 c0_i32_9
  v21

def k0_cond5 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x2048x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S2048x1024 : Shape := ⟨2, ![2048, 1024]⟩
abbrev S8x2048x64 : Shape := ⟨3, ![8, 2048, 64]⟩
abbrev S2048x2048 : Shape := ⟨2, ![2048, 2048]⟩
abbrev S2048x64 : Shape := ⟨2, ![2048, 64]⟩
abbrev S1x2048x64 : Shape := ⟨3, ![1, 2048, 64]⟩
abbrev S2048x8x128 : Shape := ⟨3, ![2048, 8, 128]⟩
abbrev S2048x8x256 : Shape := ⟨3, ![2048, 8, 256]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S8x2048 : Shape := ⟨2, ![8, 2048]⟩
abbrev S8x2048x1 : Shape := ⟨3, ![8, 2048, 1]⟩
abbrev S8x128x2048 : Shape := ⟨3, ![8, 128, 2048]⟩
abbrev S8x2048x128 : Shape := ⟨3, ![8, 2048, 128]⟩

abbrev nBuf : Space → Nat
  | .hbm => 118
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x2048x64, .bf16⟩
  | .hbm, ⟨2, _⟩ => ⟨S2048x2048, .bf16⟩
  | .hbm, ⟨3, _⟩ => ⟨S2048x64, .bf16⟩
  | .hbm, ⟨4, _⟩ => ⟨S2048x1024, .bf16⟩
  | .hbm, ⟨5, _⟩ => ⟨S1x2048x64, .bf16⟩
  | .hbm, ⟨6, _⟩ => ⟨S8x2048x64, .bf16⟩
  | .hbm, ⟨7, _⟩ => ⟨S8x2048x64, .f32⟩
  | .hbm, ⟨8, _⟩ => ⟨S2048x1024, .f32⟩
  | .hbm, ⟨9, _⟩ => ⟨S2048x8x128, .f32⟩
  | .hbm, ⟨10, _⟩ => ⟨S8x2048x64, .f32⟩
  | .hbm, ⟨11, _⟩ => ⟨S2048x2048, .f32⟩
  | .hbm, ⟨12, _⟩ => ⟨S2048x8x256, .f32⟩
  | .hbm, ⟨13, _⟩ => ⟨S2048x8x128, .f32⟩
  | .hbm, ⟨14, _⟩ => ⟨S2048x8x128, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S2048, .i32⟩
  | .hbm, ⟨22, _⟩ => ⟨S1x2048, .i32⟩
  | .hbm, ⟨23, _⟩ => ⟨S2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S8x2048x2048, .i1⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .i1⟩
  | .hbm, ⟨40, _⟩ => ⟨S8x2048x2048, .f32⟩
  | .hbm, ⟨41, _⟩ => ⟨S_, .f32⟩
  | .hbm, ⟨42, _⟩ => ⟨S8x2048, .f32⟩
  | .hbm, ⟨43, _⟩ => ⟨S_, .f32⟩
  | .hbm, ⟨44, _⟩ => ⟨S8x2048, .f32⟩
  | .hbm, ⟨45, _⟩ => ⟨S8x2048, .f32⟩
  | .hbm, ⟨46, _⟩ => ⟨S_, .f32⟩
  | .hbm, ⟨47, _⟩ => ⟨S8x2048, .f32⟩
  | .hbm, ⟨48, _⟩ => ⟨S8x2048, .i1⟩
  | .hbm, ⟨49, _⟩ => ⟨S_, .f32⟩
  | .hbm, ⟨50, _⟩ => ⟨S8x2048, .f32⟩
  | .hbm, ⟨51, _⟩ => ⟨S8x2048, .i1⟩
  | .hbm, ⟨52, _⟩ => ⟨S_, .f32⟩
  | .hbm, ⟨53, _⟩ => ⟨S8x2048, .f32⟩
  | .hbm, ⟨54, _⟩ => ⟨S_, .f32⟩
  | .hbm, ⟨55, _⟩ => ⟨S8x2048, .f32⟩
  | .hbm, ⟨56, _⟩ => ⟨S_, .f32⟩
  | .hbm, ⟨57, _⟩ => ⟨S8x2048, .f32⟩
  | .hbm, ⟨58, _⟩ => ⟨S8x2048, .f32⟩
  | .hbm, ⟨59, _⟩ => ⟨S8x2048, .f32⟩
  | .hbm, ⟨60, _⟩ => ⟨S8x2048x1, .f32⟩
  | .hbm, ⟨61, _⟩ => ⟨S8x2048x2048, .f32⟩
  | .hbm, ⟨62, _⟩ => ⟨S8x2048x2048, .f32⟩
  | .hbm, ⟨63, _⟩ => ⟨S8x2048x2048, .f32⟩
  | .hbm, ⟨64, _⟩ => ⟨S_, .f32⟩
  | .hbm, ⟨65, _⟩ => ⟨S8x2048, .f32⟩
  | .hbm, ⟨66, _⟩ => ⟨S8x2048x1, .f32⟩
  | .hbm, ⟨67, _⟩ => ⟨S8x2048x2048, .f32⟩
  | .hbm, ⟨68, _⟩ => ⟨S8x2048x2048, .f32⟩
  | .hbm, ⟨69, _⟩ => ⟨S8x2048x1, .f32⟩
  | .hbm, ⟨70, _⟩ => ⟨S_, .f32⟩
  | .hbm, ⟨71, _⟩ => ⟨S8x2048x1, .f32⟩
  | .hbm, ⟨72, _⟩ => ⟨S8x2048x1, .f32⟩
  | .hbm, ⟨73, _⟩ => ⟨S8x128x2048, .f32⟩
  | .hbm, ⟨74, _⟩ => ⟨S2048x8x128, .f32⟩
  | .hbm, ⟨75, _⟩ => ⟨S2048x1024, .f32⟩
  | .hbm, ⟨76, _⟩ => ⟨S2048x1024, .f32⟩
  | .hbm, ⟨77, _⟩ => ⟨S2048x8x128, .f32⟩
  | .hbm, ⟨78, _⟩ => ⟨S8x128x2048, .f32⟩
  | .hbm, ⟨79, _⟩ => ⟨S8x2048x2048, .f32⟩
  | .hbm, ⟨80, _⟩ => ⟨S8x128x2048, .f32⟩
  | .hbm, ⟨81, _⟩ => ⟨S2048x8x128, .f32⟩
  | .hbm, ⟨82, _⟩ => ⟨S8x2048x2048, .f32⟩
  | .hbm, ⟨83, _⟩ => ⟨S8x2048x2048, .f32⟩
  | .hbm, ⟨84, _⟩ => ⟨S8x2048x2048, .f32⟩
  | .hbm, ⟨85, _⟩ => ⟨S_, .f32⟩
  | .hbm, ⟨86, _⟩ => ⟨S8x2048, .f32⟩
  | .hbm, ⟨87, _⟩ => ⟨S8x2048x1, .f32⟩
  | .hbm, ⟨88, _⟩ => ⟨S8x2048x1, .f32⟩
  | .hbm, ⟨89, _⟩ => ⟨S8x2048x2048, .f32⟩
  | .hbm, ⟨90, _⟩ => ⟨S8x2048x2048, .f32⟩
  | .hbm, ⟨91, _⟩ => ⟨S_, .f32⟩
  | .hbm, ⟨92, _⟩ => ⟨S8x2048, .f32⟩
  | .hbm, ⟨93, _⟩ => ⟨S8x2048x2048, .f32⟩
  | .hbm, ⟨94, _⟩ => ⟨S8x2048x2048, .f32⟩
  | .hbm, ⟨95, _⟩ => ⟨S8x2048x2048, .f32⟩
  | .hbm, ⟨96, _⟩ => ⟨S_, .f32⟩
  | .hbm, ⟨97, _⟩ => ⟨S8x2048x2048, .f32⟩
  | .hbm, ⟨98, _⟩ => ⟨S8x2048x2048, .f32⟩
  | .hbm, ⟨99, _⟩ => ⟨S_, .f32⟩
  | .hbm, ⟨100, _⟩ => ⟨S8x2048x2048, .f32⟩
  | .hbm, ⟨101, _⟩ => ⟨S8x2048x2048, .f32⟩
  | .hbm, ⟨102, _⟩ => ⟨S8x2048x64, .f32⟩
  | .hbm, ⟨103, _⟩ => ⟨S8x2048x64, .f32⟩
  | .hbm, ⟨104, _⟩ => ⟨S8x2048x128, .f32⟩
  | .hbm, ⟨105, _⟩ => ⟨S2048x8x128, .f32⟩
  | .hbm, ⟨106, _⟩ => ⟨S8x2048x128, .f32⟩
  | .hbm, ⟨107, _⟩ => ⟨S2048x8x128, .f32⟩
  | .hbm, ⟨108, _⟩ => ⟨S_, .f32⟩
  | .hbm, ⟨109, _⟩ => ⟨S2048x8x256, .f32⟩
  | .hbm, ⟨110, _⟩ => ⟨S_, .f32⟩
  | .hbm, ⟨111, _⟩ => ⟨S2048x8x256, .f32⟩
  | .hbm, ⟨112, _⟩ => ⟨S2048x8x256, .f32⟩
  | .hbm, ⟨113, _⟩ => ⟨S2048x2048, .f32⟩
  | .hbm, ⟨114, _⟩ => ⟨S2048x2048, .bf16⟩
  | .hbm, ⟨115, _⟩ => ⟨S8x2048x64, .bf16⟩
  | .hbm, ⟨116, _⟩ => ⟨S2048x1024, .f32⟩
  | .hbm, ⟨117, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_v22_1 : Ref sig .tc := ⟨.hbm, 30, rfl⟩
abbrev main_call0_v2 : Ref sig .tc := ⟨.hbm, 31, rfl⟩
abbrev main_v22_0 : Ref sig .tc := ⟨.hbm, 32, rfl⟩
abbrev main_call0_cst : Ref sig .tc := ⟨.hbm, 33, rfl⟩
abbrev main_v22_2 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_14 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩

abbrev nD : Nat := 1
abbrev τ : Topo := Topo.v7x

variable {F : FTy → Type} [FloatOps F]
-- ==== Kernel2.lean ====
abbrev S2048x5632 : Shape := ⟨2, ![2048, 5632]⟩
abbrev S2048x11264 : Shape := ⟨2, ![2048, 11264]⟩
abbrev S128x5632 : Shape := ⟨2, ![128, 5632]⟩
abbrev S128x11264 : Shape := ⟨2, ![128, 11264]⟩

abbrev nBuf : Space → Nat
  | .hbm => 4
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .bf16⟩
  | .hbm, ⟨3, _⟩ => ⟨S2048x11264, .bf16⟩
  | .local _ .vmem, ⟨0, _⟩ => ⟨S128x5632, .bf16⟩
  | .local _ .vmem, ⟨1, _⟩ => ⟨S128x5632, .bf16⟩
  | .local _ .vmem, ⟨2, _⟩ => ⟨S128x5632, .bf16⟩
  | .local _ .vmem, ⟨3, _⟩ => ⟨S128x5632, .bf16⟩
  | .local _ .vmem, ⟨4, _⟩ => ⟨S128x5632, .bf16⟩
  | .local _ .vmem, ⟨5, _⟩ => ⟨S128x5632, .bf16⟩
  | .local _ .vmem, ⟨6, _⟩ => ⟨S128x11264, .bf16⟩
  | .local _ .vmem, ⟨7, _⟩ => ⟨S128x11264, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x11264 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S2048x5632 : Shape := ⟨2, ![2048, 5632]⟩
abbrev S_ : Shape := ⟨0, ![]⟩
abbrev S2048x11264 : Shape := ⟨2, ![2048, 11264]⟩

abbrev nBuf : Space → Nat
  | .hbm => 29
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .bf16⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .bf16⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .bf16⟩
  | .hbm, ⟨28, _⟩ => ⟨S2048x11264, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== Kernel3.lean ====
abbrev S8x2048x1408 : Shape := ⟨3, ![8, 2048, 1408]⟩
abbrev S2048x11264 : Shape := ⟨2, ![2048, 11264]⟩
abbrev S2048x2048 : Shape := ⟨2, ![2048, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8x2048x1408, .bf16⟩
  | .hbm, ⟨1, _⟩ => ⟨S2048x11264, .bf16⟩
  | .hbm, ⟨2, _⟩ => ⟨S2048x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8x2048x1408 : Shape := ⟨3, ![8, 2048, 1408]⟩
abbrev S2048x11264 : Shape := ⟨2, ![2048, 11264]⟩
abbrev S_ : Shape := ⟨0, ![]⟩
abbrev S2048x2048 : Shape := ⟨2, ![2048, 2048]⟩
abbrev S2048x8x1408 : Shape := ⟨3, ![2048, 8, 1408]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S2048x11264, .bf16⟩
  | .hbm, ⟨2, _⟩ => ⟨S_, .bf16⟩
  | .hbm, ⟨3, _⟩ => ⟨S2048x2048, .bf16⟩
  | .hbm, ⟨4, _⟩ => ⟨S2048x8x1408, .bf16⟩
  | .hbm, ⟨5, _⟩ => ⟨S2048x11264, .bf16⟩
  | .hbm, ⟨6, _⟩ => ⟨S2048x2048, .f32⟩
  | .hbm, ⟨7, _⟩ => ⟨S2048x11264, .f32⟩
  | .hbm, ⟨8, _⟩ => ⟨S2048x11264, .f32⟩
  | .hbm, ⟨9, _⟩ => ⟨S2048x11264, .f32⟩
  | .hbm, ⟨10, _⟩ => ⟨S2048x2048, .f32⟩
  | .hbm, ⟨11, _⟩ => ⟨S2048x2048, .bf16⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S2048x2048 : Shape := ⟨2, ![2048, 2048]⟩
abbrev S2048x11264 : Shape := ⟨2, ![2048, 11264]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S2048x11264 : Shape := ⟨2, ![2048, 11264]⟩
abbrev S_ : Shape := ⟨0, ![]⟩
abbrev S8x2048x1408 : Shape := ⟨3, ![8, 2048, 1408]⟩
abbrev S2048x8x1408 : Shape := ⟨3, ![2048, 8, 1408]⟩
abbrev S11264x2048 : Shape := ⟨2, ![11264, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S_, .bf16⟩
  | .hbm, ⟨3, _⟩ => ⟨S8x2048x1408, .bf16⟩
  | .hbm, ⟨4, _⟩ => ⟨S2048x8x1408, .bf16⟩
  | .hbm, ⟨5, _⟩ => ⟨S2048x11264, .bf16⟩
  | .hbm, ⟨6, _⟩ => ⟨S2048x2048, .f32⟩
  | .hbm, ⟨7, _⟩ => ⟨S2048x11264, .f32⟩
  | .hbm, ⟨8, _⟩ => ⟨S2048x11264, .f32⟩
  | .hbm, ⟨9, _⟩ => ⟨S2048x11264, .f32⟩
  | .hbm, ⟨10, _⟩ => ⟨S11264x2048, .f32⟩
  | .hbm, ⟨11, _⟩ => ⟨S2048x11264, .f32⟩
  | .hbm, ⟨12, _⟩ => ⟨S2048x11264, .bf16⟩
  | .hbm, ⟨13, _⟩ => ⟨S2048x8x1408, .bf16⟩
  | .hbm, ⟨14, _⟩ => ⟨S8x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel5.lean ====
abbrev S5632x2048 : Shape := ⟨2, ![5632, 2048]⟩
abbrev S2048x2048 : Shape := ⟨2, ![2048, 2048]⟩
abbrev S2048x5632 : Shape := ⟨2, ![2048, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S5632x2048, .bf16⟩
  | .hbm, ⟨1, _⟩ => ⟨S2048x2048, .bf16⟩
  | .hbm, ⟨2, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | _, _ => ⟨S5632x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S5632x2048 : Shape := ⟨2, ![5632, 2048]⟩
abbrev S2048x2048 : Shape := ⟨2, ![2048, 2048]⟩
abbrev S_ : Shape := ⟨0, ![]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S5632x2048, .bf16⟩
  | .hbm, ⟨1, _⟩ => ⟨S2048x2048, .bf16⟩
  | .hbm, ⟨2, _⟩ => ⟨S_, .bf16⟩
  | .hbm, ⟨3, _⟩ => ⟨S2048x5632, .bf16⟩
  | .hbm, ⟨4, _⟩ => ⟨S2048x5632, .f32⟩
  | .hbm, ⟨5, _⟩ => ⟨S5632x2048, .f32⟩
  | .hbm, ⟨6, _⟩ => ⟨S2048x2048, .f32⟩
  | .hbm, ⟨7, _⟩ => ⟨S2048x2048, .f32⟩
  | .hbm, ⟨8, _⟩ => ⟨S2048x5632, .f32⟩
  | .hbm, ⟨9, _⟩ => ⟨S2048x5632, .bf16⟩
  | _, _ => ⟨S5632x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .bf16⟩
  | .hbm, ⟨3, _⟩ => ⟨S5632x2048, .bf16⟩
  | .hbm, ⟨4, _⟩ => ⟨S2048x5632, .f32⟩
  | .hbm, ⟨5, _⟩ => ⟨S5632x2048, .f32⟩
  | .hbm, ⟨6, _⟩ => ⟨S2048x2048, .f32⟩
  | .hbm, ⟨7, _⟩ => ⟨S2048x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S2048x4096 : Shape := ⟨2, ![2048, 4096]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x4096 : Shape := ⟨2, ![2048, 4096]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .bf16⟩
  | .hbm, ⟨2, _⟩ => ⟨S_, .bf16⟩
  | .hbm, ⟨3, _⟩ => ⟨S2048x2048, .bf16⟩
  | .hbm, ⟨4, _⟩ => ⟨S2048x2048, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x2048, .f32⟩
  | .hbm, ⟨9, _⟩ => ⟨S2048x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S2048x2048 : Shape := ⟨2, ![2048, 2048]⟩
abbrev S2048x4096 : Shape := ⟨2, ![2048, 4096]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2048x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S2048x4096 : Shape := ⟨2, ![2048, 4096]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S_, .bf16⟩
  | .hbm, ⟨3, _⟩ => ⟨S2048x4096, .bf16⟩
  | .hbm, ⟨4, _⟩ => ⟨S2048x2048, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S4096x2048, .f32⟩
  | .hbm, ⟨9, _⟩ => ⟨S2048x4096, .f32⟩
  | .hbm, ⟨10, _⟩ => ⟨S2048x4096, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S2048x3072 : Shape := ⟨2, ![2048, 3072]⟩
abbrev S2048x2048 : Shape := ⟨2, ![2048, 2048]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x3072, .bf16⟩
  | .hbm, ⟨1, _⟩ => ⟨S2048x3072, .bf16⟩
  | .hbm, ⟨2, _⟩ => ⟨S2048x2048, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x3072 : Shape := ⟨2, ![2048, 3072]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x3072, .bf16⟩
  | .hbm, ⟨2, _⟩ => ⟨S_, .bf16⟩
  | .hbm, ⟨3, _⟩ => ⟨S2048x2048, .bf16⟩
  | .hbm, ⟨4, _⟩ => ⟨S2048x2048, .f32⟩
  | .hbm, ⟨5, _⟩ => ⟨S2048x3072, .f32⟩
  | .hbm, ⟨6, _⟩ => ⟨S2048x3072, .f32⟩
  | .hbm, ⟨7, _⟩ => ⟨S2048x3072, .f32⟩
  | .hbm, ⟨8, _⟩ => ⟨S2048x2048, .f32⟩
  | .hbm, ⟨9, _⟩ => ⟨S2048x2048, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x2048 : Shape := ⟨2, ![2048, 2048]⟩
abbrev S2048x3072 : Shape := ⟨2, ![2048, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S2048x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S2048x3072 : Shape := ⟨2, ![2048, 3072]⟩
abbrev S_ : Shape := ⟨0, ![]⟩
abbrev S3072x2048 : Shape := ⟨2, ![3072, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S_, .bf16⟩
  | .hbm, ⟨3, _⟩ => ⟨S2048x3072, .bf16⟩
  | .hbm, ⟨4, _⟩ => ⟨S2048x2048, .f32⟩
  | .hbm, ⟨5, _⟩ => ⟨S2048x3072, .f32⟩
  | .hbm, ⟨6, _⟩ => ⟨S2048x3072, .f32⟩
  | .hbm, ⟨7, _⟩ => ⟨S2048x3072, .f32⟩
  | .hbm, ⟨8, _⟩ => ⟨S3072x2048, .f32⟩
  | .hbm, ⟨9, _⟩ => ⟨S2048x3072, .f32⟩
  | .hbm, ⟨10, _⟩ => ⟨S2048x3072, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .bf16⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .bf16⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S8x1024x256 : Shape := ⟨3, ![8, 1024, 256]⟩
abbrev S2048x2048 : Shape := ⟨2, ![2048, 2048]⟩
abbrev S2048x1024 : Shape := ⟨2, ![2048, 1024]⟩
abbrev S1024x2048 : Shape := ⟨2, ![1024, 2048]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8x1024x256, .bf16⟩
  | .hbm, ⟨1, _⟩ => ⟨S2048x2048, .bf16⟩
  | .hbm, ⟨2, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S8x1024x256, .bf16⟩
  | .local _ .vmem, ⟨3, _⟩ => ⟨S1024x1024, .bf16⟩
  | .local _ .vmem, ⟨4, _⟩ => ⟨S1024x1024, .bf16⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8x1024x256 : Shape := ⟨3, ![8, 1024, 256]⟩
abbrev S2048x2048 : Shape := ⟨2, ![2048, 2048]⟩
abbrev S_ : Shape := ⟨0, ![]⟩
abbrev S2048x1024 : Shape := ⟨2, ![2048, 1024]⟩
abbrev S1024x8x256 : Shape := ⟨3, ![1024, 8, 256]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S2048x2048, .bf16⟩
  | .hbm, ⟨2, _⟩ => ⟨S_, .bf16⟩
  | .hbm, ⟨3, _⟩ => ⟨S2048x1024, .bf16⟩
  | .hbm, ⟨4, _⟩ => ⟨S1024x8x256, .bf16⟩
  | .hbm, ⟨5, _⟩ => ⟨S1024x2048, .bf16⟩
  | .hbm, ⟨6, _⟩ => ⟨S2048x1024, .f32⟩
  | .hbm, ⟨7, _⟩ => ⟨S1024x2048, .f32⟩
  | .hbm, ⟨8, _⟩ => ⟨S2048x2048, .f32⟩
  | .hbm, ⟨9, _⟩ => ⟨S2048x2048, .f32⟩
  | .hbm, ⟨10, _⟩ => ⟨S2048x1024, .f32⟩
  | .hbm, ⟨11, _⟩ => ⟨S2048x1024, .bf16⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel14.lean ====
abbrev S2048x1024 : Shape := ⟨2, ![2048, 1024]⟩
abbrev S2048x2048 : Shape := ⟨2, ![2048, 2048]⟩
abbrev S8x1024x256 : Shape := ⟨3, ![8, 1024, 256]⟩
abbrev S4x1024x256 : Shape := ⟨3, ![4, 1024, 256]⟩
abbrev S2048x256 : Shape := ⟨2, ![2048, 256]⟩
abbrev S1024x256 : Shape := ⟨2, ![1024, 256]⟩
abbrev S1x1024x256 : Shape := ⟨3, ![1, 1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S8x1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S4x1024x256, .bf16⟩
  | .local _ .vmem, ⟨4, _⟩ => ⟨S4x1024x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S2048x1024 : Shape := ⟨2, ![2048, 1024]⟩
abbrev S2048x2048 : Shape := ⟨2, ![2048, 2048]⟩
abbrev S_ : Shape := ⟨0, ![]⟩
abbrev S8x1024x256 : Shape := ⟨3, ![8, 1024, 256]⟩
abbrev S1024x8x256 : Shape := ⟨3, ![1024, 8, 256]⟩
abbrev S1024x2048 : Shape := ⟨2, ![1024, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .bf16⟩
  | .hbm, ⟨3, _⟩ => ⟨S8x1024x256, .bf16⟩
  | .hbm, ⟨4, _⟩ => ⟨S1024x8x256, .bf16⟩
  | .hbm, ⟨5, _⟩ => ⟨S1024x2048, .bf16⟩
  | .hbm, ⟨6, _⟩ => ⟨S2048x1024, .f32⟩
  | .hbm, ⟨7, _⟩ => ⟨S1024x2048, .f32⟩
  | .hbm, ⟨8, _⟩ => ⟨S2048x2048, .f32⟩
  | .hbm, ⟨9, _⟩ => ⟨S2048x2048, .f32⟩
  | .hbm, ⟨10, _⟩ => ⟨S2048x1024, .f32⟩
  | .hbm, ⟨11, _⟩ => ⟨S1024x2048, .f32⟩
  | .hbm, ⟨12, _⟩ => ⟨S1024x2048, .bf16⟩
  | .hbm, ⟨13, _⟩ => ⟨S1024x8x256, .bf16⟩
  | .hbm, ⟨14, _⟩ => ⟨S8x1024x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel15.lean ====
abbrev S2048x1024 : Shape := ⟨2, ![2048, 1024]⟩
abbrev S2048x2048 : Shape := ⟨2, ![2048, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x1024 : Shape := ⟨2, ![2048, 1024]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .bf16⟩
  | .hbm, ⟨3, _⟩ => ⟨S2048x2048, .bf16⟩
  | .hbm, ⟨4, _⟩ => ⟨S2048x2048, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x2048, .f32⟩
  | .hbm, ⟨9, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S_, .bf16⟩
  | .hbm, ⟨3, _⟩ => ⟨S2048x1024, .bf16⟩
  | .hbm, ⟨4, _⟩ => ⟨S2048x2048, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel17.lean ====
abbrev S2048x1152 : Shape := ⟨2, ![2048, 1152]⟩
abbrev S2048x2048 : Shape := ⟨2, ![2048, 2048]⟩
abbrev S1024x1152 : Shape := ⟨2, ![1024, 1152]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1152, .bf16⟩
  | .hbm, ⟨1, _⟩ => ⟨S2048x1152, .bf16⟩
  | .hbm, ⟨2, _⟩ => ⟨S2048x2048, .bf16⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .bf16⟩
  | .local _ .vmem, ⟨5, _⟩ => ⟨S1024x1024, .bf16⟩
  | _, _ => ⟨S2048x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x1152 : Shape := ⟨2, ![2048, 1152]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x1152, .bf16⟩
  | .hbm, ⟨1, _⟩ => ⟨S2048x1152, .bf16⟩
  | .hbm, ⟨2, _⟩ => ⟨S_, .bf16⟩
  | .hbm, ⟨3, _⟩ => ⟨S2048x2048, .bf16⟩
  | .hbm, ⟨4, _⟩ => ⟨S2048x2048, .f32⟩
  | .hbm, ⟨5, _⟩ => ⟨S2048x1152, .f32⟩
  | .hbm, ⟨6, _⟩ => ⟨S2048x1152, .f32⟩
  | .hbm, ⟨7, _⟩ => ⟨S2048x1152, .f32⟩
  | .hbm, ⟨8, _⟩ => ⟨S2048x2048, .f32⟩
  | .hbm, ⟨9, _⟩ => ⟨S2048x2048, .bf16⟩
  | _, _ => ⟨S2048x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S2048x2048 : Shape := ⟨2, ![2048, 2048]⟩
abbrev S2048x1152 : Shape := ⟨2, ![2048, 1152]⟩
abbrev S2048x1024 : Shape := ⟨2, ![2048, 1024]⟩
abbrev S2048x384 : Shape := ⟨2, ![2048, 384]⟩
abbrev S1024x384 : Shape := ⟨2, ![1024, 384]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x1152, .bf16⟩
  | .hbm, ⟨2, _⟩ => ⟨S2048x1152, .bf16⟩
  | .local _ .vmem, ⟨0, _⟩ => ⟨S2048x1024, .bf16⟩
  | .local _ .vmem, ⟨1, _⟩ => ⟨S2048x1024, .bf16⟩
  | .local _ .vmem, ⟨2, _⟩ => ⟨S2048x384, .bf16⟩
  | .local _ .vmem, ⟨3, _⟩ => ⟨S2048x384, .bf16⟩
  | .local _ .vmem, ⟨4, _⟩ => ⟨S1024x384, .bf16⟩
  | .local _ .vmem, ⟨5, _⟩ => ⟨S1024x384, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x2048 : Shape := ⟨2, ![2048, 2048]⟩
abbrev S2048x1152 : Shape := ⟨2, ![2048, 1152]⟩
abbrev S_ : Shape := ⟨0, ![]⟩
abbrev S1152x2048 : Shape := ⟨2, ![1152, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1152, .bf16⟩
  | .hbm, ⟨2, _⟩ => ⟨S_, .bf16⟩
  | .hbm, ⟨3, _⟩ => ⟨S2048x1152, .bf16⟩
  | .hbm, ⟨4, _⟩ => ⟨S2048x2048, .f32⟩
  | .hbm, ⟨5, _⟩ => ⟨S2048x1152, .f32⟩
  | .hbm, ⟨6, _⟩ => ⟨S2048x1152, .f32⟩
  | .hbm, ⟨7, _⟩ => ⟨S2048x1152, .f32⟩
  | .hbm, ⟨8, _⟩ => ⟨S1152x2048, .f32⟩
  | .hbm, ⟨9, _⟩ => ⟨S2048x1152, .f32⟩
  | .hbm, ⟨10, _⟩ => ⟨S2048x1152, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel19.lean ====
abbrev S2048x2048 : Shape := ⟨2, ![2048, 2048]⟩
abbrev S8x2048x1408 : Shape := ⟨3, ![8, 2048, 1408]⟩
abbrev S2048x5632 : Shape := ⟨2, ![2048, 5632]⟩
abbrev S256x2048 : Shape := ⟨2, ![256, 2048]⟩
abbrev S1x2048x1408 : Shape := ⟨3, ![1, 2048, 1408]⟩
abbrev S256x1408 : Shape := ⟨2, ![256, 1408]⟩
abbrev S2048x1408 : Shape := ⟨2, ![2048, 1408]⟩

abbrev nBuf : Space → Nat
  | .hbm => 5
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2048x5632, .bf16⟩
  | .hbm, ⟨3, _⟩ => ⟨S2048x5632, .bf16⟩
  | .hbm, ⟨4, _⟩ => ⟨S2048x5632, .bf16⟩
  | .local _ .vmem, ⟨0, _⟩ => ⟨S256x2048, .bf16⟩
  | .local _ .vmem, ⟨1, _⟩ => ⟨S256x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S256x1408, .bf16⟩
  | .local _ .vmem, ⟨7, _⟩ => ⟨S256x1408, .bf16⟩
  | .local _ .vmem, ⟨8, _⟩ => ⟨S256x1408, .bf16⟩
  | .local _ .vmem, ⟨9, _⟩ => ⟨S256x1408, .bf16⟩
  | .local _ .vmem, ⟨10, _⟩ => ⟨S256x1408, .bf16⟩
  | .local _ .vmem, ⟨11, _⟩ => ⟨S256x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference19Ideal.lean ====
abbrev S2048x2048 : Shape := ⟨2, ![2048, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S2048x5632 : Shape := ⟨2, ![2048, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2048x8x1408, .bf16⟩
  | .hbm, ⟨3, _⟩ => ⟨S2048x11264, .bf16⟩
  | .hbm, ⟨4, _⟩ => ⟨S2048x2048, .f32⟩
  | .hbm, ⟨5, _⟩ => ⟨S2048x11264, .f32⟩
  | .hbm, ⟨6, _⟩ => ⟨S2048x11264, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .bf16⟩
  | .hbm, ⟨20, _⟩ => ⟨S2048x5632, .bf16⟩
  | .hbm, ⟨21, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel20.lean ====
abbrev S2048x2048 : Shape := ⟨2, ![2048, 2048]⟩
abbrev S1x2048 : Shape := ⟨2, ![1, 2048]⟩
abbrev S2048x5632 : Shape := ⟨2, ![2048, 5632]⟩
abbrev S5632x2048 : Shape := ⟨2, ![5632, 2048]⟩
abbrev S1024x1408 : Shape := ⟨2, ![1024, 1408]⟩
abbrev S1408x512 : Shape := ⟨2, ![1408, 512]⟩
abbrev S1024x512 : Shape := ⟨2, ![1024, 512]⟩
abbrev S1x512 : Shape := ⟨2, ![1, 512]⟩

abbrev nBuf : Space → Nat
  | .hbm => 6
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x5632, .bf16⟩
  | .hbm, ⟨3, _⟩ => ⟨S5632x2048, .bf16⟩
  | .hbm, ⟨4, _⟩ => ⟨S2048x2048, .f32⟩
  | .hbm, ⟨5, _⟩ => ⟨S2048x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1408x512, .bf16⟩
  | .local _ .vmem, ⟨3, _⟩ => ⟨S1408x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference20Ideal.lean ====
abbrev S2048x2048 : Shape := ⟨2, ![2048, 2048]⟩
abbrev S1x2048 : Shape := ⟨2, ![1, 2048]⟩
abbrev S2048x5632 : Shape := ⟨2, ![2048, 5632]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x5632, .bf16⟩
  | .hbm, ⟨3, _⟩ => ⟨S5632x2048, .bf16⟩
  | .hbm, ⟨4, _⟩ => ⟨S2048x5632, .f32⟩
  | .hbm, ⟨5, _⟩ => ⟨S5632x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel21.lean ====
abbrev S4096x1408 : Shape := ⟨2, ![4096, 1408]⟩
abbrev S8x2048x1408 : Shape := ⟨3, ![8, 2048, 1408]⟩
abbrev S256x1408 : Shape := ⟨2, ![256, 1408]⟩
abbrev S8x256x1408 : Shape := ⟨3, ![8, 256, 1408]⟩
abbrev S1x256x1408 : Shape := ⟨3, ![1, 256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S4096x1408, .f32⟩
  | .hbm, ⟨1, _⟩ => ⟨S8x2048x1408, .bf16⟩
  | .hbm, ⟨2, _⟩ => ⟨S8x2048x1408, .bf16⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S8x256x1408, .bf16⟩
  | .local _ .vmem, ⟨3, _⟩ => ⟨S8x256x1408, .bf16⟩
  | .local _ .vmem, ⟨4, _⟩ => ⟨S8x256x1408, .bf16⟩
  | .local _ .vmem, ⟨5, _⟩ => ⟨S8x256x1408, .bf16⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference21Ideal.lean ====
abbrev S4096x1408 : Shape := ⟨2, ![4096, 1408]⟩
abbrev S8x2048x1408 : Shape := ⟨3, ![8, 2048, 1408]⟩
abbrev S_ : Shape := ⟨0, ![]⟩
abbrev S2048x1408 : Shape := ⟨2, ![2048, 1408]⟩

abbrev nBuf : Space → Nat
  | .hbm => 45
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S8x2048x1408, .bf16⟩
  | .hbm, ⟨2, _⟩ => ⟨S8x2048x1408, .bf16⟩
  | .hbm, ⟨3, _⟩ => ⟨S4096x1408, .f32⟩
  | .hbm, ⟨4, _⟩ => ⟨S4096x1408, .f32⟩
  | .hbm, ⟨5, _⟩ => ⟨S8x2048x1408, .f32⟩
  | .hbm, ⟨6, _⟩ => ⟨S_, .f32⟩
  | .hbm, ⟨7, _⟩ => ⟨S2048x1408, .f32⟩
  | .hbm, ⟨8, _⟩ => ⟨S8x2048x1408, .f32⟩
  | .hbm, ⟨9, _⟩ => ⟨S_, .f32⟩
  | .hbm, ⟨10, _⟩ => ⟨S2048x1408, .f32⟩
  | .hbm, ⟨11, _⟩ => ⟨S4096x1408, .f32⟩
  | .hbm, ⟨12, _⟩ => ⟨S_, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S4096x1408, .f32⟩
  | .hbm, ⟨23, _⟩ => ⟨S_, .f32⟩
  | .hbm, ⟨24, _⟩ => ⟨S4096x1408, .f32⟩
  | .hbm, ⟨25, _⟩ => ⟨S4096x1408, .f32⟩
  | .hbm, ⟨26, _⟩ => ⟨S4096x1408, .f32⟩
  | .hbm, ⟨27, _⟩ => ⟨S_, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | .hbm, ⟨37, _⟩ => ⟨S4096x1408, .f32⟩
  | .hbm, ⟨38, _⟩ => ⟨S_, .f32⟩
  | .hbm, ⟨39, _⟩ => ⟨S4096x1408, .f32⟩
  | .hbm, ⟨40, _⟩ => ⟨S4096x1408, .f32⟩
  | .hbm, ⟨41, _⟩ => ⟨S4096x1408, .f32⟩
  | .hbm, ⟨42, _⟩ => ⟨S_, .f32⟩
  | .hbm, ⟨43, _⟩ => ⟨S4096x1408, .f32⟩
  | .hbm, ⟨44, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel22.lean ====
abbrev S1408x2048 : Shape := ⟨2, ![1408, 2048]⟩
abbrev S8x704x2048 : Shape := ⟨3, ![8, 704, 2048]⟩
abbrev S64x2048 : Shape := ⟨2, ![64, 2048]⟩
abbrev S8x64x2048 : Shape := ⟨3, ![8, 64, 2048]⟩
abbrev S1x64x2048 : Shape := ⟨3, ![1, 64, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1408x2048, .f32⟩
  | .hbm, ⟨1, _⟩ => ⟨S8x704x2048, .bf16⟩
  | .hbm, ⟨2, _⟩ => ⟨S8x704x2048, .bf16⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .local _ .vmem, ⟨0, _⟩ => ⟨S64x2048, .f32⟩
  | .local _ .vmem, ⟨1, _⟩ => ⟨S64x2048, .f32⟩
  | .local _ .vmem, ⟨2, _⟩ => ⟨S8x64x2048, .bf16⟩
  | .local _ .vmem, ⟨3, _⟩ => ⟨S8x64x2048, .bf16⟩
  | .local _ .vmem, ⟨4, _⟩ => ⟨S8x64x2048, .bf16⟩
  | .local _ .vmem, ⟨5, _⟩ => ⟨S8x64x2048, .bf16⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c10_i32 : BitVec 32 := 10#32
  let v2 : BitVec 32 := Scalar.select v1 c0_i32_1 c10_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference22Ideal.lean ====
abbrev S1408x2048 : Shape := ⟨2, ![1408, 2048]⟩
abbrev S8x704x2048 : Shape := ⟨3, ![8, 704, 2048]⟩
abbrev S_ : Shape := ⟨0, ![]⟩
abbrev S704x2048 : Shape := ⟨2, ![704, 2048]⟩

abbrev nBuf : Space → Nat
  | .hbm => 45
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S8x704x2048, .bf16⟩
  | .hbm, ⟨2, _⟩ => ⟨S8x704x2048, .bf16⟩
  | .hbm, ⟨3, _⟩ => ⟨S1408x2048, .f32⟩
  | .hbm, ⟨4, _⟩ => ⟨S1408x2048, .f32⟩
  | .hbm, ⟨5, _⟩ => ⟨S8x704x2048, .f32⟩
  | .hbm, ⟨6, _⟩ => ⟨S_, .f32⟩
  | .hbm, ⟨7, _⟩ => ⟨S704x2048, .f32⟩
  | .hbm, ⟨8, _⟩ => ⟨S8x704x2048, .f32⟩
  | .hbm, ⟨9, _⟩ => ⟨S_, .f32⟩
  | .hbm, ⟨10, _⟩ => ⟨S704x2048, .f32⟩
  | .hbm, ⟨11, _⟩ => ⟨S1408x2048, .f32⟩
  | .hbm, ⟨12, _⟩ => ⟨S_, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S1408x2048, .f32⟩
  | .hbm, ⟨23, _⟩ => ⟨S_, .f32⟩
  | .hbm, ⟨24, _⟩ => ⟨S1408x2048, .f32⟩
  | .hbm, ⟨25, _⟩ => ⟨S1408x2048, .f32⟩
  | .hbm, ⟨26, _⟩ => ⟨S1408x2048, .f32⟩
  | .hbm, ⟨27, _⟩ => ⟨S_, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | .hbm, ⟨37, _⟩ => ⟨S1408x2048, .f32⟩
  | .hbm, ⟨38, _⟩ => ⟨S_, .f32⟩
  | .hbm, ⟨39, _⟩ => ⟨S1408x2048, .f32⟩
  | .hbm, ⟨40, _⟩ => ⟨S1408x2048, .f32⟩
  | .hbm, ⟨41, _⟩ => ⟨S1408x2048, .f32⟩
  | .hbm, ⟨42, _⟩ => ⟨S_, .f32⟩
  | .hbm, ⟨43, _⟩ => ⟨S1408x2048, .f32⟩
  | .hbm, ⟨44, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel23.lean ====
abbrev S4096x1162 : Shape := ⟨2, ![4096, 1162]⟩
abbrev S8x2048x1162 : Shape := ⟨3, ![8, 2048, 1162]⟩
abbrev S256x1162 : Shape := ⟨2, ![256, 1162]⟩
abbrev S8x256x1162 : Shape := ⟨3, ![8, 256, 1162]⟩
abbrev S1x256x1162 : Shape := ⟨3, ![1, 256, 1162]⟩

abbrev nBuf : Space → Nat
  | .hbm => 9
  | .vmem => 18
  | .smem => 0
  | _ => 0

abbrev bufTy : (tb : Table) → Fin (tcTables nBuf tb) → BufTy
  | .hbm, ⟨0, _⟩ => ⟨S4096x1162, .f32⟩
  | .hbm, ⟨1, _⟩ => ⟨S8x2048x1162, .bf16⟩
  | .hbm, ⟨2, _⟩ => ⟨S8x2048x1162, .bf16⟩
  | .hbm, ⟨3, _⟩ => ⟨S4096x1162, .f32⟩
  | .hbm, ⟨4, _⟩ => ⟨S4096x1162, .f32⟩
  | .hbm, ⟨5, _⟩ => ⟨S4096x1162, .f32⟩
  | .hbm, ⟨6, _⟩ => ⟨S4096x1162, .f32⟩
  | .hbm, ⟨7, _⟩ => ⟨S4096x1162, .f32⟩
  | .hbm, ⟨8, _⟩ => ⟨S4096x1162, .f32⟩
  | .local _ .vmem, ⟨0, _⟩ => ⟨S256x1162, .f32⟩
  | .local _ .vmem, ⟨1, _⟩ => ⟨S256x1162, .f32⟩
  | .local _ .vmem, ⟨2, _⟩ => ⟨S8x256x1162, .bf16⟩
  | .local _ .vmem, ⟨3, _⟩ => ⟨S8x256x1162, .bf16⟩
  | .local _ .vmem, ⟨4, _⟩ => ⟨S8x256x1162, .bf16⟩
  | .local _ .vmem, ⟨5, _⟩ => ⟨S8x256x1162, .bf16⟩
  | .local _ .vmem, ⟨6, _⟩ => ⟨S256x1162, .f32⟩
  | .local _ .vmem, ⟨7, _⟩ => ⟨S256x1162, .f32⟩
  | .local _ .vmem, ⟨8, _⟩ => ⟨S256x1162, .f32⟩
  | .local _ .vmem, ⟨9, _⟩ => ⟨S256x1162, .f32⟩
  | .local _ .vmem, ⟨10, _⟩ => ⟨S256x1162, .f32⟩
  | .local _ .vmem, ⟨11, _⟩ => ⟨S256x1162, .f32⟩
  | .local _ .vmem, ⟨12, _⟩ => ⟨S256x1162, .f32⟩
  | .local _ .vmem, ⟨13, _⟩ => ⟨S256x1162, .f32⟩
  | .local _ .vmem, ⟨14, _⟩ => ⟨S256x1162, .f32⟩
  | .local _ .vmem, ⟨15, _⟩ => ⟨S256x1162, .f32⟩
  | .local _ .vmem, ⟨16, _⟩ => ⟨S256x1162, .f32⟩
  | .local _ .vmem, ⟨17, _⟩ => ⟨S256x1162, .f32⟩
  | _, _ => ⟨S4096x1162, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1162 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1162 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x1162 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1162 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1162 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1162 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1162 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1162 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1162 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference23Ideal.lean ====
abbrev S4096x1162 : Shape := ⟨2, ![4096, 1162]⟩
abbrev S8x2048x1162 : Shape := ⟨3, ![8, 2048, 1162]⟩
abbrev S_ : Shape := ⟨0, ![]⟩
abbrev S2048x1162 : Shape := ⟨2, ![2048, 1162]⟩

abbrev nBuf : Space → Nat
  | .hbm => 45
  | .vmem => 0
  | .smem => 0
  | _ => 0

abbrev bufTy : (tb : Table) → Fin (tcTables nBuf tb) → BufTy
  | .hbm, ⟨0, _⟩ => ⟨S4096x1162, .f32⟩
  | .hbm, ⟨1, _⟩ => ⟨S8x2048x1162, .bf16⟩
  | .hbm, ⟨2, _⟩ => ⟨S8x2048x1162, .bf16⟩
  | .hbm, ⟨3, _⟩ => ⟨S4096x1162, .f32⟩
  | .hbm, ⟨4, _⟩ => ⟨S4096x1162, .f32⟩
  | .hbm, ⟨5, _⟩ => ⟨S8x2048x1162, .f32⟩
  | .hbm, ⟨6, _⟩ => ⟨S_, .f32⟩
  | .hbm, ⟨7, _⟩ => ⟨S2048x1162, .f32⟩
  | .hbm, ⟨8, _⟩ => ⟨S8x2048x1162, .f32⟩
  | .hbm, ⟨9, _⟩ => ⟨S_, .f32⟩
  | .hbm, ⟨10, _⟩ => ⟨S2048x1162, .f32⟩
  | .hbm, ⟨11, _⟩ => ⟨S4096x1162, .f32⟩
  | .hbm, ⟨12, _⟩ => ⟨S_, .f32⟩
  | .hbm, ⟨13, _⟩ => ⟨S4096x1162, .f32⟩
  | .hbm, ⟨14, _⟩ => ⟨S4096x1162, .f32⟩
  | .hbm, ⟨15, _⟩ => ⟨S_, .f32⟩
  | .hbm, ⟨16, _⟩ => ⟨S4096x1162, .f32⟩
  | .hbm, ⟨17, _⟩ => ⟨S4096x1162, .f32⟩
  | .hbm, ⟨18, _⟩ => ⟨S4096x1162, .f32⟩
  | .hbm, ⟨19, _⟩ => ⟨S_, .f32⟩
  | .hbm, ⟨20, _⟩ => ⟨S4096x1162, .f32⟩
  | .hbm, ⟨21, _⟩ => ⟨S4096x1162, .f32⟩
  | .hbm, ⟨22, _⟩ => ⟨S4096x1162, .f32⟩
  | .hbm, ⟨23, _⟩ => ⟨S_, .f32⟩
  | .hbm, ⟨24, _⟩ => ⟨S4096x1162, .f32⟩
  | .hbm, ⟨25, _⟩ => ⟨S4096x1162, .f32⟩
  | .hbm, ⟨26, _⟩ => ⟨S4096x1162, .f32⟩
  | .hbm, ⟨27, _⟩ => ⟨S_, .f32⟩
  | .hbm, ⟨28, _⟩ => ⟨S4096x1162, .f32⟩
  | .hbm, ⟨29, _⟩ => ⟨S4096x1162, .f32⟩
  | .hbm, ⟨30, _⟩ => ⟨S_, .f32⟩
  | .hbm, ⟨31, _⟩ => ⟨S4096x1162, .f32⟩
  | .hbm, ⟨32, _⟩ => ⟨S4096x1162, .f32⟩
  | .hbm, ⟨33, _⟩ => ⟨S4096x1162, .f32⟩
  | .hbm, ⟨34, _⟩ => ⟨S_, .f32⟩
  | .hbm, ⟨35, _⟩ => ⟨S4096x1162, .f32⟩
  | .hbm, ⟨36, _⟩ => ⟨S4096x1162, .f32⟩
  | .hbm, ⟨37, _⟩ => ⟨S4096x1162, .f32⟩
  | .hbm, ⟨38, _⟩ => ⟨S_, .f32⟩
  | .hbm, ⟨39, _⟩ => ⟨S4096x1162, .f32⟩
  | .hbm, ⟨40, _⟩ => ⟨S4096x1162, .f32⟩
  | .hbm, ⟨41, _⟩ => ⟨S4096x1162, .f32⟩
  | .hbm, ⟨42, _⟩ => ⟨S_, .f32⟩
  | .hbm, ⟨43, _⟩ => ⟨S4096x1162, .f32⟩
  | .hbm, ⟨44, _⟩ => ⟨S4096x1162, .f32⟩
  | _, _ => ⟨S4096x1162, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel24.lean ====
abbrev S512x2048 : Shape := ⟨2, ![512, 2048]⟩
abbrev S8x256x2048 : Shape := ⟨3, ![8, 256, 2048]⟩
abbrev S128x2048 : Shape := ⟨2, ![128, 2048]⟩
abbrev S8x128x2048 : Shape := ⟨3, ![8, 128, 2048]⟩
abbrev S1x128x2048 : Shape := ⟨3, ![1, 128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S512x2048, .f32⟩
  | .hbm, ⟨1, _⟩ => ⟨S8x256x2048, .bf16⟩
  | .hbm, ⟨2, _⟩ => ⟨S8x256x2048, .bf16⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S8x128x2048, .bf16⟩
  | .local _ .vmem, ⟨3, _⟩ => ⟨S8x128x2048, .bf16⟩
  | .local _ .vmem, ⟨4, _⟩ => ⟨S8x128x2048, .bf16⟩
  | .local _ .vmem, ⟨5, _⟩ => ⟨S8x128x2048, .bf16⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference24Ideal.lean ====
abbrev S512x2048 : Shape := ⟨2, ![512, 2048]⟩
abbrev S8x256x2048 : Shape := ⟨3, ![8, 256, 2048]⟩
abbrev S_ : Shape := ⟨0, ![]⟩
abbrev S256x2048 : Shape := ⟨2, ![256, 2048]⟩

abbrev nBuf : Space → Nat
  | .hbm => 45
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S8x256x2048, .bf16⟩
  | .hbm, ⟨2, _⟩ => ⟨S8x256x2048, .bf16⟩
  | .hbm, ⟨3, _⟩ => ⟨S512x2048, .f32⟩
  | .hbm, ⟨4, _⟩ => ⟨S512x2048, .f32⟩
  | .hbm, ⟨5, _⟩ => ⟨S8x256x2048, .f32⟩
  | .hbm, ⟨6, _⟩ => ⟨S_, .f32⟩
  | .hbm, ⟨7, _⟩ => ⟨S256x2048, .f32⟩
  | .hbm, ⟨8, _⟩ => ⟨S8x256x2048, .f32⟩
  | .hbm, ⟨9, _⟩ => ⟨S_, .f32⟩
  | .hbm, ⟨10, _⟩ => ⟨S256x2048, .f32⟩
  | .hbm, ⟨11, _⟩ => ⟨S512x2048, .f32⟩
  | .hbm, ⟨12, _⟩ => ⟨S_, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S512x2048, .f32⟩
  | .hbm, ⟨23, _⟩ => ⟨S_, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S_, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | .hbm, ⟨37, _⟩ => ⟨S512x2048, .f32⟩
  | .hbm, ⟨38, _⟩ => ⟨S_, .f32⟩
  | .hbm, ⟨39, _⟩ => ⟨S512x2048, .f32⟩
  | .hbm, ⟨40, _⟩ => ⟨S512x2048, .f32⟩
  | .hbm, ⟨41, _⟩ => ⟨S512x2048, .f32⟩
  | .hbm, ⟨42, _⟩ => ⟨S_, .f32⟩
  | .hbm, ⟨43, _⟩ => ⟨S512x2048, .f32⟩
  | .hbm, ⟨44, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel25.lean ====
abbrev S2048x256 : Shape := ⟨2, ![2048, 256]⟩
abbrev S8x1024x256 : Shape := ⟨3, ![8, 1024, 256]⟩
abbrev S512x256 : Shape := ⟨2, ![512, 256]⟩
abbrev S8x512x256 : Shape := ⟨3, ![8, 512, 256]⟩
abbrev S1x512x256 : Shape := ⟨3, ![1, 512, 256]⟩

abbrev nBuf : Space → Nat
  | .hbm => 9
  | .vmem => 18
  | .smem => 0
  | _ => 0

abbrev bufTy : (tb : Table) → Fin (tcTables nBuf tb) → BufTy
  | .hbm, ⟨0, _⟩ => ⟨S2048x256, .f32⟩
  | .hbm, ⟨1, _⟩ => ⟨S8x1024x256, .bf16⟩
  | .hbm, ⟨2, _⟩ => ⟨S8x1024x256, .bf16⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .local _ .vmem, ⟨0, _⟩ => ⟨S512x256, .f32⟩
  | .local _ .vmem, ⟨1, _⟩ => ⟨S512x256, .f32⟩
  | .local _ .vmem, ⟨2, _⟩ => ⟨S8x512x256, .bf16⟩
  | .local _ .vmem, ⟨3, _⟩ => ⟨S8x512x256, .bf16⟩
  | .local _ .vmem, ⟨4, _⟩ => ⟨S8x512x256, .bf16⟩
  | .local _ .vmem, ⟨5, _⟩ => ⟨S8x512x256, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference25Ideal.lean ====
abbrev S2048x256 : Shape := ⟨2, ![2048, 256]⟩
abbrev S8x1024x256 : Shape := ⟨3, ![8, 1024, 256]⟩
abbrev S_ : Shape := ⟨0, ![]⟩
abbrev S1024x256 : Shape := ⟨2, ![1024, 256]⟩

abbrev nBuf : Space → Nat
  | .hbm => 45
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S8x1024x256, .bf16⟩
  | .hbm, ⟨2, _⟩ => ⟨S8x1024x256, .bf16⟩
  | .hbm, ⟨3, _⟩ => ⟨S2048x256, .f32⟩
  | .hbm, ⟨4, _⟩ => ⟨S2048x256, .f32⟩
  | .hbm, ⟨5, _⟩ => ⟨S8x1024x256, .f32⟩
  | .hbm, ⟨6, _⟩ => ⟨S_, .f32⟩
  | .hbm, ⟨7, _⟩ => ⟨S1024x256, .f32⟩
  | .hbm, ⟨8, _⟩ => ⟨S8x1024x256, .f32⟩
  | .hbm, ⟨9, _⟩ => ⟨S_, .f32⟩
  | .hbm, ⟨10, _⟩ => ⟨S1024x256, .f32⟩
  | .hbm, ⟨11, _⟩ => ⟨S2048x256, .f32⟩
  | .hbm, ⟨12, _⟩ => ⟨S_, .f32⟩
  | .hbm, ⟨13, _⟩ => ⟨S2048x256, .f32⟩
  | .hbm, ⟨14, _⟩ => ⟨S2048x256, .f32⟩
  | .hbm, ⟨15, _⟩ => ⟨S_, .f32⟩
  | .hbm, ⟨16, _⟩ => ⟨S2048x256, .f32⟩
  | .hbm, ⟨17, _⟩ => ⟨S2048x256, .f32⟩
  | .hbm, ⟨18, _⟩ => ⟨S2048x256, .f32⟩
  | .hbm, ⟨19, _⟩ => ⟨S_, .f32⟩
  | .hbm, ⟨20, _⟩ => ⟨S2048x256, .f32⟩
  | .hbm, ⟨21, _⟩ => ⟨S2048x256, .f32⟩
  | .hbm, ⟨22, _⟩ => ⟨S2048x256, .f32⟩
  | .hbm, ⟨23, _⟩ => ⟨S_, .f32⟩
  | .hbm, ⟨24, _⟩ => ⟨S2048x256, .f32⟩
  | .hbm, ⟨25, _⟩ => ⟨S2048x256, .f32⟩
  | .hbm, ⟨26, _⟩ => ⟨S2048x256, .f32⟩
  | .hbm, ⟨27, _⟩ => ⟨S_, .f32⟩
  | .hbm, ⟨28, _⟩ => ⟨S2048x256, .f32⟩
  | .hbm, ⟨29, _⟩ => ⟨S2048x256, .f32⟩
  | .hbm, ⟨30, _⟩ => ⟨S_, .f32⟩
  | .hbm, ⟨31, _⟩ => ⟨S2048x256, .f32⟩
  | .hbm, ⟨32, _⟩ => ⟨S2048x256, .f32⟩
  | .hbm, ⟨33, _⟩ => ⟨S2048x256, .f32⟩
  | .hbm, ⟨34, _⟩ => ⟨S_, .f32⟩
  | .hbm, ⟨35, _⟩ => ⟨S2048x256, .f32⟩
  | .hbm, ⟨36, _⟩ => ⟨S2048x256, .f32⟩
  | .hbm, ⟨37, _⟩ => ⟨S2048x256, .f32⟩
  | .hbm, ⟨38, _⟩ => ⟨S_, .f32⟩
  | .hbm, ⟨39, _⟩ => ⟨S2048x256, .f32⟩
  | .hbm, ⟨40, _⟩ => ⟨S2048x256, .f32⟩
  | .hbm, ⟨41, _⟩ => ⟨S2048x256, .f32⟩
  | .hbm, ⟨42, _⟩ => ⟨S_, .f32⟩
  | .hbm, ⟨43, _⟩ => ⟨S2048x256, .f32⟩
  | .hbm, ⟨44, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel26.lean ====
abbrev S1024x192 : Shape := ⟨2, ![1024, 192]⟩
abbrev S8x512x192 : Shape := ⟨3, ![8, 512, 192]⟩
abbrev S512x192 : Shape := ⟨2, ![512, 192]⟩
abbrev S1x512x192 : Shape := ⟨3, ![1, 512, 192]⟩

abbrev nBuf : Space → Nat
  | .hbm => 9
  | .vmem => 18
  | .smem => 0
  | _ => 0

abbrev bufTy : (tb : Table) → Fin (tcTables nBuf tb) → BufTy
  | .hbm, ⟨0, _⟩ => ⟨S1024x192, .f32⟩
  | .hbm, ⟨1, _⟩ => ⟨S8x512x192, .bf16⟩
  | .hbm, ⟨2, _⟩ => ⟨S8x512x192, .bf16⟩
  | .hbm, ⟨3, _⟩ => ⟨S1024x192, .f32⟩
  | .hbm, ⟨4, _⟩ => ⟨S1024x192, .f32⟩
  | .hbm, ⟨5, _⟩ => ⟨S1024x192, .f32⟩
  | .hbm, ⟨6, _⟩ => ⟨S1024x192, .f32⟩
  | .hbm, ⟨7, _⟩ => ⟨S1024x192, .f32⟩
  | .hbm, ⟨8, _⟩ => ⟨S1024x192, .f32⟩
  | .local _ .vmem, ⟨0, _⟩ => ⟨S512x192, .f32⟩
  | .local _ .vmem, ⟨1, _⟩ => ⟨S512x192, .f32⟩
  | .local _ .vmem, ⟨2, _⟩ => ⟨S8x512x192, .bf16⟩
  | .local _ .vmem, ⟨3, _⟩ => ⟨S8x512x192, .bf16⟩
  | .local _ .vmem, ⟨4, _⟩ => ⟨S8x512x192, .bf16⟩
  | .local _ .vmem, ⟨5, _⟩ => ⟨S8x512x192, .bf16⟩
  | .local _ .vmem, ⟨6, _⟩ => ⟨S512x192, .f32⟩
  | .local _ .vmem, ⟨7, _⟩ => ⟨S512x192, .f32⟩
  | .local _ .vmem, ⟨8, _⟩ => ⟨S512x192, .f32⟩
  | .local _ .vmem, ⟨9, _⟩ => ⟨S512x192, .f32⟩
  | .local _ .vmem, ⟨10, _⟩ => ⟨S512x192, .f32⟩
  | .local _ .vmem, ⟨11, _⟩ => ⟨S512x192, .f32⟩
  | .local _ .vmem, ⟨12, _⟩ => ⟨S512x192, .f32⟩
  | .local _ .vmem, ⟨13, _⟩ => ⟨S512x192, .f32⟩
  | .local _ .vmem, ⟨14, _⟩ => ⟨S512x192, .f32⟩
  | .local _ .vmem, ⟨15, _⟩ => ⟨S512x192, .f32⟩
  | .local _ .vmem, ⟨16, _⟩ => ⟨S512x192, .f32⟩
  | .local _ .vmem, ⟨17, _⟩ => ⟨S512x192, .f32⟩
  | _, _ => ⟨S1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference26Ideal.lean ====
abbrev S1024x192 : Shape := ⟨2, ![1024, 192]⟩
abbrev S8x512x192 : Shape := ⟨3, ![8, 512, 192]⟩
abbrev S_ : Shape := ⟨0, ![]⟩
abbrev S512x192 : Shape := ⟨2, ![512, 192]⟩

abbrev nBuf : Space → Nat
  | .hbm => 45
  | .vmem => 0
  | .smem => 0
  | _ => 0

abbrev bufTy : (tb : Table) → Fin (tcTables nBuf tb) → BufTy
  | .hbm, ⟨0, _⟩ => ⟨S1024x192, .f32⟩
  | .hbm, ⟨1, _⟩ => ⟨S8x512x192, .bf16⟩
  | .hbm, ⟨2, _⟩ => ⟨S8x512x192, .bf16⟩
  | .hbm, ⟨3, _⟩ => ⟨S1024x192, .f32⟩
  | .hbm, ⟨4, _⟩ => ⟨S1024x192, .f32⟩
  | .hbm, ⟨5, _⟩ => ⟨S8x512x192, .f32⟩
  | .hbm, ⟨6, _⟩ => ⟨S_, .f32⟩
  | .hbm, ⟨7, _⟩ => ⟨S512x192, .f32⟩
  | .hbm, ⟨8, _⟩ => ⟨S8x512x192, .f32⟩
  | .hbm, ⟨9, _⟩ => ⟨S_, .f32⟩
  | .hbm, ⟨10, _⟩ => ⟨S512x192, .f32⟩
  | .hbm, ⟨11, _⟩ => ⟨S1024x192, .f32⟩
  | .hbm, ⟨12, _⟩ => ⟨S_, .f32⟩
  | .hbm, ⟨13, _⟩ => ⟨S1024x192, .f32⟩
  | .hbm, ⟨14, _⟩ => ⟨S1024x192, .f32⟩
  | .hbm, ⟨15, _⟩ => ⟨S_, .f32⟩
  | .hbm, ⟨16, _⟩ => ⟨S1024x192, .f32⟩
  | .hbm, ⟨17, _⟩ => ⟨S1024x192, .f32⟩
  | .hbm, ⟨18, _⟩ => ⟨S1024x192, .f32⟩
  | .hbm, ⟨19, _⟩ => ⟨S_, .f32⟩
  | .hbm, ⟨20, _⟩ => ⟨S1024x192, .f32⟩
  | .hbm, ⟨21, _⟩ => ⟨S1024x192, .f32⟩
  | .hbm, ⟨22, _⟩ => ⟨S1024x192, .f32⟩
  | .hbm, ⟨23, _⟩ => ⟨S_, .f32⟩
  | .hbm, ⟨24, _⟩ => ⟨S1024x192, .f32⟩
  | .hbm, ⟨25, _⟩ => ⟨S1024x192, .f32⟩
  | .hbm, ⟨26, _⟩ => ⟨S1024x192, .f32⟩
  | .hbm, ⟨27, _⟩ => ⟨S_, .f32⟩
  | .hbm, ⟨28, _⟩ => ⟨S1024x192, .f32⟩
  | .hbm, ⟨29, _⟩ => ⟨S1024x192, .f32⟩
  | .hbm, ⟨30, _⟩ => ⟨S_, .f32⟩
  | .hbm, ⟨31, _⟩ => ⟨S1024x192, .f32⟩
  | .hbm, ⟨32, _⟩ => ⟨S1024x192, .f32⟩
  | .hbm, ⟨33, _⟩ => ⟨S1024x192, .f32⟩
  | .hbm, ⟨34, _⟩ => ⟨S_, .f32⟩
  | .hbm, ⟨35, _⟩ => ⟨S1024x192, .f32⟩
  | .hbm, ⟨36, _⟩ => ⟨S1024x192, .f32⟩
  | .hbm, ⟨37, _⟩ => ⟨S1024x192, .f32⟩
  | .hbm, ⟨38, _⟩ => ⟨S_, .f32⟩
  | .hbm, ⟨39, _⟩ => ⟨S1024x192, .f32⟩
  | .hbm, ⟨40, _⟩ => ⟨S1024x192, .f32⟩
  | .hbm, ⟨41, _⟩ => ⟨S1024x192, .f32⟩
  | .hbm, ⟨42, _⟩ => ⟨S_, .f32⟩
  | .hbm, ⟨43, _⟩ => ⟨S1024x192, .f32⟩
  | .hbm, ⟨44, _⟩ => ⟨S1024x192, .f32⟩
  | _, _ => ⟨S1024x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel27.lean ====
abbrev S1024x256 : Shape := ⟨2, ![1024, 256]⟩
abbrev S8x512x256 : Shape := ⟨3, ![8, 512, 256]⟩
abbrev S512x256 : Shape := ⟨2, ![512, 256]⟩
abbrev S1x512x256 : Shape := ⟨3, ![1, 512, 256]⟩

abbrev nBuf : Space → Nat
  | .hbm => 9
  | .vmem => 18
  | .smem => 0
  | _ => 0

abbrev bufTy : (tb : Table) → Fin (tcTables nBuf tb) → BufTy
  | .hbm, ⟨0, _⟩ => ⟨S1024x256, .f32⟩
  | .hbm, ⟨1, _⟩ => ⟨S8x512x256, .bf16⟩
  | .hbm, ⟨2, _⟩ => ⟨S8x512x256, .bf16⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S8x512x256, .bf16⟩
  | .local _ .vmem, ⟨3, _⟩ => ⟨S8x512x256, .bf16⟩
  | .local _ .vmem, ⟨4, _⟩ => ⟨S8x512x256, .bf16⟩
  | .local _ .vmem, ⟨5, _⟩ => ⟨S8x512x256, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference27Ideal.lean ====
abbrev S1024x256 : Shape := ⟨2, ![1024, 256]⟩
abbrev S8x512x256 : Shape := ⟨3, ![8, 512, 256]⟩
abbrev S_ : Shape := ⟨0, ![]⟩
abbrev S512x256 : Shape := ⟨2, ![512, 256]⟩

abbrev nBuf : Space → Nat
  | .hbm => 45
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S8x512x256, .bf16⟩
  | .hbm, ⟨2, _⟩ => ⟨S8x512x256, .bf16⟩
  | .hbm, ⟨3, _⟩ => ⟨S1024x256, .f32⟩
  | .hbm, ⟨4, _⟩ => ⟨S1024x256, .f32⟩
  | .hbm, ⟨5, _⟩ => ⟨S8x512x256, .f32⟩
  | .hbm, ⟨6, _⟩ => ⟨S_, .f32⟩
  | .hbm, ⟨7, _⟩ => ⟨S512x256, .f32⟩
  | .hbm, ⟨8, _⟩ => ⟨S8x512x256, .f32⟩
  | .hbm, ⟨9, _⟩ => ⟨S_, .f32⟩
  | .hbm, ⟨10, _⟩ => ⟨S512x256, .f32⟩
  | .hbm, ⟨11, _⟩ => ⟨S1024x256, .f32⟩
  | .hbm, ⟨12, _⟩ => ⟨S_, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S_, .f32⟩
  | .hbm, ⟨39, _⟩ => ⟨S1024x256, .f32⟩
  | .hbm, ⟨40, _⟩ => ⟨S1024x256, .f32⟩
  | .hbm, ⟨41, _⟩ => ⟨S1024x256, .f32⟩
  | .hbm, ⟨42, _⟩ => ⟨S_, .f32⟩
  | .hbm, ⟨43, _⟩ => ⟨S1024x256, .f32⟩
  | .hbm, ⟨44, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel28.lean ====
abbrev S4096x1536 : Shape := ⟨2, ![4096, 1536]⟩
abbrev S1x2048x1536 : Shape := ⟨3, ![1, 2048, 1536]⟩
abbrev S256x1536 : Shape := ⟨2, ![256, 1536]⟩
abbrev S1x256x1536 : Shape := ⟨3, ![1, 256, 1536]⟩

abbrev nBuf : Space → Nat
  | .hbm => 9
  | .vmem => 18
  | .smem => 0
  | _ => 0

abbrev bufTy : (tb : Table) → Fin (tcTables nBuf tb) → BufTy
  | .hbm, ⟨0, _⟩ => ⟨S4096x1536, .f32⟩
  | .hbm, ⟨1, _⟩ => ⟨S1x2048x1536, .f32⟩
  | .hbm, ⟨2, _⟩ => ⟨S1x2048x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | .local _ .vmem, ⟨17, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference28Ideal.lean ====
abbrev S4096x1536 : Shape := ⟨2, ![4096, 1536]⟩
abbrev S1x2048x1536 : Shape := ⟨3, ![1, 2048, 1536]⟩
abbrev S2048x1536 : Shape := ⟨2, ![2048, 1536]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S1x2048x1536, .f32⟩
  | .hbm, ⟨2, _⟩ => ⟨S1x2048x1536, .f32⟩
  | .hbm, ⟨3, _⟩ => ⟨S4096x1536, .f32⟩
  | .hbm, ⟨4, _⟩ => ⟨S4096x1536, .f32⟩
  | .hbm, ⟨5, _⟩ => ⟨S2048x1536, .f32⟩
  | .hbm, ⟨6, _⟩ => ⟨S2048x1536, .f32⟩
  | .hbm, ⟨7, _⟩ => ⟨S4096x1536, .f32⟩
  | .hbm, ⟨8, _⟩ => ⟨S_, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S4096x1536, .f32⟩
  | .hbm, ⟨21, _⟩ => ⟨S4096x1536, .f32⟩
  | .hbm, ⟨22, _⟩ => ⟨S4096x1536, .f32⟩
  | .hbm, ⟨23, _⟩ => ⟨S_, .f32⟩
  | .hbm, ⟨24, _⟩ => ⟨S4096x1536, .f32⟩
  | .hbm, ⟨25, _⟩ => ⟨S4096x1536, .f32⟩
  | .hbm, ⟨26, _⟩ => ⟨S_, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S_, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | .hbm, ⟨37, _⟩ => ⟨S4096x1536, .f32⟩
  | .hbm, ⟨38, _⟩ => ⟨S_, .f32⟩
  | .hbm, ⟨39, _⟩ => ⟨S4096x1536, .f32⟩
  | .hbm, ⟨40, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel29.lean ====
abbrev S1x40320 : Shape := ⟨2, ![1, 40320]⟩
abbrev S8x1x40320 : Shape := ⟨3, ![8, 1, 40320]⟩
abbrev S1x1x40320 : Shape := ⟨3, ![1, 1, 40320]⟩

abbrev nBuf : Space → Nat
  | .hbm => 8
  | .vmem => 8
  | .smem => 0
  | _ => 0

abbrev bufTy : (tb : Table) → Fin (tcTables nBuf tb) → BufTy
  | .hbm, ⟨0, _⟩ => ⟨S1x40320, .f32⟩
  | .hbm, ⟨1, _⟩ => ⟨S8x1x40320, .f32⟩
  | .hbm, ⟨2, _⟩ => ⟨S1x40320, .f32⟩
  | .hbm, ⟨3, _⟩ => ⟨S1x40320, .f32⟩
  | .hbm, ⟨4, _⟩ => ⟨S1x40320, .f32⟩
  | .hbm, ⟨5, _⟩ => ⟨S1x40320, .f32⟩
  | .hbm, ⟨6, _⟩ => ⟨S1x40320, .f32⟩
  | .hbm, ⟨7, _⟩ => ⟨S1x40320, .f32⟩
  | .local _ .vmem, ⟨0, _⟩ => ⟨S1x40320, .f32⟩
  | .local _ .vmem, ⟨1, _⟩ => ⟨S8x1x40320, .f32⟩
  | .local _ .vmem, ⟨2, _⟩ => ⟨S1x40320, .f32⟩
  | .local _ .vmem, ⟨3, _⟩ => ⟨S1x40320, .f32⟩
  | .local _ .vmem, ⟨4, _⟩ => ⟨S1x40320, .f32⟩
  | .local _ .vmem, ⟨5, _⟩ => ⟨S1x40320, .f32⟩
  | .local _ .vmem, ⟨6, _⟩ => ⟨S1x40320, .f32⟩
  | .local _ .vmem, ⟨7, _⟩ => ⟨S1x40320, .f32⟩
  | _, _ => ⟨S1x40320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S1x40320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S8x1x40320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x40320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x40320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x40320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x40320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x40320 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x40320 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference29Ideal.lean ====
abbrev S1x40320 : Shape := ⟨2, ![1, 40320]⟩
abbrev S8x1x40320 : Shape := ⟨3, ![8, 1, 40320]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x40320, .f32⟩
  | .hbm, ⟨1, _⟩ => ⟨S8x1x40320, .f32⟩
  | .hbm, ⟨2, _⟩ => ⟨S1x40320, .f32⟩
  | .hbm, ⟨3, _⟩ => ⟨S1x40320, .f32⟩
  | .hbm, ⟨4, _⟩ => ⟨S_, .f32⟩
  | .hbm, ⟨5, _⟩ => ⟨S1x40320, .f32⟩
  | .hbm, ⟨6, _⟩ => ⟨S_, .f32⟩
  | .hbm, ⟨7, _⟩ => ⟨S1x40320, .f32⟩
  | .hbm, ⟨8, _⟩ => ⟨S1x40320, .f32⟩
  | .hbm, ⟨9, _⟩ => ⟨S_, .f32⟩
  | .hbm, ⟨10, _⟩ => ⟨S1x40320, .f32⟩
  | .hbm, ⟨11, _⟩ => ⟨S1x40320, .f32⟩
  | .hbm, ⟨12, _⟩ => ⟨S1x40320, .f32⟩
  | .hbm, ⟨13, _⟩ => ⟨S_, .f32⟩
  | .hbm, ⟨14, _⟩ => ⟨S1x40320, .f32⟩
  | .hbm, ⟨15, _⟩ => ⟨S1x40320, .f32⟩
  | .hbm, ⟨16, _⟩ => ⟨S1x40320, .f32⟩
  | .hbm, ⟨17, _⟩ => ⟨S_, .f32⟩
  | .hbm, ⟨18, _⟩ => ⟨S1x40320, .f32⟩
  | .hbm, ⟨19, _⟩ => ⟨S1x40320, .f32⟩
  | .hbm, ⟨20, _⟩ => ⟨S1x40320, .f32⟩
  | .hbm, ⟨21, _⟩ => ⟨S_, .f32⟩
  | .hbm, ⟨22, _⟩ => ⟨S1x40320, .f32⟩
  | .hbm, ⟨23, _⟩ => ⟨S1x40320, .f32⟩
  | .hbm, ⟨24, _⟩ => ⟨S_, .f32⟩
  | .hbm, ⟨25, _⟩ => ⟨S1x40320, .f32⟩
  | .hbm, ⟨26, _⟩ => ⟨S1x40320, .f32⟩
  | .hbm, ⟨27, _⟩ => ⟨S1x40320, .f32⟩
  | .hbm, ⟨28, _⟩ => ⟨S_, .f32⟩
  | .hbm, ⟨29, _⟩ => ⟨S1x40320, .f32⟩
  | .hbm, ⟨30, _⟩ => ⟨S1x40320, .f32⟩
  | .hbm, ⟨31, _⟩ => ⟨S1x40320, .f32⟩
  | .hbm, ⟨32, _⟩ => ⟨S_, .f32⟩
  | .hbm, ⟨33, _⟩ => ⟨S1x40320, .f32⟩
  | .hbm, ⟨34, _⟩ => ⟨S1x40320, .f32⟩
  | .hbm, ⟨35, _⟩ => ⟨S1x40320, .f32⟩
  | .hbm, ⟨36, _⟩ => ⟨S_, .f32⟩
  | .hbm, ⟨37, _⟩ => ⟨S1x40320, .f32⟩
  | .hbm, ⟨38, _⟩ => ⟨S1x40320, .f32⟩
  | _, _ => ⟨S1x40320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel30.lean ====
abbrev S16x2048 : Shape := ⟨2, ![16, 2048]⟩
abbrev S16x1536 : Shape := ⟨2, ![16, 1536]⟩
abbrev S2048x1536 : Shape := ⟨2, ![2048, 1536]⟩
abbrev S16x1024 : Shape := ⟨2, ![16, 1024]⟩
abbrev S16x768 : Shape := ⟨2, ![16, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S16x2048, .f32⟩
  | .hbm, ⟨1, _⟩ => ⟨S16x1536, .f32⟩
  | .hbm, ⟨2, _⟩ => ⟨S2048x1536, .f32⟩
  | .local _ .vmem, ⟨0, _⟩ => ⟨S16x1024, .f32⟩
  | .local _ .vmem, ⟨1, _⟩ => ⟨S16x1024, .f32⟩
  | .local _ .vmem, ⟨2, _⟩ => ⟨S16x768, .f32⟩
  | .local _ .vmem, ⟨3, _⟩ => ⟨S16x768, .f32⟩
  | .local _ .vmem, ⟨4, _⟩ => ⟨S1024x768, .f32⟩
  | .local _ .vmem, ⟨5, _⟩ => ⟨S1024x768, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S16x2048 : Shape := ⟨2, ![16, 2048]⟩
abbrev S16x1536 : Shape := ⟨2, ![16, 1536]⟩
abbrev S_ : Shape := ⟨0, ![]⟩
abbrev S2048x1536 : Shape := ⟨2, ![2048, 1536]⟩
abbrev S1536x2048 : Shape := ⟨2, ![1536, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x1536, .f32⟩
  | .hbm, ⟨2, _⟩ => ⟨S_, .f32⟩
  | .hbm, ⟨3, _⟩ => ⟨S2048x1536, .f32⟩
  | .hbm, ⟨4, _⟩ => ⟨S16x2048, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048, .f32⟩
  | .hbm, ⟨13, _⟩ => ⟨S16x1536, .f32⟩
  | .hbm, ⟨14, _⟩ => ⟨S1536x2048, .f32⟩
  | .hbm, ⟨15, _⟩ => ⟨S2048x1536, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel31.lean ====
abbrev S2048x2048 : Shape := ⟨2, ![2048, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S8x128, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S8x128, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference31Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S8x128 : Shape := ⟨2, ![8, 128]⟩

abbrev nBuf : Space → Nat
  | .hbm => 69
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel32.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S2048x2048, .bf16⟩
  | .hbm, ⟨4, _⟩ => ⟨S2048x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .bf16⟩
  | .local _ .vmem, ⟨5, _⟩ => ⟨S256x2048, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference32Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 65
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S2048x2048, .bf16⟩
  | .hbm, ⟨4, _⟩ => ⟨S_, .f32⟩
  | .hbm, ⟨5, _⟩ => ⟨S1x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S2048x2048, .f32⟩
  | .hbm, ⟨53, _⟩ => ⟨S2048x2048, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Kernel33.lean ====
abbrev S2048x2048 : Shape := ⟨2, ![2048, 2048]⟩
abbrev S2048x4096 : Shape := ⟨2, ![2048, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference33Ideal.lean ====
abbrev S2048x2048 : Shape := ⟨2, ![2048, 2048]⟩
abbrev S2048x4096 : Shape := ⟨2, ![2048, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2048x2048, .f32⟩
  | .hbm, ⟨3, _⟩ => ⟨S2048x4096, .f32⟩
  | .hbm, ⟨4, _⟩ => ⟨S2048x4096, .f32⟩
  | .hbm, ⟨5, _⟩ => ⟨S2048x4096, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel34.lean ====
abbrev S2048x2048 : Shape := ⟨2, ![2048, 2048]⟩
abbrev S2048x3072 : Shape := ⟨2, ![2048, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S2048x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference34Ideal.lean ====
abbrev S2048x2048 : Shape := ⟨2, ![2048, 2048]⟩
abbrev S2048x3072 : Shape := ⟨2, ![2048, 3072]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S2048x2048, .f32⟩
  | .hbm, ⟨3, _⟩ => ⟨S2048x3072, .f32⟩
  | .hbm, ⟨4, _⟩ => ⟨S2048x3072, .f32⟩
  | .hbm, ⟨5, _⟩ => ⟨S2048x3072, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel35.lean ====
abbrev S2048x2048 : Shape := ⟨2, ![2048, 2048]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference35Ideal.lean ====
abbrev S2048x2048 : Shape := ⟨2, ![2048, 2048]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel36.lean ====
abbrev S2048x2048 : Shape := ⟨2, ![2048, 2048]⟩
abbrev S2048x1152 : Shape := ⟨2, ![2048, 1152]⟩
abbrev S1024x2048 : Shape := ⟨2, ![1024, 2048]⟩
abbrev S2048x384 : Shape := ⟨2, ![2048, 384]⟩
abbrev S1024x384 : Shape := ⟨2, ![1024, 384]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x1152, .bf16⟩
  | .hbm, ⟨2, _⟩ => ⟨S2048x1152, .bf16⟩
  | .local _ .vmem, ⟨0, _⟩ => ⟨S1024x2048, .bf16⟩
  | .local _ .vmem, ⟨1, _⟩ => ⟨S1024x2048, .bf16⟩
  | .local _ .vmem, ⟨2, _⟩ => ⟨S2048x384, .bf16⟩
  | .local _ .vmem, ⟨3, _⟩ => ⟨S2048x384, .bf16⟩
  | .local _ .vmem, ⟨4, _⟩ => ⟨S1024x384, .bf16⟩
  | .local _ .vmem, ⟨5, _⟩ => ⟨S1024x384, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference36Ideal.lean ====
abbrev S2048x2048 : Shape := ⟨2, ![2048, 2048]⟩
abbrev S2048x1152 : Shape := ⟨2, ![2048, 1152]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1152, .bf16⟩
  | .hbm, ⟨2, _⟩ => ⟨S2048x2048, .f32⟩
  | .hbm, ⟨3, _⟩ => ⟨S2048x1152, .f32⟩
  | .hbm, ⟨4, _⟩ => ⟨S2048x1152, .f32⟩
  | .hbm, ⟨5, _⟩ => ⟨S2048x1152, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel37.lean ====
abbrev S2048x2048 : Shape := ⟨2, ![2048, 2048]⟩
abbrev S1x2048 : Shape := ⟨2, ![1, 2048]⟩
abbrev S1024x2048 : Shape := ⟨2, ![1024, 2048]⟩
abbrev S2048x512 : Shape := ⟨2, ![2048, 512]⟩
abbrev S1024x512 : Shape := ⟨2, ![1024, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .hbm, ⟨5, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference37Ideal.lean ====
abbrev S2048x2048 : Shape := ⟨2, ![2048, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel38.lean ====
abbrev S2048x1024 : Shape := ⟨2, ![2048, 1024]⟩
abbrev S8x1024x256 : Shape := ⟨3, ![8, 1024, 256]⟩
abbrev S2048x2048 : Shape := ⟨2, ![2048, 2048]⟩
abbrev S1024x1024 : Shape := ⟨2, ![1024, 1024]⟩
abbrev S4x1024x256 : Shape := ⟨3, ![4, 1024, 256]⟩
abbrev S1x1024x256 : Shape := ⟨3, ![1, 1024, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S4x1024x256, .bf16⟩
  | .local _ .vmem, ⟨3, _⟩ => ⟨S4x1024x256, .bf16⟩
  | .local _ .vmem, ⟨4, _⟩ => ⟨S1024x1024, .bf16⟩
  | .local _ .vmem, ⟨5, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference38Ideal.lean ====
abbrev S2048x1024 : Shape := ⟨2, ![2048, 1024]⟩
abbrev S8x1024x256 : Shape := ⟨3, ![8, 1024, 256]⟩
abbrev S1024x8x256 : Shape := ⟨3, ![1024, 8, 256]⟩
abbrev S1024x2048 : Shape := ⟨2, ![1024, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S1024x8x256, .bf16⟩
  | .hbm, ⟨3, _⟩ => ⟨S1024x2048, .bf16⟩
  | .hbm, ⟨4, _⟩ => ⟨S2048x1024, .f32⟩
  | .hbm, ⟨5, _⟩ => ⟨S1024x2048, .f32⟩
  | .hbm, ⟨6, _⟩ => ⟨S2048x2048, .f32⟩
  | .hbm, ⟨7, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel39.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference39Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel40.lean ====
abbrev S1x2048 : Shape := ⟨2, ![1, 2048]⟩
abbrev S2048x2048 : Shape := ⟨2, ![2048, 2048]⟩
abbrev S256x2048 : Shape := ⟨2, ![256, 2048]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S1x2048, .f32⟩
  | .local _ .vmem, ⟨0, _⟩ => ⟨S1x2048, .f32⟩
  | .local _ .vmem, ⟨1, _⟩ => ⟨S256x2048, .bf16⟩
  | .local _ .vmem, ⟨2, _⟩ => ⟨S256x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference40Ideal.lean ====
abbrev S1x2048 : Shape := ⟨2, ![1, 2048]⟩
abbrev S2048x2048 : Shape := ⟨2, ![2048, 2048]⟩
abbrev S_ : Shape := ⟨0, ![]⟩
abbrev S2048 : Shape := ⟨1, ![2048]⟩

abbrev nBuf : Space → Nat
  | .hbm => 13
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S1x2048, .f32⟩
  | .hbm, ⟨12, _⟩ => ⟨S2048x2048, .bf16⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel41.lean ====
abbrev S2048x4096 : Shape := ⟨2, ![2048, 4096]⟩
abbrev S2048x2048 : Shape := ⟨2, ![2048, 2048]⟩
abbrev S256x2048 : Shape := ⟨2, ![256, 2048]⟩

abbrev nBuf : Space → Nat
  | .hbm => 4
  | .vmem => 10
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference41Ideal.lean ====
abbrev S2048x4096 : Shape := ⟨2, ![2048, 4096]⟩
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S2048x2048, .bf16⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel42.lean ====
abbrev S2048x4096 : Shape := ⟨2, ![2048, 4096]⟩
abbrev S2048x2048 : Shape := ⟨2, ![2048, 2048]⟩
abbrev S256x4096 : Shape := ⟨2, ![256, 4096]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x4096, .bf16⟩
  | .hbm, ⟨5, _⟩ => ⟨S2048x2048, .bf16⟩
  | .hbm, ⟨6, _⟩ => ⟨S2048x2048, .bf16⟩
  | .local _ .vmem, ⟨0, _⟩ => ⟨S256x4096, .bf16⟩
  | .local _ .vmem, ⟨1, _⟩ => ⟨S256x4096, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x4096, .bf16⟩
  | .local _ .vmem, ⟨9, _⟩ => ⟨S256x4096, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference42Ideal.lean ====
abbrev S2048x4096 : Shape := ⟨2, ![2048, 4096]⟩
abbrev S2048x2048 : Shape := ⟨2, ![2048, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S2048x4096, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .bf16⟩
  | .hbm, ⟨28, _⟩ => ⟨S2048x2048, .f32⟩
  | .hbm, ⟨29, _⟩ => ⟨S2048x2048, .f32⟩
  | .hbm, ⟨30, _⟩ => ⟨S2048x2048, .bf16⟩
  | .hbm, ⟨31, _⟩ => ⟨S2048x4096, .f32⟩
  | .hbm, ⟨32, _⟩ => ⟨S2048x4096, .f32⟩
  | .hbm, ⟨33, _⟩ => ⟨S2048x4096, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel43.lean ====
abbrev S2048x512 : Shape := ⟨2, ![2048, 512]⟩
abbrev S512x1536 : Shape := ⟨2, ![512, 1536]⟩
abbrev S2048x1536 : Shape := ⟨2, ![2048, 1536]⟩
abbrev S1024x512 : Shape := ⟨2, ![1024, 512]⟩
abbrev S512x768 : Shape := ⟨2, ![512, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S512x1536, .bf16⟩
  | .hbm, ⟨2, _⟩ => ⟨S2048x1536, .bf16⟩
  | .local _ .vmem, ⟨0, _⟩ => ⟨S1024x512, .bf16⟩
  | .local _ .vmem, ⟨1, _⟩ => ⟨S1024x512, .bf16⟩
  | .local _ .vmem, ⟨2, _⟩ => ⟨S512x768, .bf16⟩
  | .local _ .vmem, ⟨3, _⟩ => ⟨S512x768, .bf16⟩
  | .local _ .vmem, ⟨4, _⟩ => ⟨S1024x768, .bf16⟩
  | .local _ .vmem, ⟨5, _⟩ => ⟨S1024x768, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference43Ideal.lean ====
abbrev S2048x512 : Shape := ⟨2, ![2048, 512]⟩
abbrev S512x1536 : Shape := ⟨2, ![512, 1536]⟩
abbrev S2048x1536 : Shape := ⟨2, ![2048, 1536]⟩

abbrev nBuf : Space → Nat
  | .hbm => 6
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x1536, .bf16⟩
  | .hbm, ⟨2, _⟩ => ⟨S2048x512, .f32⟩
  | .hbm, ⟨3, _⟩ => ⟨S512x1536, .f32⟩
  | .hbm, ⟨4, _⟩ => ⟨S2048x1536, .f32⟩
  | .hbm, ⟨5, _⟩ => ⟨S2048x1536, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel44.lean ====
abbrev S512x1536 : Shape := ⟨2, ![512, 1536]⟩
abbrev S2048x1536 : Shape := ⟨2, ![2048, 1536]⟩
abbrev S2048x512 : Shape := ⟨2, ![2048, 512]⟩
abbrev S1024x1536 : Shape := ⟨2, ![1024, 1536]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x1536, .bf16⟩
  | .hbm, ⟨1, _⟩ => ⟨S2048x1536, .bf16⟩
  | .hbm, ⟨2, _⟩ => ⟨S2048x512, .bf16⟩
  | .local _ .vmem, ⟨0, _⟩ => ⟨S1024x1536, .bf16⟩
  | .local _ .vmem, ⟨1, _⟩ => ⟨S1024x1536, .bf16⟩
  | .local _ .vmem, ⟨2, _⟩ => ⟨S512x1536, .bf16⟩
  | .local _ .vmem, ⟨3, _⟩ => ⟨S1024x512, .bf16⟩
  | .local _ .vmem, ⟨4, _⟩ => ⟨S1024x512, .bf16⟩
  | _, _ => ⟨S512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference44Ideal.lean ====
abbrev S512x1536 : Shape := ⟨2, ![512, 1536]⟩
abbrev S2048x1536 : Shape := ⟨2, ![2048, 1536]⟩
abbrev S_ : Shape := ⟨0, ![]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S512x1536, .bf16⟩
  | .hbm, ⟨1, _⟩ => ⟨S2048x1536, .bf16⟩
  | .hbm, ⟨2, _⟩ => ⟨S_, .bf16⟩
  | .hbm, ⟨3, _⟩ => ⟨S2048x512, .bf16⟩
  | .hbm, ⟨4, _⟩ => ⟨S2048x512, .f32⟩
  | .hbm, ⟨5, _⟩ => ⟨S512x1536, .f32⟩
  | .hbm, ⟨6, _⟩ => ⟨S2048x1536, .f32⟩
  | .hbm, ⟨7, _⟩ => ⟨S2048x1536, .f32⟩
  | .hbm, ⟨8, _⟩ => ⟨S2048x512, .f32⟩
  | .hbm, ⟨9, _⟩ => ⟨S2048x512, .bf16⟩
  | _, _ => ⟨S512x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel45.lean ====
abbrev S2048x512 : Shape := ⟨2, ![2048, 512]⟩
abbrev S2048x1536 : Shape := ⟨2, ![2048, 1536]⟩
abbrev S512x1536 : Shape := ⟨2, ![512, 1536]⟩
abbrev S2048x768 : Shape := ⟨2, ![2048, 768]⟩
abbrev S512x768 : Shape := ⟨2, ![512, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S2048x1536, .bf16⟩
  | .hbm, ⟨2, _⟩ => ⟨S512x1536, .bf16⟩
  | .local _ .vmem, ⟨0, _⟩ => ⟨S2048x512, .bf16⟩
  | .local _ .vmem, ⟨1, _⟩ => ⟨S2048x768, .bf16⟩
  | .local _ .vmem, ⟨2, _⟩ => ⟨S2048x768, .bf16⟩
  | .local _ .vmem, ⟨3, _⟩ => ⟨S512x768, .bf16⟩
  | .local _ .vmem, ⟨4, _⟩ => ⟨S512x768, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference45Ideal.lean ====
abbrev S2048x512 : Shape := ⟨2, ![2048, 512]⟩
abbrev S2048x1536 : Shape := ⟨2, ![2048, 1536]⟩
abbrev S_ : Shape := ⟨0, ![]⟩
abbrev S512x1536 : Shape := ⟨2, ![512, 1536]⟩
abbrev S1536x512 : Shape := ⟨2, ![1536, 512]⟩

abbrev nBuf : Space → Nat
  | .hbm => 11
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1536, .bf16⟩
  | .hbm, ⟨2, _⟩ => ⟨S_, .bf16⟩
  | .hbm, ⟨3, _⟩ => ⟨S512x1536, .bf16⟩
  | .hbm, ⟨4, _⟩ => ⟨S2048x512, .f32⟩
  | .hbm, ⟨5, _⟩ => ⟨S512x1536, .f32⟩
  | .hbm, ⟨6, _⟩ => ⟨S2048x1536, .f32⟩
  | .hbm, ⟨7, _⟩ => ⟨S2048x1536, .f32⟩
  | .hbm, ⟨8, _⟩ => ⟨S1536x512, .f32⟩
  | .hbm, ⟨9, _⟩ => ⟨S512x1536, .f32⟩
  | .hbm, ⟨10, _⟩ => ⟨S512x1536, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel46.lean ====
abbrev S2048x512 : Shape := ⟨2, ![2048, 512]⟩
abbrev S8x512x256 : Shape := ⟨3, ![8, 512, 256]⟩
abbrev S2048x2048 : Shape := ⟨2, ![2048, 2048]⟩
abbrev S1024x512 : Shape := ⟨2, ![1024, 512]⟩
abbrev S4x512x256 : Shape := ⟨3, ![4, 512, 256]⟩
abbrev S1024x1024 : Shape := ⟨2, ![1024, 1024]⟩
abbrev S1x512x256 : Shape := ⟨3, ![1, 512, 256]⟩
abbrev S512x256 : Shape := ⟨2, ![512, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S8x512x256, .bf16⟩
  | .hbm, ⟨2, _⟩ => ⟨S2048x2048, .bf16⟩
  | .local _ .vmem, ⟨0, _⟩ => ⟨S1024x512, .bf16⟩
  | .local _ .vmem, ⟨1, _⟩ => ⟨S1024x512, .bf16⟩
  | .local _ .vmem, ⟨2, _⟩ => ⟨S4x512x256, .bf16⟩
  | .local _ .vmem, ⟨3, _⟩ => ⟨S4x512x256, .bf16⟩
  | .local _ .vmem, ⟨4, _⟩ => ⟨S1024x1024, .bf16⟩
  | .local _ .vmem, ⟨5, _⟩ => ⟨S1024x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference46Ideal.lean ====
abbrev S2048x512 : Shape := ⟨2, ![2048, 512]⟩
abbrev S8x512x256 : Shape := ⟨3, ![8, 512, 256]⟩
abbrev S512x8x256 : Shape := ⟨3, ![512, 8, 256]⟩
abbrev S512x2048 : Shape := ⟨2, ![512, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S8x512x256, .bf16⟩
  | .hbm, ⟨2, _⟩ => ⟨S512x8x256, .bf16⟩
  | .hbm, ⟨3, _⟩ => ⟨S512x2048, .bf16⟩
  | .hbm, ⟨4, _⟩ => ⟨S2048x512, .f32⟩
  | .hbm, ⟨5, _⟩ => ⟨S512x2048, .f32⟩
  | .hbm, ⟨6, _⟩ => ⟨S2048x2048, .f32⟩
  | .hbm, ⟨7, _⟩ => ⟨S2048x2048, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel47.lean ====
abbrev S8x512x256 : Shape := ⟨3, ![8, 512, 256]⟩
abbrev S2048x2048 : Shape := ⟨2, ![2048, 2048]⟩
abbrev S2048x512 : Shape := ⟨2, ![2048, 512]⟩
abbrev S1024x2048 : Shape := ⟨2, ![1024, 2048]⟩
abbrev S1024x512 : Shape := ⟨2, ![1024, 512]⟩
abbrev S1024x256 : Shape := ⟨2, ![1024, 256]⟩
abbrev S1x512x256 : Shape := ⟨3, ![1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S8x512x256, .bf16⟩
  | .hbm, ⟨1, _⟩ => ⟨S2048x2048, .bf16⟩
  | .hbm, ⟨2, _⟩ => ⟨S2048x512, .bf16⟩
  | .local _ .vmem, ⟨0, _⟩ => ⟨S1024x2048, .bf16⟩
  | .local _ .vmem, ⟨1, _⟩ => ⟨S1024x2048, .bf16⟩
  | .local _ .vmem, ⟨2, _⟩ => ⟨S8x512x256, .bf16⟩
  | .local _ .vmem, ⟨3, _⟩ => ⟨S1024x512, .bf16⟩
  | .local _ .vmem, ⟨4, _⟩ => ⟨S1024x512, .bf16⟩
  | _, _ => ⟨S8x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference47Ideal.lean ====
abbrev S8x512x256 : Shape := ⟨3, ![8, 512, 256]⟩
abbrev S2048x2048 : Shape := ⟨2, ![2048, 2048]⟩
abbrev S_ : Shape := ⟨0, ![]⟩
abbrev S2048x512 : Shape := ⟨2, ![2048, 512]⟩
abbrev S512x8x256 : Shape := ⟨3, ![512, 8, 256]⟩
abbrev S512x2048 : Shape := ⟨2, ![512, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8x512x256, .bf16⟩
  | .hbm, ⟨1, _⟩ => ⟨S2048x2048, .bf16⟩
  | .hbm, ⟨2, _⟩ => ⟨S_, .bf16⟩
  | .hbm, ⟨3, _⟩ => ⟨S2048x512, .bf16⟩
  | .hbm, ⟨4, _⟩ => ⟨S512x8x256, .bf16⟩
  | .hbm, ⟨5, _⟩ => ⟨S512x2048, .bf16⟩
  | .hbm, ⟨6, _⟩ => ⟨S2048x512, .f32⟩
  | .hbm, ⟨7, _⟩ => ⟨S512x2048, .f32⟩
  | .hbm, ⟨8, _⟩ => ⟨S2048x2048, .f32⟩
  | .hbm, ⟨9, _⟩ => ⟨S2048x2048, .f32⟩
  | .hbm, ⟨10, _⟩ => ⟨S2048x512, .f32⟩
  | .hbm, ⟨11, _⟩ => ⟨S2048x512, .bf16⟩
  | _, _ => ⟨S8x512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel48.lean ====
abbrev S2048x512 : Shape := ⟨2, ![2048, 512]⟩
abbrev S2048x2048 : Shape := ⟨2, ![2048, 2048]⟩
abbrev S8x512x256 : Shape := ⟨3, ![8, 512, 256]⟩
abbrev S2048x1024 : Shape := ⟨2, ![2048, 1024]⟩
abbrev S4x512x256 : Shape := ⟨3, ![4, 512, 256]⟩
abbrev S2048x256 : Shape := ⟨2, ![2048, 256]⟩
abbrev S512x256 : Shape := ⟨2, ![512, 256]⟩
abbrev S1x512x256 : Shape := ⟨3, ![1, 512, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S8x512x256, .bf16⟩
  | .local _ .vmem, ⟨0, _⟩ => ⟨S2048x512, .bf16⟩
  | .local _ .vmem, ⟨1, _⟩ => ⟨S2048x1024, .bf16⟩
  | .local _ .vmem, ⟨2, _⟩ => ⟨S2048x1024, .bf16⟩
  | .local _ .vmem, ⟨3, _⟩ => ⟨S4x512x256, .bf16⟩
  | .local _ .vmem, ⟨4, _⟩ => ⟨S4x512x256, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference48Ideal.lean ====
abbrev S2048x512 : Shape := ⟨2, ![2048, 512]⟩
abbrev S2048x2048 : Shape := ⟨2, ![2048, 2048]⟩
abbrev S_ : Shape := ⟨0, ![]⟩
abbrev S8x512x256 : Shape := ⟨3, ![8, 512, 256]⟩
abbrev S512x8x256 : Shape := ⟨3, ![512, 8, 256]⟩
abbrev S512x2048 : Shape := ⟨2, ![512, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S_, .bf16⟩
  | .hbm, ⟨3, _⟩ => ⟨S8x512x256, .bf16⟩
  | .hbm, ⟨4, _⟩ => ⟨S512x8x256, .bf16⟩
  | .hbm, ⟨5, _⟩ => ⟨S512x2048, .bf16⟩
  | .hbm, ⟨6, _⟩ => ⟨S2048x512, .f32⟩
  | .hbm, ⟨7, _⟩ => ⟨S512x2048, .f32⟩
  | .hbm, ⟨8, _⟩ => ⟨S2048x2048, .f32⟩
  | .hbm, ⟨9, _⟩ => ⟨S2048x2048, .f32⟩
  | .hbm, ⟨10, _⟩ => ⟨S2048x512, .f32⟩
  | .hbm, ⟨11, _⟩ => ⟨S512x2048, .f32⟩
  | .hbm, ⟨12, _⟩ => ⟨S512x2048, .bf16⟩
  | .hbm, ⟨13, _⟩ => ⟨S512x8x256, .bf16⟩
  | .hbm, ⟨14, _⟩ => ⟨S8x512x256, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Proof.AttnMath.lean ====
/-
  The mathematics of one row of the attention's gradient, over the extended reals and with no program in sight: the
  weights `exp (s - lse)` are the softmax of the masked scores, and `p * (dp - delta) * scale` is what differentiating
  the softmax and the mask gives. Also: sums of real numbers are real, and a sum over 2048 positions cut into four
  blocks of 512 of which a causal mask empties some.
-/
module

public import Idealize.ShloMosaic.Lib.Pointwise

@[expose] public section

noncomputable section

namespace Cert.AttnMath

open Idealize.ShloMosaic

/-- A real number among the extended reals. -/
def IsReal (x : EReal) : Prop := ∃ r : ℝ, x = (r : EReal)

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.coe (r : ℝ) : IsReal (r : EReal) := ⟨r, rfl⟩
theorem IsReal.add {x y : EReal} : IsReal x → IsReal y → IsReal (x + y)
  | ⟨a, ha⟩, ⟨b, hb⟩ => ⟨a + b, by rw [ha, hb, EReal.coe_add]⟩
theorem IsReal.mul {x y : EReal} : IsReal x → IsReal y → IsReal (x * y)
  | ⟨a, ha⟩, ⟨b, hb⟩ => ⟨a * b, by rw [ha, hb, EReal.coe_mul]⟩
theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- A magnitude below `⊤` makes a real number. -/
theorem IsReal.of_abs {x : EReal} (h : max x (-x) < ⊤) : IsReal x := by
  induction x with
  | bot => simp at h
  | top => simp at h
  | coe r => exact ⟨r, rfl⟩

/-- The largest of finitely many scores, one of them real and none of them `⊤`, is real. -/
theorem IsReal.fold_max {n : ℕ} (f : Fin n → EReal) (k : Fin n) (hk : IsReal (f k)) (h : ∀ i, f i < ⊤) :
    IsReal (Finset.univ.fold max ⊥ f) := by
  obtain ⟨r, hr⟩ := hk
  have h1 : Finset.univ.fold max ⊥ f < ⊤ := (Finset.fold_max_lt _).mpr ⟨bot_lt_top, fun i _ => h i⟩
  have h2 : (r : EReal) ≤ Finset.univ.fold max ⊥ f :=
    (Finset.le_fold_max _).mpr (Or.inr ⟨k, Finset.mem_univ _, hr.symm.le⟩)
  generalize Finset.univ.fold max ⊥ f = M at h1 h2
  induction M with
  | bot => exact absurd h2 (by simp)
  | top => exact absurd h1 (lt_irrefl _)
  | coe r => exact ⟨r, rfl⟩

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-! ## One query's row -/

section Row

variable {n D : ℕ} (A : Fin n → Prop) [DecidablePred A] (S : Fin n → EReal) (M c : EReal)
  (DO : Fin D → EReal) (V : Fin n → Fin D → EReal)

/-- The masked score of key `k`. -/
def sm (k : Fin n) : EReal := if A k then S k else ⊥
/-- Its exponential below the row's largest. -/
def ex (k : Fin n) : EReal := Ideal.exp (sm A S k - M)
/-- The row's sum of exponentials. -/
def den : EReal := ∑ k, ex A S M k
/-- The row's log-sum-exp. -/
def lse : EReal := M + Ideal.log (den A S M)
/-- The softmax weight of key `k`. -/
def wt (k : Fin n) : EReal := Ideal.div (ex A S M k) (den A S M)
/-- The gradient that reaches weight `k`. -/
def dp (k : Fin n) : EReal := ∑ d, DO d * V k d
/-- The row's product of the output and its gradient. -/
def delta : EReal := ∑ d, DO d * ∑ k, V k d * wt A S M k
/-- The score's gradient as the kernel makes it. -/
def dsK (k : Fin n) : EReal := Ideal.exp (sm A S k - lse A S M) * (dp DO V k - delta A S M DO V) * c
/-- The score's gradient as differentiation of the softmax and the mask gives it. -/
def dsR (k : Fin n) : EReal :=
  (if A k then (Ideal.div (dp DO V k) (den A S M)
    + -(∑ k', dp DO V k' * Ideal.div 1 (den A S M * den A S M) * ex A S M k')) * ex A S M k else 0) * c

/-- Real scores: the exponentials are nonnegative reals, zero where masked, and their sum is a positive real. -/
theorem ex_real (hM : IsReal M) (hS : ∀ k, IsReal (S k)) :
    ∃ E : Fin n → ℝ, (∀ k, 0 ≤ E k) ∧ (∀ k, A k → 0 < E k) ∧ (∀ k, ¬A k → E k = 0)
      ∧ (∀ k, ex A S M k = (E k : EReal)) ∧ ∀ (l : ℝ), 0 < l →
        ∀ k, Ideal.exp (sm A S k - (M + ((Real.log l : ℝ) : EReal))) = ((E k / l : ℝ) : EReal) := by
  obtain ⟨μ, rfl⟩ := hM
  choose s hs using hS
  refine ⟨fun k => if A k then Real.exp (s k - μ) else 0, fun k => ?_, fun k hk => ?_, fun k hk => ?_, fun k => ?_,
    fun l hl k => ?_⟩
  · by_cases h : A k
    · simp only [if_pos h]; exact (Real.exp_pos _).le
    · simp only [if_neg h]; exact le_refl _
  · simp only [if_pos hk]; exact Real.exp_pos _
  · simp only [if_neg hk]
  · unfold ex sm
    by_cases h : A k
    · simp only [if_pos h, hs, ← EReal.coe_sub]; rfl
    · simp only [if_neg h]; rfl
  · unfold sm
    by_cases h : A k
    · simp only [if_pos h, hs, ← EReal.coe_add, ← EReal.coe_sub]
      show ((Real.exp _ : ℝ) : EReal) = _
      rw [show s k - (μ + Real.log l) = (s k - μ) - Real.log l by ring, Real.exp_sub, Real.exp_log hl]
    · simp only [if_neg h, ← EReal.coe_add, zero_div]; rfl

theorem den_real (hA : ∃ k, A k) (hM : IsReal M) (hS : ∀ k, IsReal (S k)) :
    ∃ E : Fin n → ℝ, ∃ L : ℝ, 0 < L ∧ L = ∑ k, E k ∧ (∀ k, ¬A k → E k = 0) ∧ (∀ k, ex A S M k = (E k : EReal))
      ∧ den A S M = (L : EReal) ∧ (∀ k, Ideal.exp (sm A S k - lse A S M) = ((E k / L : ℝ) : EReal))
      ∧ ∀ k, wt A S M k = ((E k / L : ℝ) : EReal) := by
  obtain ⟨E, h0, hp, hz, he, hl⟩ := ex_real A S M hM hS
  obtain ⟨k₀, hk₀⟩ := hA
  have hL : 0 < ∑ k, E k := Finset.sum_pos' (fun k _ => h0 k) ⟨k₀, Finset.mem_univ _, hp k₀ hk₀⟩
  have hden : den A S M = ((∑ k, E k : ℝ) : EReal) := by
    unfold den; rw [coe_sum]; exact Finset.sum_congr rfl fun k _ => he k
  refine ⟨E, _, hL, rfl, hz, he, hden, fun k => ?_, fun k => ?_⟩
  · unfold lse
    rw [hden]
    have : Ideal.log ((∑ k, E k : ℝ) : EReal) = ((Real.log (∑ k, E k) : ℝ) : EReal) := by
      show (if (∑ k, E k) ≤ 0 then (⊥ : EReal) else _) = _
      rw [if_neg (not_le.mpr hL)]
    rw [this, hl _ hL k]
  · unfold wt; rw [hden, he, div_coe _ _ hL.ne']

/-- The weights: `exp (s - lse)` is the softmax. -/
theorem exp_lse (hA : ∃ k, A k) (hM : IsReal M) (hS : ∀ k, IsReal (S k)) (k : Fin n) :
    Ideal.exp (sm A S k - lse A S M) = wt A S M k := by
  obtain ⟨E, L, _, _, _, _, _, h1, h2⟩ := den_real A S M hA hM hS
  rw [h1, h2]

/-- The score's gradient: the two forms agree. -/
theorem dsK_eq_dsR (hA : ∃ k, A k) (hM : IsReal M) (hS : ∀ k, IsReal (S k)) (hD : ∀ d, IsReal (DO d))
    (hV : ∀ k d, IsReal (V k d)) (k : Fin n) : dsK A S M c DO V k = dsR A S M c DO V k := by
  obtain ⟨E, L, hL, hLs, hz, he, hden, h1, h2⟩ := den_real A S M hA hM hS
  choose o ho using hD
  choose v hv using hV
  have hdp : ∀ k, dp DO V k = ((∑ d, o d * v k d : ℝ) : EReal) := fun k => by
    unfold dp; rw [coe_sum]; exact Finset.sum_congr rfl fun d _ => by rw [ho, hv, EReal.coe_mul]
  have hdel : delta A S M DO V = ((∑ k, (∑ d, o d * v k d) * E k / L : ℝ) : EReal) := by
    have : (∑ k, (∑ d, o d * v k d) * E k / L : ℝ) = ∑ d, o d * ∑ k, v k d * (E k / L) := by
      simp only [Finset.mul_sum, Finset.sum_mul, Finset.sum_div]
      rw [Finset.sum_comm]
      exact Finset.sum_congr rfl fun d _ => Finset.sum_congr rfl fun k _ => by ring
    rw [this]
    unfold delta
    rw [coe_sum]
    refine Finset.sum_congr rfl fun d _ => ?_
    rw [ho, EReal.coe_mul, coe_sum]
    congr 1
    exact Finset.sum_congr rfl fun k _ => by rw [hv, h2, EReal.coe_mul]
  have hL2 : L * L ≠ 0 := mul_ne_zero hL.ne' hL.ne'
  unfold dsK dsR
  congr 1
  rw [h1, hdel, hdp]
  by_cases hk : A k
  · rw [if_pos hk, hden, he, div_coe _ _ hL.ne', ← EReal.coe_mul, show (1 : EReal) = ((1 : ℝ) : EReal) from rfl, div_coe _ _ hL2]
    have : (∑ k', dp DO V k' * ((1 / (L * L) : ℝ) : EReal) * ex A S M k')
        = ((∑ k', (∑ d, o d * v k' d) * (1 / (L * L)) * E k' : ℝ) : EReal) := by
      rw [coe_sum]; exact Finset.sum_congr rfl fun k' _ => by rw [hdp, he, ← EReal.coe_mul, ← EReal.coe_mul]
    rw [this, ← EReal.coe_sub, ← EReal.coe_mul, ← EReal.coe_neg, ← EReal.coe_add, ← EReal.coe_mul]
    congr 1
    have e : (∑ k', (∑ d, o d * v k' d) * (1 / (L * L)) * E k') = (∑ k', (∑ d, o d * v k' d) * E k' / L) / L := by
      rw [Finset.sum_div]; exact Finset.sum_congr rfl fun k' _ => by field_simp
    rw [e]
    field_simp
    ring
  · rw [if_neg hk, hz k hk, zero_div, EReal.coe_zero, zero_mul]

/-- A masked key's score has no gradient. -/
theorem dsR_masked (k : Fin n) (hk : ¬A k) : dsR A S M c DO V k = 0 := by
  unfold dsR; rw [if_neg hk, zero_mul]

theorem wt_masked (hA : ∃ k, A k) (hM : IsReal M) (hS : ∀ k, IsReal (S k)) (k : Fin n) (hk : ¬A k) : wt A S M k = 0 := by
  obtain ⟨E, L, _, _, hz, _, _, _, h2⟩ := den_real A S M hA hM hS
  rw [h2, hz k hk, zero_div, EReal.coe_zero]

end Row

/-! ## Sums over blocks -/

/-- Position `r` of block `b`. -/
abbrev at4 (b : Fin 4) (r : Fin 512) : Fin 2048 := ⟨512 * b.val + r.val, by omega⟩

theorem sum_blocks {M : Type} [AddCommMonoid M] (f : Fin 2048 → M) : ∑ k, f k = ∑ b : Fin 4, ∑ r : Fin 512, f (at4 b r) := by
  rw [Fin.sum_univ_tiles 4 512 (by norm_num) f]
  exact Finset.sum_congr rfl fun b _ => Finset.sum_congr rfl fun r _ => congrArg f (Fin.ext (by show _ = 512 * b.val + r.val; simp; ring))

/-- A partial sum over blocks, the ones `P` holds. -/
def part {M : Type} [AddCommMonoid M] (P : Fin 4 → Prop) [DecidablePred P] (B : Fin 4 → M) : M := ∑ b, if P b then B b else 0

theorem part_congr {M : Type} [AddCommMonoid M] (P Q : Fin 4 → Prop) [DecidablePred P] [DecidablePred Q] (B : Fin 4 → M)
    (h : ∀ b, P b ↔ Q b) : part P B = part Q B :=
  Finset.sum_congr rfl fun b _ => by by_cases hp : P b <;> simp [hp, (h b).symm]

theorem part_none {M : Type} [AddCommMonoid M] (P : Fin 4 → Prop) [DecidablePred P] (B : Fin 4 → M)
    (h : ∀ b, ¬P b) : part P B = 0 :=
  Finset.sum_eq_zero fun b _ => if_neg (h b)

/-- One more block. -/
theorem part_add {M : Type} [AddCommMonoid M] (P Q : Fin 4 → Prop) [DecidablePred P] [DecidablePred Q] (B : Fin 4 → M)
    (j : Fin 4) (hj : ¬P j) (h : ∀ b, Q b ↔ P b ∨ b = j) : part Q B = part P B + B j := by
  unfold part
  have : ∀ b, (if Q b then B b else 0) = (if P b then B b else 0) + (if b = j then B b else 0) := fun b => by
    by_cases hb : b = j
    · subst hb; simp [hj, h]
    · by_cases hp : P b <;> simp [h, hp, hb]
  rw [Finset.sum_congr rfl fun b _ => this b, Finset.sum_add_distrib, Finset.sum_ite_eq' Finset.univ j B, if_pos (Finset.mem_univ _)]

/-- The blocks left out add nothing: the partial sum is the whole sum. -/
theorem part_all {M : Type} [AddCommMonoid M] (P : Fin 4 → Prop) [DecidablePred P] (f : Fin 2048 → M)
    (h : ∀ b, ¬P b → ∀ r, f (at4 b r) = 0) : part P (fun b => ∑ r, f (at4 b r)) = ∑ k, f k := by
  rw [sum_blocks]
  refine Finset.sum_congr rfl fun b _ => ?_
  by_cases hb : P b
  · rw [if_pos hb]
  · rw [if_neg hb]; exact (Finset.sum_eq_zero fun r _ => h b hb r).symm

end Cert.AttnMath

end
-- ==== Proof.AttnRef.lean ====
/-
  The reference's chain, read at an index over the extended reals, in the terms of `AttnMath`: for head `h` and query
  `q`, the masked scores, their maximum, the softmax, and the gradient of the scores.
-/
module

public import proofs.«01_k».proof.Proof.Gen.ReferenceIdeal.Read
public import proofs.«01_k».proof.Proof.AttnMath
public import Idealize.ShloMosaic.Lib.Pointwise

@[expose] public section

set_option maxRecDepth 16384

noncomputable section

namespace Cert.AttnRef

open Cert.ReferenceIdeal Cert.ReferenceIdeal.Gen Cert.ReferenceIdeal.Read Cert.AttnMath
open Idealize.ShloMosaic Idealize.ShloMosaic.TcCoe Idealize.SL.Sem

/-- Column `d` of head `h` in the arrays that hold 128 columns a head, and in the one that holds keys and values. -/
def col (h : Fin 8) (d : Fin 128) : Fin 1024 := ⟨128 * h.val + d.val, by omega⟩
def colK (h : Fin 8) (d : Fin 128) : Fin 2048 := ⟨256 * h.val + d.val, by omega⟩
def colV (h : Fin 8) (d : Fin 128) : Fin 2048 := ⟨256 * h.val + 128 + d.val, by omega⟩

/-- The scale, as both programs write it. -/
def scale : EReal := Scalar.ofBits (F := Ideal) .f32 0x3D93CD3A#32

variable (x0 : (⟨S2048x1024, .bf16⟩ : BufTy).Contents (Elt Ideal)) (x1 : (⟨S8x2048x64, .bf16⟩ : BufTy).Contents (Elt Ideal))
  (x2 : (⟨S2048x2048, .bf16⟩ : BufTy).Contents (Elt Ideal)) (x3 : (⟨S2048x64, .bf16⟩ : BufTy).Contents (Elt Ideal))
  (x4 : (⟨S2048x1024, .bf16⟩ : BufTy).Contents (Elt Ideal))

/-- Query `q` sees key `k`. -/
def sees (q k : Fin 2048) : Prop := k.val ≤ q.val
instance (q : Fin 2048) : DecidablePred (sees q) := fun k => inferInstanceAs (Decidable (k.val ≤ q.val))

/-- The scaled score of query `q` and key `k` in head `h`. -/
def sc (h : Fin 8) (q k : Fin 2048) : EReal :=
  ((∑ d : Fin 128, x0 (ix2 q (col h d)) * x2 (ix2 k (colK h d))) + ∑ e : Fin 64, x1 (ix3 h q e) * x3 (ix2 k e)) * scale
/-- The greatest score query `q` sees. -/
def top (h : Fin 8) (q : Fin 2048) : EReal := Finset.univ.fold max ⊥ (sm (sees q) (sc x0 x1 x2 x3 h q))
/-- The result's cotangent and the values of head `h`. -/
def dv (h : Fin 8) (q : Fin 2048) (d : Fin 128) : EReal := x4 (ix2 q (col h d))
def vv (h : Fin 8) (k : Fin 2048) (d : Fin 128) : EReal := x2 (ix2 k (colV h d))
/-- The softmax, and the scores' gradient as the reference has it. -/
def pr (h : Fin 8) (q k : Fin 2048) : EReal := wt (sees q) (sc x0 x1 x2 x3 h q) (top x0 x1 x2 x3 h q) k
def ds (h : Fin 8) (q k : Fin 2048) : EReal :=
  dsR (sees q) (sc x0 x1 x2 x3 h q) (top x0 x1 x2 x3 h q) scale (dv x4 h q) (vv x2 h) k

variable (h : Fin 8) (q k : Fin 2048) (d : Fin 128) (e : Fin 64)

theorem v4_at : val_main_v4 x0 (ix3 q h d) = x0 (ix2 q (col h d)) := by
  rw [val_main_v4_apply, val_main_v3_apply]
  show x0 _ = x0 _
  congr 1; funext a; apply Fin.ext
  match a with
  | ⟨0, _⟩ => show ((q.val * 8 + h.val) * 128 + d.val) / 1024 = q.val; omega
  | ⟨1, _⟩ => show ((q.val * 8 + h.val) * 128 + d.val) % 1024 = 128 * h.val + d.val; omega

theorem v8_at : val_main_v8 x2 (ix3 k h d) = x2 (ix2 k (colK h d)) := by
  rw [val_main_v8_apply, val_main_v7_apply, val_main_v6_apply]
  show x2 _ = x2 _
  congr 1; funext a; apply Fin.ext
  match a with
  | ⟨0, _⟩ => show ((k.val * 8 + h.val) * 256 + d.val) / 2048 = k.val; omega
  | ⟨1, _⟩ => show ((k.val * 8 + h.val) * 256 + d.val) % 2048 = 256 * h.val + d.val; omega

theorem v9_at : val_main_v9 x2 (ix3 k h d) = x2 (ix2 k (colV h d)) := by
  rw [val_main_v9_apply, val_main_v7_apply, val_main_v6_apply]
  show x2 _ = x2 _
  congr 1; funext a; apply Fin.ext
  match a with
  | ⟨0, _⟩ => show ((k.val * 8 + h.val) * 256 + (128 + d.val)) / 2048 = k.val; omega
  | ⟨1, _⟩ => show ((k.val * 8 + h.val) * 256 + (128 + d.val)) % 2048 = 256 * h.val + 128 + d.val; omega

theorem v2_at : val_main_v2 x3 (ix3 h k e) = x3 (ix2 k e) := by
  unfold val_main_v2 val_main_v1 val_main_v0; pointwise

theorem v14_at : val_main_v14 x0 x1 x2 x3 (ix3 h q k) = sc x0 x1 x2 x3 h q k := by
  unfold val_main_v14 val_main_v12 val_main_v13 val_main_cst val_main_v10 val_main_v11 val_main_v5 sc scale
  simp only [← v4_at, ← v8_at, ← v2_at x3 h]
  generalize val_main_v4 x0 = y0
  generalize val_main_v8 x2 = y2
  generalize val_main_v2 x3 = y3
  pointwise

theorem sle_words (a b : Fin 2048) :
    IntOp.cmpi CmpIPredicate.sle (BitVec.ofNat 32 a.val) (BitVec.ofNat 32 b.val) = BitVec.ofBool (decide (a.val ≤ b.val)) := by
  have ha : a.val % 4294967296 = a.val := by omega
  have hb : b.val % 4294967296 = b.val := by omega
  simp only [IntOp.cmpi, BitVec.sle, BitVec.toInt_eq_toNat_cond, BitVec.toNat_ofNat]
  norm_num [ha, hb]
  rw [if_pos (by omega), if_pos (by omega)]
  norm_num

theorem select_ofBool {α : Type} (P : Prop) [Decidable P] (x y : α) :
    Scalar.select (BitVec.ofBool (decide P)) x y = if P then x else y := by
  by_cases h : P <;> simp [Scalar.select, h]

theorem mask_at : val_main_v22_1 (F := Ideal) (ix3 h q k) = BitVec.ofBool (decide (k.val ≤ q.val)) := by
  unfold val_main_v22_1 val_main_v21 val_main_v19 val_main_v20 val_main_v16 val_main_v15 val_main_v18 val_main_v17
  pointwise
  exact sle_words k q

theorem negInf : Ideal.ofBits .f32 0xFF800000#32 = (⊥ : EReal) := by simp [Ideal.ofBits, Ideal.ieee]

theorem call_at (i) : val_main_call0_v2 (F := Ideal) i = (⊥ : EReal) := by
  rw [val_main_call0_v2_apply]
  exact negInf

theorem v22_at : val_main_v22_0 x0 x1 x2 x3 (ix3 h q k) = sm (sees q) (sc x0 x1 x2 x3 h q) k := by
  rw [val_main_v22_0_apply, mask_at, v14_at, select_ofBool, call_at]
  rfl

theorem v23_at : val_main_v23 x0 x1 x2 x3 (ix2 h q) = top x0 x1 x2 x3 h q := by
  have h1 : (fun k => val_main_v22_0 x0 x1 x2 x3 (ix3 h q k)) = sm (sees q) (sc x0 x1 x2 x3 h q) :=
    funext fun k => v22_at x0 x1 x2 x3 h q k
  unfold val_main_v23 val_main_cst_1 top
  rw [← h1]
  generalize val_main_v22_0 x0 x1 x2 x3 = y
  pointwise
  rw [negInf]

theorem v30_at : val_main_v30 x0 x1 x2 x3 (ix2 h q) = top x0 x1 x2 x3 h q := by
  rw [val_main_v30_apply, v23_at, val_main_v29_apply]
  exact (congrArg (max · (top x0 x1 x2 x3 h q)) negInf).trans (bot_sup_eq _)

theorem v43_at : val_main_v43 x0 x1 x2 x3 (ix3 h q k)
    = ex (sees q) (sc x0 x1 x2 x3 h q) (top x0 x1 x2 x3 h q) k := by
  unfold val_main_v43 val_main_v42 val_main_v41 val_main_v40 ex
  rw [← v22_at, ← v30_at]
  generalize val_main_v22_0 x0 x1 x2 x3 = y
  generalize val_main_v30 x0 x1 x2 x3 = z
  pointwise

theorem v44_at : val_main_v44 x0 x1 x2 x3 (ix2 h q)
    = den (sees q) (sc x0 x1 x2 x3 h q) (top x0 x1 x2 x3 h q) := by
  unfold val_main_v44 val_main_cst_9 den
  simp only [← v43_at]
  generalize val_main_v43 x0 x1 x2 x3 = y
  pointwise

theorem v45_at : val_main_v45 x0 x1 x2 x3 (ix3 h q 0)
    = den (sees q) (sc x0 x1 x2 x3 h q) (top x0 x1 x2 x3 h q) := by
  unfold val_main_v45
  rw [← v44_at]
  generalize val_main_v44 x0 x1 x2 x3 = y
  pointwise

theorem v47_at : val_main_v47 x0 x1 x2 x3 (ix3 h q k) = pr x0 x1 x2 x3 h q k := by
  unfold val_main_v47 val_main_v46 pr wt
  rw [← v43_at, ← v45_at]
  generalize val_main_v43 x0 x1 x2 x3 = y
  generalize val_main_v45 x0 x1 x2 x3 = z
  pointwise

theorem v53_at : val_main_v53 x0 x1 x2 x3 (ix2 q (col h d)) = ∑ k, vv x2 h k d * pr x0 x1 x2 x3 h q k := by
  rw [val_main_v53_apply]
  have hi : idx_main_v53 (ix2 q (col h d)) = ix3 q h d := by
    funext a; apply Fin.ext
    match a with
    | ⟨0, _⟩ => show (q.val * 1024 + (128 * h.val + d.val)) / 1024 = q.val; omega
    | ⟨1, _⟩ => show (q.val * 1024 + (128 * h.val + d.val)) / 128 % 8 = h.val; omega
    | ⟨2, _⟩ => show (q.val * 1024 + (128 * h.val + d.val)) % 128 = d.val; omega
  rw [hi]
  unfold val_main_v52 val_main_v51 vv
  simp only [← v9_at, ← v47_at]
  generalize val_main_v9 x2 = y
  generalize val_main_v47 x0 x1 x2 x3 = z
  pointwise

end Cert.AttnRef

end
-- ==== Proof.AttnPay.lean ====
/-
  The gradient kernel's arithmetic over one pair of blocks, read at an index over the extended reals.
-/
module

public import proofs.«01_k».proof.Proof.AttnRef
public import proofs.«01_k».proof.Proof.Gen.KernelIdeal.Skeleton
public import Idealize.ShloMosaic.Lib.Pointwise

@[expose] public section

set_option maxRecDepth 16384

noncomputable section

namespace Cert.AttnPay

open Cert.KernelIdeal Cert.KernelIdeal.Gen
open Cert.AttnRef (scale)
open Idealize.ShloMosaic Idealize.ShloMosaic.TcCoe Idealize.SL.Sem

theorem sle_words (a b : Fin 512) :
    IntOp.cmpi CmpIPredicate.sle (BitVec.ofNat 32 a.val) (BitVec.ofNat 32 b.val) = BitVec.ofBool (decide (a.val ≤ b.val)) := by
  have ha : a.val % 4294967296 = a.val := by omega
  have hb : b.val % 4294967296 = b.val := by omega
  simp only [IntOp.cmpi, BitVec.sle, BitVec.toInt_eq_toNat_cond, BitVec.toNat_ofNat]
  norm_num [ha, hb]
  rw [if_pos (by omega), if_pos (by omega)]
  norm_num

theorem select_ofBool {α : Type} (P : Prop) [Decidable P] (x y : α) :
    Scalar.select (BitVec.ofBool (decide P)) x y = if P then x else y := by
  by_cases h : P <;> simp [Scalar.select, h]

theorem mask_bot : Named.named (F := Ideal) Cert.KernelIdeal.κ "mask" (φ := .f32) 0xF149F2CA#32 = (⊥ : EReal) :=
  IdealRules.named_const.ideal_named_scalar _ _ _ _ rfl

variable (qn kn do_ o v : Vec Ideal S512x128 .bf16) (qr : Vec Ideal S1x512x64 .bf16) (kr : Vec Ideal S512x64 .bf16)
  (lse : Vec Ideal S1x512x1 .f32) (p : FVec Ideal S512x512 .f32) (r k : Fin 512)

theorem pay15_at : k0_pay15 qn kn qr kr lse (ix2 r k)
    = Ideal.exp (((∑ d : Fin 128, qn (ix2 r d) * kn (ix2 k d)) + ∑ d : Fin 64, qr (ix3 0 r d) * kr (ix2 k d)) * scale
        - lse (ix3 0 r 0)) := by
  unfold k0_pay15
  pointwise [scale]

theorem pay23_at : k0_pay23 qn kn qr kr lse (ix2 r k)
    = Ideal.exp ((if k.val ≤ r.val then
        ((∑ d : Fin 128, qn (ix2 r d) * kn (ix2 k d)) + ∑ d : Fin 64, qr (ix3 0 r d) * kr (ix2 k d)) * scale else ⊥)
        - lse (ix3 0 r 0)) := by
  unfold k0_pay23
  pointwise [scale]
  rw [sle_words, select_ofBool]
  rw [mask_bot]

theorem pay17_at : k0_pay17 do_ p (k0_pay16 do_ o) v (ix2 r k)
    = (p (ix2 r k) * ((∑ d : Fin 128, do_ (ix2 r d) * v (ix2 k d)) - ∑ d : Fin 128, do_ (ix2 r d) * o (ix2 r d))) * scale := by
  unfold k0_pay17 k0_pay16
  pointwise [scale]

theorem pay25_at : k0_pay25 do_ p (k0_pay24 do_ o) v (ix2 r k)
    = (p (ix2 r k) * ((∑ d : Fin 128, do_ (ix2 r d) * v (ix2 k d)) - ∑ d : Fin 128, do_ (ix2 r d) * o (ix2 r d))) * scale := by
  unfold k0_pay25 k0_pay24
  pointwise [scale]

variable (ds : FVec Ideal S512x512 .bf16) (D : FVec Ideal S512x1 .f32) (O : FVec Ideal S512x128 .f32)
  (acc : Vec Ideal S512x128 .f32) (acr : Vec Ideal S512x64 .f32) (d : Fin 128) (e : Fin 64)

theorem pay18_at : k0_pay18 do_ p acc (ix2 k d) = acc (ix2 k d) + ∑ q : Fin 512, p (ix2 q k) * do_ (ix2 q d) := by
  unfold k0_pay18; pointwise

theorem pay26_at : k0_pay26 do_ p acc (ix2 k d) = acc (ix2 k d) + ∑ q : Fin 512, p (ix2 q k) * do_ (ix2 q d) := by
  unfold k0_pay26; pointwise

theorem pay19_at : k0_pay19 qn do_ p D v acc (ix2 k d)
    = acc (ix2 k d) + ∑ q : Fin 512, k0_pay17 do_ p D v (ix2 q k) * qn (ix2 q d) := by
  unfold k0_pay19; pointwise

theorem pay27_at : k0_pay27 qn do_ p O v acc (ix2 k d)
    = acc (ix2 k d) + ∑ q : Fin 512, k0_pay25 do_ p O v (ix2 q k) * qn (ix2 q d) := by
  unfold k0_pay27; pointwise

theorem pay20_at : k0_pay20 (k0_pay14 qr) do_ p D v acr (ix2 k e)
    = acr (ix2 k e) + ∑ q : Fin 512, k0_pay17 do_ p D v (ix2 q k) * qr (ix3 0 q e) := by
  unfold k0_pay20 k0_pay14; pointwise

theorem pay28_at : k0_pay28 (k0_pay22 qr) do_ p O v acr (ix2 k e)
    = acr (ix2 k e) + ∑ q : Fin 512, k0_pay25 do_ p O v (ix2 q k) * qr (ix3 0 q e) := by
  unfold k0_pay28 k0_pay22; pointwise

theorem pay21_at : k0_pay21 kn do_ p D v acc (ix2 r d)
    = acc (ix2 r d) + ∑ k : Fin 512, k0_pay17 do_ p D v (ix2 r k) * kn (ix2 k d) := by
  unfold k0_pay21; pointwise

theorem pay29_at : k0_pay7 acc (k0_pay29 kn do_ p O v) (ix2 r d)
    = acc (ix2 r d) + ∑ k : Fin 512, k0_pay25 do_ p O v (ix2 r k) * kn (ix2 k d) := by
  unfold k0_pay7 k0_pay29; pointwise

theorem pay6_at : k0_pay6 kr ds acr (ix2 r e) = acr (ix2 r e) + ∑ k : Fin 512, ds (ix2 r k) * kr (ix2 k e) := by
  unfold k0_pay6; pointwise

theorem pay8_at : k0_pay8 kr ds acr (ix2 r e) = acr (ix2 r e) + ∑ k : Fin 512, ds (ix2 r k) * kr (ix2 k e) := by
  unfold k0_pay8; pointwise

theorem pay9_at : k0_pay9 acc (ix2 k d) = acc (ix2 k d) := by unfold k0_pay9; pointwise
theorem pay10_at : k0_pay10 acc (ix2 k d) = acc (ix2 k d) := by unfold k0_pay10; pointwise
theorem pay11_at : k0_pay11 acr (ix3 0 k e) = acr (ix2 k e) := by unfold k0_pay11; pointwise
theorem pay12_at (x : Vec Ideal S2048x128 .f32) (q : Fin 2048) : k0_pay12 x (ix2 q d) = x (ix2 q d) := by
  unfold k0_pay12; pointwise
theorem pay13_at (x : Vec Ideal S2048x64 .f32) (q : Fin 2048) : k0_pay13 x (ix3 0 q e) = x (ix2 q e) := by
  unfold k0_pay13; pointwise
theorem pay1_at (q : Fin 2048) : (k0_pay1 : FVec Ideal _ _) (ix2 q d) = 0 := by unfold k0_pay1; pointwise
theorem pay2_at (q : Fin 2048) : (k0_pay2 : FVec Ideal _ _) (ix2 q e) = 0 := by unfold k0_pay2; pointwise
theorem pay3_at : (k0_pay3 : FVec Ideal _ _) (ix2 k d) = 0 := by unfold k0_pay3; pointwise
theorem pay4_at : (k0_pay4 : FVec Ideal _ _) (ix2 k d) = 0 := by unfold k0_pay4; pointwise
theorem pay5_at : (k0_pay5 : FVec Ideal _ _) (ix2 k e) = 0 := by unfold k0_pay5; pointwise

end Cert.AttnPay

end
-- ==== Proof.AttnHost.lean ====
/-
  What the host prepares for the gradient kernel, in the reference's own terms: the output `o` is the reference's
  forward result, and the log-sum-exp is made from the reference's masked scores.
-/
module

public import proofs.«01_k».proof.Proof.Gen.KernelIdeal.Frame.Runs
public import proofs.«01_k».proof.Proof.Gen.ReferenceIdeal.Read
public import Idealize.ShloMosaic.Lib.StableHlo.RunRead

@[expose] public section

set_option maxRecDepth 16384

noncomputable section

namespace Cert.AttnHost

open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ)

abbrev a0 (c : Dev nD) : (⟨S2048x1024, .bf16⟩ : BufTy).Contents (Elt F) := m ((c : Thread nD τ).loc main_arg0)
abbrev a1 (c : Dev nD) : (⟨S8x2048x64, .bf16⟩ : BufTy).Contents (Elt F) := m ((c : Thread nD τ).loc main_arg1)
abbrev a2 (c : Dev nD) : (⟨S2048x2048, .bf16⟩ : BufTy).Contents (Elt F) := m ((c : Thread nD τ).loc main_arg2)
abbrev a3 (c : Dev nD) : (⟨S2048x64, .bf16⟩ : BufTy).Contents (Elt F) := m ((c : Thread nD τ).loc main_arg3)
abbrev a4 (c : Dev nD) : (⟨S2048x1024, .bf16⟩ : BufTy).Contents (Elt F) := m ((c : Thread nD τ).loc main_arg4)

set_option maxHeartbeats 2000000 in
theorem V_o (c : Dev nD) : V m c main_v58
    = truncf .bf16 (Cert.ReferenceIdeal.Read.val_main_v53 (F := F) (a0 m c) (a1 m c) (a2 m c) (a3 m c)) bitsLt_bf16_f32 := by
  unfold V
  after_reads_simp
  rfl

/-- The row maximum of the masked scores, one column. -/
def rowMax (c : Dev nD) : FVec F S8x2048x1 .f32 :=
  broadcastInDim S8x2048x1 ![0, 1] bcast_S8x2048_S8x2048x1_0_1 (Cert.ReferenceIdeal.Read.val_main_v23 (F := F) (a0 m c) (a1 m c) (a2 m c) (a3 m c))

set_option maxHeartbeats 2000000 in
theorem V_lse (c : Dev nD) : V m c main_v67
    = addf (rowMax m c) (Host.log (broadcastInDim S8x2048x1 ![0, 1] bcast_S8x2048_S8x2048x1_0_1
        (Host.reduceAdd (Host.exp (subf (Cert.ReferenceIdeal.Read.val_main_v22_0 (F := F) (a0 m c) (a1 m c) (a2 m c) (a3 m c))
          (broadcastInDim S8x2048x2048 ![0, 1, 2] bcast_S8x2048x1_S8x2048x2048_0_1_2 (rowMax m c))))
          (constant S_ .f32 0x00000000#32) reducesTo_S8x2048x2048_S8x2048_d2 h_S_))) := by
  unfold V
  after_reads_simp
  rfl

end Cert.AttnHost

end
-- ==== Proof.AttnBlocks.lean ====
/-
  What the gradient kernel's windows hold at a grid point that computes: point `t = 16 h + 4 j + i` reads rows
  `512 i + r` of the queries' side, rows `512 j + k` of the keys' side, and the columns of head `h`.
-/
module

public import proofs.«01_k».proof.Proof.Gen.KernelIdeal.Frame.Runs
public import proofs.«01_k».proof.Proof.AttnMath
public import proofs.«01_k».proof.Proof.AttnHost
public import proofs.«01_k».proof.Proof.AttnRef
public import Idealize.ShloMosaic.Lib.Pipeline.ValueKit
public import Idealize.ShloMosaic.Lib.Claim

@[expose] public section

set_option maxRecDepth 16384

noncomputable section

namespace Cert.AttnBlocks

open Cert.KernelIdeal Cert.KernelIdeal.Gen Cert.AttnMath Cert.AttnHost
open Cert.AttnRef (col colK colV)
open Idealize.ShloMosaic Idealize.ShloMosaic.TcCoe Idealize.SL.Sem

/-- Head, key block and query block of a grid point. -/
def hd (t : Fin cfg0.N) : Fin 8 := ⟨t.val / 16, by have : t.val < 128 := t.isLt; omega⟩
def jj (t : Fin cfg0.N) : Fin 4 := ⟨t.val / 4 % 4, by omega⟩
def ii (t : Fin cfg0.N) : Fin 4 := ⟨t.val % 4, by omega⟩

theorem idx0 : ∀ t : Fin cfg0.N,
    win0_0.index t = ![max (t.val % 4) (t.val / 4 % 4), t.val / 16]
    ∧ win0_1.index t = ![t.val / 16, max (t.val % 4) (t.val / 4 % 4), 0]
    ∧ win0_2.index t = ![t.val / 4 % 4, 2 * (t.val / 16)]
    ∧ win0_3.index t = ![t.val / 4 % 4, 2 * (t.val / 16) + 1]
    ∧ win0_4.index t = ![t.val / 4 % 4, 0]
    ∧ win0_5.index t = ![max (t.val % 4) (t.val / 4 % 4), t.val / 16]
    ∧ win0_6.index t = ![t.val / 16, max (t.val % 4) (t.val / 4 % 4), 0]
    ∧ win0_7.index t = ![max (t.val % 4) (t.val / 4 % 4), t.val / 16] := by
  decide +kernel

variable {F : FTy → Type} [FloatOps F] [Named F]
variable (m : (ℓ : Loc nD τ sig) → Buf (Elt F) ℓ) (c : Dev nD) (t : Fin cfg0.N)
  (r : Fin 512) (d : Fin 128) (e : Fin 64)

theorem blk0 (ht : t.val / 4 % 4 ≤ t.val % 4) :
    iblk m c 0 t (ix2 r d) = a0 m c (ix2 (at4 (ii t) r) (col (hd t) d)) := by
  have hm : max (t.val % 4) (t.val / 4 % 4) = t.val % 4 := by omega
  unfold at4 ii col hd
  blk_ext [iblk, V, (idx0 t).1, hm]

theorem blk1 (ht : t.val / 4 % 4 ≤ t.val % 4) :
    iblk m c 1 t (ix3 0 r e) = a1 m c (ix3 (hd t) (at4 (ii t) r) e) := by
  have hm : max (t.val % 4) (t.val / 4 % 4) = t.val % 4 := by omega
  unfold at4 ii hd
  blk_ext [iblk, V, (idx0 t).2.1, hm]

theorem blk2 : iblk m c 2 t (ix2 r d) = a2 m c (ix2 (at4 (jj t) r) (colK (hd t) d)) := by
  unfold at4 jj colK hd
  blk_ext [iblk, V, (idx0 t).2.2.1]

theorem blk3 : iblk m c 3 t (ix2 r d) = a2 m c (ix2 (at4 (jj t) r) (colV (hd t) d)) := by
  unfold at4 jj colV hd
  blk_ext [iblk, V, (idx0 t).2.2.2.1]

theorem blk4 : iblk m c 4 t (ix2 r e) = a3 m c (ix2 (at4 (jj t) r) e) := by
  unfold at4 jj
  blk_ext [iblk, V, (idx0 t).2.2.2.2.1]

theorem blk7 (ht : t.val / 4 % 4 ≤ t.val % 4) :
    iblk m c 7 t (ix2 r d) = a4 m c (ix2 (at4 (ii t) r) (col (hd t) d)) := by
  have hm : max (t.val % 4) (t.val / 4 % 4) = t.val % 4 := by omega
  unfold at4 ii col hd
  blk_ext [iblk, V, (idx0 t).2.2.2.2.2.2.2, hm]

theorem blk5 (ht : t.val / 4 % 4 ≤ t.val % 4) :
    iblk m c 5 t (ix2 r d) = (V m c main_v58 : FVec F S2048x1024 .bf16) (ix2 (at4 (ii t) r) (col (hd t) d)) := by
  have hm : max (t.val % 4) (t.val / 4 % 4) = t.val % 4 := by omega
  unfold at4 ii col hd
  generalize hV : V m c main_v58 = o
  unfold iblk
  rw [View.read_apply]
  change V m c main_v58 _ = o _
  rw [hV]
  blk_ext [(idx0 t).2.2.2.2.2.1, hm]

theorem blk6 (ht : t.val / 4 % 4 ≤ t.val % 4) :
    iblk m c 6 t (ix3 0 r 0) = (V m c main_v67 : FVec F S8x2048x1 .f32) (ix3 (hd t) (at4 (ii t) r) 0) := by
  have hm : max (t.val % 4) (t.val / 4 % 4) = t.val % 4 := by omega
  unfold at4 ii hd
  generalize hV : V m c main_v67 = o
  unfold iblk
  rw [View.read_apply]
  change V m c main_v67 _ = o _
  rw [hV]
  blk_ext [(idx0 t).2.2.2.2.2.2.1, hm]

end Cert.AttnBlocks

end
-- ==== Proof.AttnRef2.lean ====
/-
  The reference's four results, read at an index over the extended reals.
-/
module

public import proofs.«01_k».proof.Proof.AttnRef

@[expose] public section

set_option maxRecDepth 16384

noncomputable section

namespace Cert.AttnRef

open Cert.ReferenceIdeal Cert.ReferenceIdeal.Gen Cert.ReferenceIdeal.Read Cert.AttnMath
open Idealize.ShloMosaic Idealize.ShloMosaic.TcCoe Idealize.SL.Sem

variable (x0 : (⟨S2048x1024, .bf16⟩ : BufTy).Contents (Elt Ideal)) (x1 : (⟨S8x2048x64, .bf16⟩ : BufTy).Contents (Elt Ideal))
  (x2 : (⟨S2048x2048, .bf16⟩ : BufTy).Contents (Elt Ideal)) (x3 : (⟨S2048x64, .bf16⟩ : BufTy).Contents (Elt Ideal))
  (x4 : (⟨S2048x1024, .bf16⟩ : BufTy).Contents (Elt Ideal))
variable (h : Fin 8) (q k : Fin 2048) (d : Fin 128) (e : Fin 64)

theorem v56_at : val_main_v56 x4 (ix3 h d q) = dv x4 h q d := by
  rw [val_main_v56_apply, val_main_v55_apply, val_main_v54_apply]
  unfold dv
  show x4 _ = x4 _
  congr 1; funext a; apply Fin.ext
  match a with
  | ⟨0, _⟩ => show ((q.val * 8 + h.val) * 128 + d.val) / 1024 = q.val; omega
  | ⟨1, _⟩ => show ((q.val * 8 + h.val) * 128 + d.val) % 1024 = 128 * h.val + d.val; omega

theorem v57_at : val_main_v57 x2 x4 (ix3 h q k) = dp (dv x4 h q) (vv x2 h) k := by
  unfold val_main_v57 dp vv
  simp only [← v56_at, ← v9_at]
  generalize val_main_v56 x4 = y
  generalize val_main_v9 x2 = z
  pointwise

theorem v60_at : val_main_v60 x0 x1 x2 x3 (ix3 h q k)
    = Ideal.div 1 (den (sees q) (sc x0 x1 x2 x3 h q) (top x0 x1 x2 x3 h q) * den (sees q) (sc x0 x1 x2 x3 h q) (top x0 x1 x2 x3 h q)) := by
  unfold val_main_v60 val_main_v50 val_main_v49 val_main_v48 val_main_cst_10
  rw [← v45_at]
  generalize val_main_v45 x0 x1 x2 x3 = y
  pointwise

theorem v63_at : val_main_v63 x0 x1 x2 x3 x4 (ix2 h q)
    = ∑ k', dp (dv x4 h q) (vv x2 h) k' * Ideal.div 1 (den (sees q) (sc x0 x1 x2 x3 h q) (top x0 x1 x2 x3 h q)
        * den (sees q) (sc x0 x1 x2 x3 h q) (top x0 x1 x2 x3 h q)) * ex (sees q) (sc x0 x1 x2 x3 h q) (top x0 x1 x2 x3 h q) k' := by
  unfold val_main_v63 val_main_v62 val_main_v61 val_main_cst_11
  have h1 : ∀ k', dp (dv x4 h q) (vv x2 h) k' * Ideal.div 1 (den (sees q) (sc x0 x1 x2 x3 h q) (top x0 x1 x2 x3 h q)
        * den (sees q) (sc x0 x1 x2 x3 h q) (top x0 x1 x2 x3 h q)) * ex (sees q) (sc x0 x1 x2 x3 h q) (top x0 x1 x2 x3 h q) k'
      = val_main_v57 x2 x4 (ix3 h q k') * val_main_v60 x0 x1 x2 x3 (ix3 h q k') * val_main_v43 x0 x1 x2 x3 (ix3 h q k') :=
    fun k' => by rw [v57_at, v60_at, v43_at]
  simp only [h1]
  generalize val_main_v57 x2 x4 = y
  generalize val_main_v60 x0 x1 x2 x3 = z
  generalize val_main_v43 x0 x1 x2 x3 = w
  pointwise

theorem v69_at : val_main_v69 x0 x1 x2 x3 x4 (ix3 h q k) = -val_main_v63 x0 x1 x2 x3 x4 (ix2 h q) := by
  unfold val_main_v69 val_main_v68 val_main_v65 val_main_v64 val_main_cst_12
  generalize val_main_v63 x0 x1 x2 x3 x4 = y
  pointwise
  simp

theorem v70_at : val_main_v70 x0 x1 x2 x3 x4 (ix3 h q k)
    = Ideal.div (val_main_v57 x2 x4 (ix3 h q k)) (val_main_v45 x0 x1 x2 x3 (ix3 h q 0)) + -val_main_v63 x0 x1 x2 x3 x4 (ix2 h q) := by
  unfold val_main_v70 val_main_v67 val_main_v66
  rw [← v69_at x0 x1 x2 x3 x4 h q k]
  generalize val_main_v57 x2 x4 = y
  generalize val_main_v69 x0 x1 x2 x3 x4 = z
  generalize val_main_v45 x0 x1 x2 x3 = w
  pointwise

theorem zero_at (i) : val_main_call1_v0 (F := Ideal) i = (0 : EReal) := by
  unfold val_main_call1_v0 val_main_call1_cst
  idx_vars i
  pointwise

theorem v72_at : val_main_v72 x0 x1 x2 x3 x4 (ix3 h q k)
    = if k.val ≤ q.val then val_main_v70 x0 x1 x2 x3 x4 (ix3 h q k) * val_main_v43 x0 x1 x2 x3 (ix3 h q k) else 0 := by
  rw [val_main_v72_apply, mask_at, select_ofBool, zero_at, val_main_v71_apply]
  rfl

theorem v74_at : val_main_v74 x0 x1 x2 x3 x4 (ix3 h q k) = ds x0 x1 x2 x3 x4 h q k := by
  have h1 : val_main_v74 x0 x1 x2 x3 x4 (ix3 h q k) = val_main_v72 x0 x1 x2 x3 x4 (ix3 h q k) * scale := by
    unfold val_main_v74 val_main_v73 val_main_cst_13 scale
    generalize val_main_v72 x0 x1 x2 x3 x4 = y
    pointwise
  rw [h1, v72_at, v70_at, v57_at, v45_at, v63_at, v43_at]
  rfl

theorem v75_at : val_main_v75 x0 x1 x2 x3 x4 (ix3 h k e) = ∑ q, ds x0 x1 x2 x3 x4 h q k * x1 (ix3 h q e) := by
  unfold val_main_v75 val_main_v5
  simp only [← v74_at]
  generalize val_main_v74 x0 x1 x2 x3 x4 = y
  pointwise

theorem v86_at : val_main_v86 x0 x1 x2 x3 x4 (ix3 h q e) = ∑ k, ds x0 x1 x2 x3 x4 h q k * x3 (ix2 k e) := by
  unfold val_main_v86 val_main_v76
  simp only [← v74_at, ← v2_at x3 h]
  generalize val_main_v74 x0 x1 x2 x3 x4 = y
  generalize val_main_v2 x3 = z
  pointwise

theorem v77_at : val_main_v77 x0 x1 x2 x3 x4 (ix3 h k d) = ∑ q, ds x0 x1 x2 x3 x4 h q k * x0 (ix2 q (col h d)) := by
  unfold val_main_v77
  simp only [← v74_at, ← v4_at]
  generalize val_main_v74 x0 x1 x2 x3 x4 = y
  generalize val_main_v4 x0 = z
  pointwise

theorem v58_at : val_main_v58 x0 x1 x2 x3 x4 (ix3 h d k) = ∑ q, dv x4 h q d * pr x0 x1 x2 x3 h q k := by
  unfold val_main_v58
  simp only [← v47_at, ← v56_at]
  generalize val_main_v47 x0 x1 x2 x3 = y
  generalize val_main_v56 x4 = z
  pointwise

theorem v88_at : val_main_v88 x0 x1 x2 x3 x4 (ix2 q (col h d)) = ∑ k, ds x0 x1 x2 x3 x4 h q k * x2 (ix2 k (colK h d)) := by
  rw [val_main_v88_apply, val_main_v87_apply]
  have hi : idx_main_v87 (ix2 q (col h d)) = ix3 q h d := by
    funext a; apply Fin.ext
    match a with
    | ⟨0, _⟩ => show (q.val * 1024 + (128 * h.val + d.val)) / 1024 = q.val; omega
    | ⟨1, _⟩ => show (q.val * 1024 + (128 * h.val + d.val)) / 128 % 8 = h.val; omega
    | ⟨2, _⟩ => show (q.val * 1024 + (128 * h.val + d.val)) % 128 = d.val; omega
  rw [hi]
  unfold val_main_v80 val_main_v79
  simp only [← v74_at, ← v8_at]
  generalize val_main_v74 x0 x1 x2 x3 x4 = y
  generalize val_main_v8 x2 = z
  pointwise

theorem v85_K : val_main_v85 x0 x1 x2 x3 x4 (ix2 k (colK h d)) = ∑ q, ds x0 x1 x2 x3 x4 h q k * x0 (ix2 q (col h d)) := by
  rw [val_main_v85_apply, val_main_v84_apply]
  have hi : idx_main_v84 (ix2 k (colK h d)) = (ix3 k h ⟨d.val, by omega⟩ : S2048x8x256.Idx) := by
    funext a; apply Fin.ext
    match a with
    | ⟨0, _⟩ => show (k.val * 2048 + (256 * h.val + d.val)) / 2048 = k.val; omega
    | ⟨1, _⟩ => show (k.val * 2048 + (256 * h.val + d.val)) / 256 % 8 = h.val; omega
    | ⟨2, _⟩ => show (k.val * 2048 + (256 * h.val + d.val)) % 256 = d.val; omega
  rw [hi, ← v77_at]
  unfold val_main_v83 val_main_v82 val_main_v81 val_main_v78 val_main_v59 val_main_cst_14 val_main_cst_15
  generalize val_main_v77 x0 x1 x2 x3 x4 = y
  generalize val_main_v58 x0 x1 x2 x3 x4 = z
  pointwise
  rw [dif_neg (fun h => h.1)]
  exact zero_add _

theorem v85_V : val_main_v85 x0 x1 x2 x3 x4 (ix2 k (colV h d)) = ∑ q, dv x4 h q d * pr x0 x1 x2 x3 h q k := by
  rw [val_main_v85_apply, val_main_v84_apply]
  have hi : idx_main_v84 (ix2 k (colV h d)) = (ix3 k h ⟨128 + d.val, by omega⟩ : S2048x8x256.Idx) := by
    funext a; apply Fin.ext
    match a with
    | ⟨0, _⟩ => show (k.val * 2048 + (256 * h.val + 128 + d.val)) / 2048 = k.val; omega
    | ⟨1, _⟩ => show (k.val * 2048 + (256 * h.val + 128 + d.val)) / 256 % 8 = h.val; omega
    | ⟨2, _⟩ => show (k.val * 2048 + (256 * h.val + 128 + d.val)) % 256 = 128 + d.val; omega
  rw [hi, ← v58_at]
  unfold val_main_v83 val_main_v82 val_main_v81 val_main_v78 val_main_v59 val_main_cst_14 val_main_cst_15
  generalize val_main_v77 x0 x1 x2 x3 x4 = y
  generalize val_main_v58 x0 x1 x2 x3 x4 = z
  pointwise

end Cert.AttnRef

end
-- ==== Proof.AttnHost2.lean ====
/-
  The kernel's two prepared operands, read at an index over the extended reals: the log-sum-exp of the scores each
  query sees, and the forward result.
-/
module

public import proofs.«01_k».proof.Proof.AttnHost
public import proofs.«01_k».proof.Proof.AttnRef2

@[expose] public section

set_option maxRecDepth 16384

noncomputable section

namespace Cert.AttnHost

open Cert.KernelIdeal Cert.KernelIdeal.Gen Cert.AttnMath Cert.AttnRef Cert.ReferenceIdeal.Read
open Idealize.ShloMosaic Idealize.ShloMosaic.TcCoe Idealize.SL.Sem

variable (m : (ℓ : Loc nD τ sig) → Buf (Elt Ideal) ℓ) (c : Dev nD) (h : Fin 8) (q : Fin 2048) (d : Fin 128)

theorem o_at : (V m c main_v58 : FVec Ideal S2048x1024 .bf16) (ix2 q (col h d))
    = ∑ k, vv (a2 m c) h k d * pr (a0 m c) (a1 m c) (a2 m c) (a3 m c) h q k := by
  rw [V_o, ← v53_at]
  generalize val_main_v53 (a0 m c) (a1 m c) (a2 m c) (a3 m c) = y
  rfl

theorem rowMax_at : rowMax m c (ix3 h q 0) = top (a0 m c) (a1 m c) (a2 m c) (a3 m c) h q := by
  unfold rowMax
  rw [← v23_at]
  generalize val_main_v23 (a0 m c) (a1 m c) (a2 m c) (a3 m c) = y
  pointwise

theorem lse_read (y : FVec Ideal S8x2048x2048 .f32) (z : FVec Ideal S8x2048x1 .f32) :
    (addf z (Host.log (broadcastInDim S8x2048x1 ![0, 1] bcast_S8x2048_S8x2048x1_0_1
        (Host.reduceAdd (Host.exp (subf y (broadcastInDim S8x2048x2048 ![0, 1, 2] bcast_S8x2048x1_S8x2048x2048_0_1_2 z)))
          (constant S_ .f32 0x00000000#32) reducesTo_S8x2048x2048_S8x2048_d2 h_S_))) : FVec Ideal S8x2048x1 .f32) (ix3 h q 0)
    = z (ix3 h q 0) + Ideal.log (∑ k, Ideal.exp (y (ix3 h q k) - z (ix3 h q 0))) := by
  pointwise

theorem lse_at : (V m c main_v67 : FVec Ideal S8x2048x1 .f32) (ix3 h q 0)
    = lse (sees q) (sc (a0 m c) (a1 m c) (a2 m c) (a3 m c) h q) (top (a0 m c) (a1 m c) (a2 m c) (a3 m c) h q) := by
  rw [V_lse]
  refine (lse_read h q _ _).trans ?_
  rw [rowMax_at]
  unfold lse den ex
  simp only [v22_at]

end Cert.AttnHost

end
-- ==== Proof.AttnRows.lean ====
/-
  A scratch of 2048 rows kept in four blocks of 512: writing one block of rows, and reading one.
-/
module

public import proofs.«01_k».proof.Proof.Gen.KernelIdeal.Frame.Runs
public import proofs.«01_k».proof.Proof.AttnMath
public import Idealize.ShloMosaic.Lib.WritesUnit
public import Idealize.ShloMosaic.Lib.Pipeline.Value
public import Idealize.ShloMosaic.Lib.Pipeline.ReadBack

@[expose] public section

set_option maxRecDepth 16384

noncomputable section

namespace Cert.AttnCases

open Cert.KernelIdeal Cert.KernelIdeal.Gen Cert.AttnMath
open Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

variable {α : Type} {n : ℕ}

/-- The array `X` with rows `512 i` to `512 i + 511` replaced by `w`. -/
def putRows (X : (⟨2, ![2048, n]⟩ : Shape).Idx → α) (i : ℕ) (w : (⟨2, ![512, n]⟩ : Shape).Idx → α) :
    (⟨2, ![2048, n]⟩ : Shape).Idx → α := fun y =>
  if (y 0).val / 512 = i then w (ix2 ⟨(y 0).val % 512, Nat.mod_lt _ (by decide)⟩ (y 1)) else X y

/-- Rows `512 i` to `512 i + 511` of `X`. -/
def rowsOf (X : (⟨2, ![2048, n]⟩ : Shape).Idx → α) (i : Fin 4) : (⟨2, ![512, n]⟩ : Shape).Idx → α := fun x =>
  X (ix2 (at4 i (x 0)) (x 1))

theorem putRows_at (X : (⟨2, ![2048, n]⟩ : Shape).Idx → α) (i : ℕ) (w : (⟨2, ![512, n]⟩ : Shape).Idx → α) (b : Fin 4)
    (r : Fin 512) (d : Fin n) :
    putRows X i w (ix2 (at4 b r) d) = if b.val = i then w (ix2 r d) else X (ix2 (at4 b r) d) := by
  unfold putRows
  have h1 : (512 * b.val + r.val) / 512 = b.val := by omega
  have h2 : (512 * b.val + r.val) % 512 = r.val := by omega
  show (if (512 * b.val + r.val) / 512 = i then w (ix2 ⟨(512 * b.val + r.val) % 512, _⟩ d) else _) = _
  simp only [h1, h2]

variable {sig : RefSig} {κ : Kind} {sp : Space} {e : EltTy} {Val : EltTy → Type}

theorem read_putRows (v : View sig κ sp (⟨2, ![2048, n]⟩ : Shape) e) (f : v.ty.Contents Val) (i : ℕ) {off : Fin 2 → ℕ}
    (ho : off = ![512 * i, 0]) (inb : ∀ a : Fin 2, off a + (![512, n] : Fin 2 → ℕ) a ≤ (![2048, n] : Fin 2 → ℕ) a)
    (w : (⟨2, ![512, n]⟩ : Shape).Idx → Val e) (L : List (View.Piece Val (⟨2, ![2048, n]⟩ : Shape) e)) :
    v.read Val (v.writes Val f ((⟨Rect.unit (s := ⟨2, ![2048, n]⟩) off ![512, n] inb, w⟩ : View.Piece Val _ e) :: L)) =
      putRows (v.read Val (v.writes Val f L)) i w := by
  funext y
  by_cases h : (y 0).val / 512 = i
  · refine (View.read_writes_cons_rows_of_mem v f inb w L y
      (ix2 ⟨(y 0).val % 512, Nat.mod_lt _ (by decide)⟩ (y 1)) ho ?_ rfl).trans ?_
    · show (y 0).val = 512 * i + (y 0).val % 512
      omega
    · exact (if_pos h).symm
  · refine (View.read_writes_cons_rows_of_not_mem (W := 512) v f inb w L y ho rfl ?_).trans ?_
    · omega
    · exact (if_neg h).symm

theorem ld_rows (X : (⟨2, ![2048, n]⟩ : Shape).Idx → Val e) (i : Fin 4) {off : Fin 2 → ℕ} (ho : off = ![512 * i.val, 0])
    (inb : ∀ a : Fin 2, off a + (![512, n] : Fin 2 → ℕ) a ≤ (![2048, n] : Fin 2 → ℕ) a) :
    View.ld X (Rect.unit (s := ⟨2, ![2048, n]⟩) off ![512, n] inb) = rowsOf X i := by
  subst ho
  funext x
  show X _ = X _
  congr 1
  funext a; apply Fin.ext
  match a with
  | ⟨0, _⟩ => show 512 * i.val + 1 * (x 0).val = 512 * i.val + (x 0).val; omega
  | ⟨1, _⟩ => show 0 + 1 * (x 1).val = (x 1).val; omega

theorem read_whole {S : Shape} [∀ e, Nonempty (Val e)] (v : View sig κ sp S e) (f : v.ty.Contents Val) {off : Fin S.rank → Nat}
    (h : off = fun _ => 0) (inb : ∀ a, off a + S.size a ≤ S.size a) (w : S.Idx → Val e) :
    v.read Val (v.writes Val f [⟨Rect.unit off S.size inb, w⟩]) = w := by
  refine (View.read_writes_eq_canon _ _ _ (fun y => ⟨_, List.mem_singleton.mpr rfl, ?_⟩)).trans (View.canon_unit_zero h _ _)
  rw [Rect.mem_set_unit]
  subst h
  intro a
  exact ⟨Nat.zero_le _, by have := (y a).isLt; omega⟩

/-- Two blocks of 128 columns side by side. -/
def cat (a b : (⟨2, ![512, 128]⟩ : Shape).Idx → α) : (⟨2, ![512, 256]⟩ : Shape).Idx → α := fun y =>
  if h : (y 1).val < 128 then a (ix2 (y 0) ⟨(y 1).val, h⟩)
  else b (ix2 (y 0) ⟨(y 1).val - 128, by have : (y 1).val < 256 := (y 1).isLt; omega⟩)

theorem read_cat (v : View sig κ sp (⟨2, ![512, 256]⟩ : Shape) e) (f : v.ty.Contents Val) (a b : (⟨2, ![512, 128]⟩ : Shape).Idx → Val e)
    (inb1 : ∀ a : Fin 2, (![0, 128] : Fin 2 → ℕ) a + (![512, 128] : Fin 2 → ℕ) a ≤ (![512, 256] : Fin 2 → ℕ) a)
    (inb0 : ∀ a : Fin 2, (![0, 0] : Fin 2 → ℕ) a + (![512, 128] : Fin 2 → ℕ) a ≤ (![512, 256] : Fin 2 → ℕ) a) :
    v.read Val (v.writes Val f [(⟨Rect.unit (s := ⟨2, ![512, 256]⟩) ![0, 128] ![512, 128] inb1, b⟩ : View.Piece Val _ e),
      ⟨Rect.unit (s := ⟨2, ![512, 256]⟩) ![0, 0] ![512, 128] inb0, a⟩]) = cat a b := by
  funext y
  by_cases h : (y 1).val < 128
  · refine (View.read_writes_cons_unit_of_not_mem v f inb1 b _ y rfl (1 : Fin 2) (Or.inl h)).trans ?_
    refine (View.read_writes_cons_unit_of_mem v f inb0 a [] y (ix2 (y 0) ⟨(y 1).val, h⟩) rfl ?_).trans ?_
    · exact Fin.forall_fin_two.mpr ⟨(Nat.zero_add _).symm, (Nat.zero_add _).symm⟩
    · unfold cat; rw [dif_pos h]
  · refine (View.read_writes_cons_unit_of_mem v f inb1 b _ y
      (ix2 (y 0) ⟨(y 1).val - 128, by have : (y 1).val < 256 := (y 1).isLt; omega⟩) rfl ?_).trans ?_
    · refine Fin.forall_fin_two.mpr ⟨(Nat.zero_add _).symm, ?_⟩
      show (y 1).val = 128 + ((y 1).val - 128)
      omega
    · unfold cat; rw [dif_neg h]

theorem cat_lo (a b : (⟨2, ![512, 128]⟩ : Shape).Idx → α) (r : Fin 512) (d : Fin 128) :
    cat a b (ix2 r ⟨d.val, by omega⟩) = a (ix2 r d) := dif_pos (show d.val < 128 from d.isLt)

theorem cat_hi (a b : (⟨2, ![512, 128]⟩ : Shape).Idx → α) (r : Fin 512) (d : Fin 128) :
    cat a b (ix2 r ⟨128 + d.val, by omega⟩) = b (ix2 r d) := by
  refine (dif_neg (show ¬128 + d.val < 128 by omega)).trans ?_
  show b (ix2 r ⟨128 + d.val - 128, _⟩) = _
  simp only [Nat.add_sub_cancel_left]

end Cert.AttnCases

end
-- ==== Proof.AttnCases.lean ====
/-
  What one grid point of the gradient kernel leaves in its five scratch blocks and in the blocks it writes back, as one
  expression over what the point before left, for each of the seven ways the kernel's guards can fall.
-/
module

public import proofs.«01_k».proof.Proof.Gen.KernelIdeal.Frame
public import proofs.«01_k».proof.Proof.AttnRows
public import proofs.«01_k».proof.Proof.AttnBlocks

@[expose] public section

set_option maxRecDepth 16384

noncomputable section

namespace Cert.AttnCases

open Cert.KernelIdeal Cert.KernelIdeal.Gen Cert.AttnMath Cert.AttnBlocks
open Idealize.ShloMosaic Idealize.ShloMosaic.TcCoe Idealize.SL.Sem

theorem hoff : ∀ t : Fin cfg0.N,
    (![BitVec.toNat (Scalar.indexCast (Scalar.muli (BitVec.ofNat 32 (grid0.coords t 2).val) 512#32)), 0] : Fin 2 → ℕ)
      = ![512 * (ii t).val, 0] := by
  have h : ∀ t : Fin cfg0.N, BitVec.toNat (Scalar.indexCast (Scalar.muli (BitVec.ofNat 32 (grid0.coords t 2).val) 512#32))
      = 512 * (ii t).val := by decide +kernel
  intro t
  rw [h t]

variable {F : FTy → Type} [FloatOps F] [Named F]
variable (m : (ℓ : Loc nD τ sig) → Buf (Elt F) ℓ) (c : Dev nD) (t : Fin cfg0.N)

theorem ld_rows128 (X : Vec F S2048x128 .f32) (i : Fin 4) {off : Fin 2 → ℕ} (ho : off = ![512 * i.val, 0])
    (inb : ∀ a : Fin 2, off a + (![512, 128] : Fin 2 → ℕ) a ≤ S2048x128.size a) :
    View.ld (S := S2048x128) X (Rect.unit (s := S2048x128) off ![512, 128] inb) = rowsOf X i := ld_rows X i ho inb

theorem ld_rows64 (X : Vec F S2048x64 .f32) (i : Fin 4) {off : Fin 2 → ℕ} (ho : off = ![512 * i.val, 0])
    (inb : ∀ a : Fin 2, off a + (![512, 64] : Fin 2 → ℕ) a ≤ S2048x64.size a) :
    View.ld (S := S2048x64) X (Rect.unit (s := S2048x64) off ![512, 64] inb) = rowsOf X i := ld_rows X i ho inb

/-- What the grid point before `t` left. -/
abbrev bef := outsAt0 m c (t.val - 1) (Nat.lt_of_le_of_lt (Nat.sub_le _ _) t.isLt)

/-- The weights and the row sums of a block below the diagonal, and of a block on it. -/
def pO : FVec F S512x512 .f32 := k0_pay15 (iblk m c 0 t) (iblk m c 2 t) (iblk m c 1 t) (iblk m c 4 t) (iblk m c 6 t)
def dO : FVec F S512x1 .f32 := k0_pay16 (iblk m c 7 t) (iblk m c 5 t)
def pD : FVec F S512x512 .f32 := k0_pay23 (iblk m c 0 t) (iblk m c 2 t) (iblk m c 1 t) (iblk m c 4 t) (iblk m c 6 t)
def dD : FVec F S512x128 .f32 := k0_pay24 (iblk m c 7 t) (iblk m c 5 t)

set_option maxHeartbeats 1000000 in
theorem A_0 (h0 : t.val % 16 = 0) (h1 : t.val % 4 = 0) (h2 : ¬t.val / 4 % 4 + 1 ≤ t.val % 4) (h3 : t.val / 4 % 4 = t.val % 4) (h4 : ¬t.val % 4 = 3) (h5 : ¬t.val % 16 = 15) :
    (outsAt0 m c t.val t.isLt).2.2.2.2.1 = putRows k0_pay1 (ii t).val (k0_pay7 (rowsOf k0_pay1 (ii t)) (k0_pay29 (iblk m c 2 t) (iblk m c 7 t) (pD m c t) (dD m c t) (iblk m c 3 t))) := by
  rw [outsAt0_A m c t h0 h1 h2 h3 h4 h5]
  dsimp only
  unfold sout0_A_0
  unfold kernelRun0_A; dsimp only; sl_unfold_words
  refine (read_putRows _ _ (ii t).val (hoff t) _ _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, View.ld_unit_zero (S := S2048x128) hz2, ld_rows128 _ (ii t) (hoff t), read_whole (S := S2048x128) _ _ hz2, pD, dD]
  exact congrArg (fun z => putRows _ _ (k0_pay7 z _)) (ld_rows128 _ (ii t) (hoff t) _)

set_option maxHeartbeats 1000000 in
theorem A_1 (h0 : t.val % 16 = 0) (h1 : t.val % 4 = 0) (h2 : ¬t.val / 4 % 4 + 1 ≤ t.val % 4) (h3 : t.val / 4 % 4 = t.val % 4) (h4 : ¬t.val % 4 = 3) (h5 : ¬t.val % 16 = 15) :
    (outsAt0 m c t.val t.isLt).2.2.2.2.2.1 = putRows k0_pay2 (ii t).val (k0_pay8 (iblk m c 4 t) (k0_pay25 (iblk m c 7 t) (pD m c t) (dD m c t) (iblk m c 3 t)) (rowsOf k0_pay2 (ii t))) := by
  rw [outsAt0_A m c t h0 h1 h2 h3 h4 h5]
  dsimp only
  unfold sout0_A_1
  unfold kernelRun0_A; dsimp only; sl_unfold_words
  refine (read_putRows _ _ (ii t).val (hoff t) _ _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, View.ld_unit_zero (S := S2048x64) hz2, ld_rows64 _ (ii t) (hoff t), read_whole (S := S2048x64) _ _ hz2, pD, dD]
  exact congrArg (fun z => putRows _ _ (k0_pay8 _ _ z)) (ld_rows64 _ (ii t) (hoff t) _)

set_option maxHeartbeats 1000000 in
theorem A_2 (h0 : t.val % 16 = 0) (h1 : t.val % 4 = 0) (h2 : ¬t.val / 4 % 4 + 1 ≤ t.val % 4) (h3 : t.val / 4 % 4 = t.val % 4) (h4 : ¬t.val % 4 = 3) (h5 : ¬t.val % 16 = 15) :
    (outsAt0 m c t.val t.isLt).2.2.2.2.2.2.1 = k0_pay27 (iblk m c 0 t) (iblk m c 7 t) (pD m c t) (dD m c t) (iblk m c 3 t) k0_pay3 := by
  rw [outsAt0_A m c t h0 h1 h2 h3 h4 h5]
  dsimp only
  unfold sout0_A_2
  refine (View.read_writes_eq_canon _ _ _ fun y => scover0_A_2 ..).trans ?_
  unfold kernelRun0_A; dsimp only; sl_unfold_words
  refine (View.canon_cons_unit_zero (S := S512x128) hz2 _ _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, View.readCov_unit_zero (S := S512x128) _ hz2, pD, dD]

set_option maxHeartbeats 1000000 in
theorem A_3 (h0 : t.val % 16 = 0) (h1 : t.val % 4 = 0) (h2 : ¬t.val / 4 % 4 + 1 ≤ t.val % 4) (h3 : t.val / 4 % 4 = t.val % 4) (h4 : ¬t.val % 4 = 3) (h5 : ¬t.val % 16 = 15) :
    (outsAt0 m c t.val t.isLt).2.2.2.2.2.2.2.1 = k0_pay26 (iblk m c 7 t) (pD m c t) k0_pay4 := by
  rw [outsAt0_A m c t h0 h1 h2 h3 h4 h5]
  dsimp only
  unfold sout0_A_3
  refine (View.read_writes_eq_canon _ _ _ fun y => scover0_A_3 ..).trans ?_
  unfold kernelRun0_A; dsimp only; sl_unfold_words
  refine (View.canon_cons_unit_zero (S := S512x128) hz2 _ _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, View.readCov_unit_zero (S := S512x128) _ hz2, pD, dD]

set_option maxHeartbeats 1000000 in
theorem A_4 (h0 : t.val % 16 = 0) (h1 : t.val % 4 = 0) (h2 : ¬t.val / 4 % 4 + 1 ≤ t.val % 4) (h3 : t.val / 4 % 4 = t.val % 4) (h4 : ¬t.val % 4 = 3) (h5 : ¬t.val % 16 = 15) :
    (outsAt0 m c t.val t.isLt).2.2.2.2.2.2.2.2 = k0_pay28 (k0_pay22 (iblk m c 1 t)) (iblk m c 7 t) (pD m c t) (dD m c t) (iblk m c 3 t) k0_pay5 := by
  rw [outsAt0_A m c t h0 h1 h2 h3 h4 h5]
  dsimp only
  unfold sout0_A_4
  refine (View.read_writes_eq_canon _ _ _ fun y => scover0_A_4 ..).trans ?_
  unfold kernelRun0_A; dsimp only; sl_unfold_words
  refine (View.canon_cons_unit_zero (S := S512x64) hz2 _ _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, View.readCov_unit_zero (S := S512x64) _ hz2, pD, dD]

set_option maxHeartbeats 1000000 in
theorem B_0 (h0 : ¬t.val % 16 = 0) (h1 : ¬t.val % 4 = 0) (h2 : t.val / 4 % 4 + 1 ≤ t.val % 4) (h3 : ¬t.val / 4 % 4 = t.val % 4) (h4 : ¬t.val % 4 = 3) (h5 : ¬t.val % 16 = 15) :
    (outsAt0 m c t.val t.isLt).2.2.2.2.1 = putRows (bef m c t).2.2.2.2.1 (ii t).val (k0_pay21 (iblk m c 2 t) (iblk m c 7 t) (pO m c t) (dO m c t) (iblk m c 3 t) (rowsOf (bef m c t).2.2.2.2.1 (ii t))) := by
  rw [outsAt0_B m c t h0 h1 h2 h3 h4 h5]
  dsimp only
  unfold sout0_B_0
  unfold kernelRun0_B; dsimp only; sl_unfold_words
  refine (read_putRows _ _ (ii t).val (hoff t) _ _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, View.ld_unit_zero (S := S2048x128) hz2, ld_rows128 _ (ii t) (hoff t), View.writes, pO, dO]
  exact congrArg (fun z => putRows _ _ (k0_pay21 _ _ _ _ _ z)) (ld_rows128 _ (ii t) (hoff t) _)

set_option maxHeartbeats 1000000 in
theorem B_1 (h0 : ¬t.val % 16 = 0) (h1 : ¬t.val % 4 = 0) (h2 : t.val / 4 % 4 + 1 ≤ t.val % 4) (h3 : ¬t.val / 4 % 4 = t.val % 4) (h4 : ¬t.val % 4 = 3) (h5 : ¬t.val % 16 = 15) :
    (outsAt0 m c t.val t.isLt).2.2.2.2.2.1 = putRows (bef m c t).2.2.2.2.2.1 (ii t).val (k0_pay6 (iblk m c 4 t) (k0_pay17 (iblk m c 7 t) (pO m c t) (dO m c t) (iblk m c 3 t)) (rowsOf (bef m c t).2.2.2.2.2.1 (ii t))) := by
  rw [outsAt0_B m c t h0 h1 h2 h3 h4 h5]
  dsimp only
  unfold sout0_B_1
  unfold kernelRun0_B; dsimp only; sl_unfold_words
  refine (read_putRows _ _ (ii t).val (hoff t) _ _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, View.ld_unit_zero (S := S2048x64) hz2, ld_rows64 _ (ii t) (hoff t), View.writes, pO, dO]
  exact congrArg (fun z => putRows _ _ (k0_pay6 _ _ z)) (ld_rows64 _ (ii t) (hoff t) _)

set_option maxHeartbeats 1000000 in
theorem B_2 (h0 : ¬t.val % 16 = 0) (h1 : ¬t.val % 4 = 0) (h2 : t.val / 4 % 4 + 1 ≤ t.val % 4) (h3 : ¬t.val / 4 % 4 = t.val % 4) (h4 : ¬t.val % 4 = 3) (h5 : ¬t.val % 16 = 15) :
    (outsAt0 m c t.val t.isLt).2.2.2.2.2.2.1 = k0_pay19 (iblk m c 0 t) (iblk m c 7 t) (pO m c t) (dO m c t) (iblk m c 3 t) (bef m c t).2.2.2.2.2.2.1 := by
  rw [outsAt0_B m c t h0 h1 h2 h3 h4 h5]
  dsimp only
  unfold sout0_B_2
  refine (View.read_writes_eq_canon _ _ _ fun y => scover0_B_2 ..).trans ?_
  unfold kernelRun0_B; dsimp only; sl_unfold_words
  refine (View.canon_unit_zero (S := S512x128) hz2 _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, pO, dO]

set_option maxHeartbeats 1000000 in
theorem B_3 (h0 : ¬t.val % 16 = 0) (h1 : ¬t.val % 4 = 0) (h2 : t.val / 4 % 4 + 1 ≤ t.val % 4) (h3 : ¬t.val / 4 % 4 = t.val % 4) (h4 : ¬t.val % 4 = 3) (h5 : ¬t.val % 16 = 15) :
    (outsAt0 m c t.val t.isLt).2.2.2.2.2.2.2.1 = k0_pay18 (iblk m c 7 t) (pO m c t) (bef m c t).2.2.2.2.2.2.2.1 := by
  rw [outsAt0_B m c t h0 h1 h2 h3 h4 h5]
  dsimp only
  unfold sout0_B_3
  refine (View.read_writes_eq_canon _ _ _ fun y => scover0_B_3 ..).trans ?_
  unfold kernelRun0_B; dsimp only; sl_unfold_words
  refine (View.canon_unit_zero (S := S512x128) hz2 _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, pO, dO]

set_option maxHeartbeats 1000000 in
theorem B_4 (h0 : ¬t.val % 16 = 0) (h1 : ¬t.val % 4 = 0) (h2 : t.val / 4 % 4 + 1 ≤ t.val % 4) (h3 : ¬t.val / 4 % 4 = t.val % 4) (h4 : ¬t.val % 4 = 3) (h5 : ¬t.val % 16 = 15) :
    (outsAt0 m c t.val t.isLt).2.2.2.2.2.2.2.2 = k0_pay20 (k0_pay14 (iblk m c 1 t)) (iblk m c 7 t) (pO m c t) (dO m c t) (iblk m c 3 t) (bef m c t).2.2.2.2.2.2.2.2 := by
  rw [outsAt0_B m c t h0 h1 h2 h3 h4 h5]
  dsimp only
  unfold sout0_B_4
  refine (View.read_writes_eq_canon _ _ _ fun y => scover0_B_4 ..).trans ?_
  unfold kernelRun0_B; dsimp only; sl_unfold_words
  refine (View.canon_unit_zero (S := S512x64) hz2 _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, pO, dO]

set_option maxHeartbeats 1000000 in
theorem C_0 (h0 : ¬t.val % 16 = 0) (h1 : ¬t.val % 4 = 0) (h2 : t.val / 4 % 4 + 1 ≤ t.val % 4) (h3 : ¬t.val / 4 % 4 = t.val % 4) (h4 : t.val % 4 = 3) (h5 : ¬t.val % 16 = 15) :
    (outsAt0 m c t.val t.isLt).2.2.2.2.1 = putRows (bef m c t).2.2.2.2.1 (ii t).val (k0_pay21 (iblk m c 2 t) (iblk m c 7 t) (pO m c t) (dO m c t) (iblk m c 3 t) (rowsOf (bef m c t).2.2.2.2.1 (ii t))) := by
  rw [outsAt0_C m c t h0 h1 h2 h3 h4 h5]
  dsimp only
  unfold sout0_C_0
  unfold kernelRun0_C; dsimp only; sl_unfold_words
  refine (read_putRows _ _ (ii t).val (hoff t) _ _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, View.ld_unit_zero (S := S2048x128) hz2, ld_rows128 _ (ii t) (hoff t), View.writes, pO, dO]
  exact congrArg (fun z => putRows _ _ (k0_pay21 _ _ _ _ _ z)) (ld_rows128 _ (ii t) (hoff t) _)

set_option maxHeartbeats 1000000 in
theorem C_1 (h0 : ¬t.val % 16 = 0) (h1 : ¬t.val % 4 = 0) (h2 : t.val / 4 % 4 + 1 ≤ t.val % 4) (h3 : ¬t.val / 4 % 4 = t.val % 4) (h4 : t.val % 4 = 3) (h5 : ¬t.val % 16 = 15) :
    (outsAt0 m c t.val t.isLt).2.2.2.2.2.1 = putRows (bef m c t).2.2.2.2.2.1 (ii t).val (k0_pay6 (iblk m c 4 t) (k0_pay17 (iblk m c 7 t) (pO m c t) (dO m c t) (iblk m c 3 t)) (rowsOf (bef m c t).2.2.2.2.2.1 (ii t))) := by
  rw [outsAt0_C m c t h0 h1 h2 h3 h4 h5]
  dsimp only
  unfold sout0_C_1
  unfold kernelRun0_C; dsimp only; sl_unfold_words
  refine (read_putRows _ _ (ii t).val (hoff t) _ _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, View.ld_unit_zero (S := S2048x64) hz2, ld_rows64 _ (ii t) (hoff t), View.writes, pO, dO]
  exact congrArg (fun z => putRows _ _ (k0_pay6 _ _ z)) (ld_rows64 _ (ii t) (hoff t) _)

set_option maxHeartbeats 1000000 in
theorem C_2 (h0 : ¬t.val % 16 = 0) (h1 : ¬t.val % 4 = 0) (h2 : t.val / 4 % 4 + 1 ≤ t.val % 4) (h3 : ¬t.val / 4 % 4 = t.val % 4) (h4 : t.val % 4 = 3) (h5 : ¬t.val % 16 = 15) :
    (outsAt0 m c t.val t.isLt).2.2.2.2.2.2.1 = k0_pay19 (iblk m c 0 t) (iblk m c 7 t) (pO m c t) (dO m c t) (iblk m c 3 t) (bef m c t).2.2.2.2.2.2.1 := by
  rw [outsAt0_C m c t h0 h1 h2 h3 h4 h5]
  dsimp only
  unfold sout0_C_2
  refine (View.read_writes_eq_canon _ _ _ fun y => scover0_C_2 ..).trans ?_
  unfold kernelRun0_C; dsimp only; sl_unfold_words
  refine (View.canon_unit_zero (S := S512x128) hz2 _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, pO, dO]

set_option maxHeartbeats 1000000 in
theorem C_3 (h0 : ¬t.val % 16 = 0) (h1 : ¬t.val % 4 = 0) (h2 : t.val / 4 % 4 + 1 ≤ t.val % 4) (h3 : ¬t.val / 4 % 4 = t.val % 4) (h4 : t.val % 4 = 3) (h5 : ¬t.val % 16 = 15) :
    (outsAt0 m c t.val t.isLt).2.2.2.2.2.2.2.1 = k0_pay18 (iblk m c 7 t) (pO m c t) (bef m c t).2.2.2.2.2.2.2.1 := by
  rw [outsAt0_C m c t h0 h1 h2 h3 h4 h5]
  dsimp only
  unfold sout0_C_3
  refine (View.read_writes_eq_canon _ _ _ fun y => scover0_C_3 ..).trans ?_
  unfold kernelRun0_C; dsimp only; sl_unfold_words
  refine (View.canon_unit_zero (S := S512x128) hz2 _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, pO, dO]

set_option maxHeartbeats 1000000 in
theorem C_4 (h0 : ¬t.val % 16 = 0) (h1 : ¬t.val % 4 = 0) (h2 : t.val / 4 % 4 + 1 ≤ t.val % 4) (h3 : ¬t.val / 4 % 4 = t.val % 4) (h4 : t.val % 4 = 3) (h5 : ¬t.val % 16 = 15) :
    (outsAt0 m c t.val t.isLt).2.2.2.2.2.2.2.2 = k0_pay20 (k0_pay14 (iblk m c 1 t)) (iblk m c 7 t) (pO m c t) (dO m c t) (iblk m c 3 t) (bef m c t).2.2.2.2.2.2.2.2 := by
  rw [outsAt0_C m c t h0 h1 h2 h3 h4 h5]
  dsimp only
  unfold sout0_C_4
  refine (View.read_writes_eq_canon _ _ _ fun y => scover0_C_4 ..).trans ?_
  unfold kernelRun0_C; dsimp only; sl_unfold_words
  refine (View.canon_unit_zero (S := S512x64) hz2 _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, pO, dO]

set_option maxHeartbeats 1000000 in
theorem D_0 (h0 : ¬t.val % 16 = 0) (h1 : t.val % 4 = 0) (h2 : ¬t.val / 4 % 4 + 1 ≤ t.val % 4) (h3 : ¬t.val / 4 % 4 = t.val % 4) (h4 : ¬t.val % 4 = 3) (h5 : ¬t.val % 16 = 15) :
    (outsAt0 m c t.val t.isLt).2.2.2.2.1 = (bef m c t).2.2.2.2.1 := by
  rw [outsAt0_D m c t h0 h1 h2 h3 h4 h5]
  rfl

set_option maxHeartbeats 1000000 in
theorem D_1 (h0 : ¬t.val % 16 = 0) (h1 : t.val % 4 = 0) (h2 : ¬t.val / 4 % 4 + 1 ≤ t.val % 4) (h3 : ¬t.val / 4 % 4 = t.val % 4) (h4 : ¬t.val % 4 = 3) (h5 : ¬t.val % 16 = 15) :
    (outsAt0 m c t.val t.isLt).2.2.2.2.2.1 = (bef m c t).2.2.2.2.2.1 := by
  rw [outsAt0_D m c t h0 h1 h2 h3 h4 h5]
  rfl

set_option maxHeartbeats 1000000 in
theorem D_2 (h0 : ¬t.val % 16 = 0) (h1 : t.val % 4 = 0) (h2 : ¬t.val / 4 % 4 + 1 ≤ t.val % 4) (h3 : ¬t.val / 4 % 4 = t.val % 4) (h4 : ¬t.val % 4 = 3) (h5 : ¬t.val % 16 = 15) :
    (outsAt0 m c t.val t.isLt).2.2.2.2.2.2.1 = k0_pay3 := by
  rw [outsAt0_D m c t h0 h1 h2 h3 h4 h5]
  dsimp only
  unfold sout0_D_2
  refine (View.read_writes_eq_canon _ _ _ fun y => scover0_D_2 ..).trans ?_
  unfold kernelRun0_D; dsimp only; sl_unfold_words
  exact View.canon_unit_zero (S := S512x128) hz2 _ _

set_option maxHeartbeats 1000000 in
theorem D_3 (h0 : ¬t.val % 16 = 0) (h1 : t.val % 4 = 0) (h2 : ¬t.val / 4 % 4 + 1 ≤ t.val % 4) (h3 : ¬t.val / 4 % 4 = t.val % 4) (h4 : ¬t.val % 4 = 3) (h5 : ¬t.val % 16 = 15) :
    (outsAt0 m c t.val t.isLt).2.2.2.2.2.2.2.1 = k0_pay4 := by
  rw [outsAt0_D m c t h0 h1 h2 h3 h4 h5]
  dsimp only
  unfold sout0_D_3
  refine (View.read_writes_eq_canon _ _ _ fun y => scover0_D_3 ..).trans ?_
  unfold kernelRun0_D; dsimp only; sl_unfold_words
  exact View.canon_unit_zero (S := S512x128) hz2 _ _

set_option maxHeartbeats 1000000 in
theorem D_4 (h0 : ¬t.val % 16 = 0) (h1 : t.val % 4 = 0) (h2 : ¬t.val / 4 % 4 + 1 ≤ t.val % 4) (h3 : ¬t.val / 4 % 4 = t.val % 4) (h4 : ¬t.val % 4 = 3) (h5 : ¬t.val % 16 = 15) :
    (outsAt0 m c t.val t.isLt).2.2.2.2.2.2.2.2 = k0_pay5 := by
  rw [outsAt0_D m c t h0 h1 h2 h3 h4 h5]
  dsimp only
  unfold sout0_D_4
  refine (View.read_writes_eq_canon _ _ _ fun y => scover0_D_4 ..).trans ?_
  unfold kernelRun0_D; dsimp only; sl_unfold_words
  exact View.canon_unit_zero (S := S512x64) hz2 _ _

set_option maxHeartbeats 1000000 in
theorem E_0 (h0 : ¬t.val % 16 = 0) (h1 : ¬t.val % 4 = 0) (h2 : ¬t.val / 4 % 4 + 1 ≤ t.val % 4) (h3 : t.val / 4 % 4 = t.val % 4) (h4 : ¬t.val % 4 = 3) (h5 : ¬t.val % 16 = 15) :
    (outsAt0 m c t.val t.isLt).2.2.2.2.1 = putRows (bef m c t).2.2.2.2.1 (ii t).val (k0_pay7 (rowsOf (bef m c t).2.2.2.2.1 (ii t)) (k0_pay29 (iblk m c 2 t) (iblk m c 7 t) (pD m c t) (dD m c t) (iblk m c 3 t))) := by
  rw [outsAt0_E m c t h0 h1 h2 h3 h4 h5]
  dsimp only
  unfold sout0_E_0
  unfold kernelRun0_E; dsimp only; sl_unfold_words
  refine (read_putRows _ _ (ii t).val (hoff t) _ _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, View.ld_unit_zero (S := S2048x128) hz2, ld_rows128 _ (ii t) (hoff t), View.writes, pD, dD]
  exact congrArg (fun z => putRows _ _ (k0_pay7 z _)) (ld_rows128 _ (ii t) (hoff t) _)

set_option maxHeartbeats 1000000 in
theorem E_1 (h0 : ¬t.val % 16 = 0) (h1 : ¬t.val % 4 = 0) (h2 : ¬t.val / 4 % 4 + 1 ≤ t.val % 4) (h3 : t.val / 4 % 4 = t.val % 4) (h4 : ¬t.val % 4 = 3) (h5 : ¬t.val % 16 = 15) :
    (outsAt0 m c t.val t.isLt).2.2.2.2.2.1 = putRows (bef m c t).2.2.2.2.2.1 (ii t).val (k0_pay8 (iblk m c 4 t) (k0_pay25 (iblk m c 7 t) (pD m c t) (dD m c t) (iblk m c 3 t)) (rowsOf (bef m c t).2.2.2.2.2.1 (ii t))) := by
  rw [outsAt0_E m c t h0 h1 h2 h3 h4 h5]
  dsimp only
  unfold sout0_E_1
  unfold kernelRun0_E; dsimp only; sl_unfold_words
  refine (read_putRows _ _ (ii t).val (hoff t) _ _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, View.ld_unit_zero (S := S2048x64) hz2, ld_rows64 _ (ii t) (hoff t), View.writes, pD, dD]
  exact congrArg (fun z => putRows _ _ (k0_pay8 _ _ z)) (ld_rows64 _ (ii t) (hoff t) _)

set_option maxHeartbeats 1000000 in
theorem E_2 (h0 : ¬t.val % 16 = 0) (h1 : ¬t.val % 4 = 0) (h2 : ¬t.val / 4 % 4 + 1 ≤ t.val % 4) (h3 : t.val / 4 % 4 = t.val % 4) (h4 : ¬t.val % 4 = 3) (h5 : ¬t.val % 16 = 15) :
    (outsAt0 m c t.val t.isLt).2.2.2.2.2.2.1 = k0_pay27 (iblk m c 0 t) (iblk m c 7 t) (pD m c t) (dD m c t) (iblk m c 3 t) (bef m c t).2.2.2.2.2.2.1 := by
  rw [outsAt0_E m c t h0 h1 h2 h3 h4 h5]
  dsimp only
  unfold sout0_E_2
  refine (View.read_writes_eq_canon _ _ _ fun y => scover0_E_2 ..).trans ?_
  unfold kernelRun0_E; dsimp only; sl_unfold_words
  refine (View.canon_unit_zero (S := S512x128) hz2 _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, pD, dD]

set_option maxHeartbeats 1000000 in
theorem E_3 (h0 : ¬t.val % 16 = 0) (h1 : ¬t.val % 4 = 0) (h2 : ¬t.val / 4 % 4 + 1 ≤ t.val % 4) (h3 : t.val / 4 % 4 = t.val % 4) (h4 : ¬t.val % 4 = 3) (h5 : ¬t.val % 16 = 15) :
    (outsAt0 m c t.val t.isLt).2.2.2.2.2.2.2.1 = k0_pay26 (iblk m c 7 t) (pD m c t) (bef m c t).2.2.2.2.2.2.2.1 := by
  rw [outsAt0_E m c t h0 h1 h2 h3 h4 h5]
  dsimp only
  unfold sout0_E_3
  refine (View.read_writes_eq_canon _ _ _ fun y => scover0_E_3 ..).trans ?_
  unfold kernelRun0_E; dsimp only; sl_unfold_words
  refine (View.canon_unit_zero (S := S512x128) hz2 _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, pD, dD]

set_option maxHeartbeats 1000000 in
theorem E_4 (h0 : ¬t.val % 16 = 0) (h1 : ¬t.val % 4 = 0) (h2 : ¬t.val / 4 % 4 + 1 ≤ t.val % 4) (h3 : t.val / 4 % 4 = t.val % 4) (h4 : ¬t.val % 4 = 3) (h5 : ¬t.val % 16 = 15) :
    (outsAt0 m c t.val t.isLt).2.2.2.2.2.2.2.2 = k0_pay28 (k0_pay22 (iblk m c 1 t)) (iblk m c 7 t) (pD m c t) (dD m c t) (iblk m c 3 t) (bef m c t).2.2.2.2.2.2.2.2 := by
  rw [outsAt0_E m c t h0 h1 h2 h3 h4 h5]
  dsimp only
  unfold sout0_E_4
  refine (View.read_writes_eq_canon _ _ _ fun y => scover0_E_4 ..).trans ?_
  unfold kernelRun0_E; dsimp only; sl_unfold_words
  refine (View.canon_unit_zero (S := S512x64) hz2 _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, pD, dD]

set_option maxHeartbeats 1000000 in
theorem F_0 (h0 : ¬t.val % 16 = 0) (h1 : ¬t.val % 4 = 0) (h2 : ¬t.val / 4 % 4 + 1 ≤ t.val % 4) (h3 : ¬t.val / 4 % 4 = t.val % 4) (h4 : ¬t.val % 4 = 3) (h5 : ¬t.val % 16 = 15) :
    (outsAt0 m c t.val t.isLt).2.2.2.2.1 = (bef m c t).2.2.2.2.1 := by
  rw [outsAt0_F m c t h0 h1 h2 h3 h4 h5]
  rfl

set_option maxHeartbeats 1000000 in
theorem F_1 (h0 : ¬t.val % 16 = 0) (h1 : ¬t.val % 4 = 0) (h2 : ¬t.val / 4 % 4 + 1 ≤ t.val % 4) (h3 : ¬t.val / 4 % 4 = t.val % 4) (h4 : ¬t.val % 4 = 3) (h5 : ¬t.val % 16 = 15) :
    (outsAt0 m c t.val t.isLt).2.2.2.2.2.1 = (bef m c t).2.2.2.2.2.1 := by
  rw [outsAt0_F m c t h0 h1 h2 h3 h4 h5]
  rfl

set_option maxHeartbeats 1000000 in
theorem F_2 (h0 : ¬t.val % 16 = 0) (h1 : ¬t.val % 4 = 0) (h2 : ¬t.val / 4 % 4 + 1 ≤ t.val % 4) (h3 : ¬t.val / 4 % 4 = t.val % 4) (h4 : ¬t.val % 4 = 3) (h5 : ¬t.val % 16 = 15) :
    (outsAt0 m c t.val t.isLt).2.2.2.2.2.2.1 = (bef m c t).2.2.2.2.2.2.1 := by
  rw [outsAt0_F m c t h0 h1 h2 h3 h4 h5]
  rfl

set_option maxHeartbeats 1000000 in
theorem F_3 (h0 : ¬t.val % 16 = 0) (h1 : ¬t.val % 4 = 0) (h2 : ¬t.val / 4 % 4 + 1 ≤ t.val % 4) (h3 : ¬t.val / 4 % 4 = t.val % 4) (h4 : ¬t.val % 4 = 3) (h5 : ¬t.val % 16 = 15) :
    (outsAt0 m c t.val t.isLt).2.2.2.2.2.2.2.1 = (bef m c t).2.2.2.2.2.2.2.1 := by
  rw [outsAt0_F m c t h0 h1 h2 h3 h4 h5]
  rfl

set_option maxHeartbeats 1000000 in
theorem F_4 (h0 : ¬t.val % 16 = 0) (h1 : ¬t.val % 4 = 0) (h2 : ¬t.val / 4 % 4 + 1 ≤ t.val % 4) (h3 : ¬t.val / 4 % 4 = t.val % 4) (h4 : ¬t.val % 4 = 3) (h5 : ¬t.val % 16 = 15) :
    (outsAt0 m c t.val t.isLt).2.2.2.2.2.2.2.2 = (bef m c t).2.2.2.2.2.2.2.2 := by
  rw [outsAt0_F m c t h0 h1 h2 h3 h4 h5]
  rfl

set_option maxHeartbeats 1000000 in
theorem G_0 (h0 : ¬t.val % 16 = 0) (h1 : ¬t.val % 4 = 0) (h2 : ¬t.val / 4 % 4 + 1 ≤ t.val % 4) (h3 : t.val / 4 % 4 = t.val % 4) (h4 : t.val % 4 = 3) (h5 : t.val % 16 = 15) :
    (outsAt0 m c t.val t.isLt).2.2.2.2.1 = putRows (bef m c t).2.2.2.2.1 (ii t).val (k0_pay7 (rowsOf (bef m c t).2.2.2.2.1 (ii t)) (k0_pay29 (iblk m c 2 t) (iblk m c 7 t) (pD m c t) (dD m c t) (iblk m c 3 t))) := by
  rw [outsAt0_G m c t h0 h1 h2 h3 h4 h5]
  dsimp only
  unfold sout0_G_0
  unfold kernelRun0_G; dsimp only; sl_unfold_words
  refine (read_putRows _ _ (ii t).val (hoff t) _ _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, View.ld_unit_zero (S := S2048x128) hz2, ld_rows128 _ (ii t) (hoff t), View.writes, pD, dD]
  exact congrArg (fun z => putRows _ _ (k0_pay7 z _)) (ld_rows128 _ (ii t) (hoff t) _)

set_option maxHeartbeats 1000000 in
theorem G_1 (h0 : ¬t.val % 16 = 0) (h1 : ¬t.val % 4 = 0) (h2 : ¬t.val / 4 % 4 + 1 ≤ t.val % 4) (h3 : t.val / 4 % 4 = t.val % 4) (h4 : t.val % 4 = 3) (h5 : t.val % 16 = 15) :
    (outsAt0 m c t.val t.isLt).2.2.2.2.2.1 = putRows (bef m c t).2.2.2.2.2.1 (ii t).val (k0_pay8 (iblk m c 4 t) (k0_pay25 (iblk m c 7 t) (pD m c t) (dD m c t) (iblk m c 3 t)) (rowsOf (bef m c t).2.2.2.2.2.1 (ii t))) := by
  rw [outsAt0_G m c t h0 h1 h2 h3 h4 h5]
  dsimp only
  unfold sout0_G_1
  unfold kernelRun0_G; dsimp only; sl_unfold_words
  refine (read_putRows _ _ (ii t).val (hoff t) _ _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, View.ld_unit_zero (S := S2048x64) hz2, ld_rows64 _ (ii t) (hoff t), View.writes, pD, dD]
  exact congrArg (fun z => putRows _ _ (k0_pay8 _ _ z)) (ld_rows64 _ (ii t) (hoff t) _)

set_option maxHeartbeats 1000000 in
theorem G_2 (h0 : ¬t.val % 16 = 0) (h1 : ¬t.val % 4 = 0) (h2 : ¬t.val / 4 % 4 + 1 ≤ t.val % 4) (h3 : t.val / 4 % 4 = t.val % 4) (h4 : t.val % 4 = 3) (h5 : t.val % 16 = 15) :
    (outsAt0 m c t.val t.isLt).2.2.2.2.2.2.1 = k0_pay27 (iblk m c 0 t) (iblk m c 7 t) (pD m c t) (dD m c t) (iblk m c 3 t) (bef m c t).2.2.2.2.2.2.1 := by
  rw [outsAt0_G m c t h0 h1 h2 h3 h4 h5]
  dsimp only
  unfold sout0_G_2
  refine (View.read_writes_eq_canon _ _ _ fun y => scover0_G_2 ..).trans ?_
  unfold kernelRun0_G; dsimp only; sl_unfold_words
  refine (View.canon_unit_zero (S := S512x128) hz2 _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, pD, dD]

set_option maxHeartbeats 1000000 in
theorem G_3 (h0 : ¬t.val % 16 = 0) (h1 : ¬t.val % 4 = 0) (h2 : ¬t.val / 4 % 4 + 1 ≤ t.val % 4) (h3 : t.val / 4 % 4 = t.val % 4) (h4 : t.val % 4 = 3) (h5 : t.val % 16 = 15) :
    (outsAt0 m c t.val t.isLt).2.2.2.2.2.2.2.1 = k0_pay26 (iblk m c 7 t) (pD m c t) (bef m c t).2.2.2.2.2.2.2.1 := by
  rw [outsAt0_G m c t h0 h1 h2 h3 h4 h5]
  dsimp only
  unfold sout0_G_3
  refine (View.read_writes_eq_canon _ _ _ fun y => scover0_G_3 ..).trans ?_
  unfold kernelRun0_G; dsimp only; sl_unfold_words
  refine (View.canon_unit_zero (S := S512x128) hz2 _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, pD, dD]

set_option maxHeartbeats 1000000 in
theorem G_4 (h0 : ¬t.val % 16 = 0) (h1 : ¬t.val % 4 = 0) (h2 : ¬t.val / 4 % 4 + 1 ≤ t.val % 4) (h3 : t.val / 4 % 4 = t.val % 4) (h4 : t.val % 4 = 3) (h5 : t.val % 16 = 15) :
    (outsAt0 m c t.val t.isLt).2.2.2.2.2.2.2.2 = k0_pay28 (k0_pay22 (iblk m c 1 t)) (iblk m c 7 t) (pD m c t) (dD m c t) (iblk m c 3 t) (bef m c t).2.2.2.2.2.2.2.2 := by
  rw [outsAt0_G m c t h0 h1 h2 h3 h4 h5]
  dsimp only
  unfold sout0_G_4
  refine (View.read_writes_eq_canon _ _ _ fun y => scover0_G_4 ..).trans ?_
  unfold kernelRun0_G; dsimp only; sl_unfold_words
  refine (View.canon_unit_zero (S := S512x64) hz2 _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, pD, dD]

set_option maxHeartbeats 1000000 in
theorem C_10 (h0 : ¬t.val % 16 = 0) (h1 : ¬t.val % 4 = 0) (h2 : t.val / 4 % 4 + 1 ≤ t.val % 4) (h3 : ¬t.val / 4 % 4 = t.val % 4) (h4 : t.val % 4 = 3) (h5 : ¬t.val % 16 = 15) :
    (outsAt0 m c t.val t.isLt).2.2.1 = cat (k0_pay9 (outsAt0 m c t.val t.isLt).2.2.2.2.2.2.1) (k0_pay10 (outsAt0 m c t.val t.isLt).2.2.2.2.2.2.2.1) := by
  rw [C_2 m c t h0 h1 h2 h3 h4 h5, C_3 m c t h0 h1 h2 h3 h4 h5, outsAt0_C m c t h0 h1 h2 h3 h4 h5]
  dsimp only
  unfold out0_C_10 kernelRun0_C; dsimp only; sl_unfold_words
  refine (read_cat _ _ _ _ _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, View.readCov_unit_zero (S := S512x128) _ hz2, View.readCov_unit_zero (S := S512x64) _ hz2, pO, dO]

set_option maxHeartbeats 1000000 in
theorem C_11 (h0 : ¬t.val % 16 = 0) (h1 : ¬t.val % 4 = 0) (h2 : t.val / 4 % 4 + 1 ≤ t.val % 4) (h3 : ¬t.val / 4 % 4 = t.val % 4) (h4 : t.val % 4 = 3) (h5 : ¬t.val % 16 = 15) :
    (outsAt0 m c t.val t.isLt).2.2.2.1 = k0_pay11 (outsAt0 m c t.val t.isLt).2.2.2.2.2.2.2.2 := by
  rw [C_4 m c t h0 h1 h2 h3 h4 h5, outsAt0_C m c t h0 h1 h2 h3 h4 h5]
  dsimp only
  unfold out0_C_11 kernelRun0_C; dsimp only; sl_unfold_words
  refine (read_whole (S := S1x512x64) _ _ hz3 _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, View.readCov_unit_zero (S := S512x128) _ hz2, View.readCov_unit_zero (S := S512x64) _ hz2, pO, dO]

set_option maxHeartbeats 1000000 in
theorem G_10 (h0 : ¬t.val % 16 = 0) (h1 : ¬t.val % 4 = 0) (h2 : ¬t.val / 4 % 4 + 1 ≤ t.val % 4) (h3 : t.val / 4 % 4 = t.val % 4) (h4 : t.val % 4 = 3) (h5 : t.val % 16 = 15) :
    (outsAt0 m c t.val t.isLt).2.2.1 = cat (k0_pay9 (outsAt0 m c t.val t.isLt).2.2.2.2.2.2.1) (k0_pay10 (outsAt0 m c t.val t.isLt).2.2.2.2.2.2.2.1) := by
  rw [G_2 m c t h0 h1 h2 h3 h4 h5, G_3 m c t h0 h1 h2 h3 h4 h5, outsAt0_G m c t h0 h1 h2 h3 h4 h5]
  dsimp only
  unfold out0_G_10 kernelRun0_G; dsimp only; sl_unfold_words
  refine (read_cat _ _ _ _ _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, View.readCov_unit_zero (S := S512x128) _ hz2, View.readCov_unit_zero (S := S512x64) _ hz2, pD, dD]

set_option maxHeartbeats 1000000 in
theorem G_11 (h0 : ¬t.val % 16 = 0) (h1 : ¬t.val % 4 = 0) (h2 : ¬t.val / 4 % 4 + 1 ≤ t.val % 4) (h3 : t.val / 4 % 4 = t.val % 4) (h4 : t.val % 4 = 3) (h5 : t.val % 16 = 15) :
    (outsAt0 m c t.val t.isLt).2.2.2.1 = k0_pay11 (outsAt0 m c t.val t.isLt).2.2.2.2.2.2.2.2 := by
  rw [G_4 m c t h0 h1 h2 h3 h4 h5, outsAt0_G m c t h0 h1 h2 h3 h4 h5]
  dsimp only
  unfold out0_G_11 kernelRun0_G; dsimp only; sl_unfold_words
  refine (read_whole (S := S1x512x64) _ _ hz3 _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, View.readCov_unit_zero (S := S512x128) _ hz2, View.readCov_unit_zero (S := S512x64) _ hz2, pD, dD]

set_option maxHeartbeats 1000000 in
theorem G_8 (h0 : ¬t.val % 16 = 0) (h1 : ¬t.val % 4 = 0) (h2 : ¬t.val / 4 % 4 + 1 ≤ t.val % 4) (h3 : t.val / 4 % 4 = t.val % 4) (h4 : t.val % 4 = 3) (h5 : t.val % 16 = 15) :
    (outsAt0 m c t.val t.isLt).1 = k0_pay12 (outsAt0 m c t.val t.isLt).2.2.2.2.1 := by
  rw [G_0 m c t h0 h1 h2 h3 h4 h5, outsAt0_G m c t h0 h1 h2 h3 h4 h5]
  dsimp only
  unfold out0_G_8 kernelRun0_G; dsimp only; sl_unfold_words
  refine (read_whole (Val := Elt F) (S := S2048x128) _ _ hz2 _ _).trans ?_
  congr 1
  simp only [View.readAt_eq_ld]
  refine (View.ld_unit_zero (S := S2048x128) hz2 _ _).trans ?_
  refine (read_putRows _ _ (ii t).val (hoff t) _ _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, View.ld_unit_zero (S := S2048x128) hz2, ld_rows128 _ (ii t) (hoff t), View.writes, pD, dD]
  exact congrArg (fun z => putRows _ _ (k0_pay7 z _)) (ld_rows128 _ (ii t) (hoff t) _)

set_option maxHeartbeats 1000000 in
theorem G_9 (h0 : ¬t.val % 16 = 0) (h1 : ¬t.val % 4 = 0) (h2 : ¬t.val / 4 % 4 + 1 ≤ t.val % 4) (h3 : t.val / 4 % 4 = t.val % 4) (h4 : t.val % 4 = 3) (h5 : t.val % 16 = 15) :
    (outsAt0 m c t.val t.isLt).2.1 = k0_pay13 (outsAt0 m c t.val t.isLt).2.2.2.2.2.1 := by
  rw [G_1 m c t h0 h1 h2 h3 h4 h5, outsAt0_G m c t h0 h1 h2 h3 h4 h5]
  dsimp only
  unfold out0_G_9 kernelRun0_G; dsimp only; sl_unfold_words
  refine (read_whole (S := S1x2048x64) _ _ hz3 _ _).trans ?_
  congr 1
  simp only [View.readAt_eq_ld]
  refine (View.ld_unit_zero (S := S2048x64) hz2 _ _).trans ?_
  refine (read_putRows _ _ (ii t).val (hoff t) _ _ _).trans ?_
  simp only [View.readAt_eq_ld, Memref.IsWhole.read_unread, read_unread_whole, View.ld_unit_zero (S := S512x128) hz2, View.ld_unit_zero (S := S512x64) hz2, View.ld_unit_zero (S := S1x512x64) hz3, View.ld_unit_zero (S := S1x512x1) hz3, View.ld_unit_zero (S := S2048x64) hz2, ld_rows64 _ (ii t) (hoff t), View.writes, pD, dD]
  exact congrArg (fun z => putRows _ _ (k0_pay8 _ _ z)) (ld_rows64 _ (ii t) (hoff t) _)

end Cert.AttnCases

end
-- ==== Proof.AttnBlk.lean ====
/-
  A block's softmax weights and score gradients, as the kernel makes them from its windows, are the reference's, when
  every argument is real.
-/
module

public import proofs.«01_k».proof.Proof.AttnPay
public import proofs.«01_k».proof.Proof.AttnBlocks
public import proofs.«01_k».proof.Proof.AttnHost2
public import proofs.«01_k».proof.Proof.AttnCases

@[expose] public section

set_option maxRecDepth 16384

noncomputable section

namespace Cert.AttnBlk

open Cert.KernelIdeal Cert.KernelIdeal.Gen Cert.AttnMath Cert.AttnHost Cert.AttnBlocks Cert.AttnPay Cert.AttnCases
open Cert.AttnRef (col colK colV scale sees sc top dv vv pr ds)
open Idealize.ShloMosaic Idealize.ShloMosaic.TcCoe Idealize.SL.Sem

variable (m : (ℓ : Loc nD τ sig) → Buf (Elt Ideal) ℓ) (c : Dev nD)

/-- Every entry of every argument is a real number. -/
structure Real : Prop where
  r0 : ∀ i, IsReal ((a0 m c : FVec Ideal S2048x1024 .bf16) i)
  r1 : ∀ i, IsReal ((a1 m c : FVec Ideal S8x2048x64 .bf16) i)
  r2 : ∀ i, IsReal ((a2 m c : FVec Ideal S2048x2048 .bf16) i)
  r3 : ∀ i, IsReal ((a3 m c : FVec Ideal S2048x64 .bf16) i)
  r4 : ∀ i, IsReal ((a4 m c : FVec Ideal S2048x1024 .bf16) i)

theorem scale_real : IsReal scale := by
  unfold scale
  exact ⟨_, by simp [Ideal.ofBits, Ideal.ieee]; rfl⟩

/-- The reference's weights and score gradients of this device's arguments. -/
abbrev prm (h : Fin 8) (q k : Fin 2048) : EReal := pr (a0 m c) (a1 m c) (a2 m c) (a3 m c) h q k
abbrev dsm (h : Fin 8) (q k : Fin 2048) : EReal := ds (a0 m c) (a1 m c) (a2 m c) (a3 m c) (a4 m c) h q k

/-- The eight windows at a grid point. -/
abbrev b0 (m : (ℓ : Loc nD τ sig) → Buf (Elt Ideal) ℓ) (c : Dev nD) (t : Fin cfg0.N) : Vec Ideal S512x128 .bf16 := iblk m c 0 t
abbrev b1 (m : (ℓ : Loc nD τ sig) → Buf (Elt Ideal) ℓ) (c : Dev nD) (t : Fin cfg0.N) : Vec Ideal S1x512x64 .bf16 := iblk m c 1 t
abbrev b2 (m : (ℓ : Loc nD τ sig) → Buf (Elt Ideal) ℓ) (c : Dev nD) (t : Fin cfg0.N) : Vec Ideal S512x128 .bf16 := iblk m c 2 t
abbrev b3 (m : (ℓ : Loc nD τ sig) → Buf (Elt Ideal) ℓ) (c : Dev nD) (t : Fin cfg0.N) : Vec Ideal S512x128 .bf16 := iblk m c 3 t
abbrev b4 (m : (ℓ : Loc nD τ sig) → Buf (Elt Ideal) ℓ) (c : Dev nD) (t : Fin cfg0.N) : Vec Ideal S512x64 .bf16 := iblk m c 4 t
abbrev b5 (m : (ℓ : Loc nD τ sig) → Buf (Elt Ideal) ℓ) (c : Dev nD) (t : Fin cfg0.N) : Vec Ideal S512x128 .bf16 := iblk m c 5 t
abbrev b6 (m : (ℓ : Loc nD τ sig) → Buf (Elt Ideal) ℓ) (c : Dev nD) (t : Fin cfg0.N) : Vec Ideal S1x512x1 .f32 := iblk m c 6 t
abbrev b7 (m : (ℓ : Loc nD τ sig) → Buf (Elt Ideal) ℓ) (c : Dev nD) (t : Fin cfg0.N) : Vec Ideal S512x128 .bf16 := iblk m c 7 t

variable {m c} (R : Real m c) (h : Fin 8) (q k : Fin 2048)

include R in
theorem sc_real : IsReal (sc (a0 m c) (a1 m c) (a2 m c) (a3 m c) h q k) :=
  ((IsReal.sum _ _ fun _ => (R.r0 _).mul (R.r2 _)).add (IsReal.sum _ _ fun _ => (R.r1 _).mul (R.r3 _))).mul scale_real

theorem sees_some : ∃ k, sees q k := ⟨q, le_refl q.val⟩

include R in
theorem top_real : IsReal (top (a0 m c) (a1 m c) (a2 m c) (a3 m c) h q) := by
  refine IsReal.fold_max _ q ?_ fun k => ?_
  · unfold sm
    rw [if_pos (show sees q q from le_refl q.val)]
    exact sc_real R h q q
  · unfold sm
    by_cases hk : sees q k
    · rw [if_pos hk]
      obtain ⟨x, hx⟩ := sc_real R h q k
      rw [hx]; exact EReal.coe_lt_top x
    · rw [if_neg hk]; exact bot_lt_top

include R in
theorem exp_at : Ideal.exp (sm (sees q) (sc (a0 m c) (a1 m c) (a2 m c) (a3 m c) h q) k
      - lse (sees q) (sc (a0 m c) (a1 m c) (a2 m c) (a3 m c) h q) (top (a0 m c) (a1 m c) (a2 m c) (a3 m c) h q)) = prm m c h q k :=
  exp_lse _ _ _ (sees_some q) (top_real R h q) (fun k => sc_real R h q k) k

include R in
theorem ds_at : (prm m c h q k * ((∑ d : Fin 128, dv (a4 m c) h q d * vv (a2 m c) h k d)
      - ∑ d : Fin 128, dv (a4 m c) h q d * ∑ k, vv (a2 m c) h k d * prm m c h q k)) * scale = dsm m c h q k := by
  have e := dsK_eq_dsR (sees q) (sc (a0 m c) (a1 m c) (a2 m c) (a3 m c) h q) (top (a0 m c) (a1 m c) (a2 m c) (a3 m c) h q)
    scale (dv (a4 m c) h q) (vv (a2 m c) h) (sees_some q) (top_real R h q) (fun k => sc_real R h q k) (fun d => R.r4 _)
    (fun k d => R.r2 _) k
  unfold dsK at e
  rw [exp_at R h q k] at e
  exact e

include R in
theorem pr_masked (hk : ¬k.val ≤ q.val) : prm m c h q k = 0 :=
  wt_masked _ _ _ (sees_some q) (top_real R h q) (fun k => sc_real R h q k) k hk

theorem ds_masked (hk : ¬k.val ≤ q.val) : dsm m c h q k = 0 := dsR_masked _ _ _ _ _ _ k hk

variable (t : Fin cfg0.N) (r s : Fin 512)

theorem score_at (ht : t.val / 4 % 4 ≤ t.val % 4) :
    ((∑ d : Fin 128, b0 m c t (ix2 r d) * b2 m c t (ix2 s d))
      + ∑ e : Fin 64, b1 m c t (ix3 0 r e) * b4 m c t (ix2 s e)) * scale
    = sc (a0 m c) (a1 m c) (a2 m c) (a3 m c) (hd t) (at4 (ii t) r) (at4 (jj t) s) := by
  simp only [blk0 m c t r _ ht, blk1 m c t r _ ht, blk2, blk4]
  rfl

include R in
theorem pO_at (ht : t.val / 4 % 4 + 1 ≤ t.val % 4) :
    pO m c t (ix2 r s) = prm m c (hd t) (at4 (ii t) r) (at4 (jj t) s) := by
  have h1 : t.val / 4 % 4 ≤ t.val % 4 := by omega
  unfold pO
  rw [pay15_at, score_at t r s h1, blk6 m c t r h1, lse_at, ← exp_at R]
  unfold sm
  rw [if_pos (show sees (at4 (ii t) r) (at4 (jj t) s) from by
    show 512 * (t.val / 4 % 4) + s.val ≤ 512 * (t.val % 4) + r.val
    omega)]

include R in
theorem pD_at (ht : t.val / 4 % 4 = t.val % 4) :
    pD m c t (ix2 r s) = prm m c (hd t) (at4 (ii t) r) (at4 (jj t) s) := by
  have h1 : t.val / 4 % 4 ≤ t.val % 4 := by omega
  unfold pD
  rw [pay23_at, score_at t r s h1, blk6 m c t r h1, lse_at, ← exp_at R]
  unfold sm
  have e : sees (at4 (ii t) r) (at4 (jj t) s) ↔ s.val ≤ r.val := by
    show 512 * (t.val / 4 % 4) + s.val ≤ 512 * (t.val % 4) + r.val ↔ _
    omega
  simp only [e]

theorem dp_at (ht : t.val / 4 % 4 ≤ t.val % 4) :
    ((∑ d : Fin 128, b7 m c t (ix2 r d) * b3 m c t (ix2 s d)) - ∑ d : Fin 128, b7 m c t (ix2 r d) * b5 m c t (ix2 r d))
    = (∑ d : Fin 128, dv (a4 m c) (hd t) (at4 (ii t) r) d * vv (a2 m c) (hd t) (at4 (jj t) s) d)
      - ∑ d : Fin 128, dv (a4 m c) (hd t) (at4 (ii t) r) d * ∑ k, vv (a2 m c) (hd t) k d * prm m c (hd t) (at4 (ii t) r) k := by
  refine congrArg₂ (fun x y : EReal => x - y) (Finset.sum_congr rfl fun d _ => ?_) (Finset.sum_congr rfl fun d _ => ?_)
  · exact congrArg₂ (fun x y : EReal => x * y) (blk7 m c t r d ht) (blk3 m c t s d)
  · exact congrArg₂ (fun x y : EReal => x * y) (blk7 m c t r d ht) ((blk5 m c t r d ht).trans (o_at m c _ _ d))

include R in
theorem dsO_at (ht : t.val / 4 % 4 + 1 ≤ t.val % 4) :
    k0_pay17 (iblk m c 7 t) (pO m c t) (dO m c t) (iblk m c 3 t) (ix2 r s) = dsm m c (hd t) (at4 (ii t) r) (at4 (jj t) s) := by
  unfold dO
  rw [pay17_at, dp_at t r s (by omega), pO_at R t r s ht]
  exact ds_at R _ _ _

include R in
theorem dsD_at (ht : t.val / 4 % 4 = t.val % 4) :
    k0_pay25 (iblk m c 7 t) (pD m c t) (dD m c t) (iblk m c 3 t) (ix2 r s) = dsm m c (hd t) (at4 (ii t) r) (at4 (jj t) s) := by
  unfold dD
  rw [pay25_at, dp_at t r s (by omega), pD_at R t r s ht]
  exact ds_at R _ _ _

end Cert.AttnBlk

end
-- ==== Proof.AttnSteps.lean ====
/-
  What a scratch holds after every grid point, from what one grid point does to it: two sums over the 128 points in
  their order (head, key block, query block).
-/
module

public import proofs.«01_k».proof.Proof.AttnMath

@[expose] public section

noncomputable section

namespace Cert.AttnMath

/-- A row of query block `b`, cleared at each head's first point, gains a term at each point of query block `b` whose
    key block is not above it: after point `n` it holds the terms of the key blocks passed. -/
theorem rows_inv (X : (n : ℕ) → n < 128 → EReal) (T : ℕ → Fin 4 → EReal) (b : Fin 4)
    (step : ∀ n (hn : n < 128), X n hn = (if n % 16 = 0 then 0 else X (n - 1) (by omega))
      + (if b.val = n % 4 ∧ n / 4 % 4 ≤ n % 4 then T (n / 16) ⟨n / 4 % 4, by omega⟩ else 0)) :
    ∀ n (hn : n < 128), X n hn
      = part (fun j' => j'.val ≤ b.val ∧ (j'.val < n / 4 % 4 ∨ (j'.val = n / 4 % 4 ∧ b.val ≤ n % 4))) (T (n / 16)) := by
  intro n
  induction n with
  | zero =>
    intro hn
    rw [step, if_pos (by omega), zero_add]
    by_cases hb : b.val = 0
    · rw [if_pos ⟨by omega, by omega⟩]
      have := part_add (fun _ : Fin 4 => False) (fun j' => j'.val ≤ b.val ∧ (j'.val < 0 / 4 % 4 ∨ (j'.val = 0 / 4 % 4 ∧ b.val ≤ 0 % 4)))
        (T (0 / 16)) ⟨0 / 4 % 4, by omega⟩ not_false (fun j' => by simp only [Fin.ext_iff, false_or]; omega)
      rw [this, part_none _ _ (fun _ => not_false), zero_add]
    · rw [if_neg (by omega)]
      exact (part_none _ _ (fun j' => by omega)).symm
  | succ n ih =>
    intro hn
    rw [step]
    by_cases h16 : (n + 1) % 16 = 0
    · rw [if_pos h16, zero_add]
      by_cases hb : b.val = 0
      · rw [if_pos ⟨by omega, by omega⟩]
        have := part_add (fun _ : Fin 4 => False)
          (fun j' => j'.val ≤ b.val ∧ (j'.val < (n + 1) / 4 % 4 ∨ (j'.val = (n + 1) / 4 % 4 ∧ b.val ≤ (n + 1) % 4)))
          (T ((n + 1) / 16)) ⟨(n + 1) / 4 % 4, by omega⟩ not_false (fun j' => by simp only [Fin.ext_iff, false_or]; omega)
        rw [this, part_none _ _ (fun _ => not_false), zero_add]
      · rw [if_neg (by omega)]
        exact (part_none _ _ (fun j' => by omega)).symm
    · rw [if_neg h16]
      have e : (n + 1) / 16 = n / 16 := by omega
      rw [show X (n + 1 - 1) (by omega) = X n (by omega) from rfl, ih (by omega), e]
      by_cases hc : b.val = (n + 1) % 4 ∧ (n + 1) / 4 % 4 ≤ (n + 1) % 4
      · rw [if_pos hc]
        exact (part_add _ _ _ ⟨(n + 1) / 4 % 4, by omega⟩ (by dsimp only; omega)
          (fun j' => by simp only [Fin.ext_iff]; omega)).symm
      · rw [if_neg hc, add_zero]
        exact part_congr _ _ _ (fun j' => by omega)

/-- A row of the key block, cleared at the block's first point, gains a term at each point whose query block is not below
    the key block. -/
theorem cols_inv (X : (n : ℕ) → n < 128 → EReal) (T : ℕ → Fin 4 → EReal)
    (step : ∀ n (hn : n < 128), X n hn = (if n % 4 = 0 then 0 else X (n - 1) (by omega))
      + (if n / 4 % 4 ≤ n % 4 then T (n / 4) ⟨n % 4, by omega⟩ else 0)) :
    ∀ n (hn : n < 128), X n hn = part (fun i' => n / 4 % 4 ≤ i'.val ∧ i'.val ≤ n % 4) (T (n / 4)) := by
  have first : ∀ n, n % 4 = 0 → ∀ f : Fin 4 → EReal,
      (if n / 4 % 4 ≤ n % 4 then f ⟨n % 4, by omega⟩ else 0) = part (fun i' => n / 4 % 4 ≤ i'.val ∧ i'.val ≤ n % 4) f := by
    intro n h f
    by_cases hc : n / 4 % 4 ≤ n % 4
    · rw [if_pos hc]
      have := part_add (fun _ : Fin 4 => False) (fun i' => n / 4 % 4 ≤ i'.val ∧ i'.val ≤ n % 4) f ⟨n % 4, by omega⟩ not_false
        (fun i' => by simp only [Fin.ext_iff, false_or]; omega)
      rw [this, part_none _ _ (fun _ => not_false), zero_add]
    · rw [if_neg hc]
      exact (part_none _ _ (fun i' => by omega)).symm
  intro n
  induction n with
  | zero =>
    intro hn
    rw [step, if_pos (by omega), zero_add]
    exact first 0 (by omega) _
  | succ n ih =>
    intro hn
    rw [step]
    by_cases h4 : (n + 1) % 4 = 0
    · rw [if_pos h4, zero_add]
      exact first (n + 1) h4 _
    · rw [if_neg h4]
      have e : (n + 1) / 4 = n / 4 := by omega
      rw [show X (n + 1 - 1) (by omega) = X n (by omega) from rfl, ih (by omega), e]
      by_cases hc : n / 4 % 4 ≤ (n + 1) % 4
      · rw [if_pos hc]
        exact (part_add _ _ _ ⟨(n + 1) % 4, by omega⟩ (by dsimp only; omega)
          (fun j' => by simp only [Fin.ext_iff]; omega)).symm
      · rw [if_neg hc, add_zero]
        exact part_congr _ _ _ (fun j' => by omega)

end Cert.AttnMath

end
-- ==== Proof.AttnInv.lean ====
/-
  What every scratch of the gradient kernel holds after every grid point, over the extended reals: the sums of the
  reference's terms over the blocks passed.
-/
module

public import proofs.«01_k».proof.Proof.AttnBlk
public import proofs.«01_k».proof.Proof.AttnSteps

@[expose] public section

set_option maxRecDepth 16384

noncomputable section

namespace Cert.AttnInv

open Cert.KernelIdeal Cert.KernelIdeal.Gen Cert.AttnMath Cert.AttnHost Cert.AttnBlocks Cert.AttnPay Cert.AttnCases Cert.AttnBlk
open Cert.AttnRef (col colK colV)
open Idealize.ShloMosaic Idealize.ShloMosaic.TcCoe Idealize.SL.Sem

theorem hd16 (t : Fin cfg0.N) : hd t = ⟨t.val / 16 % 8, Nat.mod_lt _ (by decide)⟩ :=
  Fin.ext (by have : t.val < 128 := t.isLt; show t.val / 16 = t.val / 16 % 8; omega)

theorem hd4 (t : Fin cfg0.N) : hd t = ⟨t.val / 4 / 4 % 8, Nat.mod_lt _ (by decide)⟩ :=
  Fin.ext (by have : t.val < 128 := t.isLt; show t.val / 16 = t.val / 4 / 4 % 8; omega)

/-- The seven ways the guards can fall at a grid point. -/
theorem cases7 {P : Prop} (n : ℕ)
    (fA : n % 16 = 0 → n % 4 = 0 → ¬n / 4 % 4 + 1 ≤ n % 4 → n / 4 % 4 = n % 4 → ¬n % 4 = 3 → ¬n % 16 = 15 → P)
    (fB : ¬n % 16 = 0 → ¬n % 4 = 0 → n / 4 % 4 + 1 ≤ n % 4 → ¬n / 4 % 4 = n % 4 → ¬n % 4 = 3 → ¬n % 16 = 15 → P)
    (fC : ¬n % 16 = 0 → ¬n % 4 = 0 → n / 4 % 4 + 1 ≤ n % 4 → ¬n / 4 % 4 = n % 4 → n % 4 = 3 → ¬n % 16 = 15 → P)
    (fD : ¬n % 16 = 0 → n % 4 = 0 → ¬n / 4 % 4 + 1 ≤ n % 4 → ¬n / 4 % 4 = n % 4 → ¬n % 4 = 3 → ¬n % 16 = 15 → P)
    (fE : ¬n % 16 = 0 → ¬n % 4 = 0 → ¬n / 4 % 4 + 1 ≤ n % 4 → n / 4 % 4 = n % 4 → ¬n % 4 = 3 → ¬n % 16 = 15 → P)
    (fF : ¬n % 16 = 0 → ¬n % 4 = 0 → ¬n / 4 % 4 + 1 ≤ n % 4 → ¬n / 4 % 4 = n % 4 → ¬n % 4 = 3 → ¬n % 16 = 15 → P)
    (fG : ¬n % 16 = 0 → ¬n % 4 = 0 → ¬n / 4 % 4 + 1 ≤ n % 4 → n / 4 % 4 = n % 4 → n % 4 = 3 → n % 16 = 15 → P)
    : P := by
  by_cases h0 : n % 16 = 0
  · exact fA (by omega) (by omega) (by omega) (by omega) (by omega) (by omega)
  by_cases h1 : n % 4 = 0
  · exact fD (by omega) (by omega) (by omega) (by omega) (by omega) (by omega)
  by_cases h2 : n / 4 % 4 + 1 ≤ n % 4
  · by_cases h4 : n % 4 = 3
    · exact fC (by omega) (by omega) (by omega) (by omega) (by omega) (by omega)
    · exact fB (by omega) (by omega) (by omega) (by omega) (by omega) (by omega)
  by_cases h3 : n / 4 % 4 = n % 4
  · by_cases h4 : n % 4 = 3
    · exact fG (by omega) (by omega) (by omega) (by omega) (by omega) (by omega)
    · exact fE (by omega) (by omega) (by omega) (by omega) (by omega) (by omega)
  · exact fF (by omega) (by omega) (by omega) (by omega) (by omega) (by omega)

variable {m : (ℓ : Loc nD τ sig) → Buf (Elt Ideal) ℓ} {c : Dev nD} (R : Real m c) (t : Fin cfg0.N)
  (b : Fin 4) (r s : Fin 512) (d : Fin 128) (e : Fin 64)

theorem at4_inj (t : Fin cfg0.N) (b : Fin 4) (h : b.val = (ii t).val) : b = ii t := Fin.ext h

def term0 (m : (ℓ : Loc nD τ sig) → Buf (Elt Ideal) ℓ) (c : Dev nD) (h : Fin 8) (b : Fin 4) (r : Fin 512) (d : Fin 128) (j : Fin 4) : EReal :=
  ∑ k : Fin 512, dsm m c h (at4 b r) (at4 j k) * (a2 m c : FVec Ideal S2048x2048 .bf16) (ix2 (at4 j k) (colK h d))
def term1 (m : (ℓ : Loc nD τ sig) → Buf (Elt Ideal) ℓ) (c : Dev nD) (h : Fin 8) (b : Fin 4) (r : Fin 512) (e : Fin 64) (j : Fin 4) : EReal :=
  ∑ k : Fin 512, dsm m c h (at4 b r) (at4 j k) * (a3 m c : FVec Ideal S2048x64 .bf16) (ix2 (at4 j k) e)
def term2 (m : (ℓ : Loc nD τ sig) → Buf (Elt Ideal) ℓ) (c : Dev nD) (h : Fin 8) (j : Fin 4) (s : Fin 512) (d : Fin 128) (i : Fin 4) : EReal :=
  ∑ q : Fin 512, dsm m c h (at4 i q) (at4 j s) * (a0 m c : FVec Ideal S2048x1024 .bf16) (ix2 (at4 i q) (col h d))
def term3 (m : (ℓ : Loc nD τ sig) → Buf (Elt Ideal) ℓ) (c : Dev nD) (h : Fin 8) (j : Fin 4) (s : Fin 512) (d : Fin 128) (i : Fin 4) : EReal :=
  ∑ q : Fin 512, prm m c h (at4 i q) (at4 j s) * (a4 m c : FVec Ideal S2048x1024 .bf16) (ix2 (at4 i q) (col h d))
def term4 (m : (ℓ : Loc nD τ sig) → Buf (Elt Ideal) ℓ) (c : Dev nD) (h : Fin 8) (j : Fin 4) (s : Fin 512) (e : Fin 64) (i : Fin 4) : EReal :=
  ∑ q : Fin 512, dsm m c h (at4 i q) (at4 j s) * (a1 m c : FVec Ideal S8x2048x64 .bf16) (ix3 h (at4 i q) e)

include R in
theorem step0 : (outsAt0 m c t.val t.isLt).2.2.2.2.1 (ix2 (at4 b r) d)
    = ((if t.val % 16 = 0 then 0 else (bef m c t).2.2.2.2.1 (ix2 (at4 b r) d) : EReal) + (if b.val = t.val % 4 ∧ t.val / 4 % 4 ≤ t.val % 4 then term0 m c (hd t) b r d (jj t) else 0) : EReal) := by
  refine cases7 t.val ?_ ?_ ?_ ?_ ?_ ?_ ?_ <;> intro h0 h1 h2 h3 h4 h5
  · rw [A_0 m c t h0 h1 h2 h3 h4 h5, putRows_at, if_pos (by omega : t.val % 16 = 0)]
    by_cases hb : b.val = t.val % 4
    · rw [if_pos (show b.val = (ii t).val from hb), if_pos ⟨hb, by omega⟩, pay29_at]
      obtain rfl := at4_inj t b hb
      refine congrArg₂ (fun x y : EReal => x + y) (pay1_at ..) (Finset.sum_congr rfl fun k _ => ?_)
      exact congrArg₂ (fun x y : EReal => x * y) (dsD_at R t r k (by omega)) (blk2 m c t k d)
    · rw [if_neg (show ¬b.val = (ii t).val from hb), if_neg (fun h => hb h.1), zero_add]
      exact pay1_at ..
  · rw [B_0 m c t h0 h1 h2 h3 h4 h5, putRows_at, if_neg (by omega : ¬t.val % 16 = 0)]
    by_cases hb : b.val = t.val % 4
    · rw [if_pos (show b.val = (ii t).val from hb), if_pos ⟨hb, by omega⟩, pay21_at]
      obtain rfl := at4_inj t b hb
      refine congrArg₂ (fun x y : EReal => x + y) rfl (Finset.sum_congr rfl fun k _ => ?_)
      exact congrArg₂ (fun x y : EReal => x * y) (dsO_at R t r k (by omega)) (blk2 m c t k d)
    · rw [if_neg (show ¬b.val = (ii t).val from hb), if_neg (fun h => hb h.1)]
      exact (add_zero _).symm
  · rw [C_0 m c t h0 h1 h2 h3 h4 h5, putRows_at, if_neg (by omega : ¬t.val % 16 = 0)]
    by_cases hb : b.val = t.val % 4
    · rw [if_pos (show b.val = (ii t).val from hb), if_pos ⟨hb, by omega⟩, pay21_at]
      obtain rfl := at4_inj t b hb
      refine congrArg₂ (fun x y : EReal => x + y) rfl (Finset.sum_congr rfl fun k _ => ?_)
      exact congrArg₂ (fun x y : EReal => x * y) (dsO_at R t r k (by omega)) (blk2 m c t k d)
    · rw [if_neg (show ¬b.val = (ii t).val from hb), if_neg (fun h => hb h.1)]
      exact (add_zero _).symm
  · rw [D_0 m c t h0 h1 h2 h3 h4 h5, if_neg (by omega : ¬t.val % 16 = 0), if_neg (by omega), add_zero]
  · rw [E_0 m c t h0 h1 h2 h3 h4 h5, putRows_at, if_neg (by omega : ¬t.val % 16 = 0)]
    by_cases hb : b.val = t.val % 4
    · rw [if_pos (show b.val = (ii t).val from hb), if_pos ⟨hb, by omega⟩, pay29_at]
      obtain rfl := at4_inj t b hb
      refine congrArg₂ (fun x y : EReal => x + y) rfl (Finset.sum_congr rfl fun k _ => ?_)
      exact congrArg₂ (fun x y : EReal => x * y) (dsD_at R t r k (by omega)) (blk2 m c t k d)
    · rw [if_neg (show ¬b.val = (ii t).val from hb), if_neg (fun h => hb h.1)]
      exact (add_zero _).symm
  · rw [F_0 m c t h0 h1 h2 h3 h4 h5, if_neg (by omega : ¬t.val % 16 = 0), if_neg (by omega), add_zero]
  · rw [G_0 m c t h0 h1 h2 h3 h4 h5, putRows_at, if_neg (by omega : ¬t.val % 16 = 0)]
    by_cases hb : b.val = t.val % 4
    · rw [if_pos (show b.val = (ii t).val from hb), if_pos ⟨hb, by omega⟩, pay29_at]
      obtain rfl := at4_inj t b hb
      refine congrArg₂ (fun x y : EReal => x + y) rfl (Finset.sum_congr rfl fun k _ => ?_)
      exact congrArg₂ (fun x y : EReal => x * y) (dsD_at R t r k (by omega)) (blk2 m c t k d)
    · rw [if_neg (show ¬b.val = (ii t).val from hb), if_neg (fun h => hb h.1)]
      exact (add_zero _).symm

include R in
theorem step1 : (outsAt0 m c t.val t.isLt).2.2.2.2.2.1 (ix2 (at4 b r) e)
    = ((if t.val % 16 = 0 then 0 else (bef m c t).2.2.2.2.2.1 (ix2 (at4 b r) e) : EReal) + (if b.val = t.val % 4 ∧ t.val / 4 % 4 ≤ t.val % 4 then term1 m c (hd t) b r e (jj t) else 0) : EReal) := by
  refine cases7 t.val ?_ ?_ ?_ ?_ ?_ ?_ ?_ <;> intro h0 h1 h2 h3 h4 h5
  · rw [A_1 m c t h0 h1 h2 h3 h4 h5, putRows_at, if_pos (by omega : t.val % 16 = 0)]
    by_cases hb : b.val = t.val % 4
    · rw [if_pos (show b.val = (ii t).val from hb), if_pos ⟨hb, by omega⟩, pay8_at]
      obtain rfl := at4_inj t b hb
      refine congrArg₂ (fun x y : EReal => x + y) (pay2_at ..) (Finset.sum_congr rfl fun k _ => ?_)
      exact congrArg₂ (fun x y : EReal => x * y) (dsD_at R t r k (by omega)) (blk4 m c t k e)
    · rw [if_neg (show ¬b.val = (ii t).val from hb), if_neg (fun h => hb h.1), zero_add]
      exact pay2_at ..
  · rw [B_1 m c t h0 h1 h2 h3 h4 h5, putRows_at, if_neg (by omega : ¬t.val % 16 = 0)]
    by_cases hb : b.val = t.val % 4
    · rw [if_pos (show b.val = (ii t).val from hb), if_pos ⟨hb, by omega⟩, pay6_at]
      obtain rfl := at4_inj t b hb
      refine congrArg₂ (fun x y : EReal => x + y) rfl (Finset.sum_congr rfl fun k _ => ?_)
      exact congrArg₂ (fun x y : EReal => x * y) (dsO_at R t r k (by omega)) (blk4 m c t k e)
    · rw [if_neg (show ¬b.val = (ii t).val from hb), if_neg (fun h => hb h.1)]
      exact (add_zero _).symm
  · rw [C_1 m c t h0 h1 h2 h3 h4 h5, putRows_at, if_neg (by omega : ¬t.val % 16 = 0)]
    by_cases hb : b.val = t.val % 4
    · rw [if_pos (show b.val = (ii t).val from hb), if_pos ⟨hb, by omega⟩, pay6_at]
      obtain rfl := at4_inj t b hb
      refine congrArg₂ (fun x y : EReal => x + y) rfl (Finset.sum_congr rfl fun k _ => ?_)
      exact congrArg₂ (fun x y : EReal => x * y) (dsO_at R t r k (by omega)) (blk4 m c t k e)
    · rw [if_neg (show ¬b.val = (ii t).val from hb), if_neg (fun h => hb h.1)]
      exact (add_zero _).symm
  · rw [D_1 m c t h0 h1 h2 h3 h4 h5, if_neg (by omega : ¬t.val % 16 = 0), if_neg (by omega), add_zero]
  · rw [E_1 m c t h0 h1 h2 h3 h4 h5, putRows_at, if_neg (by omega : ¬t.val % 16 = 0)]
    by_cases hb : b.val = t.val % 4
    · rw [if_pos (show b.val = (ii t).val from hb), if_pos ⟨hb, by omega⟩, pay8_at]
      obtain rfl := at4_inj t b hb
      refine congrArg₂ (fun x y : EReal => x + y) rfl (Finset.sum_congr rfl fun k _ => ?_)
      exact congrArg₂ (fun x y : EReal => x * y) (dsD_at R t r k (by omega)) (blk4 m c t k e)
    · rw [if_neg (show ¬b.val = (ii t).val from hb), if_neg (fun h => hb h.1)]
      exact (add_zero _).symm
  · rw [F_1 m c t h0 h1 h2 h3 h4 h5, if_neg (by omega : ¬t.val % 16 = 0), if_neg (by omega), add_zero]
  · rw [G_1 m c t h0 h1 h2 h3 h4 h5, putRows_at, if_neg (by omega : ¬t.val % 16 = 0)]
    by_cases hb : b.val = t.val % 4
    · rw [if_pos (show b.val = (ii t).val from hb), if_pos ⟨hb, by omega⟩, pay8_at]
      obtain rfl := at4_inj t b hb
      refine congrArg₂ (fun x y : EReal => x + y) rfl (Finset.sum_congr rfl fun k _ => ?_)
      exact congrArg₂ (fun x y : EReal => x * y) (dsD_at R t r k (by omega)) (blk4 m c t k e)
    · rw [if_neg (show ¬b.val = (ii t).val from hb), if_neg (fun h => hb h.1)]
      exact (add_zero _).symm

include R in
theorem step2 : (outsAt0 m c t.val t.isLt).2.2.2.2.2.2.1 (ix2 s d)
    = ((if t.val % 4 = 0 then 0 else (bef m c t).2.2.2.2.2.2.1 (ix2 s d) : EReal) + (if t.val / 4 % 4 ≤ t.val % 4 then term2 m c (hd t) (jj t) s d (ii t) else 0) : EReal) := by
  refine cases7 t.val ?_ ?_ ?_ ?_ ?_ ?_ ?_ <;> intro h0 h1 h2 h3 h4 h5
  · rw [A_2 m c t h0 h1 h2 h3 h4 h5, if_pos (by omega : t.val % 4 = 0), if_pos (by omega), pay27_at]
    refine congrArg₂ (fun x y : EReal => x + y) (pay3_at ..) (Finset.sum_congr rfl fun k _ => ?_)
    exact congrArg₂ (fun x y : EReal => x * y) (dsD_at R t k s (by omega)) (blk0 m c t k d (by omega))
  · rw [B_2 m c t h0 h1 h2 h3 h4 h5, if_neg (by omega : ¬t.val % 4 = 0), if_pos (by omega), pay19_at]
    refine congrArg₂ (fun x y : EReal => x + y) rfl (Finset.sum_congr rfl fun k _ => ?_)
    exact congrArg₂ (fun x y : EReal => x * y) (dsO_at R t k s (by omega)) (blk0 m c t k d (by omega))
  · rw [C_2 m c t h0 h1 h2 h3 h4 h5, if_neg (by omega : ¬t.val % 4 = 0), if_pos (by omega), pay19_at]
    refine congrArg₂ (fun x y : EReal => x + y) rfl (Finset.sum_congr rfl fun k _ => ?_)
    exact congrArg₂ (fun x y : EReal => x * y) (dsO_at R t k s (by omega)) (blk0 m c t k d (by omega))
  · rw [D_2 m c t h0 h1 h2 h3 h4 h5, if_pos (by omega : t.val % 4 = 0), if_neg (by omega), zero_add]
    exact pay3_at ..
  · rw [E_2 m c t h0 h1 h2 h3 h4 h5, if_neg (by omega : ¬t.val % 4 = 0), if_pos (by omega), pay27_at]
    refine congrArg₂ (fun x y : EReal => x + y) rfl (Finset.sum_congr rfl fun k _ => ?_)
    exact congrArg₂ (fun x y : EReal => x * y) (dsD_at R t k s (by omega)) (blk0 m c t k d (by omega))
  · rw [F_2 m c t h0 h1 h2 h3 h4 h5, if_neg (by omega : ¬t.val % 4 = 0), if_neg (by omega), add_zero]
  · rw [G_2 m c t h0 h1 h2 h3 h4 h5, if_neg (by omega : ¬t.val % 4 = 0), if_pos (by omega), pay27_at]
    refine congrArg₂ (fun x y : EReal => x + y) rfl (Finset.sum_congr rfl fun k _ => ?_)
    exact congrArg₂ (fun x y : EReal => x * y) (dsD_at R t k s (by omega)) (blk0 m c t k d (by omega))

include R in
theorem step3 : (outsAt0 m c t.val t.isLt).2.2.2.2.2.2.2.1 (ix2 s d)
    = ((if t.val % 4 = 0 then 0 else (bef m c t).2.2.2.2.2.2.2.1 (ix2 s d) : EReal) + (if t.val / 4 % 4 ≤ t.val % 4 then term3 m c (hd t) (jj t) s d (ii t) else 0) : EReal) := by
  refine cases7 t.val ?_ ?_ ?_ ?_ ?_ ?_ ?_ <;> intro h0 h1 h2 h3 h4 h5
  · rw [A_3 m c t h0 h1 h2 h3 h4 h5, if_pos (by omega : t.val % 4 = 0), if_pos (by omega), pay26_at]
    refine congrArg₂ (fun x y : EReal => x + y) (pay4_at ..) (Finset.sum_congr rfl fun k _ => ?_)
    exact congrArg₂ (fun x y : EReal => x * y) (pD_at R t k s (by omega)) (blk7 m c t k d (by omega))
  · rw [B_3 m c t h0 h1 h2 h3 h4 h5, if_neg (by omega : ¬t.val % 4 = 0), if_pos (by omega), pay18_at]
    refine congrArg₂ (fun x y : EReal => x + y) rfl (Finset.sum_congr rfl fun k _ => ?_)
    exact congrArg₂ (fun x y : EReal => x * y) (pO_at R t k s (by omega)) (blk7 m c t k d (by omega))
  · rw [C_3 m c t h0 h1 h2 h3 h4 h5, if_neg (by omega : ¬t.val % 4 = 0), if_pos (by omega), pay18_at]
    refine congrArg₂ (fun x y : EReal => x + y) rfl (Finset.sum_congr rfl fun k _ => ?_)
    exact congrArg₂ (fun x y : EReal => x * y) (pO_at R t k s (by omega)) (blk7 m c t k d (by omega))
  · rw [D_3 m c t h0 h1 h2 h3 h4 h5, if_pos (by omega : t.val % 4 = 0), if_neg (by omega), zero_add]
    exact pay4_at ..
  · rw [E_3 m c t h0 h1 h2 h3 h4 h5, if_neg (by omega : ¬t.val % 4 = 0), if_pos (by omega), pay26_at]
    refine congrArg₂ (fun x y : EReal => x + y) rfl (Finset.sum_congr rfl fun k _ => ?_)
    exact congrArg₂ (fun x y : EReal => x * y) (pD_at R t k s (by omega)) (blk7 m c t k d (by omega))
  · rw [F_3 m c t h0 h1 h2 h3 h4 h5, if_neg (by omega : ¬t.val % 4 = 0), if_neg (by omega), add_zero]
  · rw [G_3 m c t h0 h1 h2 h3 h4 h5, if_neg (by omega : ¬t.val % 4 = 0), if_pos (by omega), pay26_at]
    refine congrArg₂ (fun x y : EReal => x + y) rfl (Finset.sum_congr rfl fun k _ => ?_)
    exact congrArg₂ (fun x y : EReal => x * y) (pD_at R t k s (by omega)) (blk7 m c t k d (by omega))

include R in
theorem step4 : (outsAt0 m c t.val t.isLt).2.2.2.2.2.2.2.2 (ix2 s e)
    = ((if t.val % 4 = 0 then 0 else (bef m c t).2.2.2.2.2.2.2.2 (ix2 s e) : EReal) + (if t.val / 4 % 4 ≤ t.val % 4 then term4 m c (hd t) (jj t) s e (ii t) else 0) : EReal) := by
  refine cases7 t.val ?_ ?_ ?_ ?_ ?_ ?_ ?_ <;> intro h0 h1 h2 h3 h4 h5
  · rw [A_4 m c t h0 h1 h2 h3 h4 h5, if_pos (by omega : t.val % 4 = 0), if_pos (by omega), pay28_at]
    refine congrArg₂ (fun x y : EReal => x + y) (pay5_at ..) (Finset.sum_congr rfl fun k _ => ?_)
    exact congrArg₂ (fun x y : EReal => x * y) (dsD_at R t k s (by omega)) (blk1 m c t k e (by omega))
  · rw [B_4 m c t h0 h1 h2 h3 h4 h5, if_neg (by omega : ¬t.val % 4 = 0), if_pos (by omega), pay20_at]
    refine congrArg₂ (fun x y : EReal => x + y) rfl (Finset.sum_congr rfl fun k _ => ?_)
    exact congrArg₂ (fun x y : EReal => x * y) (dsO_at R t k s (by omega)) (blk1 m c t k e (by omega))
  · rw [C_4 m c t h0 h1 h2 h3 h4 h5, if_neg (by omega : ¬t.val % 4 = 0), if_pos (by omega), pay20_at]
    refine congrArg₂ (fun x y : EReal => x + y) rfl (Finset.sum_congr rfl fun k _ => ?_)
    exact congrArg₂ (fun x y : EReal => x * y) (dsO_at R t k s (by omega)) (blk1 m c t k e (by omega))
  · rw [D_4 m c t h0 h1 h2 h3 h4 h5, if_pos (by omega : t.val % 4 = 0), if_neg (by omega), zero_add]
    exact pay5_at ..
  · rw [E_4 m c t h0 h1 h2 h3 h4 h5, if_neg (by omega : ¬t.val % 4 = 0), if_pos (by omega), pay28_at]
    refine congrArg₂ (fun x y : EReal => x + y) rfl (Finset.sum_congr rfl fun k _ => ?_)
    exact congrArg₂ (fun x y : EReal => x * y) (dsD_at R t k s (by omega)) (blk1 m c t k e (by omega))
  · rw [F_4 m c t h0 h1 h2 h3 h4 h5, if_neg (by omega : ¬t.val % 4 = 0), if_neg (by omega), add_zero]
  · rw [G_4 m c t h0 h1 h2 h3 h4 h5, if_neg (by omega : ¬t.val % 4 = 0), if_pos (by omega), pay28_at]
    refine congrArg₂ (fun x y : EReal => x + y) rfl (Finset.sum_congr rfl fun k _ => ?_)
    exact congrArg₂ (fun x y : EReal => x * y) (dsD_at R t k s (by omega)) (blk1 m c t k e (by omega))

include R in
theorem inv0 : (outsAt0 m c t.val t.isLt).2.2.2.2.1 (ix2 (at4 b r) d)
    = part (fun j' => j'.val ≤ b.val ∧ (j'.val < t.val / 4 % 4 ∨ (j'.val = t.val / 4 % 4 ∧ b.val ≤ t.val % 4)))
        (term0 m c (hd t) b r d) := by
  rw [hd16 t]
  exact rows_inv (fun n hn => (outsAt0 m c n hn).2.2.2.2.1 (ix2 (at4 b r) d))
    (fun h => term0 m c ⟨h % 8, Nat.mod_lt _ (by decide)⟩ b r d) b
    (fun n hn => (step0 R ⟨n, hn⟩ b r d).trans (by
      rw [hd16 ⟨n, hn⟩]; rfl)) t.val t.isLt

include R in
theorem inv1 : (outsAt0 m c t.val t.isLt).2.2.2.2.2.1 (ix2 (at4 b r) e)
    = part (fun j' => j'.val ≤ b.val ∧ (j'.val < t.val / 4 % 4 ∨ (j'.val = t.val / 4 % 4 ∧ b.val ≤ t.val % 4)))
        (term1 m c (hd t) b r e) := by
  rw [hd16 t]
  exact rows_inv (fun n hn => (outsAt0 m c n hn).2.2.2.2.2.1 (ix2 (at4 b r) e))
    (fun h => term1 m c ⟨h % 8, Nat.mod_lt _ (by decide)⟩ b r e) b
    (fun n hn => (step1 R ⟨n, hn⟩ b r e).trans (by
      rw [hd16 ⟨n, hn⟩]; rfl)) t.val t.isLt

include R in
theorem inv2 : (outsAt0 m c t.val t.isLt).2.2.2.2.2.2.1 (ix2 s d)
    = part (fun i' => t.val / 4 % 4 ≤ i'.val ∧ i'.val ≤ t.val % 4) (term2 m c (hd t) (jj t) s d) := by
  rw [hd4 t]
  exact cols_inv (fun n hn => (outsAt0 m c n hn).2.2.2.2.2.2.1 (ix2 s d))
    (fun h => term2 m c ⟨h / 4 % 8, Nat.mod_lt _ (by decide)⟩ ⟨h % 4, Nat.mod_lt _ (by decide)⟩ s d)
    (fun n hn => (step2 R ⟨n, hn⟩ s d).trans (by
      rw [hd4 ⟨n, hn⟩]; rfl)) t.val t.isLt

include R in
theorem inv3 : (outsAt0 m c t.val t.isLt).2.2.2.2.2.2.2.1 (ix2 s d)
    = part (fun i' => t.val / 4 % 4 ≤ i'.val ∧ i'.val ≤ t.val % 4) (term3 m c (hd t) (jj t) s d) := by
  rw [hd4 t]
  exact cols_inv (fun n hn => (outsAt0 m c n hn).2.2.2.2.2.2.2.1 (ix2 s d))
    (fun h => term3 m c ⟨h / 4 % 8, Nat.mod_lt _ (by decide)⟩ ⟨h % 4, Nat.mod_lt _ (by decide)⟩ s d)
    (fun n hn => (step3 R ⟨n, hn⟩ s d).trans (by
      rw [hd4 ⟨n, hn⟩]; rfl)) t.val t.isLt

include R in
theorem inv4 : (outsAt0 m c t.val t.isLt).2.2.2.2.2.2.2.2 (ix2 s e)
    = part (fun i' => t.val / 4 % 4 ≤ i'.val ∧ i'.val ≤ t.val % 4) (term4 m c (hd t) (jj t) s e) := by
  rw [hd4 t]
  exact cols_inv (fun n hn => (outsAt0 m c n hn).2.2.2.2.2.2.2.2 (ix2 s e))
    (fun h => term4 m c ⟨h / 4 % 8, Nat.mod_lt _ (by decide)⟩ ⟨h % 4, Nat.mod_lt _ (by decide)⟩ s e)
    (fun n hn => (step4 R ⟨n, hn⟩ s e).trans (by
      rw [hd4 ⟨n, hn⟩]; rfl)) t.val t.isLt

end Cert.AttnInv

end
-- ==== Proof.AttnRun.lean ====
/-
  The gradient kernel's four result arrays over the extended reals are the reference's, when every argument is real.
-/
module

public import proofs.«01_k».proof.Proof.AttnInv

@[expose] public section

set_option maxRecDepth 16384

noncomputable section

namespace Cert.AttnRun

open Cert.KernelIdeal Cert.KernelIdeal.Gen Cert.AttnMath Cert.AttnHost Cert.AttnBlocks Cert.AttnPay Cert.AttnCases Cert.AttnBlk
open Cert.AttnInv
open Cert.AttnRef (col colK colV v88_at v86_at v85_K v85_V v75_at)
open Cert.ReferenceIdeal.Read (val_main_v88 val_main_v86 val_main_v85 val_main_v75)
open Idealize.ShloMosaic Idealize.ShloMosaic.TcCoe Idealize.SL.Sem

variable {m : (ℓ : Loc nD τ sig) → Buf (Elt Ideal) ℓ} {c : Dev nD} (R : Real m c)

theorem idxOut : ∀ t : Fin cfg0.N,
    win0_8.index t = ![0, t.val / 16] ∧ win0_9.index t = ![t.val / 16, 0, 0]
    ∧ win0_10.index t = ![t.val / 4 % 4, t.val / 16] ∧ win0_11.index t = ![t.val / 16, t.val / 4 % 4, 0] := by
  decide +kernel

theorem split4 (q : Fin 2048) : ∃ (b : Fin 4) (r : Fin 512), q = at4 b r :=
  ⟨⟨q.val / 512, by omega⟩, ⟨q.val % 512, by omega⟩, Fin.ext (by show q.val = 512 * (q.val / 512) + q.val % 512; omega)⟩

theorem eta2 {n0 n1 : ℕ} (y : (⟨2, ![n0, n1]⟩ : Shape).Idx) : y = ix2 (y 0) (y 1) := by
  funext a
  match a with
  | ⟨0, _⟩ => rfl
  | ⟨1, _⟩ => rfl

theorem eta3 {n1 n2 : ℕ} (y : (⟨3, ![1, n1, n2]⟩ : Shape).Idx) : y = ix3 0 (y 1) (y 2) := by
  funext a
  match a with
  | ⟨0, _⟩ => exact Fin.ext (by have : (y 0).val < 1 := (y 0).isLt; show (y 0).val = 0; omega)
  | ⟨1, _⟩ => rfl
  | ⟨2, _⟩ => rfl

variable (t : Fin cfg0.N) (q : Fin 2048) (s : Fin 512) (d : Fin 128) (e : Fin 64)

include R in
theorem val8 (hm : t.val % 16 = 15) : k0_pay12 (outsAt0 m c t.val t.isLt).2.2.2.2.1 (ix2 q d)
    = val_main_v88 (a0 m c) (a1 m c) (a2 m c) (a3 m c) (a4 m c) (ix2 q (col (hd t) d)) := by
  obtain ⟨b, r, rfl⟩ := split4 q
  rw [pay12_at, inv0 R t b r d, v88_at]
  refine (part_congr _ (fun j' => j'.val ≤ b.val) _ (fun j' => by omega)).trans ?_
  refine part_all _ (fun k => dsm m c (hd t) (at4 b r) k * (a2 m c : FVec Ideal S2048x2048 .bf16) (ix2 k (colK (hd t) d)))
    fun j' hj k => ?_
  rw [ds_masked _ _ _ (by show ¬512 * j'.val + k.val ≤ 512 * b.val + r.val; omega), zero_mul]

include R in
theorem val9 (hm : t.val % 16 = 15) : k0_pay13 (outsAt0 m c t.val t.isLt).2.2.2.2.2.1 (ix3 0 q e)
    = val_main_v86 (a0 m c) (a1 m c) (a2 m c) (a3 m c) (a4 m c) (ix3 (hd t) q e) := by
  obtain ⟨b, r, rfl⟩ := split4 q
  rw [pay13_at, inv1 R t b r e, v86_at]
  refine (part_congr _ (fun j' => j'.val ≤ b.val) _ (fun j' => by omega)).trans ?_
  refine part_all _ (fun k => dsm m c (hd t) (at4 b r) k * (a3 m c : FVec Ideal S2048x64 .bf16) (ix2 k e)) fun j' hj k => ?_
  rw [ds_masked _ _ _ (by show ¬512 * j'.val + k.val ≤ 512 * b.val + r.val; omega), zero_mul]

include R in
theorem valK (hm : t.val % 4 = 3) : (outsAt0 m c t.val t.isLt).2.2.2.2.2.2.1 (ix2 s d)
    = val_main_v85 (a0 m c) (a1 m c) (a2 m c) (a3 m c) (a4 m c) (ix2 (at4 (jj t) s) (colK (hd t) d)) := by
  rw [inv2 R t s d, v85_K]
  refine part_all _ (fun q => dsm m c (hd t) q (at4 (jj t) s) * (a0 m c : FVec Ideal S2048x1024 .bf16) (ix2 q (col (hd t) d)))
    fun i' hi q => ?_
  rw [ds_masked _ _ _ (by show ¬512 * (t.val / 4 % 4) + s.val ≤ 512 * i'.val + q.val; omega), zero_mul]

include R in
theorem valV (hm : t.val % 4 = 3) : (outsAt0 m c t.val t.isLt).2.2.2.2.2.2.2.1 (ix2 s d)
    = val_main_v85 (a0 m c) (a1 m c) (a2 m c) (a3 m c) (a4 m c) (ix2 (at4 (jj t) s) (colV (hd t) d)) := by
  rw [inv3 R t s d, v85_V]
  refine (part_all _ (fun q => prm m c (hd t) q (at4 (jj t) s) * (a4 m c : FVec Ideal S2048x1024 .bf16) (ix2 q (col (hd t) d)))
    fun i' hi q => ?_).trans (Finset.sum_congr rfl fun q _ => mul_comm _ _)
  rw [pr_masked R _ _ _ (by show ¬512 * (t.val / 4 % 4) + s.val ≤ 512 * i'.val + q.val; omega), zero_mul]

include R in
theorem val11 (hm : t.val % 4 = 3) : (outsAt0 m c t.val t.isLt).2.2.2.2.2.2.2.2 (ix2 s e)
    = val_main_v75 (a0 m c) (a1 m c) (a2 m c) (a3 m c) (a4 m c) (ix3 (hd t) (at4 (jj t) s) e) := by
  rw [inv4 R t s e, v75_at]
  refine part_all _ (fun q => dsm m c (hd t) q (at4 (jj t) s) * (a1 m c : FVec Ideal S8x2048x64 .bf16) (ix3 (hd t) q e))
    fun i' hi q => ?_
  rw [ds_masked _ _ _ (by show ¬512 * (t.val / 4 % 4) + s.val ≤ 512 * i'.val + q.val; omega), zero_mul]

theorem fin10 (hm : t.val % 4 = 3) : (outsAt0 m c t.val t.isLt).2.2.1
    = cat (k0_pay9 (outsAt0 m c t.val t.isLt).2.2.2.2.2.2.1) (k0_pay10 (outsAt0 m c t.val t.isLt).2.2.2.2.2.2.2.1) := by
  by_cases h5 : t.val % 16 = 15
  · exact G_10 m c t (by omega) (by omega) (by omega) (by omega) (by omega) h5
  · exact C_10 m c t (by omega) (by omega) (by omega) (by omega) (by omega) h5

theorem fin11 (hm : t.val % 4 = 3) : (outsAt0 m c t.val t.isLt).2.2.2.1 = k0_pay11 (outsAt0 m c t.val t.isLt).2.2.2.2.2.2.2.2 := by
  by_cases h5 : t.val % 16 = 15
  · exact G_11 m c t (by omega) (by omega) (by omega) (by omega) (by omega) h5
  · exact C_11 m c t (by omega) (by omega) (by omega) (by omega) (by omega) h5

include R in
theorem val10 (hm : t.val % 4 = 3) (d : Fin 256) : (outsAt0 m c t.val t.isLt).2.2.1 (ix2 s d)
    = val_main_v85 (a0 m c) (a1 m c) (a2 m c) (a3 m c) (a4 m c) (ix2 (at4 (jj t) s) ⟨256 * (hd t).val + d.val, by omega⟩) := by
  rw [fin10 t hm]
  by_cases h : d.val < 128
  · refine (cat_lo _ _ s ⟨d.val, h⟩).trans ((pay9_at ..).trans ((valK R t s ⟨d.val, h⟩ hm).trans ?_))
    rfl
  · have e : d = ⟨128 + (⟨d.val - 128, by omega⟩ : Fin 128).val, by omega⟩ := Fin.ext (by show d.val = 128 + (d.val - 128); omega)
    rw [e]
    refine (cat_hi _ _ s ⟨d.val - 128, by omega⟩).trans ((pay10_at ..).trans ((valV R t s ⟨d.val - 128, by omega⟩ hm).trans ?_))
    congr 2
    exact Fin.ext (Nat.add_assoc _ _ _)

include R in
theorem out8 : (dats m 0 c).arrAt 8 cfg0.N = val_main_v88 (a0 m c) (a1 m c) (a2 m c) (a3 m c) (a4 m c) := by
  refine (dats m 0 c).arrAt_eq_of_covers 8 _ (by decide +kernel) fun t hf y => ?_
  blk_simp
  rw [after0_8]
  have hm : t.val % 16 = 15 := (flush0_8 t).mp hf
  rw [G_8 m c t (by omega) (by omega) (by omega) (by omega) (by omega) (by omega)]
  refine (congrArg (k0_pay12 _) (eta2 (n0 := 2048) (n1 := 128) y)).trans ((val8 R t _ _ hm).trans (congrArg _ ?_))
  have e := (idxOut t).1
  funext a; apply Fin.ext
  match a with
  | ⟨0, _⟩ => show (y 0).val = win0_8.index t 0 * 2048 + 1 * (y 0).val; rw [e]; show _ = 0 * 2048 + _; omega
  | ⟨1, _⟩ => show 128 * (t.val / 16) + (y 1).val = win0_8.index t 1 * 128 + 1 * (y 1).val; rw [e]; show _ = t.val / 16 * 128 + _; omega

include R in
theorem out9 : (dats m 0 c).arrAt 9 cfg0.N = val_main_v86 (a0 m c) (a1 m c) (a2 m c) (a3 m c) (a4 m c) := by
  refine (dats m 0 c).arrAt_eq_of_covers 9 _ (by decide +kernel) fun t hf y => ?_
  blk_simp
  rw [after0_9]
  have hm : t.val % 16 = 15 := (flush0_9 t).mp hf
  rw [G_9 m c t (by omega) (by omega) (by omega) (by omega) (by omega) (by omega)]
  refine (congrArg (k0_pay13 _) (eta3 (n1 := 2048) (n2 := 64) y)).trans ((val9 R t _ _ hm).trans (congrArg _ ?_))
  have e := (idxOut t).2.1
  have h0 : (y 0).val < 1 := (y 0).isLt
  funext a; apply Fin.ext
  match a with
  | ⟨0, _⟩ => show t.val / 16 = win0_9.index t 0 * 1 + 1 * (y 0).val; rw [e]; show _ = t.val / 16 * 1 + _; omega
  | ⟨1, _⟩ => show (y 1).val = win0_9.index t 1 * 2048 + 1 * (y 1).val; rw [e]; show _ = 0 * 2048 + _; omega
  | ⟨2, _⟩ => show (y 2).val = win0_9.index t 2 * 64 + 1 * (y 2).val; rw [e]; show _ = 0 * 64 + _; omega

include R in
theorem out10 : (dats m 0 c).arrAt 10 cfg0.N = val_main_v85 (a0 m c) (a1 m c) (a2 m c) (a3 m c) (a4 m c) := by
  refine (dats m 0 c).arrAt_eq_of_covers 10 _ (by decide +kernel) fun t hf y => ?_
  blk_simp
  rw [after0_10]
  have hm : t.val % 4 = 3 := (flush0_10 t).mp hf
  refine (congrArg (outsAt0 m c t.val t.isLt).2.2.1 (eta2 (n0 := 512) (n1 := 256) y)).trans ((val10 R t _ hm _).trans (congrArg _ ?_))
  have e := (idxOut t).2.2.1
  funext a; apply Fin.ext
  match a with
  | ⟨0, _⟩ => show 512 * (t.val / 4 % 4) + (y 0).val = win0_10.index t 0 * 512 + 1 * (y 0).val; rw [e]; show _ = t.val / 4 % 4 * 512 + _; omega
  | ⟨1, _⟩ => show 256 * (t.val / 16) + (y 1).val = win0_10.index t 1 * 256 + 1 * (y 1).val; rw [e]; show _ = t.val / 16 * 256 + _; omega

include R in
theorem out11 : (dats m 0 c).arrAt 11 cfg0.N = val_main_v75 (a0 m c) (a1 m c) (a2 m c) (a3 m c) (a4 m c) := by
  refine (dats m 0 c).arrAt_eq_of_covers 11 _ (by decide +kernel) fun t hf y => ?_
  blk_simp
  rw [after0_11]
  have hm : t.val % 4 = 3 := (flush0_11 t).mp hf
  rw [fin11 t hm]
  refine (congrArg (k0_pay11 _) (eta3 (n1 := 512) (n2 := 64) y)).trans ((pay11_at ..).trans ((val11 R t _ _ hm).trans (congrArg _ ?_)))
  have e := (idxOut t).2.2.2
  have h0 : (y 0).val < 1 := (y 0).isLt
  funext a; apply Fin.ext
  match a with
  | ⟨0, _⟩ => show t.val / 16 = win0_11.index t 0 * 1 + 1 * (y 0).val; rw [e]; show _ = t.val / 16 * 1 + _; omega
  | ⟨1, _⟩ => show 512 * (t.val / 4 % 4) + (y 1).val = win0_11.index t 1 * 512 + 1 * (y 1).val; rw [e]; show _ = t.val / 4 % 4 * 512 + _; omega
  | ⟨2, _⟩ => show (y 2).val = win0_11.index t 2 * 64 + 1 * (y 2).val; rw [e]; show _ = 0 * 64 + _; omega

end Cert.AttnRun

end
-- ==== Proof.AttnPre.lean ====
/-
  The precondition, read: every entry of every argument is a real number.
-/
module

public import proofs.«01_k».proof.Defs
public import proofs.«01_k».proof.Proof.AttnBlk
public import Idealize.ShloMosaic.Lib.ReduceAll

@[expose] public section

set_option maxRecDepth 16384

noncomputable section

namespace Cert.AttnPre

open Cert.Pre_finite Cert.AttnMath
open Idealize.ShloMosaic Idealize.ShloMosaic.TcCoe Idealize.SL.Sem

theorem facts : Cert.Pre_finite.Facts where
  bitsLt_bf16_f32 := by decide
  bcast_S_S2048x1024 := by decide
  reducesTo_S2048x1024_S_d0_1 := by decide
  h_S_ := by decide
  bcast_S_S8x2048x64 := by decide
  reducesTo_S8x2048x64_S_d0_1_2 := by decide
  bcast_S_S2048x2048 := by decide
  reducesTo_S2048x2048_S_d0_1 := by decide
  bcast_S_S2048x64 := by decide
  reducesTo_S2048x64_S_d0_1 := by decide

theorem real_of {s : Shape} {axes : List (Fin s.rank)} (x : FVec Ideal s .bf16) (hb : S_.BroadcastsInDim s (![] : Fin 0 → Fin s.rank))
    (hr : s.ReducesTo axes S_) (hu : 0 < S_.numel) (hx : FTy.bits .bf16 < FTy.bits .f32) (j : S_.Idx)
    (h : Host.reduce IntOp.andi (cmpf .olt (Host.absf (extf .f32 x hx)) (broadcastInDim s ![] hb (constant (F := Ideal) S_ .f32 0x7F800000#32)))
      (constantI S_ 1 1#1) hr hu j = 1#1) (i : s.Idx) : IsReal (x i : EReal) := by
  have : Subsingleton S_.Idx := ⟨fun a b => funext fun k => k.elim0⟩
  have e := Host.reduce_andi_all _ _ _ _ j h i
  refine IsReal.of_abs ?_
  have e1 : Ideal.cmp .olt (max (x i : EReal) (-(x i : EReal))) (Ideal.ofBits .f32 0x7F800000#32) = 1 := e
  have e2 : Ideal.ofBits .f32 0x7F800000#32 = ⊤ := by simp [Ideal.ofBits, Ideal.ieee]
  rw [e2, Ideal.cmp_olt_eq_one] at e1
  exact e1

theorem and_ones {a b : IVec S_ 1} {j : S_.Idx} (h : andi a b j = 1#1) : a j = 1#1 ∧ b j = 1#1 := by
  have : IntOp.andi (a j) (b j) = 1#1 := h
  revert this
  generalize a j = x
  generalize b j = y
  revert x y
  decide

theorem real (m : (ℓ : Loc Cert.KernelIdeal.nD Cert.KernelIdeal.τ Cert.KernelIdeal.sig) → Buf (Elt Ideal) ℓ)
    (h : @Pre_KernelIdeal_finite facts m) (c : Dev Cert.KernelIdeal.nD) : Cert.AttnBlk.Real m c := by
  have hc := congrFun (h c) (fun k => k.elim0)
  unfold Cert.Pre_finite.fn at hc
  dsimp only at hc
  unfold Cert.Pre_finite.fn_part1 at hc
  dsimp only at hc
  obtain ⟨hc, h4⟩ := and_ones hc
  obtain ⟨hc, h3⟩ := and_ones hc
  obtain ⟨hc, h2⟩ := and_ones hc
  obtain ⟨h0, h1⟩ := and_ones hc
  exact ⟨real_of _ _ _ _ _ _ h0, real_of _ _ _ _ _ _ h1, real_of _ _ _ _ _ _ h2, real_of _ _ _ _ _ _ h3, real_of _ _ _ _ _ _ h4⟩

end Cert.AttnPre

end
-- ==== Proof.AttnClaims.lean ====
/-
  The claims about the attention's gradient call.
-/
module

public import proofs.«01_k».proof.Defs
public import proofs.«01_k».proof.Proof.AttnRun
public import proofs.«01_k».proof.Proof.AttnPre
public import proofs.«01_k».proof.Proof.Gen.Kernel.Frame
public import proofs.«01_k».proof.Proof.Gen.ReferenceIdeal.Run
public import Idealize.ShloMosaic.Adequacy
public import Idealize.ShloMosaic.Init

@[expose] public section

set_option maxRecDepth 16384

noncomputable section

namespace Cert.AttnClaims

open Idealize.ShloMosaic Idealize.ShloMosaic.TcCoe Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : @Cert.quiescent_KernelIdeal_pre_finite Cert.KernelIdeal.Gen.facts Cert.AttnPre.facts :=
  fun m ρ _ => Cert.KernelIdeal.Gen.frame m ρ

theorem frame_ref : Cert.quiescent_ReferenceIdeal := fun m ρ _ =>
  (θ_run Cert.ReferenceIdeal.defs _ _).mono (fun r h => ⟨fun c => (h c).2.2.2.2,
      sem_eq_zero_of_no_sems (by decide) r.2⟩)
    (Cert.ReferenceIdeal.Value.run (F := Ideal) m ρ)

theorem frame_ref_pre : @Cert.quiescent_ReferenceIdeal_pre_finite Cert.ReferenceIdeal.Gen.facts Cert.AttnPre.facts :=
  fun m ρ _ => frame_ref m ρ trivial

theorem preserves : Cert.preserves_Kernel_KernelIdeal :=
  IdealRules.named_const.statement Cert.KernelIdeal.κ "mask" .f32 0xF149F2CA#32 ⊥ rfl

theorem congr5 {α₀ α₁ α₂ α₃ α₄ β : Type} (f : α₀ → α₁ → α₂ → α₃ → α₄ → β) {x0 y0 x1 y1 x2 y2 x3 y3 x4 y4} (h0 : x0 = y0) (h1 : x1 = y1)
    (h2 : x2 = y2) (h3 : x3 = y3) (h4 : x4 = y4) : f x0 x1 x2 x3 x4 = f y0 y1 y2 y3 y4 := by
  subst h0 h1 h2 h3 h4; rfl

section
variable {m' : (ℓ : Loc Cert.ReferenceIdeal.nD Cert.ReferenceIdeal.τ Cert.ReferenceIdeal.sig) → Buf (Elt Ideal) ℓ} {c : Dev Cert.ReferenceIdeal.nD}
variable {x0 x1 x2 x3 x4}
  (h0 : m' ((c.tc : Thread Cert.ReferenceIdeal.nD Cert.ReferenceIdeal.τ).loc Cert.ReferenceIdeal.main_arg0) = x0)
  (h1 : m' ((c.tc : Thread Cert.ReferenceIdeal.nD Cert.ReferenceIdeal.τ).loc Cert.ReferenceIdeal.main_arg1) = x1)
  (h2 : m' ((c.tc : Thread Cert.ReferenceIdeal.nD Cert.ReferenceIdeal.τ).loc Cert.ReferenceIdeal.main_arg2) = x2)
  (h3 : m' ((c.tc : Thread Cert.ReferenceIdeal.nD Cert.ReferenceIdeal.τ).loc Cert.ReferenceIdeal.main_arg3) = x3)
  (h4 : m' ((c.tc : Thread Cert.ReferenceIdeal.nD Cert.ReferenceIdeal.τ).loc Cert.ReferenceIdeal.main_arg4) = x4)
include h0 h1 h2 h3 h4 in
theorem ref88 : Cert.ReferenceIdeal.Value.res_main_v88 m' c = Cert.ReferenceIdeal.Read.val_main_v88 (F := Ideal) x0 x1 x2 x3 x4 :=
  (Cert.ReferenceIdeal.Read.val_main_v88_eq m' c).trans (congr5 (Cert.ReferenceIdeal.Read.val_main_v88 (F := Ideal)) h0 h1 h2 h3 h4)
include h0 h1 h2 h3 h4 in
theorem ref86 : Cert.ReferenceIdeal.Value.res_main_v86 m' c = Cert.ReferenceIdeal.Read.val_main_v86 (F := Ideal) x0 x1 x2 x3 x4 :=
  (Cert.ReferenceIdeal.Read.val_main_v86_eq m' c).trans (congr5 (Cert.ReferenceIdeal.Read.val_main_v86 (F := Ideal)) h0 h1 h2 h3 h4)
include h0 h1 h2 h3 h4 in
theorem ref85 : Cert.ReferenceIdeal.Value.res_main_v85 m' c = Cert.ReferenceIdeal.Read.val_main_v85 (F := Ideal) x0 x1 x2 x3 x4 :=
  (Cert.ReferenceIdeal.Read.val_main_v85_eq m' c).trans (congr5 (Cert.ReferenceIdeal.Read.val_main_v85 (F := Ideal)) h0 h1 h2 h3 h4)
include h0 h1 h2 h3 h4 in
theorem ref75 : Cert.ReferenceIdeal.Value.res_main_v75 m' c = Cert.ReferenceIdeal.Read.val_main_v75 (F := Ideal) x0 x1 x2 x3 x4 :=
  (Cert.ReferenceIdeal.Read.val_main_v75_eq m' c).trans (congr5 (Cert.ReferenceIdeal.Read.val_main_v75 (F := Ideal)) h0 h1 h2 h3 h4)
end

set_option maxHeartbeats 1000000 in
theorem algebraic : @Cert.algebraic_KernelIdeal_ReferenceIdeal_pre_finite Cert.KernelIdeal.Gen.facts Cert.ReferenceIdeal.Gen.facts
    Cert.AttnPre.facts := by
  intro m ρ m' ρ' hpre hagree
  refine ⟨fun c => Cert.ReferenceIdeal.Read.val_main_v88 (F := Ideal) (Cert.AttnHost.a0 m c) (Cert.AttnHost.a1 m c) (Cert.AttnHost.a2 m c) (Cert.AttnHost.a3 m c) (Cert.AttnHost.a4 m c),
    fun c => Cert.ReferenceIdeal.Read.val_main_v86 (F := Ideal) (Cert.AttnHost.a0 m c) (Cert.AttnHost.a1 m c) (Cert.AttnHost.a2 m c) (Cert.AttnHost.a3 m c) (Cert.AttnHost.a4 m c),
    fun c => Cert.ReferenceIdeal.Read.val_main_v85 (F := Ideal) (Cert.AttnHost.a0 m c) (Cert.AttnHost.a1 m c) (Cert.AttnHost.a2 m c) (Cert.AttnHost.a3 m c) (Cert.AttnHost.a4 m c),
    fun c => Cert.ReferenceIdeal.Read.val_main_v75 (F := Ideal) (Cert.AttnHost.a0 m c) (Cert.AttnHost.a1 m c) (Cert.AttnHost.a2 m c) (Cert.AttnHost.a3 m c) (Cert.AttnHost.a4 m c),
    ?_, ?_⟩
  · refine (θ_run Cert.KernelIdeal.defs _ _).mono (fun r h c => ?_)
      (θ_run_and (Cert.KernelIdeal.Gen.run_main (F := Ideal) m ρ) (Cert.KernelIdeal.Gen.unchanged (F := Ideal) m ρ))
    have R := Cert.AttnPre.real m hpre c
    exact ⟨((h.1 c).1 8).trans (Cert.AttnRun.out8 R), ((h.1 c).1 9).trans (Cert.AttnRun.out9 R),
      ((h.1 c).1 10).trans (Cert.AttnRun.out10 R), ((h.1 c).1 11).trans (Cert.AttnRun.out11 R), h.2 c⟩
  · refine (θ_run Cert.ReferenceIdeal.defs _ _).mono (fun r h c => ?_) (Cert.ReferenceIdeal.Value.run (F := Ideal) m' ρ')
    obtain ⟨e0, e1, e2, e3, e4⟩ := hagree c
    obtain ⟨h88, h86, h85, h75, hargs⟩ := h c
    exact ⟨h88.trans (ref88 e0 e1 e2 e3 e4), h86.trans (ref86 e0 e1 e2 e3 e4), h85.trans (ref85 e0 e1 e2 e3 e4),
      h75.trans (ref75 e0 e1 e2 e3 e4), hargs⟩

end Cert.AttnClaims

end
-- ==== Proof.Prod.lean ====
/-
  Indices and sums that the products' proofs share.
-/
module

public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

noncomputable section

namespace Cert.Prod

open Idealize.ShloMosaic Idealize.SL.Sem

theorem eta2 {n0 n1 : ℕ} (y : (⟨2, ![n0, n1]⟩ : Shape).Idx) : y = ix2 (y 0) (y 1) := by
  funext a
  match a with
  | ⟨0, _⟩ => rfl
  | ⟨1, _⟩ => rfl

theorem eta3 {n1 n2 : ℕ} (y : (⟨3, ![1, n1, n2]⟩ : Shape).Idx) : y = ix3 0 (y 1) (y 2) := by
  funext a
  match a with
  | ⟨0, _⟩ => exact Fin.ext (by have : (y 0).val < 1 := (y 0).isLt; show (y 0).val = 0; omega)
  | ⟨1, _⟩ => rfl
  | ⟨2, _⟩ => rfl

theorem zero2 : (![0, 0] : Fin 2 → ℕ) = fun _ => 0 := by decide

theorem zero3 : (![0, 0, 0] : Fin 3 → ℕ) = fun _ => 0 := by decide

/-- Equal factors give equal sums of products. -/
theorem sum_mul {n : ℕ} {f g f' g' : Fin n → EReal} (h : ∀ k, f k = f' k) (h' : ∀ k, g k = g' k) :
    ∑ k, f k * g k = ∑ k, f' k * g' k :=
  Finset.sum_congr rfl fun k _ => congrArg₂ (fun x y : EReal => x * y) (h k) (h' k)

theorem congr2 {α₀ α₁ β : Type} (f : α₀ → α₁ → β) {x0 y0 x1 y1} (h0 : x0 = y0) (h1 : x1 = y1) : f x0 x1 = f y0 y1 := by
  subst h0 h1; rfl

/-- A sum over `n * w` terms, block by block. -/
theorem sum_parts {n w N : ℕ} (e : n * w = N) (f : Fin N → EReal) :
    ∑ k, f k = ∑ b : Fin n, ∑ r : Fin w, f ⟨w * b.val + r.val, by
      have h : w * b.val + w ≤ w * n := by rw [← Nat.mul_succ]; exact Nat.mul_le_mul_left w b.isLt
      have := r.isLt; rw [← e, Nat.mul_comm n w]; omega⟩ := by
  subst e
  rw [← Equiv.sum_comp (finProdFinEquiv (m := n) (n := w)) f, Fintype.sum_prod_type]
  refine Finset.sum_congr rfl fun b _ => Finset.sum_congr rfl fun r _ => congrArg f (Fin.ext ?_)
  show r.val + w * b.val = w * b.val + r.val
  omega

end Cert.Prod

end
-- ==== Proof.Swiglu.lean ====
/-
  The gradient of the channel mixer's gate, `silu(gate) * up`: its call over the extended reals, and the reference's term.

  With `s = sigmoid gate` the call writes `(da * s * up) * (1 + gate * (1 - s))` for the gate's gradient and the
  reference `(da * up) * s + (gate * (da * up)) * (s * (1 - s))`; over the reals these are the same.
-/
module

public import proofs.«01_k».proof.Proof.Prod
public import proofs.«01_k».proof.Proof.AttnMath
public import proofs.«01_k».proof.Proof.Gen.Kernel2Ideal.Frame
public import proofs.«01_k».proof.Proof.Gen.Reference2Ideal.Run

@[expose] public section

set_option maxRecDepth 16384

noncomputable section

namespace Cert.Swiglu

open Idealize.ShloMosaic Idealize.ShloMosaic.TcCoe Idealize.SL.Sem
open Cert.Prod Cert.AttnMath

/-- The sigmoid. -/
def sg (x : EReal) : EReal := Ideal.div 1 (1 + Ideal.exp (-x))

theorem sg_real {x : EReal} (h : IsReal x) : IsReal (sg x) := by
  obtain ⟨r, rfl⟩ := h
  have hp : (1 + Real.exp (-r) : ℝ) ≠ 0 := by positivity
  refine ⟨1 / (1 + Real.exp (-r)), ?_⟩
  rw [← div_coe 1 _ hp]
  rfl

/-- The gate's gradient as the call computes it, and as differentiation gives it. -/
theorem gate_eq {g u d : EReal} (hg : IsReal g) (hu : IsReal u) (hd : IsReal d) :
    d * sg g * u * (1 + g * (1 - sg g)) = d * u * sg g + g * (d * u) * (sg g * (1 - sg g)) := by
  obtain ⟨s, hs⟩ := sg_real hg
  rw [hs]
  obtain ⟨g, rfl⟩ := hg
  obtain ⟨u, rfl⟩ := hu
  obtain ⟨d, rfl⟩ := hd
  rw [show (1 : EReal) = ((1 : ℝ) : EReal) from rfl]
  simp only [← EReal.coe_mul, ← EReal.coe_add, ← EReal.coe_sub]
  exact congrArg _ (by ring)

theorem swap (d s g : EReal) : d * s * g = g * s * d := by
  rw [mul_comm (d * s) g, mul_comm d s, mul_assoc]

section Ref

open Cert.Reference2Ideal Cert.Reference2Ideal.Gen

/-- The sigmoid of a whole array, as the reference prints it. -/
def sigm (A : FVec Ideal S2048x5632 .bf16) : FVec Ideal S2048x5632 .f32 :=
  Host.divf (broadcastInDim S2048x5632 ![] bcast_S_S2048x5632 (constant S_ .f32 0x3F800000#32))
    (addf (broadcastInDim S2048x5632 ![] bcast_S_S2048x5632 (constant S_ .f32 0x3F800000#32)) (Host.exp (Host.negf (extf .f32 A bitsLt_bf16_f32))))

/-- The gate's part of the reference's result. -/
def dgate (A B D : FVec Ideal S2048x5632 .bf16) : FVec Ideal S2048x5632 .bf16 :=
  truncf .bf16 (addf (mulf (mulf (extf .f32 D bitsLt_bf16_f32) (extf .f32 B bitsLt_bf16_f32)) (sigm A))
    (mulf (mulf (extf .f32 A bitsLt_bf16_f32) (mulf (extf .f32 D bitsLt_bf16_f32) (extf .f32 B bitsLt_bf16_f32)))
      (mulf (sigm A) (subf (broadcastInDim S2048x5632 ![] bcast_S_S2048x5632 (constant S_ .f32 0x3F800000#32)) (sigm A))))) bitsLt_bf16_f32

/-- The other part. -/
def dup (A D : FVec Ideal S2048x5632 .bf16) : FVec Ideal S2048x5632 .bf16 :=
  truncf .bf16 (mulf (mulf (extf .f32 A bitsLt_bf16_f32) (sigm A)) (extf .f32 D bitsLt_bf16_f32)) bitsLt_bf16_f32

/-- The reference's result as a function of its three arguments. -/
def val (A B D : FVec Ideal S2048x5632 .bf16) : FVec Ideal S2048x11264 .bf16 :=
  concatenate S2048x11264 1 [⟨S2048x5632, dgate A B D⟩, ⟨S2048x5632, dup A D⟩] concatenates_S2048x5632_S2048x5632_S2048x11264_d1

theorem one_bits : Ideal.ofBits .f32 0x3F800000#32 = 1 := by simp [Ideal.ofBits, Ideal.ieee]; rw [← EReal.coe_mul]; norm_num

theorem sigm_at (A : FVec Ideal S2048x5632 .bf16) (y : S2048x5632.Idx) : (sigm A y : EReal) = sg (A y) := by
  show Ideal.div (Ideal.ofBits .f32 0x3F800000#32) (Ideal.ofBits .f32 0x3F800000#32 + Ideal.exp (-(A y : EReal))) = _
  rw [one_bits]; rfl

theorem dgate_at (A B D : FVec Ideal S2048x5632 .bf16) (y : S2048x5632.Idx) :
    (dgate A B D y : EReal) = (D y : EReal) * B y * sg (A y) + (A y : EReal) * ((D y : EReal) * B y) * (sg (A y) * (1 - sg (A y))) := by
  show (D y : EReal) * B y * sigm A y + (A y : EReal) * ((D y : EReal) * B y) * ((sigm A y : EReal) * (Ideal.ofBits .f32 0x3F800000#32 - sigm A y)) = _
  rw [one_bits, sigm_at]

theorem dup_at (A D : FVec Ideal S2048x5632 .bf16) (y : S2048x5632.Idx) :
    (dup A D y : EReal) = (A y : EReal) * sg (A y) * D y := by
  show (A y : EReal) * sigm A y * D y = _
  rw [sigm_at]

theorem val_lt (A B D : FVec Ideal S2048x5632 .bf16) (i : Fin 2048) (j : Fin 11264) (h : j.val < 5632) :
    val A B D (ix2 i j) = dgate A B D (ix2 i ⟨j.val, h⟩) := by
  unfold val
  pointwise []
  exact dif_pos h

theorem val_ge (A B D : FVec Ideal S2048x5632 .bf16) (i : Fin 2048) (j : Fin 11264) (h : ¬ j.val < 5632) :
    val A B D (ix2 i j) = dup A D (ix2 i ⟨j.val - 5632, by have := j.isLt; omega⟩) := by
  unfold val
  pointwise []
  exact dif_neg h

end Ref

open Cert.Kernel2Ideal Cert.Kernel2Ideal.Gen

theorem pay4_at (g u d : Vec Ideal S128x5632 .bf16) (y : S128x5632.Idx) :
    (k0_pay4 g u d y : EReal) = (d y : EReal) * sg (g y) * u y * (1 + (g y : EReal) * (1 - sg (g y))) := by
  show (d y : EReal) * Ideal.div (Ideal.ofBits .f32 0x3F800000#32) (Ideal.ofBits .f32 0x3F800000#32 + Ideal.exp (Ideal.ofBits .f32 0x00000000#32 - (g y : EReal))) * u y
    * (Ideal.ofBits .f32 0x3F800000#32 + (g y : EReal) * (Ideal.ofBits .f32 0x3F800000#32
      - Ideal.div (Ideal.ofBits .f32 0x3F800000#32) (Ideal.ofBits .f32 0x3F800000#32 + Ideal.exp (Ideal.ofBits .f32 0x00000000#32 - (g y : EReal))))) = _
  have z : Ideal.ofBits .f32 0x00000000#32 = 0 := by simp [Ideal.ofBits, Ideal.ieee]
  rw [one_bits, z, zero_sub]; rfl

theorem pay5_at (g d : Vec Ideal S128x5632 .bf16) (y : S128x5632.Idx) :
    (k0_pay5 g d y : EReal) = (d y : EReal) * sg (g y) * g y := by
  show (d y : EReal) * Ideal.div (Ideal.ofBits .f32 0x3F800000#32) (Ideal.ofBits .f32 0x3F800000#32 + Ideal.exp (Ideal.ofBits .f32 0x00000000#32 - (g y : EReal))) * g y = _
  have z : Ideal.ofBits .f32 0x00000000#32 = 0 := by simp [Ideal.ofBits, Ideal.ieee]
  rw [one_bits, z, zero_sub]; rfl

variable (m : (ℓ : Loc nD τ sig) → Buf (Elt Ideal) ℓ) (c : Dev nD)

abbrev a0 : FVec Ideal S2048x5632 .bf16 := m ((c : Thread nD τ).loc main_arg0)
abbrev a1 : FVec Ideal S2048x5632 .bf16 := m ((c : Thread nD τ).loc main_arg1)
abbrev a2 : FVec Ideal S2048x5632 .bf16 := m ((c : Thread nD τ).loc main_arg2)

/-- Every entry of every argument is a real number. -/
structure Reals : Prop where
  r0 : ∀ y, IsReal (a0 m c y : EReal)
  r1 : ∀ y, IsReal (a1 m c y : EReal)
  r2 : ∀ y, IsReal (a2 m c y : EReal)

theorem idx : ∀ t : Fin cfg0.N, win0_0.index t = ![t.val, 0] ∧ win0_1.index t = ![t.val, 0] ∧ win0_2.index t = ![t.val, 0]
    ∧ win0_3.index t = ![t.val, 0] := by
  decide +kernel

variable (t : Fin cfg0.N)

theorem lt : t.val < 16 := t.isLt

abbrev row (r : Fin 128) : Fin 2048 := ⟨128 * t.val + r.val, by have := lt t; omega⟩

theorem blk0 (r : Fin 128) (k : Fin 5632) : iblk m c 0 t (ix2 r k) = a0 m c (ix2 (row t r) k) := by
  unfold row
  blk_ext [iblk, V, (idx t).1]

theorem blk1 (r : Fin 128) (k : Fin 5632) : iblk m c 1 t (ix2 r k) = a1 m c (ix2 (row t r) k) := by
  unfold row
  blk_ext [iblk, V, (idx t).2.1]

theorem blk2 (r : Fin 128) (k : Fin 5632) : iblk m c 2 t (ix2 r k) = a2 m c (ix2 (row t r) k) := by
  unfold row
  blk_ext [iblk, V, (idx t).2.2.1]

/-- What the call writes at a grid point, column by column. -/
theorem out_at (g u d : Vec Ideal S128x5632 .bf16) (r : Fin 128) (j : Fin 11264) (v : Elt Ideal .bf16)
    (h4 : ∀ h : j.val < 5632, k0_pay4 g u d (ix2 r ⟨j.val, h⟩) = v)
    (h5 : ∀ h : j.val - 5632 < 5632, 5632 ≤ j.val → k0_pay5 g d (ix2 r ⟨j.val - 5632, h⟩) = v) :
    out0_3 g u d (ix2 r j) = v := by
  unfold out0_3
  rw [View.ld_unit_zero zero2, View.ld_unit_zero zero2, View.ld_unit_zero zero2]
  refine View.canon_eq_of_allAt _ _ _ (cover0_3 _ _ _) (View.allAt_cons_unit _ _ _ _ _ (fun x hx => ?_)
    (View.allAt_cons_unit _ _ _ _ _ (fun x hx => ?_) (View.allAt_nil _ _)))
  · have e0 : r.val = 0 + (x 0).val := hx 0
    have e1 : j.val = 5632 + (x 1).val := hx 1
    have hl : (x 1).val < 5632 := (x 1).isLt
    refine Eq.trans (congrArg (k0_pay5 g d) (funext fun a => Fin.ext ?_)) (h5 (by omega) (by omega))
    match a with
    | ⟨0, _⟩ => show (x 0).val = r.val; omega
    | ⟨1, _⟩ => show (x 1).val = j.val - 5632; omega
  · have e0 : r.val = 0 + (x 0).val := hx 0
    have e1 : j.val = 0 + (x 1).val := hx 1
    have hl : (x 1).val < 5632 := (x 1).isLt
    refine Eq.trans (congrArg (k0_pay4 g u d) (funext fun a => Fin.ext ?_)) (h4 (by omega))
    match a with
    | ⟨0, _⟩ => show (x 0).val = r.val; omega
    | ⟨1, _⟩ => show (x 1).val = j.val; omega

variable {m c}

theorem point (R : Reals m c) (r : Fin 128) (j : Fin 11264) :
    out0_3 (iblk m c 0 t : Vec Ideal S128x5632 .bf16) (iblk m c 1 t : Vec Ideal S128x5632 .bf16) (iblk m c 2 t : Vec Ideal S128x5632 .bf16) (ix2 r j)
      = val (a0 m c) (a1 m c) (a2 m c) (ix2 (row t r) j) := by
  refine out_at _ _ _ r j _ (fun h => ?_) fun h h' => ?_
  · rw [val_lt _ _ _ _ _ h]
    refine (pay4_at _ _ _ _).trans (Eq.trans ?_ (dgate_at _ _ _ _).symm)
    rw [blk0, blk1, blk2]
    exact gate_eq (R.r0 _) (R.r1 _) (R.r2 _)
  · rw [val_ge _ _ _ _ _ (by omega)]
    refine (pay5_at _ _ _).trans (Eq.trans ?_ (dup_at _ _ _).symm)
    rw [blk0, blk2]
    exact swap _ _ _

theorem out (R : Reals m c) : (dats m 0 c).arrAt 3 cfg0.N = val (a0 m c) (a1 m c) (a2 m c) := by
  refine (dats m 0 c).arrAt_eq_of_covers 3 _ (by decide +kernel) fun t hf y => ?_
  blk_simp
  rw [after0_3]
  refine (congrArg (out0_3 _ _ _) (eta2 (n0 := 128) (n1 := 11264) y)).trans ((point t R _ _).trans (congrArg _ ?_))
  have e := (idx t).2.2.2
  funext a; apply Fin.ext
  match a with
  | ⟨0, _⟩ =>
    show 128 * t.val + (y 0).val = win0_3.index t 0 * 128 + 1 * (y 0).val
    rw [e]; show _ = t.val * 128 + _; omega
  | ⟨1, _⟩ =>
    show (y 1).val = win0_3.index t 1 * 11264 + 1 * (y 1).val
    rw [e]; show _ = 0 * 11264 + _; omega

end Cert.Swiglu

end
-- ==== Proof.FfnDa.lean ====
/-
  The gradient by the left factor of the channel mixer's first product, its weight in slots: its call over the extended reals, and the reference's term.
-/
module

public import proofs.«01_k».proof.Proof.Prod
public import Idealize.ShloMosaic.Lib.Pipeline.ReadBack
public import proofs.«01_k».proof.Proof.Gen.Kernel3Ideal.Frame
public import proofs.«01_k».proof.Proof.Gen.Reference3Ideal.Run

@[expose] public section

set_option maxRecDepth 16384

noncomputable section

namespace Cert.FfnDa

open Idealize.ShloMosaic Idealize.ShloMosaic.TcCoe Idealize.SL.Sem
open Cert.Prod

section Ref

open Cert.Reference3Ideal Cert.Reference3Ideal.Gen

/-- The reference's result as a function of its two arguments. -/
def val (B : FVec Ideal S8x2048x1408 .bf16) (G : FVec Ideal S2048x11264 .bf16) : FVec Ideal S2048x2048 .bf16 :=
  truncf .bf16 (Host.dotGeneral dot_S2048x11264_S2048x11264_S2048x2048_1_1_0_0_n_n none (extf .f32 G bitsLt_bf16_f32) (extf .f32 (shapeCast S2048x11264 (transpose S2048x8x1408 [1, 0, 2] B transposes_S8x2048x1408_S2048x8x1408_1_0_2) shapeCasts_S2048x8x1408_S2048x11264) bitsLt_bf16_f32)) bitsLt_bf16_f32

theorem val_at (B : FVec Ideal S8x2048x1408 .bf16) (G : FVec Ideal S2048x11264 .bf16) (i j : Fin 2048) :
    val B G (ix2 i j) = ∑ k : Fin 11264, G (ix2 i k) * B (ix3 ⟨k.val / 1408, by have := k.isLt; omega⟩ j ⟨k.val % 1408, by omega⟩) := by
  unfold val
  pointwise []

end Ref

open Cert.Kernel3Ideal Cert.Kernel3Ideal.Gen

section Cases

variable {F : FTy → Type} [FloatOps F]
variable (m : (ℓ : Loc nD τ sig) → Buf (Elt F) ℓ) (c : Dev nD) (t : Fin cfg0.N)

/-- What the grid point before `t` left. -/
abbrev bef := outsAt0 m c (t.val - 1) (Nat.lt_of_le_of_lt (Nat.sub_le _ _) t.isLt)

theorem A_acc (h0 : t.val % 8 = 0) (h1 : ¬t.val % 8 = 7) :
    (outsAt0 m c t.val t.isLt).2 = k0_pay2 k0_pay1 (iblk m c 0 t) (iblk m c 1 t) := by
  rw [outsAt0_A m c t h0 h1]
  dsimp only
  unfold sout0_A_0
  refine (View.read_writes_eq_canon _ _ _ fun y => scover0_A_0 ..).trans ?_
  unfold kernelRun0_A; dsimp only; sl_unfold_words
  refine (View.canon_cons_unit_zero (S := S1024x1024) zero2 _ _ _).trans ?_
  simp only [View.readAt_eq_ld, Memref.IsWhole.read_unread, read_unread_whole, View.ld_unit_zero (S := S1024x1024) zero2, View.ld_unit_zero (S := S1024x1408) zero2, View.ld_unit_zero (S := S1x1024x1408) zero3, View.readCov_unit_zero (S := S1024x1024) _ zero2]

theorem B_acc (h0 : ¬t.val % 8 = 0) (h1 : ¬t.val % 8 = 7) :
    (outsAt0 m c t.val t.isLt).2 = k0_pay2 (bef m c t).2 (iblk m c 0 t) (iblk m c 1 t) := by
  rw [outsAt0_B m c t h0 h1]
  dsimp only
  unfold sout0_B_0
  refine (View.read_writes_eq_canon _ _ _ fun y => scover0_B_0 ..).trans ?_
  unfold kernelRun0_B; dsimp only; sl_unfold_words
  refine (View.canon_unit_zero (S := S1024x1024) zero2 _ _).trans ?_
  simp only [View.readAt_eq_ld, Memref.IsWhole.read_unread, read_unread_whole, View.ld_unit_zero (S := S1024x1024) zero2, View.ld_unit_zero (S := S1024x1408) zero2, View.ld_unit_zero (S := S1x1024x1408) zero3]

theorem C_acc (h0 : ¬t.val % 8 = 0) (h1 : t.val % 8 = 7) :
    (outsAt0 m c t.val t.isLt).2 = k0_pay2 (bef m c t).2 (iblk m c 0 t) (iblk m c 1 t) := by
  rw [outsAt0_C m c t h0 h1]
  dsimp only
  unfold sout0_C_0
  refine (View.read_writes_eq_canon _ _ _ fun y => scover0_C_0 ..).trans ?_
  unfold kernelRun0_C; dsimp only; sl_unfold_words
  refine (View.canon_unit_zero (S := S1024x1024) zero2 _ _).trans ?_
  simp only [View.readAt_eq_ld, Memref.IsWhole.read_unread, read_unread_whole, View.ld_unit_zero (S := S1024x1024) zero2, View.ld_unit_zero (S := S1024x1408) zero2, View.ld_unit_zero (S := S1x1024x1408) zero3]

theorem last_out (h0 : ¬t.val % 8 = 0) (h1 : t.val % 8 = 7) :
    (outsAt0 m c t.val t.isLt).1 = k0_pay3 (outsAt0 m c t.val t.isLt).2 := by
  rw [C_acc m c t h0 h1, outsAt0_C m c t h0 h1]
  dsimp only
  unfold out0_C_2
  refine (View.read_writes_eq_canon _ _ _ fun y => cover0_C_2 ..).trans ?_
  unfold kernelRun0_C; dsimp only; sl_unfold_words
  refine (View.canon_unit_zero (S := S1024x1024) zero2 _ _).trans ?_
  simp only [View.readAt_eq_ld, Memref.IsWhole.read_unread, read_unread_whole, View.ld_unit_zero (S := S1024x1024) zero2, View.ld_unit_zero (S := S1024x1408) zero2, View.ld_unit_zero (S := S1x1024x1408) zero3, View.readCov_unit_zero (S := S1024x1024) _ zero2]

theorem later (h0 : ¬t.val % 8 = 0) :
    (outsAt0 m c t.val t.isLt).2 = k0_pay2 (bef m c t).2 (iblk m c 0 t) (iblk m c 1 t) := by
  by_cases h1 : t.val % 8 = 7
  · exact C_acc m c t h0 h1
  · exact B_acc m c t h0 h1

end Cases

variable (m : (ℓ : Loc nD τ sig) → Buf (Elt Ideal) ℓ) (c : Dev nD)

abbrev a0 : FVec Ideal S8x2048x1408 .bf16 := m ((c : Thread nD τ).loc main_arg0)
abbrev a1 : FVec Ideal S2048x11264 .bf16 := m ((c : Thread nD τ).loc main_arg1)

theorem pay1_at (y : S1024x1024.Idx) : (k0_pay1 (F := Ideal) y : EReal) = 0 := by
  idx_vars y
  unfold k0_pay1
  pointwise []

theorem pay2_at (x : Vec Ideal S1024x1024 .f32) (a : Vec Ideal S1024x1408 .bf16) (b : Vec Ideal S1x1024x1408 .bf16) (r s : Fin 1024) :
    k0_pay2 x a b (ix2 r s) = x (ix2 r s) + ∑ k : Fin 1408, a (ix2 r k) * b (ix3 0 s k) := by
  unfold k0_pay2
  pointwise []

theorem idx : ∀ t : Fin cfg0.N, win0_0.index t = ![t.val / 16, t.val % 8]
    ∧ win0_1.index t = ![t.val % 8, t.val / 8 % 2, 0]
    ∧ win0_2.index t = ![t.val / 16, t.val / 8 % 2] := by
  decide +kernel

/-- A number as an index. -/
abbrev f (n : ℕ) : Fin 2048 := ⟨n % 2048, by omega⟩
abbrev fk (n : ℕ) : Fin 11264 := ⟨n % 11264, by omega⟩

/-- Block `b`'s share of entry `i0`, `i1`. -/
def part (i0 i1 b : ℕ) : EReal := ∑ k : Fin 1408, a1 m c (ix2 (f i0) (fk (1408 * b + k.val))) * a0 m c (ix3 ⟨b % 8, by omega⟩ (f i1) k)

variable (t : Fin cfg0.N)

theorem lt : t.val < 32 := t.isLt

theorem blk0 (r : Fin 1024) (k : Fin 1408) :
    iblk m c 0 t (ix2 r k) = a1 m c (ix2 (f (1024 * (t.val / 16) + r.val)) (fk (1408 * (t.val % 8) + k.val))) := by
  have h := lt t
  have e0 : f (1024 * (t.val / 16) + r.val) = ⟨1024 * (t.val / 16) + r.val, by omega⟩ := Fin.ext (Nat.mod_eq_of_lt (by omega))
  have e1 : fk (1408 * (t.val % 8) + k.val) = ⟨1408 * (t.val % 8) + k.val, by omega⟩ := Fin.ext (Nat.mod_eq_of_lt (by omega))
  rw [e0, e1]
  blk_ext [iblk, V, (idx t).1]

theorem blk1 (s : Fin 1024) (k : Fin 1408) :
    iblk m c 1 t (ix3 0 s k) = a0 m c (ix3 ⟨(t.val % 8) % 8, by omega⟩ (f (1024 * (t.val / 8 % 2) + s.val)) k) := by
  have e0 : f (1024 * (t.val / 8 % 2) + s.val) = ⟨1024 * (t.val / 8 % 2) + s.val, by omega⟩ := Fin.ext (Nat.mod_eq_of_lt (by omega))
  have e1 : (⟨(t.val % 8) % 8, by omega⟩ : Fin 8) = ⟨t.val % 8, by omega⟩ := Fin.ext (Nat.mod_mod _ _)
  rw [e0, e1]
  blk_ext [iblk, V, (idx t).2.1]

theorem step (x : Vec Ideal S1024x1024 .f32) (r s : Fin 1024) :
    k0_pay2 x (iblk m c 0 t : Vec Ideal S1024x1408 .bf16) (iblk m c 1 t : Vec Ideal S1x1024x1408 .bf16) (ix2 r s)
      = x (ix2 r s) + part m c (1024 * (t.val / 16) + r.val) (1024 * (t.val / 8 % 2) + s.val) (t.val % 8) :=
  (pay2_at _ _ _ _ _).trans (congrArg (fun z : EReal => (x (ix2 r s) : EReal) + z) (sum_mul (fun k => blk0 m c t r k) fun k => blk1 m c t s k))

/-- The accumulator after a grid point: the shares of the blocks so far. -/
theorem acc_at (r s : Fin 1024) : ∀ (n : ℕ) (h : n < cfg0.N), ((outsAt0 m c n h).2 (ix2 r s) : EReal)
    = ∑ b ∈ Finset.range (n % 8 + 1), part m c (1024 * (n / 16) + r.val) (1024 * (n / 8 % 2) + s.val) b := by
  intro n
  induction n with
  | zero =>
    intro h
    have e := A_acc m c ⟨0, h⟩ (Nat.zero_mod _) (by show ¬ 0 % 8 = 7; omega)
    refine (congrFun e _).trans ((step m c ⟨0, h⟩ _ r s).trans ?_)
    rw [pay1_at, zero_add]
    simp
  | succ n ih =>
    intro h
    by_cases h0 : (n + 1) % 8 = 0
    · have e := A_acc m c ⟨n + 1, h⟩ h0 (by show ¬ (n + 1) % 8 = 7; omega)
      refine (congrFun e _).trans ((step m c ⟨n + 1, h⟩ _ r s).trans ?_)
      rw [pay1_at, zero_add]
      show part m c _ _ ((n + 1) % 8) = _
      rw [h0, zero_add, Finset.sum_range_one]
    · have e := later m c ⟨n + 1, h⟩ h0
      refine (congrFun e _).trans ((step m c ⟨n + 1, h⟩ _ r s).trans ?_)
      have e1 : (n + 1) % 8 = n % 8 + 1 := by omega
      have e2 : (n + 1) / 8 = n / 8 := by omega
      have e3 : (n + 1) / 16 = n / 16 := by omega
      have e4 := ih (Nat.lt_of_succ_lt h)
      show ((outsAt0 m c n (Nat.lt_of_succ_lt h)).2 (ix2 r s) : EReal)
        + part m c (1024 * ((n + 1) / 16) + r.val) (1024 * ((n + 1) / 8 % 2) + s.val) ((n + 1) % 8) = _
      rw [e4, e1, e2, e3, Finset.sum_range_succ _ (n % 8 + 1)]

theorem whole (i0 i1 : Fin 2048) : ∑ b ∈ Finset.range 8, part m c i0.val i1.val b = val (a0 m c) (a1 m c) (ix2 i0 i1) := by
  have e0 : f i0.val = i0 := Fin.ext (Nat.mod_eq_of_lt i0.isLt)
  have e1 : f i1.val = i1 := Fin.ext (Nat.mod_eq_of_lt i1.isLt)
  rw [val_at, sum_parts (n := 8) (w := 1408) (by norm_num), Finset.sum_range]
  refine Finset.sum_congr rfl fun b _ => Finset.sum_congr rfl fun k _ => ?_
  have hb := b.isLt
  have hk := k.isLt
  rw [e0, e1]
  have e2 : fk (1408 * b.val + k.val) = ⟨1408 * b.val + k.val, by omega⟩ := Fin.ext (Nat.mod_eq_of_lt (by omega))
  rw [e2]
  have e3 : (⟨b.val % 8, by omega⟩ : Fin 8) = ⟨(1408 * b.val + k.val) / 1408, by omega⟩ := Fin.ext (by show b.val % 8 = (1408 * b.val + k.val) / 1408; omega)
  have e4 : k = ⟨(1408 * b.val + k.val) % 1408, by omega⟩ := Fin.ext (by show k.val = (1408 * b.val + k.val) % 1408; omega)
  rw [e3]
  exact congrArg (fun z => a1 m c _ * a0 m c (ix3 _ i1 z)) e4

abbrev row (r : Fin 1024) : Fin 2048 := ⟨1024 * (t.val / 16) + r.val, by have := lt t; omega⟩
abbrev column (s : Fin 1024) : Fin 2048 := ⟨1024 * (t.val / 8 % 2) + s.val, by omega⟩

theorem point (h1 : t.val % 8 = 7) (r s : Fin 1024) :
    (outsAt0 m c t.val t.isLt).1 (ix2 r s) = val (a0 m c) (a1 m c) (ix2 (row t r) (column t s)) := by
  refine (congrFun (last_out m c t (by omega) h1) _).trans ((acc_at m c r s t.val t.isLt).trans ?_)
  rw [h1]
  exact whole m c (row t r) (column t s)

theorem out : (dats m 0 c).arrAt 2 cfg0.N = val (a0 m c) (a1 m c) := by
  refine (dats m 0 c).arrAt_eq_of_covers 2 _ (by decide +kernel) fun t hf y => ?_
  blk_simp
  rw [after0_2]
  refine (congrArg (outsAt0 m c t.val t.isLt).1 (eta2 (n0 := 1024) (n1 := 1024) y)).trans
    ((point m c t ((flush0_2 t).mp hf) _ _).trans (congrArg _ ?_))
  have e := (idx t).2.2
  funext a; apply Fin.ext
  match a with
  | ⟨0, _⟩ =>
    show 1024 * (t.val / 16) + (y 0).val = win0_2.index t 0 * 1024 + 1 * (y 0).val
    rw [e]; show _ = t.val / 16 * 1024 + _; omega
  | ⟨1, _⟩ =>
    show 1024 * (t.val / 8 % 2) + (y 1).val = win0_2.index t 1 * 1024 + 1 * (y 1).val
    rw [e]; show _ = t.val / 8 % 2 * 1024 + _; omega

end Cert.FfnDa

end
-- ==== Proof.FfnDw.lean ====
/-
  The gradient by the weight of the channel mixer's first product, in slots: its call over the extended reals, and the reference's term.
-/
module

public import proofs.«01_k».proof.Proof.Prod
public import proofs.«01_k».proof.Proof.Gen.Kernel4Ideal.Frame
public import proofs.«01_k».proof.Proof.Gen.Reference4Ideal.Run

@[expose] public section

set_option maxRecDepth 16384

noncomputable section

namespace Cert.FfnDw

open Idealize.ShloMosaic Idealize.ShloMosaic.TcCoe Idealize.SL.Sem
open Cert.Prod

section Ref

open Cert.Reference4Ideal Cert.Reference4Ideal.Gen

/-- The reference's result as a function of its two arguments. -/
def val (A : FVec Ideal S2048x2048 .bf16) (B : FVec Ideal S2048x11264 .bf16) : FVec Ideal S8x2048x1408 .bf16 :=
  transpose S8x2048x1408 [1, 0, 2] (shapeCast S2048x8x1408 (truncf .bf16 (transpose S2048x11264 [1, 0] (Host.dotGeneral dot_S2048x11264_S2048x2048_S11264x2048_0_0_1_1_n_n none (extf .f32 B bitsLt_bf16_f32) (extf .f32 A bitsLt_bf16_f32)) transposes_S11264x2048_S2048x11264_1_0) bitsLt_bf16_f32) shapeCasts_S2048x11264_S2048x8x1408) transposes_S2048x8x1408_S8x2048x1408_1_0_2

theorem val_at (A : FVec Ideal S2048x2048 .bf16) (B : FVec Ideal S2048x11264 .bf16) (s : Fin 8) (i : Fin 2048) (j : Fin 1408) :
    val A B (ix3 s i j) = ∑ k : Fin 2048, A (ix2 k i) * B (ix2 k ⟨1408 * s.val + j.val, by have := s.isLt; have := j.isLt; omega⟩) := by
  unfold val
  pointwise []
  refine Finset.sum_congr rfl fun k _ => ?_
  rw [mul_comm]
  have e : ∀ h, (⟨s.val * 1408 + j.val, h⟩ : Fin 11264) = ⟨1408 * s.val + j.val, by omega⟩ := fun h => Fin.ext (by show s.val * 1408 + j.val = 1408 * s.val + j.val; omega)
  rw [e]

end Ref

open Cert.Kernel4Ideal Cert.Kernel4Ideal.Gen

variable (m : (ℓ : Loc nD τ sig) → Buf (Elt Ideal) ℓ) (c : Dev nD)

abbrev a0 : FVec Ideal S2048x2048 .bf16 := m ((c : Thread nD τ).loc main_arg0)
abbrev a1 : FVec Ideal S2048x11264 .bf16 := m ((c : Thread nD τ).loc main_arg1)

theorem pay_at (a : Vec Ideal S2048x1024 .bf16) (b : Vec Ideal S2048x1408 .bf16) (r : Fin 1024) (s : Fin 1408) :
    k0_pay1 a b (ix3 0 r s) = ∑ k : Fin 2048, a (ix2 k r) * b (ix2 k s) := by
  unfold k0_pay1
  pointwise []

theorem idx : ∀ t : Fin cfg0.N, win0_0.index t = ![0, t.val / 8] ∧ win0_1.index t = ![0, t.val % 8]
    ∧ win0_2.index t = ![t.val % 8, t.val / 8, 0] := by
  decide +kernel

variable (t : Fin cfg0.N)

theorem lt : t.val < 16 := t.isLt

abbrev slot : Fin 8 := ⟨t.val % 8, by omega⟩
abbrev row (r : Fin 1024) : Fin 2048 := ⟨1024 * (t.val / 8) + r.val, by have := lt t; omega⟩

theorem blk0 (k : Fin 2048) (r : Fin 1024) : iblk m c 0 t (ix2 k r) = a0 m c (ix2 k (row t r)) := by
  unfold row
  blk_ext [iblk, V, (idx t).1]

theorem blk1 (k : Fin 2048) (s : Fin 1408) :
    iblk m c 1 t (ix2 k s) = a1 m c (ix2 k ⟨1408 * (t.val % 8) + s.val, by omega⟩) := by
  blk_ext [iblk, V, (idx t).2.1]

theorem point (r : Fin 1024) (s : Fin 1408) :
    k0_pay1 (iblk m c 0 t : Vec Ideal S2048x1024 .bf16) (iblk m c 1 t : Vec Ideal S2048x1408 .bf16) (ix3 0 r s)
      = val (a0 m c) (a1 m c) (ix3 (slot t) (row t r) s) := by
  rw [pay_at, val_at]
  exact sum_mul (fun k => blk0 m c t k r) fun k => blk1 m c t k s

theorem out : (dats m 0 c).arrAt 2 cfg0.N = val (a0 m c) (a1 m c) := by
  refine (dats m 0 c).arrAt_eq_of_covers 2 _ (by decide +kernel) fun t hf y => ?_
  blk_simp
  rw [after0_2]
  unfold out0_2
  rw [View.canon_unit_zero zero3, View.ld_unit_zero zero2, View.ld_unit_zero zero2]
  refine (congrArg (k0_pay1 _ _) (eta3 (n1 := 1024) (n2 := 1408) y)).trans ((point m c t _ _).trans (congrArg _ ?_))
  have e := (idx t).2.2
  have h0 : (y 0).val < 1 := (y 0).isLt
  funext a; apply Fin.ext
  match a with
  | ⟨0, _⟩ =>
    show t.val % 8 = win0_2.index t 0 * 1 + 1 * (y 0).val
    rw [e]; show _ = t.val % 8 * 1 + _; omega
  | ⟨1, _⟩ =>
    show 1024 * (t.val / 8) + (y 1).val = win0_2.index t 1 * 1024 + 1 * (y 1).val
    rw [e]; show _ = t.val / 8 * 1024 + _; omega
  | ⟨2, _⟩ =>
    show (y 2).val = win0_2.index t 2 * 1408 + 1 * (y 2).val
    rw [e]; show _ = 0 * 1408 + _; omega

end Cert.FfnDw

end
-- ==== Proof.DownDa.lean ====
/-
  The gradient by the first factor of the channel mixer's last product (`down`): its call over the extended reals, and the reference's term.
-/
module

public import proofs.«01_k».proof.Proof.Prod
public import proofs.«01_k».proof.Proof.Gen.Kernel5Ideal.Frame
public import proofs.«01_k».proof.Proof.Gen.Reference5Ideal.Run

@[expose] public section

set_option maxRecDepth 16384

noncomputable section

namespace Cert.DownDa

open Idealize.ShloMosaic Idealize.ShloMosaic.TcCoe Idealize.SL.Sem
open Cert.Prod

section Ref

open Cert.Reference5Ideal Cert.Reference5Ideal.Gen

/-- The reference's result as a function of its two arguments. -/
def val (B : FVec Ideal S5632x2048 .bf16) (G : FVec Ideal S2048x2048 .bf16) : FVec Ideal S2048x5632 .bf16 :=
  truncf .bf16 (Host.dotGeneral dot_S2048x2048_S5632x2048_S2048x5632_1_1_0_0_n_n none
    (extf .f32 G bitsLt_bf16_f32) (extf .f32 B bitsLt_bf16_f32)) bitsLt_bf16_f32

theorem val_at (B : FVec Ideal S5632x2048 .bf16) (G : FVec Ideal S2048x2048 .bf16) (i : Fin 2048) (j : Fin 5632) :
    val B G (ix2 i j) = ∑ k : Fin 2048, G (ix2 i k) * B (ix2 j k) := by
  unfold val
  pointwise []

end Ref

open Cert.Kernel5Ideal Cert.Kernel5Ideal.Gen

variable (m : (ℓ : Loc nD τ sig) → Buf (Elt Ideal) ℓ) (c : Dev nD)

abbrev a0 : FVec Ideal S5632x2048 .bf16 := m ((c : Thread nD τ).loc main_arg0)
abbrev a1 : FVec Ideal S2048x2048 .bf16 := m ((c : Thread nD τ).loc main_arg1)

theorem pay_at (a : Vec Ideal S1024x2048 .bf16) (b : Vec Ideal S512x2048 .bf16) (r : Fin 1024) (s : Fin 512) :
    k0_pay1 a b (ix2 r s) = ∑ k : Fin 2048, a (ix2 r k) * b (ix2 s k) := by
  unfold k0_pay1
  pointwise []

theorem idx : ∀ t : Fin cfg0.N, win0_0.index t = ![t.val / 11, 0] ∧ win0_1.index t = ![t.val % 11, 0]
    ∧ win0_2.index t = ![t.val / 11, t.val % 11] := by
  decide +kernel

variable (t : Fin cfg0.N)

theorem lt : t.val < 22 := t.isLt

abbrev row (r : Fin 1024) : Fin 2048 := ⟨1024 * (t.val / 11) + r.val, by have := lt t; omega⟩
abbrev column (s : Fin 512) : Fin 5632 := ⟨512 * (t.val % 11) + s.val, by have := lt t; omega⟩

theorem blk0 (r : Fin 1024) (k : Fin 2048) : iblk m c 0 t (ix2 r k) = a1 m c (ix2 (row t r) k) := by
  unfold row
  blk_ext [iblk, V, (idx t).1]

theorem blk1 (s : Fin 512) (k : Fin 2048) : iblk m c 1 t (ix2 s k) = a0 m c (ix2 (column t s) k) := by
  unfold column
  blk_ext [iblk, V, (idx t).2.1]

theorem point (r : Fin 1024) (s : Fin 512) :
    k0_pay1 (iblk m c 0 t : Vec Ideal S1024x2048 .bf16) (iblk m c 1 t : Vec Ideal S512x2048 .bf16) (ix2 r s)
      = val (a0 m c) (a1 m c) (ix2 (row t r) (column t s)) := by
  rw [pay_at, val_at]
  exact sum_mul (fun k => blk0 m c t r k) fun k => blk1 m c t s k

theorem out : (dats m 0 c).arrAt 2 cfg0.N = val (a0 m c) (a1 m c) := by
  refine (dats m 0 c).arrAt_eq_of_covers 2 _ (by decide +kernel) fun t hf y => ?_
  blk_simp
  rw [after0_2]
  unfold out0_2
  rw [View.canon_unit_zero zero2, View.ld_unit_zero zero2, View.ld_unit_zero zero2]
  refine (congrArg (k0_pay1 _ _) (eta2 (n0 := 1024) (n1 := 512) y)).trans ((point m c t _ _).trans (congrArg _ ?_))
  have e := (idx t).2.2
  funext a; apply Fin.ext
  match a with
  | ⟨0, _⟩ =>
    show 1024 * (t.val / 11) + (y 0).val = win0_2.index t 0 * 1024 + 1 * (y 0).val
    rw [e]; show _ = t.val / 11 * 1024 + _; omega
  | ⟨1, _⟩ =>
    show 512 * (t.val % 11) + (y 1).val = win0_2.index t 1 * 512 + 1 * (y 1).val
    rw [e]; show _ = t.val % 11 * 512 + _; omega

end Cert.DownDa

end
-- ==== Proof.DownDw.lean ====
/-
  The gradient by the weight of the channel mixer's last product (`down`): its call over the extended reals, and the reference's term.
-/
module

public import proofs.«01_k».proof.Proof.Prod
public import proofs.«01_k».proof.Proof.Gen.Kernel6Ideal.Frame
public import proofs.«01_k».proof.Proof.Gen.Reference6Ideal.Run

@[expose] public section

set_option maxRecDepth 16384

noncomputable section

namespace Cert.DownDw

open Idealize.ShloMosaic Idealize.ShloMosaic.TcCoe Idealize.SL.Sem
open Cert.Prod

section Ref

open Cert.Reference6Ideal Cert.Reference6Ideal.Gen

/-- The reference's result as a function of its two arguments. -/
def val (A : FVec Ideal S2048x5632 .bf16) (B : FVec Ideal S2048x2048 .bf16) : FVec Ideal S5632x2048 .bf16 :=
  truncf .bf16 (transpose S5632x2048 [1, 0] (Host.dotGeneral dot_S2048x2048_S2048x5632_S2048x5632_0_0_1_1_n_n none
    (extf .f32 B bitsLt_bf16_f32) (extf .f32 A bitsLt_bf16_f32)) transposes_S2048x5632_S5632x2048_1_0) bitsLt_bf16_f32

theorem val_at (A : FVec Ideal S2048x5632 .bf16) (B : FVec Ideal S2048x2048 .bf16) (i : Fin 5632) (j : Fin 2048) :
    val A B (ix2 i j) = ∑ k : Fin 2048, A (ix2 k i) * B (ix2 k j) := by
  unfold val
  pointwise []
  exact Finset.sum_congr rfl fun k _ => mul_comm _ _

end Ref

open Cert.Kernel6Ideal Cert.Kernel6Ideal.Gen

variable (m : (ℓ : Loc nD τ sig) → Buf (Elt Ideal) ℓ) (c : Dev nD)

abbrev a0 : FVec Ideal S2048x5632 .bf16 := m ((c : Thread nD τ).loc main_arg0)
abbrev a1 : FVec Ideal S2048x2048 .bf16 := m ((c : Thread nD τ).loc main_arg1)

theorem pay_at (a : Vec Ideal S2048x1408 .bf16) (b : Vec Ideal S2048x1024 .bf16) (r : Fin 1408) (s : Fin 1024) :
    k0_pay1 a b (ix2 r s) = ∑ k : Fin 2048, a (ix2 k r) * b (ix2 k s) := by
  unfold k0_pay1
  pointwise []

theorem idx : ∀ t : Fin cfg0.N, win0_0.index t = ![0, t.val / 2] ∧ win0_1.index t = ![0, t.val % 2]
    ∧ win0_2.index t = ![t.val / 2, t.val % 2] := by
  decide +kernel

variable (t : Fin cfg0.N)

theorem lt : t.val < 8 := t.isLt

abbrev row (r : Fin 1408) : Fin 5632 := ⟨1408 * (t.val / 2) + r.val, by have := lt t; omega⟩
abbrev column (s : Fin 1024) : Fin 2048 := ⟨1024 * (t.val % 2) + s.val, by have := lt t; omega⟩

theorem blk0 (k : Fin 2048) (r : Fin 1408) : iblk m c 0 t (ix2 k r) = a0 m c (ix2 k (row t r)) := by
  unfold row
  blk_ext [iblk, V, (idx t).1]

theorem blk1 (k : Fin 2048) (s : Fin 1024) : iblk m c 1 t (ix2 k s) = a1 m c (ix2 k (column t s)) := by
  unfold column
  blk_ext [iblk, V, (idx t).2.1]

theorem point (r : Fin 1408) (s : Fin 1024) :
    k0_pay1 (iblk m c 0 t : Vec Ideal S2048x1408 .bf16) (iblk m c 1 t : Vec Ideal S2048x1024 .bf16) (ix2 r s)
      = val (a0 m c) (a1 m c) (ix2 (row t r) (column t s)) := by
  rw [pay_at, val_at]
  exact sum_mul (fun k => blk0 m c t k r) fun k => blk1 m c t k s

theorem out : (dats m 0 c).arrAt 2 cfg0.N = val (a0 m c) (a1 m c) := by
  refine (dats m 0 c).arrAt_eq_of_covers 2 _ (by decide +kernel) fun t hf y => ?_
  blk_simp
  rw [after0_2]
  unfold out0_2
  rw [View.canon_unit_zero zero2, View.ld_unit_zero zero2, View.ld_unit_zero zero2]
  refine (congrArg (k0_pay1 _ _) (eta2 (n0 := 1408) (n1 := 1024) y)).trans ((point m c t _ _).trans (congrArg _ ?_))
  have e := (idx t).2.2
  funext a; apply Fin.ext
  match a with
  | ⟨0, _⟩ =>
    show 1408 * (t.val / 2) + (y 0).val = win0_2.index t 0 * 1408 + 1 * (y 0).val
    rw [e]; show _ = t.val / 2 * 1408 + _; omega
  | ⟨1, _⟩ =>
    show 1024 * (t.val % 2) + (y 1).val = win0_2.index t 1 * 1024 + 1 * (y 1).val
    rw [e]; show _ = t.val % 2 * 1024 + _; omega

end Cert.DownDw

end
-- ==== Proof.GatesDa.lean ====
/-
  The gradient by the left factor of the gates' product: its call over the extended reals, and the reference's term.
-/
module

public import proofs.«01_k».proof.Proof.Prod
public import Idealize.ShloMosaic.Lib.Pipeline.ReadBack
public import proofs.«01_k».proof.Proof.Gen.Kernel7Ideal.Frame
public import proofs.«01_k».proof.Proof.Gen.Reference7Ideal.Run

@[expose] public section

set_option maxRecDepth 16384

noncomputable section

namespace Cert.GatesDa

open Idealize.ShloMosaic Idealize.ShloMosaic.TcCoe Idealize.SL.Sem
open Cert.Prod

section Ref

open Cert.Reference7Ideal Cert.Reference7Ideal.Gen

/-- The reference's result as a function of its two arguments. -/
def val (B : FVec Ideal S2048x4096 .bf16) (G : FVec Ideal S2048x4096 .bf16) : FVec Ideal S2048x2048 .bf16 :=
  truncf .bf16 (Host.dotGeneral dot_S2048x4096_S2048x4096_S2048x2048_1_1_0_0_n_n none (extf .f32 G bitsLt_bf16_f32) (extf .f32 B bitsLt_bf16_f32)) bitsLt_bf16_f32

theorem val_at (B : FVec Ideal S2048x4096 .bf16) (G : FVec Ideal S2048x4096 .bf16) (i j : Fin 2048) :
    val B G (ix2 i j) = ∑ k : Fin 4096, G (ix2 i k) * B (ix2 j k) := by
  unfold val
  pointwise []

end Ref

open Cert.Kernel7Ideal Cert.Kernel7Ideal.Gen

section Cases

variable {F : FTy → Type} [FloatOps F]
variable (m : (ℓ : Loc nD τ sig) → Buf (Elt F) ℓ) (c : Dev nD) (t : Fin cfg0.N)

/-- What the grid point before `t` left. -/
abbrev bef := outsAt0 m c (t.val - 1) (Nat.lt_of_le_of_lt (Nat.sub_le _ _) t.isLt)

theorem A_acc (h0 : t.val % 2 = 0) (h1 : ¬t.val % 2 = 1) :
    (outsAt0 m c t.val t.isLt).2 = k0_pay2 k0_pay1 (iblk m c 0 t) (iblk m c 1 t) := by
  rw [outsAt0_A m c t h0 h1]
  dsimp only
  unfold sout0_A_0
  refine (View.read_writes_eq_canon _ _ _ fun y => scover0_A_0 ..).trans ?_
  unfold kernelRun0_A; dsimp only; sl_unfold_words
  refine (View.canon_cons_unit_zero (S := S1024x1024) zero2 _ _ _).trans ?_
  simp only [View.readAt_eq_ld, Memref.IsWhole.read_unread, read_unread_whole, View.ld_unit_zero (S := S1024x1024) zero2, View.ld_unit_zero (S := S1024x2048) zero2, View.readCov_unit_zero (S := S1024x1024) _ zero2]

theorem B_acc (h0 : ¬t.val % 2 = 0) (h1 : t.val % 2 = 1) :
    (outsAt0 m c t.val t.isLt).2 = k0_pay2 (bef m c t).2 (iblk m c 0 t) (iblk m c 1 t) := by
  rw [outsAt0_B m c t h0 h1]
  dsimp only
  unfold sout0_B_0
  refine (View.read_writes_eq_canon _ _ _ fun y => scover0_B_0 ..).trans ?_
  unfold kernelRun0_B; dsimp only; sl_unfold_words
  refine (View.canon_unit_zero (S := S1024x1024) zero2 _ _).trans ?_
  simp only [View.readAt_eq_ld, Memref.IsWhole.read_unread, read_unread_whole, View.ld_unit_zero (S := S1024x1024) zero2, View.ld_unit_zero (S := S1024x2048) zero2]

theorem last_out (h0 : ¬t.val % 2 = 0) (h1 : t.val % 2 = 1) :
    (outsAt0 m c t.val t.isLt).1 = k0_pay3 (outsAt0 m c t.val t.isLt).2 := by
  rw [B_acc m c t h0 h1, outsAt0_B m c t h0 h1]
  dsimp only
  unfold out0_B_2
  refine (View.read_writes_eq_canon _ _ _ fun y => cover0_B_2 ..).trans ?_
  unfold kernelRun0_B; dsimp only; sl_unfold_words
  refine (View.canon_unit_zero (S := S1024x1024) zero2 _ _).trans ?_
  simp only [View.readAt_eq_ld, Memref.IsWhole.read_unread, read_unread_whole, View.ld_unit_zero (S := S1024x1024) zero2, View.ld_unit_zero (S := S1024x2048) zero2, View.readCov_unit_zero (S := S1024x1024) _ zero2]

theorem later (h0 : ¬t.val % 2 = 0) :
    (outsAt0 m c t.val t.isLt).2 = k0_pay2 (bef m c t).2 (iblk m c 0 t) (iblk m c 1 t) := by
  by_cases h1 : t.val % 2 = 1
  · exact B_acc m c t h0 h1
  · exact absurd h1 (by omega)

end Cases

variable (m : (ℓ : Loc nD τ sig) → Buf (Elt Ideal) ℓ) (c : Dev nD)

abbrev a0 : FVec Ideal S2048x4096 .bf16 := m ((c : Thread nD τ).loc main_arg0)
abbrev a1 : FVec Ideal S2048x4096 .bf16 := m ((c : Thread nD τ).loc main_arg1)

theorem pay1_at (y : S1024x1024.Idx) : (k0_pay1 (F := Ideal) y : EReal) = 0 := by
  idx_vars y
  unfold k0_pay1
  pointwise []

theorem pay2_at (x : Vec Ideal S1024x1024 .f32) (a : Vec Ideal S1024x2048 .bf16) (b : Vec Ideal S1024x2048 .bf16) (r s : Fin 1024) :
    k0_pay2 x a b (ix2 r s) = x (ix2 r s) + ∑ k : Fin 2048, a (ix2 r k) * b (ix2 s k) := by
  unfold k0_pay2
  pointwise []

theorem idx : ∀ t : Fin cfg0.N, win0_0.index t = ![t.val / 4, t.val % 2]
    ∧ win0_1.index t = ![t.val / 2 % 2, t.val % 2]
    ∧ win0_2.index t = ![t.val / 4, t.val / 2 % 2] := by
  decide +kernel

/-- A number as an index. -/
abbrev f (n : ℕ) : Fin 2048 := ⟨n % 2048, by omega⟩
abbrev fk (n : ℕ) : Fin 4096 := ⟨n % 4096, by omega⟩

/-- Block `b`'s share of entry `i0`, `i1`. -/
def part (i0 i1 b : ℕ) : EReal := ∑ k : Fin 2048, a1 m c (ix2 (f i0) (fk (2048 * b + k.val))) * a0 m c (ix2 (f i1) (fk (2048 * b + k.val)))

variable (t : Fin cfg0.N)

theorem lt : t.val < 8 := t.isLt

theorem blk0 (r : Fin 1024) (k : Fin 2048) :
    iblk m c 0 t (ix2 r k) = a1 m c (ix2 (f (1024 * (t.val / 4) + r.val)) (fk (2048 * (t.val % 2) + k.val))) := by
  have h := lt t
  have e0 : f (1024 * (t.val / 4) + r.val) = ⟨1024 * (t.val / 4) + r.val, by omega⟩ := Fin.ext (Nat.mod_eq_of_lt (by omega))
  have e1 : fk (2048 * (t.val % 2) + k.val) = ⟨2048 * (t.val % 2) + k.val, by omega⟩ := Fin.ext (Nat.mod_eq_of_lt (by omega))
  rw [e0, e1]
  blk_ext [iblk, V, (idx t).1]

theorem blk1 (s : Fin 1024) (k : Fin 2048) :
    iblk m c 1 t (ix2 s k) = a0 m c (ix2 (f (1024 * (t.val / 2 % 2) + s.val)) (fk (2048 * (t.val % 2) + k.val))) := by
  have e0 : f (1024 * (t.val / 2 % 2) + s.val) = ⟨1024 * (t.val / 2 % 2) + s.val, by omega⟩ := Fin.ext (Nat.mod_eq_of_lt (by omega))
  have e1 : fk (2048 * (t.val % 2) + k.val) = ⟨2048 * (t.val % 2) + k.val, by omega⟩ := Fin.ext (Nat.mod_eq_of_lt (by omega))
  rw [e0, e1]
  blk_ext [iblk, V, (idx t).2.1]

theorem step (x : Vec Ideal S1024x1024 .f32) (r s : Fin 1024) :
    k0_pay2 x (iblk m c 0 t : Vec Ideal S1024x2048 .bf16) (iblk m c 1 t : Vec Ideal S1024x2048 .bf16) (ix2 r s)
      = x (ix2 r s) + part m c (1024 * (t.val / 4) + r.val) (1024 * (t.val / 2 % 2) + s.val) (t.val % 2) :=
  (pay2_at _ _ _ _ _).trans (congrArg (fun z : EReal => (x (ix2 r s) : EReal) + z) (sum_mul (fun k => blk0 m c t r k) fun k => blk1 m c t s k))

/-- The accumulator after a grid point: the shares of the blocks so far. -/
theorem acc_at (r s : Fin 1024) : ∀ (n : ℕ) (h : n < cfg0.N), ((outsAt0 m c n h).2 (ix2 r s) : EReal)
    = ∑ b ∈ Finset.range (n % 2 + 1), part m c (1024 * (n / 4) + r.val) (1024 * (n / 2 % 2) + s.val) b := by
  intro n
  induction n with
  | zero =>
    intro h
    have e := A_acc m c ⟨0, h⟩ (Nat.zero_mod _) (by show ¬ 0 % 2 = 1; omega)
    refine (congrFun e _).trans ((step m c ⟨0, h⟩ _ r s).trans ?_)
    rw [pay1_at, zero_add]
    simp
  | succ n ih =>
    intro h
    by_cases h0 : (n + 1) % 2 = 0
    · have e := A_acc m c ⟨n + 1, h⟩ h0 (by show ¬ (n + 1) % 2 = 1; omega)
      refine (congrFun e _).trans ((step m c ⟨n + 1, h⟩ _ r s).trans ?_)
      rw [pay1_at, zero_add]
      show part m c _ _ ((n + 1) % 2) = _
      rw [h0, zero_add, Finset.sum_range_one]
    · have e := later m c ⟨n + 1, h⟩ h0
      refine (congrFun e _).trans ((step m c ⟨n + 1, h⟩ _ r s).trans ?_)
      have e1 : (n + 1) % 2 = n % 2 + 1 := by omega
      have e2 : (n + 1) / 2 = n / 2 := by omega
      have e3 : (n + 1) / 4 = n / 4 := by omega
      have e4 := ih (Nat.lt_of_succ_lt h)
      show ((outsAt0 m c n (Nat.lt_of_succ_lt h)).2 (ix2 r s) : EReal)
        + part m c (1024 * ((n + 1) / 4) + r.val) (1024 * ((n + 1) / 2 % 2) + s.val) ((n + 1) % 2) = _
      rw [e4, e1, e2, e3, Finset.sum_range_succ _ (n % 2 + 1)]

theorem whole (i0 i1 : Fin 2048) : ∑ b ∈ Finset.range 2, part m c i0.val i1.val b = val (a0 m c) (a1 m c) (ix2 i0 i1) := by
  have e0 : f i0.val = i0 := Fin.ext (Nat.mod_eq_of_lt i0.isLt)
  have e1 : f i1.val = i1 := Fin.ext (Nat.mod_eq_of_lt i1.isLt)
  rw [val_at, sum_parts (n := 2) (w := 2048) (by norm_num), Finset.sum_range]
  refine Finset.sum_congr rfl fun b _ => Finset.sum_congr rfl fun k _ => ?_
  have hb := b.isLt
  have hk := k.isLt
  rw [e0, e1]
  have e2 : fk (2048 * b.val + k.val) = ⟨2048 * b.val + k.val, by omega⟩ := Fin.ext (Nat.mod_eq_of_lt (by omega))
  rw [e2]

abbrev row (r : Fin 1024) : Fin 2048 := ⟨1024 * (t.val / 4) + r.val, by have := lt t; omega⟩
abbrev column (s : Fin 1024) : Fin 2048 := ⟨1024 * (t.val / 2 % 2) + s.val, by omega⟩

theorem point (h1 : t.val % 2 = 1) (r s : Fin 1024) :
    (outsAt0 m c t.val t.isLt).1 (ix2 r s) = val (a0 m c) (a1 m c) (ix2 (row t r) (column t s)) := by
  refine (congrFun (last_out m c t (by omega) h1) _).trans ((acc_at m c r s t.val t.isLt).trans ?_)
  rw [h1]
  exact whole m c (row t r) (column t s)

theorem out : (dats m 0 c).arrAt 2 cfg0.N = val (a0 m c) (a1 m c) := by
  refine (dats m 0 c).arrAt_eq_of_covers 2 _ (by decide +kernel) fun t hf y => ?_
  blk_simp
  rw [after0_2]
  refine (congrArg (outsAt0 m c t.val t.isLt).1 (eta2 (n0 := 1024) (n1 := 1024) y)).trans
    ((point m c t ((flush0_2 t).mp hf) _ _).trans (congrArg _ ?_))
  have e := (idx t).2.2
  funext a; apply Fin.ext
  match a with
  | ⟨0, _⟩ =>
    show 1024 * (t.val / 4) + (y 0).val = win0_2.index t 0 * 1024 + 1 * (y 0).val
    rw [e]; show _ = t.val / 4 * 1024 + _; omega
  | ⟨1, _⟩ =>
    show 1024 * (t.val / 2 % 2) + (y 1).val = win0_2.index t 1 * 1024 + 1 * (y 1).val
    rw [e]; show _ = t.val / 2 % 2 * 1024 + _; omega

end Cert.GatesDa

end
-- ==== Proof.GatesDw.lean ====
/-
  The gradient by the weight of the branch gates' product (`in_g`): its call over the extended reals, and the reference's term.
-/
module

public import proofs.«01_k».proof.Proof.Prod
public import proofs.«01_k».proof.Proof.Gen.Kernel8Ideal.Frame
public import proofs.«01_k».proof.Proof.Gen.Reference8Ideal.Run

@[expose] public section

set_option maxRecDepth 16384

noncomputable section

namespace Cert.GatesDw

open Idealize.ShloMosaic Idealize.ShloMosaic.TcCoe Idealize.SL.Sem
open Cert.Prod

section Ref

open Cert.Reference8Ideal Cert.Reference8Ideal.Gen

/-- The reference's result as a function of its two arguments. -/
def val (A : FVec Ideal S2048x2048 .bf16) (B : FVec Ideal S2048x4096 .bf16) : FVec Ideal S2048x4096 .bf16 :=
  truncf .bf16 (transpose S2048x4096 [1, 0] (Host.dotGeneral dot_S2048x4096_S2048x2048_S4096x2048_0_0_1_1_n_n none
    (extf .f32 B bitsLt_bf16_f32) (extf .f32 A bitsLt_bf16_f32)) transposes_S4096x2048_S2048x4096_1_0) bitsLt_bf16_f32

theorem val_at (A : FVec Ideal S2048x2048 .bf16) (B : FVec Ideal S2048x4096 .bf16) (i : Fin 2048) (j : Fin 4096) :
    val A B (ix2 i j) = ∑ k : Fin 2048, A (ix2 k i) * B (ix2 k j) := by
  unfold val
  pointwise []
  exact Finset.sum_congr rfl fun k _ => mul_comm _ _

end Ref

open Cert.Kernel8Ideal Cert.Kernel8Ideal.Gen

variable (m : (ℓ : Loc nD τ sig) → Buf (Elt Ideal) ℓ) (c : Dev nD)

abbrev a0 : FVec Ideal S2048x2048 .bf16 := m ((c : Thread nD τ).loc main_arg0)
abbrev a1 : FVec Ideal S2048x4096 .bf16 := m ((c : Thread nD τ).loc main_arg1)

theorem pay_at (a : Vec Ideal S2048x1024 .bf16) (b : Vec Ideal S2048x1024 .bf16) (r : Fin 1024) (s : Fin 1024) :
    k0_pay1 a b (ix2 r s) = ∑ k : Fin 2048, a (ix2 k r) * b (ix2 k s) := by
  unfold k0_pay1
  pointwise []

theorem idx : ∀ t : Fin cfg0.N, win0_0.index t = ![0, t.val / 4] ∧ win0_1.index t = ![0, t.val % 4]
    ∧ win0_2.index t = ![t.val / 4, t.val % 4] := by
  decide +kernel

variable (t : Fin cfg0.N)

theorem lt : t.val < 8 := t.isLt

abbrev row (r : Fin 1024) : Fin 2048 := ⟨1024 * (t.val / 4) + r.val, by have := lt t; omega⟩
abbrev column (s : Fin 1024) : Fin 4096 := ⟨1024 * (t.val % 4) + s.val, by have := lt t; omega⟩

theorem blk0 (k : Fin 2048) (r : Fin 1024) : iblk m c 0 t (ix2 k r) = a0 m c (ix2 k (row t r)) := by
  unfold row
  blk_ext [iblk, V, (idx t).1]

theorem blk1 (k : Fin 2048) (s : Fin 1024) : iblk m c 1 t (ix2 k s) = a1 m c (ix2 k (column t s)) := by
  unfold column
  blk_ext [iblk, V, (idx t).2.1]

theorem point (r : Fin 1024) (s : Fin 1024) :
    k0_pay1 (iblk m c 0 t : Vec Ideal S2048x1024 .bf16) (iblk m c 1 t : Vec Ideal S2048x1024 .bf16) (ix2 r s)
      = val (a0 m c) (a1 m c) (ix2 (row t r) (column t s)) := by
  rw [pay_at, val_at]
  exact sum_mul (fun k => blk0 m c t k r) fun k => blk1 m c t k s

theorem out : (dats m 0 c).arrAt 2 cfg0.N = val (a0 m c) (a1 m c) := by
  refine (dats m 0 c).arrAt_eq_of_covers 2 _ (by decide +kernel) fun t hf y => ?_
  blk_simp
  rw [after0_2]
  unfold out0_2
  rw [View.canon_unit_zero zero2, View.ld_unit_zero zero2, View.ld_unit_zero zero2]
  refine (congrArg (k0_pay1 _ _) (eta2 (n0 := 1024) (n1 := 1024) y)).trans ((point m c t _ _).trans (congrArg _ ?_))
  have e := (idx t).2.2
  funext a; apply Fin.ext
  match a with
  | ⟨0, _⟩ =>
    show 1024 * (t.val / 4) + (y 0).val = win0_2.index t 0 * 1024 + 1 * (y 0).val
    rw [e]; show _ = t.val / 4 * 1024 + _; omega
  | ⟨1, _⟩ =>
    show 1024 * (t.val % 4) + (y 1).val = win0_2.index t 1 * 1024 + 1 * (y 1).val
    rw [e]; show _ = t.val % 4 * 1024 + _; omega

end Cert.GatesDw

end
-- ==== Proof.QkvDa.lean ====
/-
  The gradient by the left factor of the linear attention's first product: its call over the extended reals, and the reference's term.
-/
module

public import proofs.«01_k».proof.Proof.Prod
public import Idealize.ShloMosaic.Lib.Pipeline.ReadBack
public import proofs.«01_k».proof.Proof.Gen.Kernel9Ideal.Frame
public import proofs.«01_k».proof.Proof.Gen.Reference9Ideal.Run

@[expose] public section

set_option maxRecDepth 16384

noncomputable section

namespace Cert.QkvDa

open Idealize.ShloMosaic Idealize.ShloMosaic.TcCoe Idealize.SL.Sem
open Cert.Prod

section Ref

open Cert.Reference9Ideal Cert.Reference9Ideal.Gen

/-- The reference's result as a function of its two arguments. -/
def val (B : FVec Ideal S2048x3072 .bf16) (G : FVec Ideal S2048x3072 .bf16) : FVec Ideal S2048x2048 .bf16 :=
  truncf .bf16 (Host.dotGeneral dot_S2048x3072_S2048x3072_S2048x2048_1_1_0_0_n_n none (extf .f32 G bitsLt_bf16_f32) (extf .f32 B bitsLt_bf16_f32)) bitsLt_bf16_f32

theorem val_at (B : FVec Ideal S2048x3072 .bf16) (G : FVec Ideal S2048x3072 .bf16) (i j : Fin 2048) :
    val B G (ix2 i j) = ∑ k : Fin 3072, G (ix2 i k) * B (ix2 j k) := by
  unfold val
  pointwise []

end Ref

open Cert.Kernel9Ideal Cert.Kernel9Ideal.Gen

section Cases

variable {F : FTy → Type} [FloatOps F]
variable (m : (ℓ : Loc nD τ sig) → Buf (Elt F) ℓ) (c : Dev nD) (t : Fin cfg0.N)

/-- What the grid point before `t` left. -/
abbrev bef := outsAt0 m c (t.val - 1) (Nat.lt_of_le_of_lt (Nat.sub_le _ _) t.isLt)

theorem A_acc (h0 : t.val % 2 = 0) (h1 : ¬t.val % 2 = 1) :
    (outsAt0 m c t.val t.isLt).2 = k0_pay2 k0_pay1 (iblk m c 0 t) (iblk m c 1 t) := by
  rw [outsAt0_A m c t h0 h1]
  dsimp only
  unfold sout0_A_0
  refine (View.read_writes_eq_canon _ _ _ fun y => scover0_A_0 ..).trans ?_
  unfold kernelRun0_A; dsimp only; sl_unfold_words
  refine (View.canon_cons_unit_zero (S := S1024x1024) zero2 _ _ _).trans ?_
  simp only [View.readAt_eq_ld, Memref.IsWhole.read_unread, read_unread_whole, View.ld_unit_zero (S := S1024x1024) zero2, View.ld_unit_zero (S := S1024x1536) zero2, View.readCov_unit_zero (S := S1024x1024) _ zero2]

theorem B_acc (h0 : ¬t.val % 2 = 0) (h1 : t.val % 2 = 1) :
    (outsAt0 m c t.val t.isLt).2 = k0_pay2 (bef m c t).2 (iblk m c 0 t) (iblk m c 1 t) := by
  rw [outsAt0_B m c t h0 h1]
  dsimp only
  unfold sout0_B_0
  refine (View.read_writes_eq_canon _ _ _ fun y => scover0_B_0 ..).trans ?_
  unfold kernelRun0_B; dsimp only; sl_unfold_words
  refine (View.canon_unit_zero (S := S1024x1024) zero2 _ _).trans ?_
  simp only [View.readAt_eq_ld, Memref.IsWhole.read_unread, read_unread_whole, View.ld_unit_zero (S := S1024x1024) zero2, View.ld_unit_zero (S := S1024x1536) zero2]

theorem last_out (h0 : ¬t.val % 2 = 0) (h1 : t.val % 2 = 1) :
    (outsAt0 m c t.val t.isLt).1 = k0_pay3 (outsAt0 m c t.val t.isLt).2 := by
  rw [B_acc m c t h0 h1, outsAt0_B m c t h0 h1]
  dsimp only
  unfold out0_B_2
  refine (View.read_writes_eq_canon _ _ _ fun y => cover0_B_2 ..).trans ?_
  unfold kernelRun0_B; dsimp only; sl_unfold_words
  refine (View.canon_unit_zero (S := S1024x1024) zero2 _ _).trans ?_
  simp only [View.readAt_eq_ld, Memref.IsWhole.read_unread, read_unread_whole, View.ld_unit_zero (S := S1024x1024) zero2, View.ld_unit_zero (S := S1024x1536) zero2, View.readCov_unit_zero (S := S1024x1024) _ zero2]

theorem later (h0 : ¬t.val % 2 = 0) :
    (outsAt0 m c t.val t.isLt).2 = k0_pay2 (bef m c t).2 (iblk m c 0 t) (iblk m c 1 t) := by
  by_cases h1 : t.val % 2 = 1
  · exact B_acc m c t h0 h1
  · exact absurd h1 (by omega)

end Cases

variable (m : (ℓ : Loc nD τ sig) → Buf (Elt Ideal) ℓ) (c : Dev nD)

abbrev a0 : FVec Ideal S2048x3072 .bf16 := m ((c : Thread nD τ).loc main_arg0)
abbrev a1 : FVec Ideal S2048x3072 .bf16 := m ((c : Thread nD τ).loc main_arg1)

theorem pay1_at (y : S1024x1024.Idx) : (k0_pay1 (F := Ideal) y : EReal) = 0 := by
  idx_vars y
  unfold k0_pay1
  pointwise []

theorem pay2_at (x : Vec Ideal S1024x1024 .f32) (a : Vec Ideal S1024x1536 .bf16) (b : Vec Ideal S1024x1536 .bf16) (r s : Fin 1024) :
    k0_pay2 x a b (ix2 r s) = x (ix2 r s) + ∑ k : Fin 1536, a (ix2 r k) * b (ix2 s k) := by
  unfold k0_pay2
  pointwise []

theorem idx : ∀ t : Fin cfg0.N, win0_0.index t = ![t.val / 4, t.val % 2]
    ∧ win0_1.index t = ![t.val / 2 % 2, t.val % 2]
    ∧ win0_2.index t = ![t.val / 4, t.val / 2 % 2] := by
  decide +kernel

/-- A number as an index. -/
abbrev f (n : ℕ) : Fin 2048 := ⟨n % 2048, by omega⟩
abbrev fk (n : ℕ) : Fin 3072 := ⟨n % 3072, by omega⟩

/-- Block `b`'s share of entry `i0`, `i1`. -/
def part (i0 i1 b : ℕ) : EReal := ∑ k : Fin 1536, a1 m c (ix2 (f i0) (fk (1536 * b + k.val))) * a0 m c (ix2 (f i1) (fk (1536 * b + k.val)))

variable (t : Fin cfg0.N)

theorem lt : t.val < 8 := t.isLt

theorem blk0 (r : Fin 1024) (k : Fin 1536) :
    iblk m c 0 t (ix2 r k) = a1 m c (ix2 (f (1024 * (t.val / 4) + r.val)) (fk (1536 * (t.val % 2) + k.val))) := by
  have h := lt t
  have e0 : f (1024 * (t.val / 4) + r.val) = ⟨1024 * (t.val / 4) + r.val, by omega⟩ := Fin.ext (Nat.mod_eq_of_lt (by omega))
  have e1 : fk (1536 * (t.val % 2) + k.val) = ⟨1536 * (t.val % 2) + k.val, by omega⟩ := Fin.ext (Nat.mod_eq_of_lt (by omega))
  rw [e0, e1]
  blk_ext [iblk, V, (idx t).1]

theorem blk1 (s : Fin 1024) (k : Fin 1536) :
    iblk m c 1 t (ix2 s k) = a0 m c (ix2 (f (1024 * (t.val / 2 % 2) + s.val)) (fk (1536 * (t.val % 2) + k.val))) := by
  have e0 : f (1024 * (t.val / 2 % 2) + s.val) = ⟨1024 * (t.val / 2 % 2) + s.val, by omega⟩ := Fin.ext (Nat.mod_eq_of_lt (by omega))
  have e1 : fk (1536 * (t.val % 2) + k.val) = ⟨1536 * (t.val % 2) + k.val, by omega⟩ := Fin.ext (Nat.mod_eq_of_lt (by omega))
  rw [e0, e1]
  blk_ext [iblk, V, (idx t).2.1]

theorem step (x : Vec Ideal S1024x1024 .f32) (r s : Fin 1024) :
    k0_pay2 x (iblk m c 0 t : Vec Ideal S1024x1536 .bf16) (iblk m c 1 t : Vec Ideal S1024x1536 .bf16) (ix2 r s)
      = x (ix2 r s) + part m c (1024 * (t.val / 4) + r.val) (1024 * (t.val / 2 % 2) + s.val) (t.val % 2) :=
  (pay2_at _ _ _ _ _).trans (congrArg (fun z : EReal => (x (ix2 r s) : EReal) + z) (sum_mul (fun k => blk0 m c t r k) fun k => blk1 m c t s k))

/-- The accumulator after a grid point: the shares of the blocks so far. -/
theorem acc_at (r s : Fin 1024) : ∀ (n : ℕ) (h : n < cfg0.N), ((outsAt0 m c n h).2 (ix2 r s) : EReal)
    = ∑ b ∈ Finset.range (n % 2 + 1), part m c (1024 * (n / 4) + r.val) (1024 * (n / 2 % 2) + s.val) b := by
  intro n
  induction n with
  | zero =>
    intro h
    have e := A_acc m c ⟨0, h⟩ (Nat.zero_mod _) (by show ¬ 0 % 2 = 1; omega)
    refine (congrFun e _).trans ((step m c ⟨0, h⟩ _ r s).trans ?_)
    rw [pay1_at, zero_add]
    simp
  | succ n ih =>
    intro h
    by_cases h0 : (n + 1) % 2 = 0
    · have e := A_acc m c ⟨n + 1, h⟩ h0 (by show ¬ (n + 1) % 2 = 1; omega)
      refine (congrFun e _).trans ((step m c ⟨n + 1, h⟩ _ r s).trans ?_)
      rw [pay1_at, zero_add]
      show part m c _ _ ((n + 1) % 2) = _
      rw [h0, zero_add, Finset.sum_range_one]
    · have e := later m c ⟨n + 1, h⟩ h0
      refine (congrFun e _).trans ((step m c ⟨n + 1, h⟩ _ r s).trans ?_)
      have e1 : (n + 1) % 2 = n % 2 + 1 := by omega
      have e2 : (n + 1) / 2 = n / 2 := by omega
      have e3 : (n + 1) / 4 = n / 4 := by omega
      have e4 := ih (Nat.lt_of_succ_lt h)
      show ((outsAt0 m c n (Nat.lt_of_succ_lt h)).2 (ix2 r s) : EReal)
        + part m c (1024 * ((n + 1) / 4) + r.val) (1024 * ((n + 1) / 2 % 2) + s.val) ((n + 1) % 2) = _
      rw [e4, e1, e2, e3, Finset.sum_range_succ _ (n % 2 + 1)]

theorem whole (i0 i1 : Fin 2048) : ∑ b ∈ Finset.range 2, part m c i0.val i1.val b = val (a0 m c) (a1 m c) (ix2 i0 i1) := by
  have e0 : f i0.val = i0 := Fin.ext (Nat.mod_eq_of_lt i0.isLt)
  have e1 : f i1.val = i1 := Fin.ext (Nat.mod_eq_of_lt i1.isLt)
  rw [val_at, sum_parts (n := 2) (w := 1536) (by norm_num), Finset.sum_range]
  refine Finset.sum_congr rfl fun b _ => Finset.sum_congr rfl fun k _ => ?_
  have hb := b.isLt
  have hk := k.isLt
  rw [e0, e1]
  have e2 : fk (1536 * b.val + k.val) = ⟨1536 * b.val + k.val, by omega⟩ := Fin.ext (Nat.mod_eq_of_lt (by omega))
  rw [e2]

abbrev row (r : Fin 1024) : Fin 2048 := ⟨1024 * (t.val / 4) + r.val, by have := lt t; omega⟩
abbrev column (s : Fin 1024) : Fin 2048 := ⟨1024 * (t.val / 2 % 2) + s.val, by omega⟩

theorem point (h1 : t.val % 2 = 1) (r s : Fin 1024) :
    (outsAt0 m c t.val t.isLt).1 (ix2 r s) = val (a0 m c) (a1 m c) (ix2 (row t r) (column t s)) := by
  refine (congrFun (last_out m c t (by omega) h1) _).trans ((acc_at m c r s t.val t.isLt).trans ?_)
  rw [h1]
  exact whole m c (row t r) (column t s)

theorem out : (dats m 0 c).arrAt 2 cfg0.N = val (a0 m c) (a1 m c) := by
  refine (dats m 0 c).arrAt_eq_of_covers 2 _ (by decide +kernel) fun t hf y => ?_
  blk_simp
  rw [after0_2]
  refine (congrArg (outsAt0 m c t.val t.isLt).1 (eta2 (n0 := 1024) (n1 := 1024) y)).trans
    ((point m c t ((flush0_2 t).mp hf) _ _).trans (congrArg _ ?_))
  have e := (idx t).2.2
  funext a; apply Fin.ext
  match a with
  | ⟨0, _⟩ =>
    show 1024 * (t.val / 4) + (y 0).val = win0_2.index t 0 * 1024 + 1 * (y 0).val
    rw [e]; show _ = t.val / 4 * 1024 + _; omega
  | ⟨1, _⟩ =>
    show 1024 * (t.val / 2 % 2) + (y 1).val = win0_2.index t 1 * 1024 + 1 * (y 1).val
    rw [e]; show _ = t.val / 2 % 2 * 1024 + _; omega

end Cert.QkvDa

end
-- ==== Proof.QkvDw.lean ====
/-
  The gradient by the weight of the recurrence's input product (`in_qkv`): its call over the extended reals, and the reference's term.
-/
module

public import proofs.«01_k».proof.Proof.Prod
public import proofs.«01_k».proof.Proof.Gen.Kernel10Ideal.Frame
public import proofs.«01_k».proof.Proof.Gen.Reference10Ideal.Run

@[expose] public section

set_option maxRecDepth 16384

noncomputable section

namespace Cert.QkvDw

open Idealize.ShloMosaic Idealize.ShloMosaic.TcCoe Idealize.SL.Sem
open Cert.Prod

section Ref

open Cert.Reference10Ideal Cert.Reference10Ideal.Gen

/-- The reference's result as a function of its two arguments. -/
def val (A : FVec Ideal S2048x2048 .bf16) (B : FVec Ideal S2048x3072 .bf16) : FVec Ideal S2048x3072 .bf16 :=
  truncf .bf16 (transpose S2048x3072 [1, 0] (Host.dotGeneral dot_S2048x3072_S2048x2048_S3072x2048_0_0_1_1_n_n none
    (extf .f32 B bitsLt_bf16_f32) (extf .f32 A bitsLt_bf16_f32)) transposes_S3072x2048_S2048x3072_1_0) bitsLt_bf16_f32

theorem val_at (A : FVec Ideal S2048x2048 .bf16) (B : FVec Ideal S2048x3072 .bf16) (i : Fin 2048) (j : Fin 3072) :
    val A B (ix2 i j) = ∑ k : Fin 2048, A (ix2 k i) * B (ix2 k j) := by
  unfold val
  pointwise []
  exact Finset.sum_congr rfl fun k _ => mul_comm _ _

end Ref

open Cert.Kernel10Ideal Cert.Kernel10Ideal.Gen

variable (m : (ℓ : Loc nD τ sig) → Buf (Elt Ideal) ℓ) (c : Dev nD)

abbrev a0 : FVec Ideal S2048x2048 .bf16 := m ((c : Thread nD τ).loc main_arg0)
abbrev a1 : FVec Ideal S2048x3072 .bf16 := m ((c : Thread nD τ).loc main_arg1)

theorem pay_at (a : Vec Ideal S2048x1024 .bf16) (b : Vec Ideal S2048x1024 .bf16) (r : Fin 1024) (s : Fin 1024) :
    k0_pay1 a b (ix2 r s) = ∑ k : Fin 2048, a (ix2 k r) * b (ix2 k s) := by
  unfold k0_pay1
  pointwise []

theorem idx : ∀ t : Fin cfg0.N, win0_0.index t = ![0, t.val / 3] ∧ win0_1.index t = ![0, t.val % 3]
    ∧ win0_2.index t = ![t.val / 3, t.val % 3] := by
  decide +kernel

variable (t : Fin cfg0.N)

theorem lt : t.val < 6 := t.isLt

abbrev row (r : Fin 1024) : Fin 2048 := ⟨1024 * (t.val / 3) + r.val, by have := lt t; omega⟩
abbrev column (s : Fin 1024) : Fin 3072 := ⟨1024 * (t.val % 3) + s.val, by have := lt t; omega⟩

theorem blk0 (k : Fin 2048) (r : Fin 1024) : iblk m c 0 t (ix2 k r) = a0 m c (ix2 k (row t r)) := by
  unfold row
  blk_ext [iblk, V, (idx t).1]

theorem blk1 (k : Fin 2048) (s : Fin 1024) : iblk m c 1 t (ix2 k s) = a1 m c (ix2 k (column t s)) := by
  unfold column
  blk_ext [iblk, V, (idx t).2.1]

theorem point (r : Fin 1024) (s : Fin 1024) :
    k0_pay1 (iblk m c 0 t : Vec Ideal S2048x1024 .bf16) (iblk m c 1 t : Vec Ideal S2048x1024 .bf16) (ix2 r s)
      = val (a0 m c) (a1 m c) (ix2 (row t r) (column t s)) := by
  rw [pay_at, val_at]
  exact sum_mul (fun k => blk0 m c t k r) fun k => blk1 m c t k s

theorem out : (dats m 0 c).arrAt 2 cfg0.N = val (a0 m c) (a1 m c) := by
  refine (dats m 0 c).arrAt_eq_of_covers 2 _ (by decide +kernel) fun t hf y => ?_
  blk_simp
  rw [after0_2]
  unfold out0_2
  rw [View.canon_unit_zero zero2, View.ld_unit_zero zero2, View.ld_unit_zero zero2]
  refine (congrArg (k0_pay1 _ _) (eta2 (n0 := 1024) (n1 := 1024) y)).trans ((point m c t _ _).trans (congrArg _ ?_))
  have e := (idx t).2.2
  funext a; apply Fin.ext
  match a with
  | ⟨0, _⟩ =>
    show 1024 * (t.val / 3) + (y 0).val = win0_2.index t 0 * 1024 + 1 * (y 0).val
    rw [e]; show _ = t.val / 3 * 1024 + _; omega
  | ⟨1, _⟩ =>
    show 1024 * (t.val % 3) + (y 1).val = win0_2.index t 1 * 1024 + 1 * (y 1).val
    rw [e]; show _ = t.val % 3 * 1024 + _; omega

end Cert.QkvDw

end
-- ==== Proof.OutDa.lean ====
/-
  The gradient by the first factor of the mixer's output product (`w_o`): its call over the extended reals, and the reference's term.
-/
module

public import proofs.«01_k».proof.Proof.Prod
public import proofs.«01_k».proof.Proof.Gen.Kernel11Ideal.Frame
public import proofs.«01_k».proof.Proof.Gen.Reference11Ideal.Run

@[expose] public section

set_option maxRecDepth 16384

noncomputable section

namespace Cert.OutDa

open Idealize.ShloMosaic Idealize.ShloMosaic.TcCoe Idealize.SL.Sem
open Cert.Prod

section Ref

open Cert.Reference11Ideal Cert.Reference11Ideal.Gen

/-- The reference's result as a function of its two arguments. -/
def val (B : FVec Ideal S2048x2048 .bf16) (G : FVec Ideal S2048x2048 .bf16) : FVec Ideal S2048x2048 .bf16 :=
  truncf .bf16 (Host.dotGeneral dot_S2048x2048_S2048x2048_S2048x2048_1_1_0_0_n_n none
    (extf .f32 G bitsLt_bf16_f32) (extf .f32 B bitsLt_bf16_f32)) bitsLt_bf16_f32

theorem val_at (B : FVec Ideal S2048x2048 .bf16) (G : FVec Ideal S2048x2048 .bf16) (i : Fin 2048) (j : Fin 2048) :
    val B G (ix2 i j) = ∑ k : Fin 2048, G (ix2 i k) * B (ix2 j k) := by
  unfold val
  pointwise []

end Ref

open Cert.Kernel11Ideal Cert.Kernel11Ideal.Gen

variable (m : (ℓ : Loc nD τ sig) → Buf (Elt Ideal) ℓ) (c : Dev nD)

abbrev a0 : FVec Ideal S2048x2048 .bf16 := m ((c : Thread nD τ).loc main_arg0)
abbrev a1 : FVec Ideal S2048x2048 .bf16 := m ((c : Thread nD τ).loc main_arg1)

theorem pay_at (a : Vec Ideal S1024x2048 .bf16) (b : Vec Ideal S1024x2048 .bf16) (r : Fin 1024) (s : Fin 1024) :
    k0_pay1 a b (ix2 r s) = ∑ k : Fin 2048, a (ix2 r k) * b (ix2 s k) := by
  unfold k0_pay1
  pointwise []

theorem idx : ∀ t : Fin cfg0.N, win0_0.index t = ![t.val / 2, 0] ∧ win0_1.index t = ![t.val % 2, 0]
    ∧ win0_2.index t = ![t.val / 2, t.val % 2] := by
  decide +kernel

variable (t : Fin cfg0.N)

theorem lt : t.val < 4 := t.isLt

abbrev row (r : Fin 1024) : Fin 2048 := ⟨1024 * (t.val / 2) + r.val, by have := lt t; omega⟩
abbrev column (s : Fin 1024) : Fin 2048 := ⟨1024 * (t.val % 2) + s.val, by have := lt t; omega⟩

theorem blk0 (r : Fin 1024) (k : Fin 2048) : iblk m c 0 t (ix2 r k) = a1 m c (ix2 (row t r) k) := by
  unfold row
  blk_ext [iblk, V, (idx t).1]

theorem blk1 (s : Fin 1024) (k : Fin 2048) : iblk m c 1 t (ix2 s k) = a0 m c (ix2 (column t s) k) := by
  unfold column
  blk_ext [iblk, V, (idx t).2.1]

theorem point (r : Fin 1024) (s : Fin 1024) :
    k0_pay1 (iblk m c 0 t : Vec Ideal S1024x2048 .bf16) (iblk m c 1 t : Vec Ideal S1024x2048 .bf16) (ix2 r s)
      = val (a0 m c) (a1 m c) (ix2 (row t r) (column t s)) := by
  rw [pay_at, val_at]
  exact sum_mul (fun k => blk0 m c t r k) fun k => blk1 m c t s k

theorem out : (dats m 0 c).arrAt 2 cfg0.N = val (a0 m c) (a1 m c) := by
  refine (dats m 0 c).arrAt_eq_of_covers 2 _ (by decide +kernel) fun t hf y => ?_
  blk_simp
  rw [after0_2]
  unfold out0_2
  rw [View.canon_unit_zero zero2, View.ld_unit_zero zero2, View.ld_unit_zero zero2]
  refine (congrArg (k0_pay1 _ _) (eta2 (n0 := 1024) (n1 := 1024) y)).trans ((point m c t _ _).trans (congrArg _ ?_))
  have e := (idx t).2.2
  funext a; apply Fin.ext
  match a with
  | ⟨0, _⟩ =>
    show 1024 * (t.val / 2) + (y 0).val = win0_2.index t 0 * 1024 + 1 * (y 0).val
    rw [e]; show _ = t.val / 2 * 1024 + _; omega
  | ⟨1, _⟩ =>
    show 1024 * (t.val % 2) + (y 1).val = win0_2.index t 1 * 1024 + 1 * (y 1).val
    rw [e]; show _ = t.val % 2 * 1024 + _; omega

end Cert.OutDa

end
-- ==== Proof.OutDw.lean ====
/-
  The gradient by the weight of the mixer's output product (`w_o`): its call over the extended reals, and the reference's term.
-/
module

public import proofs.«01_k».proof.Proof.Prod
public import proofs.«01_k».proof.Proof.Gen.Kernel12Ideal.Frame
public import proofs.«01_k».proof.Proof.Gen.Reference12Ideal.Run

@[expose] public section

set_option maxRecDepth 16384

noncomputable section

namespace Cert.OutDw

open Idealize.ShloMosaic Idealize.ShloMosaic.TcCoe Idealize.SL.Sem
open Cert.Prod

section Ref

open Cert.Reference12Ideal Cert.Reference12Ideal.Gen

/-- The reference's result as a function of its two arguments. -/
def val (A : FVec Ideal S2048x2048 .bf16) (B : FVec Ideal S2048x2048 .bf16) : FVec Ideal S2048x2048 .bf16 :=
  truncf .bf16 (transpose S2048x2048 [1, 0] (Host.dotGeneral dot_S2048x2048_S2048x2048_S2048x2048_0_0_1_1_n_n none
    (extf .f32 B bitsLt_bf16_f32) (extf .f32 A bitsLt_bf16_f32)) transposes_S2048x2048_S2048x2048_1_0) bitsLt_bf16_f32

theorem val_at (A : FVec Ideal S2048x2048 .bf16) (B : FVec Ideal S2048x2048 .bf16) (i : Fin 2048) (j : Fin 2048) :
    val A B (ix2 i j) = ∑ k : Fin 2048, A (ix2 k i) * B (ix2 k j) := by
  unfold val
  pointwise []
  exact Finset.sum_congr rfl fun k _ => mul_comm _ _

end Ref

open Cert.Kernel12Ideal Cert.Kernel12Ideal.Gen

variable (m : (ℓ : Loc nD τ sig) → Buf (Elt Ideal) ℓ) (c : Dev nD)

abbrev a0 : FVec Ideal S2048x2048 .bf16 := m ((c : Thread nD τ).loc main_arg0)
abbrev a1 : FVec Ideal S2048x2048 .bf16 := m ((c : Thread nD τ).loc main_arg1)

theorem pay_at (a : Vec Ideal S2048x1024 .bf16) (b : Vec Ideal S2048x1024 .bf16) (r : Fin 1024) (s : Fin 1024) :
    k0_pay1 a b (ix2 r s) = ∑ k : Fin 2048, a (ix2 k r) * b (ix2 k s) := by
  unfold k0_pay1
  pointwise []

theorem idx : ∀ t : Fin cfg0.N, win0_0.index t = ![0, t.val / 2] ∧ win0_1.index t = ![0, t.val % 2]
    ∧ win0_2.index t = ![t.val / 2, t.val % 2] := by
  decide +kernel

variable (t : Fin cfg0.N)

theorem lt : t.val < 4 := t.isLt

abbrev row (r : Fin 1024) : Fin 2048 := ⟨1024 * (t.val / 2) + r.val, by have := lt t; omega⟩
abbrev column (s : Fin 1024) : Fin 2048 := ⟨1024 * (t.val % 2) + s.val, by have := lt t; omega⟩

theorem blk0 (k : Fin 2048) (r : Fin 1024) : iblk m c 0 t (ix2 k r) = a0 m c (ix2 k (row t r)) := by
  unfold row
  blk_ext [iblk, V, (idx t).1]

theorem blk1 (k : Fin 2048) (s : Fin 1024) : iblk m c 1 t (ix2 k s) = a1 m c (ix2 k (column t s)) := by
  unfold column
  blk_ext [iblk, V, (idx t).2.1]

theorem point (r : Fin 1024) (s : Fin 1024) :
    k0_pay1 (iblk m c 0 t : Vec Ideal S2048x1024 .bf16) (iblk m c 1 t : Vec Ideal S2048x1024 .bf16) (ix2 r s)
      = val (a0 m c) (a1 m c) (ix2 (row t r) (column t s)) := by
  rw [pay_at, val_at]
  exact sum_mul (fun k => blk0 m c t k r) fun k => blk1 m c t k s

theorem out : (dats m 0 c).arrAt 2 cfg0.N = val (a0 m c) (a1 m c) := by
  refine (dats m 0 c).arrAt_eq_of_covers 2 _ (by decide +kernel) fun t hf y => ?_
  blk_simp
  rw [after0_2]
  unfold out0_2
  rw [View.canon_unit_zero zero2, View.ld_unit_zero zero2, View.ld_unit_zero zero2]
  refine (congrArg (k0_pay1 _ _) (eta2 (n0 := 1024) (n1 := 1024) y)).trans ((point m c t _ _).trans (congrArg _ ?_))
  have e := (idx t).2.2
  funext a; apply Fin.ext
  match a with
  | ⟨0, _⟩ =>
    show 1024 * (t.val / 2) + (y 0).val = win0_2.index t 0 * 1024 + 1 * (y 0).val
    rw [e]; show _ = t.val / 2 * 1024 + _; omega
  | ⟨1, _⟩ =>
    show 1024 * (t.val % 2) + (y 1).val = win0_2.index t 1 * 1024 + 1 * (y 1).val
    rw [e]; show _ = t.val % 2 * 1024 + _; omega

end Cert.OutDw

end
-- ==== Proof.BranchDa.lean ====
/-
  The gradient by the first factor of a branch's output product (`o_mla`, `o_gdn`): its call over the extended reals, and the reference's term.
-/
module

public import proofs.«01_k».proof.Proof.Prod
public import proofs.«01_k».proof.Proof.Gen.Kernel13Ideal.Frame
public import proofs.«01_k».proof.Proof.Gen.Reference13Ideal.Run

@[expose] public section

set_option maxRecDepth 16384

noncomputable section

namespace Cert.BranchDa

open Idealize.ShloMosaic Idealize.ShloMosaic.TcCoe Idealize.SL.Sem
open Cert.Prod

section Ref

open Cert.Reference13Ideal Cert.Reference13Ideal.Gen

/-- The reference's result as a function of its two arguments. -/
def val (B : FVec Ideal S8x1024x256 .bf16) (G : FVec Ideal S2048x2048 .bf16) : FVec Ideal S2048x1024 .bf16 :=
  truncf .bf16 (Host.dotGeneral dot_S2048x2048_S1024x2048_S2048x1024_1_1_0_0_n_n none (extf .f32 G bitsLt_bf16_f32)
    (extf .f32 (shapeCast S1024x2048 (transpose S1024x8x256 [1, 0, 2] B transposes_S8x1024x256_S1024x8x256_1_0_2) shapeCasts_S1024x8x256_S1024x2048) bitsLt_bf16_f32)) bitsLt_bf16_f32

theorem val_at (B : FVec Ideal S8x1024x256 .bf16) (G : FVec Ideal S2048x2048 .bf16) (i : Fin 2048) (j : Fin 1024) :
    val B G (ix2 i j) = ∑ k : Fin 2048, G (ix2 i k) * B (ix3 ⟨k.val / 256, by have := k.isLt; omega⟩ j ⟨k.val % 256, by omega⟩) := by
  unfold val
  pointwise []

end Ref

open Cert.Kernel13Ideal Cert.Kernel13Ideal.Gen

variable (m : (ℓ : Loc nD τ sig) → Buf (Elt Ideal) ℓ) (c : Dev nD)

abbrev a0 : FVec Ideal S8x1024x256 .bf16 := m ((c : Thread nD τ).loc main_arg0)
abbrev a1 : FVec Ideal S2048x2048 .bf16 := m ((c : Thread nD τ).loc main_arg1)

/-- What a grid point writes: a sum over the weight's eight slots. -/
def body (a : Vec Ideal S1024x2048 .bf16) (b : Vec Ideal S8x1024x256 .bf16) : FVec Ideal S1024x1024 .bf16 :=
  k0_pay1 a (k0_pay2 a (View.ld b r0_1) (View.ld b r0_2) (View.ld b r0_3) (View.ld b r0_4) (View.ld b r0_5) (View.ld b r0_6)) (k0_pay3 a) (View.ld b r0_7) (View.ld b r0_8)

theorem body_at (a : Vec Ideal S1024x2048 .bf16) (b : Vec Ideal S8x1024x256 .bf16) (r : Fin 1024) (s : Fin 1024) :
    body a b (ix2 r s) = ∑ d : Fin 8, ∑ k : Fin 256, a (ix2 r ⟨256 * d.val + k.val, by have := d.isLt; have := k.isLt; omega⟩) * b (ix3 d s k) := by
  unfold body k0_pay1 k0_pay2 k0_pay3
  rw [Fin.sum_univ_eight]
  pointwise []

theorem idx : ∀ t : Fin cfg0.N, win0_0.index t = ![t.val, 0] ∧ win0_1.index t = ![0, 0, 0] ∧ win0_2.index t = ![t.val, 0] := by
  decide +kernel

variable (t : Fin cfg0.N)

theorem lt : t.val < 2 := t.isLt

abbrev row (r : Fin 1024) : Fin 2048 := ⟨1024 * t.val + r.val, by have := lt t; omega⟩

theorem blk0 (r : Fin 1024) (k : Fin 2048) : iblk m c 0 t (ix2 r k) = a1 m c (ix2 (row t r) k) := by
  unfold row
  blk_ext [iblk, V, (idx t).1]

theorem blk1 (d : Fin 8) (s : Fin 1024) (k : Fin 256) : iblk m c 1 t (ix3 d s k) = a0 m c (ix3 d s k) := by
  blk_ext [iblk, V, (idx t).2.1]

theorem point (r : Fin 1024) (s : Fin 1024) :
    body (iblk m c 0 t : Vec Ideal S1024x2048 .bf16) (iblk m c 1 t : Vec Ideal S8x1024x256 .bf16) (ix2 r s)
      = val (a0 m c) (a1 m c) (ix2 (row t r) s) := by
  rw [body_at, val_at, sum_parts (n := 8) (w := 256) (N := 2048) rfl]
  refine Finset.sum_congr rfl fun d _ => sum_mul (fun k => blk0 m c t r _) fun k => (blk1 m c t d s k).trans (congrArg _ ?_)
  have := k.isLt
  funext a; apply Fin.ext
  match a with
  | ⟨0, _⟩ => show d.val = (256 * d.val + k.val) / 256; omega
  | ⟨1, _⟩ => rfl
  | ⟨2, _⟩ => show k.val = (256 * d.val + k.val) % 256; omega

theorem out : (dats m 0 c).arrAt 2 cfg0.N = val (a0 m c) (a1 m c) := by
  refine (dats m 0 c).arrAt_eq_of_covers 2 _ (by decide +kernel) fun t hf y => ?_
  blk_simp
  rw [after0_2]
  unfold out0_2
  rw [View.canon_unit_zero zero2, View.ld_unit_zero zero2]
  refine (congrArg (body _ _) (eta2 (n0 := 1024) (n1 := 1024) y)).trans ((point m c t _ _).trans (congrArg _ ?_))
  have e := (idx t).2.2
  funext a; apply Fin.ext
  match a with
  | ⟨0, _⟩ =>
    show 1024 * t.val + (y 0).val = win0_2.index t 0 * 1024 + 1 * (y 0).val
    rw [e]; show _ = t.val * 1024 + _; omega
  | ⟨1, _⟩ =>
    show (y 1).val = win0_2.index t 1 * 1024 + 1 * (y 1).val
    rw [e]; show _ = 0 * 1024 + _; omega

end Cert.BranchDa

end
-- ==== Proof.BranchDw.lean ====
/-
  The gradient by the weight of a branch's output product (`o_mla`, `o_gdn`): its call over the extended reals, and the reference's term.
-/
module

public import proofs.«01_k».proof.Proof.Prod
public import proofs.«01_k».proof.Proof.Gen.Kernel14Ideal.Frame
public import proofs.«01_k».proof.Proof.Gen.Reference14Ideal.Run

@[expose] public section

set_option maxRecDepth 16384

noncomputable section

namespace Cert.BranchDw

open Idealize.ShloMosaic Idealize.ShloMosaic.TcCoe Idealize.SL.Sem
open Cert.Prod

section Ref

open Cert.Reference14Ideal Cert.Reference14Ideal.Gen

/-- The reference's result as a function of its two arguments. -/
def val (A : FVec Ideal S2048x1024 .bf16) (B : FVec Ideal S2048x2048 .bf16) : FVec Ideal S8x1024x256 .bf16 :=
  transpose S8x1024x256 [1, 0, 2] (shapeCast S1024x8x256 (truncf .bf16 (transpose S1024x2048 [1, 0]
    (Host.dotGeneral dot_S2048x2048_S2048x1024_S2048x1024_0_0_1_1_n_n none (extf .f32 B bitsLt_bf16_f32) (extf .f32 A bitsLt_bf16_f32))
    transposes_S2048x1024_S1024x2048_1_0) bitsLt_bf16_f32) shapeCasts_S1024x2048_S1024x8x256) transposes_S1024x8x256_S8x1024x256_1_0_2

theorem val_at (A : FVec Ideal S2048x1024 .bf16) (B : FVec Ideal S2048x2048 .bf16) (s : Fin 8) (i : Fin 1024) (j : Fin 256) :
    val A B (ix3 s i j) = ∑ k : Fin 2048, A (ix2 k i) * B (ix2 k ⟨256 * s.val + j.val, by have := s.isLt; have := j.isLt; omega⟩) := by
  unfold val
  pointwise []
  refine Finset.sum_congr rfl fun k _ => ?_
  rw [mul_comm]
  have e : ∀ h, (⟨s.val * 256 + j.val, h⟩ : Fin 2048) = ⟨256 * s.val + j.val, by omega⟩ := fun h => Fin.ext (by show s.val * 256 + j.val = 256 * s.val + j.val; omega)
  rw [e]

end Ref

open Cert.Kernel14Ideal Cert.Kernel14Ideal.Gen

variable (m : (ℓ : Loc nD τ sig) → Buf (Elt Ideal) ℓ) (c : Dev nD)

abbrev a0 : FVec Ideal S2048x1024 .bf16 := m ((c : Thread nD τ).loc main_arg0)
abbrev a1 : FVec Ideal S2048x2048 .bf16 := m ((c : Thread nD τ).loc main_arg1)

theorem pay1_at (a : Vec Ideal S2048x1024 .bf16) (b : Vec Ideal S2048x1024 .bf16) (x : S1x1024x256.Idx) :
    k0_pay1 a (View.ld b r0_1) x = ∑ k : Fin 2048, a (ix2 k (x 1)) * b (ix2 k ⟨0 + (x 2).val, by have : (x 2).val < 256 := (x 2).isLt; omega⟩) := by
  idx_vars x
  unfold k0_pay1
  pointwise []

theorem pay2_at (a : Vec Ideal S2048x1024 .bf16) (b : Vec Ideal S2048x1024 .bf16) (x : S1x1024x256.Idx) :
    k0_pay2 a (View.ld b r0_3) x = ∑ k : Fin 2048, a (ix2 k (x 1)) * b (ix2 k ⟨256 + (x 2).val, by have : (x 2).val < 256 := (x 2).isLt; omega⟩) := by
  idx_vars x
  unfold k0_pay2
  pointwise []

theorem pay3_at (a : Vec Ideal S2048x1024 .bf16) (b : Vec Ideal S2048x1024 .bf16) (x : S1x1024x256.Idx) :
    k0_pay3 a (View.ld b r0_5) x = ∑ k : Fin 2048, a (ix2 k (x 1)) * b (ix2 k ⟨512 + (x 2).val, by have : (x 2).val < 256 := (x 2).isLt; omega⟩) := by
  idx_vars x
  unfold k0_pay3
  pointwise []

theorem pay4_at (a : Vec Ideal S2048x1024 .bf16) (b : Vec Ideal S2048x1024 .bf16) (x : S1x1024x256.Idx) :
    k0_pay4 a (View.ld b r0_7) x = ∑ k : Fin 2048, a (ix2 k (x 1)) * b (ix2 k ⟨768 + (x 2).val, by have : (x 2).val < 256 := (x 2).isLt; omega⟩) := by
  idx_vars x
  unfold k0_pay4
  pointwise []

/-- What a grid point writes, slot by slot. -/
theorem out_at (a : Vec Ideal S2048x1024 .bf16) (b : Vec Ideal S2048x1024 .bf16) (d : Fin 4) (i : Fin 1024) (q : Fin 256) (v : Elt Ideal .bf16)
    (h : ∑ k : Fin 2048, a (ix2 k i) * b (ix2 k ⟨256 * d.val + q.val, by have := d.isLt; have := q.isLt; omega⟩) = v) :
    out0_2 a b (ix3 d i q) = v := by
  unfold out0_2
  rw [View.ld_unit_zero zero2]
  have step : ∀ (n : Fin 4) (x : S1x1024x256.Idx), d.val = n.val + (x 0).val → i.val = 0 + (x 1).val → q.val = 0 + (x 2).val →
      ∑ k : Fin 2048, a (ix2 k (x 1)) * b (ix2 k ⟨256 * n.val + (x 2).val, by have : (x 2).val < 256 := (x 2).isLt; omega⟩) = v := by
    intro n x e0 e1 e2
    have hl : (x 0).val < 1 := (x 0).isLt
    refine Eq.trans (sum_mul (fun k => congrArg (fun j => a (ix2 k j)) (Fin.ext ?_)) fun k => congrArg (fun j => b (ix2 k j)) (Fin.ext ?_)) h
    · show (x 1).val = i.val; omega
    · show 256 * n.val + (x 2).val = 256 * d.val + q.val; omega
  refine View.canon_eq_of_allAt _ _ _ (cover0_2 _ _ _ _ _) (View.allAt_cons_unit _ _ _ _ _ (fun x hx => ?_)
    (View.allAt_cons_unit _ _ _ _ _ (fun x hx => ?_) (View.allAt_cons_unit _ _ _ _ _ (fun x hx => ?_)
      (View.allAt_cons_unit _ _ _ _ _ (fun x hx => ?_) (View.allAt_nil _ _)))))
  · exact (pay4_at _ _ x).trans (step 3 x (hx 0) (hx 1) (hx 2))
  · exact (pay3_at _ _ x).trans (step 2 x (hx 0) (hx 1) (hx 2))
  · exact (pay2_at _ _ x).trans (step 1 x (hx 0) (hx 1) (hx 2))
  · exact (pay1_at _ _ x).trans (step 0 x (hx 0) (hx 1) (hx 2))

theorem idx : ∀ t : Fin cfg0.N, win0_0.index t = ![0, 0] ∧ win0_1.index t = ![0, t.val] ∧ win0_2.index t = ![t.val, 0, 0] := by
  decide +kernel

variable (t : Fin cfg0.N)

theorem lt : t.val < 2 := t.isLt

abbrev slot (d : Fin 4) : Fin 8 := ⟨4 * t.val + d.val, by have := lt t; omega⟩

theorem blk0 (k : Fin 2048) (i : Fin 1024) : iblk m c 0 t (ix2 k i) = a0 m c (ix2 k i) := by
  blk_ext [iblk, V, (idx t).1]

theorem blk1 (k : Fin 2048) (j : Fin 1024) : iblk m c 1 t (ix2 k j) = a1 m c (ix2 k ⟨1024 * t.val + j.val, by have := lt t; omega⟩) := by
  blk_ext [iblk, V, (idx t).2.1]

theorem point (d : Fin 4) (i : Fin 1024) (q : Fin 256) :
    out0_2 (iblk m c 0 t : Vec Ideal S2048x1024 .bf16) (iblk m c 1 t : Vec Ideal S2048x1024 .bf16) (ix3 d i q)
      = val (a0 m c) (a1 m c) (ix3 (slot t d) i q) := by
  refine out_at _ _ _ _ _ _ (Eq.trans ?_ (val_at _ _ _ _ _).symm)
  refine sum_mul (fun k => blk0 m c t k i) fun k => (blk1 m c t k _).trans (congrArg (fun j => a1 m c (ix2 k j)) (Fin.ext ?_))
  show 1024 * t.val + (256 * d.val + q.val) = 256 * (4 * t.val + d.val) + q.val
  omega

theorem out : (dats m 0 c).arrAt 2 cfg0.N = val (a0 m c) (a1 m c) := by
  refine (dats m 0 c).arrAt_eq_of_covers 2 _ (by decide +kernel) fun t hf y => ?_
  blk_simp
  rw [after0_2]
  have ey : y = ix3 (n0 := 4) (n1 := 1024) (n2 := 256) (y 0) (y 1) (y 2) := by
    funext a
    match a with
    | ⟨0, _⟩ => rfl
    | ⟨1, _⟩ => rfl
    | ⟨2, _⟩ => rfl
  refine (congrArg (out0_2 _ _) ey).trans ((point m c t _ _ _).trans (congrArg _ ?_))
  have e := (idx t).2.2
  funext a; apply Fin.ext
  match a with
  | ⟨0, _⟩ =>
    show 4 * t.val + (y 0).val = win0_2.index t 0 * 4 + 1 * (y 0).val
    rw [e]; show _ = t.val * 4 + _; omega
  | ⟨1, _⟩ =>
    show (y 1).val = win0_2.index t 1 * 1024 + 1 * (y 1).val
    rw [e]; show _ = 0 * 1024 + _; omega
  | ⟨2, _⟩ =>
    show (y 2).val = win0_2.index t 2 * 256 + 1 * (y 2).val
    rw [e]; show _ = 0 * 256 + _; omega

end Cert.BranchDw

end
-- ==== Proof.ZDa.lean ====
/-
  The gradient by the first factor of the output gate's product (`in_z`): its call over the extended reals, and the reference's term.
-/
module

public import proofs.«01_k».proof.Proof.Prod
public import proofs.«01_k».proof.Proof.Gen.Kernel15Ideal.Frame
public import proofs.«01_k».proof.Proof.Gen.Reference15Ideal.Run

@[expose] public section

set_option maxRecDepth 16384

noncomputable section

namespace Cert.ZDa

open Idealize.ShloMosaic Idealize.ShloMosaic.TcCoe Idealize.SL.Sem
open Cert.Prod

section Ref

open Cert.Reference15Ideal Cert.Reference15Ideal.Gen

/-- The reference's result as a function of its two arguments. -/
def val (B : FVec Ideal S2048x1024 .bf16) (G : FVec Ideal S2048x1024 .bf16) : FVec Ideal S2048x2048 .bf16 :=
  truncf .bf16 (Host.dotGeneral dot_S2048x1024_S2048x1024_S2048x2048_1_1_0_0_n_n none
    (extf .f32 G bitsLt_bf16_f32) (extf .f32 B bitsLt_bf16_f32)) bitsLt_bf16_f32

theorem val_at (B : FVec Ideal S2048x1024 .bf16) (G : FVec Ideal S2048x1024 .bf16) (i : Fin 2048) (j : Fin 2048) :
    val B G (ix2 i j) = ∑ k : Fin 1024, G (ix2 i k) * B (ix2 j k) := by
  unfold val
  pointwise []

end Ref

open Cert.Kernel15Ideal Cert.Kernel15Ideal.Gen

variable (m : (ℓ : Loc nD τ sig) → Buf (Elt Ideal) ℓ) (c : Dev nD)

abbrev a0 : FVec Ideal S2048x1024 .bf16 := m ((c : Thread nD τ).loc main_arg0)
abbrev a1 : FVec Ideal S2048x1024 .bf16 := m ((c : Thread nD τ).loc main_arg1)

theorem pay_at (a : Vec Ideal S1024x1024 .bf16) (b : Vec Ideal S1024x1024 .bf16) (r : Fin 1024) (s : Fin 1024) :
    k0_pay1 a b (ix2 r s) = ∑ k : Fin 1024, a (ix2 r k) * b (ix2 s k) := by
  unfold k0_pay1
  pointwise []

theorem idx : ∀ t : Fin cfg0.N, win0_0.index t = ![t.val / 2, 0] ∧ win0_1.index t = ![t.val % 2, 0]
    ∧ win0_2.index t = ![t.val / 2, t.val % 2] := by
  decide +kernel

variable (t : Fin cfg0.N)

theorem lt : t.val < 4 := t.isLt

abbrev row (r : Fin 1024) : Fin 2048 := ⟨1024 * (t.val / 2) + r.val, by have := lt t; omega⟩
abbrev column (s : Fin 1024) : Fin 2048 := ⟨1024 * (t.val % 2) + s.val, by have := lt t; omega⟩

theorem blk0 (r : Fin 1024) (k : Fin 1024) : iblk m c 0 t (ix2 r k) = a1 m c (ix2 (row t r) k) := by
  unfold row
  blk_ext [iblk, V, (idx t).1]

theorem blk1 (s : Fin 1024) (k : Fin 1024) : iblk m c 1 t (ix2 s k) = a0 m c (ix2 (column t s) k) := by
  unfold column
  blk_ext [iblk, V, (idx t).2.1]

theorem point (r : Fin 1024) (s : Fin 1024) :
    k0_pay1 (iblk m c 0 t : Vec Ideal S1024x1024 .bf16) (iblk m c 1 t : Vec Ideal S1024x1024 .bf16) (ix2 r s)
      = val (a0 m c) (a1 m c) (ix2 (row t r) (column t s)) := by
  rw [pay_at, val_at]
  exact sum_mul (fun k => blk0 m c t r k) fun k => blk1 m c t s k

theorem out : (dats m 0 c).arrAt 2 cfg0.N = val (a0 m c) (a1 m c) := by
  refine (dats m 0 c).arrAt_eq_of_covers 2 _ (by decide +kernel) fun t hf y => ?_
  blk_simp
  rw [after0_2]
  unfold out0_2
  rw [View.canon_unit_zero zero2, View.ld_unit_zero zero2, View.ld_unit_zero zero2]
  refine (congrArg (k0_pay1 _ _) (eta2 (n0 := 1024) (n1 := 1024) y)).trans ((point m c t _ _).trans (congrArg _ ?_))
  have e := (idx t).2.2
  funext a; apply Fin.ext
  match a with
  | ⟨0, _⟩ =>
    show 1024 * (t.val / 2) + (y 0).val = win0_2.index t 0 * 1024 + 1 * (y 0).val
    rw [e]; show _ = t.val / 2 * 1024 + _; omega
  | ⟨1, _⟩ =>
    show 1024 * (t.val % 2) + (y 1).val = win0_2.index t 1 * 1024 + 1 * (y 1).val
    rw [e]; show _ = t.val % 2 * 1024 + _; omega

end Cert.ZDa

end
-- ==== Proof.ZDw.lean ====
/-
  The gradient by the weight of the output gate's product (`in_z`): its call over the extended reals, and the reference's term.
-/
module

public import proofs.«01_k».proof.Proof.Prod
public import proofs.«01_k».proof.Proof.Gen.Kernel16Ideal.Frame
public import proofs.«01_k».proof.Proof.Gen.Reference16Ideal.Run

@[expose] public section

set_option maxRecDepth 16384

noncomputable section

namespace Cert.ZDw

open Idealize.ShloMosaic Idealize.ShloMosaic.TcCoe Idealize.SL.Sem
open Cert.Prod

section Ref

open Cert.Reference16Ideal Cert.Reference16Ideal.Gen

/-- The reference's result as a function of its two arguments. -/
def val (A : FVec Ideal S2048x2048 .bf16) (B : FVec Ideal S2048x1024 .bf16) : FVec Ideal S2048x1024 .bf16 :=
  truncf .bf16 (transpose S2048x1024 [1, 0] (Host.dotGeneral dot_S2048x1024_S2048x2048_S1024x2048_0_0_1_1_n_n none
    (extf .f32 B bitsLt_bf16_f32) (extf .f32 A bitsLt_bf16_f32)) transposes_S1024x2048_S2048x1024_1_0) bitsLt_bf16_f32

theorem val_at (A : FVec Ideal S2048x2048 .bf16) (B : FVec Ideal S2048x1024 .bf16) (i : Fin 2048) (j : Fin 1024) :
    val A B (ix2 i j) = ∑ k : Fin 2048, A (ix2 k i) * B (ix2 k j) := by
  unfold val
  pointwise []
  exact Finset.sum_congr rfl fun k _ => mul_comm _ _

end Ref

open Cert.Kernel16Ideal Cert.Kernel16Ideal.Gen

variable (m : (ℓ : Loc nD τ sig) → Buf (Elt Ideal) ℓ) (c : Dev nD)

abbrev a0 : FVec Ideal S2048x2048 .bf16 := m ((c : Thread nD τ).loc main_arg0)
abbrev a1 : FVec Ideal S2048x1024 .bf16 := m ((c : Thread nD τ).loc main_arg1)

theorem pay_at (a : Vec Ideal S2048x1024 .bf16) (b : Vec Ideal S2048x1024 .bf16) (r : Fin 1024) (s : Fin 1024) :
    k0_pay1 a b (ix2 r s) = ∑ k : Fin 2048, a (ix2 k r) * b (ix2 k s) := by
  unfold k0_pay1
  pointwise []

theorem idx : ∀ t : Fin cfg0.N, win0_0.index t = ![0, t.val / 1] ∧ win0_1.index t = ![0, t.val % 1]
    ∧ win0_2.index t = ![t.val / 1, t.val % 1] := by
  decide +kernel

variable (t : Fin cfg0.N)

theorem lt : t.val < 2 := t.isLt

abbrev row (r : Fin 1024) : Fin 2048 := ⟨1024 * (t.val / 1) + r.val, by have := lt t; omega⟩
abbrev column (s : Fin 1024) : Fin 1024 := ⟨1024 * (t.val % 1) + s.val, by have := lt t; omega⟩

theorem blk0 (k : Fin 2048) (r : Fin 1024) : iblk m c 0 t (ix2 k r) = a0 m c (ix2 k (row t r)) := by
  unfold row
  blk_ext [iblk, V, (idx t).1]

theorem blk1 (k : Fin 2048) (s : Fin 1024) : iblk m c 1 t (ix2 k s) = a1 m c (ix2 k (column t s)) := by
  unfold column
  blk_ext [iblk, V, (idx t).2.1]

theorem point (r : Fin 1024) (s : Fin 1024) :
    k0_pay1 (iblk m c 0 t : Vec Ideal S2048x1024 .bf16) (iblk m c 1 t : Vec Ideal S2048x1024 .bf16) (ix2 r s)
      = val (a0 m c) (a1 m c) (ix2 (row t r) (column t s)) := by
  rw [pay_at, val_at]
  exact sum_mul (fun k => blk0 m c t k r) fun k => blk1 m c t k s

theorem out : (dats m 0 c).arrAt 2 cfg0.N = val (a0 m c) (a1 m c) := by
  refine (dats m 0 c).arrAt_eq_of_covers 2 _ (by decide +kernel) fun t hf y => ?_
  blk_simp
  rw [after0_2]
  unfold out0_2
  rw [View.canon_unit_zero zero2, View.ld_unit_zero zero2, View.ld_unit_zero zero2]
  refine (congrArg (k0_pay1 _ _) (eta2 (n0 := 1024) (n1 := 1024) y)).trans ((point m c t _ _).trans (congrArg _ ?_))
  have e := (idx t).2.2
  funext a; apply Fin.ext
  match a with
  | ⟨0, _⟩ =>
    show 1024 * (t.val / 1) + (y 0).val = win0_2.index t 0 * 1024 + 1 * (y 0).val
    rw [e]; show _ = t.val / 1 * 1024 + _; omega
  | ⟨1, _⟩ =>
    show 1024 * (t.val % 1) + (y 1).val = win0_2.index t 1 * 1024 + 1 * (y 1).val
    rw [e]; show _ = t.val % 1 * 1024 + _; omega

end Cert.ZDw

end
-- ==== Proof.LatentDa.lean ====
/-
  The gradient by the first factor of the latents' product (`in_a`): its call over the extended reals, and the reference's term.
-/
module

public import proofs.«01_k».proof.Proof.Prod
public import proofs.«01_k».proof.Proof.Gen.Kernel17Ideal.Frame
public import proofs.«01_k».proof.Proof.Gen.Reference17Ideal.Run

@[expose] public section

set_option maxRecDepth 16384

noncomputable section

namespace Cert.LatentDa

open Idealize.ShloMosaic Idealize.ShloMosaic.TcCoe Idealize.SL.Sem
open Cert.Prod

section Ref

open Cert.Reference17Ideal Cert.Reference17Ideal.Gen

/-- The reference's result as a function of its two arguments. -/
def val (B : FVec Ideal S2048x1152 .bf16) (G : FVec Ideal S2048x1152 .bf16) : FVec Ideal S2048x2048 .bf16 :=
  truncf .bf16 (Host.dotGeneral dot_S2048x1152_S2048x1152_S2048x2048_1_1_0_0_n_n none
    (extf .f32 G bitsLt_bf16_f32) (extf .f32 B bitsLt_bf16_f32)) bitsLt_bf16_f32

theorem val_at (B : FVec Ideal S2048x1152 .bf16) (G : FVec Ideal S2048x1152 .bf16) (i : Fin 2048) (j : Fin 2048) :
    val B G (ix2 i j) = ∑ k : Fin 1152, G (ix2 i k) * B (ix2 j k) := by
  unfold val
  pointwise []

end Ref

open Cert.Kernel17Ideal Cert.Kernel17Ideal.Gen

variable (m : (ℓ : Loc nD τ sig) → Buf (Elt Ideal) ℓ) (c : Dev nD)

abbrev a0 : FVec Ideal S2048x1152 .bf16 := m ((c : Thread nD τ).loc main_arg0)
abbrev a1 : FVec Ideal S2048x1152 .bf16 := m ((c : Thread nD τ).loc main_arg1)

theorem pay_at (a : Vec Ideal S1024x1152 .bf16) (b : Vec Ideal S1024x1152 .bf16) (r : Fin 1024) (s : Fin 1024) :
    k0_pay1 a b (ix2 r s) = ∑ k : Fin 1152, a (ix2 r k) * b (ix2 s k) := by
  unfold k0_pay1
  pointwise []

theorem idx : ∀ t : Fin cfg0.N, win0_0.index t = ![t.val / 2, 0] ∧ win0_1.index t = ![t.val % 2, 0]
    ∧ win0_2.index t = ![t.val / 2, t.val % 2] := by
  decide +kernel

variable (t : Fin cfg0.N)

theorem lt : t.val < 4 := t.isLt

abbrev row (r : Fin 1024) : Fin 2048 := ⟨1024 * (t.val / 2) + r.val, by have := lt t; omega⟩
abbrev column (s : Fin 1024) : Fin 2048 := ⟨1024 * (t.val % 2) + s.val, by have := lt t; omega⟩

theorem blk0 (r : Fin 1024) (k : Fin 1152) : iblk m c 0 t (ix2 r k) = a1 m c (ix2 (row t r) k) := by
  unfold row
  blk_ext [iblk, V, (idx t).1]

theorem blk1 (s : Fin 1024) (k : Fin 1152) : iblk m c 1 t (ix2 s k) = a0 m c (ix2 (column t s) k) := by
  unfold column
  blk_ext [iblk, V, (idx t).2.1]

theorem point (r : Fin 1024) (s : Fin 1024) :
    k0_pay1 (iblk m c 0 t : Vec Ideal S1024x1152 .bf16) (iblk m c 1 t : Vec Ideal S1024x1152 .bf16) (ix2 r s)
      = val (a0 m c) (a1 m c) (ix2 (row t r) (column t s)) := by
  rw [pay_at, val_at]
  exact sum_mul (fun k => blk0 m c t r k) fun k => blk1 m c t s k

theorem out : (dats m 0 c).arrAt 2 cfg0.N = val (a0 m c) (a1 m c) := by
  refine (dats m 0 c).arrAt_eq_of_covers 2 _ (by decide +kernel) fun t hf y => ?_
  blk_simp
  rw [after0_2]
  unfold out0_2
  rw [View.canon_unit_zero zero2, View.ld_unit_zero zero2, View.ld_unit_zero zero2]
  refine (congrArg (k0_pay1 _ _) (eta2 (n0 := 1024) (n1 := 1024) y)).trans ((point m c t _ _).trans (congrArg _ ?_))
  have e := (idx t).2.2
  funext a; apply Fin.ext
  match a with
  | ⟨0, _⟩ =>
    show 1024 * (t.val / 2) + (y 0).val = win0_2.index t 0 * 1024 + 1 * (y 0).val
    rw [e]; show _ = t.val / 2 * 1024 + _; omega
  | ⟨1, _⟩ =>
    show 1024 * (t.val % 2) + (y 1).val = win0_2.index t 1 * 1024 + 1 * (y 1).val
    rw [e]; show _ = t.val % 2 * 1024 + _; omega

end Cert.LatentDa

end
-- ==== Proof.LatentDw.lean ====
/-
  The gradient by the weight of the latents' product (`in_a`): its call over the extended reals, and the reference's term.
-/
module

public import proofs.«01_k».proof.Proof.Prod
public import proofs.«01_k».proof.Proof.Gen.Kernel18Ideal.Frame
public import proofs.«01_k».proof.Proof.Gen.Reference18Ideal.Run

@[expose] public section

set_option maxRecDepth 16384

noncomputable section

namespace Cert.LatentDw

open Idealize.ShloMosaic Idealize.ShloMosaic.TcCoe Idealize.SL.Sem
open Cert.Prod

section Ref

open Cert.Reference18Ideal Cert.Reference18Ideal.Gen

/-- The reference's result as a function of its two arguments. -/
def val (A : FVec Ideal S2048x2048 .bf16) (B : FVec Ideal S2048x1152 .bf16) : FVec Ideal S2048x1152 .bf16 :=
  truncf .bf16 (transpose S2048x1152 [1, 0] (Host.dotGeneral dot_S2048x1152_S2048x2048_S1152x2048_0_0_1_1_n_n none
    (extf .f32 B bitsLt_bf16_f32) (extf .f32 A bitsLt_bf16_f32)) transposes_S1152x2048_S2048x1152_1_0) bitsLt_bf16_f32

theorem val_at (A : FVec Ideal S2048x2048 .bf16) (B : FVec Ideal S2048x1152 .bf16) (i : Fin 2048) (j : Fin 1152) :
    val A B (ix2 i j) = ∑ k : Fin 2048, A (ix2 k i) * B (ix2 k j) := by
  unfold val
  pointwise []
  exact Finset.sum_congr rfl fun k _ => mul_comm _ _

end Ref

open Cert.Kernel18Ideal Cert.Kernel18Ideal.Gen

variable (m : (ℓ : Loc nD τ sig) → Buf (Elt Ideal) ℓ) (c : Dev nD)

abbrev a0 : FVec Ideal S2048x2048 .bf16 := m ((c : Thread nD τ).loc main_arg0)
abbrev a1 : FVec Ideal S2048x1152 .bf16 := m ((c : Thread nD τ).loc main_arg1)

theorem pay_at (a : Vec Ideal S2048x1024 .bf16) (b : Vec Ideal S2048x384 .bf16) (r : Fin 1024) (s : Fin 384) :
    k0_pay1 a b (ix2 r s) = ∑ k : Fin 2048, a (ix2 k r) * b (ix2 k s) := by
  unfold k0_pay1
  pointwise []

theorem idx : ∀ t : Fin cfg0.N, win0_0.index t = ![0, t.val / 3] ∧ win0_1.index t = ![0, t.val % 3]
    ∧ win0_2.index t = ![t.val / 3, t.val % 3] := by
  decide +kernel

variable (t : Fin cfg0.N)

theorem lt : t.val < 6 := t.isLt

abbrev row (r : Fin 1024) : Fin 2048 := ⟨1024 * (t.val / 3) + r.val, by have := lt t; omega⟩
abbrev column (s : Fin 384) : Fin 1152 := ⟨384 * (t.val % 3) + s.val, by have := lt t; omega⟩

theorem blk0 (k : Fin 2048) (r : Fin 1024) : iblk m c 0 t (ix2 k r) = a0 m c (ix2 k (row t r)) := by
  unfold row
  blk_ext [iblk, V, (idx t).1]

theorem blk1 (k : Fin 2048) (s : Fin 384) : iblk m c 1 t (ix2 k s) = a1 m c (ix2 k (column t s)) := by
  unfold column
  blk_ext [iblk, V, (idx t).2.1]

theorem point (r : Fin 1024) (s : Fin 384) :
    k0_pay1 (iblk m c 0 t : Vec Ideal S2048x1024 .bf16) (iblk m c 1 t : Vec Ideal S2048x384 .bf16) (ix2 r s)
      = val (a0 m c) (a1 m c) (ix2 (row t r) (column t s)) := by
  rw [pay_at, val_at]
  exact sum_mul (fun k => blk0 m c t k r) fun k => blk1 m c t k s

theorem out : (dats m 0 c).arrAt 2 cfg0.N = val (a0 m c) (a1 m c) := by
  refine (dats m 0 c).arrAt_eq_of_covers 2 _ (by decide +kernel) fun t hf y => ?_
  blk_simp
  rw [after0_2]
  unfold out0_2
  rw [View.canon_unit_zero zero2, View.ld_unit_zero zero2, View.ld_unit_zero zero2]
  refine (congrArg (k0_pay1 _ _) (eta2 (n0 := 1024) (n1 := 384) y)).trans ((point m c t _ _).trans (congrArg _ ?_))
  have e := (idx t).2.2
  funext a; apply Fin.ext
  match a with
  | ⟨0, _⟩ =>
    show 1024 * (t.val / 3) + (y 0).val = win0_2.index t 0 * 1024 + 1 * (y 0).val
    rw [e]; show _ = t.val / 3 * 1024 + _; omega
  | ⟨1, _⟩ =>
    show 384 * (t.val % 3) + (y 1).val = win0_2.index t 1 * 384 + 1 * (y 1).val
    rw [e]; show _ = t.val % 3 * 384 + _; omega

end Cert.LatentDw

end
-- ==== Proof.FfnUp.lean ====
/-
  The channel mixer's first product with its gate, in the forward pass: its call over the extended reals, and the
  reference's term.
-/
module

public import proofs.«01_k».proof.Proof.Prod
public import proofs.«01_k».proof.Proof.Swiglu
public import proofs.«01_k».proof.Proof.Gen.Kernel19Ideal.Frame
public import proofs.«01_k».proof.Proof.Gen.Reference19Ideal.Run

@[expose] public section

set_option maxRecDepth 16384

noncomputable section

namespace Cert.FfnUp

open Idealize.ShloMosaic Idealize.ShloMosaic.TcCoe Idealize.SL.Sem
open Cert.Prod Cert.Swiglu

section Ref

open Cert.Reference19Ideal Cert.Reference19Ideal.Gen

/-- The whole product, gate and up side by side. -/
def both (A : FVec Ideal S2048x2048 .bf16) (B : FVec Ideal S8x2048x1408 .bf16) : FVec Ideal S2048x11264 .f32 :=
  Host.dotGeneral dot_S2048x2048_S2048x11264_S2048x11264_1_0_0_1_n_n none (extf .f32 A bitsLt_bf16_f32)
    (extf .f32 (shapeCast S2048x11264 (transpose S2048x8x1408 [1, 0, 2] B transposes_S8x2048x1408_S2048x8x1408_1_0_2) shapeCasts_S2048x8x1408_S2048x11264) bitsLt_bf16_f32)

def gate (A : FVec Ideal S2048x2048 .bf16) (B : FVec Ideal S8x2048x1408 .bf16) : FVec Ideal S2048x5632 .f32 :=
  extractStridedSlice S2048x5632 ![0, 0] (both A B) slices_S2048x11264_S2048x5632_0_0

def up (A : FVec Ideal S2048x2048 .bf16) (B : FVec Ideal S8x2048x1408 .bf16) : FVec Ideal S2048x5632 .f32 :=
  extractStridedSlice S2048x5632 ![0, 5632] (both A B) slices_S2048x11264_S2048x5632_0_5632

/-- The reference's three results as functions of its two arguments. -/
def valA (A : FVec Ideal S2048x2048 .bf16) (B : FVec Ideal S8x2048x1408 .bf16) : FVec Ideal S2048x5632 .bf16 :=
  truncf .bf16 (mulf (mulf (gate A B)
    (Host.divf (broadcastInDim S2048x5632 ![] bcast_S_S2048x5632 (constant S_ .f32 0x3F800000#32))
      (addf (broadcastInDim S2048x5632 ![] bcast_S_S2048x5632 (constant S_ .f32 0x3F800000#32)) (Host.exp (Host.negf (gate A B))))))
    (up A B)) bitsLt_bf16_f32

def valG (A : FVec Ideal S2048x2048 .bf16) (B : FVec Ideal S8x2048x1408 .bf16) : FVec Ideal S2048x5632 .bf16 :=
  truncf .bf16 (gate A B) bitsLt_bf16_f32

def valU (A : FVec Ideal S2048x2048 .bf16) (B : FVec Ideal S8x2048x1408 .bf16) : FVec Ideal S2048x5632 .bf16 :=
  truncf .bf16 (up A B) bitsLt_bf16_f32

theorem gate_at (A : FVec Ideal S2048x2048 .bf16) (B : FVec Ideal S8x2048x1408 .bf16) (i : Fin 2048) (s : Fin 4) (j : Fin 1408) :
    gate A B (ix2 i ⟨1408 * s.val + j.val, by omega⟩) = ∑ k : Fin 2048, A (ix2 i k) * B (ix3 ⟨s.val, by omega⟩ k j) := by
  unfold gate both
  pointwise []
  refine Finset.sum_congr rfl fun k _ => congrArg (fun y => A (ix2 i k) * B y) ?_
  funext a; apply Fin.ext
  match a with
  | ⟨0, _⟩ => show (1408 * s.val + j.val) / 1408 = s.val; omega
  | ⟨1, _⟩ => rfl
  | ⟨2, _⟩ => rfl

theorem up_at (A : FVec Ideal S2048x2048 .bf16) (B : FVec Ideal S8x2048x1408 .bf16) (i : Fin 2048) (s : Fin 4) (j : Fin 1408) :
    up A B (ix2 i ⟨1408 * s.val + j.val, by omega⟩) = ∑ k : Fin 2048, A (ix2 i k) * B (ix3 ⟨s.val + 4, by omega⟩ k j) := by
  unfold up both
  pointwise []
  refine Finset.sum_congr rfl fun k _ => congrArg (fun y => A (ix2 i k) * B y) ?_
  funext a; apply Fin.ext
  match a with
  | ⟨0, _⟩ => show (5632 + (1408 * s.val + j.val)) / 1408 = s.val + 4; omega
  | ⟨1, _⟩ => rfl
  | ⟨2, _⟩ => rfl

theorem valA_at (A : FVec Ideal S2048x2048 .bf16) (B : FVec Ideal S8x2048x1408 .bf16) (y : S2048x5632.Idx) :
    (valA A B y : EReal) = (gate A B y : EReal) * sg (gate A B y) * up A B y := by
  show (gate A B y : EReal) * Ideal.div (Ideal.ofBits .f32 0x3F800000#32) (Ideal.ofBits .f32 0x3F800000#32 + Ideal.exp (-(gate A B y : EReal))) * up A B y = _
  rw [one_bits]; rfl

end Ref

open Cert.Kernel19Ideal Cert.Kernel19Ideal.Gen

theorem pay1_at (a : Vec Ideal S256x2048 .bf16) (b : Vec Ideal S1x2048x1408 .bf16) (r : Fin 256) (s : Fin 1408) :
    k0_pay1 a b (ix2 r s) = ∑ k : Fin 2048, a (ix2 r k) * b (ix3 0 k s) := by
  unfold k0_pay1
  pointwise []

theorem pay2_at (a : Vec Ideal S256x2048 .bf16) (b : Vec Ideal S1x2048x1408 .bf16) (r : Fin 256) (s : Fin 1408) :
    k0_pay2 a b (ix2 r s) = ∑ k : Fin 2048, a (ix2 r k) * b (ix3 0 k s) := by
  unfold k0_pay2
  pointwise []

theorem pay3_at (a : Vec Ideal S256x2048 .bf16) (b d : Vec Ideal S1x2048x1408 .bf16) (y : S256x1408.Idx) :
    (k0_pay3 a b d y : EReal) = (k0_pay1 a b y : EReal) * sg (k0_pay1 a b y) * k0_pay2 a d y := by
  show (k0_pay1 a b y : EReal) * Ideal.div (Ideal.ofBits .f32 0x3F800000#32) (Ideal.ofBits .f32 0x3F800000#32 + Ideal.exp (Ideal.ofBits .f32 0x00000000#32 - (k0_pay1 a b y : EReal)))
    * k0_pay2 a d y = _
  have z : Ideal.ofBits .f32 0x00000000#32 = 0 := by simp [Ideal.ofBits, Ideal.ieee]
  rw [one_bits, z, zero_sub]; rfl

variable (m : (ℓ : Loc nD τ sig) → Buf (Elt Ideal) ℓ) (c : Dev nD)

abbrev a0 : FVec Ideal S2048x2048 .bf16 := m ((c : Thread nD τ).loc main_arg0)
abbrev a1 : FVec Ideal S8x2048x1408 .bf16 := m ((c : Thread nD τ).loc main_arg1)

theorem idx : ∀ t : Fin cfg0.N, win0_0.index t = ![t.val % 8, 0] ∧ win0_1.index t = ![t.val / 8, 0, 0] ∧ win0_2.index t = ![t.val / 8 + 4, 0, 0]
    ∧ win0_3.index t = ![t.val % 8, t.val / 8] ∧ win0_4.index t = ![t.val % 8, t.val / 8] ∧ win0_5.index t = ![t.val % 8, t.val / 8] := by
  decide +kernel

variable (t : Fin cfg0.N)

theorem lt : t.val < 32 := t.isLt

abbrev slot : Fin 4 := ⟨t.val / 8, by have := lt t; omega⟩
abbrev row (r : Fin 256) : Fin 2048 := ⟨256 * (t.val % 8) + r.val, by omega⟩
abbrev column (s : Fin 1408) : Fin 5632 := ⟨1408 * (slot t).val + s.val, by have := lt t; show 1408 * (t.val / 8) + s.val < 5632; omega⟩

theorem blk0 (r : Fin 256) (k : Fin 2048) : iblk m c 0 t (ix2 r k) = a0 m c (ix2 (row t r) k) := by
  unfold row
  blk_ext [iblk, V, (idx t).1]

theorem blk1 (k : Fin 2048) (s : Fin 1408) :
    iblk m c 1 t (ix3 0 k s) = a1 m c (ix3 ⟨t.val / 8, by have := lt t; omega⟩ k s) := by
  blk_ext [iblk, V, (idx t).2.1]

theorem blk2 (k : Fin 2048) (s : Fin 1408) :
    iblk m c 2 t (ix3 0 k s) = a1 m c (ix3 ⟨t.val / 8 + 4, by have := lt t; omega⟩ k s) := by
  blk_ext [iblk, V, (idx t).2.2.1]

abbrev b0 : Vec Ideal S256x2048 .bf16 := iblk m c 0 t
abbrev b1 : Vec Ideal S1x2048x1408 .bf16 := iblk m c 1 t
abbrev b2 : Vec Ideal S1x2048x1408 .bf16 := iblk m c 2 t

theorem pointG (r : Fin 256) (s : Fin 1408) :
    k0_pay1 (b0 m c t) (b1 m c t) (ix2 r s) = gate (a0 m c) (a1 m c) (ix2 (row t r) (column t s)) := by
  rw [pay1_at]
  refine Eq.trans ?_ (gate_at (a0 m c) (a1 m c) (row t r) (slot t) s).symm
  exact sum_mul (fun k => blk0 m c t r k) fun k => blk1 m c t k s

theorem pointU (r : Fin 256) (s : Fin 1408) :
    k0_pay2 (b0 m c t) (b2 m c t) (ix2 r s) = up (a0 m c) (a1 m c) (ix2 (row t r) (column t s)) := by
  rw [pay2_at]
  refine Eq.trans ?_ (up_at (a0 m c) (a1 m c) (row t r) (slot t) s).symm
  exact sum_mul (fun k => blk0 m c t r k) fun k => blk2 m c t k s

theorem pointA (r : Fin 256) (s : Fin 1408) :
    k0_pay3 (b0 m c t) (b1 m c t) (b2 m c t) (ix2 r s) = valA (a0 m c) (a1 m c) (ix2 (row t r) (column t s)) := by
  refine (pay3_at _ _ _ _).trans (Eq.trans ?_ (valA_at _ _ _).symm)
  rw [pointG, pointU]

theorem place (w0 w1 y0 y1 : ℕ) (e0 : w0 = t.val % 8) (e1 : w1 = t.val / 8) :
    256 * (t.val % 8) + y0 = w0 * 256 + 1 * y0 ∧ 1408 * (t.val / 8) + y1 = w1 * 1408 + 1 * y1 := by
  subst e0 e1; constructor <;> omega

theorem outA : (dats m 0 c).arrAt 3 cfg0.N = valA (a0 m c) (a1 m c) := by
  refine (dats m 0 c).arrAt_eq_of_covers 3 _ (by decide +kernel) fun t hf y => ?_
  blk_simp
  rw [after0_3]
  unfold out0_3
  rw [View.canon_unit_zero zero2, View.ld_unit_zero zero2, View.ld_unit_zero zero3, View.ld_unit_zero zero3]
  refine (congrArg (k0_pay3 _ _ _) (eta2 (n0 := 256) (n1 := 1408) y)).trans ((pointA m c t _ _).trans (congrArg _ ?_))
  have e := (idx t).2.2.2.1
  have p := place t (win0_3.index t 0) (win0_3.index t 1) (y 0).val (y 1).val (by rw [e]; rfl) (by rw [e]; rfl)
  funext a; apply Fin.ext
  match a with
  | ⟨0, _⟩ => exact p.1
  | ⟨1, _⟩ => exact p.2

theorem outG : (dats m 0 c).arrAt 4 cfg0.N = valG (a0 m c) (a1 m c) := by
  refine (dats m 0 c).arrAt_eq_of_covers 4 _ (by decide +kernel) fun t hf y => ?_
  blk_simp
  rw [after0_4]
  unfold out0_4
  rw [View.canon_unit_zero zero2, View.ld_unit_zero zero2, View.ld_unit_zero zero3]
  refine (congrArg (k0_pay1 _ _) (eta2 (n0 := 256) (n1 := 1408) y)).trans ((pointG m c t _ _).trans (congrArg (gate (a0 m c) (a1 m c)) ?_))
  have e := (idx t).2.2.2.2.1
  have p := place t (win0_4.index t 0) (win0_4.index t 1) (y 0).val (y 1).val (by rw [e]; rfl) (by rw [e]; rfl)
  funext a; apply Fin.ext
  match a with
  | ⟨0, _⟩ => exact p.1
  | ⟨1, _⟩ => exact p.2

theorem outU : (dats m 0 c).arrAt 5 cfg0.N = valU (a0 m c) (a1 m c) := by
  refine (dats m 0 c).arrAt_eq_of_covers 5 _ (by decide +kernel) fun t hf y => ?_
  blk_simp
  rw [after0_5]
  unfold out0_5
  rw [View.canon_unit_zero zero2, View.ld_unit_zero zero2, View.ld_unit_zero zero3]
  refine (congrArg (k0_pay2 _ _) (eta2 (n0 := 256) (n1 := 1408) y)).trans ((pointU m c t _ _).trans (congrArg (up (a0 m c) (a1 m c)) ?_))
  have e := (idx t).2.2.2.2.2
  have p := place t (win0_5.index t 0) (win0_5.index t 1) (y 0).val (y 1).val (by rw [e]; rfl) (by rw [e]; rfl)
  funext a; apply Fin.ext
  match a with
  | ⟨0, _⟩ => exact p.1
  | ⟨1, _⟩ => exact p.2

end Cert.FfnUp

end
-- ==== Proof.DownFwd.lean ====
/-
  The channel mixer's last product with the residual, in the forward pass: its call over the extended reals, and the reference's term.
-/
module

public import proofs.«01_k».proof.Proof.Prod
public import Idealize.ShloMosaic.Lib.Pipeline.ReadBack
public import proofs.«01_k».proof.Proof.Gen.Kernel20Ideal.Frame
public import proofs.«01_k».proof.Proof.Gen.Reference20Ideal.Run

@[expose] public section

set_option maxRecDepth 16384

noncomputable section

namespace Cert.DownFwd

open Idealize.ShloMosaic Idealize.ShloMosaic.TcCoe Idealize.SL.Sem
open Cert.Prod

section Ref

open Cert.Reference20Ideal Cert.Reference20Ideal.Gen

/-- The product alone. -/
def prod (A : FVec Ideal S2048x5632 .bf16) (B : FVec Ideal S5632x2048 .bf16) : FVec Ideal S2048x2048 .f32 :=
  Host.dotGeneral dot_S2048x5632_S5632x2048_S2048x2048_1_0_0_1_n_n none (extf .f32 A bitsLt_bf16_f32) (extf .f32 B bitsLt_bf16_f32)

/-- The reference's two results as functions of its four arguments. -/
def valX (X : FVec Ideal S2048x2048 .f32) (G : FVec Ideal S1x2048 .f32) (A : FVec Ideal S2048x5632 .bf16) (B : FVec Ideal S5632x2048 .bf16) : FVec Ideal S2048x2048 .f32 :=
  addf X (mulf (broadcastInDim S2048x2048 ![0, 1] bcast_S1x2048_S2048x2048_0_1 G) (prod A B))

def valP (A : FVec Ideal S2048x5632 .bf16) (B : FVec Ideal S5632x2048 .bf16) : FVec Ideal S2048x2048 .bf16 :=
  truncf .bf16 (prod A B) bitsLt_bf16_f32

theorem prod_at (A : FVec Ideal S2048x5632 .bf16) (B : FVec Ideal S5632x2048 .bf16) (i j : Fin 2048) :
    prod A B (ix2 i j) = ∑ k : Fin 5632, A (ix2 i k) * B (ix2 k j) := by
  unfold prod
  pointwise []

theorem valX_at (X : FVec Ideal S2048x2048 .f32) (G : FVec Ideal S1x2048 .f32) (A : FVec Ideal S2048x5632 .bf16) (B : FVec Ideal S5632x2048 .bf16) (i j : Fin 2048) :
    (valX X G A B (ix2 i j) : EReal) = (X (ix2 i j) : EReal) + (G (ix2 0 j) : EReal) * prod A B (ix2 i j) := by
  unfold valX
  generalize prod A B = p
  pointwise []

end Ref

open Cert.Kernel20Ideal Cert.Kernel20Ideal.Gen

section Cases

variable {F : FTy → Type} [FloatOps F]
variable (m : (ℓ : Loc nD τ sig) → Buf (Elt F) ℓ) (c : Dev nD) (t : Fin cfg0.N)

/-- What the grid point before `t` left. -/
abbrev bef := outsAt0 m c (t.val - 1) (Nat.lt_of_le_of_lt (Nat.sub_le _ _) t.isLt)

theorem A_acc (h0 : t.val % 4 = 0) (h1 : ¬t.val % 4 = 3) :
    (outsAt0 m c t.val t.isLt).2.2 = k0_pay2 k0_pay1 (iblk m c 0 t) (iblk m c 1 t) := by
  rw [outsAt0_A m c t h0 h1]
  dsimp only
  unfold sout0_A_0
  refine (View.read_writes_eq_canon _ _ _ fun y => scover0_A_0 ..).trans ?_
  unfold kernelRun0_A; dsimp only; sl_unfold_words
  refine (View.canon_cons_unit_zero (S := S1024x512) zero2 _ _ _).trans ?_
  simp only [View.readAt_eq_ld, Memref.IsWhole.read_unread, read_unread_whole, View.ld_unit_zero (S := S1024x512) zero2, View.ld_unit_zero (S := S1024x1408) zero2, View.ld_unit_zero (S := S1408x512) zero2, View.ld_unit_zero (S := S1x512) zero2, View.readCov_unit_zero (S := S1024x512) _ zero2]

theorem B_acc (h0 : ¬t.val % 4 = 0) (h1 : ¬t.val % 4 = 3) :
    (outsAt0 m c t.val t.isLt).2.2 = k0_pay2 (bef m c t).2.2 (iblk m c 0 t) (iblk m c 1 t) := by
  rw [outsAt0_B m c t h0 h1]
  dsimp only
  unfold sout0_B_0
  refine (View.read_writes_eq_canon _ _ _ fun y => scover0_B_0 ..).trans ?_
  unfold kernelRun0_B; dsimp only; sl_unfold_words
  refine (View.canon_unit_zero (S := S1024x512) zero2 _ _).trans ?_
  simp only [View.readAt_eq_ld, Memref.IsWhole.read_unread, read_unread_whole, View.ld_unit_zero (S := S1024x512) zero2, View.ld_unit_zero (S := S1024x1408) zero2, View.ld_unit_zero (S := S1408x512) zero2, View.ld_unit_zero (S := S1x512) zero2]

theorem C_acc (h0 : ¬t.val % 4 = 0) (h1 : t.val % 4 = 3) :
    (outsAt0 m c t.val t.isLt).2.2 = k0_pay2 (bef m c t).2.2 (iblk m c 0 t) (iblk m c 1 t) := by
  rw [outsAt0_C m c t h0 h1]
  dsimp only
  unfold sout0_C_0
  refine (View.read_writes_eq_canon _ _ _ fun y => scover0_C_0 ..).trans ?_
  unfold kernelRun0_C; dsimp only; sl_unfold_words
  refine (View.canon_unit_zero (S := S1024x512) zero2 _ _).trans ?_
  simp only [View.readAt_eq_ld, Memref.IsWhole.read_unread, read_unread_whole, View.ld_unit_zero (S := S1024x512) zero2, View.ld_unit_zero (S := S1024x1408) zero2, View.ld_unit_zero (S := S1408x512) zero2, View.ld_unit_zero (S := S1x512) zero2]

theorem lastX (h0 : ¬t.val % 4 = 0) (h1 : t.val % 4 = 3) :
    (outsAt0 m c t.val t.isLt).1 = k0_pay3 (outsAt0 m c t.val t.isLt).2.2 (iblk m c 2 t) (iblk m c 3 t) := by
  rw [C_acc m c t h0 h1, outsAt0_C m c t h0 h1]
  dsimp only
  unfold out0_C_4
  refine (View.read_writes_eq_canon _ _ _ fun y => cover0_C_4 ..).trans ?_
  unfold kernelRun0_C; dsimp only; sl_unfold_words
  refine (View.canon_unit_zero (S := S1024x512) zero2 _ _).trans ?_
  simp only [View.readAt_eq_ld, Memref.IsWhole.read_unread, read_unread_whole, View.ld_unit_zero (S := S1024x512) zero2, View.ld_unit_zero (S := S1024x1408) zero2, View.ld_unit_zero (S := S1408x512) zero2, View.ld_unit_zero (S := S1x512) zero2, View.readCov_unit_zero (S := S1024x512) _ zero2]

theorem lastP (h0 : ¬t.val % 4 = 0) (h1 : t.val % 4 = 3) :
    (outsAt0 m c t.val t.isLt).2.1 = k0_pay4 (outsAt0 m c t.val t.isLt).2.2 := by
  rw [C_acc m c t h0 h1, outsAt0_C m c t h0 h1]
  dsimp only
  unfold out0_C_5
  refine (View.read_writes_eq_canon _ _ _ fun y => cover0_C_5 ..).trans ?_
  unfold kernelRun0_C; dsimp only; sl_unfold_words
  refine (View.canon_unit_zero (S := S1024x512) zero2 _ _).trans ?_
  simp only [View.readAt_eq_ld, Memref.IsWhole.read_unread, read_unread_whole, View.ld_unit_zero (S := S1024x512) zero2, View.ld_unit_zero (S := S1024x1408) zero2, View.ld_unit_zero (S := S1408x512) zero2, View.ld_unit_zero (S := S1x512) zero2, View.readCov_unit_zero (S := S1024x512) _ zero2]

theorem later (h0 : ¬t.val % 4 = 0) :
    (outsAt0 m c t.val t.isLt).2.2 = k0_pay2 (bef m c t).2.2 (iblk m c 0 t) (iblk m c 1 t) := by
  by_cases h1 : t.val % 4 = 3
  · exact C_acc m c t h0 h1
  · exact B_acc m c t h0 h1

end Cases

variable (m : (ℓ : Loc nD τ sig) → Buf (Elt Ideal) ℓ) (c : Dev nD)

abbrev a0 : FVec Ideal S2048x2048 .f32 := m ((c : Thread nD τ).loc main_arg0)
abbrev a1 : FVec Ideal S1x2048 .f32 := m ((c : Thread nD τ).loc main_arg1)
abbrev a2 : FVec Ideal S2048x5632 .bf16 := m ((c : Thread nD τ).loc main_arg2)
abbrev a3 : FVec Ideal S5632x2048 .bf16 := m ((c : Thread nD τ).loc main_arg3)

theorem pay1_at (y : S1024x512.Idx) : (k0_pay1 (F := Ideal) y : EReal) = 0 := by
  idx_vars y
  unfold k0_pay1
  pointwise []

theorem pay2_at (x : Vec Ideal S1024x512 .f32) (a : Vec Ideal S1024x1408 .bf16) (b : Vec Ideal S1408x512 .bf16) (r : Fin 1024) (s : Fin 512) :
    k0_pay2 x a b (ix2 r s) = x (ix2 r s) + ∑ k : Fin 1408, a (ix2 r k) * b (ix2 k s) := by
  unfold k0_pay2
  pointwise []

theorem pay3_at (p x : Vec Ideal S1024x512 .f32) (g : Vec Ideal S1x512 .f32) (r : Fin 1024) (s : Fin 512) :
    (k0_pay3 p x g (ix2 r s) : EReal) = (x (ix2 r s) : EReal) + (g (ix2 0 s) : EReal) * p (ix2 r s) := by
  unfold k0_pay3
  pointwise []

theorem idx : ∀ t : Fin cfg0.N, win0_0.index t = ![t.val / 16, t.val % 4]
    ∧ win0_1.index t = ![t.val % 4, t.val / 4 % 4]
    ∧ win0_2.index t = ![t.val / 16, t.val / 4 % 4]
    ∧ win0_3.index t = ![0, t.val / 4 % 4]
    ∧ win0_4.index t = ![t.val / 16, t.val / 4 % 4]
    ∧ win0_5.index t = ![t.val / 16, t.val / 4 % 4] := by
  decide +kernel

/-- A number as an index. -/
abbrev f (n : ℕ) : Fin 2048 := ⟨n % 2048, by omega⟩
abbrev fk (n : ℕ) : Fin 5632 := ⟨n % 5632, by omega⟩

/-- Block `b`'s share of entry `i0`, `i1` of the product. -/
def part (i0 i1 b : ℕ) : EReal := ∑ k : Fin 1408, a2 m c (ix2 (f i0) (fk (1408 * b + k.val))) * a3 m c (ix2 (fk (1408 * b + k.val)) (f i1))

variable (t : Fin cfg0.N)

theorem lt : t.val < 32 := t.isLt

theorem blk0 (r : Fin 1024) (k : Fin 1408) :
    iblk m c 0 t (ix2 r k) = a2 m c (ix2 (f (1024 * (t.val / 16) + r.val)) (fk (1408 * (t.val % 4) + k.val))) := by
  have h := lt t
  have e0 : f (1024 * (t.val / 16) + r.val) = ⟨1024 * (t.val / 16) + r.val, by omega⟩ := Fin.ext (Nat.mod_eq_of_lt (by omega))
  have e1 : fk (1408 * (t.val % 4) + k.val) = ⟨1408 * (t.val % 4) + k.val, by omega⟩ := Fin.ext (Nat.mod_eq_of_lt (by omega))
  rw [e0, e1]
  blk_ext [iblk, V, (idx t).1]

theorem blk1 (k : Fin 1408) (s : Fin 512) :
    iblk m c 1 t (ix2 k s) = a3 m c (ix2 (fk (1408 * (t.val % 4) + k.val)) (f (512 * (t.val / 4 % 4) + s.val))) := by
  have e0 : f (512 * (t.val / 4 % 4) + s.val) = ⟨512 * (t.val / 4 % 4) + s.val, by omega⟩ := Fin.ext (Nat.mod_eq_of_lt (by omega))
  have e1 : fk (1408 * (t.val % 4) + k.val) = ⟨1408 * (t.val % 4) + k.val, by omega⟩ := Fin.ext (Nat.mod_eq_of_lt (by omega))
  rw [e0, e1]
  blk_ext [iblk, V, (idx t).2.1]

abbrev row (r : Fin 1024) : Fin 2048 := ⟨1024 * (t.val / 16) + r.val, by have := lt t; omega⟩
abbrev column (s : Fin 512) : Fin 2048 := ⟨512 * (t.val / 4 % 4) + s.val, by omega⟩

theorem blk2 (r : Fin 1024) (s : Fin 512) : iblk m c 2 t (ix2 r s) = a0 m c (ix2 (row t r) (column t s)) := by
  unfold row column
  blk_ext [iblk, V, (idx t).2.2.1]

theorem blk3 (s : Fin 512) : iblk m c 3 t (ix2 0 s) = a1 m c (ix2 0 (column t s)) := by
  unfold column
  blk_ext [iblk, V, (idx t).2.2.2.1]

theorem step (x : Vec Ideal S1024x512 .f32) (r : Fin 1024) (s : Fin 512) :
    k0_pay2 x (iblk m c 0 t : Vec Ideal S1024x1408 .bf16) (iblk m c 1 t : Vec Ideal S1408x512 .bf16) (ix2 r s)
      = x (ix2 r s) + part m c (1024 * (t.val / 16) + r.val) (512 * (t.val / 4 % 4) + s.val) (t.val % 4) :=
  (pay2_at _ _ _ _ _).trans (congrArg (fun z : EReal => (x (ix2 r s) : EReal) + z) (sum_mul (fun k => blk0 m c t r k) fun k => blk1 m c t k s))

/-- The accumulator after a grid point: the shares of the blocks so far. -/
theorem acc_at (r : Fin 1024) (s : Fin 512) : ∀ (n : ℕ) (h : n < cfg0.N), ((outsAt0 m c n h).2.2 (ix2 r s) : EReal)
    = ∑ b ∈ Finset.range (n % 4 + 1), part m c (1024 * (n / 16) + r.val) (512 * (n / 4 % 4) + s.val) b := by
  intro n
  induction n with
  | zero =>
    intro h
    have e := A_acc m c ⟨0, h⟩ (Nat.zero_mod _) (by show ¬ 0 % 4 = 3; omega)
    refine (congrFun e _).trans ((step m c ⟨0, h⟩ _ r s).trans ?_)
    rw [pay1_at, zero_add]
    simp
  | succ n ih =>
    intro h
    by_cases h0 : (n + 1) % 4 = 0
    · have e := A_acc m c ⟨n + 1, h⟩ h0 (by show ¬ (n + 1) % 4 = 3; omega)
      refine (congrFun e _).trans ((step m c ⟨n + 1, h⟩ _ r s).trans ?_)
      rw [pay1_at, zero_add]
      show part m c _ _ ((n + 1) % 4) = _
      rw [h0, zero_add, Finset.sum_range_one]
    · have e := later m c ⟨n + 1, h⟩ h0
      refine (congrFun e _).trans ((step m c ⟨n + 1, h⟩ _ r s).trans ?_)
      have e1 : (n + 1) % 4 = n % 4 + 1 := by omega
      have e2 : (n + 1) / 4 = n / 4 := by omega
      have e3 : (n + 1) / 16 = n / 16 := by omega
      have e4 := ih (Nat.lt_of_succ_lt h)
      show ((outsAt0 m c n (Nat.lt_of_succ_lt h)).2.2 (ix2 r s) : EReal)
        + part m c (1024 * ((n + 1) / 16) + r.val) (512 * ((n + 1) / 4 % 4) + s.val) ((n + 1) % 4) = _
      rw [e4, e1, e2, e3, Finset.sum_range_succ _ (n % 4 + 1)]

theorem whole (i0 i1 : Fin 2048) : ∑ b ∈ Finset.range 4, part m c i0.val i1.val b = prod (a2 m c) (a3 m c) (ix2 i0 i1) := by
  have e0 : f i0.val = i0 := Fin.ext (Nat.mod_eq_of_lt i0.isLt)
  have e1 : f i1.val = i1 := Fin.ext (Nat.mod_eq_of_lt i1.isLt)
  rw [prod_at, sum_parts (n := 4) (w := 1408) (by norm_num), Finset.sum_range]
  refine Finset.sum_congr rfl fun b _ => Finset.sum_congr rfl fun k _ => ?_
  have hb := b.isLt
  have hk := k.isLt
  rw [e0, e1]
  have e2 : fk (1408 * b.val + k.val) = ⟨1408 * b.val + k.val, by omega⟩ := Fin.ext (Nat.mod_eq_of_lt (by omega))
  rw [e2]

theorem acc_last (h1 : t.val % 4 = 3) (r : Fin 1024) (s : Fin 512) :
    ((outsAt0 m c t.val t.isLt).2.2 (ix2 r s) : EReal) = prod (a2 m c) (a3 m c) (ix2 (row t r) (column t s)) := by
  refine (acc_at m c r s t.val t.isLt).trans ?_
  rw [h1]
  exact whole m c (row t r) (column t s)

theorem pointX (h1 : t.val % 4 = 3) (r : Fin 1024) (s : Fin 512) :
    (outsAt0 m c t.val t.isLt).1 (ix2 r s) = valX (a0 m c) (a1 m c) (a2 m c) (a3 m c) (ix2 (row t r) (column t s)) := by
  refine (congrFun (lastX m c t (by omega) h1) _).trans ((pay3_at _ _ _ _ _).trans (Eq.trans ?_ (valX_at _ _ _ _ _ _).symm))
  rw [acc_last m c t h1, blk2, blk3]

theorem pointP (h1 : t.val % 4 = 3) (r : Fin 1024) (s : Fin 512) :
    (outsAt0 m c t.val t.isLt).2.1 (ix2 r s) = valP (a2 m c) (a3 m c) (ix2 (row t r) (column t s)) :=
  (congrFun (lastP m c t (by omega) h1) _).trans (acc_last m c t h1 r s)

theorem place (w0 w1 y0 y1 : ℕ) (e0 : w0 = t.val / 16) (e1 : w1 = t.val / 4 % 4) :
    1024 * (t.val / 16) + y0 = w0 * 1024 + 1 * y0 ∧ 512 * (t.val / 4 % 4) + y1 = w1 * 512 + 1 * y1 := by
  subst e0 e1; constructor <;> omega

theorem outX : (dats m 0 c).arrAt 4 cfg0.N = valX (a0 m c) (a1 m c) (a2 m c) (a3 m c) := by
  refine (dats m 0 c).arrAt_eq_of_covers 4 _ (by decide +kernel) fun t hf y => ?_
  blk_simp
  rw [after0_4]
  refine (congrArg (outsAt0 m c t.val t.isLt).1 (eta2 (n0 := 1024) (n1 := 512) y)).trans
    ((pointX m c t ((flush0_4 t).mp hf) _ _).trans (congrArg _ ?_))
  have e := (idx t).2.2.2.2.1
  have p := place t (win0_4.index t 0) (win0_4.index t 1) (y 0).val (y 1).val (by rw [e]; rfl) (by rw [e]; rfl)
  funext a; apply Fin.ext
  match a with
  | ⟨0, _⟩ => exact p.1
  | ⟨1, _⟩ => exact p.2

theorem outP : (dats m 0 c).arrAt 5 cfg0.N = valP (a2 m c) (a3 m c) := by
  refine (dats m 0 c).arrAt_eq_of_covers 5 _ (by decide +kernel) fun t hf y => ?_
  blk_simp
  rw [after0_5]
  refine (congrArg (outsAt0 m c t.val t.isLt).2.1 (eta2 (n0 := 1024) (n1 := 512) y)).trans
    ((pointP m c t ((flush0_5 t).mp hf) _ _).trans (congrArg _ ?_))
  have e := (idx t).2.2.2.2.2
  have p := place t (win0_5.index t 0) (win0_5.index t 1) (y 0).val (y 1).val (by rw [e]; rfl) (by rw [e]; rfl)
  funext a; apply Fin.ext
  match a with
  | ⟨0, _⟩ => exact p.1
  | ⟨1, _⟩ => exact p.2

end Cert.DownFwd

end
-- ==== Proof.ProdClaims.lean ====
/-
  The claims about the calls of products: for each, that it and its reference run to the end, leave their arguments alone
  and give the same results.
-/
module

public import proofs.«01_k».proof.Defs
public import proofs.«01_k».proof.Proof.AttnPre
public import proofs.«01_k».proof.Proof.Gen.Pre_finite2
public import proofs.«01_k».proof.Proof.Swiglu
public import proofs.«01_k».proof.Proof.Gen.Kernel2.Frame
public import proofs.«01_k».proof.Proof.FfnDa
public import proofs.«01_k».proof.Proof.Gen.Kernel3.Frame
public import proofs.«01_k».proof.Proof.FfnDw
public import proofs.«01_k».proof.Proof.Gen.Kernel4.Frame
public import proofs.«01_k».proof.Proof.DownDa
public import proofs.«01_k».proof.Proof.Gen.Kernel5.Frame
public import proofs.«01_k».proof.Proof.DownDw
public import proofs.«01_k».proof.Proof.Gen.Kernel6.Frame
public import proofs.«01_k».proof.Proof.GatesDa
public import proofs.«01_k».proof.Proof.Gen.Kernel7.Frame
public import proofs.«01_k».proof.Proof.GatesDw
public import proofs.«01_k».proof.Proof.Gen.Kernel8.Frame
public import proofs.«01_k».proof.Proof.QkvDa
public import proofs.«01_k».proof.Proof.Gen.Kernel9.Frame
public import proofs.«01_k».proof.Proof.QkvDw
public import proofs.«01_k».proof.Proof.Gen.Kernel10.Frame
public import proofs.«01_k».proof.Proof.OutDa
public import proofs.«01_k».proof.Proof.Gen.Kernel11.Frame
public import proofs.«01_k».proof.Proof.OutDw
public import proofs.«01_k».proof.Proof.Gen.Kernel12.Frame
public import proofs.«01_k».proof.Proof.BranchDa
public import proofs.«01_k».proof.Proof.Gen.Kernel13.Frame
public import proofs.«01_k».proof.Proof.BranchDw
public import proofs.«01_k».proof.Proof.Gen.Kernel14.Frame
public import proofs.«01_k».proof.Proof.ZDa
public import proofs.«01_k».proof.Proof.Gen.Kernel15.Frame
public import proofs.«01_k».proof.Proof.ZDw
public import proofs.«01_k».proof.Proof.Gen.Kernel16.Frame
public import proofs.«01_k».proof.Proof.LatentDa
public import proofs.«01_k».proof.Proof.Gen.Kernel17.Frame
public import proofs.«01_k».proof.Proof.LatentDw
public import proofs.«01_k».proof.Proof.Gen.Kernel18.Frame
public import proofs.«01_k».proof.Proof.FfnUp
public import proofs.«01_k».proof.Proof.Gen.Kernel19.Frame
public import proofs.«01_k».proof.Proof.DownFwd
public import proofs.«01_k».proof.Proof.Gen.Kernel20.Frame

@[expose] public section

set_option maxRecDepth 16384

noncomputable section

namespace Cert.ProdClaims

open Idealize.ShloMosaic Idealize.ShloMosaic.TcCoe Idealize.SL.Sem
open Cert.Prod

theorem congr3 {α₀ α₁ α₂ β : Type} (f : α₀ → α₁ → α₂ → β) {x0 y0 x1 y1 x2 y2} (h0 : x0 = y0) (h1 : x1 = y1) (h2 : x2 = y2) :
    f x0 x1 x2 = f y0 y1 y2 := by
  subst h0 h1 h2; rfl

theorem congr4 {α₀ α₁ α₂ α₃ β : Type} (f : α₀ → α₁ → α₂ → α₃ → β) {x0 y0 x1 y1 x2 y2 x3 y3} (h0 : x0 = y0) (h1 : x1 = y1) (h2 : x2 = y2)
    (h3 : x3 = y3) : f x0 x1 x2 x3 = f y0 y1 y2 y3 := by
  subst h0 h1 h2 h3; rfl

namespace P2

theorem frame_kernel : quiescent_Kernel2 := fun m ρ _ => Kernel2.Gen.frame m ρ

theorem frame_ideal : quiescent_Kernel2Ideal := fun m ρ _ => Kernel2Ideal.Gen.frame m ρ

theorem frame_ref : quiescent_Reference2Ideal := fun m ρ _ =>
  (θ_run Reference2Ideal.defs _ _).mono (fun r h => ⟨fun c => (h c).2, sem_eq_zero_of_no_sems (by decide) r.2⟩)
    (Reference2Ideal.Value.run (F := Ideal) m ρ)

theorem preserves : preserves_Kernel2_Kernel2Ideal := trivial

theorem frame_ideal_pre : quiescent_Kernel2Ideal_pre_finite2 := fun m ρ _ => Kernel2Ideal.Gen.frame m ρ

theorem frame_ref_pre : quiescent_Reference2Ideal_pre_finite2 := fun m ρ _ => frame_ref m ρ trivial

theorem reals (m : (ℓ : Loc Kernel2Ideal.nD Kernel2Ideal.τ Kernel2Ideal.sig) → Buf (Elt Ideal) ℓ)
    (h : Pre_Kernel2Ideal_finite2 m) (c : Dev Kernel2Ideal.nD) : Cert.Swiglu.Reals m c := by
  have hc := congrFun (h c) (fun k => k.elim0)
  unfold Cert.Pre_finite2.fn at hc
  dsimp only at hc
  obtain ⟨hc, h2⟩ := Cert.AttnPre.and_ones hc
  obtain ⟨h0, h1⟩ := Cert.AttnPre.and_ones hc
  exact ⟨Cert.AttnPre.real_of _ _ _ _ _ _ h0, Cert.AttnPre.real_of _ _ _ _ _ _ h1, Cert.AttnPre.real_of _ _ _ _ _ _ h2⟩

theorem algebraic : algebraic_Kernel2Ideal_Reference2Ideal_pre_finite2 := by
  intro m ρ m' ρ' hpre hagree
  refine ⟨fun c => Cert.Swiglu.val (Cert.Swiglu.a0 m c) (Cert.Swiglu.a1 m c) (Cert.Swiglu.a2 m c), ?_, ?_⟩
  · exact (θ_run Kernel2Ideal.defs _ _).mono (fun r h c => ⟨((h.1 c).1 3).trans (Cert.Swiglu.out (reals m hpre c)), h.2 c⟩)
      (θ_run_and (Kernel2Ideal.Gen.run_main (F := Ideal) m ρ) (Kernel2Ideal.Gen.unchanged (F := Ideal) m ρ))
  · exact (θ_run Reference2Ideal.defs _ _).mono
      (fun r h c => ⟨(h c).1.trans (congr3 Cert.Swiglu.val (hagree c).1 (hagree c).2.1 (hagree c).2.2), (h c).2⟩)
      (Reference2Ideal.Value.run (F := Ideal) m' ρ')

end P2

namespace P3

theorem frame_kernel : quiescent_Kernel3 := fun m ρ _ => Kernel3.Gen.frame m ρ

theorem frame_ideal : quiescent_Kernel3Ideal := fun m ρ _ => Kernel3Ideal.Gen.frame m ρ

theorem frame_ref : quiescent_Reference3Ideal := fun m ρ _ =>
  (θ_run Reference3Ideal.defs _ _).mono (fun r h => ⟨fun c => (h c).2, sem_eq_zero_of_no_sems (by decide) r.2⟩)
    (Reference3Ideal.Value.run (F := Ideal) m ρ)

theorem preserves : preserves_Kernel3_Kernel3Ideal := trivial

theorem algebraic : algebraic_Kernel3Ideal_Reference3Ideal := by
  intro m ρ m' ρ' _ hagree
  refine ⟨fun c => Cert.FfnDa.val (Cert.FfnDa.a0 m c) (Cert.FfnDa.a1 m c), ?_, ?_⟩
  · exact (θ_run Kernel3Ideal.defs _ _).mono (fun r h c => ⟨((h.1 c).1 2).trans (Cert.FfnDa.out m c), h.2 c⟩)
      (θ_run_and (Kernel3Ideal.Gen.run_main (F := Ideal) m ρ) (Kernel3Ideal.Gen.unchanged (F := Ideal) m ρ))
  · exact (θ_run Reference3Ideal.defs _ _).mono
      (fun r h c => ⟨(h c).1.trans (congr2 Cert.FfnDa.val (hagree c).1 (hagree c).2), (h c).2⟩)
      (Reference3Ideal.Value.run (F := Ideal) m' ρ')

end P3

namespace P4

theorem frame_kernel : quiescent_Kernel4 := fun m ρ _ => Kernel4.Gen.frame m ρ

theorem frame_ideal : quiescent_Kernel4Ideal := fun m ρ _ => Kernel4Ideal.Gen.frame m ρ

theorem frame_ref : quiescent_Reference4Ideal := fun m ρ _ =>
  (θ_run Reference4Ideal.defs _ _).mono (fun r h => ⟨fun c => (h c).2, sem_eq_zero_of_no_sems (by decide) r.2⟩)
    (Reference4Ideal.Value.run (F := Ideal) m ρ)

theorem preserves : preserves_Kernel4_Kernel4Ideal := trivial

theorem algebraic : algebraic_Kernel4Ideal_Reference4Ideal := by
  intro m ρ m' ρ' _ hagree
  refine ⟨fun c => Cert.FfnDw.val (Cert.FfnDw.a0 m c) (Cert.FfnDw.a1 m c), ?_, ?_⟩
  · exact (θ_run Kernel4Ideal.defs _ _).mono (fun r h c => ⟨((h.1 c).1 2).trans (Cert.FfnDw.out m c), h.2 c⟩)
      (θ_run_and (Kernel4Ideal.Gen.run_main (F := Ideal) m ρ) (Kernel4Ideal.Gen.unchanged (F := Ideal) m ρ))
  · exact (θ_run Reference4Ideal.defs _ _).mono
      (fun r h c => ⟨(h c).1.trans (congr2 Cert.FfnDw.val (hagree c).1 (hagree c).2), (h c).2⟩)
      (Reference4Ideal.Value.run (F := Ideal) m' ρ')

end P4

namespace P5

theorem frame_kernel : quiescent_Kernel5 := fun m ρ _ => Kernel5.Gen.frame m ρ

theorem frame_ideal : quiescent_Kernel5Ideal := fun m ρ _ => Kernel5Ideal.Gen.frame m ρ

theorem frame_ref : quiescent_Reference5Ideal := fun m ρ _ =>
  (θ_run Reference5Ideal.defs _ _).mono (fun r h => ⟨fun c => (h c).2, sem_eq_zero_of_no_sems (by decide) r.2⟩)
    (Reference5Ideal.Value.run (F := Ideal) m ρ)

theorem preserves : preserves_Kernel5_Kernel5Ideal := trivial

theorem algebraic : algebraic_Kernel5Ideal_Reference5Ideal := by
  intro m ρ m' ρ' _ hagree
  refine ⟨fun c => Cert.DownDa.val (Cert.DownDa.a0 m c) (Cert.DownDa.a1 m c), ?_, ?_⟩
  · exact (θ_run Kernel5Ideal.defs _ _).mono (fun r h c => ⟨((h.1 c).1 2).trans (Cert.DownDa.out m c), h.2 c⟩)
      (θ_run_and (Kernel5Ideal.Gen.run_main (F := Ideal) m ρ) (Kernel5Ideal.Gen.unchanged (F := Ideal) m ρ))
  · exact (θ_run Reference5Ideal.defs _ _).mono
      (fun r h c => ⟨(h c).1.trans (congr2 Cert.DownDa.val (hagree c).1 (hagree c).2), (h c).2⟩)
      (Reference5Ideal.Value.run (F := Ideal) m' ρ')

end P5

namespace P6

theorem frame_kernel : quiescent_Kernel6 := fun m ρ _ => Kernel6.Gen.frame m ρ

theorem frame_ideal : quiescent_Kernel6Ideal := fun m ρ _ => Kernel6Ideal.Gen.frame m ρ

theorem frame_ref : quiescent_Reference6Ideal := fun m ρ _ =>
  (θ_run Reference6Ideal.defs _ _).mono (fun r h => ⟨fun c => (h c).2, sem_eq_zero_of_no_sems (by decide) r.2⟩)
    (Reference6Ideal.Value.run (F := Ideal) m ρ)

theorem preserves : preserves_Kernel6_Kernel6Ideal := trivial

theorem algebraic : algebraic_Kernel6Ideal_Reference6Ideal := by
  intro m ρ m' ρ' _ hagree
  refine ⟨fun c => Cert.DownDw.val (Cert.DownDw.a0 m c) (Cert.DownDw.a1 m c), ?_, ?_⟩
  · exact (θ_run Kernel6Ideal.defs _ _).mono (fun r h c => ⟨((h.1 c).1 2).trans (Cert.DownDw.out m c), h.2 c⟩)
      (θ_run_and (Kernel6Ideal.Gen.run_main (F := Ideal) m ρ) (Kernel6Ideal.Gen.unchanged (F := Ideal) m ρ))
  · exact (θ_run Reference6Ideal.defs _ _).mono
      (fun r h c => ⟨(h c).1.trans (congr2 Cert.DownDw.val (hagree c).1 (hagree c).2), (h c).2⟩)
      (Reference6Ideal.Value.run (F := Ideal) m' ρ')

end P6

namespace P7

theorem frame_kernel : quiescent_Kernel7 := fun m ρ _ => Kernel7.Gen.frame m ρ

theorem frame_ideal : quiescent_Kernel7Ideal := fun m ρ _ => Kernel7Ideal.Gen.frame m ρ

theorem frame_ref : quiescent_Reference7Ideal := fun m ρ _ =>
  (θ_run Reference7Ideal.defs _ _).mono (fun r h => ⟨fun c => (h c).2, sem_eq_zero_of_no_sems (by decide) r.2⟩)
    (Reference7Ideal.Value.run (F := Ideal) m ρ)

theorem preserves : preserves_Kernel7_Kernel7Ideal := trivial

theorem algebraic : algebraic_Kernel7Ideal_Reference7Ideal := by
  intro m ρ m' ρ' _ hagree
  refine ⟨fun c => Cert.GatesDa.val (Cert.GatesDa.a0 m c) (Cert.GatesDa.a1 m c), ?_, ?_⟩
  · exact (θ_run Kernel7Ideal.defs _ _).mono (fun r h c => ⟨((h.1 c).1 2).trans (Cert.GatesDa.out m c), h.2 c⟩)
      (θ_run_and (Kernel7Ideal.Gen.run_main (F := Ideal) m ρ) (Kernel7Ideal.Gen.unchanged (F := Ideal) m ρ))
  · exact (θ_run Reference7Ideal.defs _ _).mono
      (fun r h c => ⟨(h c).1.trans (congr2 Cert.GatesDa.val (hagree c).1 (hagree c).2), (h c).2⟩)
      (Reference7Ideal.Value.run (F := Ideal) m' ρ')

end P7

namespace P8

theorem frame_kernel : quiescent_Kernel8 := fun m ρ _ => Kernel8.Gen.frame m ρ

theorem frame_ideal : quiescent_Kernel8Ideal := fun m ρ _ => Kernel8Ideal.Gen.frame m ρ

theorem frame_ref : quiescent_Reference8Ideal := fun m ρ _ =>
  (θ_run Reference8Ideal.defs _ _).mono (fun r h => ⟨fun c => (h c).2, sem_eq_zero_of_no_sems (by decide) r.2⟩)
    (Reference8Ideal.Value.run (F := Ideal) m ρ)

theorem preserves : preserves_Kernel8_Kernel8Ideal := trivial

theorem algebraic : algebraic_Kernel8Ideal_Reference8Ideal := by
  intro m ρ m' ρ' _ hagree
  refine ⟨fun c => Cert.GatesDw.val (Cert.GatesDw.a0 m c) (Cert.GatesDw.a1 m c), ?_, ?_⟩
  · exact (θ_run Kernel8Ideal.defs _ _).mono (fun r h c => ⟨((h.1 c).1 2).trans (Cert.GatesDw.out m c), h.2 c⟩)
      (θ_run_and (Kernel8Ideal.Gen.run_main (F := Ideal) m ρ) (Kernel8Ideal.Gen.unchanged (F := Ideal) m ρ))
  · exact (θ_run Reference8Ideal.defs _ _).mono
      (fun r h c => ⟨(h c).1.trans (congr2 Cert.GatesDw.val (hagree c).1 (hagree c).2), (h c).2⟩)
      (Reference8Ideal.Value.run (F := Ideal) m' ρ')

end P8

namespace P9

theorem frame_kernel : quiescent_Kernel9 := fun m ρ _ => Kernel9.Gen.frame m ρ

theorem frame_ideal : quiescent_Kernel9Ideal := fun m ρ _ => Kernel9Ideal.Gen.frame m ρ

theorem frame_ref : quiescent_Reference9Ideal := fun m ρ _ =>
  (θ_run Reference9Ideal.defs _ _).mono (fun r h => ⟨fun c => (h c).2, sem_eq_zero_of_no_sems (by decide) r.2⟩)
    (Reference9Ideal.Value.run (F := Ideal) m ρ)

theorem preserves : preserves_Kernel9_Kernel9Ideal := trivial

theorem algebraic : algebraic_Kernel9Ideal_Reference9Ideal := by
  intro m ρ m' ρ' _ hagree
  refine ⟨fun c => Cert.QkvDa.val (Cert.QkvDa.a0 m c) (Cert.QkvDa.a1 m c), ?_, ?_⟩
  · exact (θ_run Kernel9Ideal.defs _ _).mono (fun r h c => ⟨((h.1 c).1 2).trans (Cert.QkvDa.out m c), h.2 c⟩)
      (θ_run_and (Kernel9Ideal.Gen.run_main (F := Ideal) m ρ) (Kernel9Ideal.Gen.unchanged (F := Ideal) m ρ))
  · exact (θ_run Reference9Ideal.defs _ _).mono
      (fun r h c => ⟨(h c).1.trans (congr2 Cert.QkvDa.val (hagree c).1 (hagree c).2), (h c).2⟩)
      (Reference9Ideal.Value.run (F := Ideal) m' ρ')

end P9

namespace P10

theorem frame_kernel : quiescent_Kernel10 := fun m ρ _ => Kernel10.Gen.frame m ρ

theorem frame_ideal : quiescent_Kernel10Ideal := fun m ρ _ => Kernel10Ideal.Gen.frame m ρ

theorem frame_ref : quiescent_Reference10Ideal := fun m ρ _ =>
  (θ_run Reference10Ideal.defs _ _).mono (fun r h => ⟨fun c => (h c).2, sem_eq_zero_of_no_sems (by decide) r.2⟩)
    (Reference10Ideal.Value.run (F := Ideal) m ρ)

theorem preserves : preserves_Kernel10_Kernel10Ideal := trivial

theorem algebraic : algebraic_Kernel10Ideal_Reference10Ideal := by
  intro m ρ m' ρ' _ hagree
  refine ⟨fun c => Cert.QkvDw.val (Cert.QkvDw.a0 m c) (Cert.QkvDw.a1 m c), ?_, ?_⟩
  · exact (θ_run Kernel10Ideal.defs _ _).mono (fun r h c => ⟨((h.1 c).1 2).trans (Cert.QkvDw.out m c), h.2 c⟩)
      (θ_run_and (Kernel10Ideal.Gen.run_main (F := Ideal) m ρ) (Kernel10Ideal.Gen.unchanged (F := Ideal) m ρ))
  · exact (θ_run Reference10Ideal.defs _ _).mono
      (fun r h c => ⟨(h c).1.trans (congr2 Cert.QkvDw.val (hagree c).1 (hagree c).2), (h c).2⟩)
      (Reference10Ideal.Value.run (F := Ideal) m' ρ')

end P10

namespace P11

theorem frame_kernel : quiescent_Kernel11 := fun m ρ _ => Kernel11.Gen.frame m ρ

theorem frame_ideal : quiescent_Kernel11Ideal := fun m ρ _ => Kernel11Ideal.Gen.frame m ρ

theorem frame_ref : quiescent_Reference11Ideal := fun m ρ _ =>
  (θ_run Reference11Ideal.defs _ _).mono (fun r h => ⟨fun c => (h c).2, sem_eq_zero_of_no_sems (by decide) r.2⟩)
    (Reference11Ideal.Value.run (F := Ideal) m ρ)

theorem preserves : preserves_Kernel11_Kernel11Ideal := trivial

theorem algebraic : algebraic_Kernel11Ideal_Reference11Ideal := by
  intro m ρ m' ρ' _ hagree
  refine ⟨fun c => Cert.OutDa.val (Cert.OutDa.a0 m c) (Cert.OutDa.a1 m c), ?_, ?_⟩
  · exact (θ_run Kernel11Ideal.defs _ _).mono (fun r h c => ⟨((h.1 c).1 2).trans (Cert.OutDa.out m c), h.2 c⟩)
      (θ_run_and (Kernel11Ideal.Gen.run_main (F := Ideal) m ρ) (Kernel11Ideal.Gen.unchanged (F := Ideal) m ρ))
  · exact (θ_run Reference11Ideal.defs _ _).mono
      (fun r h c => ⟨(h c).1.trans (congr2 Cert.OutDa.val (hagree c).1 (hagree c).2), (h c).2⟩)
      (Reference11Ideal.Value.run (F := Ideal) m' ρ')

end P11

namespace P12

theorem frame_kernel : quiescent_Kernel12 := fun m ρ _ => Kernel12.Gen.frame m ρ

theorem frame_ideal : quiescent_Kernel12Ideal := fun m ρ _ => Kernel12Ideal.Gen.frame m ρ

theorem frame_ref : quiescent_Reference12Ideal := fun m ρ _ =>
  (θ_run Reference12Ideal.defs _ _).mono (fun r h => ⟨fun c => (h c).2, sem_eq_zero_of_no_sems (by decide) r.2⟩)
    (Reference12Ideal.Value.run (F := Ideal) m ρ)

theorem preserves : preserves_Kernel12_Kernel12Ideal := trivial

theorem algebraic : algebraic_Kernel12Ideal_Reference12Ideal := by
  intro m ρ m' ρ' _ hagree
  refine ⟨fun c => Cert.OutDw.val (Cert.OutDw.a0 m c) (Cert.OutDw.a1 m c), ?_, ?_⟩
  · exact (θ_run Kernel12Ideal.defs _ _).mono (fun r h c => ⟨((h.1 c).1 2).trans (Cert.OutDw.out m c), h.2 c⟩)
      (θ_run_and (Kernel12Ideal.Gen.run_main (F := Ideal) m ρ) (Kernel12Ideal.Gen.unchanged (F := Ideal) m ρ))
  · exact (θ_run Reference12Ideal.defs _ _).mono
      (fun r h c => ⟨(h c).1.trans (congr2 Cert.OutDw.val (hagree c).1 (hagree c).2), (h c).2⟩)
      (Reference12Ideal.Value.run (F := Ideal) m' ρ')

end P12

namespace P13

theorem frame_kernel : quiescent_Kernel13 := fun m ρ _ => Kernel13.Gen.frame m ρ

theorem frame_ideal : quiescent_Kernel13Ideal := fun m ρ _ => Kernel13Ideal.Gen.frame m ρ

theorem frame_ref : quiescent_Reference13Ideal := fun m ρ _ =>
  (θ_run Reference13Ideal.defs _ _).mono (fun r h => ⟨fun c => (h c).2, sem_eq_zero_of_no_sems (by decide) r.2⟩)
    (Reference13Ideal.Value.run (F := Ideal) m ρ)

theorem preserves : preserves_Kernel13_Kernel13Ideal := trivial

theorem algebraic : algebraic_Kernel13Ideal_Reference13Ideal := by
  intro m ρ m' ρ' _ hagree
  refine ⟨fun c => Cert.BranchDa.val (Cert.BranchDa.a0 m c) (Cert.BranchDa.a1 m c), ?_, ?_⟩
  · exact (θ_run Kernel13Ideal.defs _ _).mono (fun r h c => ⟨((h.1 c).1 2).trans (Cert.BranchDa.out m c), h.2 c⟩)
      (θ_run_and (Kernel13Ideal.Gen.run_main (F := Ideal) m ρ) (Kernel13Ideal.Gen.unchanged (F := Ideal) m ρ))
  · exact (θ_run Reference13Ideal.defs _ _).mono
      (fun r h c => ⟨(h c).1.trans (congr2 Cert.BranchDa.val (hagree c).1 (hagree c).2), (h c).2⟩)
      (Reference13Ideal.Value.run (F := Ideal) m' ρ')

end P13

namespace P14

theorem frame_kernel : quiescent_Kernel14 := fun m ρ _ => Kernel14.Gen.frame m ρ

theorem frame_ideal : quiescent_Kernel14Ideal := fun m ρ _ => Kernel14Ideal.Gen.frame m ρ

theorem frame_ref : quiescent_Reference14Ideal := fun m ρ _ =>
  (θ_run Reference14Ideal.defs _ _).mono (fun r h => ⟨fun c => (h c).2, sem_eq_zero_of_no_sems (by decide) r.2⟩)
    (Reference14Ideal.Value.run (F := Ideal) m ρ)

theorem preserves : preserves_Kernel14_Kernel14Ideal := trivial

theorem algebraic : algebraic_Kernel14Ideal_Reference14Ideal := by
  intro m ρ m' ρ' _ hagree
  refine ⟨fun c => Cert.BranchDw.val (Cert.BranchDw.a0 m c) (Cert.BranchDw.a1 m c), ?_, ?_⟩
  · exact (θ_run Kernel14Ideal.defs _ _).mono (fun r h c => ⟨((h.1 c).1 2).trans (Cert.BranchDw.out m c), h.2 c⟩)
      (θ_run_and (Kernel14Ideal.Gen.run_main (F := Ideal) m ρ) (Kernel14Ideal.Gen.unchanged (F := Ideal) m ρ))
  · exact (θ_run Reference14Ideal.defs _ _).mono
      (fun r h c => ⟨(h c).1.trans (congr2 Cert.BranchDw.val (hagree c).1 (hagree c).2), (h c).2⟩)
      (Reference14Ideal.Value.run (F := Ideal) m' ρ')

end P14

namespace P15

theorem frame_kernel : quiescent_Kernel15 := fun m ρ _ => Kernel15.Gen.frame m ρ

theorem frame_ideal : quiescent_Kernel15Ideal := fun m ρ _ => Kernel15Ideal.Gen.frame m ρ

theorem frame_ref : quiescent_Reference15Ideal := fun m ρ _ =>
  (θ_run Reference15Ideal.defs _ _).mono (fun r h => ⟨fun c => (h c).2, sem_eq_zero_of_no_sems (by decide) r.2⟩)
    (Reference15Ideal.Value.run (F := Ideal) m ρ)

theorem preserves : preserves_Kernel15_Kernel15Ideal := trivial

theorem algebraic : algebraic_Kernel15Ideal_Reference15Ideal := by
  intro m ρ m' ρ' _ hagree
  refine ⟨fun c => Cert.ZDa.val (Cert.ZDa.a0 m c) (Cert.ZDa.a1 m c), ?_, ?_⟩
  · exact (θ_run Kernel15Ideal.defs _ _).mono (fun r h c => ⟨((h.1 c).1 2).trans (Cert.ZDa.out m c), h.2 c⟩)
      (θ_run_and (Kernel15Ideal.Gen.run_main (F := Ideal) m ρ) (Kernel15Ideal.Gen.unchanged (F := Ideal) m ρ))
  · exact (θ_run Reference15Ideal.defs _ _).mono
      (fun r h c => ⟨(h c).1.trans (congr2 Cert.ZDa.val (hagree c).1 (hagree c).2), (h c).2⟩)
      (Reference15Ideal.Value.run (F := Ideal) m' ρ')

end P15

namespace P16

theorem frame_kernel : quiescent_Kernel16 := fun m ρ _ => Kernel16.Gen.frame m ρ

theorem frame_ideal : quiescent_Kernel16Ideal := fun m ρ _ => Kernel16Ideal.Gen.frame m ρ

theorem frame_ref : quiescent_Reference16Ideal := fun m ρ _ =>
  (θ_run Reference16Ideal.defs _ _).mono (fun r h => ⟨fun c => (h c).2, sem_eq_zero_of_no_sems (by decide) r.2⟩)
    (Reference16Ideal.Value.run (F := Ideal) m ρ)

theorem preserves : preserves_Kernel16_Kernel16Ideal := trivial

theorem algebraic : algebraic_Kernel16Ideal_Reference16Ideal := by
  intro m ρ m' ρ' _ hagree
  refine ⟨fun c => Cert.ZDw.val (Cert.ZDw.a0 m c) (Cert.ZDw.a1 m c), ?_, ?_⟩
  · exact (θ_run Kernel16Ideal.defs _ _).mono (fun r h c => ⟨((h.1 c).1 2).trans (Cert.ZDw.out m c), h.2 c⟩)
      (θ_run_and (Kernel16Ideal.Gen.run_main (F := Ideal) m ρ) (Kernel16Ideal.Gen.unchanged (F := Ideal) m ρ))
  · exact (θ_run Reference16Ideal.defs _ _).mono
      (fun r h c => ⟨(h c).1.trans (congr2 Cert.ZDw.val (hagree c).1 (hagree c).2), (h c).2⟩)
      (Reference16Ideal.Value.run (F := Ideal) m' ρ')

end P16

namespace P17

theorem frame_kernel : quiescent_Kernel17 := fun m ρ _ => Kernel17.Gen.frame m ρ

theorem frame_ideal : quiescent_Kernel17Ideal := fun m ρ _ => Kernel17Ideal.Gen.frame m ρ

theorem frame_ref : quiescent_Reference17Ideal := fun m ρ _ =>
  (θ_run Reference17Ideal.defs _ _).mono (fun r h => ⟨fun c => (h c).2, sem_eq_zero_of_no_sems (by decide) r.2⟩)
    (Reference17Ideal.Value.run (F := Ideal) m ρ)

theorem preserves : preserves_Kernel17_Kernel17Ideal := trivial

theorem algebraic : algebraic_Kernel17Ideal_Reference17Ideal := by
  intro m ρ m' ρ' _ hagree
  refine ⟨fun c => Cert.LatentDa.val (Cert.LatentDa.a0 m c) (Cert.LatentDa.a1 m c), ?_, ?_⟩
  · exact (θ_run Kernel17Ideal.defs _ _).mono (fun r h c => ⟨((h.1 c).1 2).trans (Cert.LatentDa.out m c), h.2 c⟩)
      (θ_run_and (Kernel17Ideal.Gen.run_main (F := Ideal) m ρ) (Kernel17Ideal.Gen.unchanged (F := Ideal) m ρ))
  · exact (θ_run Reference17Ideal.defs _ _).mono
      (fun r h c => ⟨(h c).1.trans (congr2 Cert.LatentDa.val (hagree c).1 (hagree c).2), (h c).2⟩)
      (Reference17Ideal.Value.run (F := Ideal) m' ρ')

end P17

namespace P18

theorem frame_kernel : quiescent_Kernel18 := fun m ρ _ => Kernel18.Gen.frame m ρ

theorem frame_ideal : quiescent_Kernel18Ideal := fun m ρ _ => Kernel18Ideal.Gen.frame m ρ

theorem frame_ref : quiescent_Reference18Ideal := fun m ρ _ =>
  (θ_run Reference18Ideal.defs _ _).mono (fun r h => ⟨fun c => (h c).2, sem_eq_zero_of_no_sems (by decide) r.2⟩)
    (Reference18Ideal.Value.run (F := Ideal) m ρ)

theorem preserves : preserves_Kernel18_Kernel18Ideal := trivial

theorem algebraic : algebraic_Kernel18Ideal_Reference18Ideal := by
  intro m ρ m' ρ' _ hagree
  refine ⟨fun c => Cert.LatentDw.val (Cert.LatentDw.a0 m c) (Cert.LatentDw.a1 m c), ?_, ?_⟩
  · exact (θ_run Kernel18Ideal.defs _ _).mono (fun r h c => ⟨((h.1 c).1 2).trans (Cert.LatentDw.out m c), h.2 c⟩)
      (θ_run_and (Kernel18Ideal.Gen.run_main (F := Ideal) m ρ) (Kernel18Ideal.Gen.unchanged (F := Ideal) m ρ))
  · exact (θ_run Reference18Ideal.defs _ _).mono
      (fun r h c => ⟨(h c).1.trans (congr2 Cert.LatentDw.val (hagree c).1 (hagree c).2), (h c).2⟩)
      (Reference18Ideal.Value.run (F := Ideal) m' ρ')

end P18

namespace P19

theorem frame_kernel : quiescent_Kernel19 := fun m ρ _ => Kernel19.Gen.frame m ρ

theorem frame_ideal : quiescent_Kernel19Ideal := fun m ρ _ => Kernel19Ideal.Gen.frame m ρ

theorem frame_ref : quiescent_Reference19Ideal := fun m ρ _ =>
  (θ_run Reference19Ideal.defs _ _).mono (fun r h => ⟨fun c => (h c).2.2.2, sem_eq_zero_of_no_sems (by decide) r.2⟩)
    (Reference19Ideal.Value.run (F := Ideal) m ρ)

theorem preserves : preserves_Kernel19_Kernel19Ideal := trivial

theorem algebraic : algebraic_Kernel19Ideal_Reference19Ideal := by
  intro m ρ m' ρ' _ hagree
  refine ⟨fun c => Cert.FfnUp.valA (Cert.FfnUp.a0 m c) (Cert.FfnUp.a1 m c), fun c => Cert.FfnUp.valG (Cert.FfnUp.a0 m c) (Cert.FfnUp.a1 m c),
    fun c => Cert.FfnUp.valU (Cert.FfnUp.a0 m c) (Cert.FfnUp.a1 m c), ?_, ?_⟩
  · exact (θ_run Kernel19Ideal.defs _ _).mono (fun r h c => ⟨((h.1 c).1 3).trans (Cert.FfnUp.outA m c),
        ((h.1 c).1 4).trans (Cert.FfnUp.outG m c), ((h.1 c).1 5).trans (Cert.FfnUp.outU m c), h.2 c⟩)
      (θ_run_and (Kernel19Ideal.Gen.run_main (F := Ideal) m ρ) (Kernel19Ideal.Gen.unchanged (F := Ideal) m ρ))
  · refine (θ_run Reference19Ideal.defs _ _).mono (fun r h c => ?_) (Reference19Ideal.Value.run (F := Ideal) m' ρ')
    obtain ⟨e0, e1⟩ := hagree c
    obtain ⟨hA, hG, hU, hargs⟩ := h c
    exact ⟨hA.trans (congr2 Cert.FfnUp.valA e0 e1), hG.trans (congr2 Cert.FfnUp.valG e0 e1), hU.trans (congr2 Cert.FfnUp.valU e0 e1), hargs⟩

end P19

namespace P20

theorem frame_kernel : quiescent_Kernel20 := fun m ρ _ => Kernel20.Gen.frame m ρ

theorem frame_ideal : quiescent_Kernel20Ideal := fun m ρ _ => Kernel20Ideal.Gen.frame m ρ

theorem frame_ref : quiescent_Reference20Ideal := fun m ρ _ =>
  (θ_run Reference20Ideal.defs _ _).mono (fun r h => ⟨fun c => (h c).2.2, sem_eq_zero_of_no_sems (by decide) r.2⟩)
    (Reference20Ideal.Value.run (F := Ideal) m ρ)

theorem preserves : preserves_Kernel20_Kernel20Ideal := trivial

theorem algebraic : algebraic_Kernel20Ideal_Reference20Ideal := by
  intro m ρ m' ρ' _ hagree
  refine ⟨fun c => Cert.DownFwd.valX (Cert.DownFwd.a0 m c) (Cert.DownFwd.a1 m c) (Cert.DownFwd.a2 m c) (Cert.DownFwd.a3 m c), fun c => Cert.DownFwd.valP (Cert.DownFwd.a2 m c) (Cert.DownFwd.a3 m c), ?_, ?_⟩
  · exact (θ_run Kernel20Ideal.defs _ _).mono (fun r h c => ⟨((h.1 c).1 4).trans (Cert.DownFwd.outX m c),
        ((h.1 c).1 5).trans (Cert.DownFwd.outP m c), h.2 c⟩)
      (θ_run_and (Kernel20Ideal.Gen.run_main (F := Ideal) m ρ) (Kernel20Ideal.Gen.unchanged (F := Ideal) m ρ))
  · refine (θ_run Reference20Ideal.defs _ _).mono (fun r h c => ?_) (Reference20Ideal.Value.run (F := Ideal) m' ρ')
    obtain ⟨e0, e1, e2, e3⟩ := hagree c
    obtain ⟨hX, hP, hargs⟩ := h c
    exact ⟨hX.trans (congr4 Cert.DownFwd.valX e0 e1 e2 e3), hP.trans (congr2 Cert.DownFwd.valP e2 e3), hargs⟩

end P20

end Cert.ProdClaims

end
-- ==== Proof.Adam.lean ====
/-
  One step of the optimiser on one entry, over the extended reals, and the sum of eight devices' parts.
-/
module

public import proofs.«01_k».proof.Proof.Prod

@[expose] public section

noncomputable section

namespace Cert.Adam

open Idealize.ShloMosaic

/-- The new first moment. -/
def mom (m g : EReal) : EReal := Ideal.ofBits .f32 0x3F666666#32 * m + Ideal.ofBits .f32 0x3DCCCCCD#32 * g

/-- The new second moment. -/
def sec (v g : EReal) : EReal := Ideal.ofBits .f32 0x3F7FBE77#32 * v + Ideal.ofBits .f32 0x3A83126F#32 * (g * g)

/-- The weight's change. -/
def del (w g m v : EReal) : EReal :=
  Ideal.ofBits .f32 0xBA83126F#32 * (Ideal.div (Ideal.div (mom m g) (Ideal.ofBits .f32 0x3F26BD02#32))
    (Ideal.sqrt (Ideal.div (sec v g) (Ideal.ofBits .f32 0x3C231ACC#32)) + Ideal.ofBits .f32 0x322BCC77#32) + Ideal.ofBits .f32 0x3C23D70A#32 * w)

theorem congr4 {α₀ α₁ α₂ α₃ β : Type} (f : α₀ → α₁ → α₂ → α₃ → β) {x0 y0 x1 y1 x2 y2 x3 y3} (h0 : x0 = y0) (h1 : x1 = y1) (h2 : x2 = y2)
    (h3 : x3 = y3) : f x0 x1 x2 x3 = f y0 y1 y2 y3 := by
  subst h0 h1 h2 h3; rfl

/-- Eight parts added in order. -/
def sum8 (p : Fin 8 → EReal) : EReal := p 0 + p 1 + p 2 + p 3 + p 4 + p 5 + p 6 + p 7

theorem sum8_eq (p : Fin 8 → EReal) : sum8 p = ∑ d, p d := by
  rw [Fin.sum_univ_eight]; rfl

end Cert.Adam

end
-- ==== Proof.AdamUp.lean ====
/-
  The optimiser's call for the channel mixer's first weight over the extended reals, and the reference's term.
-/
module

public import proofs.«01_k».proof.Proof.Adam
public import proofs.«01_k».proof.Proof.Gen.Kernel21Ideal.Frame
public import proofs.«01_k».proof.Proof.Gen.Reference21Ideal.Run
public import Idealize.ShloMosaic.Lib.Pipeline.ReadBack

@[expose] public section

set_option maxRecDepth 16384

noncomputable section

namespace Cert.AdamUp

open Idealize.ShloMosaic Idealize.ShloMosaic.TcCoe Idealize.SL.Sem
open Cert.Prod Cert.Adam

section Ref

open Cert.Reference21Ideal Cert.Reference21Ideal.Gen

/-- The reference's gradient: each layer's parts added. -/
def valG (P Q : FVec Ideal S8x2048x1408 .bf16) : FVec Ideal S4096x1408 .f32 :=
  concatenate S4096x1408 0 [⟨S2048x1408, Host.reduceAdd (extf .f32 P bitsLt_bf16_f32) (constant S_ .f32 0x00000000#32) reducesTo_S8x2048x1408_S2048x1408_d0 h_S_⟩,
    ⟨S2048x1408, Host.reduceAdd (extf .f32 Q bitsLt_bf16_f32) (constant S_ .f32 0x00000000#32) reducesTo_S8x2048x1408_S2048x1408_d0 h_S_⟩] concatenates_S2048x1408_S2048x1408_S4096x1408_d0

def valM (P Q : FVec Ideal S8x2048x1408 .bf16) (M : FVec Ideal S4096x1408 .f32) : FVec Ideal S4096x1408 .f32 :=
  addf (mulf (broadcastInDim S4096x1408 ![] bcast_S_S4096x1408 (constant S_ .f32 0x3F666666#32)) M)
    (mulf (broadcastInDim S4096x1408 ![] bcast_S_S4096x1408 (constant S_ .f32 0x3DCCCCCD#32)) (valG P Q))

def valV (P Q : FVec Ideal S8x2048x1408 .bf16) (V : FVec Ideal S4096x1408 .f32) : FVec Ideal S4096x1408 .f32 :=
  addf (mulf (broadcastInDim S4096x1408 ![] bcast_S_S4096x1408 (constant S_ .f32 0x3F7FBE77#32)) V)
    (mulf (broadcastInDim S4096x1408 ![] bcast_S_S4096x1408 (constant S_ .f32 0x3A83126F#32)) (mulf (valG P Q) (valG P Q)))

def valD (W : FVec Ideal S4096x1408 .f32) (P Q : FVec Ideal S8x2048x1408 .bf16) (M V : FVec Ideal S4096x1408 .f32) : FVec Ideal S4096x1408 .f32 :=
  mulf (broadcastInDim S4096x1408 ![] bcast_S_S4096x1408 (constant S_ .f32 0xBA83126F#32))
    (addf (Host.divf (Host.divf (valM P Q M) (broadcastInDim S4096x1408 ![] bcast_S_S4096x1408 (constant S_ .f32 0x3F26BD02#32)))
      (addf (Host.sqrt (Host.divf (valV P Q V) (broadcastInDim S4096x1408 ![] bcast_S_S4096x1408 (constant S_ .f32 0x3C231ACC#32))))
        (broadcastInDim S4096x1408 ![] bcast_S_S4096x1408 (constant S_ .f32 0x322BCC77#32))))
      (mulf (broadcastInDim S4096x1408 ![] bcast_S_S4096x1408 (constant S_ .f32 0x3C23D70A#32)) W))

theorem valM_at (P Q : FVec Ideal S8x2048x1408 .bf16) (M : FVec Ideal S4096x1408 .f32) (y : S4096x1408.Idx) :
    (valM P Q M y : EReal) = mom (M y) (valG P Q y) := rfl

theorem valV_at (P Q : FVec Ideal S8x2048x1408 .bf16) (V : FVec Ideal S4096x1408 .f32) (y : S4096x1408.Idx) :
    (valV P Q V y : EReal) = sec (V y) (valG P Q y) := rfl

theorem valD_at (W : FVec Ideal S4096x1408 .f32) (P Q : FVec Ideal S8x2048x1408 .bf16) (M V : FVec Ideal S4096x1408 .f32) (y : S4096x1408.Idx) :
    (valD W P Q M V y : EReal) = del (W y) (valG P Q y) (M y) (V y) := rfl

theorem valG_lt (P Q : FVec Ideal S8x2048x1408 .bf16) (i : Fin 4096) (j : Fin 1408) (h : i.val < 2048) :
    valG P Q (ix2 i j) = ∑ d : Fin 8, P (ix3 d ⟨i.val, h⟩ j) := by
  unfold valG
  pointwise []
  exact dif_pos h

theorem valG_ge (P Q : FVec Ideal S8x2048x1408 .bf16) (i : Fin 4096) (j : Fin 1408) (h : ¬ i.val < 2048) :
    valG P Q (ix2 i j) = ∑ d : Fin 8, Q (ix3 d ⟨i.val - 2048, by have := i.isLt; omega⟩ j) := by
  unfold valG
  pointwise []
  exact dif_neg h

end Ref

open Cert.Kernel21Ideal Cert.Kernel21Ideal.Gen

section Cases

variable {F : FTy → Type} [FloatOps F]

/-- The parts of a block, added. -/
def g8 (x : Vec F S8x256x1408 .bf16) : FVec F S256x1408 .f32 :=
  k0_pay7 (View.ld x (Rect.unit ![0, 0, 0] ![1, 256, 1408] inb_S8x256x1408_S1x256x1408_0_0_0))
    (View.ld x (Rect.unit ![1, 0, 0] ![1, 256, 1408] inb_S8x256x1408_S1x256x1408_1_0_0))
    (View.ld x (Rect.unit ![2, 0, 0] ![1, 256, 1408] inb_S8x256x1408_S1x256x1408_2_0_0))
    (View.ld x (Rect.unit ![3, 0, 0] ![1, 256, 1408] inb_S8x256x1408_S1x256x1408_3_0_0))
    (View.ld x (Rect.unit ![4, 0, 0] ![1, 256, 1408] inb_S8x256x1408_S1x256x1408_4_0_0))
    (View.ld x (Rect.unit ![5, 0, 0] ![1, 256, 1408] inb_S8x256x1408_S1x256x1408_5_0_0))
    (View.ld x (Rect.unit ![6, 0, 0] ![1, 256, 1408] inb_S8x256x1408_S1x256x1408_6_0_0))
    (View.ld x (Rect.unit ![7, 0, 0] ![1, 256, 1408] inb_S8x256x1408_S1x256x1408_7_0_0))

/-- What the call writes at a grid point, from the weight's block, the parts' block and the moments' blocks. -/
def four (w : Vec F S256x1408 .f32) (x : Vec F S8x256x1408 .bf16) (p v : Vec F S256x1408 .f32) :
    Vec F S256x1408 .f32 × Vec F S256x1408 .f32 × Vec F S256x1408 .f32 × Vec F S256x1408 .f32 :=
  (g8 x, k0_pay3 (g8 x) p k0_pay8 v w, k0_pay1 (g8 x) p k0_pay8, k0_pay2 (g8 x) v)

variable (m : (ℓ : Loc nD τ sig) → Buf (Elt F) ℓ) (c : Dev nD) (t : Fin cfg0.N)

theorem caseA (h0 : t.val < 8) (h1 : ¬ 8 ≤ t.val) :
    outsAt0 m c t.val t.isLt = four (iblk m c 0 t) (iblk m c 1 t) (iblk m c 3 t) (iblk m c 4 t) := by
  rw [outsAt0_A m c t h0 h1]
  unfold four
  refine Prod.ext ?_ (Prod.ext ?_ (Prod.ext ?_ ?_)) <;> dsimp only
  on_goal 1 => unfold out0_A_5; refine (View.read_writes_eq_canon _ _ _ fun y => cover0_A_5 ..).trans ?_
  on_goal 2 => unfold out0_A_6; refine (View.read_writes_eq_canon _ _ _ fun y => cover0_A_6 ..).trans ?_
  on_goal 3 => unfold out0_A_7; refine (View.read_writes_eq_canon _ _ _ fun y => cover0_A_7 ..).trans ?_
  on_goal 4 => unfold out0_A_8; refine (View.read_writes_eq_canon _ _ _ fun y => cover0_A_8 ..).trans ?_
  all_goals
    unfold kernelRun0_A; dsimp only; sl_unfold_words
    refine (View.canon_unit_zero (S := S256x1408) zero2 _ _).trans ?_
    simp only [View.readAt_eq_ld, Memref.IsWhole.read_unread, read_unread_whole, View.ld_unit_zero (S := S256x1408) zero2]
    rfl

theorem caseB (h0 : ¬ t.val < 8) (h1 : 8 ≤ t.val) :
    outsAt0 m c t.val t.isLt = four (iblk m c 0 t) (iblk m c 2 t) (iblk m c 3 t) (iblk m c 4 t) := by
  rw [outsAt0_B m c t h0 h1]
  unfold four
  refine Prod.ext ?_ (Prod.ext ?_ (Prod.ext ?_ ?_)) <;> dsimp only
  on_goal 1 => unfold out0_B_5; refine (View.read_writes_eq_canon _ _ _ fun y => cover0_B_5 ..).trans ?_
  on_goal 2 => unfold out0_B_6; refine (View.read_writes_eq_canon _ _ _ fun y => cover0_B_6 ..).trans ?_
  on_goal 3 => unfold out0_B_7; refine (View.read_writes_eq_canon _ _ _ fun y => cover0_B_7 ..).trans ?_
  on_goal 4 => unfold out0_B_8; refine (View.read_writes_eq_canon _ _ _ fun y => cover0_B_8 ..).trans ?_
  all_goals
    unfold kernelRun0_B; dsimp only; sl_unfold_words
    refine (View.canon_unit_zero (S := S256x1408) zero2 _ _).trans ?_
    simp only [View.readAt_eq_ld, Memref.IsWhole.read_unread, read_unread_whole, View.ld_unit_zero (S := S256x1408) zero2]
    rfl

end Cases

theorem g8_at (x : Vec Ideal S8x256x1408 .bf16) (r : Fin 256) (s : Fin 1408) :
    (g8 x (ix2 r s) : EReal) = sum8 fun d => x (ix3 d r s) := by
  unfold g8 k0_pay7
  pointwise []
  rfl

variable (m : (ℓ : Loc nD τ sig) → Buf (Elt Ideal) ℓ) (c : Dev nD)

abbrev a0 : FVec Ideal S4096x1408 .f32 := m ((c : Thread nD τ).loc main_arg0)
abbrev a1 : FVec Ideal S8x2048x1408 .bf16 := m ((c : Thread nD τ).loc main_arg1)
abbrev a2 : FVec Ideal S8x2048x1408 .bf16 := m ((c : Thread nD τ).loc main_arg2)
abbrev a3 : FVec Ideal S4096x1408 .f32 := m ((c : Thread nD τ).loc main_arg3)
abbrev a4 : FVec Ideal S4096x1408 .f32 := m ((c : Thread nD τ).loc main_arg4)

theorem idx : ∀ t : Fin cfg0.N, win0_0.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] := by
  decide +kernel

theorem idxA : ∀ t : Fin cfg0.N, t.val < 8 → win0_1.index t = ![0, t.val, 0] := by
  decide +kernel

theorem idxB : ∀ t : Fin cfg0.N, ¬ t.val < 8 → win0_2.index t = ![0, t.val - 8, 0] := by
  decide +kernel

variable (t : Fin cfg0.N)

theorem lt : t.val < 16 := t.isLt

abbrev row (r : Fin 256) : Fin 4096 := ⟨256 * t.val + r.val, by have := lt t; omega⟩

theorem blk0 (r : Fin 256) (s : Fin 1408) : iblk m c 0 t (ix2 r s) = a0 m c (ix2 (row t r) s) := by
  unfold row
  blk_ext [iblk, V, (idx t).1]

theorem blk3 (r : Fin 256) (s : Fin 1408) : iblk m c 3 t (ix2 r s) = a3 m c (ix2 (row t r) s) := by
  unfold row
  blk_ext [iblk, V, (idx t).2.1]

theorem blk4 (r : Fin 256) (s : Fin 1408) : iblk m c 4 t (ix2 r s) = a4 m c (ix2 (row t r) s) := by
  unfold row
  blk_ext [iblk, V, (idx t).2.2.1]

theorem blk1 (h : t.val < 8) (d : Fin 8) (r : Fin 256) (s : Fin 1408) :
    iblk m c 1 t (ix3 d r s) = a1 m c (ix3 d ⟨256 * t.val + r.val, by omega⟩ s) := by
  blk_ext [iblk, V, idxA t h]

theorem blk2 (h : ¬ t.val < 8) (d : Fin 8) (r : Fin 256) (s : Fin 1408) :
    iblk m c 2 t (ix3 d r s) = a2 m c (ix3 d ⟨256 * t.val + r.val - 2048, by have := lt t; omega⟩ s) := by
  blk_ext [iblk, V, idxB t h]

/-- The parts' block of a grid point: the first layer's, then the second's. -/
abbrev parts : Vec Ideal S8x256x1408 .bf16 := if t.val < 8 then iblk m c 1 t else iblk m c 2 t

theorem outs : outsAt0 m c t.val t.isLt = four (iblk m c 0 t) (parts m c t) (iblk m c 3 t) (iblk m c 4 t) := by
  unfold parts
  by_cases h : t.val < 8
  · rw [if_pos h]; exact caseA m c t h (by omega)
  · rw [if_neg h]; exact caseB m c t h (by omega)

theorem pointG (r : Fin 256) (s : Fin 1408) :
    g8 (parts m c t) (ix2 r s) = valG (a1 m c) (a2 m c) (ix2 (row t r) s) := by
  refine (g8_at _ r s).trans ((sum8_eq _).trans ?_)
  unfold parts
  by_cases h : t.val < 8
  · rw [if_pos h, valG_lt _ _ _ _ (by show 256 * t.val + r.val < 2048; omega)]
    exact Finset.sum_congr rfl fun d _ => blk1 m c t h d r s
  · rw [if_neg h, valG_ge _ _ _ _ (by show ¬ 256 * t.val + r.val < 2048; omega)]
    exact Finset.sum_congr rfl fun d _ => blk2 m c t h d r s

theorem pointM (r : Fin 256) (s : Fin 1408) :
    k0_pay1 (g8 (parts m c t)) (iblk m c 3 t : Vec Ideal S256x1408 .f32) k0_pay8 (ix2 r s) = valM (a1 m c) (a2 m c) (a3 m c) (ix2 (row t r) s) :=
  (show _ = mom _ _ from rfl).trans ((congr2 mom (blk3 m c t r s) (pointG m c t r s)).trans (valM_at _ _ _ _).symm)

theorem pointV (r : Fin 256) (s : Fin 1408) :
    k0_pay2 (g8 (parts m c t)) (iblk m c 4 t : Vec Ideal S256x1408 .f32) (ix2 r s) = valV (a1 m c) (a2 m c) (a4 m c) (ix2 (row t r) s) :=
  (show _ = sec _ _ from rfl).trans ((congr2 sec (blk4 m c t r s) (pointG m c t r s)).trans (valV_at _ _ _ _).symm)

theorem pointD (r : Fin 256) (s : Fin 1408) :
    k0_pay3 (g8 (parts m c t)) (iblk m c 3 t : Vec Ideal S256x1408 .f32) k0_pay8 (iblk m c 4 t : Vec Ideal S256x1408 .f32) (iblk m c 0 t : Vec Ideal S256x1408 .f32) (ix2 r s)
      = valD (a0 m c) (a1 m c) (a2 m c) (a3 m c) (a4 m c) (ix2 (row t r) s) :=
  (show _ = del _ _ _ _ from rfl).trans ((congr4 del (blk0 m c t r s) (pointG m c t r s) (blk3 m c t r s) (blk4 m c t r s)).trans (valD_at _ _ _ _ _ _).symm)

/-- Where a block's entry lies in the whole array. -/
theorem place (y : S256x1408.Idx) (f : S4096x1408.Idx → EReal) (z : S4096x1408.Idx) (h0 : (z 0).val = t.val * 256 + (y 0).val) (h1 : (z 1).val = (y 1).val) :
    f (ix2 (row t (y 0)) (y 1)) = f z := by
  refine congrArg f (funext fun a => Fin.ext ?_)
  match a with
  | ⟨0, _⟩ => show 256 * t.val + (y 0).val = (z 0).val; omega
  | ⟨1, _⟩ => exact h1.symm

theorem outG : (dats m 0 c).arrAt 5 cfg0.N = valG (a1 m c) (a2 m c) := by
  refine (dats m 0 c).arrAt_eq_of_covers 5 _ (by decide +kernel) fun t hf y => ?_
  blk_simp
  rw [after0_5, outs]
  refine (congrArg (g8 _) (eta2 (n0 := 256) (n1 := 1408) y)).trans ((pointG m c t _ _).trans ?_)
  have e := (idx t).2.2.2.1
  refine place t y _ _ ?_ ?_
  · show win0_5.index t 0 * 256 + 1 * (y 0).val = _
    rw [e]; show t.val * 256 + _ = _; omega
  · show win0_5.index t 1 * 1408 + 1 * (y 1).val = _
    rw [e]; show 0 * 1408 + _ = _; omega

theorem outD : (dats m 0 c).arrAt 6 cfg0.N = valD (a0 m c) (a1 m c) (a2 m c) (a3 m c) (a4 m c) := by
  refine (dats m 0 c).arrAt_eq_of_covers 6 _ (by decide +kernel) fun t hf y => ?_
  blk_simp
  rw [after0_6, outs]
  refine (congrArg (k0_pay3 _ _ _ _ _) (eta2 (n0 := 256) (n1 := 1408) y)).trans ((pointD m c t _ _).trans ?_)
  have e := (idx t).2.2.2.2.1
  refine place t y _ _ ?_ ?_
  · show win0_6.index t 0 * 256 + 1 * (y 0).val = _
    rw [e]; show t.val * 256 + _ = _; omega
  · show win0_6.index t 1 * 1408 + 1 * (y 1).val = _
    rw [e]; show 0 * 1408 + _ = _; omega

theorem outM : (dats m 0 c).arrAt 7 cfg0.N = valM (a1 m c) (a2 m c) (a3 m c) := by
  refine (dats m 0 c).arrAt_eq_of_covers 7 _ (by decide +kernel) fun t hf y => ?_
  blk_simp
  rw [after0_7, outs]
  refine (congrArg (k0_pay1 _ _ _) (eta2 (n0 := 256) (n1 := 1408) y)).trans ((pointM m c t _ _).trans ?_)
  have e := (idx t).2.2.2.2.2.1
  refine place t y _ _ ?_ ?_
  · show win0_7.index t 0 * 256 + 1 * (y 0).val = _
    rw [e]; show t.val * 256 + _ = _; omega
  · show win0_7.index t 1 * 1408 + 1 * (y 1).val = _
    rw [e]; show 0 * 1408 + _ = _; omega

theorem outV : (dats m 0 c).arrAt 8 cfg0.N = valV (a1 m c) (a2 m c) (a4 m c) := by
  refine (dats m 0 c).arrAt_eq_of_covers 8 _ (by decide +kernel) fun t hf y => ?_
  blk_simp
  rw [after0_8, outs]
  refine (congrArg (k0_pay2 _ _) (eta2 (n0 := 256) (n1 := 1408) y)).trans ((pointV m c t _ _).trans ?_)
  have e := (idx t).2.2.2.2.2.2
  refine place t y _ _ ?_ ?_
  · show win0_8.index t 0 * 256 + 1 * (y 0).val = _
    rw [e]; show t.val * 256 + _ = _; omega
  · show win0_8.index t 1 * 1408 + 1 * (y 1).val = _
    rw [e]; show 0 * 1408 + _ = _; omega

end Cert.AdamUp

end
-- ==== Proof.AdamDown.lean ====
/-
  The optimiser's call for the channel mixer's last weight over the extended reals, and the reference's term.
-/
module

public import proofs.«01_k».proof.Proof.Adam
public import proofs.«01_k».proof.Proof.Gen.Kernel22Ideal.Frame
public import proofs.«01_k».proof.Proof.Gen.Reference22Ideal.Run
public import Idealize.ShloMosaic.Lib.Pipeline.ReadBack

@[expose] public section

set_option maxRecDepth 16384

noncomputable section

namespace Cert.AdamDown

open Idealize.ShloMosaic Idealize.ShloMosaic.TcCoe Idealize.SL.Sem
open Cert.Prod Cert.Adam

section Ref

open Cert.Reference22Ideal Cert.Reference22Ideal.Gen

/-- The reference's gradient: each layer's parts added. -/
def valG (P Q : FVec Ideal S8x704x2048 .bf16) : FVec Ideal S1408x2048 .f32 :=
  concatenate S1408x2048 0 [⟨S704x2048, Host.reduceAdd (extf .f32 P bitsLt_bf16_f32) (constant S_ .f32 0x00000000#32) reducesTo_S8x704x2048_S704x2048_d0 h_S_⟩,
    ⟨S704x2048, Host.reduceAdd (extf .f32 Q bitsLt_bf16_f32) (constant S_ .f32 0x00000000#32) reducesTo_S8x704x2048_S704x2048_d0 h_S_⟩] concatenates_S704x2048_S704x2048_S1408x2048_d0

def valM (P Q : FVec Ideal S8x704x2048 .bf16) (M : FVec Ideal S1408x2048 .f32) : FVec Ideal S1408x2048 .f32 :=
  addf (mulf (broadcastInDim S1408x2048 ![] bcast_S_S1408x2048 (constant S_ .f32 0x3F666666#32)) M)
    (mulf (broadcastInDim S1408x2048 ![] bcast_S_S1408x2048 (constant S_ .f32 0x3DCCCCCD#32)) (valG P Q))

def valV (P Q : FVec Ideal S8x704x2048 .bf16) (V : FVec Ideal S1408x2048 .f32) : FVec Ideal S1408x2048 .f32 :=
  addf (mulf (broadcastInDim S1408x2048 ![] bcast_S_S1408x2048 (constant S_ .f32 0x3F7FBE77#32)) V)
    (mulf (broadcastInDim S1408x2048 ![] bcast_S_S1408x2048 (constant S_ .f32 0x3A83126F#32)) (mulf (valG P Q) (valG P Q)))

def valD (W : FVec Ideal S1408x2048 .f32) (P Q : FVec Ideal S8x704x2048 .bf16) (M V : FVec Ideal S1408x2048 .f32) : FVec Ideal S1408x2048 .f32 :=
  mulf (broadcastInDim S1408x2048 ![] bcast_S_S1408x2048 (constant S_ .f32 0xBA83126F#32))
    (addf (Host.divf (Host.divf (valM P Q M) (broadcastInDim S1408x2048 ![] bcast_S_S1408x2048 (constant S_ .f32 0x3F26BD02#32)))
      (addf (Host.sqrt (Host.divf (valV P Q V) (broadcastInDim S1408x2048 ![] bcast_S_S1408x2048 (constant S_ .f32 0x3C231ACC#32))))
        (broadcastInDim S1408x2048 ![] bcast_S_S1408x2048 (constant S_ .f32 0x322BCC77#32))))
      (mulf (broadcastInDim S1408x2048 ![] bcast_S_S1408x2048 (constant S_ .f32 0x3C23D70A#32)) W))

theorem valM_at (P Q : FVec Ideal S8x704x2048 .bf16) (M : FVec Ideal S1408x2048 .f32) (y : S1408x2048.Idx) :
    (valM P Q M y : EReal) = mom (M y) (valG P Q y) := rfl

theorem valV_at (P Q : FVec Ideal S8x704x2048 .bf16) (V : FVec Ideal S1408x2048 .f32) (y : S1408x2048.Idx) :
    (valV P Q V y : EReal) = sec (V y) (valG P Q y) := rfl

theorem valD_at (W : FVec Ideal S1408x2048 .f32) (P Q : FVec Ideal S8x704x2048 .bf16) (M V : FVec Ideal S1408x2048 .f32) (y : S1408x2048.Idx) :
    (valD W P Q M V y : EReal) = del (W y) (valG P Q y) (M y) (V y) := rfl

theorem valG_lt (P Q : FVec Ideal S8x704x2048 .bf16) (i : Fin 1408) (j : Fin 2048) (h : i.val < 704) :
    valG P Q (ix2 i j) = ∑ d : Fin 8, P (ix3 d ⟨i.val, h⟩ j) := by
  unfold valG
  pointwise []
  exact dif_pos h

theorem valG_ge (P Q : FVec Ideal S8x704x2048 .bf16) (i : Fin 1408) (j : Fin 2048) (h : ¬ i.val < 704) :
    valG P Q (ix2 i j) = ∑ d : Fin 8, Q (ix3 d ⟨i.val - 704, by have := i.isLt; omega⟩ j) := by
  unfold valG
  pointwise []
  exact dif_neg h

end Ref

open Cert.Kernel22Ideal Cert.Kernel22Ideal.Gen

section Cases

variable {F : FTy → Type} [FloatOps F]

/-- The parts of a block, added. -/
def g8 (x : Vec F S8x64x2048 .bf16) : FVec F S64x2048 .f32 :=
  k0_pay7 (View.ld x (Rect.unit ![0, 0, 0] ![1, 64, 2048] inb_S8x64x2048_S1x64x2048_0_0_0))
    (View.ld x (Rect.unit ![1, 0, 0] ![1, 64, 2048] inb_S8x64x2048_S1x64x2048_1_0_0))
    (View.ld x (Rect.unit ![2, 0, 0] ![1, 64, 2048] inb_S8x64x2048_S1x64x2048_2_0_0))
    (View.ld x (Rect.unit ![3, 0, 0] ![1, 64, 2048] inb_S8x64x2048_S1x64x2048_3_0_0))
    (View.ld x (Rect.unit ![4, 0, 0] ![1, 64, 2048] inb_S8x64x2048_S1x64x2048_4_0_0))
    (View.ld x (Rect.unit ![5, 0, 0] ![1, 64, 2048] inb_S8x64x2048_S1x64x2048_5_0_0))
    (View.ld x (Rect.unit ![6, 0, 0] ![1, 64, 2048] inb_S8x64x2048_S1x64x2048_6_0_0))
    (View.ld x (Rect.unit ![7, 0, 0] ![1, 64, 2048] inb_S8x64x2048_S1x64x2048_7_0_0))

/-- What the call writes at a grid point, from the weight's block, the parts' block and the moments' blocks. -/
def four (w : Vec F S64x2048 .f32) (x : Vec F S8x64x2048 .bf16) (p v : Vec F S64x2048 .f32) :
    Vec F S64x2048 .f32 × Vec F S64x2048 .f32 × Vec F S64x2048 .f32 × Vec F S64x2048 .f32 :=
  (g8 x, k0_pay3 (g8 x) p k0_pay8 v w, k0_pay1 (g8 x) p k0_pay8, k0_pay2 (g8 x) v)

variable (m : (ℓ : Loc nD τ sig) → Buf (Elt F) ℓ) (c : Dev nD) (t : Fin cfg0.N)

theorem caseA (h0 : t.val < 11) (h1 : ¬ 11 ≤ t.val) :
    outsAt0 m c t.val t.isLt = four (iblk m c 0 t) (iblk m c 1 t) (iblk m c 3 t) (iblk m c 4 t) := by
  rw [outsAt0_A m c t h0 h1]
  unfold four
  refine Prod.ext ?_ (Prod.ext ?_ (Prod.ext ?_ ?_)) <;> dsimp only
  on_goal 1 => unfold out0_A_5; refine (View.read_writes_eq_canon _ _ _ fun y => cover0_A_5 ..).trans ?_
  on_goal 2 => unfold out0_A_6; refine (View.read_writes_eq_canon _ _ _ fun y => cover0_A_6 ..).trans ?_
  on_goal 3 => unfold out0_A_7; refine (View.read_writes_eq_canon _ _ _ fun y => cover0_A_7 ..).trans ?_
  on_goal 4 => unfold out0_A_8; refine (View.read_writes_eq_canon _ _ _ fun y => cover0_A_8 ..).trans ?_
  all_goals
    unfold kernelRun0_A; dsimp only; sl_unfold_words
    refine (View.canon_unit_zero (S := S64x2048) zero2 _ _).trans ?_
    simp only [View.readAt_eq_ld, Memref.IsWhole.read_unread, read_unread_whole, View.ld_unit_zero (S := S64x2048) zero2]
    rfl

theorem caseB (h0 : ¬ t.val < 11) (h1 : 11 ≤ t.val) :
    outsAt0 m c t.val t.isLt = four (iblk m c 0 t) (iblk m c 2 t) (iblk m c 3 t) (iblk m c 4 t) := by
  rw [outsAt0_B m c t h0 h1]
  unfold four
  refine Prod.ext ?_ (Prod.ext ?_ (Prod.ext ?_ ?_)) <;> dsimp only
  on_goal 1 => unfold out0_B_5; refine (View.read_writes_eq_canon _ _ _ fun y => cover0_B_5 ..).trans ?_
  on_goal 2 => unfold out0_B_6; refine (View.read_writes_eq_canon _ _ _ fun y => cover0_B_6 ..).trans ?_
  on_goal 3 => unfold out0_B_7; refine (View.read_writes_eq_canon _ _ _ fun y => cover0_B_7 ..).trans ?_
  on_goal 4 => unfold out0_B_8; refine (View.read_writes_eq_canon _ _ _ fun y => cover0_B_8 ..).trans ?_
  all_goals
    unfold kernelRun0_B; dsimp only; sl_unfold_words
    refine (View.canon_unit_zero (S := S64x2048) zero2 _ _).trans ?_
    simp only [View.readAt_eq_ld, Memref.IsWhole.read_unread, read_unread_whole, View.ld_unit_zero (S := S64x2048) zero2]
    rfl

end Cases

theorem g8_at (x : Vec Ideal S8x64x2048 .bf16) (r : Fin 64) (s : Fin 2048) :
    (g8 x (ix2 r s) : EReal) = sum8 fun d => x (ix3 d r s) := by
  unfold g8 k0_pay7
  pointwise []
  rfl

variable (m : (ℓ : Loc nD τ sig) → Buf (Elt Ideal) ℓ) (c : Dev nD)

abbrev a0 : FVec Ideal S1408x2048 .f32 := m ((c : Thread nD τ).loc main_arg0)
abbrev a1 : FVec Ideal S8x704x2048 .bf16 := m ((c : Thread nD τ).loc main_arg1)
abbrev a2 : FVec Ideal S8x704x2048 .bf16 := m ((c : Thread nD τ).loc main_arg2)
abbrev a3 : FVec Ideal S1408x2048 .f32 := m ((c : Thread nD τ).loc main_arg3)
abbrev a4 : FVec Ideal S1408x2048 .f32 := m ((c : Thread nD τ).loc main_arg4)

theorem idx : ∀ t : Fin cfg0.N, win0_0.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] := by
  decide +kernel

theorem idxA : ∀ t : Fin cfg0.N, t.val < 11 → win0_1.index t = ![0, t.val, 0] := by
  decide +kernel

theorem idxB : ∀ t : Fin cfg0.N, ¬ t.val < 11 → win0_2.index t = ![0, t.val - 11, 0] := by
  decide +kernel

variable (t : Fin cfg0.N)

theorem lt : t.val < 22 := t.isLt

abbrev row (r : Fin 64) : Fin 1408 := ⟨64 * t.val + r.val, by have := lt t; omega⟩

theorem blk0 (r : Fin 64) (s : Fin 2048) : iblk m c 0 t (ix2 r s) = a0 m c (ix2 (row t r) s) := by
  unfold row
  blk_ext [iblk, V, (idx t).1]

theorem blk3 (r : Fin 64) (s : Fin 2048) : iblk m c 3 t (ix2 r s) = a3 m c (ix2 (row t r) s) := by
  unfold row
  blk_ext [iblk, V, (idx t).2.1]

theorem blk4 (r : Fin 64) (s : Fin 2048) : iblk m c 4 t (ix2 r s) = a4 m c (ix2 (row t r) s) := by
  unfold row
  blk_ext [iblk, V, (idx t).2.2.1]

theorem blk1 (h : t.val < 11) (d : Fin 8) (r : Fin 64) (s : Fin 2048) :
    iblk m c 1 t (ix3 d r s) = a1 m c (ix3 d ⟨64 * t.val + r.val, by omega⟩ s) := by
  blk_ext [iblk, V, idxA t h]

theorem blk2 (h : ¬ t.val < 11) (d : Fin 8) (r : Fin 64) (s : Fin 2048) :
    iblk m c 2 t (ix3 d r s) = a2 m c (ix3 d ⟨64 * t.val + r.val - 704, by have := lt t; omega⟩ s) := by
  blk_ext [iblk, V, idxB t h]

/-- The parts' block of a grid point: the first layer's, then the second's. -/
abbrev parts : Vec Ideal S8x64x2048 .bf16 := if t.val < 11 then iblk m c 1 t else iblk m c 2 t

theorem outs : outsAt0 m c t.val t.isLt = four (iblk m c 0 t) (parts m c t) (iblk m c 3 t) (iblk m c 4 t) := by
  unfold parts
  by_cases h : t.val < 11
  · rw [if_pos h]; exact caseA m c t h (by omega)
  · rw [if_neg h]; exact caseB m c t h (by omega)

theorem pointG (r : Fin 64) (s : Fin 2048) :
    g8 (parts m c t) (ix2 r s) = valG (a1 m c) (a2 m c) (ix2 (row t r) s) := by
  refine (g8_at _ r s).trans ((sum8_eq _).trans ?_)
  unfold parts
  by_cases h : t.val < 11
  · rw [if_pos h, valG_lt _ _ _ _ (by show 64 * t.val + r.val < 704; omega)]
    exact Finset.sum_congr rfl fun d _ => blk1 m c t h d r s
  · rw [if_neg h, valG_ge _ _ _ _ (by show ¬ 64 * t.val + r.val < 704; omega)]
    exact Finset.sum_congr rfl fun d _ => blk2 m c t h d r s

theorem pointM (r : Fin 64) (s : Fin 2048) :
    k0_pay1 (g8 (parts m c t)) (iblk m c 3 t : Vec Ideal S64x2048 .f32) k0_pay8 (ix2 r s) = valM (a1 m c) (a2 m c) (a3 m c) (ix2 (row t r) s) :=
  (show _ = mom _ _ from rfl).trans ((congr2 mom (blk3 m c t r s) (pointG m c t r s)).trans (valM_at _ _ _ _).symm)

theorem pointV (r : Fin 64) (s : Fin 2048) :
    k0_pay2 (g8 (parts m c t)) (iblk m c 4 t : Vec Ideal S64x2048 .f32) (ix2 r s) = valV (a1 m c) (a2 m c) (a4 m c) (ix2 (row t r) s) :=
  (show _ = sec _ _ from rfl).trans ((congr2 sec (blk4 m c t r s) (pointG m c t r s)).trans (valV_at _ _ _ _).symm)

theorem pointD (r : Fin 64) (s : Fin 2048) :
    k0_pay3 (g8 (parts m c t)) (iblk m c 3 t : Vec Ideal S64x2048 .f32) k0_pay8 (iblk m c 4 t : Vec Ideal S64x2048 .f32) (iblk m c 0 t : Vec Ideal S64x2048 .f32) (ix2 r s)
      = valD (a0 m c) (a1 m c) (a2 m c) (a3 m c) (a4 m c) (ix2 (row t r) s) :=
  (show _ = del _ _ _ _ from rfl).trans ((congr4 del (blk0 m c t r s) (pointG m c t r s) (blk3 m c t r s) (blk4 m c t r s)).trans (valD_at _ _ _ _ _ _).symm)

/-- Where a block's entry lies in the whole array. -/
theorem place (y : S64x2048.Idx) (f : S1408x2048.Idx → EReal) (z : S1408x2048.Idx) (h0 : (z 0).val = t.val * 64 + (y 0).val) (h1 : (z 1).val = (y 1).val) :
    f (ix2 (row t (y 0)) (y 1)) = f z := by
  refine congrArg f (funext fun a => Fin.ext ?_)
  match a with
  | ⟨0, _⟩ => show 64 * t.val + (y 0).val = (z 0).val; omega
  | ⟨1, _⟩ => exact h1.symm

theorem outG : (dats m 0 c).arrAt 5 cfg0.N = valG (a1 m c) (a2 m c) := by
  refine (dats m 0 c).arrAt_eq_of_covers 5 _ (by decide +kernel) fun t hf y => ?_
  blk_simp
  rw [after0_5, outs]
  refine (congrArg (g8 _) (eta2 (n0 := 64) (n1 := 2048) y)).trans ((pointG m c t _ _).trans ?_)
  have e := (idx t).2.2.2.1
  refine place t y _ _ ?_ ?_
  · show win0_5.index t 0 * 64 + 1 * (y 0).val = _
    rw [e]; show t.val * 64 + _ = _; omega
  · show win0_5.index t 1 * 2048 + 1 * (y 1).val = _
    rw [e]; show 0 * 2048 + _ = _; omega

theorem outD : (dats m 0 c).arrAt 6 cfg0.N = valD (a0 m c) (a1 m c) (a2 m c) (a3 m c) (a4 m c) := by
  refine (dats m 0 c).arrAt_eq_of_covers 6 _ (by decide +kernel) fun t hf y => ?_
  blk_simp
  rw [after0_6, outs]
  refine (congrArg (k0_pay3 _ _ _ _ _) (eta2 (n0 := 64) (n1 := 2048) y)).trans ((pointD m c t _ _).trans ?_)
  have e := (idx t).2.2.2.2.1
  refine place t y _ _ ?_ ?_
  · show win0_6.index t 0 * 64 + 1 * (y 0).val = _
    rw [e]; show t.val * 64 + _ = _; omega
  · show win0_6.index t 1 * 2048 + 1 * (y 1).val = _
    rw [e]; show 0 * 2048 + _ = _; omega

theorem outM : (dats m 0 c).arrAt 7 cfg0.N = valM (a1 m c) (a2 m c) (a3 m c) := by
  refine (dats m 0 c).arrAt_eq_of_covers 7 _ (by decide +kernel) fun t hf y => ?_
  blk_simp
  rw [after0_7, outs]
  refine (congrArg (k0_pay1 _ _ _) (eta2 (n0 := 64) (n1 := 2048) y)).trans ((pointM m c t _ _).trans ?_)
  have e := (idx t).2.2.2.2.2.1
  refine place t y _ _ ?_ ?_
  · show win0_7.index t 0 * 64 + 1 * (y 0).val = _
    rw [e]; show t.val * 64 + _ = _; omega
  · show win0_7.index t 1 * 2048 + 1 * (y 1).val = _
    rw [e]; show 0 * 2048 + _ = _; omega

theorem outV : (dats m 0 c).arrAt 8 cfg0.N = valV (a1 m c) (a2 m c) (a4 m c) := by
  refine (dats m 0 c).arrAt_eq_of_covers 8 _ (by decide +kernel) fun t hf y => ?_
  blk_simp
  rw [after0_8, outs]
  refine (congrArg (k0_pay2 _ _) (eta2 (n0 := 64) (n1 := 2048) y)).trans ((pointV m c t _ _).trans ?_)
  have e := (idx t).2.2.2.2.2.2
  refine place t y _ _ ?_ ?_
  · show win0_8.index t 0 * 64 + 1 * (y 0).val = _
    rw [e]; show t.val * 64 + _ = _; omega
  · show win0_8.index t 1 * 2048 + 1 * (y 1).val = _
    rw [e]; show 0 * 2048 + _ = _; omega

end Cert.AdamDown

end
-- ==== Proof.AdamIn.lean ====
/-
  The optimiser's call for the input weight over the extended reals, and the reference's term.
-/
module

public import proofs.«01_k».proof.Proof.Adam
public import proofs.«01_k».proof.Proof.Gen.Kernel23Ideal.Frame
public import proofs.«01_k».proof.Proof.Gen.Reference23Ideal.Run
public import Idealize.ShloMosaic.Lib.Pipeline.ReadBack

@[expose] public section

set_option maxRecDepth 16384

noncomputable section

namespace Cert.AdamIn

open Idealize.ShloMosaic Idealize.ShloMosaic.TcCoe Idealize.SL.Sem
open Cert.Prod Cert.Adam

section Ref

open Cert.Reference23Ideal Cert.Reference23Ideal.Gen

/-- The reference's gradient: each layer's parts added. -/
def valG (P Q : FVec Ideal S8x2048x1162 .bf16) : FVec Ideal S4096x1162 .f32 :=
  concatenate S4096x1162 0 [⟨S2048x1162, Host.reduceAdd (extf .f32 P bitsLt_bf16_f32) (constant S_ .f32 0x00000000#32) reducesTo_S8x2048x1162_S2048x1162_d0 h_S_⟩,
    ⟨S2048x1162, Host.reduceAdd (extf .f32 Q bitsLt_bf16_f32) (constant S_ .f32 0x00000000#32) reducesTo_S8x2048x1162_S2048x1162_d0 h_S_⟩] concatenates_S2048x1162_S2048x1162_S4096x1162_d0

def valM (P Q : FVec Ideal S8x2048x1162 .bf16) (M : FVec Ideal S4096x1162 .f32) : FVec Ideal S4096x1162 .f32 :=
  addf (mulf (broadcastInDim S4096x1162 ![] bcast_S_S4096x1162 (constant S_ .f32 0x3F666666#32)) M)
    (mulf (broadcastInDim S4096x1162 ![] bcast_S_S4096x1162 (constant S_ .f32 0x3DCCCCCD#32)) (valG P Q))

def valV (P Q : FVec Ideal S8x2048x1162 .bf16) (V : FVec Ideal S4096x1162 .f32) : FVec Ideal S4096x1162 .f32 :=
  addf (mulf (broadcastInDim S4096x1162 ![] bcast_S_S4096x1162 (constant S_ .f32 0x3F7FBE77#32)) V)
    (mulf (broadcastInDim S4096x1162 ![] bcast_S_S4096x1162 (constant S_ .f32 0x3A83126F#32)) (mulf (valG P Q) (valG P Q)))

def valD (W : FVec Ideal S4096x1162 .f32) (P Q : FVec Ideal S8x2048x1162 .bf16) (M V : FVec Ideal S4096x1162 .f32) : FVec Ideal S4096x1162 .f32 :=
  mulf (broadcastInDim S4096x1162 ![] bcast_S_S4096x1162 (constant S_ .f32 0xBA83126F#32))
    (addf (Host.divf (Host.divf (valM P Q M) (broadcastInDim S4096x1162 ![] bcast_S_S4096x1162 (constant S_ .f32 0x3F26BD02#32)))
      (addf (Host.sqrt (Host.divf (valV P Q V) (broadcastInDim S4096x1162 ![] bcast_S_S4096x1162 (constant S_ .f32 0x3C231ACC#32))))
        (broadcastInDim S4096x1162 ![] bcast_S_S4096x1162 (constant S_ .f32 0x322BCC77#32))))
      (mulf (broadcastInDim S4096x1162 ![] bcast_S_S4096x1162 (constant S_ .f32 0x3C23D70A#32)) W))

theorem valM_at (P Q : FVec Ideal S8x2048x1162 .bf16) (M : FVec Ideal S4096x1162 .f32) (y : S4096x1162.Idx) :
    (valM P Q M y : EReal) = mom (M y) (valG P Q y) := rfl

theorem valV_at (P Q : FVec Ideal S8x2048x1162 .bf16) (V : FVec Ideal S4096x1162 .f32) (y : S4096x1162.Idx) :
    (valV P Q V y : EReal) = sec (V y) (valG P Q y) := rfl

theorem valD_at (W : FVec Ideal S4096x1162 .f32) (P Q : FVec Ideal S8x2048x1162 .bf16) (M V : FVec Ideal S4096x1162 .f32) (y : S4096x1162.Idx) :
    (valD W P Q M V y : EReal) = del (W y) (valG P Q y) (M y) (V y) := rfl

theorem valG_lt (P Q : FVec Ideal S8x2048x1162 .bf16) (i : Fin 4096) (j : Fin 1162) (h : i.val < 2048) :
    valG P Q (ix2 i j) = ∑ d : Fin 8, P (ix3 d ⟨i.val, h⟩ j) := by
  unfold valG
  pointwise []
  exact dif_pos h

theorem valG_ge (P Q : FVec Ideal S8x2048x1162 .bf16) (i : Fin 4096) (j : Fin 1162) (h : ¬ i.val < 2048) :
    valG P Q (ix2 i j) = ∑ d : Fin 8, Q (ix3 d ⟨i.val - 2048, by have := i.isLt; omega⟩ j) := by
  unfold valG
  pointwise []
  exact dif_neg h

end Ref

open Cert.Kernel23Ideal Cert.Kernel23Ideal.Gen

section Cases

variable {F : FTy → Type} [FloatOps F]

/-- The parts of a block, added. -/
def g8 (x : Vec F S8x256x1162 .bf16) : FVec F S256x1162 .f32 :=
  k0_pay7 (View.ld x (Rect.unit ![0, 0, 0] ![1, 256, 1162] inb_S8x256x1162_S1x256x1162_0_0_0))
    (View.ld x (Rect.unit ![1, 0, 0] ![1, 256, 1162] inb_S8x256x1162_S1x256x1162_1_0_0))
    (View.ld x (Rect.unit ![2, 0, 0] ![1, 256, 1162] inb_S8x256x1162_S1x256x1162_2_0_0))
    (View.ld x (Rect.unit ![3, 0, 0] ![1, 256, 1162] inb_S8x256x1162_S1x256x1162_3_0_0))
    (View.ld x (Rect.unit ![4, 0, 0] ![1, 256, 1162] inb_S8x256x1162_S1x256x1162_4_0_0))
    (View.ld x (Rect.unit ![5, 0, 0] ![1, 256, 1162] inb_S8x256x1162_S1x256x1162_5_0_0))
    (View.ld x (Rect.unit ![6, 0, 0] ![1, 256, 1162] inb_S8x256x1162_S1x256x1162_6_0_0))
    (View.ld x (Rect.unit ![7, 0, 0] ![1, 256, 1162] inb_S8x256x1162_S1x256x1162_7_0_0))

/-- What the call writes at a grid point, from the weight's block, the parts' block and the moments' blocks. -/
def four (w : Vec F S256x1162 .f32) (x : Vec F S8x256x1162 .bf16) (p v : Vec F S256x1162 .f32) :
    Vec F S256x1162 .f32 × Vec F S256x1162 .f32 × Vec F S256x1162 .f32 × Vec F S256x1162 .f32 :=
  (g8 x, k0_pay3 (g8 x) p k0_pay8 v w, k0_pay1 (g8 x) p k0_pay8, k0_pay2 (g8 x) v)

variable (m : (ℓ : Loc nD τ sig) → Buf (Elt F) ℓ) (c : Dev nD) (t : Fin cfg0.N)

theorem caseA (h0 : t.val < 8) (h1 : ¬ 8 ≤ t.val) :
    outsAt0 m c t.val t.isLt = four (iblk m c 0 t) (iblk m c 1 t) (iblk m c 3 t) (iblk m c 4 t) := by
  rw [outsAt0_A m c t h0 h1]
  unfold four
  refine Prod.ext ?_ (Prod.ext ?_ (Prod.ext ?_ ?_)) <;> dsimp only
  on_goal 1 => unfold out0_A_5; refine (View.read_writes_eq_canon _ _ _ fun y => cover0_A_5 ..).trans ?_
  on_goal 2 => unfold out0_A_6; refine (View.read_writes_eq_canon _ _ _ fun y => cover0_A_6 ..).trans ?_
  on_goal 3 => unfold out0_A_7; refine (View.read_writes_eq_canon _ _ _ fun y => cover0_A_7 ..).trans ?_
  on_goal 4 => unfold out0_A_8; refine (View.read_writes_eq_canon _ _ _ fun y => cover0_A_8 ..).trans ?_
  all_goals
    unfold kernelRun0_A; dsimp only; sl_unfold_words
    refine (View.canon_unit_zero (S := S256x1162) zero2 _ _).trans ?_
    simp only [View.readAt_eq_ld, Memref.IsWhole.read_unread, read_unread_whole, View.ld_unit_zero (S := S256x1162) zero2]
    rfl

theorem caseB (h0 : ¬ t.val < 8) (h1 : 8 ≤ t.val) :
    outsAt0 m c t.val t.isLt = four (iblk m c 0 t) (iblk m c 2 t) (iblk m c 3 t) (iblk m c 4 t) := by
  rw [outsAt0_B m c t h0 h1]
  unfold four
  refine Prod.ext ?_ (Prod.ext ?_ (Prod.ext ?_ ?_)) <;> dsimp only
  on_goal 1 => unfold out0_B_5; refine (View.read_writes_eq_canon _ _ _ fun y => cover0_B_5 ..).trans ?_
  on_goal 2 => unfold out0_B_6; refine (View.read_writes_eq_canon _ _ _ fun y => cover0_B_6 ..).trans ?_
  on_goal 3 => unfold out0_B_7; refine (View.read_writes_eq_canon _ _ _ fun y => cover0_B_7 ..).trans ?_
  on_goal 4 => unfold out0_B_8; refine (View.read_writes_eq_canon _ _ _ fun y => cover0_B_8 ..).trans ?_
  all_goals
    unfold kernelRun0_B; dsimp only; sl_unfold_words
    refine (View.canon_unit_zero (S := S256x1162) zero2 _ _).trans ?_
    simp only [View.readAt_eq_ld, Memref.IsWhole.read_unread, read_unread_whole, View.ld_unit_zero (S := S256x1162) zero2]
    rfl

end Cases

theorem g8_at (x : Vec Ideal S8x256x1162 .bf16) (r : Fin 256) (s : Fin 1162) :
    (g8 x (ix2 r s) : EReal) = sum8 fun d => x (ix3 d r s) := by
  unfold g8 k0_pay7
  pointwise []
  rfl

variable (m : (ℓ : Loc nD τ sig) → Buf (Elt Ideal) ℓ) (c : Dev nD)

abbrev a0 : FVec Ideal S4096x1162 .f32 := m ((c : Thread nD τ).loc main_arg0)
abbrev a1 : FVec Ideal S8x2048x1162 .bf16 := m ((c : Thread nD τ).loc main_arg1)
abbrev a2 : FVec Ideal S8x2048x1162 .bf16 := m ((c : Thread nD τ).loc main_arg2)
abbrev a3 : FVec Ideal S4096x1162 .f32 := m ((c : Thread nD τ).loc main_arg3)
abbrev a4 : FVec Ideal S4096x1162 .f32 := m ((c : Thread nD τ).loc main_arg4)

theorem idx : ∀ t : Fin cfg0.N, win0_0.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] := by
  decide +kernel

theorem idxA : ∀ t : Fin cfg0.N, t.val < 8 → win0_1.index t = ![0, t.val, 0] := by
  decide +kernel

theorem idxB : ∀ t : Fin cfg0.N, ¬ t.val < 8 → win0_2.index t = ![0, t.val - 8, 0] := by
  decide +kernel

variable (t : Fin cfg0.N)

theorem lt : t.val < 16 := t.isLt

abbrev row (r : Fin 256) : Fin 4096 := ⟨256 * t.val + r.val, by have := lt t; omega⟩

theorem blk0 (r : Fin 256) (s : Fin 1162) : iblk m c 0 t (ix2 r s) = a0 m c (ix2 (row t r) s) := by
  unfold row
  blk_ext [iblk, V, (idx t).1]

theorem blk3 (r : Fin 256) (s : Fin 1162) : iblk m c 3 t (ix2 r s) = a3 m c (ix2 (row t r) s) := by
  unfold row
  blk_ext [iblk, V, (idx t).2.1]

theorem blk4 (r : Fin 256) (s : Fin 1162) : iblk m c 4 t (ix2 r s) = a4 m c (ix2 (row t r) s) := by
  unfold row
  blk_ext [iblk, V, (idx t).2.2.1]

theorem blk1 (h : t.val < 8) (d : Fin 8) (r : Fin 256) (s : Fin 1162) :
    iblk m c 1 t (ix3 d r s) = a1 m c (ix3 d ⟨256 * t.val + r.val, by omega⟩ s) := by
  blk_ext [iblk, V, idxA t h]

theorem blk2 (h : ¬ t.val < 8) (d : Fin 8) (r : Fin 256) (s : Fin 1162) :
    iblk m c 2 t (ix3 d r s) = a2 m c (ix3 d ⟨256 * t.val + r.val - 2048, by have := lt t; omega⟩ s) := by
  blk_ext [iblk, V, idxB t h]

/-- The parts' block of a grid point: the first layer's, then the second's. -/
abbrev parts : Vec Ideal S8x256x1162 .bf16 := if t.val < 8 then iblk m c 1 t else iblk m c 2 t

theorem outs : outsAt0 m c t.val t.isLt = four (iblk m c 0 t) (parts m c t) (iblk m c 3 t) (iblk m c 4 t) := by
  unfold parts
  by_cases h : t.val < 8
  · rw [if_pos h]; exact caseA m c t h (by omega)
  · rw [if_neg h]; exact caseB m c t h (by omega)

theorem pointG (r : Fin 256) (s : Fin 1162) :
    g8 (parts m c t) (ix2 r s) = valG (a1 m c) (a2 m c) (ix2 (row t r) s) := by
  refine (g8_at _ r s).trans ((sum8_eq _).trans ?_)
  unfold parts
  by_cases h : t.val < 8
  · rw [if_pos h, valG_lt _ _ _ _ (by show 256 * t.val + r.val < 2048; omega)]
    exact Finset.sum_congr rfl fun d _ => blk1 m c t h d r s
  · rw [if_neg h, valG_ge _ _ _ _ (by show ¬ 256 * t.val + r.val < 2048; omega)]
    exact Finset.sum_congr rfl fun d _ => blk2 m c t h d r s

theorem pointM (r : Fin 256) (s : Fin 1162) :
    k0_pay1 (g8 (parts m c t)) (iblk m c 3 t : Vec Ideal S256x1162 .f32) k0_pay8 (ix2 r s) = valM (a1 m c) (a2 m c) (a3 m c) (ix2 (row t r) s) :=
  (show _ = mom _ _ from rfl).trans ((congr2 mom (blk3 m c t r s) (pointG m c t r s)).trans (valM_at _ _ _ _).symm)

theorem pointV (r : Fin 256) (s : Fin 1162) :
    k0_pay2 (g8 (parts m c t)) (iblk m c 4 t : Vec Ideal S256x1162 .f32) (ix2 r s) = valV (a1 m c) (a2 m c) (a4 m c) (ix2 (row t r) s) :=
  (show _ = sec _ _ from rfl).trans ((congr2 sec (blk4 m c t r s) (pointG m c t r s)).trans (valV_at _ _ _ _).symm)

theorem pointD (r : Fin 256) (s : Fin 1162) :
    k0_pay3 (g8 (parts m c t)) (iblk m c 3 t : Vec Ideal S256x1162 .f32) k0_pay8 (iblk m c 4 t : Vec Ideal S256x1162 .f32) (iblk m c 0 t : Vec Ideal S256x1162 .f32) (ix2 r s)
      = valD (a0 m c) (a1 m c) (a2 m c) (a3 m c) (a4 m c) (ix2 (row t r) s) :=
  (show _ = del _ _ _ _ from rfl).trans ((congr4 del (blk0 m c t r s) (pointG m c t r s) (blk3 m c t r s) (blk4 m c t r s)).trans (valD_at _ _ _ _ _ _).symm)

/-- Where a block's entry lies in the whole array. -/
theorem place (y : S256x1162.Idx) (f : S4096x1162.Idx → EReal) (z : S4096x1162.Idx) (h0 : (z 0).val = t.val * 256 + (y 0).val) (h1 : (z 1).val = (y 1).val) :
    f (ix2 (row t (y 0)) (y 1)) = f z := by
  refine congrArg f (funext fun a => Fin.ext ?_)
  match a with
  | ⟨0, _⟩ => show 256 * t.val + (y 0).val = (z 0).val; omega
  | ⟨1, _⟩ => exact h1.symm

theorem outG : (dats m 0 c).arrAt 5 cfg0.N = valG (a1 m c) (a2 m c) := by
  refine (dats m 0 c).arrAt_eq_of_covers 5 _ (by decide +kernel) fun t hf y => ?_
  blk_simp
  rw [after0_5, outs]
  refine (congrArg (g8 _) (eta2 (n0 := 256) (n1 := 1162) y)).trans ((pointG m c t _ _).trans ?_)
  have e := (idx t).2.2.2.1
  refine place t y _ _ ?_ ?_
  · show win0_5.index t 0 * 256 + 1 * (y 0).val = _
    rw [e]; show t.val * 256 + _ = _; omega
  · show win0_5.index t 1 * 1162 + 1 * (y 1).val = _
    rw [e]; show 0 * 1162 + _ = _; omega

theorem outD : (dats m 0 c).arrAt 6 cfg0.N = valD (a0 m c) (a1 m c) (a2 m c) (a3 m c) (a4 m c) := by
  refine (dats m 0 c).arrAt_eq_of_covers 6 _ (by decide +kernel) fun t hf y => ?_
  blk_simp
  rw [after0_6, outs]
  refine (congrArg (k0_pay3 _ _ _ _ _) (eta2 (n0 := 256) (n1 := 1162) y)).trans ((pointD m c t _ _).trans ?_)
  have e := (idx t).2.2.2.2.1
  refine place t y _ _ ?_ ?_
  · show win0_6.index t 0 * 256 + 1 * (y 0).val = _
    rw [e]; show t.val * 256 + _ = _; omega
  · show win0_6.index t 1 * 1162 + 1 * (y 1).val = _
    rw [e]; show 0 * 1162 + _ = _; omega

theorem outM : (dats m 0 c).arrAt 7 cfg0.N = valM (a1 m c) (a2 m c) (a3 m c) := by
  refine (dats m 0 c).arrAt_eq_of_covers 7 _ (by decide +kernel) fun t hf y => ?_
  blk_simp
  rw [after0_7, outs]
  refine (congrArg (k0_pay1 _ _ _) (eta2 (n0 := 256) (n1 := 1162) y)).trans ((pointM m c t _ _).trans ?_)
  have e := (idx t).2.2.2.2.2.1
  refine place t y _ _ ?_ ?_
  · show win0_7.index t 0 * 256 + 1 * (y 0).val = _
    rw [e]; show t.val * 256 + _ = _; omega
  · show win0_7.index t 1 * 1162 + 1 * (y 1).val = _
    rw [e]; show 0 * 1162 + _ = _; omega

theorem outV : (dats m 0 c).arrAt 8 cfg0.N = valV (a1 m c) (a2 m c) (a4 m c) := by
  refine (dats m 0 c).arrAt_eq_of_covers 8 _ (by decide +kernel) fun t hf y => ?_
  blk_simp
  rw [after0_8, outs]
  refine (congrArg (k0_pay2 _ _) (eta2 (n0 := 256) (n1 := 1162) y)).trans ((pointV m c t _ _).trans ?_)
  have e := (idx t).2.2.2.2.2.2
  refine place t y _ _ ?_ ?_
  · show win0_8.index t 0 * 256 + 1 * (y 0).val = _
    rw [e]; show t.val * 256 + _ = _; omega
  · show win0_8.index t 1 * 1162 + 1 * (y 1).val = _
    rw [e]; show 0 * 1162 + _ = _; omega

end Cert.AdamIn

end
-- ==== Proof.AdamOut.lean ====
/-
  The optimiser's call for the mixers' joint output weight over the extended reals, and the reference's term.
-/
module

public import proofs.«01_k».proof.Proof.Adam
public import proofs.«01_k».proof.Proof.Gen.Kernel24Ideal.Frame
public import proofs.«01_k».proof.Proof.Gen.Reference24Ideal.Run
public import Idealize.ShloMosaic.Lib.Pipeline.ReadBack

@[expose] public section

set_option maxRecDepth 16384

noncomputable section

namespace Cert.AdamOut

open Idealize.ShloMosaic Idealize.ShloMosaic.TcCoe Idealize.SL.Sem
open Cert.Prod Cert.Adam

section Ref

open Cert.Reference24Ideal Cert.Reference24Ideal.Gen

/-- The reference's gradient: each layer's parts added. -/
def valG (P Q : FVec Ideal S8x256x2048 .bf16) : FVec Ideal S512x2048 .f32 :=
  concatenate S512x2048 0 [⟨S256x2048, Host.reduceAdd (extf .f32 P bitsLt_bf16_f32) (constant S_ .f32 0x00000000#32) reducesTo_S8x256x2048_S256x2048_d0 h_S_⟩,
    ⟨S256x2048, Host.reduceAdd (extf .f32 Q bitsLt_bf16_f32) (constant S_ .f32 0x00000000#32) reducesTo_S8x256x2048_S256x2048_d0 h_S_⟩] concatenates_S256x2048_S256x2048_S512x2048_d0

def valM (P Q : FVec Ideal S8x256x2048 .bf16) (M : FVec Ideal S512x2048 .f32) : FVec Ideal S512x2048 .f32 :=
  addf (mulf (broadcastInDim S512x2048 ![] bcast_S_S512x2048 (constant S_ .f32 0x3F666666#32)) M)
    (mulf (broadcastInDim S512x2048 ![] bcast_S_S512x2048 (constant S_ .f32 0x3DCCCCCD#32)) (valG P Q))

def valV (P Q : FVec Ideal S8x256x2048 .bf16) (V : FVec Ideal S512x2048 .f32) : FVec Ideal S512x2048 .f32 :=
  addf (mulf (broadcastInDim S512x2048 ![] bcast_S_S512x2048 (constant S_ .f32 0x3F7FBE77#32)) V)
    (mulf (broadcastInDim S512x2048 ![] bcast_S_S512x2048 (constant S_ .f32 0x3A83126F#32)) (mulf (valG P Q) (valG P Q)))

def valD (W : FVec Ideal S512x2048 .f32) (P Q : FVec Ideal S8x256x2048 .bf16) (M V : FVec Ideal S512x2048 .f32) : FVec Ideal S512x2048 .f32 :=
  mulf (broadcastInDim S512x2048 ![] bcast_S_S512x2048 (constant S_ .f32 0xBA83126F#32))
    (addf (Host.divf (Host.divf (valM P Q M) (broadcastInDim S512x2048 ![] bcast_S_S512x2048 (constant S_ .f32 0x3F26BD02#32)))
      (addf (Host.sqrt (Host.divf (valV P Q V) (broadcastInDim S512x2048 ![] bcast_S_S512x2048 (constant S_ .f32 0x3C231ACC#32))))
        (broadcastInDim S512x2048 ![] bcast_S_S512x2048 (constant S_ .f32 0x322BCC77#32))))
      (mulf (broadcastInDim S512x2048 ![] bcast_S_S512x2048 (constant S_ .f32 0x3C23D70A#32)) W))

theorem valM_at (P Q : FVec Ideal S8x256x2048 .bf16) (M : FVec Ideal S512x2048 .f32) (y : S512x2048.Idx) :
    (valM P Q M y : EReal) = mom (M y) (valG P Q y) := rfl

theorem valV_at (P Q : FVec Ideal S8x256x2048 .bf16) (V : FVec Ideal S512x2048 .f32) (y : S512x2048.Idx) :
    (valV P Q V y : EReal) = sec (V y) (valG P Q y) := rfl

theorem valD_at (W : FVec Ideal S512x2048 .f32) (P Q : FVec Ideal S8x256x2048 .bf16) (M V : FVec Ideal S512x2048 .f32) (y : S512x2048.Idx) :
    (valD W P Q M V y : EReal) = del (W y) (valG P Q y) (M y) (V y) := rfl

theorem valG_lt (P Q : FVec Ideal S8x256x2048 .bf16) (i : Fin 512) (j : Fin 2048) (h : i.val < 256) :
    valG P Q (ix2 i j) = ∑ d : Fin 8, P (ix3 d ⟨i.val, h⟩ j) := by
  unfold valG
  pointwise []
  exact dif_pos h

theorem valG_ge (P Q : FVec Ideal S8x256x2048 .bf16) (i : Fin 512) (j : Fin 2048) (h : ¬ i.val < 256) :
    valG P Q (ix2 i j) = ∑ d : Fin 8, Q (ix3 d ⟨i.val - 256, by have := i.isLt; omega⟩ j) := by
  unfold valG
  pointwise []
  exact dif_neg h

end Ref

open Cert.Kernel24Ideal Cert.Kernel24Ideal.Gen

section Cases

variable {F : FTy → Type} [FloatOps F]

/-- The parts of a block, added. -/
def g8 (x : Vec F S8x128x2048 .bf16) : FVec F S128x2048 .f32 :=
  k0_pay7 (View.ld x (Rect.unit ![0, 0, 0] ![1, 128, 2048] inb_S8x128x2048_S1x128x2048_0_0_0))
    (View.ld x (Rect.unit ![1, 0, 0] ![1, 128, 2048] inb_S8x128x2048_S1x128x2048_1_0_0))
    (View.ld x (Rect.unit ![2, 0, 0] ![1, 128, 2048] inb_S8x128x2048_S1x128x2048_2_0_0))
    (View.ld x (Rect.unit ![3, 0, 0] ![1, 128, 2048] inb_S8x128x2048_S1x128x2048_3_0_0))
    (View.ld x (Rect.unit ![4, 0, 0] ![1, 128, 2048] inb_S8x128x2048_S1x128x2048_4_0_0))
    (View.ld x (Rect.unit ![5, 0, 0] ![1, 128, 2048] inb_S8x128x2048_S1x128x2048_5_0_0))
    (View.ld x (Rect.unit ![6, 0, 0] ![1, 128, 2048] inb_S8x128x2048_S1x128x2048_6_0_0))
    (View.ld x (Rect.unit ![7, 0, 0] ![1, 128, 2048] inb_S8x128x2048_S1x128x2048_7_0_0))

/-- What the call writes at a grid point, from the weight's block, the parts' block and the moments' blocks. -/
def four (w : Vec F S128x2048 .f32) (x : Vec F S8x128x2048 .bf16) (p v : Vec F S128x2048 .f32) :
    Vec F S128x2048 .f32 × Vec F S128x2048 .f32 × Vec F S128x2048 .f32 × Vec F S128x2048 .f32 :=
  (g8 x, k0_pay3 (g8 x) p k0_pay8 v w, k0_pay1 (g8 x) p k0_pay8, k0_pay2 (g8 x) v)

variable (m : (ℓ : Loc nD τ sig) → Buf (Elt F) ℓ) (c : Dev nD) (t : Fin cfg0.N)

theorem caseA (h0 : t.val < 2) (h1 : ¬ 2 ≤ t.val) :
    outsAt0 m c t.val t.isLt = four (iblk m c 0 t) (iblk m c 1 t) (iblk m c 3 t) (iblk m c 4 t) := by
  rw [outsAt0_A m c t h0 h1]
  unfold four
  refine Prod.ext ?_ (Prod.ext ?_ (Prod.ext ?_ ?_)) <;> dsimp only
  on_goal 1 => unfold out0_A_5; refine (View.read_writes_eq_canon _ _ _ fun y => cover0_A_5 ..).trans ?_
  on_goal 2 => unfold out0_A_6; refine (View.read_writes_eq_canon _ _ _ fun y => cover0_A_6 ..).trans ?_
  on_goal 3 => unfold out0_A_7; refine (View.read_writes_eq_canon _ _ _ fun y => cover0_A_7 ..).trans ?_
  on_goal 4 => unfold out0_A_8; refine (View.read_writes_eq_canon _ _ _ fun y => cover0_A_8 ..).trans ?_
  all_goals
    unfold kernelRun0_A; dsimp only; sl_unfold_words
    refine (View.canon_unit_zero (S := S128x2048) zero2 _ _).trans ?_
    simp only [View.readAt_eq_ld, Memref.IsWhole.read_unread, read_unread_whole, View.ld_unit_zero (S := S128x2048) zero2]
    rfl

theorem caseB (h0 : ¬ t.val < 2) (h1 : 2 ≤ t.val) :
    outsAt0 m c t.val t.isLt = four (iblk m c 0 t) (iblk m c 2 t) (iblk m c 3 t) (iblk m c 4 t) := by
  rw [outsAt0_B m c t h0 h1]
  unfold four
  refine Prod.ext ?_ (Prod.ext ?_ (Prod.ext ?_ ?_)) <;> dsimp only
  on_goal 1 => unfold out0_B_5; refine (View.read_writes_eq_canon _ _ _ fun y => cover0_B_5 ..).trans ?_
  on_goal 2 => unfold out0_B_6; refine (View.read_writes_eq_canon _ _ _ fun y => cover0_B_6 ..).trans ?_
  on_goal 3 => unfold out0_B_7; refine (View.read_writes_eq_canon _ _ _ fun y => cover0_B_7 ..).trans ?_
  on_goal 4 => unfold out0_B_8; refine (View.read_writes_eq_canon _ _ _ fun y => cover0_B_8 ..).trans ?_
  all_goals
    unfold kernelRun0_B; dsimp only; sl_unfold_words
    refine (View.canon_unit_zero (S := S128x2048) zero2 _ _).trans ?_
    simp only [View.readAt_eq_ld, Memref.IsWhole.read_unread, read_unread_whole, View.ld_unit_zero (S := S128x2048) zero2]
    rfl

end Cases

theorem g8_at (x : Vec Ideal S8x128x2048 .bf16) (r : Fin 128) (s : Fin 2048) :
    (g8 x (ix2 r s) : EReal) = sum8 fun d => x (ix3 d r s) := by
  unfold g8 k0_pay7
  pointwise []
  rfl

variable (m : (ℓ : Loc nD τ sig) → Buf (Elt Ideal) ℓ) (c : Dev nD)

abbrev a0 : FVec Ideal S512x2048 .f32 := m ((c : Thread nD τ).loc main_arg0)
abbrev a1 : FVec Ideal S8x256x2048 .bf16 := m ((c : Thread nD τ).loc main_arg1)
abbrev a2 : FVec Ideal S8x256x2048 .bf16 := m ((c : Thread nD τ).loc main_arg2)
abbrev a3 : FVec Ideal S512x2048 .f32 := m ((c : Thread nD τ).loc main_arg3)
abbrev a4 : FVec Ideal S512x2048 .f32 := m ((c : Thread nD τ).loc main_arg4)

theorem idx : ∀ t : Fin cfg0.N, win0_0.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] := by
  decide +kernel

theorem idxA : ∀ t : Fin cfg0.N, t.val < 2 → win0_1.index t = ![0, t.val, 0] := by
  decide +kernel

theorem idxB : ∀ t : Fin cfg0.N, ¬ t.val < 2 → win0_2.index t = ![0, t.val - 2, 0] := by
  decide +kernel

variable (t : Fin cfg0.N)

theorem lt : t.val < 4 := t.isLt

abbrev row (r : Fin 128) : Fin 512 := ⟨128 * t.val + r.val, by have := lt t; omega⟩

theorem blk0 (r : Fin 128) (s : Fin 2048) : iblk m c 0 t (ix2 r s) = a0 m c (ix2 (row t r) s) := by
  unfold row
  blk_ext [iblk, V, (idx t).1]

theorem blk3 (r : Fin 128) (s : Fin 2048) : iblk m c 3 t (ix2 r s) = a3 m c (ix2 (row t r) s) := by
  unfold row
  blk_ext [iblk, V, (idx t).2.1]

theorem blk4 (r : Fin 128) (s : Fin 2048) : iblk m c 4 t (ix2 r s) = a4 m c (ix2 (row t r) s) := by
  unfold row
  blk_ext [iblk, V, (idx t).2.2.1]

theorem blk1 (h : t.val < 2) (d : Fin 8) (r : Fin 128) (s : Fin 2048) :
    iblk m c 1 t (ix3 d r s) = a1 m c (ix3 d ⟨128 * t.val + r.val, by omega⟩ s) := by
  blk_ext [iblk, V, idxA t h]

theorem blk2 (h : ¬ t.val < 2) (d : Fin 8) (r : Fin 128) (s : Fin 2048) :
    iblk m c 2 t (ix3 d r s) = a2 m c (ix3 d ⟨128 * t.val + r.val - 256, by have := lt t; omega⟩ s) := by
  blk_ext [iblk, V, idxB t h]

/-- The parts' block of a grid point: the first layer's, then the second's. -/
abbrev parts : Vec Ideal S8x128x2048 .bf16 := if t.val < 2 then iblk m c 1 t else iblk m c 2 t

theorem outs : outsAt0 m c t.val t.isLt = four (iblk m c 0 t) (parts m c t) (iblk m c 3 t) (iblk m c 4 t) := by
  unfold parts
  by_cases h : t.val < 2
  · rw [if_pos h]; exact caseA m c t h (by omega)
  · rw [if_neg h]; exact caseB m c t h (by omega)

theorem pointG (r : Fin 128) (s : Fin 2048) :
    g8 (parts m c t) (ix2 r s) = valG (a1 m c) (a2 m c) (ix2 (row t r) s) := by
  refine (g8_at _ r s).trans ((sum8_eq _).trans ?_)
  unfold parts
  by_cases h : t.val < 2
  · rw [if_pos h, valG_lt _ _ _ _ (by show 128 * t.val + r.val < 256; omega)]
    exact Finset.sum_congr rfl fun d _ => blk1 m c t h d r s
  · rw [if_neg h, valG_ge _ _ _ _ (by show ¬ 128 * t.val + r.val < 256; omega)]
    exact Finset.sum_congr rfl fun d _ => blk2 m c t h d r s

theorem pointM (r : Fin 128) (s : Fin 2048) :
    k0_pay1 (g8 (parts m c t)) (iblk m c 3 t : Vec Ideal S128x2048 .f32) k0_pay8 (ix2 r s) = valM (a1 m c) (a2 m c) (a3 m c) (ix2 (row t r) s) :=
  (show _ = mom _ _ from rfl).trans ((congr2 mom (blk3 m c t r s) (pointG m c t r s)).trans (valM_at _ _ _ _).symm)

theorem pointV (r : Fin 128) (s : Fin 2048) :
    k0_pay2 (g8 (parts m c t)) (iblk m c 4 t : Vec Ideal S128x2048 .f32) (ix2 r s) = valV (a1 m c) (a2 m c) (a4 m c) (ix2 (row t r) s) :=
  (show _ = sec _ _ from rfl).trans ((congr2 sec (blk4 m c t r s) (pointG m c t r s)).trans (valV_at _ _ _ _).symm)

theorem pointD (r : Fin 128) (s : Fin 2048) :
    k0_pay3 (g8 (parts m c t)) (iblk m c 3 t : Vec Ideal S128x2048 .f32) k0_pay8 (iblk m c 4 t : Vec Ideal S128x2048 .f32) (iblk m c 0 t : Vec Ideal S128x2048 .f32) (ix2 r s)
      = valD (a0 m c) (a1 m c) (a2 m c) (a3 m c) (a4 m c) (ix2 (row t r) s) :=
  (show _ = del _ _ _ _ from rfl).trans ((congr4 del (blk0 m c t r s) (pointG m c t r s) (blk3 m c t r s) (blk4 m c t r s)).trans (valD_at _ _ _ _ _ _).symm)

/-- Where a block's entry lies in the whole array. -/
theorem place (y : S128x2048.Idx) (f : S512x2048.Idx → EReal) (z : S512x2048.Idx) (h0 : (z 0).val = t.val * 128 + (y 0).val) (h1 : (z 1).val = (y 1).val) :
    f (ix2 (row t (y 0)) (y 1)) = f z := by
  refine congrArg f (funext fun a => Fin.ext ?_)
  match a with
  | ⟨0, _⟩ => show 128 * t.val + (y 0).val = (z 0).val; omega
  | ⟨1, _⟩ => exact h1.symm

theorem outG : (dats m 0 c).arrAt 5 cfg0.N = valG (a1 m c) (a2 m c) := by
  refine (dats m 0 c).arrAt_eq_of_covers 5 _ (by decide +kernel) fun t hf y => ?_
  blk_simp
  rw [after0_5, outs]
  refine (congrArg (g8 _) (eta2 (n0 := 128) (n1 := 2048) y)).trans ((pointG m c t _ _).trans ?_)
  have e := (idx t).2.2.2.1
  refine place t y _ _ ?_ ?_
  · show win0_5.index t 0 * 128 + 1 * (y 0).val = _
    rw [e]; show t.val * 128 + _ = _; omega
  · show win0_5.index t 1 * 2048 + 1 * (y 1).val = _
    rw [e]; show 0 * 2048 + _ = _; omega

theorem outD : (dats m 0 c).arrAt 6 cfg0.N = valD (a0 m c) (a1 m c) (a2 m c) (a3 m c) (a4 m c) := by
  refine (dats m 0 c).arrAt_eq_of_covers 6 _ (by decide +kernel) fun t hf y => ?_
  blk_simp
  rw [after0_6, outs]
  refine (congrArg (k0_pay3 _ _ _ _ _) (eta2 (n0 := 128) (n1 := 2048) y)).trans ((pointD m c t _ _).trans ?_)
  have e := (idx t).2.2.2.2.1
  refine place t y _ _ ?_ ?_
  · show win0_6.index t 0 * 128 + 1 * (y 0).val = _
    rw [e]; show t.val * 128 + _ = _; omega
  · show win0_6.index t 1 * 2048 + 1 * (y 1).val = _
    rw [e]; show 0 * 2048 + _ = _; omega

theorem outM : (dats m 0 c).arrAt 7 cfg0.N = valM (a1 m c) (a2 m c) (a3 m c) := by
  refine (dats m 0 c).arrAt_eq_of_covers 7 _ (by decide +kernel) fun t hf y => ?_
  blk_simp
  rw [after0_7, outs]
  refine (congrArg (k0_pay1 _ _ _) (eta2 (n0 := 128) (n1 := 2048) y)).trans ((pointM m c t _ _).trans ?_)
  have e := (idx t).2.2.2.2.2.1
  refine place t y _ _ ?_ ?_
  · show win0_7.index t 0 * 128 + 1 * (y 0).val = _
    rw [e]; show t.val * 128 + _ = _; omega
  · show win0_7.index t 1 * 2048 + 1 * (y 1).val = _
    rw [e]; show 0 * 2048 + _ = _; omega

theorem outV : (dats m 0 c).arrAt 8 cfg0.N = valV (a1 m c) (a2 m c) (a4 m c) := by
  refine (dats m 0 c).arrAt_eq_of_covers 8 _ (by decide +kernel) fun t hf y => ?_
  blk_simp
  rw [after0_8, outs]
  refine (congrArg (k0_pay2 _ _) (eta2 (n0 := 128) (n1 := 2048) y)).trans ((pointV m c t _ _).trans ?_)
  have e := (idx t).2.2.2.2.2.2
  refine place t y _ _ ?_ ?_
  · show win0_8.index t 0 * 128 + 1 * (y 0).val = _
    rw [e]; show t.val * 128 + _ = _; omega
  · show win0_8.index t 1 * 2048 + 1 * (y 1).val = _
    rw [e]; show 0 * 2048 + _ = _; omega

end Cert.AdamOut

end
-- ==== Proof.AdamBranch.lean ====
/-
  The optimiser's call for a mixer's own output weight over the extended reals, and the reference's term.
-/
module

public import proofs.«01_k».proof.Proof.Adam
public import proofs.«01_k».proof.Proof.Gen.Kernel25Ideal.Frame
public import proofs.«01_k».proof.Proof.Gen.Reference25Ideal.Run
public import Idealize.ShloMosaic.Lib.Pipeline.ReadBack

@[expose] public section

set_option maxRecDepth 16384

noncomputable section

namespace Cert.AdamBranch

open Idealize.ShloMosaic Idealize.ShloMosaic.TcCoe Idealize.SL.Sem
open Cert.Prod Cert.Adam

section Ref

open Cert.Reference25Ideal Cert.Reference25Ideal.Gen

/-- The reference's gradient: each layer's parts added. -/
def valG (P Q : FVec Ideal S8x1024x256 .bf16) : FVec Ideal S2048x256 .f32 :=
  concatenate S2048x256 0 [⟨S1024x256, Host.reduceAdd (extf .f32 P bitsLt_bf16_f32) (constant S_ .f32 0x00000000#32) reducesTo_S8x1024x256_S1024x256_d0 h_S_⟩,
    ⟨S1024x256, Host.reduceAdd (extf .f32 Q bitsLt_bf16_f32) (constant S_ .f32 0x00000000#32) reducesTo_S8x1024x256_S1024x256_d0 h_S_⟩] concatenates_S1024x256_S1024x256_S2048x256_d0

def valM (P Q : FVec Ideal S8x1024x256 .bf16) (M : FVec Ideal S2048x256 .f32) : FVec Ideal S2048x256 .f32 :=
  addf (mulf (broadcastInDim S2048x256 ![] bcast_S_S2048x256 (constant S_ .f32 0x3F666666#32)) M)
    (mulf (broadcastInDim S2048x256 ![] bcast_S_S2048x256 (constant S_ .f32 0x3DCCCCCD#32)) (valG P Q))

def valV (P Q : FVec Ideal S8x1024x256 .bf16) (V : FVec Ideal S2048x256 .f32) : FVec Ideal S2048x256 .f32 :=
  addf (mulf (broadcastInDim S2048x256 ![] bcast_S_S2048x256 (constant S_ .f32 0x3F7FBE77#32)) V)
    (mulf (broadcastInDim S2048x256 ![] bcast_S_S2048x256 (constant S_ .f32 0x3A83126F#32)) (mulf (valG P Q) (valG P Q)))

def valD (W : FVec Ideal S2048x256 .f32) (P Q : FVec Ideal S8x1024x256 .bf16) (M V : FVec Ideal S2048x256 .f32) : FVec Ideal S2048x256 .f32 :=
  mulf (broadcastInDim S2048x256 ![] bcast_S_S2048x256 (constant S_ .f32 0xBA83126F#32))
    (addf (Host.divf (Host.divf (valM P Q M) (broadcastInDim S2048x256 ![] bcast_S_S2048x256 (constant S_ .f32 0x3F26BD02#32)))
      (addf (Host.sqrt (Host.divf (valV P Q V) (broadcastInDim S2048x256 ![] bcast_S_S2048x256 (constant S_ .f32 0x3C231ACC#32))))
        (broadcastInDim S2048x256 ![] bcast_S_S2048x256 (constant S_ .f32 0x322BCC77#32))))
      (mulf (broadcastInDim S2048x256 ![] bcast_S_S2048x256 (constant S_ .f32 0x3C23D70A#32)) W))

theorem valM_at (P Q : FVec Ideal S8x1024x256 .bf16) (M : FVec Ideal S2048x256 .f32) (y : S2048x256.Idx) :
    (valM P Q M y : EReal) = mom (M y) (valG P Q y) := rfl

theorem valV_at (P Q : FVec Ideal S8x1024x256 .bf16) (V : FVec Ideal S2048x256 .f32) (y : S2048x256.Idx) :
    (valV P Q V y : EReal) = sec (V y) (valG P Q y) := rfl

theorem valD_at (W : FVec Ideal S2048x256 .f32) (P Q : FVec Ideal S8x1024x256 .bf16) (M V : FVec Ideal S2048x256 .f32) (y : S2048x256.Idx) :
    (valD W P Q M V y : EReal) = del (W y) (valG P Q y) (M y) (V y) := rfl

theorem valG_lt (P Q : FVec Ideal S8x1024x256 .bf16) (i : Fin 2048) (j : Fin 256) (h : i.val < 1024) :
    valG P Q (ix2 i j) = ∑ d : Fin 8, P (ix3 d ⟨i.val, h⟩ j) := by
  unfold valG
  pointwise []
  exact dif_pos h

theorem valG_ge (P Q : FVec Ideal S8x1024x256 .bf16) (i : Fin 2048) (j : Fin 256) (h : ¬ i.val < 1024) :
    valG P Q (ix2 i j) = ∑ d : Fin 8, Q (ix3 d ⟨i.val - 1024, by have := i.isLt; omega⟩ j) := by
  unfold valG
  pointwise []
  exact dif_neg h

end Ref

open Cert.Kernel25Ideal Cert.Kernel25Ideal.Gen

section Cases

variable {F : FTy → Type} [FloatOps F]

/-- The parts of a block, added. -/
def g8 (x : Vec F S8x512x256 .bf16) : FVec F S512x256 .f32 :=
  k0_pay7 (View.ld x (Rect.unit ![0, 0, 0] ![1, 512, 256] inb_S8x512x256_S1x512x256_0_0_0))
    (View.ld x (Rect.unit ![1, 0, 0] ![1, 512, 256] inb_S8x512x256_S1x512x256_1_0_0))
    (View.ld x (Rect.unit ![2, 0, 0] ![1, 512, 256] inb_S8x512x256_S1x512x256_2_0_0))
    (View.ld x (Rect.unit ![3, 0, 0] ![1, 512, 256] inb_S8x512x256_S1x512x256_3_0_0))
    (View.ld x (Rect.unit ![4, 0, 0] ![1, 512, 256] inb_S8x512x256_S1x512x256_4_0_0))
    (View.ld x (Rect.unit ![5, 0, 0] ![1, 512, 256] inb_S8x512x256_S1x512x256_5_0_0))
    (View.ld x (Rect.unit ![6, 0, 0] ![1, 512, 256] inb_S8x512x256_S1x512x256_6_0_0))
    (View.ld x (Rect.unit ![7, 0, 0] ![1, 512, 256] inb_S8x512x256_S1x512x256_7_0_0))

/-- What the call writes at a grid point, from the weight's block, the parts' block and the moments' blocks. -/
def four (w : Vec F S512x256 .f32) (x : Vec F S8x512x256 .bf16) (p v : Vec F S512x256 .f32) :
    Vec F S512x256 .f32 × Vec F S512x256 .f32 × Vec F S512x256 .f32 × Vec F S512x256 .f32 :=
  (g8 x, k0_pay3 (g8 x) p k0_pay8 v w, k0_pay1 (g8 x) p k0_pay8, k0_pay2 (g8 x) v)

variable (m : (ℓ : Loc nD τ sig) → Buf (Elt F) ℓ) (c : Dev nD) (t : Fin cfg0.N)

theorem caseA (h0 : t.val < 2) (h1 : ¬ 2 ≤ t.val) :
    outsAt0 m c t.val t.isLt = four (iblk m c 0 t) (iblk m c 1 t) (iblk m c 3 t) (iblk m c 4 t) := by
  rw [outsAt0_A m c t h0 h1]
  unfold four
  refine Prod.ext ?_ (Prod.ext ?_ (Prod.ext ?_ ?_)) <;> dsimp only
  on_goal 1 => unfold out0_A_5; refine (View.read_writes_eq_canon _ _ _ fun y => cover0_A_5 ..).trans ?_
  on_goal 2 => unfold out0_A_6; refine (View.read_writes_eq_canon _ _ _ fun y => cover0_A_6 ..).trans ?_
  on_goal 3 => unfold out0_A_7; refine (View.read_writes_eq_canon _ _ _ fun y => cover0_A_7 ..).trans ?_
  on_goal 4 => unfold out0_A_8; refine (View.read_writes_eq_canon _ _ _ fun y => cover0_A_8 ..).trans ?_
  all_goals
    unfold kernelRun0_A; dsimp only; sl_unfold_words
    refine (View.canon_unit_zero (S := S512x256) zero2 _ _).trans ?_
    simp only [View.readAt_eq_ld, Memref.IsWhole.read_unread, read_unread_whole, View.ld_unit_zero (S := S512x256) zero2]
    rfl

theorem caseB (h0 : ¬ t.val < 2) (h1 : 2 ≤ t.val) :
    outsAt0 m c t.val t.isLt = four (iblk m c 0 t) (iblk m c 2 t) (iblk m c 3 t) (iblk m c 4 t) := by
  rw [outsAt0_B m c t h0 h1]
  unfold four
  refine Prod.ext ?_ (Prod.ext ?_ (Prod.ext ?_ ?_)) <;> dsimp only
  on_goal 1 => unfold out0_B_5; refine (View.read_writes_eq_canon _ _ _ fun y => cover0_B_5 ..).trans ?_
  on_goal 2 => unfold out0_B_6; refine (View.read_writes_eq_canon _ _ _ fun y => cover0_B_6 ..).trans ?_
  on_goal 3 => unfold out0_B_7; refine (View.read_writes_eq_canon _ _ _ fun y => cover0_B_7 ..).trans ?_
  on_goal 4 => unfold out0_B_8; refine (View.read_writes_eq_canon _ _ _ fun y => cover0_B_8 ..).trans ?_
  all_goals
    unfold kernelRun0_B; dsimp only; sl_unfold_words
    refine (View.canon_unit_zero (S := S512x256) zero2 _ _).trans ?_
    simp only [View.readAt_eq_ld, Memref.IsWhole.read_unread, read_unread_whole, View.ld_unit_zero (S := S512x256) zero2]
    rfl

end Cases

theorem g8_at (x : Vec Ideal S8x512x256 .bf16) (r : Fin 512) (s : Fin 256) :
    (g8 x (ix2 r s) : EReal) = sum8 fun d => x (ix3 d r s) := by
  unfold g8 k0_pay7
  pointwise []
  rfl

variable (m : (ℓ : Loc nD τ sig) → Buf (Elt Ideal) ℓ) (c : Dev nD)

abbrev a0 : FVec Ideal S2048x256 .f32 := m ((c : Thread nD τ).loc main_arg0)
abbrev a1 : FVec Ideal S8x1024x256 .bf16 := m ((c : Thread nD τ).loc main_arg1)
abbrev a2 : FVec Ideal S8x1024x256 .bf16 := m ((c : Thread nD τ).loc main_arg2)
abbrev a3 : FVec Ideal S2048x256 .f32 := m ((c : Thread nD τ).loc main_arg3)
abbrev a4 : FVec Ideal S2048x256 .f32 := m ((c : Thread nD τ).loc main_arg4)

theorem idx : ∀ t : Fin cfg0.N, win0_0.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] := by
  decide +kernel

theorem idxA : ∀ t : Fin cfg0.N, t.val < 2 → win0_1.index t = ![0, t.val, 0] := by
  decide +kernel

theorem idxB : ∀ t : Fin cfg0.N, ¬ t.val < 2 → win0_2.index t = ![0, t.val - 2, 0] := by
  decide +kernel

variable (t : Fin cfg0.N)

theorem lt : t.val < 4 := t.isLt

abbrev row (r : Fin 512) : Fin 2048 := ⟨512 * t.val + r.val, by have := lt t; omega⟩

theorem blk0 (r : Fin 512) (s : Fin 256) : iblk m c 0 t (ix2 r s) = a0 m c (ix2 (row t r) s) := by
  unfold row
  blk_ext [iblk, V, (idx t).1]

theorem blk3 (r : Fin 512) (s : Fin 256) : iblk m c 3 t (ix2 r s) = a3 m c (ix2 (row t r) s) := by
  unfold row
  blk_ext [iblk, V, (idx t).2.1]

theorem blk4 (r : Fin 512) (s : Fin 256) : iblk m c 4 t (ix2 r s) = a4 m c (ix2 (row t r) s) := by
  unfold row
  blk_ext [iblk, V, (idx t).2.2.1]

theorem blk1 (h : t.val < 2) (d : Fin 8) (r : Fin 512) (s : Fin 256) :
    iblk m c 1 t (ix3 d r s) = a1 m c (ix3 d ⟨512 * t.val + r.val, by omega⟩ s) := by
  blk_ext [iblk, V, idxA t h]

theorem blk2 (h : ¬ t.val < 2) (d : Fin 8) (r : Fin 512) (s : Fin 256) :
    iblk m c 2 t (ix3 d r s) = a2 m c (ix3 d ⟨512 * t.val + r.val - 1024, by have := lt t; omega⟩ s) := by
  blk_ext [iblk, V, idxB t h]

/-- The parts' block of a grid point: the first layer's, then the second's. -/
abbrev parts : Vec Ideal S8x512x256 .bf16 := if t.val < 2 then iblk m c 1 t else iblk m c 2 t

theorem outs : outsAt0 m c t.val t.isLt = four (iblk m c 0 t) (parts m c t) (iblk m c 3 t) (iblk m c 4 t) := by
  unfold parts
  by_cases h : t.val < 2
  · rw [if_pos h]; exact caseA m c t h (by omega)
  · rw [if_neg h]; exact caseB m c t h (by omega)

theorem pointG (r : Fin 512) (s : Fin 256) :
    g8 (parts m c t) (ix2 r s) = valG (a1 m c) (a2 m c) (ix2 (row t r) s) := by
  refine (g8_at _ r s).trans ((sum8_eq _).trans ?_)
  unfold parts
  by_cases h : t.val < 2
  · rw [if_pos h, valG_lt _ _ _ _ (by show 512 * t.val + r.val < 1024; omega)]
    exact Finset.sum_congr rfl fun d _ => blk1 m c t h d r s
  · rw [if_neg h, valG_ge _ _ _ _ (by show ¬ 512 * t.val + r.val < 1024; omega)]
    exact Finset.sum_congr rfl fun d _ => blk2 m c t h d r s

theorem pointM (r : Fin 512) (s : Fin 256) :
    k0_pay1 (g8 (parts m c t)) (iblk m c 3 t : Vec Ideal S512x256 .f32) k0_pay8 (ix2 r s) = valM (a1 m c) (a2 m c) (a3 m c) (ix2 (row t r) s) :=
  (show _ = mom _ _ from rfl).trans ((congr2 mom (blk3 m c t r s) (pointG m c t r s)).trans (valM_at _ _ _ _).symm)

theorem pointV (r : Fin 512) (s : Fin 256) :
    k0_pay2 (g8 (parts m c t)) (iblk m c 4 t : Vec Ideal S512x256 .f32) (ix2 r s) = valV (a1 m c) (a2 m c) (a4 m c) (ix2 (row t r) s) :=
  (show _ = sec _ _ from rfl).trans ((congr2 sec (blk4 m c t r s) (pointG m c t r s)).trans (valV_at _ _ _ _).symm)

theorem pointD (r : Fin 512) (s : Fin 256) :
    k0_pay3 (g8 (parts m c t)) (iblk m c 3 t : Vec Ideal S512x256 .f32) k0_pay8 (iblk m c 4 t : Vec Ideal S512x256 .f32) (iblk m c 0 t : Vec Ideal S512x256 .f32) (ix2 r s)
      = valD (a0 m c) (a1 m c) (a2 m c) (a3 m c) (a4 m c) (ix2 (row t r) s) :=
  (show _ = del _ _ _ _ from rfl).trans ((congr4 del (blk0 m c t r s) (pointG m c t r s) (blk3 m c t r s) (blk4 m c t r s)).trans (valD_at _ _ _ _ _ _).symm)

/-- Where a block's entry lies in the whole array. -/
theorem place (y : S512x256.Idx) (f : S2048x256.Idx → EReal) (z : S2048x256.Idx) (h0 : (z 0).val = t.val * 512 + (y 0).val) (h1 : (z 1).val = (y 1).val) :
    f (ix2 (row t (y 0)) (y 1)) = f z := by
  refine congrArg f (funext fun a => Fin.ext ?_)
  match a with
  | ⟨0, _⟩ => show 512 * t.val + (y 0).val = (z 0).val; omega
  | ⟨1, _⟩ => exact h1.symm

theorem outG : (dats m 0 c).arrAt 5 cfg0.N = valG (a1 m c) (a2 m c) := by
  refine (dats m 0 c).arrAt_eq_of_covers 5 _ (by decide +kernel) fun t hf y => ?_
  blk_simp
  rw [after0_5, outs]
  refine (congrArg (g8 _) (eta2 (n0 := 512) (n1 := 256) y)).trans ((pointG m c t _ _).trans ?_)
  have e := (idx t).2.2.2.1
  refine place t y _ _ ?_ ?_
  · show win0_5.index t 0 * 512 + 1 * (y 0).val = _
    rw [e]; show t.val * 512 + _ = _; omega
  · show win0_5.index t 1 * 256 + 1 * (y 1).val = _
    rw [e]; show 0 * 256 + _ = _; omega

theorem outD : (dats m 0 c).arrAt 6 cfg0.N = valD (a0 m c) (a1 m c) (a2 m c) (a3 m c) (a4 m c) := by
  refine (dats m 0 c).arrAt_eq_of_covers 6 _ (by decide +kernel) fun t hf y => ?_
  blk_simp
  rw [after0_6, outs]
  refine (congrArg (k0_pay3 _ _ _ _ _) (eta2 (n0 := 512) (n1 := 256) y)).trans ((pointD m c t _ _).trans ?_)
  have e := (idx t).2.2.2.2.1
  refine place t y _ _ ?_ ?_
  · show win0_6.index t 0 * 512 + 1 * (y 0).val = _
    rw [e]; show t.val * 512 + _ = _; omega
  · show win0_6.index t 1 * 256 + 1 * (y 1).val = _
    rw [e]; show 0 * 256 + _ = _; omega

theorem outM : (dats m 0 c).arrAt 7 cfg0.N = valM (a1 m c) (a2 m c) (a3 m c) := by
  refine (dats m 0 c).arrAt_eq_of_covers 7 _ (by decide +kernel) fun t hf y => ?_
  blk_simp
  rw [after0_7, outs]
  refine (congrArg (k0_pay1 _ _ _) (eta2 (n0 := 512) (n1 := 256) y)).trans ((pointM m c t _ _).trans ?_)
  have e := (idx t).2.2.2.2.2.1
  refine place t y _ _ ?_ ?_
  · show win0_7.index t 0 * 512 + 1 * (y 0).val = _
    rw [e]; show t.val * 512 + _ = _; omega
  · show win0_7.index t 1 * 256 + 1 * (y 1).val = _
    rw [e]; show 0 * 256 + _ = _; omega

theorem outV : (dats m 0 c).arrAt 8 cfg0.N = valV (a1 m c) (a2 m c) (a4 m c) := by
  refine (dats m 0 c).arrAt_eq_of_covers 8 _ (by decide +kernel) fun t hf y => ?_
  blk_simp
  rw [after0_8, outs]
  refine (congrArg (k0_pay2 _ _) (eta2 (n0 := 512) (n1 := 256) y)).trans ((pointV m c t _ _).trans ?_)
  have e := (idx t).2.2.2.2.2.2
  refine place t y _ _ ?_ ?_
  · show win0_8.index t 0 * 512 + 1 * (y 0).val = _
    rw [e]; show t.val * 512 + _ = _; omega
  · show win0_8.index t 1 * 256 + 1 * (y 1).val = _
    rw [e]; show 0 * 256 + _ = _; omega

end Cert.AdamBranch

end
-- ==== Proof.AdamQ.lean ====
/-
  The optimiser's call for the attention's weight of the queries over the extended reals, and the reference's term.
-/
module

public import proofs.«01_k».proof.Proof.Adam
public import proofs.«01_k».proof.Proof.Gen.Kernel26Ideal.Frame
public import proofs.«01_k».proof.Proof.Gen.Reference26Ideal.Run
public import Idealize.ShloMosaic.Lib.Pipeline.ReadBack

@[expose] public section

set_option maxRecDepth 16384

noncomputable section

namespace Cert.AdamQ

open Idealize.ShloMosaic Idealize.ShloMosaic.TcCoe Idealize.SL.Sem
open Cert.Prod Cert.Adam

section Ref

open Cert.Reference26Ideal Cert.Reference26Ideal.Gen

/-- The reference's gradient: each layer's parts added. -/
def valG (P Q : FVec Ideal S8x512x192 .bf16) : FVec Ideal S1024x192 .f32 :=
  concatenate S1024x192 0 [⟨S512x192, Host.reduceAdd (extf .f32 P bitsLt_bf16_f32) (constant S_ .f32 0x00000000#32) reducesTo_S8x512x192_S512x192_d0 h_S_⟩,
    ⟨S512x192, Host.reduceAdd (extf .f32 Q bitsLt_bf16_f32) (constant S_ .f32 0x00000000#32) reducesTo_S8x512x192_S512x192_d0 h_S_⟩] concatenates_S512x192_S512x192_S1024x192_d0

def valM (P Q : FVec Ideal S8x512x192 .bf16) (M : FVec Ideal S1024x192 .f32) : FVec Ideal S1024x192 .f32 :=
  addf (mulf (broadcastInDim S1024x192 ![] bcast_S_S1024x192 (constant S_ .f32 0x3F666666#32)) M)
    (mulf (broadcastInDim S1024x192 ![] bcast_S_S1024x192 (constant S_ .f32 0x3DCCCCCD#32)) (valG P Q))

def valV (P Q : FVec Ideal S8x512x192 .bf16) (V : FVec Ideal S1024x192 .f32) : FVec Ideal S1024x192 .f32 :=
  addf (mulf (broadcastInDim S1024x192 ![] bcast_S_S1024x192 (constant S_ .f32 0x3F7FBE77#32)) V)
    (mulf (broadcastInDim S1024x192 ![] bcast_S_S1024x192 (constant S_ .f32 0x3A83126F#32)) (mulf (valG P Q) (valG P Q)))

def valD (W : FVec Ideal S1024x192 .f32) (P Q : FVec Ideal S8x512x192 .bf16) (M V : FVec Ideal S1024x192 .f32) : FVec Ideal S1024x192 .f32 :=
  mulf (broadcastInDim S1024x192 ![] bcast_S_S1024x192 (constant S_ .f32 0xBA83126F#32))
    (addf (Host.divf (Host.divf (valM P Q M) (broadcastInDim S1024x192 ![] bcast_S_S1024x192 (constant S_ .f32 0x3F26BD02#32)))
      (addf (Host.sqrt (Host.divf (valV P Q V) (broadcastInDim S1024x192 ![] bcast_S_S1024x192 (constant S_ .f32 0x3C231ACC#32))))
        (broadcastInDim S1024x192 ![] bcast_S_S1024x192 (constant S_ .f32 0x322BCC77#32))))
      (mulf (broadcastInDim S1024x192 ![] bcast_S_S1024x192 (constant S_ .f32 0x3C23D70A#32)) W))

theorem valM_at (P Q : FVec Ideal S8x512x192 .bf16) (M : FVec Ideal S1024x192 .f32) (y : S1024x192.Idx) :
    (valM P Q M y : EReal) = mom (M y) (valG P Q y) := rfl

theorem valV_at (P Q : FVec Ideal S8x512x192 .bf16) (V : FVec Ideal S1024x192 .f32) (y : S1024x192.Idx) :
    (valV P Q V y : EReal) = sec (V y) (valG P Q y) := rfl

theorem valD_at (W : FVec Ideal S1024x192 .f32) (P Q : FVec Ideal S8x512x192 .bf16) (M V : FVec Ideal S1024x192 .f32) (y : S1024x192.Idx) :
    (valD W P Q M V y : EReal) = del (W y) (valG P Q y) (M y) (V y) := rfl

theorem valG_lt (P Q : FVec Ideal S8x512x192 .bf16) (i : Fin 1024) (j : Fin 192) (h : i.val < 512) :
    valG P Q (ix2 i j) = ∑ d : Fin 8, P (ix3 d ⟨i.val, h⟩ j) := by
  unfold valG
  pointwise []
  exact dif_pos h

theorem valG_ge (P Q : FVec Ideal S8x512x192 .bf16) (i : Fin 1024) (j : Fin 192) (h : ¬ i.val < 512) :
    valG P Q (ix2 i j) = ∑ d : Fin 8, Q (ix3 d ⟨i.val - 512, by have := i.isLt; omega⟩ j) := by
  unfold valG
  pointwise []
  exact dif_neg h

end Ref

open Cert.Kernel26Ideal Cert.Kernel26Ideal.Gen

section Cases

variable {F : FTy → Type} [FloatOps F]

/-- The parts of a block, added. -/
def g8 (x : Vec F S8x512x192 .bf16) : FVec F S512x192 .f32 :=
  k0_pay7 (View.ld x (Rect.unit ![0, 0, 0] ![1, 512, 192] inb_S8x512x192_S1x512x192_0_0_0))
    (View.ld x (Rect.unit ![1, 0, 0] ![1, 512, 192] inb_S8x512x192_S1x512x192_1_0_0))
    (View.ld x (Rect.unit ![2, 0, 0] ![1, 512, 192] inb_S8x512x192_S1x512x192_2_0_0))
    (View.ld x (Rect.unit ![3, 0, 0] ![1, 512, 192] inb_S8x512x192_S1x512x192_3_0_0))
    (View.ld x (Rect.unit ![4, 0, 0] ![1, 512, 192] inb_S8x512x192_S1x512x192_4_0_0))
    (View.ld x (Rect.unit ![5, 0, 0] ![1, 512, 192] inb_S8x512x192_S1x512x192_5_0_0))
    (View.ld x (Rect.unit ![6, 0, 0] ![1, 512, 192] inb_S8x512x192_S1x512x192_6_0_0))
    (View.ld x (Rect.unit ![7, 0, 0] ![1, 512, 192] inb_S8x512x192_S1x512x192_7_0_0))

/-- What the call writes at a grid point, from the weight's block, the parts' block and the moments' blocks. -/
def four (w : Vec F S512x192 .f32) (x : Vec F S8x512x192 .bf16) (p v : Vec F S512x192 .f32) :
    Vec F S512x192 .f32 × Vec F S512x192 .f32 × Vec F S512x192 .f32 × Vec F S512x192 .f32 :=
  (g8 x, k0_pay3 (g8 x) p k0_pay8 v w, k0_pay1 (g8 x) p k0_pay8, k0_pay2 (g8 x) v)

variable (m : (ℓ : Loc nD τ sig) → Buf (Elt F) ℓ) (c : Dev nD) (t : Fin cfg0.N)

theorem caseA (h0 : t.val < 1) (h1 : ¬ 1 ≤ t.val) :
    outsAt0 m c t.val t.isLt = four (iblk m c 0 t) (iblk m c 1 t) (iblk m c 3 t) (iblk m c 4 t) := by
  have hl : t.val < 2 := t.isLt
  rw [outsAt0_A m c t (by omega) (by omega)]
  unfold four
  refine Prod.ext ?_ (Prod.ext ?_ (Prod.ext ?_ ?_)) <;> dsimp only
  on_goal 1 => unfold out0_A_5; refine (View.read_writes_eq_canon _ _ _ fun y => cover0_A_5 ..).trans ?_
  on_goal 2 => unfold out0_A_6; refine (View.read_writes_eq_canon _ _ _ fun y => cover0_A_6 ..).trans ?_
  on_goal 3 => unfold out0_A_7; refine (View.read_writes_eq_canon _ _ _ fun y => cover0_A_7 ..).trans ?_
  on_goal 4 => unfold out0_A_8; refine (View.read_writes_eq_canon _ _ _ fun y => cover0_A_8 ..).trans ?_
  all_goals
    unfold kernelRun0_A; dsimp only; sl_unfold_words
    refine (View.canon_unit_zero (S := S512x192) zero2 _ _).trans ?_
    simp only [View.readAt_eq_ld, Memref.IsWhole.read_unread, read_unread_whole, View.ld_unit_zero (S := S512x192) zero2]
    rfl

theorem caseB (h0 : ¬ t.val < 1) (h1 : 1 ≤ t.val) :
    outsAt0 m c t.val t.isLt = four (iblk m c 0 t) (iblk m c 2 t) (iblk m c 3 t) (iblk m c 4 t) := by
  have hl : t.val < 2 := t.isLt
  rw [outsAt0_B m c t (by omega) (by omega)]
  unfold four
  refine Prod.ext ?_ (Prod.ext ?_ (Prod.ext ?_ ?_)) <;> dsimp only
  on_goal 1 => unfold out0_B_5; refine (View.read_writes_eq_canon _ _ _ fun y => cover0_B_5 ..).trans ?_
  on_goal 2 => unfold out0_B_6; refine (View.read_writes_eq_canon _ _ _ fun y => cover0_B_6 ..).trans ?_
  on_goal 3 => unfold out0_B_7; refine (View.read_writes_eq_canon _ _ _ fun y => cover0_B_7 ..).trans ?_
  on_goal 4 => unfold out0_B_8; refine (View.read_writes_eq_canon _ _ _ fun y => cover0_B_8 ..).trans ?_
  all_goals
    unfold kernelRun0_B; dsimp only; sl_unfold_words
    refine (View.canon_unit_zero (S := S512x192) zero2 _ _).trans ?_
    simp only [View.readAt_eq_ld, Memref.IsWhole.read_unread, read_unread_whole, View.ld_unit_zero (S := S512x192) zero2]
    rfl

end Cases

theorem g8_at (x : Vec Ideal S8x512x192 .bf16) (r : Fin 512) (s : Fin 192) :
    (g8 x (ix2 r s) : EReal) = sum8 fun d => x (ix3 d r s) := by
  unfold g8 k0_pay7
  pointwise []
  rfl

variable (m : (ℓ : Loc nD τ sig) → Buf (Elt Ideal) ℓ) (c : Dev nD)

abbrev a0 : FVec Ideal S1024x192 .f32 := m ((c : Thread nD τ).loc main_arg0)
abbrev a1 : FVec Ideal S8x512x192 .bf16 := m ((c : Thread nD τ).loc main_arg1)
abbrev a2 : FVec Ideal S8x512x192 .bf16 := m ((c : Thread nD τ).loc main_arg2)
abbrev a3 : FVec Ideal S1024x192 .f32 := m ((c : Thread nD τ).loc main_arg3)
abbrev a4 : FVec Ideal S1024x192 .f32 := m ((c : Thread nD τ).loc main_arg4)

theorem idx : ∀ t : Fin cfg0.N, win0_0.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] := by
  decide +kernel

theorem idxA : ∀ t : Fin cfg0.N, t.val < 1 → win0_1.index t = ![0, t.val, 0] := by
  decide +kernel

theorem idxB : ∀ t : Fin cfg0.N, ¬ t.val < 1 → win0_2.index t = ![0, t.val - 1, 0] := by
  decide +kernel

variable (t : Fin cfg0.N)

theorem lt : t.val < 2 := t.isLt

abbrev row (r : Fin 512) : Fin 1024 := ⟨512 * t.val + r.val, by have := lt t; omega⟩

theorem blk0 (r : Fin 512) (s : Fin 192) : iblk m c 0 t (ix2 r s) = a0 m c (ix2 (row t r) s) := by
  unfold row
  blk_ext [iblk, V, (idx t).1]

theorem blk3 (r : Fin 512) (s : Fin 192) : iblk m c 3 t (ix2 r s) = a3 m c (ix2 (row t r) s) := by
  unfold row
  blk_ext [iblk, V, (idx t).2.1]

theorem blk4 (r : Fin 512) (s : Fin 192) : iblk m c 4 t (ix2 r s) = a4 m c (ix2 (row t r) s) := by
  unfold row
  blk_ext [iblk, V, (idx t).2.2.1]

theorem blk1 (h : t.val < 1) (d : Fin 8) (r : Fin 512) (s : Fin 192) :
    iblk m c 1 t (ix3 d r s) = a1 m c (ix3 d ⟨512 * t.val + r.val, by omega⟩ s) := by
  blk_ext [iblk, V, idxA t h]

theorem blk2 (h : ¬ t.val < 1) (d : Fin 8) (r : Fin 512) (s : Fin 192) :
    iblk m c 2 t (ix3 d r s) = a2 m c (ix3 d ⟨512 * t.val + r.val - 512, by have := lt t; omega⟩ s) := by
  blk_ext [iblk, V, idxB t h]

/-- The parts' block of a grid point: the first layer's, then the second's. -/
abbrev parts : Vec Ideal S8x512x192 .bf16 := if t.val < 1 then iblk m c 1 t else iblk m c 2 t

theorem outs : outsAt0 m c t.val t.isLt = four (iblk m c 0 t) (parts m c t) (iblk m c 3 t) (iblk m c 4 t) := by
  unfold parts
  by_cases h : t.val < 1
  · rw [if_pos h]; exact caseA m c t h (by omega)
  · rw [if_neg h]; exact caseB m c t h (by omega)

theorem pointG (r : Fin 512) (s : Fin 192) :
    g8 (parts m c t) (ix2 r s) = valG (a1 m c) (a2 m c) (ix2 (row t r) s) := by
  refine (g8_at _ r s).trans ((sum8_eq _).trans ?_)
  unfold parts
  by_cases h : t.val < 1
  · rw [if_pos h, valG_lt _ _ _ _ (by show 512 * t.val + r.val < 512; omega)]
    exact Finset.sum_congr rfl fun d _ => blk1 m c t h d r s
  · rw [if_neg h, valG_ge _ _ _ _ (by show ¬ 512 * t.val + r.val < 512; omega)]
    exact Finset.sum_congr rfl fun d _ => blk2 m c t h d r s

theorem pointM (r : Fin 512) (s : Fin 192) :
    k0_pay1 (g8 (parts m c t)) (iblk m c 3 t : Vec Ideal S512x192 .f32) k0_pay8 (ix2 r s) = valM (a1 m c) (a2 m c) (a3 m c) (ix2 (row t r) s) :=
  (show _ = mom _ _ from rfl).trans ((congr2 mom (blk3 m c t r s) (pointG m c t r s)).trans (valM_at _ _ _ _).symm)

theorem pointV (r : Fin 512) (s : Fin 192) :
    k0_pay2 (g8 (parts m c t)) (iblk m c 4 t : Vec Ideal S512x192 .f32) (ix2 r s) = valV (a1 m c) (a2 m c) (a4 m c) (ix2 (row t r) s) :=
  (show _ = sec _ _ from rfl).trans ((congr2 sec (blk4 m c t r s) (pointG m c t r s)).trans (valV_at _ _ _ _).symm)

theorem pointD (r : Fin 512) (s : Fin 192) :
    k0_pay3 (g8 (parts m c t)) (iblk m c 3 t : Vec Ideal S512x192 .f32) k0_pay8 (iblk m c 4 t : Vec Ideal S512x192 .f32) (iblk m c 0 t : Vec Ideal S512x192 .f32) (ix2 r s)
      = valD (a0 m c) (a1 m c) (a2 m c) (a3 m c) (a4 m c) (ix2 (row t r) s) :=
  (show _ = del _ _ _ _ from rfl).trans ((congr4 del (blk0 m c t r s) (pointG m c t r s) (blk3 m c t r s) (blk4 m c t r s)).trans (valD_at _ _ _ _ _ _).symm)

/-- Where a block's entry lies in the whole array. -/
theorem place (y : S512x192.Idx) (f : S1024x192.Idx → EReal) (z : S1024x192.Idx) (h0 : (z 0).val = t.val * 512 + (y 0).val) (h1 : (z 1).val = (y 1).val) :
    f (ix2 (row t (y 0)) (y 1)) = f z := by
  refine congrArg f (funext fun a => Fin.ext ?_)
  match a with
  | ⟨0, _⟩ => show 512 * t.val + (y 0).val = (z 0).val; omega
  | ⟨1, _⟩ => exact h1.symm

theorem outG : (dats m 0 c).arrAt 5 cfg0.N = valG (a1 m c) (a2 m c) := by
  refine (dats m 0 c).arrAt_eq_of_covers 5 _ (by decide +kernel) fun t hf y => ?_
  blk_simp
  rw [after0_5, outs]
  refine (congrArg (g8 _) (eta2 (n0 := 512) (n1 := 192) y)).trans ((pointG m c t _ _).trans ?_)
  have e := (idx t).2.2.2.1
  refine place t y _ _ ?_ ?_
  · show win0_5.index t 0 * 512 + 1 * (y 0).val = _
    rw [e]; show t.val * 512 + _ = _; omega
  · show win0_5.index t 1 * 192 + 1 * (y 1).val = _
    rw [e]; show 0 * 192 + _ = _; omega

theorem outD : (dats m 0 c).arrAt 6 cfg0.N = valD (a0 m c) (a1 m c) (a2 m c) (a3 m c) (a4 m c) := by
  refine (dats m 0 c).arrAt_eq_of_covers 6 _ (by decide +kernel) fun t hf y => ?_
  blk_simp
  rw [after0_6, outs]
  refine (congrArg (k0_pay3 _ _ _ _ _) (eta2 (n0 := 512) (n1 := 192) y)).trans ((pointD m c t _ _).trans ?_)
  have e := (idx t).2.2.2.2.1
  refine place t y _ _ ?_ ?_
  · show win0_6.index t 0 * 512 + 1 * (y 0).val = _
    rw [e]; show t.val * 512 + _ = _; omega
  · show win0_6.index t 1 * 192 + 1 * (y 1).val = _
    rw [e]; show 0 * 192 + _ = _; omega

theorem outM : (dats m 0 c).arrAt 7 cfg0.N = valM (a1 m c) (a2 m c) (a3 m c) := by
  refine (dats m 0 c).arrAt_eq_of_covers 7 _ (by decide +kernel) fun t hf y => ?_
  blk_simp
  rw [after0_7, outs]
  refine (congrArg (k0_pay1 _ _ _) (eta2 (n0 := 512) (n1 := 192) y)).trans ((pointM m c t _ _).trans ?_)
  have e := (idx t).2.2.2.2.2.1
  refine place t y _ _ ?_ ?_
  · show win0_7.index t 0 * 512 + 1 * (y 0).val = _
    rw [e]; show t.val * 512 + _ = _; omega
  · show win0_7.index t 1 * 192 + 1 * (y 1).val = _
    rw [e]; show 0 * 192 + _ = _; omega

theorem outV : (dats m 0 c).arrAt 8 cfg0.N = valV (a1 m c) (a2 m c) (a4 m c) := by
  refine (dats m 0 c).arrAt_eq_of_covers 8 _ (by decide +kernel) fun t hf y => ?_
  blk_simp
  rw [after0_8, outs]
  refine (congrArg (k0_pay2 _ _) (eta2 (n0 := 512) (n1 := 192) y)).trans ((pointV m c t _ _).trans ?_)
  have e := (idx t).2.2.2.2.2.2
  refine place t y _ _ ?_ ?_
  · show win0_8.index t 0 * 512 + 1 * (y 0).val = _
    rw [e]; show t.val * 512 + _ = _; omega
  · show win0_8.index t 1 * 192 + 1 * (y 1).val = _
    rw [e]; show 0 * 192 + _ = _; omega

end Cert.AdamQ

end
-- ==== Proof.AdamKv.lean ====
/-
  The optimiser's call for the attention's weight of the keys and values over the extended reals, and the reference's term.
-/
module

public import proofs.«01_k».proof.Proof.Adam
public import proofs.«01_k».proof.Proof.Gen.Kernel27Ideal.Frame
public import proofs.«01_k».proof.Proof.Gen.Reference27Ideal.Run
public import Idealize.ShloMosaic.Lib.Pipeline.ReadBack

@[expose] public section

set_option maxRecDepth 16384

noncomputable section

namespace Cert.AdamKv

open Idealize.ShloMosaic Idealize.ShloMosaic.TcCoe Idealize.SL.Sem
open Cert.Prod Cert.Adam

section Ref

open Cert.Reference27Ideal Cert.Reference27Ideal.Gen

/-- The reference's gradient: each layer's parts added. -/
def valG (P Q : FVec Ideal S8x512x256 .bf16) : FVec Ideal S1024x256 .f32 :=
  concatenate S1024x256 0 [⟨S512x256, Host.reduceAdd (extf .f32 P bitsLt_bf16_f32) (constant S_ .f32 0x00000000#32) reducesTo_S8x512x256_S512x256_d0 h_S_⟩,
    ⟨S512x256, Host.reduceAdd (extf .f32 Q bitsLt_bf16_f32) (constant S_ .f32 0x00000000#32) reducesTo_S8x512x256_S512x256_d0 h_S_⟩] concatenates_S512x256_S512x256_S1024x256_d0

def valM (P Q : FVec Ideal S8x512x256 .bf16) (M : FVec Ideal S1024x256 .f32) : FVec Ideal S1024x256 .f32 :=
  addf (mulf (broadcastInDim S1024x256 ![] bcast_S_S1024x256 (constant S_ .f32 0x3F666666#32)) M)
    (mulf (broadcastInDim S1024x256 ![] bcast_S_S1024x256 (constant S_ .f32 0x3DCCCCCD#32)) (valG P Q))

def valV (P Q : FVec Ideal S8x512x256 .bf16) (V : FVec Ideal S1024x256 .f32) : FVec Ideal S1024x256 .f32 :=
  addf (mulf (broadcastInDim S1024x256 ![] bcast_S_S1024x256 (constant S_ .f32 0x3F7FBE77#32)) V)
    (mulf (broadcastInDim S1024x256 ![] bcast_S_S1024x256 (constant S_ .f32 0x3A83126F#32)) (mulf (valG P Q) (valG P Q)))

def valD (W : FVec Ideal S1024x256 .f32) (P Q : FVec Ideal S8x512x256 .bf16) (M V : FVec Ideal S1024x256 .f32) : FVec Ideal S1024x256 .f32 :=
  mulf (broadcastInDim S1024x256 ![] bcast_S_S1024x256 (constant S_ .f32 0xBA83126F#32))
    (addf (Host.divf (Host.divf (valM P Q M) (broadcastInDim S1024x256 ![] bcast_S_S1024x256 (constant S_ .f32 0x3F26BD02#32)))
      (addf (Host.sqrt (Host.divf (valV P Q V) (broadcastInDim S1024x256 ![] bcast_S_S1024x256 (constant S_ .f32 0x3C231ACC#32))))
        (broadcastInDim S1024x256 ![] bcast_S_S1024x256 (constant S_ .f32 0x322BCC77#32))))
      (mulf (broadcastInDim S1024x256 ![] bcast_S_S1024x256 (constant S_ .f32 0x3C23D70A#32)) W))

theorem valM_at (P Q : FVec Ideal S8x512x256 .bf16) (M : FVec Ideal S1024x256 .f32) (y : S1024x256.Idx) :
    (valM P Q M y : EReal) = mom (M y) (valG P Q y) := rfl

theorem valV_at (P Q : FVec Ideal S8x512x256 .bf16) (V : FVec Ideal S1024x256 .f32) (y : S1024x256.Idx) :
    (valV P Q V y : EReal) = sec (V y) (valG P Q y) := rfl

theorem valD_at (W : FVec Ideal S1024x256 .f32) (P Q : FVec Ideal S8x512x256 .bf16) (M V : FVec Ideal S1024x256 .f32) (y : S1024x256.Idx) :
    (valD W P Q M V y : EReal) = del (W y) (valG P Q y) (M y) (V y) := rfl

theorem valG_lt (P Q : FVec Ideal S8x512x256 .bf16) (i : Fin 1024) (j : Fin 256) (h : i.val < 512) :
    valG P Q (ix2 i j) = ∑ d : Fin 8, P (ix3 d ⟨i.val, h⟩ j) := by
  unfold valG
  pointwise []
  exact dif_pos h

theorem valG_ge (P Q : FVec Ideal S8x512x256 .bf16) (i : Fin 1024) (j : Fin 256) (h : ¬ i.val < 512) :
    valG P Q (ix2 i j) = ∑ d : Fin 8, Q (ix3 d ⟨i.val - 512, by have := i.isLt; omega⟩ j) := by
  unfold valG
  pointwise []
  exact dif_neg h

end Ref

open Cert.Kernel27Ideal Cert.Kernel27Ideal.Gen

section Cases

variable {F : FTy → Type} [FloatOps F]

/-- The parts of a block, added. -/
def g8 (x : Vec F S8x512x256 .bf16) : FVec F S512x256 .f32 :=
  k0_pay7 (View.ld x (Rect.unit ![0, 0, 0] ![1, 512, 256] inb_S8x512x256_S1x512x256_0_0_0))
    (View.ld x (Rect.unit ![1, 0, 0] ![1, 512, 256] inb_S8x512x256_S1x512x256_1_0_0))
    (View.ld x (Rect.unit ![2, 0, 0] ![1, 512, 256] inb_S8x512x256_S1x512x256_2_0_0))
    (View.ld x (Rect.unit ![3, 0, 0] ![1, 512, 256] inb_S8x512x256_S1x512x256_3_0_0))
    (View.ld x (Rect.unit ![4, 0, 0] ![1, 512, 256] inb_S8x512x256_S1x512x256_4_0_0))
    (View.ld x (Rect.unit ![5, 0, 0] ![1, 512, 256] inb_S8x512x256_S1x512x256_5_0_0))
    (View.ld x (Rect.unit ![6, 0, 0] ![1, 512, 256] inb_S8x512x256_S1x512x256_6_0_0))
    (View.ld x (Rect.unit ![7, 0, 0] ![1, 512, 256] inb_S8x512x256_S1x512x256_7_0_0))

/-- What the call writes at a grid point, from the weight's block, the parts' block and the moments' blocks. -/
def four (w : Vec F S512x256 .f32) (x : Vec F S8x512x256 .bf16) (p v : Vec F S512x256 .f32) :
    Vec F S512x256 .f32 × Vec F S512x256 .f32 × Vec F S512x256 .f32 × Vec F S512x256 .f32 :=
  (g8 x, k0_pay3 (g8 x) p k0_pay8 v w, k0_pay1 (g8 x) p k0_pay8, k0_pay2 (g8 x) v)

variable (m : (ℓ : Loc nD τ sig) → Buf (Elt F) ℓ) (c : Dev nD) (t : Fin cfg0.N)

theorem caseA (h0 : t.val < 1) (h1 : ¬ 1 ≤ t.val) :
    outsAt0 m c t.val t.isLt = four (iblk m c 0 t) (iblk m c 1 t) (iblk m c 3 t) (iblk m c 4 t) := by
  have hl : t.val < 2 := t.isLt
  rw [outsAt0_A m c t (by omega) (by omega)]
  unfold four
  refine Prod.ext ?_ (Prod.ext ?_ (Prod.ext ?_ ?_)) <;> dsimp only
  on_goal 1 => unfold out0_A_5; refine (View.read_writes_eq_canon _ _ _ fun y => cover0_A_5 ..).trans ?_
  on_goal 2 => unfold out0_A_6; refine (View.read_writes_eq_canon _ _ _ fun y => cover0_A_6 ..).trans ?_
  on_goal 3 => unfold out0_A_7; refine (View.read_writes_eq_canon _ _ _ fun y => cover0_A_7 ..).trans ?_
  on_goal 4 => unfold out0_A_8; refine (View.read_writes_eq_canon _ _ _ fun y => cover0_A_8 ..).trans ?_
  all_goals
    unfold kernelRun0_A; dsimp only; sl_unfold_words
    refine (View.canon_unit_zero (S := S512x256) zero2 _ _).trans ?_
    simp only [View.readAt_eq_ld, Memref.IsWhole.read_unread, read_unread_whole, View.ld_unit_zero (S := S512x256) zero2]
    rfl

theorem caseB (h0 : ¬ t.val < 1) (h1 : 1 ≤ t.val) :
    outsAt0 m c t.val t.isLt = four (iblk m c 0 t) (iblk m c 2 t) (iblk m c 3 t) (iblk m c 4 t) := by
  have hl : t.val < 2 := t.isLt
  rw [outsAt0_B m c t (by omega) (by omega)]
  unfold four
  refine Prod.ext ?_ (Prod.ext ?_ (Prod.ext ?_ ?_)) <;> dsimp only
  on_goal 1 => unfold out0_B_5; refine (View.read_writes_eq_canon _ _ _ fun y => cover0_B_5 ..).trans ?_
  on_goal 2 => unfold out0_B_6; refine (View.read_writes_eq_canon _ _ _ fun y => cover0_B_6 ..).trans ?_
  on_goal 3 => unfold out0_B_7; refine (View.read_writes_eq_canon _ _ _ fun y => cover0_B_7 ..).trans ?_
  on_goal 4 => unfold out0_B_8; refine (View.read_writes_eq_canon _ _ _ fun y => cover0_B_8 ..).trans ?_
  all_goals
    unfold kernelRun0_B; dsimp only; sl_unfold_words
    refine (View.canon_unit_zero (S := S512x256) zero2 _ _).trans ?_
    simp only [View.readAt_eq_ld, Memref.IsWhole.read_unread, read_unread_whole, View.ld_unit_zero (S := S512x256) zero2]
    rfl

end Cases

theorem g8_at (x : Vec Ideal S8x512x256 .bf16) (r : Fin 512) (s : Fin 256) :
    (g8 x (ix2 r s) : EReal) = sum8 fun d => x (ix3 d r s) := by
  unfold g8 k0_pay7
  pointwise []
  rfl

variable (m : (ℓ : Loc nD τ sig) → Buf (Elt Ideal) ℓ) (c : Dev nD)

abbrev a0 : FVec Ideal S1024x256 .f32 := m ((c : Thread nD τ).loc main_arg0)
abbrev a1 : FVec Ideal S8x512x256 .bf16 := m ((c : Thread nD τ).loc main_arg1)
abbrev a2 : FVec Ideal S8x512x256 .bf16 := m ((c : Thread nD τ).loc main_arg2)
abbrev a3 : FVec Ideal S1024x256 .f32 := m ((c : Thread nD τ).loc main_arg3)
abbrev a4 : FVec Ideal S1024x256 .f32 := m ((c : Thread nD τ).loc main_arg4)

theorem idx : ∀ t : Fin cfg0.N, win0_0.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] := by
  decide +kernel

theorem idxA : ∀ t : Fin cfg0.N, t.val < 1 → win0_1.index t = ![0, t.val, 0] := by
  decide +kernel

theorem idxB : ∀ t : Fin cfg0.N, ¬ t.val < 1 → win0_2.index t = ![0, t.val - 1, 0] := by
  decide +kernel

variable (t : Fin cfg0.N)

theorem lt : t.val < 2 := t.isLt

abbrev row (r : Fin 512) : Fin 1024 := ⟨512 * t.val + r.val, by have := lt t; omega⟩

theorem blk0 (r : Fin 512) (s : Fin 256) : iblk m c 0 t (ix2 r s) = a0 m c (ix2 (row t r) s) := by
  unfold row
  blk_ext [iblk, V, (idx t).1]

theorem blk3 (r : Fin 512) (s : Fin 256) : iblk m c 3 t (ix2 r s) = a3 m c (ix2 (row t r) s) := by
  unfold row
  blk_ext [iblk, V, (idx t).2.1]

theorem blk4 (r : Fin 512) (s : Fin 256) : iblk m c 4 t (ix2 r s) = a4 m c (ix2 (row t r) s) := by
  unfold row
  blk_ext [iblk, V, (idx t).2.2.1]

theorem blk1 (h : t.val < 1) (d : Fin 8) (r : Fin 512) (s : Fin 256) :
    iblk m c 1 t (ix3 d r s) = a1 m c (ix3 d ⟨512 * t.val + r.val, by omega⟩ s) := by
  blk_ext [iblk, V, idxA t h]

theorem blk2 (h : ¬ t.val < 1) (d : Fin 8) (r : Fin 512) (s : Fin 256) :
    iblk m c 2 t (ix3 d r s) = a2 m c (ix3 d ⟨512 * t.val + r.val - 512, by have := lt t; omega⟩ s) := by
  blk_ext [iblk, V, idxB t h]

/-- The parts' block of a grid point: the first layer's, then the second's. -/
abbrev parts : Vec Ideal S8x512x256 .bf16 := if t.val < 1 then iblk m c 1 t else iblk m c 2 t

theorem outs : outsAt0 m c t.val t.isLt = four (iblk m c 0 t) (parts m c t) (iblk m c 3 t) (iblk m c 4 t) := by
  unfold parts
  by_cases h : t.val < 1
  · rw [if_pos h]; exact caseA m c t h (by omega)
  · rw [if_neg h]; exact caseB m c t h (by omega)

theorem pointG (r : Fin 512) (s : Fin 256) :
    g8 (parts m c t) (ix2 r s) = valG (a1 m c) (a2 m c) (ix2 (row t r) s) := by
  refine (g8_at _ r s).trans ((sum8_eq _).trans ?_)
  unfold parts
  by_cases h : t.val < 1
  · rw [if_pos h, valG_lt _ _ _ _ (by show 512 * t.val + r.val < 512; omega)]
    exact Finset.sum_congr rfl fun d _ => blk1 m c t h d r s
  · rw [if_neg h, valG_ge _ _ _ _ (by show ¬ 512 * t.val + r.val < 512; omega)]
    exact Finset.sum_congr rfl fun d _ => blk2 m c t h d r s

theorem pointM (r : Fin 512) (s : Fin 256) :
    k0_pay1 (g8 (parts m c t)) (iblk m c 3 t : Vec Ideal S512x256 .f32) k0_pay8 (ix2 r s) = valM (a1 m c) (a2 m c) (a3 m c) (ix2 (row t r) s) :=
  (show _ = mom _ _ from rfl).trans ((congr2 mom (blk3 m c t r s) (pointG m c t r s)).trans (valM_at _ _ _ _).symm)

theorem pointV (r : Fin 512) (s : Fin 256) :
    k0_pay2 (g8 (parts m c t)) (iblk m c 4 t : Vec Ideal S512x256 .f32) (ix2 r s) = valV (a1 m c) (a2 m c) (a4 m c) (ix2 (row t r) s) :=
  (show _ = sec _ _ from rfl).trans ((congr2 sec (blk4 m c t r s) (pointG m c t r s)).trans (valV_at _ _ _ _).symm)

theorem pointD (r : Fin 512) (s : Fin 256) :
    k0_pay3 (g8 (parts m c t)) (iblk m c 3 t : Vec Ideal S512x256 .f32) k0_pay8 (iblk m c 4 t : Vec Ideal S512x256 .f32) (iblk m c 0 t : Vec Ideal S512x256 .f32) (ix2 r s)
      = valD (a0 m c) (a1 m c) (a2 m c) (a3 m c) (a4 m c) (ix2 (row t r) s) :=
  (show _ = del _ _ _ _ from rfl).trans ((congr4 del (blk0 m c t r s) (pointG m c t r s) (blk3 m c t r s) (blk4 m c t r s)).trans (valD_at _ _ _ _ _ _).symm)

/-- Where a block's entry lies in the whole array. -/
theorem place (y : S512x256.Idx) (f : S1024x256.Idx → EReal) (z : S1024x256.Idx) (h0 : (z 0).val = t.val * 512 + (y 0).val) (h1 : (z 1).val = (y 1).val) :
    f (ix2 (row t (y 0)) (y 1)) = f z := by
  refine congrArg f (funext fun a => Fin.ext ?_)
  match a with
  | ⟨0, _⟩ => show 512 * t.val + (y 0).val = (z 0).val; omega
  | ⟨1, _⟩ => exact h1.symm

theorem outG : (dats m 0 c).arrAt 5 cfg0.N = valG (a1 m c) (a2 m c) := by
  refine (dats m 0 c).arrAt_eq_of_covers 5 _ (by decide +kernel) fun t hf y => ?_
  blk_simp
  rw [after0_5, outs]
  refine (congrArg (g8 _) (eta2 (n0 := 512) (n1 := 256) y)).trans ((pointG m c t _ _).trans ?_)
  have e := (idx t).2.2.2.1
  refine place t y _ _ ?_ ?_
  · show win0_5.index t 0 * 512 + 1 * (y 0).val = _
    rw [e]; show t.val * 512 + _ = _; omega
  · show win0_5.index t 1 * 256 + 1 * (y 1).val = _
    rw [e]; show 0 * 256 + _ = _; omega

theorem outD : (dats m 0 c).arrAt 6 cfg0.N = valD (a0 m c) (a1 m c) (a2 m c) (a3 m c) (a4 m c) := by
  refine (dats m 0 c).arrAt_eq_of_covers 6 _ (by decide +kernel) fun t hf y => ?_
  blk_simp
  rw [after0_6, outs]
  refine (congrArg (k0_pay3 _ _ _ _ _) (eta2 (n0 := 512) (n1 := 256) y)).trans ((pointD m c t _ _).trans ?_)
  have e := (idx t).2.2.2.2.1
  refine place t y _ _ ?_ ?_
  · show win0_6.index t 0 * 512 + 1 * (y 0).val = _
    rw [e]; show t.val * 512 + _ = _; omega
  · show win0_6.index t 1 * 256 + 1 * (y 1).val = _
    rw [e]; show 0 * 256 + _ = _; omega

theorem outM : (dats m 0 c).arrAt 7 cfg0.N = valM (a1 m c) (a2 m c) (a3 m c) := by
  refine (dats m 0 c).arrAt_eq_of_covers 7 _ (by decide +kernel) fun t hf y => ?_
  blk_simp
  rw [after0_7, outs]
  refine (congrArg (k0_pay1 _ _ _) (eta2 (n0 := 512) (n1 := 256) y)).trans ((pointM m c t _ _).trans ?_)
  have e := (idx t).2.2.2.2.2.1
  refine place t y _ _ ?_ ?_
  · show win0_7.index t 0 * 512 + 1 * (y 0).val = _
    rw [e]; show t.val * 512 + _ = _; omega
  · show win0_7.index t 1 * 256 + 1 * (y 1).val = _
    rw [e]; show 0 * 256 + _ = _; omega

theorem outV : (dats m 0 c).arrAt 8 cfg0.N = valV (a1 m c) (a2 m c) (a4 m c) := by
  refine (dats m 0 c).arrAt_eq_of_covers 8 _ (by decide +kernel) fun t hf y => ?_
  blk_simp
  rw [after0_8, outs]
  refine (congrArg (k0_pay2 _ _) (eta2 (n0 := 512) (n1 := 256) y)).trans ((pointV m c t _ _).trans ?_)
  have e := (idx t).2.2.2.2.2.2
  refine place t y _ _ ?_ ?_
  · show win0_8.index t 0 * 512 + 1 * (y 0).val = _
    rw [e]; show t.val * 512 + _ = _; omega
  · show win0_8.index t 1 * 256 + 1 * (y 1).val = _
    rw [e]; show 0 * 256 + _ = _; omega

end Cert.AdamKv

end
-- ==== Proof.AdamAda.lean ====
/-
  The optimiser's call for the conditioning's weight over the extended reals, and the reference's term.
-/
module

public import proofs.«01_k».proof.Proof.Adam
public import proofs.«01_k».proof.Proof.Gen.Kernel28Ideal.Frame
public import proofs.«01_k».proof.Proof.Gen.Reference28Ideal.Run
public import Idealize.ShloMosaic.Lib.Pipeline.ReadBack

@[expose] public section

set_option maxRecDepth 16384

noncomputable section

namespace Cert.AdamAda

open Idealize.ShloMosaic Idealize.ShloMosaic.TcCoe Idealize.SL.Sem
open Cert.Prod Cert.Adam

section Ref

open Cert.Reference28Ideal Cert.Reference28Ideal.Gen

/-- The reference's gradient: the layers' one after the other. -/
def valG (P Q : FVec Ideal S1x2048x1536 .f32) : FVec Ideal S4096x1536 .f32 :=
  concatenate S4096x1536 0 [⟨S2048x1536, shapeCast S2048x1536 P shapeCasts_S1x2048x1536_S2048x1536⟩,
    ⟨S2048x1536, shapeCast S2048x1536 Q shapeCasts_S1x2048x1536_S2048x1536⟩] concatenates_S2048x1536_S2048x1536_S4096x1536_d0

def valM (P Q : FVec Ideal S1x2048x1536 .f32) (M : FVec Ideal S4096x1536 .f32) : FVec Ideal S4096x1536 .f32 :=
  addf (mulf (broadcastInDim S4096x1536 ![] bcast_S_S4096x1536 (constant S_ .f32 0x3F666666#32)) M)
    (mulf (broadcastInDim S4096x1536 ![] bcast_S_S4096x1536 (constant S_ .f32 0x3DCCCCCD#32)) (valG P Q))

def valV (P Q : FVec Ideal S1x2048x1536 .f32) (V : FVec Ideal S4096x1536 .f32) : FVec Ideal S4096x1536 .f32 :=
  addf (mulf (broadcastInDim S4096x1536 ![] bcast_S_S4096x1536 (constant S_ .f32 0x3F7FBE77#32)) V)
    (mulf (broadcastInDim S4096x1536 ![] bcast_S_S4096x1536 (constant S_ .f32 0x3A83126F#32)) (mulf (valG P Q) (valG P Q)))

def valD (W : FVec Ideal S4096x1536 .f32) (P Q : FVec Ideal S1x2048x1536 .f32) (M V : FVec Ideal S4096x1536 .f32) : FVec Ideal S4096x1536 .f32 :=
  mulf (broadcastInDim S4096x1536 ![] bcast_S_S4096x1536 (constant S_ .f32 0xBA83126F#32))
    (addf (Host.divf (Host.divf (valM P Q M) (broadcastInDim S4096x1536 ![] bcast_S_S4096x1536 (constant S_ .f32 0x3F26BD02#32)))
      (addf (Host.sqrt (Host.divf (valV P Q V) (broadcastInDim S4096x1536 ![] bcast_S_S4096x1536 (constant S_ .f32 0x3C231ACC#32))))
        (broadcastInDim S4096x1536 ![] bcast_S_S4096x1536 (constant S_ .f32 0x322BCC77#32))))
      (mulf (broadcastInDim S4096x1536 ![] bcast_S_S4096x1536 (constant S_ .f32 0x3C23D70A#32)) W))

theorem valM_at (P Q : FVec Ideal S1x2048x1536 .f32) (M : FVec Ideal S4096x1536 .f32) (y : S4096x1536.Idx) :
    (valM P Q M y : EReal) = mom (M y) (valG P Q y) := rfl

theorem valV_at (P Q : FVec Ideal S1x2048x1536 .f32) (V : FVec Ideal S4096x1536 .f32) (y : S4096x1536.Idx) :
    (valV P Q V y : EReal) = sec (V y) (valG P Q y) := rfl

theorem valD_at (W : FVec Ideal S4096x1536 .f32) (P Q : FVec Ideal S1x2048x1536 .f32) (M V : FVec Ideal S4096x1536 .f32) (y : S4096x1536.Idx) :
    (valD W P Q M V y : EReal) = del (W y) (valG P Q y) (M y) (V y) := rfl

theorem valG_lt (P Q : FVec Ideal S1x2048x1536 .f32) (i : Fin 4096) (j : Fin 1536) (h : i.val < 2048) :
    valG P Q (ix2 i j) = P (ix3 0 ⟨i.val, h⟩ j) := by
  unfold valG
  pointwise []
  exact dif_pos h

theorem valG_ge (P Q : FVec Ideal S1x2048x1536 .f32) (i : Fin 4096) (j : Fin 1536) (h : ¬ i.val < 2048) :
    valG P Q (ix2 i j) = Q (ix3 0 ⟨i.val - 2048, by have := i.isLt; omega⟩ j) := by
  unfold valG
  pointwise []
  exact dif_neg h

end Ref

open Cert.Kernel28Ideal Cert.Kernel28Ideal.Gen

section Cases

variable {F : FTy → Type} [FloatOps F]

/-- A block's part. -/
def g8 (x : Vec F S1x256x1536 .f32) : FVec F S256x1536 .f32 := k0_pay1 x

/-- What the call writes at a grid point, from the weight's block, the parts' block and the moments' blocks. -/
def four (w : Vec F S256x1536 .f32) (x : Vec F S1x256x1536 .f32) (p v : Vec F S256x1536 .f32) :
    Vec F S256x1536 .f32 × Vec F S256x1536 .f32 × Vec F S256x1536 .f32 × Vec F S256x1536 .f32 :=
  (g8 x, k0_pay4 x p v w, k0_pay2 x p, k0_pay3 x v)

variable (m : (ℓ : Loc nD τ sig) → Buf (Elt F) ℓ) (c : Dev nD) (t : Fin cfg0.N)

theorem caseA (h0 : t.val < 8) (h1 : ¬ 8 ≤ t.val) :
    outsAt0 m c t.val t.isLt = four (iblk m c 0 t) (iblk m c 1 t) (iblk m c 3 t) (iblk m c 4 t) := by
  rw [outsAt0_A m c t h0 h1]
  unfold four
  refine Prod.ext ?_ (Prod.ext ?_ (Prod.ext ?_ ?_)) <;> dsimp only
  on_goal 1 => unfold out0_A_5; refine (View.read_writes_eq_canon _ _ _ fun y => cover0_A_5 ..).trans ?_
  on_goal 2 => unfold out0_A_6; refine (View.read_writes_eq_canon _ _ _ fun y => cover0_A_6 ..).trans ?_
  on_goal 3 => unfold out0_A_7; refine (View.read_writes_eq_canon _ _ _ fun y => cover0_A_7 ..).trans ?_
  on_goal 4 => unfold out0_A_8; refine (View.read_writes_eq_canon _ _ _ fun y => cover0_A_8 ..).trans ?_
  all_goals
    unfold kernelRun0_A; dsimp only; sl_unfold_words
    refine (View.canon_unit_zero (S := S256x1536) zero2 _ _).trans ?_
    simp only [View.readAt_eq_ld, Memref.IsWhole.read_unread, read_unread_whole, View.ld_unit_zero (S := S256x1536) zero2, View.ld_unit_zero (S := S1x256x1536) zero3] <;> rfl

theorem caseB (h0 : ¬ t.val < 8) (h1 : 8 ≤ t.val) :
    outsAt0 m c t.val t.isLt = four (iblk m c 0 t) (iblk m c 2 t) (iblk m c 3 t) (iblk m c 4 t) := by
  rw [outsAt0_B m c t h0 h1]
  unfold four
  refine Prod.ext ?_ (Prod.ext ?_ (Prod.ext ?_ ?_)) <;> dsimp only
  on_goal 1 => unfold out0_B_5; refine (View.read_writes_eq_canon _ _ _ fun y => cover0_B_5 ..).trans ?_
  on_goal 2 => unfold out0_B_6; refine (View.read_writes_eq_canon _ _ _ fun y => cover0_B_6 ..).trans ?_
  on_goal 3 => unfold out0_B_7; refine (View.read_writes_eq_canon _ _ _ fun y => cover0_B_7 ..).trans ?_
  on_goal 4 => unfold out0_B_8; refine (View.read_writes_eq_canon _ _ _ fun y => cover0_B_8 ..).trans ?_
  all_goals
    unfold kernelRun0_B; dsimp only; sl_unfold_words
    refine (View.canon_unit_zero (S := S256x1536) zero2 _ _).trans ?_
    simp only [View.readAt_eq_ld, Memref.IsWhole.read_unread, read_unread_whole, View.ld_unit_zero (S := S256x1536) zero2, View.ld_unit_zero (S := S1x256x1536) zero3]
    rfl

end Cases

theorem g8_at (x : Vec Ideal S1x256x1536 .f32) (r : Fin 256) (s : Fin 1536) :
    (g8 x (ix2 r s) : EReal) = x (ix3 0 r s) := by
  unfold g8 k0_pay1
  pointwise []

variable (m : (ℓ : Loc nD τ sig) → Buf (Elt Ideal) ℓ) (c : Dev nD)

abbrev a0 : FVec Ideal S4096x1536 .f32 := m ((c : Thread nD τ).loc main_arg0)
abbrev a1 : FVec Ideal S1x2048x1536 .f32 := m ((c : Thread nD τ).loc main_arg1)
abbrev a2 : FVec Ideal S1x2048x1536 .f32 := m ((c : Thread nD τ).loc main_arg2)
abbrev a3 : FVec Ideal S4096x1536 .f32 := m ((c : Thread nD τ).loc main_arg3)
abbrev a4 : FVec Ideal S4096x1536 .f32 := m ((c : Thread nD τ).loc main_arg4)

theorem idx : ∀ t : Fin cfg0.N, win0_0.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] := by
  decide +kernel

theorem idxA : ∀ t : Fin cfg0.N, t.val < 8 → win0_1.index t = ![0, t.val, 0] := by
  decide +kernel

theorem idxB : ∀ t : Fin cfg0.N, ¬ t.val < 8 → win0_2.index t = ![0, t.val - 8, 0] := by
  decide +kernel

variable (t : Fin cfg0.N)

theorem lt : t.val < 16 := t.isLt

abbrev row (r : Fin 256) : Fin 4096 := ⟨256 * t.val + r.val, by have := lt t; omega⟩

theorem blk0 (r : Fin 256) (s : Fin 1536) : iblk m c 0 t (ix2 r s) = a0 m c (ix2 (row t r) s) := by
  unfold row
  blk_ext [iblk, V, (idx t).1]

theorem blk3 (r : Fin 256) (s : Fin 1536) : iblk m c 3 t (ix2 r s) = a3 m c (ix2 (row t r) s) := by
  unfold row
  blk_ext [iblk, V, (idx t).2.1]

theorem blk4 (r : Fin 256) (s : Fin 1536) : iblk m c 4 t (ix2 r s) = a4 m c (ix2 (row t r) s) := by
  unfold row
  blk_ext [iblk, V, (idx t).2.2.1]

theorem blk1 (h : t.val < 8) (r : Fin 256) (s : Fin 1536) :
    iblk m c 1 t (ix3 0 r s) = a1 m c (ix3 0 ⟨256 * t.val + r.val, by omega⟩ s) := by
  blk_ext [iblk, V, idxA t h]

theorem blk2 (h : ¬ t.val < 8) (r : Fin 256) (s : Fin 1536) :
    iblk m c 2 t (ix3 0 r s) = a2 m c (ix3 0 ⟨256 * t.val + r.val - 2048, by have := lt t; omega⟩ s) := by
  blk_ext [iblk, V, idxB t h]

/-- The parts' block of a grid point: the first layer's, then the second's. -/
abbrev parts : Vec Ideal S1x256x1536 .f32 := if t.val < 8 then iblk m c 1 t else iblk m c 2 t

theorem outs : outsAt0 m c t.val t.isLt = four (iblk m c 0 t) (parts m c t) (iblk m c 3 t) (iblk m c 4 t) := by
  unfold parts
  by_cases h : t.val < 8
  · rw [if_pos h]; exact caseA m c t h (by omega)
  · rw [if_neg h]; exact caseB m c t h (by omega)

theorem pointG (r : Fin 256) (s : Fin 1536) :
    g8 (parts m c t) (ix2 r s) = valG (a1 m c) (a2 m c) (ix2 (row t r) s) := by
  refine (g8_at _ r s).trans ?_
  unfold parts
  by_cases h : t.val < 8
  · rw [if_pos h, valG_lt _ _ _ _ (by show 256 * t.val + r.val < 2048; omega)]
    exact blk1 m c t h r s
  · rw [if_neg h, valG_ge _ _ _ _ (by show ¬ 256 * t.val + r.val < 2048; omega)]
    exact blk2 m c t h r s

theorem pointM (r : Fin 256) (s : Fin 1536) :
    k0_pay2 (parts m c t) (iblk m c 3 t : Vec Ideal S256x1536 .f32) (ix2 r s) = valM (a1 m c) (a2 m c) (a3 m c) (ix2 (row t r) s) :=
  (show _ = mom _ _ from rfl).trans ((congr2 mom (blk3 m c t r s) (pointG m c t r s)).trans (valM_at _ _ _ _).symm)

theorem pointV (r : Fin 256) (s : Fin 1536) :
    k0_pay3 (parts m c t) (iblk m c 4 t : Vec Ideal S256x1536 .f32) (ix2 r s) = valV (a1 m c) (a2 m c) (a4 m c) (ix2 (row t r) s) :=
  (show _ = sec _ _ from rfl).trans ((congr2 sec (blk4 m c t r s) (pointG m c t r s)).trans (valV_at _ _ _ _).symm)

theorem pointD (r : Fin 256) (s : Fin 1536) :
    k0_pay4 (parts m c t) (iblk m c 3 t : Vec Ideal S256x1536 .f32) (iblk m c 4 t : Vec Ideal S256x1536 .f32) (iblk m c 0 t : Vec Ideal S256x1536 .f32) (ix2 r s)
      = valD (a0 m c) (a1 m c) (a2 m c) (a3 m c) (a4 m c) (ix2 (row t r) s) :=
  (show _ = del _ _ _ _ from rfl).trans ((congr4 del (blk0 m c t r s) (pointG m c t r s) (blk3 m c t r s) (blk4 m c t r s)).trans (valD_at _ _ _ _ _ _).symm)

/-- Where a block's entry lies in the whole array. -/
theorem place (y : S256x1536.Idx) (f : S4096x1536.Idx → EReal) (z : S4096x1536.Idx) (h0 : (z 0).val = t.val * 256 + (y 0).val) (h1 : (z 1).val = (y 1).val) :
    f (ix2 (row t (y 0)) (y 1)) = f z := by
  refine congrArg f (funext fun a => Fin.ext ?_)
  match a with
  | ⟨0, _⟩ => show 256 * t.val + (y 0).val = (z 0).val; omega
  | ⟨1, _⟩ => exact h1.symm

theorem outG : (dats m 0 c).arrAt 5 cfg0.N = valG (a1 m c) (a2 m c) := by
  refine (dats m 0 c).arrAt_eq_of_covers 5 _ (by decide +kernel) fun t hf y => ?_
  blk_simp
  rw [after0_5, outs]
  refine (congrArg (g8 _) (eta2 (n0 := 256) (n1 := 1536) y)).trans ((pointG m c t _ _).trans ?_)
  have e := (idx t).2.2.2.1
  refine place t y _ _ ?_ ?_
  · show win0_5.index t 0 * 256 + 1 * (y 0).val = _
    rw [e]; show t.val * 256 + _ = _; omega
  · show win0_5.index t 1 * 1536 + 1 * (y 1).val = _
    rw [e]; show 0 * 1536 + _ = _; omega

theorem outD : (dats m 0 c).arrAt 6 cfg0.N = valD (a0 m c) (a1 m c) (a2 m c) (a3 m c) (a4 m c) := by
  refine (dats m 0 c).arrAt_eq_of_covers 6 _ (by decide +kernel) fun t hf y => ?_
  blk_simp
  rw [after0_6, outs]
  refine (congrArg (k0_pay4 _ _ _ _) (eta2 (n0 := 256) (n1 := 1536) y)).trans ((pointD m c t _ _).trans ?_)
  have e := (idx t).2.2.2.2.1
  refine place t y _ _ ?_ ?_
  · show win0_6.index t 0 * 256 + 1 * (y 0).val = _
    rw [e]; show t.val * 256 + _ = _; omega
  · show win0_6.index t 1 * 1536 + 1 * (y 1).val = _
    rw [e]; show 0 * 1536 + _ = _; omega

theorem outM : (dats m 0 c).arrAt 7 cfg0.N = valM (a1 m c) (a2 m c) (a3 m c) := by
  refine (dats m 0 c).arrAt_eq_of_covers 7 _ (by decide +kernel) fun t hf y => ?_
  blk_simp
  rw [after0_7, outs]
  refine (congrArg (k0_pay2 _ _) (eta2 (n0 := 256) (n1 := 1536) y)).trans ((pointM m c t _ _).trans ?_)
  have e := (idx t).2.2.2.2.2.1
  refine place t y _ _ ?_ ?_
  · show win0_7.index t 0 * 256 + 1 * (y 0).val = _
    rw [e]; show t.val * 256 + _ = _; omega
  · show win0_7.index t 1 * 1536 + 1 * (y 1).val = _
    rw [e]; show 0 * 1536 + _ = _; omega

theorem outV : (dats m 0 c).arrAt 8 cfg0.N = valV (a1 m c) (a2 m c) (a4 m c) := by
  refine (dats m 0 c).arrAt_eq_of_covers 8 _ (by decide +kernel) fun t hf y => ?_
  blk_simp
  rw [after0_8, outs]
  refine (congrArg (k0_pay3 _ _) (eta2 (n0 := 256) (n1 := 1536) y)).trans ((pointV m c t _ _).trans ?_)
  have e := (idx t).2.2.2.2.2.2
  refine place t y _ _ ?_ ?_
  · show win0_8.index t 0 * 256 + 1 * (y 0).val = _
    rw [e]; show t.val * 256 + _ = _; omega
  · show win0_8.index t 1 * 1536 + 1 * (y 1).val = _
    rw [e]; show 0 * 1536 + _ = _; omega

end Cert.AdamAda

end
-- ==== Proof.AdamRow.lean ====
/-
  The optimiser's call for the small weights, side by side in one row, over the extended reals, and the reference's term.
-/
module

public import proofs.«01_k».proof.Proof.Adam
public import proofs.«01_k».proof.Proof.Gen.Kernel29Ideal.Frame
public import proofs.«01_k».proof.Proof.Gen.Reference29Ideal.Run
public import Idealize.ShloMosaic.Lib.Pipeline.ReadBack

@[expose] public section

set_option maxRecDepth 16384

noncomputable section

namespace Cert.AdamRow

open Idealize.ShloMosaic Idealize.ShloMosaic.TcCoe Idealize.SL.Sem
open Cert.Prod Cert.Adam

section Ref

open Cert.Reference29Ideal Cert.Reference29Ideal.Gen

/-- The reference's gradient: the parts added. -/
def valG (P : FVec Ideal S8x1x40320 .f32) : FVec Ideal S1x40320 .f32 :=
  Host.reduceAdd P (constant S_ .f32 0x00000000#32) reducesTo_S8x1x40320_S1x40320_d0 h_S_

def valM (P : FVec Ideal S8x1x40320 .f32) (M : FVec Ideal S1x40320 .f32) : FVec Ideal S1x40320 .f32 :=
  addf (mulf (broadcastInDim S1x40320 ![] bcast_S_S1x40320 (constant S_ .f32 0x3F666666#32)) M)
    (mulf (broadcastInDim S1x40320 ![] bcast_S_S1x40320 (constant S_ .f32 0x3DCCCCCD#32)) (valG P))

def valV (P : FVec Ideal S8x1x40320 .f32) (V : FVec Ideal S1x40320 .f32) : FVec Ideal S1x40320 .f32 :=
  addf (mulf (broadcastInDim S1x40320 ![] bcast_S_S1x40320 (constant S_ .f32 0x3F7FBE77#32)) V)
    (mulf (broadcastInDim S1x40320 ![] bcast_S_S1x40320 (constant S_ .f32 0x3A83126F#32)) (mulf (valG P) (valG P)))

def valD (W : FVec Ideal S1x40320 .f32) (P : FVec Ideal S8x1x40320 .f32) (M V : FVec Ideal S1x40320 .f32) : FVec Ideal S1x40320 .f32 :=
  mulf (broadcastInDim S1x40320 ![] bcast_S_S1x40320 (constant S_ .f32 0xBA83126F#32))
    (addf (Host.divf (Host.divf (valM P M) (broadcastInDim S1x40320 ![] bcast_S_S1x40320 (constant S_ .f32 0x3F26BD02#32)))
      (addf (Host.sqrt (Host.divf (valV P V) (broadcastInDim S1x40320 ![] bcast_S_S1x40320 (constant S_ .f32 0x3C231ACC#32))))
        (broadcastInDim S1x40320 ![] bcast_S_S1x40320 (constant S_ .f32 0x322BCC77#32))))
      (mulf (broadcastInDim S1x40320 ![] bcast_S_S1x40320 (constant S_ .f32 0x3C23D70A#32)) W))

theorem valM_at (P : FVec Ideal S8x1x40320 .f32) (M : FVec Ideal S1x40320 .f32) (y : S1x40320.Idx) :
    (valM P M y : EReal) = mom (M y) (valG P y) := rfl

theorem valV_at (P : FVec Ideal S8x1x40320 .f32) (V : FVec Ideal S1x40320 .f32) (y : S1x40320.Idx) :
    (valV P V y : EReal) = sec (V y) (valG P y) := rfl

theorem valD_at (W : FVec Ideal S1x40320 .f32) (P : FVec Ideal S8x1x40320 .f32) (M V : FVec Ideal S1x40320 .f32) (y : S1x40320.Idx) :
    (valD W P M V y : EReal) = del (W y) (valG P y) (M y) (V y) := rfl

theorem valG_at (P : FVec Ideal S8x1x40320 .f32) (i : Fin 1) (j : Fin 40320) :
    valG P (ix2 i j) = ∑ d : Fin 8, P (ix3 d i j) := by
  unfold valG
  rw [show i = 0 from Subsingleton.elim _ _]
  pointwise []

end Ref

open Cert.Kernel29Ideal Cert.Kernel29Ideal.Gen

section Cases

variable {F : FTy → Type} [FloatOps F]

/-- The parts of a block, added. -/
def g8 (x : Vec F S8x1x40320 .f32) : FVec F S1x40320 .f32 :=
  k0_pay3 (View.ld x (Rect.unit ![0, 0, 0] ![1, 1, 40320] inb_S8x1x40320_S1x1x40320_0_0_0))
    (View.ld x (Rect.unit ![1, 0, 0] ![1, 1, 40320] inb_S8x1x40320_S1x1x40320_1_0_0))
    (View.ld x (Rect.unit ![2, 0, 0] ![1, 1, 40320] inb_S8x1x40320_S1x1x40320_2_0_0))
    (View.ld x (Rect.unit ![3, 0, 0] ![1, 1, 40320] inb_S8x1x40320_S1x1x40320_3_0_0))
    (View.ld x (Rect.unit ![4, 0, 0] ![1, 1, 40320] inb_S8x1x40320_S1x1x40320_4_0_0))
    (View.ld x (Rect.unit ![5, 0, 0] ![1, 1, 40320] inb_S8x1x40320_S1x1x40320_5_0_0))
    (View.ld x (Rect.unit ![6, 0, 0] ![1, 1, 40320] inb_S8x1x40320_S1x1x40320_6_0_0))
    (View.ld x (Rect.unit ![7, 0, 0] ![1, 1, 40320] inb_S8x1x40320_S1x1x40320_7_0_0))

/-- The first moment's new value, from the same loads. -/
def m8 (x : Vec F S8x1x40320 .f32) (p : Vec F S1x40320 .f32) : FVec F S1x40320 .f32 :=
  k0_pay4 (View.ld x (Rect.unit ![0, 0, 0] ![1, 1, 40320] inb_S8x1x40320_S1x1x40320_0_0_0))
    (View.ld x (Rect.unit ![1, 0, 0] ![1, 1, 40320] inb_S8x1x40320_S1x1x40320_1_0_0))
    (View.ld x (Rect.unit ![2, 0, 0] ![1, 1, 40320] inb_S8x1x40320_S1x1x40320_2_0_0))
    (View.ld x (Rect.unit ![3, 0, 0] ![1, 1, 40320] inb_S8x1x40320_S1x1x40320_3_0_0))
    (View.ld x (Rect.unit ![4, 0, 0] ![1, 1, 40320] inb_S8x1x40320_S1x1x40320_4_0_0))
    (View.ld x (Rect.unit ![5, 0, 0] ![1, 1, 40320] inb_S8x1x40320_S1x1x40320_5_0_0))
    (View.ld x (Rect.unit ![6, 0, 0] ![1, 1, 40320] inb_S8x1x40320_S1x1x40320_6_0_0))
    (View.ld x (Rect.unit ![7, 0, 0] ![1, 1, 40320] inb_S8x1x40320_S1x1x40320_7_0_0)) p

/-- What the call writes, from the row of weights, the parts and the moments' rows. -/
def four (w : Vec F S1x40320 .f32) (x : Vec F S8x1x40320 .f32) (p v : Vec F S1x40320 .f32) :
    Vec F S1x40320 .f32 × Vec F S1x40320 .f32 × Vec F S1x40320 .f32 × Vec F S1x40320 .f32 :=
  (g8 x, k0_pay2 (g8 x) (m8 x p) v w, m8 x p, k0_pay1 (g8 x) v)

variable (m : (ℓ : Loc nD τ sig) → Buf (Elt F) ℓ) (c : Dev nD) (t : Fin cfg0.N)

theorem outs : outsAt0 m c t = four (iblk m c 0 t) (iblk m c 1 t) (iblk m c 2 t) (iblk m c 3 t) := by
  unfold outsAt0 four
  refine Prod.ext ?_ (Prod.ext ?_ (Prod.ext ?_ ?_)) <;> dsimp only
  on_goal 1 => unfold out0_A_4; refine (View.read_writes_eq_canon _ _ _ fun y => cover0_A_4 ..).trans ?_
  on_goal 2 => unfold out0_A_5; refine (View.read_writes_eq_canon _ _ _ fun y => cover0_A_5 ..).trans ?_
  on_goal 3 => unfold out0_A_6; refine (View.read_writes_eq_canon _ _ _ fun y => cover0_A_6 ..).trans ?_
  on_goal 4 => unfold out0_A_7; refine (View.read_writes_eq_canon _ _ _ fun y => cover0_A_7 ..).trans ?_
  all_goals
    unfold kernelRun0_A; dsimp only; sl_unfold_words
    refine (View.canon_unit_zero (S := S1x40320) zero2 _ _).trans ?_
    simp only [View.readAt_eq_ld, Memref.IsWhole.read_unread, read_unread_whole, View.ld_unit_zero (S := S1x40320) zero2]
    rfl

end Cases

theorem g8_at (x : Vec Ideal S8x1x40320 .f32) (r : Fin 1) (s : Fin 40320) :
    (g8 x (ix2 r s) : EReal) = sum8 fun d => x (ix3 d r s) := by
  unfold g8 k0_pay3
  rw [show r = 0 from Subsingleton.elim _ _]
  pointwise []
  rfl

theorem m8_at (x : Vec Ideal S8x1x40320 .f32) (p : Vec Ideal S1x40320 .f32) (y : S1x40320.Idx) :
    (m8 x p y : EReal) = mom (p y) (g8 x y) := by
  unfold m8 k0_pay4 g8
  rfl

theorem d8_at (g n v w : Vec Ideal S1x40320 .f32) (p : EReal) (y : S1x40320.Idx) (h : n y = mom p (g y)) :
    (k0_pay2 g n v w y : EReal) = del (w y) (g y) p (v y) := by
  unfold del
  rw [← h]
  rfl

variable (m : (ℓ : Loc nD τ sig) → Buf (Elt Ideal) ℓ) (c : Dev nD)

abbrev a0 : FVec Ideal S1x40320 .f32 := m ((c : Thread nD τ).loc main_arg0)
abbrev a1 : FVec Ideal S8x1x40320 .f32 := m ((c : Thread nD τ).loc main_arg1)
abbrev a2 : FVec Ideal S1x40320 .f32 := m ((c : Thread nD τ).loc main_arg2)
abbrev a3 : FVec Ideal S1x40320 .f32 := m ((c : Thread nD τ).loc main_arg3)

theorem idx : ∀ t : Fin cfg0.N, win0_0.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_1.index t = ![0, t.val, 0] := by
  decide +kernel

variable (t : Fin cfg0.N)

theorem lt : t.val < 1 := t.isLt

abbrev row (r : Fin 1) : Fin 1 := ⟨1 * t.val + r.val, by have := lt t; omega⟩

theorem blk0 (r : Fin 1) (s : Fin 40320) : iblk m c 0 t (ix2 r s) = a0 m c (ix2 (row t r) s) := by
  unfold row
  blk_ext [iblk, V, (idx t).1]

theorem blk2 (r : Fin 1) (s : Fin 40320) : iblk m c 2 t (ix2 r s) = a2 m c (ix2 (row t r) s) := by
  unfold row
  blk_ext [iblk, V, (idx t).2.1]

theorem blk3 (r : Fin 1) (s : Fin 40320) : iblk m c 3 t (ix2 r s) = a3 m c (ix2 (row t r) s) := by
  unfold row
  blk_ext [iblk, V, (idx t).2.2.1]

theorem blk1 (d : Fin 8) (r : Fin 1) (s : Fin 40320) : iblk m c 1 t (ix3 d r s) = a1 m c (ix3 d (row t r) s) := by
  unfold row
  blk_ext [iblk, V, (idx t).2.2.2.2.2.2.2]

theorem pointG (r : Fin 1) (s : Fin 40320) :
    g8 (iblk m c 1 t : Vec Ideal S8x1x40320 .f32) (ix2 r s) = valG (a1 m c) (ix2 (row t r) s) := by
  refine (g8_at _ r s).trans ((sum8_eq _).trans ?_)
  rw [valG_at]
  exact Finset.sum_congr rfl fun d _ => blk1 m c t d r s

theorem pointM (r : Fin 1) (s : Fin 40320) :
    m8 (iblk m c 1 t : Vec Ideal S8x1x40320 .f32) (iblk m c 2 t : Vec Ideal S1x40320 .f32) (ix2 r s) = valM (a1 m c) (a2 m c) (ix2 (row t r) s) :=
  (m8_at _ _ _).trans ((congr2 mom (blk2 m c t r s) (pointG m c t r s)).trans (valM_at _ _ _).symm)

theorem pointV (r : Fin 1) (s : Fin 40320) :
    k0_pay1 (g8 (iblk m c 1 t : Vec Ideal S8x1x40320 .f32)) (iblk m c 3 t : Vec Ideal S1x40320 .f32) (ix2 r s) = valV (a1 m c) (a3 m c) (ix2 (row t r) s) :=
  (show _ = sec _ _ from rfl).trans ((congr2 sec (blk3 m c t r s) (pointG m c t r s)).trans (valV_at _ _ _).symm)

theorem pointD (r : Fin 1) (s : Fin 40320) :
    k0_pay2 (g8 (iblk m c 1 t : Vec Ideal S8x1x40320 .f32)) (m8 (iblk m c 1 t : Vec Ideal S8x1x40320 .f32) (iblk m c 2 t : Vec Ideal S1x40320 .f32)) (iblk m c 3 t : Vec Ideal S1x40320 .f32) (iblk m c 0 t : Vec Ideal S1x40320 .f32) (ix2 r s)
      = valD (a0 m c) (a1 m c) (a2 m c) (a3 m c) (ix2 (row t r) s) :=
  (d8_at _ _ _ _ _ _ (m8_at _ _ _)).trans ((congr4 del (blk0 m c t r s) (pointG m c t r s) (blk2 m c t r s) (blk3 m c t r s)).trans (valD_at _ _ _ _ _).symm)

/-- Where a block's entry lies in the whole array. -/
theorem place (y : S1x40320.Idx) (f : S1x40320.Idx → EReal) (z : S1x40320.Idx) (h0 : (z 0).val = t.val * 1 + (y 0).val) (h1 : (z 1).val = (y 1).val) :
    f (ix2 (row t (y 0)) (y 1)) = f z := by
  refine congrArg f (funext fun a => Fin.ext ?_)
  match a with
  | ⟨0, _⟩ => show 1 * t.val + (y 0).val = (z 0).val; omega
  | ⟨1, _⟩ => exact h1.symm

theorem outG : (dats m 0 c).arrAt 4 cfg0.N = valG (a1 m c) := by
  refine (dats m 0 c).arrAt_eq_of_covers 4 _ (by decide +kernel) fun t hf y => ?_
  blk_simp
  rw [after0_4, outs]
  refine (congrArg (g8 _) (eta2 (n0 := 1) (n1 := 40320) y)).trans ((pointG m c t _ _).trans ?_)
  have e := (idx t).2.2.2.1
  refine place t y _ _ ?_ ?_
  · show win0_4.index t 0 * 1 + 1 * (y 0).val = _
    rw [e]; show t.val * 1 + _ = _; omega
  · show win0_4.index t 1 * 40320 + 1 * (y 1).val = _
    rw [e]; show 0 * 40320 + _ = _; omega

theorem outD : (dats m 0 c).arrAt 5 cfg0.N = valD (a0 m c) (a1 m c) (a2 m c) (a3 m c) := by
  refine (dats m 0 c).arrAt_eq_of_covers 5 _ (by decide +kernel) fun t hf y => ?_
  blk_simp
  rw [after0_5, outs]
  refine (congrArg (k0_pay2 _ _ _ _) (eta2 (n0 := 1) (n1 := 40320) y)).trans ((pointD m c t _ _).trans ?_)
  have e := (idx t).2.2.2.2.1
  refine place t y _ _ ?_ ?_
  · show win0_5.index t 0 * 1 + 1 * (y 0).val = _
    rw [e]; show t.val * 1 + _ = _; omega
  · show win0_5.index t 1 * 40320 + 1 * (y 1).val = _
    rw [e]; show 0 * 40320 + _ = _; omega

theorem outM : (dats m 0 c).arrAt 6 cfg0.N = valM (a1 m c) (a2 m c) := by
  refine (dats m 0 c).arrAt_eq_of_covers 6 _ (by decide +kernel) fun t hf y => ?_
  blk_simp
  rw [after0_6, outs]
  refine (congrArg (m8 _ _) (eta2 (n0 := 1) (n1 := 40320) y)).trans ((pointM m c t _ _).trans ?_)
  have e := (idx t).2.2.2.2.2.1
  refine place t y _ _ ?_ ?_
  · show win0_6.index t 0 * 1 + 1 * (y 0).val = _
    rw [e]; show t.val * 1 + _ = _; omega
  · show win0_6.index t 1 * 40320 + 1 * (y 1).val = _
    rw [e]; show 0 * 40320 + _ = _; omega

theorem outV : (dats m 0 c).arrAt 7 cfg0.N = valV (a1 m c) (a3 m c) := by
  refine (dats m 0 c).arrAt_eq_of_covers 7 _ (by decide +kernel) fun t hf y => ?_
  blk_simp
  rw [after0_7, outs]
  refine (congrArg (k0_pay1 _ _) (eta2 (n0 := 1) (n1 := 40320) y)).trans ((pointV m c t _ _).trans ?_)
  have e := (idx t).2.2.2.2.2.2.1
  refine place t y _ _ ?_ ?_
  · show win0_7.index t 0 * 1 + 1 * (y 0).val = _
    rw [e]; show t.val * 1 + _ = _; omega
  · show win0_7.index t 1 * 40320 + 1 * (y 1).val = _
    rw [e]; show 0 * 40320 + _ = _; omega

end Cert.AdamRow

end
-- ==== Proof.AdaDw.lean ====
/-
  The gradient by the conditioning's weight (`ada_dw`): its call over the extended reals, and the reference's term.
-/
module

public import proofs.«01_k».proof.Proof.Prod
public import proofs.«01_k».proof.Proof.Gen.Kernel30Ideal.Frame
public import proofs.«01_k».proof.Proof.Gen.Reference30Ideal.Run

@[expose] public section

set_option maxRecDepth 16384

noncomputable section

namespace Cert.AdaDw

open Idealize.ShloMosaic Idealize.ShloMosaic.TcCoe Idealize.SL.Sem
open Cert.Prod

/-- `silu`. -/
def silu (x : EReal) : EReal := x * Ideal.div 1 (1 + Ideal.exp (-x))

section Ref

open Cert.Reference30Ideal Cert.Reference30Ideal.Gen

/-- `silu` of the conditioning, as the reference prints it. -/
def act (A : FVec Ideal S16x2048 .f32) : FVec Ideal S16x2048 .f32 :=
  mulf A (Host.divf (broadcastInDim S16x2048 ![] bcast_S_S16x2048 (constant S_ .f32 0x3F800000#32))
    (addf (broadcastInDim S16x2048 ![] bcast_S_S16x2048 (constant S_ .f32 0x3F800000#32)) (Host.exp (Host.negf A))))

/-- The reference's result as a function of its two arguments. -/
def val (A : FVec Ideal S16x2048 .f32) (B : FVec Ideal S16x1536 .f32) : FVec Ideal S2048x1536 .f32 :=
  transpose S2048x1536 [1, 0] (Host.dotGeneral dot_S16x1536_S16x2048_S1536x2048_0_0_1_1_n_n none B (act A)) transposes_S1536x2048_S2048x1536_1_0

theorem val_at (A : FVec Ideal S16x2048 .f32) (B : FVec Ideal S16x1536 .f32) (i : Fin 2048) (j : Fin 1536) :
    val A B (ix2 i j) = ∑ k : Fin 16, silu (A (ix2 k i)) * B (ix2 k j) := by
  unfold val
  pointwise []
  refine Finset.sum_congr rfl fun k _ => (mul_comm _ _).trans (congrArg (· * _) ?_)
  unfold act
  pointwise []
  rfl

end Ref

open Cert.Kernel30Ideal Cert.Kernel30Ideal.Gen

variable (m : (ℓ : Loc nD τ sig) → Buf (Elt Ideal) ℓ) (c : Dev nD)

abbrev a0 : FVec Ideal S16x2048 .f32 := m ((c : Thread nD τ).loc main_arg0)
abbrev a1 : FVec Ideal S16x1536 .f32 := m ((c : Thread nD τ).loc main_arg1)

theorem pay_at (a : Vec Ideal S16x1024 .f32) (b : Vec Ideal S16x768 .f32) (r : Fin 1024) (s : Fin 768) :
    k0_pay1 a b (ix2 r s) = ∑ k : Fin 16, silu (a (ix2 k r)) * b (ix2 k s) := by
  unfold k0_pay1
  pointwise []
  refine Finset.sum_congr rfl fun k _ => congrArg (· * _) ?_
  unfold silu
  rw [← zero_sub]

theorem idx : ∀ t : Fin cfg0.N, win0_0.index t = ![0, t.val / 2] ∧ win0_1.index t = ![0, t.val % 2]
    ∧ win0_2.index t = ![t.val / 2, t.val % 2] := by
  decide +kernel

variable (t : Fin cfg0.N)

theorem lt : t.val < 4 := t.isLt

abbrev row (r : Fin 1024) : Fin 2048 := ⟨1024 * (t.val / 2) + r.val, by have := lt t; omega⟩
abbrev column (s : Fin 768) : Fin 1536 := ⟨768 * (t.val % 2) + s.val, by have := lt t; omega⟩

theorem blk0 (k : Fin 16) (r : Fin 1024) : iblk m c 0 t (ix2 k r) = a0 m c (ix2 k (row t r)) := by
  unfold row
  blk_ext [iblk, V, (idx t).1]

theorem blk1 (k : Fin 16) (s : Fin 768) : iblk m c 1 t (ix2 k s) = a1 m c (ix2 k (column t s)) := by
  unfold column
  blk_ext [iblk, V, (idx t).2.1]

theorem point (r : Fin 1024) (s : Fin 768) :
    k0_pay1 (iblk m c 0 t : Vec Ideal S16x1024 .f32) (iblk m c 1 t : Vec Ideal S16x768 .f32) (ix2 r s)
      = val (a0 m c) (a1 m c) (ix2 (row t r) (column t s)) := by
  rw [pay_at, val_at]
  exact sum_mul (fun k => congrArg silu (blk0 m c t k r)) fun k => blk1 m c t k s

theorem out : (dats m 0 c).arrAt 2 cfg0.N = val (a0 m c) (a1 m c) := by
  refine (dats m 0 c).arrAt_eq_of_covers 2 _ (by decide +kernel) fun t hf y => ?_
  blk_simp
  rw [after0_2]
  unfold out0_2
  rw [View.canon_unit_zero zero2, View.ld_unit_zero zero2, View.ld_unit_zero zero2]
  refine (congrArg (k0_pay1 _ _) (eta2 (n0 := 1024) (n1 := 768) y)).trans ((point m c t _ _).trans (congrArg _ ?_))
  have e := (idx t).2.2
  funext a; apply Fin.ext
  match a with
  | ⟨0, _⟩ =>
    show 1024 * (t.val / 2) + (y 0).val = win0_2.index t 0 * 1024 + 1 * (y 0).val
    rw [e]; show _ = t.val / 2 * 1024 + _; omega
  | ⟨1, _⟩ =>
    show 768 * (t.val % 2) + (y 1).val = win0_2.index t 1 * 768 + 1 * (y 1).val
    rw [e]; show _ = t.val % 2 * 768 + _; omega

end Cert.AdaDw

end
-- ==== Proof.AdamClaims.lean ====
/-
  The claims about the optimiser's calls, and about the gradient by the conditioning's weight: that each runs to the end,
  leaves its arguments alone and gives its reference's results.
-/
module

public import proofs.«01_k».proof.Defs
public import proofs.«01_k».proof.Proof.Adam
public import proofs.«01_k».proof.Proof.AdamUp
public import proofs.«01_k».proof.Proof.Gen.Kernel21.Frame
public import proofs.«01_k».proof.Proof.AdamDown
public import proofs.«01_k».proof.Proof.Gen.Kernel22.Frame
public import proofs.«01_k».proof.Proof.AdamIn
public import proofs.«01_k».proof.Proof.Gen.Kernel23.Frame
public import proofs.«01_k».proof.Proof.AdamOut
public import proofs.«01_k».proof.Proof.Gen.Kernel24.Frame
public import proofs.«01_k».proof.Proof.AdamBranch
public import proofs.«01_k».proof.Proof.Gen.Kernel25.Frame
public import proofs.«01_k».proof.Proof.AdamQ
public import proofs.«01_k».proof.Proof.Gen.Kernel26.Frame
public import proofs.«01_k».proof.Proof.AdamKv
public import proofs.«01_k».proof.Proof.Gen.Kernel27.Frame
public import proofs.«01_k».proof.Proof.AdamAda
public import proofs.«01_k».proof.Proof.Gen.Kernel28.Frame
public import proofs.«01_k».proof.Proof.AdamRow
public import proofs.«01_k».proof.Proof.Gen.Kernel29.Frame
public import proofs.«01_k».proof.Proof.AdaDw
public import proofs.«01_k».proof.Proof.Gen.Kernel30.Frame

@[expose] public section

set_option maxRecDepth 16384

noncomputable section

namespace Cert.AdamClaims

open Idealize.ShloMosaic Idealize.ShloMosaic.TcCoe Idealize.SL.Sem
open Cert.Prod Cert.Adam

theorem congr3 {α₀ α₁ α₂ β : Type} (f : α₀ → α₁ → α₂ → β) {x0 y0 x1 y1 x2 y2} (h0 : x0 = y0) (h1 : x1 = y1) (h2 : x2 = y2) :
    f x0 x1 x2 = f y0 y1 y2 := by
  subst h0 h1 h2; rfl

theorem congr5 {α₀ α₁ α₂ α₃ α₄ β : Type} (f : α₀ → α₁ → α₂ → α₃ → α₄ → β) {x0 y0 x1 y1 x2 y2 x3 y3 x4 y4} (h0 : x0 = y0) (h1 : x1 = y1)
    (h2 : x2 = y2) (h3 : x3 = y3) (h4 : x4 = y4) : f x0 x1 x2 x3 x4 = f y0 y1 y2 y3 y4 := by
  subst h0 h1 h2 h3 h4; rfl

namespace P21

theorem frame_kernel : quiescent_Kernel21 := fun m ρ _ => Kernel21.Gen.frame m ρ

theorem frame_ideal : quiescent_Kernel21Ideal := fun m ρ _ => Kernel21Ideal.Gen.frame m ρ

theorem frame_ref : quiescent_Reference21Ideal := fun m ρ _ =>
  (θ_run Reference21Ideal.defs _ _).mono (fun r h => ⟨fun c => (h c).2.2.2.2, sem_eq_zero_of_no_sems (by decide) r.2⟩)
    (Reference21Ideal.Value.run (F := Ideal) m ρ)

theorem preserves : preserves_Kernel21_Kernel21Ideal := trivial

theorem algebraic : algebraic_Kernel21Ideal_Reference21Ideal := by
  intro m ρ m' ρ' _ hagree
  refine ⟨fun c => Cert.AdamUp.valG (Cert.AdamUp.a1 m c) (Cert.AdamUp.a2 m c),
    fun c => Cert.AdamUp.valD (Cert.AdamUp.a0 m c) (Cert.AdamUp.a1 m c) (Cert.AdamUp.a2 m c) (Cert.AdamUp.a3 m c) (Cert.AdamUp.a4 m c),
    fun c => Cert.AdamUp.valM (Cert.AdamUp.a1 m c) (Cert.AdamUp.a2 m c) (Cert.AdamUp.a3 m c),
    fun c => Cert.AdamUp.valV (Cert.AdamUp.a1 m c) (Cert.AdamUp.a2 m c) (Cert.AdamUp.a4 m c), ?_, ?_⟩
  · exact (θ_run Kernel21Ideal.defs _ _).mono (fun r h c => ⟨((h.1 c).1 5).trans (Cert.AdamUp.outG m c), ((h.1 c).1 6).trans (Cert.AdamUp.outD m c),
        ((h.1 c).1 7).trans (Cert.AdamUp.outM m c), ((h.1 c).1 8).trans (Cert.AdamUp.outV m c), h.2 c⟩)
      (θ_run_and (Kernel21Ideal.Gen.run_main (F := Ideal) m ρ) (Kernel21Ideal.Gen.unchanged (F := Ideal) m ρ))
  · refine (θ_run Reference21Ideal.defs _ _).mono (fun r h c => ?_) (Reference21Ideal.Value.run (F := Ideal) m' ρ')
    obtain ⟨e0, e1, e2, e3, e4⟩ := hagree c
    obtain ⟨hG, hD, hM, hV, hargs⟩ := h c
    exact ⟨hG.trans (congr2 Cert.AdamUp.valG e1 e2), hD.trans (congr5 Cert.AdamUp.valD e0 e1 e2 e3 e4), hM.trans (congr3 Cert.AdamUp.valM e1 e2 e3), hV.trans (congr3 Cert.AdamUp.valV e1 e2 e4), hargs⟩

end P21

namespace P22

theorem frame_kernel : quiescent_Kernel22 := fun m ρ _ => Kernel22.Gen.frame m ρ

theorem frame_ideal : quiescent_Kernel22Ideal := fun m ρ _ => Kernel22Ideal.Gen.frame m ρ

theorem frame_ref : quiescent_Reference22Ideal := fun m ρ _ =>
  (θ_run Reference22Ideal.defs _ _).mono (fun r h => ⟨fun c => (h c).2.2.2.2, sem_eq_zero_of_no_sems (by decide) r.2⟩)
    (Reference22Ideal.Value.run (F := Ideal) m ρ)

theorem preserves : preserves_Kernel22_Kernel22Ideal := trivial

theorem algebraic : algebraic_Kernel22Ideal_Reference22Ideal := by
  intro m ρ m' ρ' _ hagree
  refine ⟨fun c => Cert.AdamDown.valG (Cert.AdamDown.a1 m c) (Cert.AdamDown.a2 m c),
    fun c => Cert.AdamDown.valD (Cert.AdamDown.a0 m c) (Cert.AdamDown.a1 m c) (Cert.AdamDown.a2 m c) (Cert.AdamDown.a3 m c) (Cert.AdamDown.a4 m c),
    fun c => Cert.AdamDown.valM (Cert.AdamDown.a1 m c) (Cert.AdamDown.a2 m c) (Cert.AdamDown.a3 m c),
    fun c => Cert.AdamDown.valV (Cert.AdamDown.a1 m c) (Cert.AdamDown.a2 m c) (Cert.AdamDown.a4 m c), ?_, ?_⟩
  · exact (θ_run Kernel22Ideal.defs _ _).mono (fun r h c => ⟨((h.1 c).1 5).trans (Cert.AdamDown.outG m c), ((h.1 c).1 6).trans (Cert.AdamDown.outD m c),
        ((h.1 c).1 7).trans (Cert.AdamDown.outM m c), ((h.1 c).1 8).trans (Cert.AdamDown.outV m c), h.2 c⟩)
      (θ_run_and (Kernel22Ideal.Gen.run_main (F := Ideal) m ρ) (Kernel22Ideal.Gen.unchanged (F := Ideal) m ρ))
  · refine (θ_run Reference22Ideal.defs _ _).mono (fun r h c => ?_) (Reference22Ideal.Value.run (F := Ideal) m' ρ')
    obtain ⟨e0, e1, e2, e3, e4⟩ := hagree c
    obtain ⟨hG, hD, hM, hV, hargs⟩ := h c
    exact ⟨hG.trans (congr2 Cert.AdamDown.valG e1 e2), hD.trans (congr5 Cert.AdamDown.valD e0 e1 e2 e3 e4), hM.trans (congr3 Cert.AdamDown.valM e1 e2 e3), hV.trans (congr3 Cert.AdamDown.valV e1 e2 e4), hargs⟩

end P22

namespace P23

theorem frame_kernel : quiescent_Kernel23 := fun m ρ _ => Kernel23.Gen.frame m ρ

theorem frame_ideal : quiescent_Kernel23Ideal := fun m ρ _ => Kernel23Ideal.Gen.frame m ρ

theorem frame_ref : quiescent_Reference23Ideal := fun m ρ _ =>
  (θ_run Reference23Ideal.defs _ _).mono (fun r h => ⟨fun c => (h c).2.2.2.2, sem_eq_zero_of_no_sems (by decide) r.2⟩)
    (Reference23Ideal.Value.run (F := Ideal) m ρ)

theorem preserves : preserves_Kernel23_Kernel23Ideal := trivial

theorem algebraic : algebraic_Kernel23Ideal_Reference23Ideal := by
  intro m ρ m' ρ' _ hagree
  refine ⟨fun c => Cert.AdamIn.valG (Cert.AdamIn.a1 m c) (Cert.AdamIn.a2 m c),
    fun c => Cert.AdamIn.valD (Cert.AdamIn.a0 m c) (Cert.AdamIn.a1 m c) (Cert.AdamIn.a2 m c) (Cert.AdamIn.a3 m c) (Cert.AdamIn.a4 m c),
    fun c => Cert.AdamIn.valM (Cert.AdamIn.a1 m c) (Cert.AdamIn.a2 m c) (Cert.AdamIn.a3 m c),
    fun c => Cert.AdamIn.valV (Cert.AdamIn.a1 m c) (Cert.AdamIn.a2 m c) (Cert.AdamIn.a4 m c), ?_, ?_⟩
  · exact (θ_run Kernel23Ideal.defs _ _).mono (fun r h c => ⟨((h.1 c).1 5).trans (Cert.AdamIn.outG m c), ((h.1 c).1 6).trans (Cert.AdamIn.outD m c),
        ((h.1 c).1 7).trans (Cert.AdamIn.outM m c), ((h.1 c).1 8).trans (Cert.AdamIn.outV m c), h.2 c⟩)
      (θ_run_and (Kernel23Ideal.Gen.run_main (F := Ideal) m ρ) (Kernel23Ideal.Gen.unchanged (F := Ideal) m ρ))
  · refine (θ_run Reference23Ideal.defs _ _).mono (fun r h c => ?_) (Reference23Ideal.Value.run (F := Ideal) m' ρ')
    obtain ⟨e0, e1, e2, e3, e4⟩ := hagree c
    obtain ⟨hG, hD, hM, hV, hargs⟩ := h c
    exact ⟨hG.trans (congr2 Cert.AdamIn.valG e1 e2), hD.trans (congr5 Cert.AdamIn.valD e0 e1 e2 e3 e4), hM.trans (congr3 Cert.AdamIn.valM e1 e2 e3), hV.trans (congr3 Cert.AdamIn.valV e1 e2 e4), hargs⟩

end P23

namespace P24

theorem frame_kernel : quiescent_Kernel24 := fun m ρ _ => Kernel24.Gen.frame m ρ

theorem frame_ideal : quiescent_Kernel24Ideal := fun m ρ _ => Kernel24Ideal.Gen.frame m ρ

theorem frame_ref : quiescent_Reference24Ideal := fun m ρ _ =>
  (θ_run Reference24Ideal.defs _ _).mono (fun r h => ⟨fun c => (h c).2.2.2.2, sem_eq_zero_of_no_sems (by decide) r.2⟩)
    (Reference24Ideal.Value.run (F := Ideal) m ρ)

theorem preserves : preserves_Kernel24_Kernel24Ideal := trivial

theorem algebraic : algebraic_Kernel24Ideal_Reference24Ideal := by
  intro m ρ m' ρ' _ hagree
  refine ⟨fun c => Cert.AdamOut.valG (Cert.AdamOut.a1 m c) (Cert.AdamOut.a2 m c),
    fun c => Cert.AdamOut.valD (Cert.AdamOut.a0 m c) (Cert.AdamOut.a1 m c) (Cert.AdamOut.a2 m c) (Cert.AdamOut.a3 m c) (Cert.AdamOut.a4 m c),
    fun c => Cert.AdamOut.valM (Cert.AdamOut.a1 m c) (Cert.AdamOut.a2 m c) (Cert.AdamOut.a3 m c),
    fun c => Cert.AdamOut.valV (Cert.AdamOut.a1 m c) (Cert.AdamOut.a2 m c) (Cert.AdamOut.a4 m c), ?_, ?_⟩
  · exact (θ_run Kernel24Ideal.defs _ _).mono (fun r h c => ⟨((h.1 c).1 5).trans (Cert.AdamOut.outG m c), ((h.1 c).1 6).trans (Cert.AdamOut.outD m c),
        ((h.1 c).1 7).trans (Cert.AdamOut.outM m c), ((h.1 c).1 8).trans (Cert.AdamOut.outV m c), h.2 c⟩)
      (θ_run_and (Kernel24Ideal.Gen.run_main (F := Ideal) m ρ) (Kernel24Ideal.Gen.unchanged (F := Ideal) m ρ))
  · refine (θ_run Reference24Ideal.defs _ _).mono (fun r h c => ?_) (Reference24Ideal.Value.run (F := Ideal) m' ρ')
    obtain ⟨e0, e1, e2, e3, e4⟩ := hagree c
    obtain ⟨hG, hD, hM, hV, hargs⟩ := h c
    exact ⟨hG.trans (congr2 Cert.AdamOut.valG e1 e2), hD.trans (congr5 Cert.AdamOut.valD e0 e1 e2 e3 e4), hM.trans (congr3 Cert.AdamOut.valM e1 e2 e3), hV.trans (congr3 Cert.AdamOut.valV e1 e2 e4), hargs⟩

end P24

namespace P25

theorem frame_kernel : quiescent_Kernel25 := fun m ρ _ => Kernel25.Gen.frame m ρ

theorem frame_ideal : quiescent_Kernel25Ideal := fun m ρ _ => Kernel25Ideal.Gen.frame m ρ

theorem frame_ref : quiescent_Reference25Ideal := fun m ρ _ =>
  (θ_run Reference25Ideal.defs _ _).mono (fun r h => ⟨fun c => (h c).2.2.2.2, sem_eq_zero_of_no_sems (by decide) r.2⟩)
    (Reference25Ideal.Value.run (F := Ideal) m ρ)

theorem preserves : preserves_Kernel25_Kernel25Ideal := trivial

theorem algebraic : algebraic_Kernel25Ideal_Reference25Ideal := by
  intro m ρ m' ρ' _ hagree
  refine ⟨fun c => Cert.AdamBranch.valG (Cert.AdamBranch.a1 m c) (Cert.AdamBranch.a2 m c),
    fun c => Cert.AdamBranch.valD (Cert.AdamBranch.a0 m c) (Cert.AdamBranch.a1 m c) (Cert.AdamBranch.a2 m c) (Cert.AdamBranch.a3 m c) (Cert.AdamBranch.a4 m c),
    fun c => Cert.AdamBranch.valM (Cert.AdamBranch.a1 m c) (Cert.AdamBranch.a2 m c) (Cert.AdamBranch.a3 m c),
    fun c => Cert.AdamBranch.valV (Cert.AdamBranch.a1 m c) (Cert.AdamBranch.a2 m c) (Cert.AdamBranch.a4 m c), ?_, ?_⟩
  · exact (θ_run Kernel25Ideal.defs _ _).mono (fun r h c => ⟨((h.1 c).1 5).trans (Cert.AdamBranch.outG m c), ((h.1 c).1 6).trans (Cert.AdamBranch.outD m c),
        ((h.1 c).1 7).trans (Cert.AdamBranch.outM m c), ((h.1 c).1 8).trans (Cert.AdamBranch.outV m c), h.2 c⟩)
      (θ_run_and (Kernel25Ideal.Gen.run_main (F := Ideal) m ρ) (Kernel25Ideal.Gen.unchanged (F := Ideal) m ρ))
  · refine (θ_run Reference25Ideal.defs _ _).mono (fun r h c => ?_) (Reference25Ideal.Value.run (F := Ideal) m' ρ')
    obtain ⟨e0, e1, e2, e3, e4⟩ := hagree c
    obtain ⟨hG, hD, hM, hV, hargs⟩ := h c
    exact ⟨hG.trans (congr2 Cert.AdamBranch.valG e1 e2), hD.trans (congr5 Cert.AdamBranch.valD e0 e1 e2 e3 e4), hM.trans (congr3 Cert.AdamBranch.valM e1 e2 e3), hV.trans (congr3 Cert.AdamBranch.valV e1 e2 e4), hargs⟩

end P25

namespace P26

theorem frame_kernel : quiescent_Kernel26 := fun m ρ _ => Kernel26.Gen.frame m ρ

theorem frame_ideal : quiescent_Kernel26Ideal := fun m ρ _ => Kernel26Ideal.Gen.frame m ρ

theorem frame_ref : quiescent_Reference26Ideal := fun m ρ _ =>
  (θ_run Reference26Ideal.defs _ _).mono (fun r h => ⟨fun c => (h c).2.2.2.2, sem_eq_zero_of_no_sems (by decide) r.2⟩)
    (Reference26Ideal.Value.run (F := Ideal) m ρ)

theorem preserves : preserves_Kernel26_Kernel26Ideal := trivial

theorem algebraic : algebraic_Kernel26Ideal_Reference26Ideal := by
  intro m ρ m' ρ' _ hagree
  refine ⟨fun c => Cert.AdamQ.valG (Cert.AdamQ.a1 m c) (Cert.AdamQ.a2 m c),
    fun c => Cert.AdamQ.valD (Cert.AdamQ.a0 m c) (Cert.AdamQ.a1 m c) (Cert.AdamQ.a2 m c) (Cert.AdamQ.a3 m c) (Cert.AdamQ.a4 m c),
    fun c => Cert.AdamQ.valM (Cert.AdamQ.a1 m c) (Cert.AdamQ.a2 m c) (Cert.AdamQ.a3 m c),
    fun c => Cert.AdamQ.valV (Cert.AdamQ.a1 m c) (Cert.AdamQ.a2 m c) (Cert.AdamQ.a4 m c), ?_, ?_⟩
  · exact (θ_run Kernel26Ideal.defs _ _).mono (fun r h c => ⟨((h.1 c).1 5).trans (Cert.AdamQ.outG m c), ((h.1 c).1 6).trans (Cert.AdamQ.outD m c),
        ((h.1 c).1 7).trans (Cert.AdamQ.outM m c), ((h.1 c).1 8).trans (Cert.AdamQ.outV m c), h.2 c⟩)
      (θ_run_and (Kernel26Ideal.Gen.run_main (F := Ideal) m ρ) (Kernel26Ideal.Gen.unchanged (F := Ideal) m ρ))
  · refine (θ_run Reference26Ideal.defs _ _).mono (fun r h c => ?_) (Reference26Ideal.Value.run (F := Ideal) m' ρ')
    obtain ⟨e0, e1, e2, e3, e4⟩ := hagree c
    obtain ⟨hG, hD, hM, hV, hargs⟩ := h c
    exact ⟨hG.trans (congr2 Cert.AdamQ.valG e1 e2), hD.trans (congr5 Cert.AdamQ.valD e0 e1 e2 e3 e4), hM.trans (congr3 Cert.AdamQ.valM e1 e2 e3), hV.trans (congr3 Cert.AdamQ.valV e1 e2 e4), hargs⟩

end P26

namespace P27

theorem frame_kernel : quiescent_Kernel27 := fun m ρ _ => Kernel27.Gen.frame m ρ

theorem frame_ideal : quiescent_Kernel27Ideal := fun m ρ _ => Kernel27Ideal.Gen.frame m ρ

theorem frame_ref : quiescent_Reference27Ideal := fun m ρ _ =>
  (θ_run Reference27Ideal.defs _ _).mono (fun r h => ⟨fun c => (h c).2.2.2.2, sem_eq_zero_of_no_sems (by decide) r.2⟩)
    (Reference27Ideal.Value.run (F := Ideal) m ρ)

theorem preserves : preserves_Kernel27_Kernel27Ideal := trivial

theorem algebraic : algebraic_Kernel27Ideal_Reference27Ideal := by
  intro m ρ m' ρ' _ hagree
  refine ⟨fun c => Cert.AdamKv.valG (Cert.AdamKv.a1 m c) (Cert.AdamKv.a2 m c),
    fun c => Cert.AdamKv.valD (Cert.AdamKv.a0 m c) (Cert.AdamKv.a1 m c) (Cert.AdamKv.a2 m c) (Cert.AdamKv.a3 m c) (Cert.AdamKv.a4 m c),
    fun c => Cert.AdamKv.valM (Cert.AdamKv.a1 m c) (Cert.AdamKv.a2 m c) (Cert.AdamKv.a3 m c),
    fun c => Cert.AdamKv.valV (Cert.AdamKv.a1 m c) (Cert.AdamKv.a2 m c) (Cert.AdamKv.a4 m c), ?_, ?_⟩
  · exact (θ_run Kernel27Ideal.defs _ _).mono (fun r h c => ⟨((h.1 c).1 5).trans (Cert.AdamKv.outG m c), ((h.1 c).1 6).trans (Cert.AdamKv.outD m c),
        ((h.1 c).1 7).trans (Cert.AdamKv.outM m c), ((h.1 c).1 8).trans (Cert.AdamKv.outV m c), h.2 c⟩)
      (θ_run_and (Kernel27Ideal.Gen.run_main (F := Ideal) m ρ) (Kernel27Ideal.Gen.unchanged (F := Ideal) m ρ))
  · refine (θ_run Reference27Ideal.defs _ _).mono (fun r h c => ?_) (Reference27Ideal.Value.run (F := Ideal) m' ρ')
    obtain ⟨e0, e1, e2, e3, e4⟩ := hagree c
    obtain ⟨hG, hD, hM, hV, hargs⟩ := h c
    exact ⟨hG.trans (congr2 Cert.AdamKv.valG e1 e2), hD.trans (congr5 Cert.AdamKv.valD e0 e1 e2 e3 e4), hM.trans (congr3 Cert.AdamKv.valM e1 e2 e3), hV.trans (congr3 Cert.AdamKv.valV e1 e2 e4), hargs⟩

end P27

namespace P28

theorem frame_kernel : quiescent_Kernel28 := fun m ρ _ => Kernel28.Gen.frame m ρ

theorem frame_ideal : quiescent_Kernel28Ideal := fun m ρ _ => Kernel28Ideal.Gen.frame m ρ

theorem frame_ref : quiescent_Reference28Ideal := fun m ρ _ =>
  (θ_run Reference28Ideal.defs _ _).mono (fun r h => ⟨fun c => (h c).2.2.2.2, sem_eq_zero_of_no_sems (by decide) r.2⟩)
    (Reference28Ideal.Value.run (F := Ideal) m ρ)

theorem preserves : preserves_Kernel28_Kernel28Ideal := trivial

theorem algebraic : algebraic_Kernel28Ideal_Reference28Ideal := by
  intro m ρ m' ρ' _ hagree
  refine ⟨fun c => Cert.AdamAda.valG (Cert.AdamAda.a1 m c) (Cert.AdamAda.a2 m c),
    fun c => Cert.AdamAda.valD (Cert.AdamAda.a0 m c) (Cert.AdamAda.a1 m c) (Cert.AdamAda.a2 m c) (Cert.AdamAda.a3 m c) (Cert.AdamAda.a4 m c),
    fun c => Cert.AdamAda.valM (Cert.AdamAda.a1 m c) (Cert.AdamAda.a2 m c) (Cert.AdamAda.a3 m c),
    fun c => Cert.AdamAda.valV (Cert.AdamAda.a1 m c) (Cert.AdamAda.a2 m c) (Cert.AdamAda.a4 m c), ?_, ?_⟩
  · exact (θ_run Kernel28Ideal.defs _ _).mono (fun r h c => ⟨((h.1 c).1 5).trans (Cert.AdamAda.outG m c), ((h.1 c).1 6).trans (Cert.AdamAda.outD m c),
        ((h.1 c).1 7).trans (Cert.AdamAda.outM m c), ((h.1 c).1 8).trans (Cert.AdamAda.outV m c), h.2 c⟩)
      (θ_run_and (Kernel28Ideal.Gen.run_main (F := Ideal) m ρ) (Kernel28Ideal.Gen.unchanged (F := Ideal) m ρ))
  · refine (θ_run Reference28Ideal.defs _ _).mono (fun r h c => ?_) (Reference28Ideal.Value.run (F := Ideal) m' ρ')
    obtain ⟨e0, e1, e2, e3, e4⟩ := hagree c
    obtain ⟨hG, hD, hM, hV, hargs⟩ := h c
    exact ⟨hG.trans (congr2 Cert.AdamAda.valG e1 e2), hD.trans (congr5 Cert.AdamAda.valD e0 e1 e2 e3 e4), hM.trans (congr3 Cert.AdamAda.valM e1 e2 e3), hV.trans (congr3 Cert.AdamAda.valV e1 e2 e4), hargs⟩

end P28

namespace P29

theorem frame_kernel : quiescent_Kernel29 := fun m ρ _ => Kernel29.Gen.frame m ρ

theorem frame_ideal : quiescent_Kernel29Ideal := fun m ρ _ => Kernel29Ideal.Gen.frame m ρ

theorem frame_ref : quiescent_Reference29Ideal := fun m ρ _ =>
  (θ_run Reference29Ideal.defs _ _).mono (fun r h => ⟨fun c => (h c).2.2.2.2, sem_eq_zero_of_no_sems (by decide) r.2⟩)
    (Reference29Ideal.Value.run (F := Ideal) m ρ)

theorem preserves : preserves_Kernel29_Kernel29Ideal := trivial

theorem algebraic : algebraic_Kernel29Ideal_Reference29Ideal := by
  intro m ρ m' ρ' _ hagree
  refine ⟨fun c => Cert.AdamRow.valG (Cert.AdamRow.a1 m c),
    fun c => Cert.AdamRow.valD (Cert.AdamRow.a0 m c) (Cert.AdamRow.a1 m c) (Cert.AdamRow.a2 m c) (Cert.AdamRow.a3 m c),
    fun c => Cert.AdamRow.valM (Cert.AdamRow.a1 m c) (Cert.AdamRow.a2 m c),
    fun c => Cert.AdamRow.valV (Cert.AdamRow.a1 m c) (Cert.AdamRow.a3 m c), ?_, ?_⟩
  · exact (θ_run Kernel29Ideal.defs _ _).mono (fun r h c => ⟨((h.1 c).1 4).trans (Cert.AdamRow.outG m c), ((h.1 c).1 5).trans (Cert.AdamRow.outD m c),
        ((h.1 c).1 6).trans (Cert.AdamRow.outM m c), ((h.1 c).1 7).trans (Cert.AdamRow.outV m c), h.2 c⟩)
      (θ_run_and (Kernel29Ideal.Gen.run_main (F := Ideal) m ρ) (Kernel29Ideal.Gen.unchanged (F := Ideal) m ρ))
  · refine (θ_run Reference29Ideal.defs _ _).mono (fun r h c => ?_) (Reference29Ideal.Value.run (F := Ideal) m' ρ')
    obtain ⟨e0, e1, e2, e3⟩ := hagree c
    obtain ⟨hG, hD, hM, hV, hargs⟩ := h c
    exact ⟨hG.trans (congrArg Cert.AdamRow.valG e1), hD.trans (congr4 Cert.AdamRow.valD e0 e1 e2 e3), hM.trans (congr2 Cert.AdamRow.valM e1 e2), hV.trans (congr2 Cert.AdamRow.valV e1 e3), hargs⟩

end P29

namespace P30

theorem frame_kernel : quiescent_Kernel30 := fun m ρ _ => Kernel30.Gen.frame m ρ

theorem frame_ideal : quiescent_Kernel30Ideal := fun m ρ _ => Kernel30Ideal.Gen.frame m ρ

theorem frame_ref : quiescent_Reference30Ideal := fun m ρ _ =>
  (θ_run Reference30Ideal.defs _ _).mono (fun r h => ⟨fun c => (h c).2, sem_eq_zero_of_no_sems (by decide) r.2⟩)
    (Reference30Ideal.Value.run (F := Ideal) m ρ)

theorem preserves : preserves_Kernel30_Kernel30Ideal := trivial

theorem algebraic : algebraic_Kernel30Ideal_Reference30Ideal := by
  intro m ρ m' ρ' _ hagree
  refine ⟨fun c => Cert.AdaDw.val (Cert.AdaDw.a0 m c) (Cert.AdaDw.a1 m c), ?_, ?_⟩
  · exact (θ_run Kernel30Ideal.defs _ _).mono (fun r h c => ⟨((h.1 c).1 2).trans (Cert.AdaDw.out m c), h.2 c⟩)
      (θ_run_and (Kernel30Ideal.Gen.run_main (F := Ideal) m ρ) (Kernel30Ideal.Gen.unchanged (F := Ideal) m ρ))
  · exact (θ_run Reference30Ideal.defs _ _).mono
      (fun r h c => ⟨(h c).1.trans (congr2 Cert.AdaDw.val (hagree c).1 (hagree c).2), (h c).2⟩)
      (Reference30Ideal.Value.run (F := Ideal) m' ρ')

end P30

end Cert.AdamClaims

end
-- ==== Proof.RmsMath.lean ====
/-
  The root mean square norm's gradient, over the extended reals: as the calls compute it, and as differentiation gives it.
-/
module

public import proofs.«01_k».proof.Proof.AttnMath
public import Idealize.ShloMosaic.Lib.Pipeline.ReadBack

@[expose] public section

noncomputable section

namespace Cert.Rms

open Idealize.ShloMosaic
open Cert.AttnMath

/-- The number of features, 2048. -/
abbrev cN : EReal := Ideal.ofBits .f32 0x45000000#32

/-- The norm's small constant. -/
abbrev cE : EReal := Ideal.ofBits .f32 0x358637BD#32

/-- Minus a half. -/
abbrev cH : EReal := Ideal.ofBits .f32 0xBF000000#32

theorem cN_eq : cN = ((2048 : ℝ) : EReal) := by
  simp [cN, Ideal.ofBits, Ideal.ieee]; rw [← EReal.coe_mul]; norm_num

theorem cH_eq : cH = ((-(1 / 2) : ℝ) : EReal) := by
  simp [cH, Ideal.ofBits, Ideal.ieee]; rw [← EReal.coe_mul]; norm_num

theorem cE_eq : ∃ e : ℝ, 0 < e ∧ cE = (e : EReal) := by
  refine ⟨(1 + 407485 / 8388608) / 1048576, by positivity, ?_⟩
  simp [cE, Ideal.ofBits, Ideal.ieee]; rw [← EReal.coe_mul]; norm_num

/-- The mean of the squares, with the small constant. -/
def ms (x : Fin 2048 → EReal) : EReal := Ideal.div (∑ k, x k * x k) cN + cE

/-- The reciprocal of its root. -/
def rr (x : Fin 2048 → EReal) : EReal := Ideal.rsqrt (ms x)

/-- The gradient at one entry, as the calls compute it, from the gradient `g` of the normed row. -/
def dxK (x g : Fin 2048 → EReal) (j : Fin 2048) : EReal :=
  rr x * (g j - x j * rr x * Ideal.div (∑ k, g k * (x k * rr x)) cN)

/-- The gradient that comes back through the mean of the squares, halved. -/
def back (x g : Fin 2048 → EReal) : EReal :=
  Ideal.div ((∑ k, x k * g k) * (cH * Ideal.div (rr x) (ms x))) cN

/-- The gradient as differentiation gives it. -/
def dxR (x g : Fin 2048 → EReal) (j : Fin 2048) : EReal := g j * rr x + x j * back x g + back x g * x j

theorem div_cN (a : EReal) : Ideal.div a cN = a * ((1 / 2048 : ℝ) : EReal) := by
  rw [cN_eq]
  unfold Ideal.div
  rw [if_neg (by norm_num), ← EReal.coe_inv]
  norm_num

/-- A real factor that is not negative comes out of a sum. -/
theorem sum_mul_pos {ι : Type} (s : Finset ι) (f : ι → EReal) {r : ℝ} (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

theorem double (z : EReal) : z + z = ((2 : ℝ) : EReal) * z := by
  induction z with
  | bot => rw [EReal.coe_mul_bot_of_pos (by norm_num)]; rfl
  | top => rw [EReal.coe_mul_top_of_pos (by norm_num)]; rfl
  | coe a => rw [← EReal.coe_add, ← EReal.coe_mul, two_mul]

theorem square_nonneg (z : EReal) : 0 ≤ z * z := by
  induction z with
  | bot => rw [EReal.bot_mul_bot]; exact le_top
  | top => rw [EReal.top_mul_top]; exact le_top
  | coe a => rw [← EReal.coe_mul]; exact_mod_cast mul_self_nonneg a

theorem square_inf {z : EReal} (h : ¬ IsReal z) : z * z = ⊤ := by
  induction z with
  | bot => exact EReal.bot_mul_bot
  | top => exact EReal.top_mul_top
  | coe a => exact absurd ⟨a, rfl⟩ h

theorem ms_real {x : Fin 2048 → EReal} (X : Fin 2048 → ℝ) (hx : ∀ k, x k = (X k : EReal)) :
    ∃ s r : ℝ, ms x = (s : EReal) ∧ rr x = (r : EReal) ∧ s ≠ 0 ∧ 0 ≤ r ∧ r * r * s = 1 := by
  obtain ⟨e, he, hE⟩ := cE_eq
  have hs : ms x = (((∑ k, X k * X k) / 2048 + e : ℝ) : EReal) := by
    unfold ms
    rw [show (∑ k, x k * x k) = ((∑ k, X k * X k : ℝ) : EReal) from ?_, cN_eq, div_coe _ _ (by norm_num), hE, EReal.coe_add]
    rw [coe_sum]
    exact Finset.sum_congr rfl fun k _ => by rw [hx k, EReal.coe_mul]
  have hp : 0 < (∑ k, X k * X k) / 2048 + e := by
    have : 0 ≤ ∑ k, X k * X k := Finset.sum_nonneg fun k _ => mul_self_nonneg _
    positivity
  refine ⟨_, (Real.sqrt ((∑ k, X k * X k) / 2048 + e))⁻¹, hs, ?_, hp.ne', inv_nonneg.mpr (Real.sqrt_nonneg _), ?_⟩
  · unfold rr
    rw [hs]
    show (if _ then _ else if _ then _ else _) = _
    rw [if_neg (not_lt.mpr hp.le), if_neg hp.ne']
  · have h1 := Real.mul_self_sqrt hp.le
    have h2 : Real.sqrt ((∑ k, X k * X k) / 2048 + e) ≠ 0 := (Real.sqrt_pos.mpr hp).ne'
    rw [← mul_inv, h1, inv_mul_cancel₀ hp.ne']

/-- A row with an infinite entry has an infinite mean of squares, whose root's reciprocal is zero. -/
theorem ms_inf {x : Fin 2048 → EReal} (h : ¬ ∀ k, IsReal (x k)) : ms x = ⊤ := by
  obtain ⟨k, hk⟩ := not_forall.mp h
  obtain ⟨e, -, hE⟩ := cE_eq
  have h1 : ∑ k, x k * x k = ⊤ :=
    top_le_iff.mp ((square_inf hk).symm.le.trans (Finset.single_le_sum (f := fun k => x k * x k) (fun i _ => square_nonneg (x i)) (Finset.mem_univ k)))
  unfold ms
  rw [h1, div_cN, EReal.top_mul_coe_of_pos (by norm_num), hE, EReal.top_add_coe]

theorem rr_inf {x : Fin 2048 → EReal} (h : ¬ ∀ k, IsReal (x k)) : rr x = 0 := by
  unfold rr
  rw [ms_inf h]
  rfl

/-- An entry of the normed row is a real number, also when an entry of the row is infinite. -/
theorem hat_real (x : Fin 2048 → EReal) (j : Fin 2048) : IsReal (x j * rr x) := by
  by_cases h : ∀ k, IsReal (x k)
  · have hj := h j
    choose X hX using h
    obtain ⟨s, r, -, hr, -⟩ := ms_real X hX
    exact hj.mul ⟨r, hr⟩
  · exact ⟨0, by rw [rr_inf h, mul_zero, EReal.coe_zero]⟩

theorem dx_eq (x g : Fin 2048 → EReal) (j : Fin 2048) : dxK x g j = dxR x g j := by
  by_cases hx : ∀ k, IsReal (x k)
  · choose X hX using hx
    obtain ⟨s, r, hs, hr, h0, hp, h1⟩ := ms_real X hX
    have e1 : (∑ k, g k * (x k * rr x)) = (∑ k, x k * g k) * (r : EReal) := by
      rw [← sum_mul_pos _ _ hp]
      exact Finset.sum_congr rfl fun k _ => by rw [hr, ← mul_assoc, mul_comm (g k)]
    have e4 : r / s = r * (r * r) := by
      rw [div_eq_iff h0]; linear_combination -r * h1
    unfold dxK dxR back
    rw [e1]
    generalize (∑ k, x k * g k) = S
    rw [hs, hr, hX j, div_cN, div_cN, cH_eq, div_coe _ _ h0, e4]
    have e5 : (X j : EReal) * (r : EReal) * (S * (r : EReal) * ((1 / 2048 : ℝ) : EReal)) = ((X j * r * (r * (1 / 2048)) : ℝ) : EReal) * S := by
      simp only [EReal.coe_mul]; ac_rfl
    have e6 : (X j : EReal) * (S * (((-(1 / 2) : ℝ) : EReal) * ((r * (r * r) : ℝ) : EReal)) * ((1 / 2048 : ℝ) : EReal))
        = ((X j * (-(1 / 2) * (r * (r * r))) * (1 / 2048) : ℝ) : EReal) * S := by
      rw [← EReal.coe_mul, EReal.coe_mul (X j * _), EReal.coe_mul (X j)]; ac_rfl
    rw [mul_comm _ (X j : EReal), e5, e6, add_assoc, double, sub_eq_add_neg,
      EReal.left_distrib_of_nonneg_of_ne_top (by exact_mod_cast hp) (EReal.coe_ne_top r), ← EReal.neg_mul, ← EReal.coe_neg,
      ← mul_assoc, ← EReal.coe_mul, ← mul_assoc ((2 : ℝ) : EReal), ← EReal.coe_mul, mul_comm (r : EReal)]
    refine congrArg (fun z : ℝ => g j * (r : EReal) + (z : EReal) * S) ?_
    ring
  · have e : back x g = 0 := by
      unfold back
      rw [rr_inf hx, ms_inf hx, div_cN]
      unfold Ideal.div
      rw [if_neg (by simp), EReal.inv_top, mul_zero, mul_zero, mul_zero, zero_mul]
    unfold dxK dxR
    rw [e, rr_inf hx, zero_mul, mul_zero, mul_zero, zero_mul, add_zero, add_zero]

/-! ## Sums over the rows, a block of 256 at a time -/

/-- The rows of a block. -/
abbrev at8 (b : Fin 8) (r : Fin 256) : Fin 2048 := ⟨256 * b.val + r.val, by omega⟩

/-- The sum of the first blocks. -/
def upto (B : Fin 8 → EReal) (n : ℕ) : EReal := ∑ b : Fin 8, if b.val ≤ n then B b else 0

theorem upto_zero (B : Fin 8 → EReal) : upto B 0 = B 0 := by
  unfold upto
  rw [Fin.sum_univ_eight]
  simp

theorem upto_succ (B : Fin 8 → EReal) (n : ℕ) (h : n + 1 < 8) : upto B (n + 1) = upto B n + B ⟨n + 1, h⟩ := by
  unfold upto
  have : ∀ b : Fin 8, (if b.val ≤ n + 1 then B b else 0) = (if b.val ≤ n then B b else 0) + (if b = ⟨n + 1, h⟩ then B b else 0) := fun b => by
    by_cases hb : b = ⟨n + 1, h⟩
    · subst hb; simp
    · have hn : b.val ≠ n + 1 := fun e => hb (Fin.ext e)
      by_cases hp : b.val ≤ n
      · rw [if_pos hp, if_pos (by omega), if_neg hb, add_zero]
      · rw [if_neg hp, if_neg (by omega), if_neg hb, add_zero]
  rw [Finset.sum_congr rfl fun b _ => this b, Finset.sum_add_distrib, Finset.sum_ite_eq' Finset.univ _ B, if_pos (Finset.mem_univ _)]

theorem upto_last (B : Fin 8 → EReal) : upto B 7 = ∑ b, B b := by
  unfold upto
  exact Finset.sum_congr rfl fun b _ => if_pos (by omega)

/-- What adds block after block holds the sum of the first blocks. -/
theorem acc_eq (B : Fin 8 → EReal) (A : ∀ n, n < 8 → EReal) (h0 : A 0 (by norm_num) = B 0)
    (hs : ∀ n (h : n + 1 < 8), A (n + 1) h = A n (by omega) + B ⟨n + 1, h⟩) : ∀ n (h : n < 8), A n h = upto B n
  | 0, _ => h0.trans (upto_zero B).symm
  | n + 1, h => (hs n h).trans (((congrArg (· + _) (acc_eq B A h0 hs n (by omega)))).trans (upto_succ B n h).symm)

theorem sum_rows (f : Fin 2048 → EReal) : ∑ k, f k = ∑ b : Fin 8, ∑ r : Fin 256, f (at8 b r) := by
  rw [Fin.sum_univ_tiles 8 256 (by norm_num) f]
  exact Finset.sum_congr rfl fun b _ => Finset.sum_congr rfl fun r _ => congrArg f (Fin.ext (by show _ = 256 * b.val + r.val; simp; ring))

/-- A real factor comes out of a sum of reals. -/
theorem sum_mul_real {ι : Type} (s : Finset ι) {f : ι → EReal} {a : EReal} (hf : ∀ i, IsReal (f i)) (ha : IsReal a) :
    ∑ i ∈ s, f i * a = (∑ i ∈ s, f i) * a := by
  choose F hF using hf
  obtain ⟨A, rfl⟩ := ha
  have e : ∀ i, f i * (A : EReal) = ((F i * A : ℝ) : EReal) := fun i => by rw [hF i, EReal.coe_mul]
  rw [Finset.sum_congr rfl fun i _ => e i, ← coe_sum, Finset.sum_congr rfl fun i _ => hF i, ← coe_sum, ← EReal.coe_mul, Finset.sum_mul]

end Cert.Rms

end
-- ==== Proof.LossHead.lean ====
/-
  The loss and its gradients by the last layer's output and by the last norm's weight (`loss_head`): its call over the extended reals, and the reference's terms.
-/
module

public import proofs.«01_k».proof.Proof.Prod
public import proofs.«01_k».proof.Proof.RmsMath
public import proofs.«01_k».proof.Proof.Gen.Kernel31Ideal.Frame
public import proofs.«01_k».proof.Proof.Gen.Reference31Ideal.Run

@[expose] public section

set_option maxRecDepth 16384

noncomputable section

namespace Cert.LossHead

open Idealize.ShloMosaic Idealize.ShloMosaic.TcCoe Idealize.SL.Sem
open Cert.Prod Cert.Rms Cert.AttnMath

/-- A half. -/
abbrev half : EReal := Ideal.ofBits .f32 0x3F000000#32

/-- Two. -/
abbrev two : EReal := Ideal.ofBits .f32 0x40000000#32

/-- One part in 2048. -/
abbrev frac : EReal := Ideal.ofBits .f32 0x3A000000#32

theorem zero_bits : Ideal.ofBits .f32 0x00000000#32 = 0 := by simp [Ideal.ofBits, Ideal.ieee]

theorem half_eq : half = ((1 / 2 : ℝ) : EReal) := by
  simp [half, Ideal.ofBits, Ideal.ieee]; rw [← EReal.coe_mul]; norm_num

theorem two_eq : two = ((2 : ℝ) : EReal) := by
  simp [two, Ideal.ofBits, Ideal.ieee]; rw [← EReal.coe_mul]; norm_num

theorem frac_eq : frac = ((1 / 2048 : ℝ) : EReal) := by
  simp [frac, Ideal.ofBits, Ideal.ieee]; rw [← EReal.coe_mul]; norm_num

/-- The gradient by the output of the last norm, as the reference has it, from the difference to the target. -/
def slope (e : EReal) : EReal := Ideal.div (half * 1) cN * (two * e)

theorem slope_eq (e : EReal) : slope e = e * frac := by
  unfold slope
  rw [mul_one, half_eq, two_eq, frac_eq, div_cN, ← mul_assoc, ← EReal.coe_mul, ← EReal.coe_mul, mul_comm]
  exact congrArg (fun z : ℝ => e * (z : EReal)) (by norm_num)

section Ref

open Cert.Reference31Ideal Cert.Reference31Ideal.Gen

/-- The mean of the squares of each row, with the small constant. -/
def ssR (X : FVec Ideal S2048x2048 .f32) : FVec Ideal S2048x1 .f32 :=
  addf (Host.divf (broadcastInDim S2048x1 ![0] bcast_S2048_S2048x1_0 (Host.reduceAdd (mulf X X) (constant S_ .f32 0x00000000#32) reducesTo_S2048x2048_S2048_d1 h_S_))
    (broadcastInDim S2048x1 ![] bcast_S_S2048x1 (constant S_ .f32 0x45000000#32))) (broadcastInDim S2048x1 ![] bcast_S_S2048x1 (constant S_ .f32 0x358637BD#32))

/-- The normed rows. -/
def hatR (X : FVec Ideal S2048x2048 .f32) : FVec Ideal S2048x2048 .f32 :=
  mulf X (broadcastInDim S2048x2048 ![0, 1] bcast_S2048x1_S2048x2048_0_1 (Host.rsqrt (ssR X)))

/-- The difference to the target. -/
def errR (X : FVec Ideal S2048x2048 .f32) (B : FVec Ideal S1x2048 .f32) (T : FVec Ideal S2048x2048 .f32) : FVec Ideal S2048x2048 .f32 :=
  subf (mulf (hatR X) (broadcastInDim S2048x2048 ![0, 1] bcast_S1x2048_S2048x2048_0_1 B)) T

/-- The gradient by the norm's output. -/
def gR (X : FVec Ideal S2048x2048 .f32) (B : FVec Ideal S1x2048 .f32) (T : FVec Ideal S2048x2048 .f32) : FVec Ideal S2048x2048 .f32 :=
  mulf (broadcastInDim S2048x2048 ![0] bcast_S2048_S2048x2048_0 (Host.divf (broadcastInDim S2048 ![] bcast_S_S2048 (mulf (constant S_ .f32 0x3F000000#32) (constant S_ .f32 0x3F800000#32)))
    (broadcastInDim S2048 ![] bcast_S_S2048 (constant S_ .f32 0x45000000#32)))) (mulf (broadcastInDim S2048x2048 ![] bcast_S_S2048x2048 (constant S_ .f32 0x40000000#32)) (errR X B T))

/-- The gradient of the normed rows. -/
def gwR (X : FVec Ideal S2048x2048 .f32) (B : FVec Ideal S1x2048 .f32) (T : FVec Ideal S2048x2048 .f32) : FVec Ideal S2048x2048 .f32 :=
  mulf (gR X B T) (broadcastInDim S2048x2048 ![0, 1] bcast_S1x2048_S2048x2048_0_1 B)

/-- What comes back through the mean of the squares. -/
def backR (X : FVec Ideal S2048x2048 .f32) (B : FVec Ideal S1x2048 .f32) (T : FVec Ideal S2048x2048 .f32) : FVec Ideal S2048x2048 .f32 :=
  broadcastInDim S2048x2048 ![0] bcast_S2048_S2048x2048_0 (Host.reduceAdd (Host.divf (mulf
    (shapeCast S2048x1 (Host.reduceAdd (mulf X (gwR X B T)) (constant S_ .f32 0x00000000#32) reducesTo_S2048x2048_S2048_d1 h_S_) shapeCasts_S2048_S2048x1)
    (mulf (broadcastInDim S2048x1 ![] bcast_S_S2048x1 (constant S_ .f32 0xBF000000#32)) (Host.divf (Host.rsqrt (ssR X)) (ssR X))))
    (broadcastInDim S2048x1 ![] bcast_S_S2048x1 (constant S_ .f32 0x45000000#32))) (constant S_ .f32 0x00000000#32) reducesTo_S2048x1_S2048_d1 h_S_)

/-- The loss, at every place of a tile. -/
def valL (X : FVec Ideal S2048x2048 .f32) (B : FVec Ideal S1x2048 .f32) (T : FVec Ideal S2048x2048 .f32) : FVec Ideal S8x128 .f32 :=
  broadcastInDim S8x128 ![] bcast_S_S8x128 (mulf (constant S_ .f32 0x3F000000#32) (Host.reduceAdd (Host.divf
    (Host.reduceAdd (mulf (errR X B T) (errR X B T)) (constant S_ .f32 0x00000000#32) reducesTo_S2048x2048_S2048_d1 h_S_)
    (broadcastInDim S2048 ![] bcast_S_S2048 (constant S_ .f32 0x45000000#32))) (constant S_ .f32 0x00000000#32) reducesTo_S2048_S_d0 h_S_))

/-- The gradient by the last layer's output. -/
def valX (X : FVec Ideal S2048x2048 .f32) (B : FVec Ideal S1x2048 .f32) (T : FVec Ideal S2048x2048 .f32) : FVec Ideal S2048x2048 .f32 :=
  addf (addf (mulf (gwR X B T) (broadcastInDim S2048x2048 ![0, 1] bcast_S2048x1_S2048x2048_0_1 (Host.rsqrt (ssR X)))) (mulf X (backR X B T))) (mulf (backR X B T) X)

/-- The gradient by the norm's weight. -/
def valW (X : FVec Ideal S2048x2048 .f32) (B : FVec Ideal S1x2048 .f32) (T : FVec Ideal S2048x2048 .f32) : FVec Ideal S1x2048 .f32 :=
  shapeCast S1x2048 (Host.reduceAdd (mulf (hatR X) (gR X B T)) (constant S_ .f32 0x00000000#32) reducesTo_S2048x2048_S2048_d0 h_S_) shapeCasts_S2048_S1x2048

variable (X : FVec Ideal S2048x2048 .f32) (B : FVec Ideal S1x2048 .f32) (T : FVec Ideal S2048x2048 .f32)

/-- The difference to the target at one entry. -/
def err (i j : Fin 2048) : EReal := X (ix2 i j) * rr (fun k => X (ix2 i k)) * B (ix2 0 j) - T (ix2 i j)

theorem ssR_at (i : Fin 2048) (u : Fin 1) : ssR X (ix2 i u) = ms (fun k => X (ix2 i k)) := by
  unfold ssR ms
  pointwise []

theorem hatR_at (i j : Fin 2048) : hatR X (ix2 i j) = X (ix2 i j) * rr (fun k => X (ix2 i k)) := by
  unfold hatR rr
  pointwise [ssR_at]

theorem errR_at (i j : Fin 2048) : errR X B T (ix2 i j) = err X B T i j := by
  unfold errR err
  pointwise [hatR_at]

theorem gR_at (i j : Fin 2048) : gR X B T (ix2 i j) = slope (err X B T i j) := by
  unfold gR slope
  pointwise [errR_at]

theorem gwR_at (i j : Fin 2048) : gwR X B T (ix2 i j) = slope (err X B T i j) * B (ix2 0 j) := by
  unfold gwR
  pointwise [gR_at]

theorem backR_at (i j : Fin 2048) :
    backR X B T (ix2 i j) = back (fun k => X (ix2 i k)) (fun k => slope (err X B T i k) * B (ix2 0 k)) := by
  unfold backR back rr
  pointwise [ssR_at, gwR_at]
  exact Fin.sum_univ_one _

theorem valX_at (i j : Fin 2048) :
    valX X B T (ix2 i j) = dxR (fun k => X (ix2 i k)) (fun k => slope (err X B T i k) * B (ix2 0 k)) j := by
  unfold valX dxR
  pointwise [ssR_at, gwR_at, backR_at]
  rfl

theorem valW_at (u : Fin 1) (j : Fin 2048) :
    valW X B T (ix2 u j) = ∑ i : Fin 2048, X (ix2 i j) * rr (fun k => X (ix2 i k)) * slope (err X B T i j) := by
  unfold valW
  pointwise [hatR_at, gR_at]

theorem valL_at (u : Fin 8) (v : Fin 128) :
    valL X B T (ix2 u v) = half * ∑ i : Fin 2048, Ideal.div (∑ j : Fin 2048, err X B T i j * err X B T i j) cN := by
  unfold valL
  pointwise [errR_at]

end Ref

open Cert.Kernel31Ideal Cert.Kernel31Ideal.Gen

section Pay

variable (x : Vec Ideal S256x2048 .f32) (w : Vec Ideal S1x2048 .f32) (g : Vec Ideal S256x2048 .f32) (o : Vec Ideal S1x2048 .f32) (l : Vec Ideal S8x128 .f32)

/-- The difference to the target at one entry of a block. -/
def errB (r : Fin 256) (j : Fin 2048) : EReal := x (ix2 r j) * rr (fun k => x (ix2 r k)) * w (ix2 0 j) - g (ix2 r j)

theorem pay3_at (r : Fin 256) (u : Fin 1) : k0_pay3 x (ix2 r u) = rr fun k => x (ix2 r k) := by
  unfold k0_pay3
  pointwise []
  rfl

theorem pay4_at (r : Fin 256) (j : Fin 2048) : k0_pay4 x (ix2 r j) = x (ix2 r j) * rr fun k => x (ix2 r k) := by
  unfold k0_pay4
  pointwise [pay3_at]

theorem pay5_at (r : Fin 256) (j : Fin 2048) : k0_pay5 x w g (ix2 r j) = errB x w g r j := by
  unfold k0_pay5 errB
  pointwise [pay4_at]

theorem pay6_at (r : Fin 256) (j : Fin 2048) : k0_pay6 x w g (ix2 r j) = errB x w g r j * frac := by
  unfold k0_pay6
  pointwise [pay5_at]

theorem pay7_at (r : Fin 256) (j : Fin 2048) :
    k0_pay7 x w g (ix2 r j) = dxK (fun k => x (ix2 r k)) (fun k => errB x w g r k * frac * w (ix2 0 k)) j := by
  unfold k0_pay7 dxK
  pointwise [pay3_at, pay4_at, pay6_at]

theorem pay2_at (u : Fin 1) (j : Fin 2048) :
    k0_pay2 (k0_pay4 x) (k0_pay6 x w g) o (ix2 u j) = o (ix2 u j) + ∑ r : Fin 256, errB x w g r j * frac * (x (ix2 r j) * rr fun k => x (ix2 r k)) := by
  unfold k0_pay2
  pointwise [pay4_at, pay6_at]

theorem pay11_at (r : Fin 256) : k0_pay11 x w g (ix1 r) = ∑ j : Fin 2048, errB x w g r j * errB x w g r j := by
  unfold k0_pay11
  pointwise [pay5_at]

theorem pay1_at (u : Fin 8) (v : Fin 128) :
    k0_pay1 (k0_pay10 l) (k0_pay11 x w g) (ix2 u v) = l (ix2 u v) + half * ∑ r : Fin 256, Ideal.div (∑ j : Fin 2048, errB x w g r j * errB x w g r j) cN := by
  unfold k0_pay1 k0_pay10
  pointwise [pay11_at]
  exact congrArg (fun z => l (ix2 u v) + half * z) (Finset.sum_congr rfl fun r _ => Fin.sum_univ_one _)

theorem pay8_at (i : S8x128.Idx) : (k0_pay8 (F := Ideal) i : EReal) = 0 := zero_bits
theorem pay9_at (i : S1x2048.Idx) : (k0_pay9 (F := Ideal) i : EReal) = 0 := zero_bits

end Pay

section Cases

variable {F : FTy → Type} [FloatOps F]
variable (m : (ℓ : Loc nD τ sig) → Buf (Elt F) ℓ) (c : Dev nD) (t : Fin cfg0.N)

/-- What a grid point leaves, from its blocks and the sums before it. -/
def three (x : Vec F S256x2048 .f32) (w : Vec F S1x2048 .f32) (g : Vec F S256x2048 .f32) (l : Vec F S8x128 .f32) (o : Vec F S1x2048 .f32) :
    Vec F S8x128 .f32 × Vec F S256x2048 .f32 × Vec F S1x2048 .f32 :=
  (k0_pay1 (k0_pay10 l) (k0_pay11 x w g), k0_pay7 x w g, k0_pay2 (k0_pay4 x) (k0_pay6 x w g) o)

/-- What the grid point before `t` left. -/
abbrev bef := outsAt0 m c (t.val - 1) (Nat.lt_of_le_of_lt (Nat.sub_le _ _) t.isLt)

theorem caseA (h0 : t.val % 8 = 0) :
    outsAt0 m c t.val t.isLt = three (iblk m c 0 t) (iblk m c 1 t) (iblk m c 2 t) k0_pay8 k0_pay9 := by
  rw [outsAt0_A m c t h0]
  unfold three
  refine Prod.ext ?_ (Prod.ext ?_ ?_) <;> dsimp only
  · unfold out0_A_3
    refine (View.read_writes_eq_canon _ _ _ fun y => cover0_A_3 ..).trans ?_
    unfold kernelRun0_A; dsimp only; sl_unfold_words
    refine (View.canon_cons_unit_zero (S := S8x128) zero2 _ _ _).trans ?_
    simp only [View.readAt_eq_ld, Memref.IsWhole.read_unread, read_unread_whole, View.ld_unit_zero (S := S256x2048) zero2, View.ld_unit_zero (S := S1x2048) zero2, View.ld_unit_zero (S := S8x128) zero2, View.readCov_unit_zero (S := S8x128) _ zero2]
    try rfl
  · unfold out0_A_4
    refine (View.read_writes_eq_canon _ _ _ fun y => cover0_A_4 ..).trans ?_
    unfold kernelRun0_A; dsimp only; sl_unfold_words
    refine (View.canon_unit_zero (S := S256x2048) zero2 _ _).trans ?_
    simp only [View.readAt_eq_ld, Memref.IsWhole.read_unread, read_unread_whole, View.ld_unit_zero (S := S256x2048) zero2, View.ld_unit_zero (S := S1x2048) zero2, View.ld_unit_zero (S := S8x128) zero2]
    try rfl
  · unfold out0_A_5
    refine (View.read_writes_eq_canon _ _ _ fun y => cover0_A_5 ..).trans ?_
    unfold kernelRun0_A; dsimp only; sl_unfold_words
    refine (View.canon_cons_unit_zero (S := S1x2048) zero2 _ _ _).trans ?_
    simp only [View.readAt_eq_ld, Memref.IsWhole.read_unread, read_unread_whole, View.ld_unit_zero (S := S256x2048) zero2, View.ld_unit_zero (S := S1x2048) zero2, View.ld_unit_zero (S := S8x128) zero2, View.readCov_unit_zero (S := S1x2048) _ zero2]
    try rfl

theorem caseB (h0 : ¬ t.val % 8 = 0) :
    outsAt0 m c t.val t.isLt = three (iblk m c 0 t) (iblk m c 1 t) (iblk m c 2 t) (bef m c t).1 (bef m c t).2.2 := by
  rw [outsAt0_B m c t h0]
  unfold three
  refine Prod.ext ?_ (Prod.ext ?_ ?_) <;> dsimp only
  · unfold out0_B_3
    refine (View.read_writes_eq_canon _ _ _ fun y => cover0_B_3 ..).trans ?_
    unfold kernelRun0_B; dsimp only; sl_unfold_words
    refine (View.canon_unit_zero (S := S8x128) zero2 _ _).trans ?_
    simp only [View.readAt_eq_ld, Memref.IsWhole.read_unread, read_unread_whole, View.ld_unit_zero (S := S256x2048) zero2, View.ld_unit_zero (S := S1x2048) zero2, View.ld_unit_zero (S := S8x128) zero2]
    try rfl
  · unfold out0_B_4
    refine (View.read_writes_eq_canon _ _ _ fun y => cover0_B_4 ..).trans ?_
    unfold kernelRun0_B; dsimp only; sl_unfold_words
    refine (View.canon_unit_zero (S := S256x2048) zero2 _ _).trans ?_
    simp only [View.readAt_eq_ld, Memref.IsWhole.read_unread, read_unread_whole, View.ld_unit_zero (S := S256x2048) zero2, View.ld_unit_zero (S := S1x2048) zero2, View.ld_unit_zero (S := S8x128) zero2]
    try rfl
  · unfold out0_B_5
    refine (View.read_writes_eq_canon _ _ _ fun y => cover0_B_5 ..).trans ?_
    unfold kernelRun0_B; dsimp only; sl_unfold_words
    refine (View.canon_unit_zero (S := S1x2048) zero2 _ _).trans ?_
    simp only [View.readAt_eq_ld, Memref.IsWhole.read_unread, read_unread_whole, View.ld_unit_zero (S := S256x2048) zero2, View.ld_unit_zero (S := S1x2048) zero2, View.ld_unit_zero (S := S8x128) zero2]
    try rfl

end Cases

variable (m : (ℓ : Loc nD τ sig) → Buf (Elt Ideal) ℓ) (c : Dev nD)

abbrev a0 : FVec Ideal S2048x2048 .f32 := m ((c : Thread nD τ).loc main_arg0)
abbrev a1 : FVec Ideal S1x2048 .f32 := m ((c : Thread nD τ).loc main_arg1)
abbrev a2 : FVec Ideal S2048x2048 .f32 := m ((c : Thread nD τ).loc main_arg2)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] := by
  decide +kernel

variable (t : Fin cfg0.N)

theorem lt : t.val < 8 := t.isLt

/-- The grid point as a block of rows. -/
abbrev blk : Fin 8 := ⟨t.val, lt t⟩

theorem blk0 (r : Fin 256) (s : Fin 2048) : iblk m c 0 t (ix2 r s) = a0 m c (ix2 (at8 (blk t) r) s) := by
  unfold at8 blk
  blk_ext [iblk, V, (idx t).1]

theorem blk1 (u : Fin 1) (s : Fin 2048) : iblk m c 1 t (ix2 u s) = a1 m c (ix2 0 s) := by
  rw [show u = 0 from Subsingleton.elim _ _]
  blk_ext [iblk, V, (idx t).2.1]

theorem blk2 (r : Fin 256) (s : Fin 2048) : iblk m c 2 t (ix2 r s) = a2 m c (ix2 (at8 (blk t) r) s) := by
  unfold at8 blk
  blk_ext [iblk, V, (idx t).2.2.1]

/-- The difference to the target at one entry of the whole. -/
abbrev er (i j : Fin 2048) : EReal := err (a0 m c) (a1 m c) (a2 m c) i j

theorem er_at (r : Fin 256) (j : Fin 2048) :
    errB (iblk m c 0 t : Vec Ideal S256x2048 .f32) (iblk m c 1 t : Vec Ideal S1x2048 .f32) (iblk m c 2 t : Vec Ideal S256x2048 .f32) r j = er m c (at8 (blk t) r) j :=
  congr2 (· - ·) (congr2 (· * ·) (congr2 (· * ·) (blk0 m c t r j) (congrArg rr (funext fun k => blk0 m c t r k))) (blk1 m c t 0 j)) (blk2 m c t r j)

theorem pointX (r : Fin 256) (s : Fin 2048) :
    k0_pay7 (iblk m c 0 t : Vec Ideal S256x2048 .f32) (iblk m c 1 t : Vec Ideal S1x2048 .f32) (iblk m c 2 t : Vec Ideal S256x2048 .f32) (ix2 r s)
      = valX (a0 m c) (a1 m c) (a2 m c) (ix2 (at8 (blk t) r) s) := by
  rw [pay7_at, valX_at]
  have e : (fun k => slope (er m c (at8 (blk t) r) k) * a1 m c (ix2 0 k)) = fun k => er m c (at8 (blk t) r) k * frac * a1 m c (ix2 0 k) :=
    funext fun k => congrArg (· * _) (slope_eq _)
  refine Eq.trans ?_ ((dx_eq _ (fun k => er m c (at8 (blk t) r) k * frac * a1 m c (ix2 0 k)) s).trans (congrArg (fun g => dxR _ g s) e.symm))
  exact congr2 (fun x g => dxK x g s) (funext fun k => blk0 m c t r k)
    (funext fun k => congr2 (· * ·) (congrArg (· * frac) (er_at m c t r k)) (blk1 m c t 0 k))

/-- The weight's gradient summed over a block. -/
def partW (s : Fin 2048) (b : Fin 8) : EReal :=
  ∑ r : Fin 256, er m c (at8 b r) s * frac * (a0 m c (ix2 (at8 b r) s) * rr fun k => a0 m c (ix2 (at8 b r) k))

theorem stepW (o : Vec Ideal S1x2048 .f32) (u : Fin 1) (s : Fin 2048) :
    k0_pay2 (k0_pay4 (iblk m c 0 t : Vec Ideal S256x2048 .f32)) (k0_pay6 (iblk m c 0 t : Vec Ideal S256x2048 .f32) (iblk m c 1 t : Vec Ideal S1x2048 .f32) (iblk m c 2 t : Vec Ideal S256x2048 .f32)) o (ix2 u s)
      = o (ix2 u s) + partW m c s (blk t) :=
  (pay2_at _ _ _ _ _ _).trans (congrArg (_ + ·) (Finset.sum_congr rfl fun r _ => congr2 (· * ·) (congrArg (· * frac) (er_at m c t r s))
    (congr2 (· * ·) (blk0 m c t r s) (congrArg rr (funext fun k => blk0 m c t r k)))))

/-- The loss summed over a block. -/
def partL (b : Fin 8) : EReal :=
  ∑ r : Fin 256, Ideal.div (∑ j : Fin 2048, er m c (at8 b r) j * er m c (at8 b r) j) cN

theorem stepL (l : Vec Ideal S8x128 .f32) (u : Fin 8) (v : Fin 128) :
    k0_pay1 (k0_pay10 l) (k0_pay11 (iblk m c 0 t : Vec Ideal S256x2048 .f32) (iblk m c 1 t : Vec Ideal S1x2048 .f32) (iblk m c 2 t : Vec Ideal S256x2048 .f32)) (ix2 u v)
      = l (ix2 u v) + half * partL m c (blk t) :=
  (pay1_at _ _ _ _ _ _).trans (congrArg (fun z => l (ix2 u v) + half * z) (Finset.sum_congr rfl fun r _ => congrArg (Ideal.div · cN)
    (Finset.sum_congr rfl fun j _ => congr2 (· * ·) (er_at m c t r j) (er_at m c t r j))))

theorem accL (u : Fin 8) (v : Fin 128) (n : ℕ) (h : n < 8) :
    (outsAt0 m c n h).1 (ix2 u v) = upto (fun b => half * partL m c b) n := by
  refine acc_eq _ (fun n h => (outsAt0 m c n h).1 (ix2 u v)) ?_ (fun n h => ?_) n h
  · refine (congrFun (congrArg (fun z => z.1) (caseA m c ⟨0, (by norm_num : 0 < 8)⟩ rfl)) _).trans ((stepL m c ⟨0, (by norm_num : 0 < 8)⟩ _ u v).trans ?_)
    rw [pay8_at, zero_add]
    rfl
  · exact (congrFun (congrArg (fun z => z.1) (caseB m c ⟨n + 1, h⟩ (by show ¬ (n + 1) % 8 = 0; omega))) _).trans (stepL m c ⟨n + 1, h⟩ _ u v)

theorem accW (u : Fin 1) (s : Fin 2048) (n : ℕ) (h : n < 8) :
    (outsAt0 m c n h).2.2 (ix2 u s) = upto (fun b => partW m c s b) n := by
  refine acc_eq _ (fun n h => (outsAt0 m c n h).2.2 (ix2 u s)) ?_ (fun n h => ?_) n h
  · refine (congrFun (congrArg (fun z => z.2.2) (caseA m c ⟨0, (by norm_num : 0 < 8)⟩ rfl)) _).trans ((stepW m c ⟨0, (by norm_num : 0 < 8)⟩ _ u s).trans ?_)
    rw [pay9_at, zero_add]
    rfl
  · exact (congrFun (congrArg (fun z => z.2.2) (caseB m c ⟨n + 1, h⟩ (by show ¬ (n + 1) % 8 = 0; omega))) _).trans (stepW m c ⟨n + 1, h⟩ _ u s)

theorem lastL (u : Fin 8) (v : Fin 128) (n : ℕ) (hn : n = 7) (p : n < 8) :
    (outsAt0 m c n p).1 (ix2 u v) = valL (a0 m c) (a1 m c) (a2 m c) (ix2 u v) := by
  subst hn
  rw [accL, upto_last, valL_at, sum_rows, mul_comm half]
  refine (Finset.sum_congr rfl fun b _ => mul_comm half _).trans ?_
  rw [half_eq]
  exact sum_mul_pos Finset.univ (fun b => partL m c b) (by norm_num)

theorem lastW (u : Fin 1) (s : Fin 2048) (n : ℕ) (hn : n = 7) (p : n < 8) :
    (outsAt0 m c n p).2.2 (ix2 u s) = valW (a0 m c) (a1 m c) (a2 m c) (ix2 u s) := by
  subst hn
  rw [accW, upto_last, valW_at, sum_rows]
  refine Finset.sum_congr rfl fun b _ => ?_
  unfold partW
  refine Finset.sum_congr rfl fun r _ => ?_
  rw [slope_eq _, mul_comm]

theorem outX : (dats m 0 c).arrAt 4 cfg0.N = valX (a0 m c) (a1 m c) (a2 m c) := by
  refine (dats m 0 c).arrAt_eq_of_covers 4 _ (by decide +kernel) fun t hf y => ?_
  blk_simp
  rw [after0_4]
  have e1 : (outsAt0 m c t.val t.isLt).2.1 = k0_pay7 (iblk m c 0 t) (iblk m c 1 t) (iblk m c 2 t) := by
    by_cases h0 : t.val % 8 = 0
    · rw [caseA m c t h0]; rfl
    · rw [caseB m c t h0]; rfl
  rw [e1]
  refine (congrArg (k0_pay7 _ _ _) (eta2 (n0 := 256) (n1 := 2048) y)).trans ((pointX m c t _ _).trans (congrArg _ ?_))
  have e := (idx t).2.2.2.2.1
  funext a; apply Fin.ext
  match a with
  | ⟨0, _⟩ =>
    show 256 * t.val + (y 0).val = win0_4.index t 0 * 256 + 1 * (y 0).val
    rw [e]; show _ = t.val * 256 + _; omega
  | ⟨1, _⟩ =>
    show (y 1).val = win0_4.index t 1 * 2048 + 1 * (y 1).val
    rw [e]; show _ = 0 * 2048 + _; omega

theorem outL : (dats m 0 c).arrAt 3 cfg0.N = valL (a0 m c) (a1 m c) (a2 m c) := by
  refine (dats m 0 c).arrAt_eq_of_covers 3 _ (by decide +kernel) fun t hf y => ?_
  have ht : t.val = 7 := by have := (flush0_3 t).mp hf; have := lt t; omega
  blk_simp
  rw [after0_3]
  refine (congrArg (outsAt0 m c t.val t.isLt).1 (eta2 (n0 := 8) (n1 := 128) y)).trans ((lastL m c _ _ _ ht _).trans (congrArg _ ?_))
  have e := (idx t).2.2.2.1
  funext a; apply Fin.ext
  match a with
  | ⟨0, _⟩ =>
    show (y 0).val = win0_3.index t 0 * 8 + 1 * (y 0).val
    rw [e]; show _ = 0 * 8 + _; omega
  | ⟨1, _⟩ =>
    show (y 1).val = win0_3.index t 1 * 128 + 1 * (y 1).val
    rw [e]; show _ = 0 * 128 + _; omega

theorem outW : (dats m 0 c).arrAt 5 cfg0.N = valW (a0 m c) (a1 m c) (a2 m c) := by
  refine (dats m 0 c).arrAt_eq_of_covers 5 _ (by decide +kernel) fun t hf y => ?_
  have ht : t.val = 7 := by have := (flush0_5 t).mp hf; have := lt t; omega
  blk_simp
  rw [after0_5]
  refine (congrArg (outsAt0 m c t.val t.isLt).2.2 (eta2 (n0 := 1) (n1 := 2048) y)).trans ((lastW m c _ _ _ ht _).trans (congrArg _ ?_))
  have e := (idx t).2.2.2.2.2
  funext a; apply Fin.ext
  match a with
  | ⟨0, _⟩ =>
    show (y 0).val = win0_5.index t 0 * 1 + 1 * (y 0).val
    rw [e]; show _ = 0 * 1 + _; omega
  | ⟨1, _⟩ =>
    show (y 1).val = win0_5.index t 1 * 2048 + 1 * (y 1).val
    rw [e]; show _ = 0 * 2048 + _; omega

end Cert.LossHead

end
-- ==== Proof.AdaNorm.lean ====
/-
  The norm's gradient and its weight's, with the conditioning's scale and shift (`adanorm_bwd`): its call over the extended reals, and the reference's terms.
-/
module

public import proofs.«01_k».proof.Proof.Prod
public import proofs.«01_k».proof.Proof.RmsMath
public import proofs.«01_k».proof.Proof.Gen.Kernel32Ideal.Frame
public import proofs.«01_k».proof.Proof.Gen.Reference32Ideal.Run

@[expose] public section

set_option maxRecDepth 16384

noncomputable section

namespace Cert.AdaNorm

open Idealize.ShloMosaic Idealize.ShloMosaic.TcCoe Idealize.SL.Sem
open Cert.Prod Cert.Rms Cert.AttnMath

/-- One. -/
abbrev c1 : EReal := Ideal.ofBits .f32 0x3F800000#32

theorem c1_real : IsReal c1 := ⟨1, by simp [c1, Ideal.ofBits, Ideal.ieee]; rw [← EReal.coe_mul]; norm_num⟩

section Ref

open Cert.Reference32Ideal Cert.Reference32Ideal.Gen

/-- The mean of the squares of each row, with the small constant. -/
def ssR (X : FVec Ideal S2048x2048 .f32) : FVec Ideal S2048x1 .f32 :=
  addf (Host.divf (broadcastInDim S2048x1 ![0] bcast_S2048_S2048x1_0 (Host.reduceAdd (mulf X X) (constant S_ .f32 0x00000000#32) reducesTo_S2048x2048_S2048_d1 h_S_))
    (broadcastInDim S2048x1 ![] bcast_S_S2048x1 (constant S_ .f32 0x45000000#32))) (broadcastInDim S2048x1 ![] bcast_S_S2048x1 (constant S_ .f32 0x358637BD#32))

/-- The normed rows. -/
def hatR (X : FVec Ideal S2048x2048 .f32) : FVec Ideal S2048x2048 .f32 :=
  mulf X (broadcastInDim S2048x2048 ![0, 1] bcast_S2048x1_S2048x2048_0_1 (Host.rsqrt (ssR X)))

/-- The gradient of the weighted rows. -/
def gR (C : FVec Ideal S1x2048 .f32) (D : FVec Ideal S2048x2048 .bf16) : FVec Ideal S2048x2048 .f32 :=
  mulf (extf .f32 D bitsLt_bf16_f32) (broadcastInDim S2048x2048 ![0, 1] bcast_S1x2048_S2048x2048_0_1 (addf (broadcastInDim S1x2048 ![] bcast_S_S1x2048 (constant S_ .f32 0x3F800000#32)) C))

/-- The gradient of the normed rows. -/
def gwR (B C : FVec Ideal S1x2048 .f32) (D : FVec Ideal S2048x2048 .bf16) : FVec Ideal S2048x2048 .f32 :=
  mulf (gR C D) (broadcastInDim S2048x2048 ![0, 1] bcast_S1x2048_S2048x2048_0_1 B)

/-- What comes back through the mean of the squares. -/
def backR (X : FVec Ideal S2048x2048 .f32) (B C : FVec Ideal S1x2048 .f32) (D : FVec Ideal S2048x2048 .bf16) : FVec Ideal S2048x2048 .f32 :=
  broadcastInDim S2048x2048 ![0] bcast_S2048_S2048x2048_0 (Host.reduceAdd (Host.divf (mulf
    (shapeCast S2048x1 (Host.reduceAdd (mulf X (gwR B C D)) (constant S_ .f32 0x00000000#32) reducesTo_S2048x2048_S2048_d1 h_S_) shapeCasts_S2048_S2048x1)
    (mulf (broadcastInDim S2048x1 ![] bcast_S_S2048x1 (constant S_ .f32 0xBF000000#32)) (Host.divf (Host.rsqrt (ssR X)) (ssR X))))
    (broadcastInDim S2048x1 ![] bcast_S_S2048x1 (constant S_ .f32 0x45000000#32))) (constant S_ .f32 0x00000000#32) reducesTo_S2048x1_S2048_d1 h_S_)

/-- The gradient by the layer's input. -/
def val0 (X : FVec Ideal S2048x2048 .f32) (B C : FVec Ideal S1x2048 .f32) (D : FVec Ideal S2048x2048 .bf16) : FVec Ideal S2048x2048 .f32 :=
  addf (addf (mulf (gwR B C D) (broadcastInDim S2048x2048 ![0, 1] bcast_S2048x1_S2048x2048_0_1 (Host.rsqrt (ssR X)))) (mulf X (backR X B C D))) (mulf (backR X B C D) X)

/-- The gradient by the norm's weight. -/
def val1 (X : FVec Ideal S2048x2048 .f32) (C : FVec Ideal S1x2048 .f32) (D : FVec Ideal S2048x2048 .bf16) : FVec Ideal S1x2048 .f32 :=
  shapeCast S1x2048 (Host.reduceAdd (mulf (hatR X) (gR C D)) (constant S_ .f32 0x00000000#32) reducesTo_S2048x2048_S2048_d0 h_S_) shapeCasts_S2048_S1x2048

/-- The gradient by the conditioning's scale. -/
def val2 (X : FVec Ideal S2048x2048 .f32) (B : FVec Ideal S1x2048 .f32) (D : FVec Ideal S2048x2048 .bf16) : FVec Ideal S1x2048 .f32 :=
  shapeCast S1x2048 (Host.reduceAdd (mulf (mulf (hatR X) (broadcastInDim S2048x2048 ![0, 1] bcast_S1x2048_S2048x2048_0_1 B)) (extf .f32 D bitsLt_bf16_f32))
    (constant S_ .f32 0x00000000#32) reducesTo_S2048x2048_S2048_d0 h_S_) shapeCasts_S2048_S1x2048

/-- The gradient by the conditioning's shift. -/
def val3 (D : FVec Ideal S2048x2048 .bf16) : FVec Ideal S1x2048 .f32 :=
  shapeCast S1x2048 (Host.reduceAdd (extf .f32 D bitsLt_bf16_f32) (constant S_ .f32 0x00000000#32) reducesTo_S2048x2048_S2048_d0 h_S_) shapeCasts_S2048_S1x2048

variable (X : FVec Ideal S2048x2048 .f32) (B C : FVec Ideal S1x2048 .f32) (D : FVec Ideal S2048x2048 .bf16)

theorem zero_bits : Ideal.ofBits .f32 0x00000000#32 = 0 := by simp [Ideal.ofBits, Ideal.ieee]

theorem ssR_at (i : Fin 2048) (u : Fin 1) : ssR X (ix2 i u) = ms (fun k => X (ix2 i k)) := by
  unfold ssR ms
  pointwise []

theorem hatR_at (i j : Fin 2048) : hatR X (ix2 i j) = X (ix2 i j) * rr (fun k => X (ix2 i k)) := by
  unfold hatR rr
  pointwise [ssR_at]

theorem gR_at (i j : Fin 2048) : gR C D (ix2 i j) = D (ix2 i j) * (c1 + C (ix2 0 j)) := by
  unfold gR
  pointwise []

theorem gwR_at (i j : Fin 2048) : gwR B C D (ix2 i j) = D (ix2 i j) * (c1 + C (ix2 0 j)) * B (ix2 0 j) := by
  unfold gwR
  pointwise [gR_at]

theorem backR_at (i j : Fin 2048) :
    backR X B C D (ix2 i j) = back (fun k => X (ix2 i k)) (fun k => D (ix2 i k) * (c1 + C (ix2 0 k)) * B (ix2 0 k)) := by
  unfold backR back rr
  pointwise [ssR_at, gwR_at]
  exact Fin.sum_univ_one _

theorem val0_at (i j : Fin 2048) :
    val0 X B C D (ix2 i j) = dxR (fun k => X (ix2 i k)) (fun k => D (ix2 i k) * (c1 + C (ix2 0 k)) * B (ix2 0 k)) j := by
  unfold val0 dxR
  pointwise [ssR_at, gwR_at, backR_at]
  rfl

theorem val1_at (u : Fin 1) (j : Fin 2048) :
    val1 X C D (ix2 u j) = ∑ i : Fin 2048, X (ix2 i j) * rr (fun k => X (ix2 i k)) * (D (ix2 i j) * (c1 + C (ix2 0 j))) := by
  unfold val1
  pointwise [hatR_at, gR_at]

theorem val2_at (u : Fin 1) (j : Fin 2048) :
    val2 X B D (ix2 u j) = ∑ i : Fin 2048, X (ix2 i j) * rr (fun k => X (ix2 i k)) * B (ix2 0 j) * D (ix2 i j) := by
  unfold val2
  pointwise [hatR_at]

theorem val3_at (u : Fin 1) (j : Fin 2048) : val3 D (ix2 u j) = ∑ i : Fin 2048, (D (ix2 i j) : EReal) := by
  unfold val3
  pointwise []

end Ref

open Cert.Kernel32Ideal Cert.Kernel32Ideal.Gen

section Pay

variable (x : Vec Ideal S256x2048 .f32) (d : Vec Ideal S256x2048 .bf16) (w s o : Vec Ideal S1x2048 .f32)

theorem pay5_at (r : Fin 256) (u : Fin 1) : k0_pay5 x (ix2 r u) = rr fun k => x (ix2 r k) := by
  unfold k0_pay5
  pointwise []
  rfl

theorem pay6_at (r : Fin 256) (j : Fin 2048) : k0_pay6 x (ix2 r j) = x (ix2 r j) * rr fun k => x (ix2 r k) := by
  unfold k0_pay6
  pointwise [pay5_at]

theorem pay4_at (r : Fin 256) (j : Fin 2048) : k0_pay4 d (ix2 r j) = (d (ix2 r j) : EReal) := rfl

theorem pay7_at (r : Fin 256) (j : Fin 2048) :
    k0_pay7 x d w s (ix2 r j) = dxK (fun k => x (ix2 r k)) (fun k => d (ix2 r k) * (w (ix2 0 k) * (c1 + s (ix2 0 k)))) j := by
  unfold k0_pay7 dxK
  pointwise [pay5_at, pay6_at, pay4_at]

theorem pay8_at (u : Fin 1) (j : Fin 2048) :
    k0_pay8 x d (ix2 u j) = ∑ r : Fin 256, (d (ix2 r j) : EReal) * (x (ix2 r j) * rr fun k => x (ix2 r k)) := by
  unfold k0_pay8
  pointwise [pay6_at, pay4_at]

theorem pay1_at (u : Fin 1) (j : Fin 2048) :
    k0_pay1 (k0_pay8 x d) o s (ix2 u j) = o (ix2 u j) + (∑ r : Fin 256, (d (ix2 r j) : EReal) * (x (ix2 r j) * rr fun k => x (ix2 r k))) * (c1 + s (ix2 u j)) := by
  unfold k0_pay1
  pointwise [pay8_at]

theorem pay2_at (u : Fin 1) (j : Fin 2048) :
    k0_pay2 (k0_pay8 x d) o w (ix2 u j) = o (ix2 u j) + (∑ r : Fin 256, (d (ix2 r j) : EReal) * (x (ix2 r j) * rr fun k => x (ix2 r k))) * w (ix2 u j) := by
  unfold k0_pay2
  pointwise [pay8_at]

theorem pay3_at (u : Fin 1) (j : Fin 2048) :
    k0_pay3 (k0_pay4 d) o (ix2 u j) = o (ix2 u j) + ∑ r : Fin 256, (d (ix2 r j) : EReal) := by
  unfold k0_pay3
  pointwise [pay4_at]

theorem pay9_at (i : S1x2048.Idx) : (k0_pay9 (F := Ideal) i : EReal) = 0 := zero_bits
theorem pay10_at (i : S1x2048.Idx) : (k0_pay10 (F := Ideal) i : EReal) = 0 := zero_bits
theorem pay11_at (i : S1x2048.Idx) : (k0_pay11 (F := Ideal) i : EReal) = 0 := zero_bits

end Pay

section Cases

variable {F : FTy → Type} [FloatOps F]
variable (m : (ℓ : Loc nD τ sig) → Buf (Elt F) ℓ) (c : Dev nD) (t : Fin cfg0.N)

/-- What a grid point leaves, from its blocks and the sums before it. -/
def four (x : Vec F S256x2048 .f32) (w s : Vec F S1x2048 .f32) (d : Vec F S256x2048 .bf16) (o1 o2 o3 : Vec F S1x2048 .f32) :
    Vec F S256x2048 .f32 × Vec F S1x2048 .f32 × Vec F S1x2048 .f32 × Vec F S1x2048 .f32 :=
  (k0_pay7 x d w s, k0_pay1 (k0_pay8 x d) o1 s, k0_pay2 (k0_pay8 x d) o2 w, k0_pay3 (k0_pay4 d) o3)

/-- What the grid point before `t` left. -/
abbrev bef := outsAt0 m c (t.val - 1) (Nat.lt_of_le_of_lt (Nat.sub_le _ _) t.isLt)

theorem caseA (h0 : t.val % 8 = 0) :
    outsAt0 m c t.val t.isLt = four (iblk m c 0 t) (iblk m c 1 t) (iblk m c 2 t) (iblk m c 3 t) k0_pay9 k0_pay10 k0_pay11 := by
  rw [outsAt0_A m c t h0]
  unfold four
  refine Prod.ext ?_ (Prod.ext ?_ (Prod.ext ?_ ?_)) <;> dsimp only
  · unfold out0_A_4
    refine (View.read_writes_eq_canon _ _ _ fun y => cover0_A_4 ..).trans ?_
    unfold kernelRun0_A; dsimp only; sl_unfold_words
    refine (View.canon_unit_zero (S := S256x2048) zero2 _ _).trans ?_
    simp only [View.readAt_eq_ld, Memref.IsWhole.read_unread, read_unread_whole, View.ld_unit_zero (S := S256x2048) zero2, View.ld_unit_zero (S := S1x2048) zero2]
    try rfl
  · unfold out0_A_5
    refine (View.read_writes_eq_canon _ _ _ fun y => cover0_A_5 ..).trans ?_
    unfold kernelRun0_A; dsimp only; sl_unfold_words
    refine (View.canon_cons_unit_zero (S := S1x2048) zero2 _ _ _).trans ?_
    simp only [View.readAt_eq_ld, Memref.IsWhole.read_unread, read_unread_whole, View.ld_unit_zero (S := S256x2048) zero2, View.ld_unit_zero (S := S1x2048) zero2, View.readCov_unit_zero (S := S1x2048) _ zero2]
    try rfl
  · unfold out0_A_6
    refine (View.read_writes_eq_canon _ _ _ fun y => cover0_A_6 ..).trans ?_
    unfold kernelRun0_A; dsimp only; sl_unfold_words
    refine (View.canon_cons_unit_zero (S := S1x2048) zero2 _ _ _).trans ?_
    simp only [View.readAt_eq_ld, Memref.IsWhole.read_unread, read_unread_whole, View.ld_unit_zero (S := S256x2048) zero2, View.ld_unit_zero (S := S1x2048) zero2, View.readCov_unit_zero (S := S1x2048) _ zero2]
    try rfl
  · unfold out0_A_7
    refine (View.read_writes_eq_canon _ _ _ fun y => cover0_A_7 ..).trans ?_
    unfold kernelRun0_A; dsimp only; sl_unfold_words
    refine (View.canon_cons_unit_zero (S := S1x2048) zero2 _ _ _).trans ?_
    simp only [View.readAt_eq_ld, Memref.IsWhole.read_unread, read_unread_whole, View.ld_unit_zero (S := S256x2048) zero2, View.ld_unit_zero (S := S1x2048) zero2, View.readCov_unit_zero (S := S1x2048) _ zero2]
    try rfl

theorem caseB (h0 : ¬ t.val % 8 = 0) :
    outsAt0 m c t.val t.isLt = four (iblk m c 0 t) (iblk m c 1 t) (iblk m c 2 t) (iblk m c 3 t) (bef m c t).2.1 (bef m c t).2.2.1 (bef m c t).2.2.2 := by
  rw [outsAt0_B m c t h0]
  unfold four
  refine Prod.ext ?_ (Prod.ext ?_ (Prod.ext ?_ ?_)) <;> dsimp only
  · unfold out0_B_4
    refine (View.read_writes_eq_canon _ _ _ fun y => cover0_B_4 ..).trans ?_
    unfold kernelRun0_B; dsimp only; sl_unfold_words
    refine (View.canon_unit_zero (S := S256x2048) zero2 _ _).trans ?_
    simp only [View.readAt_eq_ld, Memref.IsWhole.read_unread, read_unread_whole, View.ld_unit_zero (S := S256x2048) zero2, View.ld_unit_zero (S := S1x2048) zero2]
    try rfl
  · unfold out0_B_5
    refine (View.read_writes_eq_canon _ _ _ fun y => cover0_B_5 ..).trans ?_
    unfold kernelRun0_B; dsimp only; sl_unfold_words
    refine (View.canon_unit_zero (S := S1x2048) zero2 _ _).trans ?_
    simp only [View.readAt_eq_ld, Memref.IsWhole.read_unread, read_unread_whole, View.ld_unit_zero (S := S256x2048) zero2, View.ld_unit_zero (S := S1x2048) zero2]
    try rfl
  · unfold out0_B_6
    refine (View.read_writes_eq_canon _ _ _ fun y => cover0_B_6 ..).trans ?_
    unfold kernelRun0_B; dsimp only; sl_unfold_words
    refine (View.canon_unit_zero (S := S1x2048) zero2 _ _).trans ?_
    simp only [View.readAt_eq_ld, Memref.IsWhole.read_unread, read_unread_whole, View.ld_unit_zero (S := S256x2048) zero2, View.ld_unit_zero (S := S1x2048) zero2]
    try rfl
  · unfold out0_B_7
    refine (View.read_writes_eq_canon _ _ _ fun y => cover0_B_7 ..).trans ?_
    unfold kernelRun0_B; dsimp only; sl_unfold_words
    refine (View.canon_unit_zero (S := S1x2048) zero2 _ _).trans ?_
    simp only [View.readAt_eq_ld, Memref.IsWhole.read_unread, read_unread_whole, View.ld_unit_zero (S := S256x2048) zero2, View.ld_unit_zero (S := S1x2048) zero2]
    try rfl

end Cases

variable (m : (ℓ : Loc nD τ sig) → Buf (Elt Ideal) ℓ) (c : Dev nD)

abbrev a0 : FVec Ideal S2048x2048 .f32 := m ((c : Thread nD τ).loc main_arg0)
abbrev a1 : FVec Ideal S1x2048 .f32 := m ((c : Thread nD τ).loc main_arg1)
abbrev a2 : FVec Ideal S1x2048 .f32 := m ((c : Thread nD τ).loc main_arg2)
abbrev a3 : FVec Ideal S2048x2048 .bf16 := m ((c : Thread nD τ).loc main_arg3)

/-- The entries of the weight, of the scale and of the gradient are real numbers. -/
structure Reals : Prop where
  r1 : ∀ i, IsReal (a1 m c i)
  r2 : ∀ i, IsReal (a2 m c i)
  r3 : ∀ i, IsReal (a3 m c i : EReal)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, 0] ∧ win0_6.index t = ![0, 0] ∧ win0_7.index t = ![0, 0] := by
  decide +kernel

variable (t : Fin cfg0.N)

theorem lt : t.val < 8 := t.isLt

/-- The grid point as a block of rows. -/
abbrev blk : Fin 8 := ⟨t.val, lt t⟩

theorem blk0 (r : Fin 256) (s : Fin 2048) : iblk m c 0 t (ix2 r s) = a0 m c (ix2 (at8 (blk t) r) s) := by
  unfold at8 blk
  blk_ext [iblk, V, (idx t).1]

theorem blk1 (u : Fin 1) (s : Fin 2048) : iblk m c 1 t (ix2 u s) = a1 m c (ix2 0 s) := by
  rw [show u = 0 from Subsingleton.elim _ _]
  blk_ext [iblk, V, (idx t).2.1]

theorem blk2 (u : Fin 1) (s : Fin 2048) : iblk m c 2 t (ix2 u s) = a2 m c (ix2 0 s) := by
  rw [show u = 0 from Subsingleton.elim _ _]
  blk_ext [iblk, V, (idx t).2.2.1]

theorem blk3 (r : Fin 256) (s : Fin 2048) : iblk m c 3 t (ix2 r s) = a3 m c (ix2 (at8 (blk t) r) s) := by
  unfold at8 blk
  blk_ext [iblk, V, (idx t).2.2.2.1]

theorem point0 (r : Fin 256) (s : Fin 2048) :
    k0_pay7 (iblk m c 0 t : Vec Ideal S256x2048 .f32) (iblk m c 3 t : Vec Ideal S256x2048 .bf16) (iblk m c 1 t : Vec Ideal S1x2048 .f32) (iblk m c 2 t : Vec Ideal S1x2048 .f32) (ix2 r s)
      = val0 (a0 m c) (a1 m c) (a2 m c) (a3 m c) (ix2 (at8 (blk t) r) s) := by
  rw [pay7_at, val0_at, ← dx_eq]
  refine congr2 (fun x g => dxK x g s) (funext fun k => blk0 m c t r k) (funext fun k => ?_)
  rw [mul_assoc, mul_comm (c1 + _) _]
  exact congr2 (· * ·) (blk3 m c t r k) (congr2 (fun w z => w * (c1 + z)) (blk1 m c t 0 k) (blk2 m c t 0 k))

/-- The normed rows, times the gradient, summed over a block. -/
def part (s : Fin 2048) (b : Fin 8) : EReal :=
  ∑ r : Fin 256, (a3 m c (ix2 (at8 b r) s) : EReal) * (a0 m c (ix2 (at8 b r) s) * rr fun k => a0 m c (ix2 (at8 b r) k))

theorem part_eq (x : Vec Ideal S256x2048 .f32) (d : Vec Ideal S256x2048 .bf16) (b : Fin 8) (s : Fin 2048)
    (hx : ∀ r k, x (ix2 r k) = a0 m c (ix2 (at8 b r) k)) (hd : ∀ r k, d (ix2 r k) = a3 m c (ix2 (at8 b r) k)) :
    ∑ r : Fin 256, (d (ix2 r s) : EReal) * (x (ix2 r s) * rr fun k => x (ix2 r k)) = part m c s b :=
  Finset.sum_congr rfl fun r _ => congr2 (· * ·) (hd r s) (congr2 (· * ·) (hx r s) (congrArg rr (funext fun k => hx r k)))

theorem part_at (s : Fin 2048) (x : Vec Ideal S256x2048 .f32) (d : Vec Ideal S256x2048 .bf16) (hx : x = iblk m c 0 t) (hd : d = iblk m c 3 t) :
    ∑ r : Fin 256, (d (ix2 r s) : EReal) * (x (ix2 r s) * rr fun k => x (ix2 r k)) = part m c s (blk t) :=
  part_eq m c x d _ s (fun r k => hx ▸ blk0 m c t r k) (fun r k => hd ▸ blk3 m c t r k)

theorem step1 (o : Vec Ideal S1x2048 .f32) (u : Fin 1) (s : Fin 2048) :
    k0_pay1 (k0_pay8 (iblk m c 0 t : Vec Ideal S256x2048 .f32) (iblk m c 3 t : Vec Ideal S256x2048 .bf16)) o (iblk m c 2 t : Vec Ideal S1x2048 .f32) (ix2 u s)
      = o (ix2 u s) + part m c s (blk t) * (c1 + a2 m c (ix2 0 s)) :=
  (pay1_at _ _ _ _ _ _).trans (congrArg (_ + ·) (congr2 (fun p z => p * (c1 + z)) (part_at m c t s _ _ rfl rfl) (blk2 m c t u s)))

theorem step2 (o : Vec Ideal S1x2048 .f32) (u : Fin 1) (s : Fin 2048) :
    k0_pay2 (k0_pay8 (iblk m c 0 t : Vec Ideal S256x2048 .f32) (iblk m c 3 t : Vec Ideal S256x2048 .bf16)) o (iblk m c 1 t : Vec Ideal S1x2048 .f32) (ix2 u s)
      = o (ix2 u s) + part m c s (blk t) * a1 m c (ix2 0 s) :=
  (pay2_at _ _ _ _ _ _).trans (congrArg (_ + ·) (congr2 (· * ·) (part_at m c t s _ _ rfl rfl) (blk1 m c t u s)))

theorem step3 (o : Vec Ideal S1x2048 .f32) (u : Fin 1) (s : Fin 2048) :
    k0_pay3 (k0_pay4 (iblk m c 3 t : Vec Ideal S256x2048 .bf16)) o (ix2 u s)
      = o (ix2 u s) + ∑ r : Fin 256, (a3 m c (ix2 (at8 (blk t) r) s) : EReal) :=
  (pay3_at _ _ _ _).trans (congrArg (_ + ·) (Finset.sum_congr rfl fun r _ => blk3 m c t r s))

theorem acc1 (u : Fin 1) (s : Fin 2048) (n : ℕ) (h : n < 8) :
    (outsAt0 m c n h).2.1 (ix2 u s) = upto (fun b => part m c s b * (c1 + a2 m c (ix2 0 s))) n := by
  refine acc_eq _ (fun n h => (outsAt0 m c n h).2.1 (ix2 u s)) ?_ (fun n h => ?_) n h
  · refine (congrFun (congrArg (fun z => z.2.1) (caseA m c ⟨0, (by norm_num : 0 < 8)⟩ rfl)) _).trans ((step1 m c ⟨0, (by norm_num : 0 < 8)⟩ _ u s).trans ?_)
    rw [pay9_at, zero_add]
    rfl
  · exact (congrFun (congrArg (fun z => z.2.1) (caseB m c ⟨n + 1, h⟩ (by show ¬ (n + 1) % 8 = 0; omega))) _).trans (step1 m c ⟨n + 1, h⟩ _ u s)

theorem acc2 (u : Fin 1) (s : Fin 2048) (n : ℕ) (h : n < 8) :
    (outsAt0 m c n h).2.2.1 (ix2 u s) = upto (fun b => part m c s b * a1 m c (ix2 0 s)) n := by
  refine acc_eq _ (fun n h => (outsAt0 m c n h).2.2.1 (ix2 u s)) ?_ (fun n h => ?_) n h
  · refine (congrFun (congrArg (fun z => z.2.2.1) (caseA m c ⟨0, (by norm_num : 0 < 8)⟩ rfl)) _).trans ((step2 m c ⟨0, (by norm_num : 0 < 8)⟩ _ u s).trans ?_)
    rw [pay10_at, zero_add]
    rfl
  · exact (congrFun (congrArg (fun z => z.2.2.1) (caseB m c ⟨n + 1, h⟩ (by show ¬ (n + 1) % 8 = 0; omega))) _).trans (step2 m c ⟨n + 1, h⟩ _ u s)

theorem acc3 (u : Fin 1) (s : Fin 2048) (n : ℕ) (h : n < 8) :
    (outsAt0 m c n h).2.2.2 (ix2 u s) = upto (fun b => ∑ r : Fin 256, (a3 m c (ix2 (at8 b r) s) : EReal)) n := by
  refine acc_eq _ (fun n h => (outsAt0 m c n h).2.2.2 (ix2 u s)) ?_ (fun n h => ?_) n h
  · refine (congrFun (congrArg (fun z => z.2.2.2) (caseA m c ⟨0, (by norm_num : 0 < 8)⟩ rfl)) _).trans ((step3 m c ⟨0, (by norm_num : 0 < 8)⟩ _ u s).trans ?_)
    rw [pay11_at, zero_add]
    rfl
  · exact (congrFun (congrArg (fun z => z.2.2.2) (caseB m c ⟨n + 1, h⟩ (by show ¬ (n + 1) % 8 = 0; omega))) _).trans (step3 m c ⟨n + 1, h⟩ _ u s)

theorem last1 (h : Reals m c) (u : Fin 1) (s : Fin 2048) (n : ℕ) (hn : n = 7) (p : n < 8) : (outsAt0 m c n p).2.1 (ix2 u s) = val1 (a0 m c) (a2 m c) (a3 m c) (ix2 u s) := by
  subst hn
  rw [acc1, upto_last, val1_at, sum_rows]
  refine Finset.sum_congr rfl fun b _ => ?_
  unfold part
  rw [← sum_mul_real _ (f := fun r : Fin 256 => a3 m c (ix2 (at8 b r) s) * (a0 m c (ix2 (at8 b r) s) * rr fun k => a0 m c (ix2 (at8 b r) k)))
    (fun r => (h.r3 _).mul (hat_real (fun k => a0 m c (ix2 (at8 b r) k)) s)) (c1_real.add (h.r2 _))]
  refine Finset.sum_congr rfl fun r _ => ?_
  rw [mul_assoc, mul_comm (a0 m c _ * _) (c1 + _), ← mul_assoc, mul_comm]

theorem last2 (h : Reals m c) (u : Fin 1) (s : Fin 2048) (n : ℕ) (hn : n = 7) (p : n < 8) : (outsAt0 m c n p).2.2.1 (ix2 u s) = val2 (a0 m c) (a1 m c) (a3 m c) (ix2 u s) := by
  subst hn
  rw [acc2, upto_last, val2_at, sum_rows]
  refine Finset.sum_congr rfl fun b _ => ?_
  unfold part
  rw [← sum_mul_real _ (f := fun r : Fin 256 => a3 m c (ix2 (at8 b r) s) * (a0 m c (ix2 (at8 b r) s) * rr fun k => a0 m c (ix2 (at8 b r) k)))
    (fun r => (h.r3 _).mul (hat_real (fun k => a0 m c (ix2 (at8 b r) k)) s)) (h.r1 _)]
  refine Finset.sum_congr rfl fun r _ => ?_
  rw [mul_assoc, mul_comm]

theorem last3 (u : Fin 1) (s : Fin 2048) (n : ℕ) (hn : n = 7) (p : n < 8) : (outsAt0 m c n p).2.2.2 (ix2 u s) = val3 (a3 m c) (ix2 u s) := by
  subst hn
  rw [acc3, upto_last, val3_at, sum_rows]

theorem out0 : (dats m 0 c).arrAt 4 cfg0.N = val0 (a0 m c) (a1 m c) (a2 m c) (a3 m c) := by
  refine (dats m 0 c).arrAt_eq_of_covers 4 _ (by decide +kernel) fun t hf y => ?_
  blk_simp
  rw [after0_4]
  have e1 : (outsAt0 m c t.val t.isLt).1 = k0_pay7 (iblk m c 0 t) (iblk m c 3 t) (iblk m c 1 t) (iblk m c 2 t) := by
    by_cases h0 : t.val % 8 = 0
    · rw [caseA m c t h0]; rfl
    · rw [caseB m c t h0]; rfl
  rw [e1]
  refine (congrArg (k0_pay7 _ _ _ _) (eta2 (n0 := 256) (n1 := 2048) y)).trans ((point0 m c t _ _).trans (congrArg _ ?_))
  have e := (idx t).2.2.2.2.1
  funext a; apply Fin.ext
  match a with
  | ⟨0, _⟩ =>
    show 256 * t.val + (y 0).val = win0_4.index t 0 * 256 + 1 * (y 0).val
    rw [e]; show _ = t.val * 256 + _; omega
  | ⟨1, _⟩ =>
    show (y 1).val = win0_4.index t 1 * 2048 + 1 * (y 1).val
    rw [e]; show _ = 0 * 2048 + _; omega

/-- The single block of a sum is the whole. -/
theorem whole (w : Fin 2 → ℕ) (hw : w = ![0, 0]) (y : S1x2048.Idx) (f : S1x2048.Idx → EReal) (z : S1x2048.Idx)
    (h0 : (z 0).val = w 0 * 1 + 1 * (y 0).val) (h1 : (z 1).val = w 1 * 2048 + 1 * (y 1).val) : f y = f z := by
  subst hw
  refine congrArg f (funext fun a => Fin.ext ?_)
  match a with
  | ⟨0, _⟩ => show (y 0).val = (z 0).val; rw [h0]; show _ = 0 * 1 + _; omega
  | ⟨1, _⟩ => show (y 1).val = (z 1).val; rw [h1]; show _ = 0 * 2048 + _; omega

theorem out1 (h : Reals m c) : (dats m 0 c).arrAt 5 cfg0.N = val1 (a0 m c) (a2 m c) (a3 m c) := by
  refine (dats m 0 c).arrAt_eq_of_covers 5 _ (by decide +kernel) fun t hf y => ?_
  have ht : t.val = 7 := by have := (flush0_5 t).mp hf; have := lt t; omega
  blk_simp
  rw [after0_5]
  refine (congrArg (outsAt0 m c t.val t.isLt).2.1 (eta2 (n0 := 1) (n1 := 2048) y)).trans ((last1 m c h _ _ _ ht _).trans ?_)
  refine (congrArg _ (eta2 (n0 := 1) (n1 := 2048) y).symm).trans ?_
  exact whole _ (idx _).2.2.2.2.2.1 y _ _ rfl rfl

theorem out2 (h : Reals m c) : (dats m 0 c).arrAt 6 cfg0.N = val2 (a0 m c) (a1 m c) (a3 m c) := by
  refine (dats m 0 c).arrAt_eq_of_covers 6 _ (by decide +kernel) fun t hf y => ?_
  have ht : t.val = 7 := by have := (flush0_6 t).mp hf; have := lt t; omega
  blk_simp
  rw [after0_6]
  refine (congrArg (outsAt0 m c t.val t.isLt).2.2.1 (eta2 (n0 := 1) (n1 := 2048) y)).trans ((last2 m c h _ _ _ ht _).trans ?_)
  refine (congrArg _ (eta2 (n0 := 1) (n1 := 2048) y).symm).trans ?_
  exact whole _ (idx _).2.2.2.2.2.2.1 y _ _ rfl rfl

theorem out3 : (dats m 0 c).arrAt 7 cfg0.N = val3 (a3 m c) := by
  refine (dats m 0 c).arrAt_eq_of_covers 7 _ (by decide +kernel) fun t hf y => ?_
  have ht : t.val = 7 := by have := (flush0_7 t).mp hf; have := lt t; omega
  blk_simp
  rw [after0_7]
  refine (congrArg (outsAt0 m c t.val t.isLt).2.2.2 (eta2 (n0 := 1) (n1 := 2048) y)).trans ((last3 m c _ _ _ ht _).trans ?_)
  refine (congrArg _ (eta2 (n0 := 1) (n1 := 2048) y).symm).trans ?_
  exact whole _ (idx _).2.2.2.2.2.2.2 y _ _ rfl rfl

end Cert.AdaNorm

end
-- ==== Proof.MoreClaims.lean ====
/-
  The claims about the loss and the norm's gradient: for each, that the call and its reference run to the end, leave their
  arguments alone and give the same results.
-/
module

public import proofs.«01_k».proof.Defs
public import proofs.«01_k».proof.Proof.AttnPre
public import proofs.«01_k».proof.Proof.Gen.Pre_finite3
public import proofs.«01_k».proof.Proof.LossHead
public import proofs.«01_k».proof.Proof.Gen.Kernel31.Frame
public import proofs.«01_k».proof.Proof.AdaNorm
public import proofs.«01_k».proof.Proof.Gen.Kernel32.Frame

@[expose] public section

set_option maxRecDepth 16384

noncomputable section

namespace Cert.MoreClaims

open Idealize.ShloMosaic Idealize.ShloMosaic.TcCoe Idealize.SL.Sem
open Cert.Prod Cert.AttnMath

theorem congr3 {α₀ α₁ α₂ β : Type} (f : α₀ → α₁ → α₂ → β) {x0 y0 x1 y1 x2 y2} (h0 : x0 = y0) (h1 : x1 = y1) (h2 : x2 = y2) :
    f x0 x1 x2 = f y0 y1 y2 := by
  subst h0 h1 h2; rfl

theorem congr4 {α₀ α₁ α₂ α₃ β : Type} (f : α₀ → α₁ → α₂ → α₃ → β) {x0 y0 x1 y1 x2 y2 x3 y3} (h0 : x0 = y0) (h1 : x1 = y1) (h2 : x2 = y2)
    (h3 : x3 = y3) : f x0 x1 x2 x3 = f y0 y1 y2 y3 := by
  subst h0 h1 h2 h3; rfl

/-- The single entry's shape. -/
abbrev one : Shape := ⟨0, ![]⟩

theorem real_of {s : Shape} {axes : List (Fin s.rank)} (x : FVec Ideal s .f32) (hb : one.BroadcastsInDim s (![] : Fin 0 → Fin s.rank))
    (hr : s.ReducesTo axes one) (hu : 0 < one.numel) (j : one.Idx)
    (h : Host.reduce IntOp.andi (cmpf .olt (Host.absf x) (broadcastInDim s ![] hb (constant (F := Ideal) one .f32 0x7F800000#32)))
      (constantI one 1 1#1) hr hu j = 1#1) (i : s.Idx) : IsReal (x i : EReal) := by
  have : Subsingleton one.Idx := ⟨fun a b => funext fun k => k.elim0⟩
  have e := Host.reduce_andi_all _ _ _ _ j h i
  refine IsReal.of_abs ?_
  have e1 : Ideal.cmp .olt (max (x i : EReal) (-(x i : EReal))) (Ideal.ofBits .f32 0x7F800000#32) = 1 := e
  have e2 : Ideal.ofBits .f32 0x7F800000#32 = ⊤ := by simp [Ideal.ofBits, Ideal.ieee]
  rw [e2, Ideal.cmp_olt_eq_one] at e1
  exact e1

namespace P31

theorem frame_kernel : quiescent_Kernel31 := fun m ρ _ => Kernel31.Gen.frame m ρ

theorem frame_ideal : quiescent_Kernel31Ideal := fun m ρ _ => Kernel31Ideal.Gen.frame m ρ

theorem frame_ref : quiescent_Reference31Ideal := fun m ρ _ =>
  (θ_run Reference31Ideal.defs _ _).mono (fun r h => ⟨fun c => (h c).2.2.2, sem_eq_zero_of_no_sems (by decide) r.2⟩)
    (Reference31Ideal.Value.run (F := Ideal) m ρ)

theorem preserves : preserves_Kernel31_Kernel31Ideal := trivial

theorem algebraic : algebraic_Kernel31Ideal_Reference31Ideal := by
  intro m ρ m' ρ' hpre hagree
  refine ⟨fun c => Cert.LossHead.valL (Cert.LossHead.a0 m c) (Cert.LossHead.a1 m c) (Cert.LossHead.a2 m c),
    fun c => Cert.LossHead.valX (Cert.LossHead.a0 m c) (Cert.LossHead.a1 m c) (Cert.LossHead.a2 m c),
    fun c => Cert.LossHead.valW (Cert.LossHead.a0 m c) (Cert.LossHead.a1 m c) (Cert.LossHead.a2 m c), ?_, ?_⟩
  · exact (θ_run Kernel31Ideal.defs _ _).mono (fun r h c => ⟨((h.1 c).1 3).trans (Cert.LossHead.outL m c),
        ((h.1 c).1 4).trans (Cert.LossHead.outX m c), ((h.1 c).1 5).trans (Cert.LossHead.outW m c), h.2 c⟩)
      (θ_run_and (Kernel31Ideal.Gen.run_main (F := Ideal) m ρ) (Kernel31Ideal.Gen.unchanged (F := Ideal) m ρ))
  · refine (θ_run Reference31Ideal.defs _ _).mono (fun r h c => ?_) (Reference31Ideal.Value.run (F := Ideal) m' ρ')
    obtain ⟨e0, e1, e2⟩ := hagree c
    obtain ⟨hL, hX, hW, hargs⟩ := h c
    exact ⟨hL.trans (congr3 Cert.LossHead.valL e0 e1 e2), hX.trans (congr3 Cert.LossHead.valX e0 e1 e2), hW.trans (congr3 Cert.LossHead.valW e0 e1 e2), hargs⟩

end P31

namespace P32

theorem frame_kernel : quiescent_Kernel32 := fun m ρ _ => Kernel32.Gen.frame m ρ

theorem frame_ideal : quiescent_Kernel32Ideal := fun m ρ _ => Kernel32Ideal.Gen.frame m ρ

theorem frame_ref : quiescent_Reference32Ideal := fun m ρ _ =>
  (θ_run Reference32Ideal.defs _ _).mono (fun r h => ⟨fun c => (h c).2.2.2.2, sem_eq_zero_of_no_sems (by decide) r.2⟩)
    (Reference32Ideal.Value.run (F := Ideal) m ρ)

theorem preserves : preserves_Kernel32_Kernel32Ideal := trivial

theorem frame_ideal_pre : quiescent_Kernel32Ideal_pre_finite3 := fun m ρ _ => Kernel32Ideal.Gen.frame m ρ

theorem frame_ref_pre : quiescent_Reference32Ideal_pre_finite3 := fun m ρ _ => frame_ref m ρ trivial

theorem reals (m : (ℓ : Loc Kernel32Ideal.nD Kernel32Ideal.τ Kernel32Ideal.sig) → Buf (Elt Ideal) ℓ)
    (h : Pre_Kernel32Ideal_finite3 m) (c : Dev Kernel32Ideal.nD) : Cert.AdaNorm.Reals m c := by
  have hc := congrFun (h c) (fun k => k.elim0)
  unfold Cert.Pre_finite3.fn at hc
  dsimp only at hc
  obtain ⟨hc, h3⟩ := Cert.AttnPre.and_ones hc
  obtain ⟨h1, h2⟩ := Cert.AttnPre.and_ones hc
  exact ⟨real_of _ _ _ _ _ h1, real_of _ _ _ _ _ h2, Cert.AttnPre.real_of _ _ _ _ _ _ h3⟩

theorem algebraic : algebraic_Kernel32Ideal_Reference32Ideal_pre_finite3 := by
  intro m ρ m' ρ' hpre hagree
  refine ⟨fun c => Cert.AdaNorm.val0 (Cert.AdaNorm.a0 m c) (Cert.AdaNorm.a1 m c) (Cert.AdaNorm.a2 m c) (Cert.AdaNorm.a3 m c),
    fun c => Cert.AdaNorm.val1 (Cert.AdaNorm.a0 m c) (Cert.AdaNorm.a2 m c) (Cert.AdaNorm.a3 m c),
    fun c => Cert.AdaNorm.val2 (Cert.AdaNorm.a0 m c) (Cert.AdaNorm.a1 m c) (Cert.AdaNorm.a3 m c),
    fun c => Cert.AdaNorm.val3 (Cert.AdaNorm.a3 m c), ?_, ?_⟩
  · exact (θ_run Kernel32Ideal.defs _ _).mono (fun r h c => ⟨((h.1 c).1 4).trans (Cert.AdaNorm.out0 m c),
        ((h.1 c).1 5).trans (Cert.AdaNorm.out1 m c (reals m hpre c)), ((h.1 c).1 6).trans (Cert.AdaNorm.out2 m c (reals m hpre c)),
        ((h.1 c).1 7).trans (Cert.AdaNorm.out3 m c), h.2 c⟩)
      (θ_run_and (Kernel32Ideal.Gen.run_main (F := Ideal) m ρ) (Kernel32Ideal.Gen.unchanged (F := Ideal) m ρ))
  · refine (θ_run Reference32Ideal.defs _ _).mono (fun r h c => ?_) (Reference32Ideal.Value.run (F := Ideal) m' ρ')
    obtain ⟨e0, e1, e2, e3⟩ := hagree c
    obtain ⟨h0, h1, h2, h3, hargs⟩ := h c
    exact ⟨h0.trans (congr4 Cert.AdaNorm.val0 e0 e1 e2 e3), h1.trans (congr3 Cert.AdaNorm.val1 e0 e2 e3), h2.trans (congr3 Cert.AdaNorm.val2 e0 e1 e3),
      h3.trans (congrArg Cert.AdaNorm.val3 e3), hargs⟩

end P32

end Cert.MoreClaims

end
-- ==== Proof.GatesFwd.lean ====
/-
  The product into the branch gates (`in_g`): its call over the extended reals, and the reference's term.
-/
module

public import proofs.«01_k».proof.Proof.Prod
public import proofs.«01_k».proof.Proof.Gen.Kernel33Ideal.Frame
public import proofs.«01_k».proof.Proof.Gen.Reference33Ideal.Run

@[expose] public section

set_option maxRecDepth 16384

noncomputable section

namespace Cert.GatesFwd

open Idealize.ShloMosaic Idealize.ShloMosaic.TcCoe Idealize.SL.Sem
open Cert.Prod

section Ref

open Cert.Reference33Ideal Cert.Reference33Ideal.Gen

/-- The reference's result as a function of its two arguments. -/
def val (A : FVec Ideal S2048x2048 .bf16) (B : FVec Ideal S2048x4096 .bf16) : FVec Ideal S2048x4096 .bf16 :=
  truncf .bf16 (Host.dotGeneral dot_S2048x2048_S2048x4096_S2048x4096_1_0_0_1_n_n none
    (extf .f32 A bitsLt_bf16_f32) (extf .f32 B bitsLt_bf16_f32)) bitsLt_bf16_f32

theorem val_at (A : FVec Ideal S2048x2048 .bf16) (B : FVec Ideal S2048x4096 .bf16) (i : Fin 2048) (j : Fin 4096) :
    val A B (ix2 i j) = ∑ k : Fin 2048, A (ix2 i k) * B (ix2 k j) := by
  unfold val
  pointwise []

end Ref

open Cert.Kernel33Ideal Cert.Kernel33Ideal.Gen

variable (m : (ℓ : Loc nD τ sig) → Buf (Elt Ideal) ℓ) (c : Dev nD)

abbrev a0 : FVec Ideal S2048x2048 .bf16 := m ((c : Thread nD τ).loc main_arg0)
abbrev a1 : FVec Ideal S2048x4096 .bf16 := m ((c : Thread nD τ).loc main_arg1)

theorem pay_at (a : Vec Ideal S1024x2048 .bf16) (b : Vec Ideal S2048x1024 .bf16) (r : Fin 1024) (s : Fin 1024) :
    k0_pay1 a b (ix2 r s) = ∑ k : Fin 2048, a (ix2 r k) * b (ix2 k s) := by
  unfold k0_pay1
  pointwise []

theorem idx : ∀ t : Fin cfg0.N, win0_0.index t = ![t.val / 4, 0] ∧ win0_1.index t = ![0, t.val % 4]
    ∧ win0_2.index t = ![t.val / 4, t.val % 4] := by
  decide +kernel

variable (t : Fin cfg0.N)

theorem lt : t.val < 8 := t.isLt

abbrev row (r : Fin 1024) : Fin 2048 := ⟨1024 * (t.val / 4) + r.val, by have := lt t; omega⟩
abbrev column (s : Fin 1024) : Fin 4096 := ⟨1024 * (t.val % 4) + s.val, by have := lt t; omega⟩

theorem blk0 (r : Fin 1024) (k : Fin 2048) : iblk m c 0 t (ix2 r k) = a0 m c (ix2 (row t r) k) := by
  unfold row
  blk_ext [iblk, V, (idx t).1]

theorem blk1 (k : Fin 2048) (s : Fin 1024) : iblk m c 1 t (ix2 k s) = a1 m c (ix2 k (column t s)) := by
  unfold column
  blk_ext [iblk, V, (idx t).2.1]

theorem point (r : Fin 1024) (s : Fin 1024) :
    k0_pay1 (iblk m c 0 t : Vec Ideal S1024x2048 .bf16) (iblk m c 1 t : Vec Ideal S2048x1024 .bf16) (ix2 r s)
      = val (a0 m c) (a1 m c) (ix2 (row t r) (column t s)) := by
  rw [pay_at, val_at]
  exact sum_mul (fun k => blk0 m c t r k) fun k => blk1 m c t k s

theorem out : (dats m 0 c).arrAt 2 cfg0.N = val (a0 m c) (a1 m c) := by
  refine (dats m 0 c).arrAt_eq_of_covers 2 _ (by decide +kernel) fun t hf y => ?_
  blk_simp
  rw [after0_2]
  unfold out0_2
  rw [View.canon_unit_zero zero2, View.ld_unit_zero zero2, View.ld_unit_zero zero2]
  refine (congrArg (k0_pay1 _ _) (eta2 (n0 := 1024) (n1 := 1024) y)).trans ((point m c t _ _).trans (congrArg _ ?_))
  have e := (idx t).2.2
  funext a; apply Fin.ext
  match a with
  | ⟨0, _⟩ =>
    show 1024 * (t.val / 4) + (y 0).val = win0_2.index t 0 * 1024 + 1 * (y 0).val
    rw [e]; show _ = t.val / 4 * 1024 + _; omega
  | ⟨1, _⟩ =>
    show 1024 * (t.val % 4) + (y 1).val = win0_2.index t 1 * 1024 + 1 * (y 1).val
    rw [e]; show _ = t.val % 4 * 1024 + _; omega

end Cert.GatesFwd

end
-- ==== Proof.QkvFwd.lean ====
/-
  The product into the linear attention's q, k and v (`in_qkv`): its call over the extended reals, and the reference's term.
-/
module

public import proofs.«01_k».proof.Proof.Prod
public import proofs.«01_k».proof.Proof.Gen.Kernel34Ideal.Frame
public import proofs.«01_k».proof.Proof.Gen.Reference34Ideal.Run

@[expose] public section

set_option maxRecDepth 16384

noncomputable section

namespace Cert.QkvFwd

open Idealize.ShloMosaic Idealize.ShloMosaic.TcCoe Idealize.SL.Sem
open Cert.Prod

section Ref

open Cert.Reference34Ideal Cert.Reference34Ideal.Gen

/-- The reference's result as a function of its two arguments. -/
def val (A : FVec Ideal S2048x2048 .bf16) (B : FVec Ideal S2048x3072 .bf16) : FVec Ideal S2048x3072 .bf16 :=
  truncf .bf16 (Host.dotGeneral dot_S2048x2048_S2048x3072_S2048x3072_1_0_0_1_n_n none
    (extf .f32 A bitsLt_bf16_f32) (extf .f32 B bitsLt_bf16_f32)) bitsLt_bf16_f32

theorem val_at (A : FVec Ideal S2048x2048 .bf16) (B : FVec Ideal S2048x3072 .bf16) (i : Fin 2048) (j : Fin 3072) :
    val A B (ix2 i j) = ∑ k : Fin 2048, A (ix2 i k) * B (ix2 k j) := by
  unfold val
  pointwise []

end Ref

open Cert.Kernel34Ideal Cert.Kernel34Ideal.Gen

variable (m : (ℓ : Loc nD τ sig) → Buf (Elt Ideal) ℓ) (c : Dev nD)

abbrev a0 : FVec Ideal S2048x2048 .bf16 := m ((c : Thread nD τ).loc main_arg0)
abbrev a1 : FVec Ideal S2048x3072 .bf16 := m ((c : Thread nD τ).loc main_arg1)

theorem pay_at (a : Vec Ideal S1024x2048 .bf16) (b : Vec Ideal S2048x1024 .bf16) (r : Fin 1024) (s : Fin 1024) :
    k0_pay1 a b (ix2 r s) = ∑ k : Fin 2048, a (ix2 r k) * b (ix2 k s) := by
  unfold k0_pay1
  pointwise []

theorem idx : ∀ t : Fin cfg0.N, win0_0.index t = ![t.val / 3, 0] ∧ win0_1.index t = ![0, t.val % 3]
    ∧ win0_2.index t = ![t.val / 3, t.val % 3] := by
  decide +kernel

variable (t : Fin cfg0.N)

theorem lt : t.val < 6 := t.isLt

abbrev row (r : Fin 1024) : Fin 2048 := ⟨1024 * (t.val / 3) + r.val, by have := lt t; omega⟩
abbrev column (s : Fin 1024) : Fin 3072 := ⟨1024 * (t.val % 3) + s.val, by have := lt t; omega⟩

theorem blk0 (r : Fin 1024) (k : Fin 2048) : iblk m c 0 t (ix2 r k) = a0 m c (ix2 (row t r) k) := by
  unfold row
  blk_ext [iblk, V, (idx t).1]

theorem blk1 (k : Fin 2048) (s : Fin 1024) : iblk m c 1 t (ix2 k s) = a1 m c (ix2 k (column t s)) := by
  unfold column
  blk_ext [iblk, V, (idx t).2.1]

theorem point (r : Fin 1024) (s : Fin 1024) :
    k0_pay1 (iblk m c 0 t : Vec Ideal S1024x2048 .bf16) (iblk m c 1 t : Vec Ideal S2048x1024 .bf16) (ix2 r s)
      = val (a0 m c) (a1 m c) (ix2 (row t r) (column t s)) := by
  rw [pay_at, val_at]
  exact sum_mul (fun k => blk0 m c t r k) fun k => blk1 m c t k s

theorem out : (dats m 0 c).arrAt 2 cfg0.N = val (a0 m c) (a1 m c) := by
  refine (dats m 0 c).arrAt_eq_of_covers 2 _ (by decide +kernel) fun t hf y => ?_
  blk_simp
  rw [after0_2]
  unfold out0_2
  rw [View.canon_unit_zero zero2, View.ld_unit_zero zero2, View.ld_unit_zero zero2]
  refine (congrArg (k0_pay1 _ _) (eta2 (n0 := 1024) (n1 := 1024) y)).trans ((point m c t _ _).trans (congrArg _ ?_))
  have e := (idx t).2.2
  funext a; apply Fin.ext
  match a with
  | ⟨0, _⟩ =>
    show 1024 * (t.val / 3) + (y 0).val = win0_2.index t 0 * 1024 + 1 * (y 0).val
    rw [e]; show _ = t.val / 3 * 1024 + _; omega
  | ⟨1, _⟩ =>
    show 1024 * (t.val % 3) + (y 1).val = win0_2.index t 1 * 1024 + 1 * (y 1).val
    rw [e]; show _ = t.val % 3 * 1024 + _; omega

end Cert.QkvFwd

end
-- ==== Proof.ZFwd.lean ====
/-
  The product into the output gate (`in_z`): its call over the extended reals, and the reference's term.
-/
module

public import proofs.«01_k».proof.Proof.Prod
public import proofs.«01_k».proof.Proof.Gen.Kernel35Ideal.Frame
public import proofs.«01_k».proof.Proof.Gen.Reference35Ideal.Run

@[expose] public section

set_option maxRecDepth 16384

noncomputable section

namespace Cert.ZFwd

open Idealize.ShloMosaic Idealize.ShloMosaic.TcCoe Idealize.SL.Sem
open Cert.Prod

section Ref

open Cert.Reference35Ideal Cert.Reference35Ideal.Gen

/-- The reference's result as a function of its two arguments. -/
def val (A : FVec Ideal S2048x2048 .bf16) (B : FVec Ideal S2048x1024 .bf16) : FVec Ideal S2048x1024 .bf16 :=
  truncf .bf16 (Host.dotGeneral dot_S2048x2048_S2048x1024_S2048x1024_1_0_0_1_n_n none
    (extf .f32 A bitsLt_bf16_f32) (extf .f32 B bitsLt_bf16_f32)) bitsLt_bf16_f32

theorem val_at (A : FVec Ideal S2048x2048 .bf16) (B : FVec Ideal S2048x1024 .bf16) (i : Fin 2048) (j : Fin 1024) :
    val A B (ix2 i j) = ∑ k : Fin 2048, A (ix2 i k) * B (ix2 k j) := by
  unfold val
  pointwise []

end Ref

open Cert.Kernel35Ideal Cert.Kernel35Ideal.Gen

variable (m : (ℓ : Loc nD τ sig) → Buf (Elt Ideal) ℓ) (c : Dev nD)

abbrev a0 : FVec Ideal S2048x2048 .bf16 := m ((c : Thread nD τ).loc main_arg0)
abbrev a1 : FVec Ideal S2048x1024 .bf16 := m ((c : Thread nD τ).loc main_arg1)

theorem pay_at (a : Vec Ideal S1024x2048 .bf16) (b : Vec Ideal S2048x1024 .bf16) (r : Fin 1024) (s : Fin 1024) :
    k0_pay1 a b (ix2 r s) = ∑ k : Fin 2048, a (ix2 r k) * b (ix2 k s) := by
  unfold k0_pay1
  pointwise []

theorem idx : ∀ t : Fin cfg0.N, win0_0.index t = ![t.val / 1, 0] ∧ win0_1.index t = ![0, t.val % 1]
    ∧ win0_2.index t = ![t.val / 1, t.val % 1] := by
  decide +kernel

variable (t : Fin cfg0.N)

theorem lt : t.val < 2 := t.isLt

abbrev row (r : Fin 1024) : Fin 2048 := ⟨1024 * (t.val / 1) + r.val, by have := lt t; omega⟩
abbrev column (s : Fin 1024) : Fin 1024 := ⟨1024 * (t.val % 1) + s.val, by have := lt t; omega⟩

theorem blk0 (r : Fin 1024) (k : Fin 2048) : iblk m c 0 t (ix2 r k) = a0 m c (ix2 (row t r) k) := by
  unfold row
  blk_ext [iblk, V, (idx t).1]

theorem blk1 (k : Fin 2048) (s : Fin 1024) : iblk m c 1 t (ix2 k s) = a1 m c (ix2 k (column t s)) := by
  unfold column
  blk_ext [iblk, V, (idx t).2.1]

theorem point (r : Fin 1024) (s : Fin 1024) :
    k0_pay1 (iblk m c 0 t : Vec Ideal S1024x2048 .bf16) (iblk m c 1 t : Vec Ideal S2048x1024 .bf16) (ix2 r s)
      = val (a0 m c) (a1 m c) (ix2 (row t r) (column t s)) := by
  rw [pay_at, val_at]
  exact sum_mul (fun k => blk0 m c t r k) fun k => blk1 m c t k s

theorem out : (dats m 0 c).arrAt 2 cfg0.N = val (a0 m c) (a1 m c) := by
  refine (dats m 0 c).arrAt_eq_of_covers 2 _ (by decide +kernel) fun t hf y => ?_
  blk_simp
  rw [after0_2]
  unfold out0_2
  rw [View.canon_unit_zero zero2, View.ld_unit_zero zero2, View.ld_unit_zero zero2]
  refine (congrArg (k0_pay1 _ _) (eta2 (n0 := 1024) (n1 := 1024) y)).trans ((point m c t _ _).trans (congrArg _ ?_))
  have e := (idx t).2.2
  funext a; apply Fin.ext
  match a with
  | ⟨0, _⟩ =>
    show 1024 * (t.val / 1) + (y 0).val = win0_2.index t 0 * 1024 + 1 * (y 0).val
    rw [e]; show _ = t.val / 1 * 1024 + _; omega
  | ⟨1, _⟩ =>
    show 1024 * (t.val % 1) + (y 1).val = win0_2.index t 1 * 1024 + 1 * (y 1).val
    rw [e]; show _ = t.val % 1 * 1024 + _; omega

end Cert.ZFwd

end
-- ==== Proof.LatentFwd.lean ====
/-
  The product into the latents and decays (`in_a`): its call over the extended reals, and the reference's term.
-/
module

public import proofs.«01_k».proof.Proof.Prod
public import proofs.«01_k».proof.Proof.Gen.Kernel36Ideal.Frame
public import proofs.«01_k».proof.Proof.Gen.Reference36Ideal.Run

@[expose] public section

set_option maxRecDepth 16384

noncomputable section

namespace Cert.LatentFwd

open Idealize.ShloMosaic Idealize.ShloMosaic.TcCoe Idealize.SL.Sem
open Cert.Prod

section Ref

open Cert.Reference36Ideal Cert.Reference36Ideal.Gen

/-- The reference's result as a function of its two arguments. -/
def val (A : FVec Ideal S2048x2048 .bf16) (B : FVec Ideal S2048x1152 .bf16) : FVec Ideal S2048x1152 .bf16 :=
  truncf .bf16 (Host.dotGeneral dot_S2048x2048_S2048x1152_S2048x1152_1_0_0_1_n_n none
    (extf .f32 A bitsLt_bf16_f32) (extf .f32 B bitsLt_bf16_f32)) bitsLt_bf16_f32

theorem val_at (A : FVec Ideal S2048x2048 .bf16) (B : FVec Ideal S2048x1152 .bf16) (i : Fin 2048) (j : Fin 1152) :
    val A B (ix2 i j) = ∑ k : Fin 2048, A (ix2 i k) * B (ix2 k j) := by
  unfold val
  pointwise []

end Ref

open Cert.Kernel36Ideal Cert.Kernel36Ideal.Gen

variable (m : (ℓ : Loc nD τ sig) → Buf (Elt Ideal) ℓ) (c : Dev nD)

abbrev a0 : FVec Ideal S2048x2048 .bf16 := m ((c : Thread nD τ).loc main_arg0)
abbrev a1 : FVec Ideal S2048x1152 .bf16 := m ((c : Thread nD τ).loc main_arg1)

theorem pay_at (a : Vec Ideal S1024x2048 .bf16) (b : Vec Ideal S2048x384 .bf16) (r : Fin 1024) (s : Fin 384) :
    k0_pay1 a b (ix2 r s) = ∑ k : Fin 2048, a (ix2 r k) * b (ix2 k s) := by
  unfold k0_pay1
  pointwise []

theorem idx : ∀ t : Fin cfg0.N, win0_0.index t = ![t.val / 3, 0] ∧ win0_1.index t = ![0, t.val % 3]
    ∧ win0_2.index t = ![t.val / 3, t.val % 3] := by
  decide +kernel

variable (t : Fin cfg0.N)

theorem lt : t.val < 6 := t.isLt

abbrev row (r : Fin 1024) : Fin 2048 := ⟨1024 * (t.val / 3) + r.val, by have := lt t; omega⟩
abbrev column (s : Fin 384) : Fin 1152 := ⟨384 * (t.val % 3) + s.val, by have := lt t; omega⟩

theorem blk0 (r : Fin 1024) (k : Fin 2048) : iblk m c 0 t (ix2 r k) = a0 m c (ix2 (row t r) k) := by
  unfold row
  blk_ext [iblk, V, (idx t).1]

theorem blk1 (k : Fin 2048) (s : Fin 384) : iblk m c 1 t (ix2 k s) = a1 m c (ix2 k (column t s)) := by
  unfold column
  blk_ext [iblk, V, (idx t).2.1]

theorem point (r : Fin 1024) (s : Fin 384) :
    k0_pay1 (iblk m c 0 t : Vec Ideal S1024x2048 .bf16) (iblk m c 1 t : Vec Ideal S2048x384 .bf16) (ix2 r s)
      = val (a0 m c) (a1 m c) (ix2 (row t r) (column t s)) := by
  rw [pay_at, val_at]
  exact sum_mul (fun k => blk0 m c t r k) fun k => blk1 m c t k s

theorem out : (dats m 0 c).arrAt 2 cfg0.N = val (a0 m c) (a1 m c) := by
  refine (dats m 0 c).arrAt_eq_of_covers 2 _ (by decide +kernel) fun t hf y => ?_
  blk_simp
  rw [after0_2]
  unfold out0_2
  rw [View.canon_unit_zero zero2, View.ld_unit_zero zero2, View.ld_unit_zero zero2]
  refine (congrArg (k0_pay1 _ _) (eta2 (n0 := 1024) (n1 := 384) y)).trans ((point m c t _ _).trans (congrArg _ ?_))
  have e := (idx t).2.2
  funext a; apply Fin.ext
  match a with
  | ⟨0, _⟩ =>
    show 1024 * (t.val / 3) + (y 0).val = win0_2.index t 0 * 1024 + 1 * (y 0).val
    rw [e]; show _ = t.val / 3 * 1024 + _; omega
  | ⟨1, _⟩ =>
    show 384 * (t.val % 3) + (y 1).val = win0_2.index t 1 * 384 + 1 * (y 1).val
    rw [e]; show _ = t.val % 3 * 384 + _; omega

end Cert.LatentFwd

end
-- ==== Proof.OutFwd.lean ====
/-
  The output projection with its gate and the residual (`w_o`): its call over the extended reals, and the reference's term.
-/
module

public import proofs.«01_k».proof.Proof.Prod
public import proofs.«01_k».proof.Proof.Gen.Kernel37Ideal.Frame
public import proofs.«01_k».proof.Proof.Gen.Reference37Ideal.Run

@[expose] public section

set_option maxRecDepth 16384

noncomputable section

namespace Cert.OutFwd

open Idealize.ShloMosaic Idealize.ShloMosaic.TcCoe Idealize.SL.Sem
open Cert.Prod

section Ref

open Cert.Reference37Ideal Cert.Reference37Ideal.Gen

/-- The product alone. -/
def prod (A B : FVec Ideal S2048x2048 .bf16) : FVec Ideal S2048x2048 .f32 :=
  Host.dotGeneral dot_S2048x2048_S2048x2048_S2048x2048_1_0_0_1_n_n none (extf .f32 A bitsLt_bf16_f32) (extf .f32 B bitsLt_bf16_f32)

/-- The reference's two results as functions of its four arguments. -/
def valX (X : FVec Ideal S2048x2048 .f32) (G : FVec Ideal S1x2048 .f32) (A B : FVec Ideal S2048x2048 .bf16) : FVec Ideal S2048x2048 .f32 :=
  addf X (mulf (broadcastInDim S2048x2048 ![0, 1] bcast_S1x2048_S2048x2048_0_1 G) (prod A B))

def valP (A B : FVec Ideal S2048x2048 .bf16) : FVec Ideal S2048x2048 .bf16 :=
  truncf .bf16 (prod A B) bitsLt_bf16_f32

theorem prod_at (A B : FVec Ideal S2048x2048 .bf16) (i j : Fin 2048) :
    prod A B (ix2 i j) = ∑ k : Fin 2048, A (ix2 i k) * B (ix2 k j) := by
  unfold prod
  pointwise []

theorem valX_at (X : FVec Ideal S2048x2048 .f32) (G : FVec Ideal S1x2048 .f32) (A B : FVec Ideal S2048x2048 .bf16) (i j : Fin 2048) :
    (valX X G A B (ix2 i j) : EReal) = (X (ix2 i j) : EReal) + (G (ix2 0 j) : EReal) * prod A B (ix2 i j) := by
  unfold valX
  generalize prod A B = p
  pointwise []

end Ref

open Cert.Kernel37Ideal Cert.Kernel37Ideal.Gen

theorem pay1_at (a : Vec Ideal S1024x2048 .bf16) (b : Vec Ideal S2048x512 .bf16) (r : Fin 1024) (s : Fin 512) :
    k0_pay1 a b (ix2 r s) = ∑ k : Fin 2048, a (ix2 r k) * b (ix2 k s) := by
  unfold k0_pay1
  pointwise []

theorem pay2_at (a : Vec Ideal S1024x2048 .bf16) (b : Vec Ideal S2048x512 .bf16) (x : Vec Ideal S1024x512 .f32) (g : Vec Ideal S1x512 .f32) (r : Fin 1024) (s : Fin 512) :
    (k0_pay2 a b x g (ix2 r s) : EReal) = (x (ix2 r s) : EReal) + (g (ix2 0 s) : EReal) * k0_pay1 a b (ix2 r s) := by
  unfold k0_pay2
  generalize k0_pay1 a b = p
  pointwise []

variable (m : (ℓ : Loc nD τ sig) → Buf (Elt Ideal) ℓ) (c : Dev nD)

abbrev a0 : FVec Ideal S2048x2048 .f32 := m ((c : Thread nD τ).loc main_arg0)
abbrev a1 : FVec Ideal S1x2048 .f32 := m ((c : Thread nD τ).loc main_arg1)
abbrev a2 : FVec Ideal S2048x2048 .bf16 := m ((c : Thread nD τ).loc main_arg2)
abbrev a3 : FVec Ideal S2048x2048 .bf16 := m ((c : Thread nD τ).loc main_arg3)

theorem idx : ∀ t : Fin cfg0.N, win0_0.index t = ![t.val / 4, 0] ∧ win0_1.index t = ![0, t.val % 4] ∧ win0_2.index t = ![t.val / 4, t.val % 4]
    ∧ win0_3.index t = ![0, t.val % 4] ∧ win0_4.index t = ![t.val / 4, t.val % 4] ∧ win0_5.index t = ![t.val / 4, t.val % 4] := by
  decide +kernel

variable (t : Fin cfg0.N)

theorem lt : t.val < 8 := t.isLt

abbrev row (r : Fin 1024) : Fin 2048 := ⟨1024 * (t.val / 4) + r.val, by have := lt t; omega⟩
abbrev column (s : Fin 512) : Fin 2048 := ⟨512 * (t.val % 4) + s.val, by have := lt t; omega⟩

theorem blk0 (r : Fin 1024) (k : Fin 2048) : iblk m c 0 t (ix2 r k) = a2 m c (ix2 (row t r) k) := by
  unfold row
  blk_ext [iblk, V, (idx t).1]

theorem blk1 (k : Fin 2048) (s : Fin 512) : iblk m c 1 t (ix2 k s) = a3 m c (ix2 k (column t s)) := by
  unfold column
  blk_ext [iblk, V, (idx t).2.1]

theorem blk2 (r : Fin 1024) (s : Fin 512) : iblk m c 2 t (ix2 r s) = a0 m c (ix2 (row t r) (column t s)) := by
  unfold row column
  blk_ext [iblk, V, (idx t).2.2.1]

theorem blk3 (u : Fin 1) (s : Fin 512) : iblk m c 3 t (ix2 u s) = a1 m c (ix2 0 (column t s)) := by
  rw [show u = 0 from Subsingleton.elim _ _]
  unfold column
  blk_ext [iblk, V, (idx t).2.2.2.1]

theorem pointP (r : Fin 1024) (s : Fin 512) :
    k0_pay1 (iblk m c 0 t : Vec Ideal S1024x2048 .bf16) (iblk m c 1 t : Vec Ideal S2048x512 .bf16) (ix2 r s)
      = prod (a2 m c) (a3 m c) (ix2 (row t r) (column t s)) := by
  rw [pay1_at, prod_at]
  exact sum_mul (fun k => blk0 m c t r k) fun k => blk1 m c t k s

theorem pointX (r : Fin 1024) (s : Fin 512) :
    k0_pay2 (iblk m c 0 t : Vec Ideal S1024x2048 .bf16) (iblk m c 1 t : Vec Ideal S2048x512 .bf16) (iblk m c 2 t : Vec Ideal S1024x512 .f32) (iblk m c 3 t : Vec Ideal S1x512 .f32) (ix2 r s)
      = valX (a0 m c) (a1 m c) (a2 m c) (a3 m c) (ix2 (row t r) (column t s)) := by
  refine (pay2_at _ _ _ _ _ _).trans (Eq.trans ?_ (valX_at _ _ _ _ _ _).symm)
  rw [pointP, blk2, blk3]

theorem outX : (dats m 0 c).arrAt 4 cfg0.N = valX (a0 m c) (a1 m c) (a2 m c) (a3 m c) := by
  refine (dats m 0 c).arrAt_eq_of_covers 4 _ (by decide +kernel) fun t hf y => ?_
  blk_simp
  rw [after0_4]
  unfold out0_4
  rw [View.canon_unit_zero zero2, View.ld_unit_zero zero2, View.ld_unit_zero zero2, View.ld_unit_zero zero2, View.ld_unit_zero zero2]
  refine (congrArg (k0_pay2 _ _ _ _) (eta2 (n0 := 1024) (n1 := 512) y)).trans ((pointX m c t _ _).trans (congrArg _ ?_))
  have e := (idx t).2.2.2.2.1
  funext a; apply Fin.ext
  match a with
  | ⟨0, _⟩ =>
    show 1024 * (t.val / 4) + (y 0).val = win0_4.index t 0 * 1024 + 1 * (y 0).val
    rw [e]; show _ = t.val / 4 * 1024 + _; omega
  | ⟨1, _⟩ =>
    show 512 * (t.val % 4) + (y 1).val = win0_4.index t 1 * 512 + 1 * (y 1).val
    rw [e]; show _ = t.val % 4 * 512 + _; omega

theorem outP : (dats m 0 c).arrAt 5 cfg0.N = valP (a2 m c) (a3 m c) := by
  refine (dats m 0 c).arrAt_eq_of_covers 5 _ (by decide +kernel) fun t hf y => ?_
  blk_simp
  rw [after0_5]
  unfold out0_5
  rw [View.canon_unit_zero zero2, View.ld_unit_zero zero2, View.ld_unit_zero zero2]
  refine (congrArg (k0_pay3 _ _) (eta2 (n0 := 1024) (n1 := 512) y)).trans ((pointP m c t _ _).trans (congrArg _ ?_))
  have e := (idx t).2.2.2.2.2
  funext a; apply Fin.ext
  match a with
  | ⟨0, _⟩ =>
    show 1024 * (t.val / 4) + (y 0).val = win0_5.index t 0 * 1024 + 1 * (y 0).val
    rw [e]; show _ = t.val / 4 * 1024 + _; omega
  | ⟨1, _⟩ =>
    show 512 * (t.val % 4) + (y 1).val = win0_5.index t 1 * 512 + 1 * (y 1).val
    rw [e]; show _ = t.val % 4 * 512 + _; omega

end Cert.OutFwd

end
-- ==== Proof.BranchFwd.lean ====
/-
  A branch's output product (`o_mla`, `o_gdn`): its call over the extended reals, and the reference's term.
-/
module

public import proofs.«01_k».proof.Proof.Prod
public import proofs.«01_k».proof.Proof.Gen.Kernel38Ideal.Frame
public import proofs.«01_k».proof.Proof.Gen.Reference38Ideal.Run

@[expose] public section

set_option maxRecDepth 16384

noncomputable section

namespace Cert.BranchFwd

open Idealize.ShloMosaic Idealize.ShloMosaic.TcCoe Idealize.SL.Sem
open Cert.Prod

section Ref

open Cert.Reference38Ideal Cert.Reference38Ideal.Gen

/-- The reference's result as a function of its two arguments. -/
def val (A : FVec Ideal S2048x1024 .bf16) (B : FVec Ideal S8x1024x256 .bf16) : FVec Ideal S2048x2048 .bf16 :=
  truncf .bf16 (Host.dotGeneral dot_S2048x1024_S1024x2048_S2048x2048_1_0_0_1_n_n none (extf .f32 A bitsLt_bf16_f32)
    (extf .f32 (shapeCast S1024x2048 (transpose S1024x8x256 [1, 0, 2] B transposes_S8x1024x256_S1024x8x256_1_0_2) shapeCasts_S1024x8x256_S1024x2048) bitsLt_bf16_f32)) bitsLt_bf16_f32

theorem val_at (A : FVec Ideal S2048x1024 .bf16) (B : FVec Ideal S8x1024x256 .bf16) (i j : Fin 2048) :
    val A B (ix2 i j) = ∑ k : Fin 1024, A (ix2 i k) * B (ix3 ⟨j.val / 256, by have := j.isLt; omega⟩ k ⟨j.val % 256, by omega⟩) := by
  unfold val
  pointwise []

end Ref

open Cert.Kernel38Ideal Cert.Kernel38Ideal.Gen

variable (m : (ℓ : Loc nD τ sig) → Buf (Elt Ideal) ℓ) (c : Dev nD)

abbrev a0 : FVec Ideal S2048x1024 .bf16 := m ((c : Thread nD τ).loc main_arg0)
abbrev a1 : FVec Ideal S8x1024x256 .bf16 := m ((c : Thread nD τ).loc main_arg1)

theorem pay1_at (a : Vec Ideal S1024x1024 .bf16) (b : Vec Ideal S4x1024x256 .bf16) (x : S1024x256.Idx) :
    k0_pay1 a (View.ld b r0_1) x = ∑ k : Fin 1024, a (ix2 (x 0) k) * b (ix3 0 k (x 1)) := by
  idx_vars x
  unfold k0_pay1
  pointwise []

theorem pay2_at (a : Vec Ideal S1024x1024 .bf16) (b : Vec Ideal S4x1024x256 .bf16) (x : S1024x256.Idx) :
    k0_pay2 a (View.ld b r0_3) x = ∑ k : Fin 1024, a (ix2 (x 0) k) * b (ix3 1 k (x 1)) := by
  idx_vars x
  unfold k0_pay2
  pointwise []

theorem pay3_at (a : Vec Ideal S1024x1024 .bf16) (b : Vec Ideal S4x1024x256 .bf16) (x : S1024x256.Idx) :
    k0_pay3 a (View.ld b r0_5) x = ∑ k : Fin 1024, a (ix2 (x 0) k) * b (ix3 2 k (x 1)) := by
  idx_vars x
  unfold k0_pay3
  pointwise []

theorem pay4_at (a : Vec Ideal S1024x1024 .bf16) (b : Vec Ideal S4x1024x256 .bf16) (x : S1024x256.Idx) :
    k0_pay4 a (View.ld b r0_7) x = ∑ k : Fin 1024, a (ix2 (x 0) k) * b (ix3 3 k (x 1)) := by
  idx_vars x
  unfold k0_pay4
  pointwise []

/-- What a grid point writes, column by column. -/
theorem out_at (a : Vec Ideal S1024x1024 .bf16) (b : Vec Ideal S4x1024x256 .bf16) (r j : Fin 1024) (v : Elt Ideal .bf16)
    (h : ∀ (d : Fin 4) (q : Fin 256), j.val = 256 * d.val + q.val → ∑ k : Fin 1024, a (ix2 r k) * b (ix3 d k q) = v) :
    out0_2 a b (ix2 r j) = v := by
  unfold out0_2
  rw [View.ld_unit_zero zero2]
  have step : ∀ (d : Fin 4) (x : S1024x256.Idx), r.val = 0 + (x 0).val → j.val = 256 * d.val + (x 1).val →
      ∑ k : Fin 1024, a (ix2 (x 0) k) * b (ix3 d k (x 1)) = v := by
    intro d x e0 e1
    refine Eq.trans (sum_mul (fun k => congrArg (fun j => a (ix2 j k)) (Fin.ext ?_)) fun k => rfl) (h d (x 1) e1)
    show (x 0).val = r.val; omega
  refine View.canon_eq_of_allAt _ _ _ (cover0_2 _ _ _ _ _) (View.allAt_cons_unit _ _ _ _ _ (fun x hx => ?_)
    (View.allAt_cons_unit _ _ _ _ _ (fun x hx => ?_) (View.allAt_cons_unit _ _ _ _ _ (fun x hx => ?_)
      (View.allAt_cons_unit _ _ _ _ _ (fun x hx => ?_) (View.allAt_nil _ _)))))
  · exact (pay4_at _ _ x).trans (step 3 x (hx 0) (hx 1))
  · exact (pay3_at _ _ x).trans (step 2 x (hx 0) (hx 1))
  · exact (pay2_at _ _ x).trans (step 1 x (hx 0) (hx 1))
  · exact (pay1_at _ _ x).trans (step 0 x (hx 0) (hx 1))

theorem idx : ∀ t : Fin cfg0.N, win0_0.index t = ![t.val / 2, 0] ∧ win0_1.index t = ![t.val % 2, 0, 0]
    ∧ win0_2.index t = ![t.val / 2, t.val % 2] := by
  decide +kernel

variable (t : Fin cfg0.N)

theorem lt : t.val < 4 := t.isLt

abbrev row (r : Fin 1024) : Fin 2048 := ⟨1024 * (t.val / 2) + r.val, by have := lt t; omega⟩
abbrev column (s : Fin 1024) : Fin 2048 := ⟨1024 * (t.val % 2) + s.val, by have := lt t; omega⟩

theorem blk0 (r : Fin 1024) (k : Fin 1024) : iblk m c 0 t (ix2 r k) = a0 m c (ix2 (row t r) k) := by
  unfold row
  blk_ext [iblk, V, (idx t).1]

theorem blk1 (d : Fin 4) (k : Fin 1024) (q : Fin 256) :
    iblk m c 1 t (ix3 d k q) = a1 m c (ix3 ⟨4 * (t.val % 2) + d.val, by have := d.isLt; omega⟩ k q) := by
  blk_ext [iblk, V, (idx t).2.1]

theorem point (r j : Fin 1024) :
    out0_2 (iblk m c 0 t : Vec Ideal S1024x1024 .bf16) (iblk m c 1 t : Vec Ideal S4x1024x256 .bf16) (ix2 r j)
      = val (a0 m c) (a1 m c) (ix2 (row t r) (column t j)) := by
  refine out_at _ _ _ _ _ fun d q h => Eq.trans ?_ (val_at _ _ _ _).symm
  refine sum_mul (fun k => blk0 m c t r k) fun k => (blk1 m c t d k q).trans (congrArg (a1 m c) ?_)
  have := q.isLt
  have := d.isLt
  funext a; apply Fin.ext
  match a with
  | ⟨0, _⟩ => show 4 * (t.val % 2) + d.val = (1024 * (t.val % 2) + j.val) / 256; omega
  | ⟨1, _⟩ => rfl
  | ⟨2, _⟩ => show q.val = (1024 * (t.val % 2) + j.val) % 256; omega

theorem out : (dats m 0 c).arrAt 2 cfg0.N = val (a0 m c) (a1 m c) := by
  refine (dats m 0 c).arrAt_eq_of_covers 2 _ (by decide +kernel) fun t hf y => ?_
  blk_simp
  rw [after0_2]
  refine (congrArg (out0_2 _ _) (eta2 (n0 := 1024) (n1 := 1024) y)).trans ((point m c t _ _).trans (congrArg _ ?_))
  have e := (idx t).2.2
  funext a; apply Fin.ext
  match a with
  | ⟨0, _⟩ =>
    show 1024 * (t.val / 2) + (y 0).val = win0_2.index t 0 * 1024 + 1 * (y 0).val
    rw [e]; show _ = t.val / 2 * 1024 + _; omega
  | ⟨1, _⟩ =>
    show 1024 * (t.val % 2) + (y 1).val = win0_2.index t 1 * 1024 + 1 * (y 1).val
    rw [e]; show _ = t.val % 2 * 1024 + _; omega

end Cert.BranchFwd

end
-- ==== Proof.NormFwd.lean ====
/-
  The modulated norm before a layer's two halves (`adanorm`): its call over the extended reals, and the reference's term.
-/
module

public import proofs.«01_k».proof.Proof.Prod
public import proofs.«01_k».proof.Proof.RmsMath
public import proofs.«01_k».proof.Proof.Gen.Kernel39Ideal.Frame
public import proofs.«01_k».proof.Proof.Gen.Reference39Ideal.Run

@[expose] public section

set_option maxRecDepth 16384

noncomputable section

namespace Cert.NormFwd

open Idealize.ShloMosaic Idealize.ShloMosaic.TcCoe Idealize.SL.Sem
open Cert.Prod Cert.Rms

section Ref

open Cert.Reference39Ideal Cert.Reference39Ideal.Gen

/-- The mean of the squares, row by row. -/
def ssR (X : FVec Ideal S2048x2048 .f32) : FVec Ideal S2048x1 .f32 :=
  addf (Host.divf (broadcastInDim S2048x1 ![0] bcast_S2048_S2048x1_0 (Host.reduceAdd (mulf X X) (constant S_ .f32 0x00000000#32) reducesTo_S2048x2048_S2048_d1 h_S_))
    (broadcastInDim S2048x1 ![] bcast_S_S2048x1 (constant S_ .f32 0x45000000#32))) (broadcastInDim S2048x1 ![] bcast_S_S2048x1 (constant S_ .f32 0x358637BD#32))

/-- The reference's result as a function of its four arguments. -/
def val (X : FVec Ideal S2048x2048 .f32) (B S H : FVec Ideal S1x2048 .f32) : FVec Ideal S2048x2048 .bf16 :=
  truncf .bf16 (addf (mulf (mulf (mulf X (broadcastInDim S2048x2048 ![0, 1] bcast_S2048x1_S2048x2048_0_1 (Host.rsqrt (ssR X))))
    (broadcastInDim S2048x2048 ![0, 1] bcast_S1x2048_S2048x2048_0_1 B)) (broadcastInDim S2048x2048 ![0, 1] bcast_S1x2048_S2048x2048_0_1
      (addf (broadcastInDim S1x2048 ![] bcast_S_S1x2048 (constant S_ .f32 0x3F800000#32)) S))) (broadcastInDim S2048x2048 ![0, 1] bcast_S1x2048_S2048x2048_0_1 H)) bitsLt_bf16_f32

/-- One entry of the modulated norm. -/
def entry (x : Fin 2048 → EReal) (j : Fin 2048) (w s h : EReal) : EReal :=
  x j * rr x * w * (Ideal.ofBits .f32 0x3F800000#32 + s) + h

theorem ssR_at (X : FVec Ideal S2048x2048 .f32) (i : Fin 2048) (u : Fin 1) : ssR X (ix2 i u) = ms (fun k => X (ix2 i k)) := by
  unfold ssR ms
  pointwise []

theorem val_at (X : FVec Ideal S2048x2048 .f32) (B S H : FVec Ideal S1x2048 .f32) (i j : Fin 2048) :
    val X B S H (ix2 i j) = entry (fun k => X (ix2 i k)) j (B (ix2 0 j)) (S (ix2 0 j)) (H (ix2 0 j)) := by
  unfold val entry rr
  pointwise [ssR_at]

end Ref

open Cert.Kernel39Ideal Cert.Kernel39Ideal.Gen

theorem pay_at (x : Vec Ideal S256x2048 .f32) (w s h : Vec Ideal S1x2048 .f32) (r : Fin 256) (j : Fin 2048) :
    k0_pay1 x w s h (ix2 r j) = entry (fun k => x (ix2 r k)) j (w (ix2 0 j)) (s (ix2 0 j)) (h (ix2 0 j)) := by
  unfold k0_pay1 entry rr ms
  pointwise []

variable (m : (ℓ : Loc nD τ sig) → Buf (Elt Ideal) ℓ) (c : Dev nD)

abbrev a0 : FVec Ideal S2048x2048 .f32 := m ((c : Thread nD τ).loc main_arg0)
abbrev a1 : FVec Ideal S1x2048 .f32 := m ((c : Thread nD τ).loc main_arg1)
abbrev a2 : FVec Ideal S1x2048 .f32 := m ((c : Thread nD τ).loc main_arg2)
abbrev a3 : FVec Ideal S1x2048 .f32 := m ((c : Thread nD τ).loc main_arg3)

theorem idx : ∀ t : Fin cfg0.N, win0_0.index t = ![t.val, 0] ∧ win0_1.index t = ![0, 0] ∧ win0_2.index t = ![0, 0]
    ∧ win0_3.index t = ![0, 0] ∧ win0_4.index t = ![t.val, 0] := by
  decide +kernel

variable (t : Fin cfg0.N)

theorem lt : t.val < 8 := t.isLt

abbrev row (r : Fin 256) : Fin 2048 := ⟨256 * t.val + r.val, by have := lt t; omega⟩

theorem blk0 (r : Fin 256) (s : Fin 2048) : iblk m c 0 t (ix2 r s) = a0 m c (ix2 (row t r) s) := by
  unfold row
  blk_ext [iblk, V, (idx t).1]

theorem blk1 (u : Fin 1) (s : Fin 2048) : iblk m c 1 t (ix2 u s) = a1 m c (ix2 0 s) := by
  rw [show u = 0 from Subsingleton.elim _ _]
  blk_ext [iblk, V, (idx t).2.1]

theorem blk2 (u : Fin 1) (s : Fin 2048) : iblk m c 2 t (ix2 u s) = a2 m c (ix2 0 s) := by
  rw [show u = 0 from Subsingleton.elim _ _]
  blk_ext [iblk, V, (idx t).2.2.1]

theorem blk3 (u : Fin 1) (s : Fin 2048) : iblk m c 3 t (ix2 u s) = a3 m c (ix2 0 s) := by
  rw [show u = 0 from Subsingleton.elim _ _]
  blk_ext [iblk, V, (idx t).2.2.2.1]

theorem point (r : Fin 256) (j : Fin 2048) :
    k0_pay1 (iblk m c 0 t : Vec Ideal S256x2048 .f32) (iblk m c 1 t : Vec Ideal S1x2048 .f32) (iblk m c 2 t : Vec Ideal S1x2048 .f32) (iblk m c 3 t : Vec Ideal S1x2048 .f32) (ix2 r j)
      = val (a0 m c) (a1 m c) (a2 m c) (a3 m c) (ix2 (row t r) j) := by
  refine (pay_at _ _ _ _ _ _).trans (Eq.trans ?_ (val_at _ _ _ _ _ _).symm)
  rw [blk1, blk2, blk3, show (fun k => (iblk m c 0 t : Vec Ideal S256x2048 .f32) (ix2 r k)) = fun k => a0 m c (ix2 (row t r) k) from funext fun k => blk0 m c t r k]

theorem out : (dats m 0 c).arrAt 4 cfg0.N = val (a0 m c) (a1 m c) (a2 m c) (a3 m c) := by
  refine (dats m 0 c).arrAt_eq_of_covers 4 _ (by decide +kernel) fun t hf y => ?_
  blk_simp
  rw [after0_4]
  unfold out0_4
  rw [View.canon_unit_zero zero2, View.ld_unit_zero zero2, View.ld_unit_zero zero2, View.ld_unit_zero zero2, View.ld_unit_zero zero2]
  refine (congrArg (k0_pay1 _ _ _ _) (eta2 (n0 := 256) (n1 := 2048) y)).trans ((point m c t _ _).trans (congrArg _ ?_))
  have e := (idx t).2.2.2.2
  funext a; apply Fin.ext
  match a with
  | ⟨0, _⟩ =>
    show 256 * t.val + (y 0).val = win0_4.index t 0 * 256 + 1 * (y 0).val
    rw [e]; show _ = t.val * 256 + _; omega
  | ⟨1, _⟩ =>
    show (y 1).val = win0_4.index t 1 * 2048 + 1 * (y 1).val
    rw [e]; show _ = 0 * 2048 + _; omega

end Cert.NormFwd

end
-- ==== Proof.Resid.lean ====
/-
  The gradients of the gated branch that is added to the residual (`mmres_gate`): its call over the extended reals, and the reference's term.
-/
module

public import proofs.«01_k».proof.Proof.Prod
public import proofs.«01_k».proof.Proof.RmsMath
public import proofs.«01_k».proof.Proof.Gen.Kernel40Ideal.Frame
public import proofs.«01_k».proof.Proof.Gen.Reference40Ideal.Run

@[expose] public section

set_option maxRecDepth 16384

noncomputable section

namespace Cert.Resid

open Idealize.ShloMosaic Idealize.ShloMosaic.TcCoe Idealize.SL.Sem
open Cert.Prod Cert.Rms

section Ref

open Cert.Reference40Ideal Cert.Reference40Ideal.Gen

/-- The reference's two results as functions of its three arguments. -/
def valP (T : FVec Ideal S1x2048 .f32) (G : FVec Ideal S2048x2048 .f32) : FVec Ideal S2048x2048 .bf16 :=
  truncf .bf16 (mulf (broadcastInDim S2048x2048 ![0, 1] bcast_S1x2048_S2048x2048_0_1 T) G) bitsLt_bf16_f32

def valT (P : FVec Ideal S2048x2048 .bf16) (G : FVec Ideal S2048x2048 .f32) : FVec Ideal S1x2048 .f32 :=
  shapeCast S1x2048 (Host.reduceAdd (mulf G (extf .f32 P bitsLt_bf16_f32)) (constant S_ .f32 0x00000000#32) reducesTo_S2048x2048_S2048_d0 h_S_) shapeCasts_S2048_S1x2048

theorem valP_at (T : FVec Ideal S1x2048 .f32) (G : FVec Ideal S2048x2048 .f32) (i j : Fin 2048) :
    (valP T G (ix2 i j) : EReal) = (T (ix2 0 j) : EReal) * G (ix2 i j) := by
  unfold valP
  pointwise []

theorem valT_at (P : FVec Ideal S2048x2048 .bf16) (G : FVec Ideal S2048x2048 .f32) (u : Fin 1) (j : Fin 2048) :
    valT P G (ix2 u j) = ∑ i : Fin 2048, G (ix2 i j) * P (ix2 i j) := by
  unfold valT
  pointwise []

end Ref

open Cert.Kernel40Ideal Cert.Kernel40Ideal.Gen

theorem pay1_at (g : Vec Ideal S256x2048 .f32) (w : Vec Ideal S1x2048 .f32) (r : Fin 256) (j : Fin 2048) :
    (k0_pay1 g w (ix2 r j) : EReal) = (w (ix2 0 j) : EReal) * g (ix2 r j) := by
  rw [mul_comm]
  unfold k0_pay1
  pointwise []

theorem pay2_at (i : S1x2048.Idx) : (k0_pay2 (F := Ideal) i : EReal) = 0 := by
  show Ideal.ofBits .f32 0x00000000#32 = 0
  simp [Ideal.ofBits, Ideal.ieee]

theorem pay3_at (g : Vec Ideal S256x2048 .f32) (o : Vec Ideal S1x2048 .f32) (p : Vec Ideal S256x2048 .bf16) (u : Fin 1) (j : Fin 2048) :
    k0_pay3 g o p (ix2 u j) = o (ix2 u j) + ∑ r : Fin 256, g (ix2 r j) * p (ix2 r j) := by
  unfold k0_pay3
  pointwise []

section Cases

variable {F : FTy → Type} [FloatOps F]
variable (m : (ℓ : Loc nD τ sig) → Buf (Elt F) ℓ) (c : Dev nD) (t : Fin cfg0.N)

/-- What a grid point leaves, from its blocks and the sum before it. -/
def two (w : Vec F S1x2048 .f32) (p : Vec F S256x2048 .bf16) (g : Vec F S256x2048 .f32) (o : Vec F S1x2048 .f32) :
    Vec F S256x2048 .bf16 × Vec F S1x2048 .f32 :=
  (k0_pay1 g w, k0_pay3 g o p)

/-- What the grid point before `t` left. -/
abbrev bef := outsAt0 m c (t.val - 1) (Nat.lt_of_le_of_lt (Nat.sub_le _ _) t.isLt)

theorem caseA (h0 : t.val % 8 = 0) : outsAt0 m c t.val t.isLt = two (iblk m c 0 t) (iblk m c 1 t) (iblk m c 2 t) k0_pay2 := by
  rw [outsAt0_A m c t h0]
  unfold two
  refine Prod.ext ?_ ?_ <;> dsimp only
  · unfold out0_A_3
    refine (View.read_writes_eq_canon _ _ _ fun y => cover0_A_3 ..).trans ?_
    unfold kernelRun0_A; dsimp only; sl_unfold_words
    refine (View.canon_unit_zero (S := S256x2048) zero2 _ _).trans ?_
    simp only [View.readAt_eq_ld, Memref.IsWhole.read_unread, read_unread_whole, View.ld_unit_zero (S := S256x2048) zero2, View.ld_unit_zero (S := S1x2048) zero2]
    try rfl
  · unfold out0_A_4
    refine (View.read_writes_eq_canon _ _ _ fun y => cover0_A_4 ..).trans ?_
    unfold kernelRun0_A; dsimp only; sl_unfold_words
    refine (View.canon_cons_unit_zero (S := S1x2048) zero2 _ _ _).trans ?_
    simp only [View.readAt_eq_ld, Memref.IsWhole.read_unread, read_unread_whole, View.ld_unit_zero (S := S256x2048) zero2, View.ld_unit_zero (S := S1x2048) zero2, View.readCov_unit_zero (S := S1x2048) _ zero2]
    try rfl

theorem caseB (h0 : ¬ t.val % 8 = 0) : outsAt0 m c t.val t.isLt = two (iblk m c 0 t) (iblk m c 1 t) (iblk m c 2 t) (bef m c t).2 := by
  rw [outsAt0_B m c t h0]
  unfold two
  refine Prod.ext ?_ ?_ <;> dsimp only
  · unfold out0_B_3
    refine (View.read_writes_eq_canon _ _ _ fun y => cover0_B_3 ..).trans ?_
    unfold kernelRun0_B; dsimp only; sl_unfold_words
    refine (View.canon_unit_zero (S := S256x2048) zero2 _ _).trans ?_
    simp only [View.readAt_eq_ld, Memref.IsWhole.read_unread, read_unread_whole, View.ld_unit_zero (S := S256x2048) zero2, View.ld_unit_zero (S := S1x2048) zero2]
    try rfl
  · unfold out0_B_4
    refine (View.read_writes_eq_canon _ _ _ fun y => cover0_B_4 ..).trans ?_
    unfold kernelRun0_B; dsimp only; sl_unfold_words
    refine (View.canon_unit_zero (S := S1x2048) zero2 _ _).trans ?_
    simp only [View.readAt_eq_ld, Memref.IsWhole.read_unread, read_unread_whole, View.ld_unit_zero (S := S256x2048) zero2, View.ld_unit_zero (S := S1x2048) zero2]
    try rfl

end Cases

variable (m : (ℓ : Loc nD τ sig) → Buf (Elt Ideal) ℓ) (c : Dev nD)

abbrev a0 : FVec Ideal S1x2048 .f32 := m ((c : Thread nD τ).loc main_arg0)
abbrev a1 : FVec Ideal S2048x2048 .bf16 := m ((c : Thread nD τ).loc main_arg1)
abbrev a2 : FVec Ideal S2048x2048 .f32 := m ((c : Thread nD τ).loc main_arg2)

theorem idx : ∀ t : Fin cfg0.N, win0_0.index t = ![0, 0] ∧ win0_1.index t = ![t.val, 0] ∧ win0_2.index t = ![t.val, 0]
    ∧ win0_3.index t = ![t.val, 0] ∧ win0_4.index t = ![0, 0] := by
  decide +kernel

variable (t : Fin cfg0.N)

theorem lt : t.val < 8 := t.isLt

/-- The grid point as a block of rows. -/
abbrev blk : Fin 8 := ⟨t.val, lt t⟩

theorem blk0 (u : Fin 1) (s : Fin 2048) : iblk m c 0 t (ix2 u s) = a0 m c (ix2 0 s) := by
  rw [show u = 0 from Subsingleton.elim _ _]
  blk_ext [iblk, V, (idx t).1]

theorem blk1 (r : Fin 256) (s : Fin 2048) : iblk m c 1 t (ix2 r s) = a1 m c (ix2 (at8 (blk t) r) s) := by
  unfold at8 blk
  blk_ext [iblk, V, (idx t).2.1]

theorem blk2 (r : Fin 256) (s : Fin 2048) : iblk m c 2 t (ix2 r s) = a2 m c (ix2 (at8 (blk t) r) s) := by
  unfold at8 blk
  blk_ext [iblk, V, (idx t).2.2.1]

theorem pointP (r : Fin 256) (s : Fin 2048) :
    k0_pay1 (iblk m c 2 t : Vec Ideal S256x2048 .f32) (iblk m c 0 t : Vec Ideal S1x2048 .f32) (ix2 r s)
      = valP (a0 m c) (a2 m c) (ix2 (at8 (blk t) r) s) := by
  refine (pay1_at _ _ _ _).trans (Eq.trans ?_ (valP_at _ _ _ _).symm)
  rw [blk0, blk2]

/-- The gate's gradient summed over a block. -/
def part (s : Fin 2048) (b : Fin 8) : EReal := ∑ r : Fin 256, a2 m c (ix2 (at8 b r) s) * a1 m c (ix2 (at8 b r) s)

theorem step (o : Vec Ideal S1x2048 .f32) (u : Fin 1) (s : Fin 2048) :
    k0_pay3 (iblk m c 2 t : Vec Ideal S256x2048 .f32) o (iblk m c 1 t : Vec Ideal S256x2048 .bf16) (ix2 u s) = o (ix2 u s) + part m c s (blk t) :=
  (pay3_at _ _ _ _ _).trans (congrArg (_ + ·) (sum_mul (fun r => blk2 m c t r s) fun r => blk1 m c t r s))

theorem acc (u : Fin 1) (s : Fin 2048) (n : ℕ) (h : n < 8) : (outsAt0 m c n h).2 (ix2 u s) = upto (fun b => part m c s b) n := by
  refine acc_eq _ (fun n h => (outsAt0 m c n h).2 (ix2 u s)) ?_ (fun n h => ?_) n h
  · refine (congrFun (congrArg (fun z => z.2) (caseA m c ⟨0, (by norm_num : 0 < 8)⟩ rfl)) _).trans ((step m c ⟨0, (by norm_num : 0 < 8)⟩ _ u s).trans ?_)
    rw [pay2_at, zero_add]
    rfl
  · exact (congrFun (congrArg (fun z => z.2) (caseB m c ⟨n + 1, h⟩ (by show ¬ (n + 1) % 8 = 0; omega))) _).trans (step m c ⟨n + 1, h⟩ _ u s)

theorem last (u : Fin 1) (s : Fin 2048) (n : ℕ) (hn : n = 7) (p : n < 8) :
    (outsAt0 m c n p).2 (ix2 u s) = valT (a1 m c) (a2 m c) (ix2 u s) := by
  subst hn
  rw [acc, upto_last, valT_at, sum_rows]
  rfl

theorem outP : (dats m 0 c).arrAt 3 cfg0.N = valP (a0 m c) (a2 m c) := by
  refine (dats m 0 c).arrAt_eq_of_covers 3 _ (by decide +kernel) fun t hf y => ?_
  blk_simp
  rw [after0_3]
  have e1 : (outsAt0 m c t.val t.isLt).1 = k0_pay1 (iblk m c 2 t) (iblk m c 0 t) := by
    by_cases h0 : t.val % 8 = 0
    · rw [caseA m c t h0]; rfl
    · rw [caseB m c t h0]; rfl
  rw [e1]
  refine (congrArg (k0_pay1 _ _) (eta2 (n0 := 256) (n1 := 2048) y)).trans ((pointP m c t _ _).trans (congrArg _ ?_))
  have e := (idx t).2.2.2.1
  funext a; apply Fin.ext
  match a with
  | ⟨0, _⟩ =>
    show 256 * t.val + (y 0).val = win0_3.index t 0 * 256 + 1 * (y 0).val
    rw [e]; show _ = t.val * 256 + _; omega
  | ⟨1, _⟩ =>
    show (y 1).val = win0_3.index t 1 * 2048 + 1 * (y 1).val
    rw [e]; show _ = 0 * 2048 + _; omega

theorem outT : (dats m 0 c).arrAt 4 cfg0.N = valT (a1 m c) (a2 m c) := by
  refine (dats m 0 c).arrAt_eq_of_covers 4 _ (by decide +kernel) fun t hf y => ?_
  have ht : t.val = 7 := by have := (flush0_4 t).mp hf; have := lt t; omega
  blk_simp
  rw [after0_4]
  refine (congrArg (outsAt0 m c t.val t.isLt).2 (eta2 (n0 := 1) (n1 := 2048) y)).trans ((last m c _ _ _ ht _).trans (congrArg _ ?_))
  have e := (idx t).2.2.2.2
  funext a; apply Fin.ext
  match a with
  | ⟨0, _⟩ =>
    show (y 0).val = win0_4.index t 0 * 1 + 1 * (y 0).val
    rw [e]; show _ = 0 * 1 + _; omega
  | ⟨1, _⟩ =>
    show (y 1).val = win0_4.index t 1 * 2048 + 1 * (y 1).val
    rw [e]; show _ = 0 * 2048 + _; omega

end Cert.Resid

end
-- ==== Proof.MixFwd.lean ====
/-
  The two branches put together by their gates (`gatemix`): its call over the extended reals, and the reference's term.
-/
module

public import proofs.«01_k».proof.Proof.Prod
public import proofs.«01_k».proof.Proof.Swiglu
public import proofs.«01_k».proof.Proof.Gen.Kernel41Ideal.Frame
public import proofs.«01_k».proof.Proof.Gen.Reference41Ideal.Run

@[expose] public section

set_option maxRecDepth 16384

noncomputable section

namespace Cert.MixFwd

open Idealize.ShloMosaic Idealize.ShloMosaic.TcCoe Idealize.SL.Sem
open Cert.Prod
open Cert.Swiglu (sg one_bits)

section Ref

open Cert.Reference41Ideal Cert.Reference41Ideal.Gen

/-- The sigmoid of a whole array, as the reference prints it. -/
def sigm (A : FVec Ideal S2048x4096 .bf16) : FVec Ideal S2048x4096 .f32 :=
  Host.divf (broadcastInDim S2048x4096 ![] bcast_S_S2048x4096 (constant S_ .f32 0x3F800000#32))
    (addf (broadcastInDim S2048x4096 ![] bcast_S_S2048x4096 (constant S_ .f32 0x3F800000#32)) (Host.exp (Host.negf (extf .f32 A bitsLt_bf16_f32))))

/-- The reference's result as a function of its three arguments. -/
def val (A : FVec Ideal S2048x4096 .bf16) (B D : FVec Ideal S2048x2048 .bf16) : FVec Ideal S2048x2048 .bf16 :=
  truncf .bf16 (addf (mulf (extractStridedSlice S2048x2048 ![0, 0] (sigm A) slices_S2048x4096_S2048x2048_0_0) (extf .f32 B bitsLt_bf16_f32)) (mulf (extractStridedSlice S2048x2048 ![0, 2048] (sigm A) slices_S2048x4096_S2048x2048_0_2048) (extf .f32 D bitsLt_bf16_f32))) bitsLt_bf16_f32

theorem sigm_at (A : FVec Ideal S2048x4096 .bf16) (y : S2048x4096.Idx) : (sigm A y : EReal) = sg (A y) := by
  show Ideal.div (Ideal.ofBits .f32 0x3F800000#32) (Ideal.ofBits .f32 0x3F800000#32 + Ideal.exp (-(A y : EReal))) = _
  rw [one_bits]; rfl

/-- A column of the second half. -/
abbrev far (j : Fin 2048) : Fin 4096 := ⟨2048 + j.val, by omega⟩

/-- The same column of the first half. -/
abbrev near (j : Fin 2048) : Fin 4096 := ⟨j.val, by omega⟩

theorem val_at (A : FVec Ideal S2048x4096 .bf16) (B D : FVec Ideal S2048x2048 .bf16) (i j : Fin 2048) :
    (val A B D (ix2 i j) : EReal) = sg (A (ix2 i (near j))) * B (ix2 i j) + sg (A (ix2 i (far j))) * D (ix2 i j) := by
  rw [← sigm_at, ← sigm_at]
  unfold val
  generalize sigm A = s
  pointwise []

end Ref

open Cert.Kernel41Ideal Cert.Kernel41Ideal.Gen

theorem sg_bits (x : EReal) : Ideal.div (Ideal.ofBits .f32 0x3F800000#32) (Ideal.ofBits .f32 0x3F800000#32 + Ideal.exp (Ideal.ofBits .f32 0x00000000#32 - (x : EReal))) = sg x := by
  have z : Ideal.ofBits .f32 0x00000000#32 = 0 := by simp [Ideal.ofBits, Ideal.ieee]
  rw [one_bits, z, zero_sub]; rfl

theorem pay_at (g a h b : Vec Ideal S256x2048 .bf16) (y : S256x2048.Idx) :
    (k0_pay1 g a h b y : EReal) = sg (g y) * a y + sg (h y) * b y := by
  rw [← sg_bits, ← sg_bits]; rfl

variable (m : (ℓ : Loc nD τ sig) → Buf (Elt Ideal) ℓ) (c : Dev nD)

abbrev a0 : FVec Ideal S2048x4096 .bf16 := m ((c : Thread nD τ).loc main_arg0)
abbrev a1 : FVec Ideal S2048x2048 .bf16 := m ((c : Thread nD τ).loc main_arg1)
abbrev a2 : FVec Ideal S2048x2048 .bf16 := m ((c : Thread nD τ).loc main_arg2)

theorem idx : ∀ t : Fin cfg0.N, win0_0.index t = ![t.val, 0] ∧ win0_1.index t = ![t.val, 1] ∧ win0_2.index t = ![t.val, 0]
    ∧ win0_3.index t = ![t.val, 0] ∧ win0_4.index t = ![t.val, 0] := by
  decide +kernel

variable (t : Fin cfg0.N)

theorem lt : t.val < 8 := t.isLt

abbrev row (r : Fin 256) : Fin 2048 := ⟨256 * t.val + r.val, by have := lt t; omega⟩

theorem blk0 (r : Fin 256) (s : Fin 2048) : iblk m c 0 t (ix2 r s) = a0 m c (ix2 (row t r) (near s)) := by
  unfold row near
  blk_ext [iblk, V, (idx t).1]

theorem blk1 (r : Fin 256) (s : Fin 2048) : iblk m c 1 t (ix2 r s) = a0 m c (ix2 (row t r) (far s)) := by
  unfold row far
  blk_ext [iblk, V, (idx t).2.1]

theorem blk2 (r : Fin 256) (s : Fin 2048) : iblk m c 2 t (ix2 r s) = a1 m c (ix2 (row t r) s) := by
  unfold row
  blk_ext [iblk, V, (idx t).2.2.1]

theorem blk3 (r : Fin 256) (s : Fin 2048) : iblk m c 3 t (ix2 r s) = a2 m c (ix2 (row t r) s) := by
  unfold row
  blk_ext [iblk, V, (idx t).2.2.2.1]

theorem point (r : Fin 256) (j : Fin 2048) :
    k0_pay1 (iblk m c 0 t : Vec Ideal S256x2048 .bf16) (iblk m c 2 t : Vec Ideal S256x2048 .bf16) (iblk m c 1 t : Vec Ideal S256x2048 .bf16) (iblk m c 3 t : Vec Ideal S256x2048 .bf16) (ix2 r j)
      = val (a0 m c) (a1 m c) (a2 m c) (ix2 (row t r) j) := by
  refine (pay_at _ _ _ _ _).trans (Eq.trans ?_ (val_at _ _ _ _ _).symm)
  rw [blk0, blk1, blk2, blk3]

theorem out : (dats m 0 c).arrAt 4 cfg0.N = val (a0 m c) (a1 m c) (a2 m c) := by
  refine (dats m 0 c).arrAt_eq_of_covers 4 _ (by decide +kernel) fun t hf y => ?_
  blk_simp
  rw [after0_4]
  unfold out0_4
  rw [View.canon_unit_zero zero2, View.ld_unit_zero zero2, View.ld_unit_zero zero2, View.ld_unit_zero zero2, View.ld_unit_zero zero2]
  refine (congrArg (k0_pay1 _ _ _ _) (eta2 (n0 := 256) (n1 := 2048) y)).trans ((point m c t _ _).trans (congrArg _ ?_))
  have e := (idx t).2.2.2.2
  funext a; apply Fin.ext
  match a with
  | ⟨0, _⟩ =>
    show 256 * t.val + (y 0).val = win0_4.index t 0 * 256 + 1 * (y 0).val
    rw [e]; show _ = t.val * 256 + _; omega
  | ⟨1, _⟩ =>
    show (y 1).val = win0_4.index t 1 * 2048 + 1 * (y 1).val
    rw [e]; show _ = 0 * 2048 + _; omega

end Cert.MixFwd

end
-- ==== Proof.MixBwd.lean ====
/-
  The gradients of the gates and of the two branches (`gatemix_bwd`): its call over the extended reals, and the reference's term.
-/
module

public import proofs.«01_k».proof.Proof.Prod
public import proofs.«01_k».proof.Proof.Swiglu
public import proofs.«01_k».proof.Proof.Gen.Kernel42Ideal.Frame
public import proofs.«01_k».proof.Proof.Gen.Reference42Ideal.Run

@[expose] public section

set_option maxRecDepth 16384

noncomputable section

namespace Cert.MixBwd

open Idealize.ShloMosaic Idealize.ShloMosaic.TcCoe Idealize.SL.Sem
open Cert.Prod
open Cert.Swiglu (sg one_bits)

section Ref

open Cert.Reference42Ideal Cert.Reference42Ideal.Gen

/-- The sigmoid of a whole array, as the reference prints it. -/
def sigm (A : FVec Ideal S2048x4096 .bf16) : FVec Ideal S2048x4096 .f32 :=
  Host.divf (broadcastInDim S2048x4096 ![] bcast_S_S2048x4096 (constant S_ .f32 0x3F800000#32))
    (addf (broadcastInDim S2048x4096 ![] bcast_S_S2048x4096 (constant S_ .f32 0x3F800000#32)) (Host.exp (Host.negf (extf .f32 A bitsLt_bf16_f32))))

/-- The reference's three results as functions of its four arguments. -/
def valG (A : FVec Ideal S2048x4096 .bf16) (B C D : FVec Ideal S2048x2048 .bf16) : FVec Ideal S2048x4096 .bf16 :=
  truncf .bf16 (mulf (concatenate S2048x4096 1 [⟨S2048x2048, mulf (extf .f32 D bitsLt_bf16_f32) (extf .f32 B bitsLt_bf16_f32)⟩, ⟨S2048x2048, mulf (extf .f32 D bitsLt_bf16_f32) (extf .f32 C bitsLt_bf16_f32)⟩] concatenates_S2048x2048_S2048x2048_S2048x4096_d1)
    (mulf (sigm A) (subf (broadcastInDim S2048x4096 ![] bcast_S_S2048x4096 (constant S_ .f32 0x3F800000#32)) (sigm A)))) bitsLt_bf16_f32

def valA (A : FVec Ideal S2048x4096 .bf16) (D : FVec Ideal S2048x2048 .bf16) : FVec Ideal S2048x2048 .bf16 :=
  truncf .bf16 (mulf (extractStridedSlice S2048x2048 ![0, 0] (sigm A) slices_S2048x4096_S2048x2048_0_0) (extf .f32 D bitsLt_bf16_f32)) bitsLt_bf16_f32

def valB (A : FVec Ideal S2048x4096 .bf16) (D : FVec Ideal S2048x2048 .bf16) : FVec Ideal S2048x2048 .bf16 :=
  truncf .bf16 (mulf (extractStridedSlice S2048x2048 ![0, 2048] (sigm A) slices_S2048x4096_S2048x2048_0_2048) (extf .f32 D bitsLt_bf16_f32)) bitsLt_bf16_f32

theorem sigm_at (A : FVec Ideal S2048x4096 .bf16) (y : S2048x4096.Idx) : (sigm A y : EReal) = sg (A y) := by
  show Ideal.div (Ideal.ofBits .f32 0x3F800000#32) (Ideal.ofBits .f32 0x3F800000#32 + Ideal.exp (-(A y : EReal))) = _
  rw [one_bits]; rfl

/-- A column of the second half. -/
abbrev far (j : Fin 2048) : Fin 4096 := ⟨2048 + j.val, by omega⟩

/-- The same column of the first half. -/
abbrev near (j : Fin 2048) : Fin 4096 := ⟨j.val, by omega⟩

theorem valA_at (A : FVec Ideal S2048x4096 .bf16) (D : FVec Ideal S2048x2048 .bf16) (i j : Fin 2048) :
    (valA A D (ix2 i j) : EReal) = sg (A (ix2 i (near j))) * D (ix2 i j) := by
  rw [← sigm_at]
  unfold valA
  generalize sigm A = s
  pointwise []

theorem valB_at (A : FVec Ideal S2048x4096 .bf16) (D : FVec Ideal S2048x2048 .bf16) (i j : Fin 2048) :
    (valB A D (ix2 i j) : EReal) = sg (A (ix2 i (far j))) * D (ix2 i j) := by
  rw [← sigm_at]
  unfold valB
  generalize sigm A = s
  pointwise []

theorem valG_lt (A : FVec Ideal S2048x4096 .bf16) (B C D : FVec Ideal S2048x2048 .bf16) (i : Fin 2048) (j : Fin 4096) (h : j.val < 2048) :
    (valG A B C D (ix2 i j) : EReal) = (D (ix2 i ⟨j.val, h⟩) : EReal) * B (ix2 i ⟨j.val, h⟩) * (sg (A (ix2 i j)) * (1 - sg (A (ix2 i j)))) := by
  rw [← sigm_at, ← one_bits]
  unfold valG
  generalize sigm A = s
  pointwise []
  rw [dif_pos h]

theorem valG_ge (A : FVec Ideal S2048x4096 .bf16) (B C D : FVec Ideal S2048x2048 .bf16) (i : Fin 2048) (j : Fin 4096) (h : ¬ j.val < 2048) :
    (valG A B C D (ix2 i j) : EReal) = (D (ix2 i ⟨j.val - 2048, by omega⟩) : EReal) * C (ix2 i ⟨j.val - 2048, by omega⟩) * (sg (A (ix2 i j)) * (1 - sg (A (ix2 i j)))) := by
  rw [← sigm_at, ← one_bits]
  unfold valG
  generalize sigm A = s
  pointwise []
  rw [dif_neg h]

end Ref

open Cert.Kernel42Ideal Cert.Kernel42Ideal.Gen

theorem sg_bits (x : EReal) : Ideal.div (Ideal.ofBits .f32 0x3F800000#32) (Ideal.ofBits .f32 0x3F800000#32 + Ideal.exp (Ideal.ofBits .f32 0x00000000#32 - (x : EReal))) = sg x := by
  have z : Ideal.ofBits .f32 0x00000000#32 = 0 := by simp [Ideal.ofBits, Ideal.ieee]
  rw [one_bits, z, zero_sub]; rfl

theorem pay5_at (d g : Vec Ideal S256x2048 .bf16) (y : S256x2048.Idx) : (k0_pay5 d g y : EReal) = sg (g y) * d y := by
  rw [mul_comm, ← sg_bits]; rfl

theorem pay6_at (d g : Vec Ideal S256x2048 .bf16) (y : S256x2048.Idx) : (k0_pay6 d g y : EReal) = sg (g y) * d y := by
  rw [mul_comm, ← sg_bits]; rfl

theorem pay7_at (d g b : Vec Ideal S256x2048 .bf16) (y : S256x2048.Idx) :
    (k0_pay7 d g b y : EReal) = (d y : EReal) * b y * (sg (g y) * (1 - sg (g y))) := by
  rw [← mul_assoc, ← sg_bits, ← one_bits]; rfl

theorem pay1_at (d g b : Vec Ideal S256x2048 .bf16) (y : S256x2048.Idx) :
    (k0_pay1 (k0_pay2 d) (k0_pay4 g) b y : EReal) = (d y : EReal) * b y * (sg (g y) * (1 - sg (g y))) := by
  rw [← mul_assoc, ← sg_bits, ← one_bits]; rfl

theorem ld_near (x : Vec Ideal S256x4096 .bf16) (r : Fin 256) (s : Fin 2048) : View.ld x r0_1 (ix2 r s) = x (ix2 r (near s)) := by
  refine congrArg x (funext fun a => Fin.ext ?_)
  match a with
  | ⟨0, _⟩ => show 0 + 1 * r.val = r.val; omega
  | ⟨1, _⟩ => show 0 + 1 * s.val = s.val; omega

theorem ld_far (x : Vec Ideal S256x4096 .bf16) (r : Fin 256) (s : Fin 2048) : View.ld x r0_2 (ix2 r s) = x (ix2 r (far s)) := by
  refine congrArg x (funext fun a => Fin.ext ?_)
  match a with
  | ⟨0, _⟩ => show 0 + 1 * r.val = r.val; omega
  | ⟨1, _⟩ => show 2048 + 1 * s.val = 2048 + s.val; omega

variable (m : (ℓ : Loc nD τ sig) → Buf (Elt Ideal) ℓ) (c : Dev nD)

abbrev a0 : FVec Ideal S2048x4096 .bf16 := m ((c : Thread nD τ).loc main_arg0)
abbrev a1 : FVec Ideal S2048x2048 .bf16 := m ((c : Thread nD τ).loc main_arg1)
abbrev a2 : FVec Ideal S2048x2048 .bf16 := m ((c : Thread nD τ).loc main_arg2)
abbrev a3 : FVec Ideal S2048x2048 .bf16 := m ((c : Thread nD τ).loc main_arg3)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] := by
  decide +kernel

variable (t : Fin cfg0.N)

theorem lt : t.val < 8 := t.isLt

abbrev row (r : Fin 256) : Fin 2048 := ⟨256 * t.val + r.val, by have := lt t; omega⟩

theorem blk0 (r : Fin 256) (s : Fin 4096) : iblk m c 0 t (ix2 r s) = a0 m c (ix2 (row t r) s) := by
  unfold row
  blk_ext [iblk, V, (idx t).1]

theorem blk1 (r : Fin 256) (s : Fin 2048) : iblk m c 1 t (ix2 r s) = a1 m c (ix2 (row t r) s) := by
  unfold row
  blk_ext [iblk, V, (idx t).2.1]

theorem blk2 (r : Fin 256) (s : Fin 2048) : iblk m c 2 t (ix2 r s) = a2 m c (ix2 (row t r) s) := by
  unfold row
  blk_ext [iblk, V, (idx t).2.2.1]

theorem blk3 (r : Fin 256) (s : Fin 2048) : iblk m c 3 t (ix2 r s) = a3 m c (ix2 (row t r) s) := by
  unfold row
  blk_ext [iblk, V, (idx t).2.2.2.1]

/-- What the call writes of the gates' gradient at a grid point, column by column. -/
theorem out_at (x : Vec Ideal S256x4096 .bf16) (a b d : Vec Ideal S256x2048 .bf16) (r : Fin 256) (j : Fin 4096) (v : Elt Ideal .bf16)
    (h0 : ∀ h : j.val < 2048, k0_pay7 d (View.ld x r0_1) a (ix2 r ⟨j.val, h⟩) = v)
    (h1 : ∀ h : j.val - 2048 < 2048, 2048 ≤ j.val → k0_pay1 (k0_pay2 d) (k0_pay4 (View.ld x r0_2)) b (ix2 r ⟨j.val - 2048, h⟩) = v) :
    out0_4 x a b d (ix2 r j) = v := by
  unfold out0_4
  rw [View.ld_unit_zero (S := S256x2048) zero2, View.ld_unit_zero (S := S256x2048) zero2, View.ld_unit_zero (S := S256x2048) zero2]
  refine View.canon_eq_of_allAt _ _ _ (cover0_4 _ _ _) (View.allAt_cons_unit _ _ _ _ _ (fun x hx => ?_)
    (View.allAt_cons_unit _ _ _ _ _ (fun x hx => ?_) (View.allAt_nil _ _)))
  · have e0 : r.val = 0 + (x 0).val := hx 0
    have e1 : j.val = 2048 + (x 1).val := hx 1
    have hl : (x 1).val < 2048 := (x 1).isLt
    refine Eq.trans (congrArg (k0_pay1 _ _ b) (funext fun a => Fin.ext ?_)) (h1 (by omega) (by omega))
    match a with
    | ⟨0, _⟩ => show (x 0).val = r.val; omega
    | ⟨1, _⟩ => show (x 1).val = j.val - 2048; omega
  · have e0 : r.val = 0 + (x 0).val := hx 0
    have e1 : j.val = 0 + (x 1).val := hx 1
    have hl : (x 1).val < 2048 := (x 1).isLt
    refine Eq.trans (congrArg (k0_pay7 d _ a) (funext fun a => Fin.ext ?_)) (h0 (by omega))
    match a with
    | ⟨0, _⟩ => show (x 0).val = r.val; omega
    | ⟨1, _⟩ => show (x 1).val = j.val; omega

theorem pointG (r : Fin 256) (j : Fin 4096) :
    out0_4 (iblk m c 0 t : Vec Ideal S256x4096 .bf16) (iblk m c 1 t : Vec Ideal S256x2048 .bf16) (iblk m c 2 t : Vec Ideal S256x2048 .bf16) (iblk m c 3 t : Vec Ideal S256x2048 .bf16) (ix2 r j)
      = valG (a0 m c) (a1 m c) (a2 m c) (a3 m c) (ix2 (row t r) j) := by
  refine out_at _ _ _ _ r j _ (fun h => ?_) fun h h' => ?_
  · refine (pay7_at _ _ _ _).trans (Eq.trans ?_ (valG_lt _ _ _ _ _ _ h).symm)
    rw [ld_near, blk0, blk1, blk3]
  · refine (pay1_at _ _ _ _).trans (Eq.trans ?_ (valG_ge _ _ _ _ _ _ (by omega)).symm)
    have ej : far ⟨j.val - 2048, h⟩ = j := Fin.ext (by show 2048 + (j.val - 2048) = j.val; omega)
    rw [ld_far, ej, blk0, blk2, blk3]

theorem pointA (r : Fin 256) (j : Fin 2048) :
    out0_5 (iblk m c 0 t : Vec Ideal S256x4096 .bf16) (iblk m c 1 t : Vec Ideal S256x2048 .bf16) (iblk m c 2 t : Vec Ideal S256x2048 .bf16) (iblk m c 3 t : Vec Ideal S256x2048 .bf16) (ix2 r j)
      = valA (a0 m c) (a3 m c) (ix2 (row t r) j) := by
  unfold out0_5
  rw [View.canon_unit_zero (S := S256x2048) zero2, View.ld_unit_zero (S := S256x2048) zero2]
  refine (pay5_at _ _ _).trans (Eq.trans ?_ (valA_at _ _ _ _).symm)
  rw [ld_near, blk0, blk3]

theorem pointB (r : Fin 256) (j : Fin 2048) :
    out0_6 (iblk m c 0 t : Vec Ideal S256x4096 .bf16) (iblk m c 1 t : Vec Ideal S256x2048 .bf16) (iblk m c 2 t : Vec Ideal S256x2048 .bf16) (iblk m c 3 t : Vec Ideal S256x2048 .bf16) (ix2 r j)
      = valB (a0 m c) (a3 m c) (ix2 (row t r) j) := by
  unfold out0_6
  rw [View.canon_unit_zero (S := S256x2048) zero2, View.ld_unit_zero (S := S256x2048) zero2]
  refine (pay6_at _ _ _).trans (Eq.trans ?_ (valB_at _ _ _ _).symm)
  rw [ld_far, blk0, blk3]

theorem outG : (dats m 0 c).arrAt 4 cfg0.N = valG (a0 m c) (a1 m c) (a2 m c) (a3 m c) := by
  refine (dats m 0 c).arrAt_eq_of_covers 4 _ (by decide +kernel) fun t hf y => ?_
  blk_simp
  rw [after0_4]
  refine (congrArg (out0_4 _ _ _ _) (eta2 (n0 := 256) (n1 := 4096) y)).trans ((pointG m c t _ _).trans (congrArg _ ?_))
  have e := (idx t).2.2.2.2.1
  funext a; apply Fin.ext
  match a with
  | ⟨0, _⟩ =>
    show 256 * t.val + (y 0).val = win0_4.index t 0 * 256 + 1 * (y 0).val
    rw [e]; show _ = t.val * 256 + _; omega
  | ⟨1, _⟩ =>
    show (y 1).val = win0_4.index t 1 * 4096 + 1 * (y 1).val
    rw [e]; show _ = 0 * 4096 + _; omega

theorem outA : (dats m 0 c).arrAt 5 cfg0.N = valA (a0 m c) (a3 m c) := by
  refine (dats m 0 c).arrAt_eq_of_covers 5 _ (by decide +kernel) fun t hf y => ?_
  blk_simp
  rw [after0_5]
  refine (congrArg (out0_5 _ _ _ _) (eta2 (n0 := 256) (n1 := 2048) y)).trans ((pointA m c t _ _).trans (congrArg _ ?_))
  have e := (idx t).2.2.2.2.2.1
  funext a; apply Fin.ext
  match a with
  | ⟨0, _⟩ =>
    show 256 * t.val + (y 0).val = win0_5.index t 0 * 256 + 1 * (y 0).val
    rw [e]; show _ = t.val * 256 + _; omega
  | ⟨1, _⟩ =>
    show (y 1).val = win0_5.index t 1 * 2048 + 1 * (y 1).val
    rw [e]; show _ = 0 * 2048 + _; omega

theorem outB : (dats m 0 c).arrAt 6 cfg0.N = valB (a0 m c) (a3 m c) := by
  refine (dats m 0 c).arrAt_eq_of_covers 6 _ (by decide +kernel) fun t hf y => ?_
  blk_simp
  rw [after0_6]
  refine (congrArg (out0_6 _ _ _ _) (eta2 (n0 := 256) (n1 := 2048) y)).trans ((pointB m c t _ _).trans (congrArg _ ?_))
  have e := (idx t).2.2.2.2.2.2
  funext a; apply Fin.ext
  match a with
  | ⟨0, _⟩ =>
    show 256 * t.val + (y 0).val = win0_6.index t 0 * 256 + 1 * (y 0).val
    rw [e]; show _ = t.val * 256 + _; omega
  | ⟨1, _⟩ =>
    show (y 1).val = win0_6.index t 1 * 2048 + 1 * (y 1).val
    rw [e]; show _ = 0 * 2048 + _; omega

end Cert.MixBwd

end
-- ==== Proof.UqFwd.lean ====
/-
  The product of the latent queries (`uq`): its call over the extended reals, and the reference's term.
-/
module

public import proofs.«01_k».proof.Proof.Prod
public import proofs.«01_k».proof.Proof.Gen.Kernel43Ideal.Frame
public import proofs.«01_k».proof.Proof.Gen.Reference43Ideal.Run

@[expose] public section

set_option maxRecDepth 16384

noncomputable section

namespace Cert.UqFwd

open Idealize.ShloMosaic Idealize.ShloMosaic.TcCoe Idealize.SL.Sem
open Cert.Prod

section Ref

open Cert.Reference43Ideal Cert.Reference43Ideal.Gen

/-- The reference's result as a function of its two arguments. -/
def val (A : FVec Ideal S2048x512 .bf16) (B : FVec Ideal S512x1536 .bf16) : FVec Ideal S2048x1536 .bf16 :=
  truncf .bf16 (Host.dotGeneral dot_S2048x512_S512x1536_S2048x1536_1_0_0_1_n_n none
    (extf .f32 A bitsLt_bf16_f32) (extf .f32 B bitsLt_bf16_f32)) bitsLt_bf16_f32

theorem val_at (A : FVec Ideal S2048x512 .bf16) (B : FVec Ideal S512x1536 .bf16) (i : Fin 2048) (j : Fin 1536) :
    val A B (ix2 i j) = ∑ k : Fin 512, A (ix2 i k) * B (ix2 k j) := by
  unfold val
  pointwise []

end Ref

open Cert.Kernel43Ideal Cert.Kernel43Ideal.Gen

variable (m : (ℓ : Loc nD τ sig) → Buf (Elt Ideal) ℓ) (c : Dev nD)

abbrev a0 : FVec Ideal S2048x512 .bf16 := m ((c : Thread nD τ).loc main_arg0)
abbrev a1 : FVec Ideal S512x1536 .bf16 := m ((c : Thread nD τ).loc main_arg1)

theorem pay_at (a : Vec Ideal S1024x512 .bf16) (b : Vec Ideal S512x768 .bf16) (r : Fin 1024) (s : Fin 768) :
    k0_pay1 a b (ix2 r s) = ∑ k : Fin 512, a (ix2 r k) * b (ix2 k s) := by
  unfold k0_pay1
  pointwise []

theorem idx : ∀ t : Fin cfg0.N, win0_0.index t = ![t.val / 2, 0] ∧ win0_1.index t = ![0, t.val % 2]
    ∧ win0_2.index t = ![t.val / 2, t.val % 2] := by
  decide +kernel

variable (t : Fin cfg0.N)

theorem lt : t.val < 4 := t.isLt

abbrev row (r : Fin 1024) : Fin 2048 := ⟨1024 * (t.val / 2) + r.val, by have := lt t; omega⟩
abbrev column (s : Fin 768) : Fin 1536 := ⟨768 * (t.val % 2) + s.val, by have := lt t; omega⟩

theorem blk0 (r : Fin 1024) (k : Fin 512) : iblk m c 0 t (ix2 r k) = a0 m c (ix2 (row t r) k) := by
  unfold row
  blk_ext [iblk, V, (idx t).1]

theorem blk1 (k : Fin 512) (s : Fin 768) : iblk m c 1 t (ix2 k s) = a1 m c (ix2 k (column t s)) := by
  unfold column
  blk_ext [iblk, V, (idx t).2.1]

theorem point (r : Fin 1024) (s : Fin 768) :
    k0_pay1 (iblk m c 0 t : Vec Ideal S1024x512 .bf16) (iblk m c 1 t : Vec Ideal S512x768 .bf16) (ix2 r s)
      = val (a0 m c) (a1 m c) (ix2 (row t r) (column t s)) := by
  rw [pay_at, val_at]
  exact sum_mul (fun k => blk0 m c t r k) fun k => blk1 m c t k s

theorem out : (dats m 0 c).arrAt 2 cfg0.N = val (a0 m c) (a1 m c) := by
  refine (dats m 0 c).arrAt_eq_of_covers 2 _ (by decide +kernel) fun t hf y => ?_
  blk_simp
  rw [after0_2]
  unfold out0_2
  rw [View.canon_unit_zero zero2, View.ld_unit_zero zero2, View.ld_unit_zero zero2]
  refine (congrArg (k0_pay1 _ _) (eta2 (n0 := 1024) (n1 := 768) y)).trans ((point m c t _ _).trans (congrArg _ ?_))
  have e := (idx t).2.2
  funext a; apply Fin.ext
  match a with
  | ⟨0, _⟩ =>
    show 1024 * (t.val / 2) + (y 0).val = win0_2.index t 0 * 1024 + 1 * (y 0).val
    rw [e]; show _ = t.val / 2 * 1024 + _; omega
  | ⟨1, _⟩ =>
    show 768 * (t.val % 2) + (y 1).val = win0_2.index t 1 * 768 + 1 * (y 1).val
    rw [e]; show _ = t.val % 2 * 768 + _; omega

end Cert.UqFwd

end
-- ==== Proof.UqDa.lean ====
/-
  The gradient by the first factor of the latent queries' product (`uq`): its call over the extended reals, and the reference's term.
-/
module

public import proofs.«01_k».proof.Proof.Prod
public import proofs.«01_k».proof.Proof.Gen.Kernel44Ideal.Frame
public import proofs.«01_k».proof.Proof.Gen.Reference44Ideal.Run

@[expose] public section

set_option maxRecDepth 16384

noncomputable section

namespace Cert.UqDa

open Idealize.ShloMosaic Idealize.ShloMosaic.TcCoe Idealize.SL.Sem
open Cert.Prod

section Ref

open Cert.Reference44Ideal Cert.Reference44Ideal.Gen

/-- The reference's result as a function of its two arguments. -/
def val (B : FVec Ideal S512x1536 .bf16) (G : FVec Ideal S2048x1536 .bf16) : FVec Ideal S2048x512 .bf16 :=
  truncf .bf16 (Host.dotGeneral dot_S2048x1536_S512x1536_S2048x512_1_1_0_0_n_n none
    (extf .f32 G bitsLt_bf16_f32) (extf .f32 B bitsLt_bf16_f32)) bitsLt_bf16_f32

theorem val_at (B : FVec Ideal S512x1536 .bf16) (G : FVec Ideal S2048x1536 .bf16) (i : Fin 2048) (j : Fin 512) :
    val B G (ix2 i j) = ∑ k : Fin 1536, G (ix2 i k) * B (ix2 j k) := by
  unfold val
  pointwise []

end Ref

open Cert.Kernel44Ideal Cert.Kernel44Ideal.Gen

variable (m : (ℓ : Loc nD τ sig) → Buf (Elt Ideal) ℓ) (c : Dev nD)

abbrev a0 : FVec Ideal S512x1536 .bf16 := m ((c : Thread nD τ).loc main_arg0)
abbrev a1 : FVec Ideal S2048x1536 .bf16 := m ((c : Thread nD τ).loc main_arg1)

theorem pay_at (a : Vec Ideal S1024x1536 .bf16) (b : Vec Ideal S512x1536 .bf16) (r : Fin 1024) (s : Fin 512) :
    k0_pay1 a b (ix2 r s) = ∑ k : Fin 1536, a (ix2 r k) * b (ix2 s k) := by
  unfold k0_pay1
  pointwise []

theorem idx : ∀ t : Fin cfg0.N, win0_0.index t = ![t.val / 1, 0] ∧ win0_1.index t = ![t.val % 1, 0]
    ∧ win0_2.index t = ![t.val / 1, t.val % 1] := by
  decide +kernel

variable (t : Fin cfg0.N)

theorem lt : t.val < 2 := t.isLt

abbrev row (r : Fin 1024) : Fin 2048 := ⟨1024 * (t.val / 1) + r.val, by have := lt t; omega⟩
abbrev column (s : Fin 512) : Fin 512 := ⟨512 * (t.val % 1) + s.val, by have := lt t; omega⟩

theorem blk0 (r : Fin 1024) (k : Fin 1536) : iblk m c 0 t (ix2 r k) = a1 m c (ix2 (row t r) k) := by
  unfold row
  blk_ext [iblk, V, (idx t).1]

theorem blk1 (s : Fin 512) (k : Fin 1536) : iblk m c 1 t (ix2 s k) = a0 m c (ix2 (column t s) k) := by
  unfold column
  blk_ext [iblk, V, (idx t).2.1]

theorem point (r : Fin 1024) (s : Fin 512) :
    k0_pay1 (iblk m c 0 t : Vec Ideal S1024x1536 .bf16) (iblk m c 1 t : Vec Ideal S512x1536 .bf16) (ix2 r s)
      = val (a0 m c) (a1 m c) (ix2 (row t r) (column t s)) := by
  rw [pay_at, val_at]
  exact sum_mul (fun k => blk0 m c t r k) fun k => blk1 m c t s k

theorem out : (dats m 0 c).arrAt 2 cfg0.N = val (a0 m c) (a1 m c) := by
  refine (dats m 0 c).arrAt_eq_of_covers 2 _ (by decide +kernel) fun t hf y => ?_
  blk_simp
  rw [after0_2]
  unfold out0_2
  rw [View.canon_unit_zero zero2, View.ld_unit_zero zero2, View.ld_unit_zero zero2]
  refine (congrArg (k0_pay1 _ _) (eta2 (n0 := 1024) (n1 := 512) y)).trans ((point m c t _ _).trans (congrArg _ ?_))
  have e := (idx t).2.2
  funext a; apply Fin.ext
  match a with
  | ⟨0, _⟩ =>
    show 1024 * (t.val / 1) + (y 0).val = win0_2.index t 0 * 1024 + 1 * (y 0).val
    rw [e]; show _ = t.val / 1 * 1024 + _; omega
  | ⟨1, _⟩ =>
    show 512 * (t.val % 1) + (y 1).val = win0_2.index t 1 * 512 + 1 * (y 1).val
    rw [e]; show _ = t.val % 1 * 512 + _; omega

end Cert.UqDa

end
-- ==== Proof.UqDw.lean ====
/-
  The gradient by the weight of the latent queries' product (`uq`): its call over the extended reals, and the reference's term.
-/
module

public import proofs.«01_k».proof.Proof.Prod
public import proofs.«01_k».proof.Proof.Gen.Kernel45Ideal.Frame
public import proofs.«01_k».proof.Proof.Gen.Reference45Ideal.Run

@[expose] public section

set_option maxRecDepth 16384

noncomputable section

namespace Cert.UqDw

open Idealize.ShloMosaic Idealize.ShloMosaic.TcCoe Idealize.SL.Sem
open Cert.Prod

section Ref

open Cert.Reference45Ideal Cert.Reference45Ideal.Gen

/-- The reference's result as a function of its two arguments. -/
def val (A : FVec Ideal S2048x512 .bf16) (B : FVec Ideal S2048x1536 .bf16) : FVec Ideal S512x1536 .bf16 :=
  truncf .bf16 (transpose S512x1536 [1, 0] (Host.dotGeneral dot_S2048x1536_S2048x512_S1536x512_0_0_1_1_n_n none
    (extf .f32 B bitsLt_bf16_f32) (extf .f32 A bitsLt_bf16_f32)) transposes_S1536x512_S512x1536_1_0) bitsLt_bf16_f32

theorem val_at (A : FVec Ideal S2048x512 .bf16) (B : FVec Ideal S2048x1536 .bf16) (i : Fin 512) (j : Fin 1536) :
    val A B (ix2 i j) = ∑ k : Fin 2048, A (ix2 k i) * B (ix2 k j) := by
  unfold val
  pointwise []
  exact Finset.sum_congr rfl fun k _ => mul_comm _ _

end Ref

open Cert.Kernel45Ideal Cert.Kernel45Ideal.Gen

variable (m : (ℓ : Loc nD τ sig) → Buf (Elt Ideal) ℓ) (c : Dev nD)

abbrev a0 : FVec Ideal S2048x512 .bf16 := m ((c : Thread nD τ).loc main_arg0)
abbrev a1 : FVec Ideal S2048x1536 .bf16 := m ((c : Thread nD τ).loc main_arg1)

theorem pay_at (a : Vec Ideal S2048x512 .bf16) (b : Vec Ideal S2048x768 .bf16) (r : Fin 512) (s : Fin 768) :
    k0_pay1 a b (ix2 r s) = ∑ k : Fin 2048, a (ix2 k r) * b (ix2 k s) := by
  unfold k0_pay1
  pointwise []

theorem idx : ∀ t : Fin cfg0.N, win0_0.index t = ![0, t.val / 2] ∧ win0_1.index t = ![0, t.val % 2]
    ∧ win0_2.index t = ![t.val / 2, t.val % 2] := by
  decide +kernel

variable (t : Fin cfg0.N)

theorem lt : t.val < 2 := t.isLt

abbrev row (r : Fin 512) : Fin 512 := ⟨512 * (t.val / 2) + r.val, by have := lt t; omega⟩
abbrev column (s : Fin 768) : Fin 1536 := ⟨768 * (t.val % 2) + s.val, by have := lt t; omega⟩

theorem blk0 (k : Fin 2048) (r : Fin 512) : iblk m c 0 t (ix2 k r) = a0 m c (ix2 k (row t r)) := by
  unfold row
  blk_ext [iblk, V, (idx t).1]

theorem blk1 (k : Fin 2048) (s : Fin 768) : iblk m c 1 t (ix2 k s) = a1 m c (ix2 k (column t s)) := by
  unfold column
  blk_ext [iblk, V, (idx t).2.1]

theorem point (r : Fin 512) (s : Fin 768) :
    k0_pay1 (iblk m c 0 t : Vec Ideal S2048x512 .bf16) (iblk m c 1 t : Vec Ideal S2048x768 .bf16) (ix2 r s)
      = val (a0 m c) (a1 m c) (ix2 (row t r) (column t s)) := by
  rw [pay_at, val_at]
  exact sum_mul (fun k => blk0 m c t k r) fun k => blk1 m c t k s

theorem out : (dats m 0 c).arrAt 2 cfg0.N = val (a0 m c) (a1 m c) := by
  refine (dats m 0 c).arrAt_eq_of_covers 2 _ (by decide +kernel) fun t hf y => ?_
  blk_simp
  rw [after0_2]
  unfold out0_2
  rw [View.canon_unit_zero zero2, View.ld_unit_zero zero2, View.ld_unit_zero zero2]
  refine (congrArg (k0_pay1 _ _) (eta2 (n0 := 512) (n1 := 768) y)).trans ((point m c t _ _).trans (congrArg _ ?_))
  have e := (idx t).2.2
  funext a; apply Fin.ext
  match a with
  | ⟨0, _⟩ =>
    show 512 * (t.val / 2) + (y 0).val = win0_2.index t 0 * 512 + 1 * (y 0).val
    rw [e]; show _ = t.val / 2 * 512 + _; omega
  | ⟨1, _⟩ =>
    show 768 * (t.val % 2) + (y 1).val = win0_2.index t 1 * 768 + 1 * (y 1).val
    rw [e]; show _ = t.val % 2 * 768 + _; omega

end Cert.UqDw

end
-- ==== Proof.UkvFwd.lean ====
/-
  The product of the latent keys and values (`ukv`): its call over the extended reals, and the reference's term.
-/
module

public import proofs.«01_k».proof.Proof.Prod
public import proofs.«01_k».proof.Proof.Gen.Kernel46Ideal.Frame
public import proofs.«01_k».proof.Proof.Gen.Reference46Ideal.Run

@[expose] public section

set_option maxRecDepth 16384

noncomputable section

namespace Cert.UkvFwd

open Idealize.ShloMosaic Idealize.ShloMosaic.TcCoe Idealize.SL.Sem
open Cert.Prod

section Ref

open Cert.Reference46Ideal Cert.Reference46Ideal.Gen

/-- The reference's result as a function of its two arguments. -/
def val (A : FVec Ideal S2048x512 .bf16) (B : FVec Ideal S8x512x256 .bf16) : FVec Ideal S2048x2048 .bf16 :=
  truncf .bf16 (Host.dotGeneral dot_S2048x512_S512x2048_S2048x2048_1_0_0_1_n_n none (extf .f32 A bitsLt_bf16_f32)
    (extf .f32 (shapeCast S512x2048 (transpose S512x8x256 [1, 0, 2] B transposes_S8x512x256_S512x8x256_1_0_2) shapeCasts_S512x8x256_S512x2048) bitsLt_bf16_f32)) bitsLt_bf16_f32

theorem val_at (A : FVec Ideal S2048x512 .bf16) (B : FVec Ideal S8x512x256 .bf16) (i j : Fin 2048) :
    val A B (ix2 i j) = ∑ k : Fin 512, A (ix2 i k) * B (ix3 ⟨j.val / 256, by have := j.isLt; omega⟩ k ⟨j.val % 256, by omega⟩) := by
  unfold val
  pointwise []

end Ref

open Cert.Kernel46Ideal Cert.Kernel46Ideal.Gen

variable (m : (ℓ : Loc nD τ sig) → Buf (Elt Ideal) ℓ) (c : Dev nD)

abbrev a0 : FVec Ideal S2048x512 .bf16 := m ((c : Thread nD τ).loc main_arg0)
abbrev a1 : FVec Ideal S8x512x256 .bf16 := m ((c : Thread nD τ).loc main_arg1)

theorem pay1_at (a : Vec Ideal S1024x512 .bf16) (b : Vec Ideal S4x512x256 .bf16) (x : S1024x256.Idx) :
    k0_pay1 a (View.ld b r0_1) x = ∑ k : Fin 512, a (ix2 (x 0) k) * b (ix3 0 k (x 1)) := by
  idx_vars x
  unfold k0_pay1
  pointwise []

theorem pay2_at (a : Vec Ideal S1024x512 .bf16) (b : Vec Ideal S4x512x256 .bf16) (x : S1024x256.Idx) :
    k0_pay2 a (View.ld b r0_3) x = ∑ k : Fin 512, a (ix2 (x 0) k) * b (ix3 1 k (x 1)) := by
  idx_vars x
  unfold k0_pay2
  pointwise []

theorem pay3_at (a : Vec Ideal S1024x512 .bf16) (b : Vec Ideal S4x512x256 .bf16) (x : S1024x256.Idx) :
    k0_pay3 a (View.ld b r0_5) x = ∑ k : Fin 512, a (ix2 (x 0) k) * b (ix3 2 k (x 1)) := by
  idx_vars x
  unfold k0_pay3
  pointwise []

theorem pay4_at (a : Vec Ideal S1024x512 .bf16) (b : Vec Ideal S4x512x256 .bf16) (x : S1024x256.Idx) :
    k0_pay4 a (View.ld b r0_7) x = ∑ k : Fin 512, a (ix2 (x 0) k) * b (ix3 3 k (x 1)) := by
  idx_vars x
  unfold k0_pay4
  pointwise []

/-- What a grid point writes, column by column. -/
theorem out_at (a : Vec Ideal S1024x512 .bf16) (b : Vec Ideal S4x512x256 .bf16) (r j : Fin 1024) (v : Elt Ideal .bf16)
    (h : ∀ (d : Fin 4) (q : Fin 256), j.val = 256 * d.val + q.val → ∑ k : Fin 512, a (ix2 r k) * b (ix3 d k q) = v) :
    out0_2 a b (ix2 r j) = v := by
  unfold out0_2
  rw [View.ld_unit_zero zero2]
  have step : ∀ (d : Fin 4) (x : S1024x256.Idx), r.val = 0 + (x 0).val → j.val = 256 * d.val + (x 1).val →
      ∑ k : Fin 512, a (ix2 (x 0) k) * b (ix3 d k (x 1)) = v := by
    intro d x e0 e1
    refine Eq.trans (sum_mul (fun k => congrArg (fun j => a (ix2 j k)) (Fin.ext ?_)) fun k => rfl) (h d (x 1) e1)
    show (x 0).val = r.val; omega
  refine View.canon_eq_of_allAt _ _ _ (cover0_2 _ _ _ _ _) (View.allAt_cons_unit _ _ _ _ _ (fun x hx => ?_)
    (View.allAt_cons_unit _ _ _ _ _ (fun x hx => ?_) (View.allAt_cons_unit _ _ _ _ _ (fun x hx => ?_)
      (View.allAt_cons_unit _ _ _ _ _ (fun x hx => ?_) (View.allAt_nil _ _)))))
  · exact (pay4_at _ _ x).trans (step 3 x (hx 0) (hx 1))
  · exact (pay3_at _ _ x).trans (step 2 x (hx 0) (hx 1))
  · exact (pay2_at _ _ x).trans (step 1 x (hx 0) (hx 1))
  · exact (pay1_at _ _ x).trans (step 0 x (hx 0) (hx 1))

theorem idx : ∀ t : Fin cfg0.N, win0_0.index t = ![t.val / 2, 0] ∧ win0_1.index t = ![t.val % 2, 0, 0]
    ∧ win0_2.index t = ![t.val / 2, t.val % 2] := by
  decide +kernel

variable (t : Fin cfg0.N)

theorem lt : t.val < 4 := t.isLt

abbrev row (r : Fin 1024) : Fin 2048 := ⟨1024 * (t.val / 2) + r.val, by have := lt t; omega⟩
abbrev column (s : Fin 1024) : Fin 2048 := ⟨1024 * (t.val % 2) + s.val, by have := lt t; omega⟩

theorem blk0 (r : Fin 1024) (k : Fin 512) : iblk m c 0 t (ix2 r k) = a0 m c (ix2 (row t r) k) := by
  unfold row
  blk_ext [iblk, V, (idx t).1]

theorem blk1 (d : Fin 4) (k : Fin 512) (q : Fin 256) :
    iblk m c 1 t (ix3 d k q) = a1 m c (ix3 ⟨4 * (t.val % 2) + d.val, by have := d.isLt; omega⟩ k q) := by
  blk_ext [iblk, V, (idx t).2.1]

theorem point (r j : Fin 1024) :
    out0_2 (iblk m c 0 t : Vec Ideal S1024x512 .bf16) (iblk m c 1 t : Vec Ideal S4x512x256 .bf16) (ix2 r j)
      = val (a0 m c) (a1 m c) (ix2 (row t r) (column t j)) := by
  refine out_at _ _ _ _ _ fun d q h => Eq.trans ?_ (val_at _ _ _ _).symm
  refine sum_mul (fun k => blk0 m c t r k) fun k => (blk1 m c t d k q).trans (congrArg (a1 m c) ?_)
  have := q.isLt
  have := d.isLt
  funext a; apply Fin.ext
  match a with
  | ⟨0, _⟩ => show 4 * (t.val % 2) + d.val = (1024 * (t.val % 2) + j.val) / 256; omega
  | ⟨1, _⟩ => rfl
  | ⟨2, _⟩ => show q.val = (1024 * (t.val % 2) + j.val) % 256; omega

theorem out : (dats m 0 c).arrAt 2 cfg0.N = val (a0 m c) (a1 m c) := by
  refine (dats m 0 c).arrAt_eq_of_covers 2 _ (by decide +kernel) fun t hf y => ?_
  blk_simp
  rw [after0_2]
  refine (congrArg (out0_2 _ _) (eta2 (n0 := 1024) (n1 := 1024) y)).trans ((point m c t _ _).trans (congrArg _ ?_))
  have e := (idx t).2.2
  funext a; apply Fin.ext
  match a with
  | ⟨0, _⟩ =>
    show 1024 * (t.val / 2) + (y 0).val = win0_2.index t 0 * 1024 + 1 * (y 0).val
    rw [e]; show _ = t.val / 2 * 1024 + _; omega
  | ⟨1, _⟩ =>
    show 1024 * (t.val % 2) + (y 1).val = win0_2.index t 1 * 1024 + 1 * (y 1).val
    rw [e]; show _ = t.val % 2 * 1024 + _; omega

end Cert.UkvFwd

end
-- ==== Proof.UkvDa.lean ====
/-
  The gradient by the first factor of the product of the latent keys and values (`ukv`): its call over the extended reals, and the reference's term.
-/
module

public import proofs.«01_k».proof.Proof.Prod
public import proofs.«01_k».proof.Proof.Gen.Kernel47Ideal.Frame
public import proofs.«01_k».proof.Proof.Gen.Reference47Ideal.Run

@[expose] public section

set_option maxRecDepth 16384

noncomputable section

namespace Cert.UkvDa

open Idealize.ShloMosaic Idealize.ShloMosaic.TcCoe Idealize.SL.Sem
open Cert.Prod

section Ref

open Cert.Reference47Ideal Cert.Reference47Ideal.Gen

/-- The reference's result as a function of its two arguments. -/
def val (B : FVec Ideal S8x512x256 .bf16) (G : FVec Ideal S2048x2048 .bf16) : FVec Ideal S2048x512 .bf16 :=
  truncf .bf16 (Host.dotGeneral dot_S2048x2048_S512x2048_S2048x512_1_1_0_0_n_n none (extf .f32 G bitsLt_bf16_f32)
    (extf .f32 (shapeCast S512x2048 (transpose S512x8x256 [1, 0, 2] B transposes_S8x512x256_S512x8x256_1_0_2) shapeCasts_S512x8x256_S512x2048) bitsLt_bf16_f32)) bitsLt_bf16_f32

theorem val_at (B : FVec Ideal S8x512x256 .bf16) (G : FVec Ideal S2048x2048 .bf16) (i : Fin 2048) (j : Fin 512) :
    val B G (ix2 i j) = ∑ k : Fin 2048, G (ix2 i k) * B (ix3 ⟨k.val / 256, by have := k.isLt; omega⟩ j ⟨k.val % 256, by omega⟩) := by
  unfold val
  pointwise []

end Ref

open Cert.Kernel47Ideal Cert.Kernel47Ideal.Gen

variable (m : (ℓ : Loc nD τ sig) → Buf (Elt Ideal) ℓ) (c : Dev nD)

abbrev a0 : FVec Ideal S8x512x256 .bf16 := m ((c : Thread nD τ).loc main_arg0)
abbrev a1 : FVec Ideal S2048x2048 .bf16 := m ((c : Thread nD τ).loc main_arg1)

/-- What a grid point writes: a sum over the weight's eight slots. -/
def body (a : Vec Ideal S1024x2048 .bf16) (b : Vec Ideal S8x512x256 .bf16) : FVec Ideal S1024x512 .bf16 :=
  k0_pay1 a (k0_pay2 a (View.ld b r0_1) (View.ld b r0_2) (View.ld b r0_3) (View.ld b r0_4) (View.ld b r0_5) (View.ld b r0_6)) (k0_pay3 a) (View.ld b r0_7) (View.ld b r0_8)

theorem body_at (a : Vec Ideal S1024x2048 .bf16) (b : Vec Ideal S8x512x256 .bf16) (r : Fin 1024) (s : Fin 512) :
    body a b (ix2 r s) = ∑ d : Fin 8, ∑ k : Fin 256, a (ix2 r ⟨256 * d.val + k.val, by have := d.isLt; have := k.isLt; omega⟩) * b (ix3 d s k) := by
  unfold body k0_pay1 k0_pay2 k0_pay3
  rw [Fin.sum_univ_eight]
  pointwise []

theorem idx : ∀ t : Fin cfg0.N, win0_0.index t = ![t.val, 0] ∧ win0_1.index t = ![0, 0, 0] ∧ win0_2.index t = ![t.val, 0] := by
  decide +kernel

variable (t : Fin cfg0.N)

theorem lt : t.val < 2 := t.isLt

abbrev row (r : Fin 1024) : Fin 2048 := ⟨1024 * t.val + r.val, by have := lt t; omega⟩

theorem blk0 (r : Fin 1024) (k : Fin 2048) : iblk m c 0 t (ix2 r k) = a1 m c (ix2 (row t r) k) := by
  unfold row
  blk_ext [iblk, V, (idx t).1]

theorem blk1 (d : Fin 8) (s : Fin 512) (k : Fin 256) : iblk m c 1 t (ix3 d s k) = a0 m c (ix3 d s k) := by
  blk_ext [iblk, V, (idx t).2.1]

theorem point (r : Fin 1024) (s : Fin 512) :
    body (iblk m c 0 t : Vec Ideal S1024x2048 .bf16) (iblk m c 1 t : Vec Ideal S8x512x256 .bf16) (ix2 r s)
      = val (a0 m c) (a1 m c) (ix2 (row t r) s) := by
  rw [body_at, val_at, sum_parts (n := 8) (w := 256) (N := 2048) rfl]
  refine Finset.sum_congr rfl fun d _ => sum_mul (fun k => blk0 m c t r _) fun k => (blk1 m c t d s k).trans (congrArg _ ?_)
  have := k.isLt
  funext a; apply Fin.ext
  match a with
  | ⟨0, _⟩ => show d.val = (256 * d.val + k.val) / 256; omega
  | ⟨1, _⟩ => rfl
  | ⟨2, _⟩ => show k.val = (256 * d.val + k.val) % 256; omega

theorem out : (dats m 0 c).arrAt 2 cfg0.N = val (a0 m c) (a1 m c) := by
  refine (dats m 0 c).arrAt_eq_of_covers 2 _ (by decide +kernel) fun t hf y => ?_
  blk_simp
  rw [after0_2]
  unfold out0_2
  rw [View.canon_unit_zero zero2, View.ld_unit_zero zero2]
  refine (congrArg (body _ _) (eta2 (n0 := 1024) (n1 := 512) y)).trans ((point m c t _ _).trans (congrArg _ ?_))
  have e := (idx t).2.2
  funext a; apply Fin.ext
  match a with
  | ⟨0, _⟩ =>
    show 1024 * t.val + (y 0).val = win0_2.index t 0 * 1024 + 1 * (y 0).val
    rw [e]; show _ = t.val * 1024 + _; omega
  | ⟨1, _⟩ =>
    show (y 1).val = win0_2.index t 1 * 512 + 1 * (y 1).val
    rw [e]; show _ = 0 * 512 + _; omega

end Cert.UkvDa

end
-- ==== Proof.UkvDw.lean ====
/-
  The gradient by the weight of the product of the latent keys and values (`ukv`): its call over the extended reals, and the reference's term.
-/
module

public import proofs.«01_k».proof.Proof.Prod
public import proofs.«01_k».proof.Proof.Gen.Kernel48Ideal.Frame
public import proofs.«01_k».proof.Proof.Gen.Reference48Ideal.Run

@[expose] public section

set_option maxRecDepth 16384

noncomputable section

namespace Cert.UkvDw

open Idealize.ShloMosaic Idealize.ShloMosaic.TcCoe Idealize.SL.Sem
open Cert.Prod

section Ref

open Cert.Reference48Ideal Cert.Reference48Ideal.Gen

/-- The reference's result as a function of its two arguments. -/
def val (A : FVec Ideal S2048x512 .bf16) (B : FVec Ideal S2048x2048 .bf16) : FVec Ideal S8x512x256 .bf16 :=
  transpose S8x512x256 [1, 0, 2] (shapeCast S512x8x256 (truncf .bf16 (transpose S512x2048 [1, 0]
    (Host.dotGeneral dot_S2048x2048_S2048x512_S2048x512_0_0_1_1_n_n none (extf .f32 B bitsLt_bf16_f32) (extf .f32 A bitsLt_bf16_f32))
    transposes_S2048x512_S512x2048_1_0) bitsLt_bf16_f32) shapeCasts_S512x2048_S512x8x256) transposes_S512x8x256_S8x512x256_1_0_2

theorem val_at (A : FVec Ideal S2048x512 .bf16) (B : FVec Ideal S2048x2048 .bf16) (s : Fin 8) (i : Fin 512) (j : Fin 256) :
    val A B (ix3 s i j) = ∑ k : Fin 2048, A (ix2 k i) * B (ix2 k ⟨256 * s.val + j.val, by have := s.isLt; have := j.isLt; omega⟩) := by
  unfold val
  pointwise []
  refine Finset.sum_congr rfl fun k _ => ?_
  rw [mul_comm]
  have e : ∀ h, (⟨s.val * 256 + j.val, h⟩ : Fin 2048) = ⟨256 * s.val + j.val, by omega⟩ := fun h => Fin.ext (by show s.val * 256 + j.val = 256 * s.val + j.val; omega)
  rw [e]

end Ref

open Cert.Kernel48Ideal Cert.Kernel48Ideal.Gen

variable (m : (ℓ : Loc nD τ sig) → Buf (Elt Ideal) ℓ) (c : Dev nD)

abbrev a0 : FVec Ideal S2048x512 .bf16 := m ((c : Thread nD τ).loc main_arg0)
abbrev a1 : FVec Ideal S2048x2048 .bf16 := m ((c : Thread nD τ).loc main_arg1)

theorem pay1_at (a : Vec Ideal S2048x512 .bf16) (b : Vec Ideal S2048x1024 .bf16) (x : S1x512x256.Idx) :
    k0_pay1 a (View.ld b r0_1) x = ∑ k : Fin 2048, a (ix2 k (x 1)) * b (ix2 k ⟨0 + (x 2).val, by have : (x 2).val < 256 := (x 2).isLt; omega⟩) := by
  idx_vars x
  unfold k0_pay1
  pointwise []

theorem pay2_at (a : Vec Ideal S2048x512 .bf16) (b : Vec Ideal S2048x1024 .bf16) (x : S1x512x256.Idx) :
    k0_pay2 a (View.ld b r0_3) x = ∑ k : Fin 2048, a (ix2 k (x 1)) * b (ix2 k ⟨256 + (x 2).val, by have : (x 2).val < 256 := (x 2).isLt; omega⟩) := by
  idx_vars x
  unfold k0_pay2
  pointwise []

theorem pay3_at (a : Vec Ideal S2048x512 .bf16) (b : Vec Ideal S2048x1024 .bf16) (x : S1x512x256.Idx) :
    k0_pay3 a (View.ld b r0_5) x = ∑ k : Fin 2048, a (ix2 k (x 1)) * b (ix2 k ⟨512 + (x 2).val, by have : (x 2).val < 256 := (x 2).isLt; omega⟩) := by
  idx_vars x
  unfold k0_pay3
  pointwise []

theorem pay4_at (a : Vec Ideal S2048x512 .bf16) (b : Vec Ideal S2048x1024 .bf16) (x : S1x512x256.Idx) :
    k0_pay4 a (View.ld b r0_7) x = ∑ k : Fin 2048, a (ix2 k (x 1)) * b (ix2 k ⟨768 + (x 2).val, by have : (x 2).val < 256 := (x 2).isLt; omega⟩) := by
  idx_vars x
  unfold k0_pay4
  pointwise []

/-- What a grid point writes, slot by slot. -/
theorem out_at (a : Vec Ideal S2048x512 .bf16) (b : Vec Ideal S2048x1024 .bf16) (d : Fin 4) (i : Fin 512) (q : Fin 256) (v : Elt Ideal .bf16)
    (h : ∑ k : Fin 2048, a (ix2 k i) * b (ix2 k ⟨256 * d.val + q.val, by have := d.isLt; have := q.isLt; omega⟩) = v) :
    out0_2 a b (ix3 d i q) = v := by
  unfold out0_2
  rw [View.ld_unit_zero zero2]
  have step : ∀ (n : Fin 4) (x : S1x512x256.Idx), d.val = n.val + (x 0).val → i.val = 0 + (x 1).val → q.val = 0 + (x 2).val →
      ∑ k : Fin 2048, a (ix2 k (x 1)) * b (ix2 k ⟨256 * n.val + (x 2).val, by have : (x 2).val < 256 := (x 2).isLt; omega⟩) = v := by
    intro n x e0 e1 e2
    have hl : (x 0).val < 1 := (x 0).isLt
    refine Eq.trans (sum_mul (fun k => congrArg (fun j => a (ix2 k j)) (Fin.ext ?_)) fun k => congrArg (fun j => b (ix2 k j)) (Fin.ext ?_)) h
    · show (x 1).val = i.val; omega
    · show 256 * n.val + (x 2).val = 256 * d.val + q.val; omega
  refine View.canon_eq_of_allAt _ _ _ (cover0_2 _ _ _ _ _) (View.allAt_cons_unit _ _ _ _ _ (fun x hx => ?_)
    (View.allAt_cons_unit _ _ _ _ _ (fun x hx => ?_) (View.allAt_cons_unit _ _ _ _ _ (fun x hx => ?_)
      (View.allAt_cons_unit _ _ _ _ _ (fun x hx => ?_) (View.allAt_nil _ _)))))
  · exact (pay4_at _ _ x).trans (step 3 x (hx 0) (hx 1) (hx 2))
  · exact (pay3_at _ _ x).trans (step 2 x (hx 0) (hx 1) (hx 2))
  · exact (pay2_at _ _ x).trans (step 1 x (hx 0) (hx 1) (hx 2))
  · exact (pay1_at _ _ x).trans (step 0 x (hx 0) (hx 1) (hx 2))

theorem idx : ∀ t : Fin cfg0.N, win0_0.index t = ![0, 0] ∧ win0_1.index t = ![0, t.val] ∧ win0_2.index t = ![t.val, 0, 0] := by
  decide +kernel

variable (t : Fin cfg0.N)

theorem lt : t.val < 2 := t.isLt

abbrev slot (d : Fin 4) : Fin 8 := ⟨4 * t.val + d.val, by have := lt t; omega⟩

theorem blk0 (k : Fin 2048) (i : Fin 512) : iblk m c 0 t (ix2 k i) = a0 m c (ix2 k i) := by
  blk_ext [iblk, V, (idx t).1]

theorem blk1 (k : Fin 2048) (j : Fin 1024) : iblk m c 1 t (ix2 k j) = a1 m c (ix2 k ⟨1024 * t.val + j.val, by have := lt t; omega⟩) := by
  blk_ext [iblk, V, (idx t).2.1]

theorem point (d : Fin 4) (i : Fin 512) (q : Fin 256) :
    out0_2 (iblk m c 0 t : Vec Ideal S2048x512 .bf16) (iblk m c 1 t : Vec Ideal S2048x1024 .bf16) (ix3 d i q)
      = val (a0 m c) (a1 m c) (ix3 (slot t d) i q) := by
  refine out_at _ _ _ _ _ _ (Eq.trans ?_ (val_at _ _ _ _ _).symm)
  refine sum_mul (fun k => blk0 m c t k i) fun k => (blk1 m c t k _).trans (congrArg (fun j => a1 m c (ix2 k j)) (Fin.ext ?_))
  show 1024 * t.val + (256 * d.val + q.val) = 256 * (4 * t.val + d.val) + q.val
  omega

theorem out : (dats m 0 c).arrAt 2 cfg0.N = val (a0 m c) (a1 m c) := by
  refine (dats m 0 c).arrAt_eq_of_covers 2 _ (by decide +kernel) fun t hf y => ?_
  blk_simp
  rw [after0_2]
  have ey : y = ix3 (n0 := 4) (n1 := 512) (n2 := 256) (y 0) (y 1) (y 2) := by
    funext a
    match a with
    | ⟨0, _⟩ => rfl
    | ⟨1, _⟩ => rfl
    | ⟨2, _⟩ => rfl
  refine (congrArg (out0_2 _ _) ey).trans ((point m c t _ _ _).trans (congrArg _ ?_))
  have e := (idx t).2.2
  funext a; apply Fin.ext
  match a with
  | ⟨0, _⟩ =>
    show 4 * t.val + (y 0).val = win0_2.index t 0 * 4 + 1 * (y 0).val
    rw [e]; show _ = t.val * 4 + _; omega
  | ⟨1, _⟩ =>
    show (y 1).val = win0_2.index t 1 * 512 + 1 * (y 1).val
    rw [e]; show _ = 0 * 512 + _; omega
  | ⟨2, _⟩ =>
    show (y 2).val = win0_2.index t 2 * 256 + 1 * (y 2).val
    rw [e]; show _ = 0 * 256 + _; omega

end Cert.UkvDw

end
-- ==== Proof.ForwardClaims.lean ====
/-
  The claims about the rest of the forward pass, the gates and the latent products: for each, that the call and its reference run
  to the end, leave their arguments alone and give the same results.
-/
module

public import proofs.«01_k».proof.Defs
public import proofs.«01_k».proof.Proof.MoreClaims
public import proofs.«01_k».proof.Proof.GatesFwd
public import proofs.«01_k».proof.Proof.Gen.Kernel33.Frame
public import proofs.«01_k».proof.Proof.QkvFwd
public import proofs.«01_k».proof.Proof.Gen.Kernel34.Frame
public import proofs.«01_k».proof.Proof.ZFwd
public import proofs.«01_k».proof.Proof.Gen.Kernel35.Frame
public import proofs.«01_k».proof.Proof.LatentFwd
public import proofs.«01_k».proof.Proof.Gen.Kernel36.Frame
public import proofs.«01_k».proof.Proof.OutFwd
public import proofs.«01_k».proof.Proof.Gen.Kernel37.Frame
public import proofs.«01_k».proof.Proof.BranchFwd
public import proofs.«01_k».proof.Proof.Gen.Kernel38.Frame
public import proofs.«01_k».proof.Proof.NormFwd
public import proofs.«01_k».proof.Proof.Gen.Kernel39.Frame
public import proofs.«01_k».proof.Proof.Resid
public import proofs.«01_k».proof.Proof.Gen.Kernel40.Frame
public import proofs.«01_k».proof.Proof.MixFwd
public import proofs.«01_k».proof.Proof.Gen.Kernel41.Frame
public import proofs.«01_k».proof.Proof.MixBwd
public import proofs.«01_k».proof.Proof.Gen.Kernel42.Frame
public import proofs.«01_k».proof.Proof.UqFwd
public import proofs.«01_k».proof.Proof.Gen.Kernel43.Frame
public import proofs.«01_k».proof.Proof.UqDa
public import proofs.«01_k».proof.Proof.Gen.Kernel44.Frame
public import proofs.«01_k».proof.Proof.UqDw
public import proofs.«01_k».proof.Proof.Gen.Kernel45.Frame
public import proofs.«01_k».proof.Proof.UkvFwd
public import proofs.«01_k».proof.Proof.Gen.Kernel46.Frame
public import proofs.«01_k».proof.Proof.UkvDa
public import proofs.«01_k».proof.Proof.Gen.Kernel47.Frame
public import proofs.«01_k».proof.Proof.UkvDw
public import proofs.«01_k».proof.Proof.Gen.Kernel48.Frame

@[expose] public section

set_option maxRecDepth 16384

noncomputable section

namespace Cert.ForwardClaims

open Idealize.ShloMosaic Idealize.ShloMosaic.TcCoe Idealize.SL.Sem
open Cert.Prod (congr2)
open Cert.MoreClaims (congr3 congr4)

namespace P33

open Cert.GatesFwd

theorem frame_kernel : quiescent_Kernel33 := fun m ρ _ => Kernel33.Gen.frame m ρ

theorem frame_ideal : quiescent_Kernel33Ideal := fun m ρ _ => Kernel33Ideal.Gen.frame m ρ

theorem frame_ref : quiescent_Reference33Ideal := fun m ρ _ =>
  (θ_run Reference33Ideal.defs _ _).mono (fun r h => ⟨fun c => (h c).2, sem_eq_zero_of_no_sems (by decide) r.2⟩) (Reference33Ideal.Value.run (F := Ideal) m ρ)

theorem preserves : preserves_Kernel33_Kernel33Ideal := trivial

theorem algebraic : algebraic_Kernel33Ideal_Reference33Ideal := by
  intro m ρ m' ρ' _ hagree
  refine ⟨fun c => val (a0 m c) (a1 m c), ?_, ?_⟩
  · exact (θ_run Kernel33Ideal.defs _ _).mono (fun r h c => ⟨((h.1 c).1 2).trans (out m c), h.2 c⟩)
      (θ_run_and (Kernel33Ideal.Gen.run_main (F := Ideal) m ρ) (Kernel33Ideal.Gen.unchanged (F := Ideal) m ρ))
  · refine (θ_run Reference33Ideal.defs _ _).mono (fun r h c => ?_) (Reference33Ideal.Value.run (F := Ideal) m' ρ')
    obtain ⟨e0, e1⟩ := hagree c
    obtain ⟨h0, hargs⟩ := h c
    exact ⟨h0.trans (congr2 val e0 e1), hargs⟩

end P33

namespace P34

open Cert.QkvFwd

theorem frame_kernel : quiescent_Kernel34 := fun m ρ _ => Kernel34.Gen.frame m ρ

theorem frame_ideal : quiescent_Kernel34Ideal := fun m ρ _ => Kernel34Ideal.Gen.frame m ρ

theorem frame_ref : quiescent_Reference34Ideal := fun m ρ _ =>
  (θ_run Reference34Ideal.defs _ _).mono (fun r h => ⟨fun c => (h c).2, sem_eq_zero_of_no_sems (by decide) r.2⟩) (Reference34Ideal.Value.run (F := Ideal) m ρ)

theorem preserves : preserves_Kernel34_Kernel34Ideal := trivial

theorem algebraic : algebraic_Kernel34Ideal_Reference34Ideal := by
  intro m ρ m' ρ' _ hagree
  refine ⟨fun c => val (a0 m c) (a1 m c), ?_, ?_⟩
  · exact (θ_run Kernel34Ideal.defs _ _).mono (fun r h c => ⟨((h.1 c).1 2).trans (out m c), h.2 c⟩)
      (θ_run_and (Kernel34Ideal.Gen.run_main (F := Ideal) m ρ) (Kernel34Ideal.Gen.unchanged (F := Ideal) m ρ))
  · refine (θ_run Reference34Ideal.defs _ _).mono (fun r h c => ?_) (Reference34Ideal.Value.run (F := Ideal) m' ρ')
    obtain ⟨e0, e1⟩ := hagree c
    obtain ⟨h0, hargs⟩ := h c
    exact ⟨h0.trans (congr2 val e0 e1), hargs⟩

end P34

namespace P35

open Cert.ZFwd

theorem frame_kernel : quiescent_Kernel35 := fun m ρ _ => Kernel35.Gen.frame m ρ

theorem frame_ideal : quiescent_Kernel35Ideal := fun m ρ _ => Kernel35Ideal.Gen.frame m ρ

theorem frame_ref : quiescent_Reference35Ideal := fun m ρ _ =>
  (θ_run Reference35Ideal.defs _ _).mono (fun r h => ⟨fun c => (h c).2, sem_eq_zero_of_no_sems (by decide) r.2⟩) (Reference35Ideal.Value.run (F := Ideal) m ρ)

theorem preserves : preserves_Kernel35_Kernel35Ideal := trivial

theorem algebraic : algebraic_Kernel35Ideal_Reference35Ideal := by
  intro m ρ m' ρ' _ hagree
  refine ⟨fun c => val (a0 m c) (a1 m c), ?_, ?_⟩
  · exact (θ_run Kernel35Ideal.defs _ _).mono (fun r h c => ⟨((h.1 c).1 2).trans (out m c), h.2 c⟩)
      (θ_run_and (Kernel35Ideal.Gen.run_main (F := Ideal) m ρ) (Kernel35Ideal.Gen.unchanged (F := Ideal) m ρ))
  · refine (θ_run Reference35Ideal.defs _ _).mono (fun r h c => ?_) (Reference35Ideal.Value.run (F := Ideal) m' ρ')
    obtain ⟨e0, e1⟩ := hagree c
    obtain ⟨h0, hargs⟩ := h c
    exact ⟨h0.trans (congr2 val e0 e1), hargs⟩

end P35

namespace P36

open Cert.LatentFwd

theorem frame_kernel : quiescent_Kernel36 := fun m ρ _ => Kernel36.Gen.frame m ρ

theorem frame_ideal : quiescent_Kernel36Ideal := fun m ρ _ => Kernel36Ideal.Gen.frame m ρ

theorem frame_ref : quiescent_Reference36Ideal := fun m ρ _ =>
  (θ_run Reference36Ideal.defs _ _).mono (fun r h => ⟨fun c => (h c).2, sem_eq_zero_of_no_sems (by decide) r.2⟩) (Reference36Ideal.Value.run (F := Ideal) m ρ)

theorem preserves : preserves_Kernel36_Kernel36Ideal := trivial

theorem algebraic : algebraic_Kernel36Ideal_Reference36Ideal := by
  intro m ρ m' ρ' _ hagree
  refine ⟨fun c => val (a0 m c) (a1 m c), ?_, ?_⟩
  · exact (θ_run Kernel36Ideal.defs _ _).mono (fun r h c => ⟨((h.1 c).1 2).trans (out m c), h.2 c⟩)
      (θ_run_and (Kernel36Ideal.Gen.run_main (F := Ideal) m ρ) (Kernel36Ideal.Gen.unchanged (F := Ideal) m ρ))
  · refine (θ_run Reference36Ideal.defs _ _).mono (fun r h c => ?_) (Reference36Ideal.Value.run (F := Ideal) m' ρ')
    obtain ⟨e0, e1⟩ := hagree c
    obtain ⟨h0, hargs⟩ := h c
    exact ⟨h0.trans (congr2 val e0 e1), hargs⟩

end P36

namespace P37

open Cert.OutFwd

theorem frame_kernel : quiescent_Kernel37 := fun m ρ _ => Kernel37.Gen.frame m ρ

theorem frame_ideal : quiescent_Kernel37Ideal := fun m ρ _ => Kernel37Ideal.Gen.frame m ρ

theorem frame_ref : quiescent_Reference37Ideal := fun m ρ _ =>
  (θ_run Reference37Ideal.defs _ _).mono (fun r h => ⟨fun c => (h c).2.2, sem_eq_zero_of_no_sems (by decide) r.2⟩) (Reference37Ideal.Value.run (F := Ideal) m ρ)

theorem preserves : preserves_Kernel37_Kernel37Ideal := trivial

theorem algebraic : algebraic_Kernel37Ideal_Reference37Ideal := by
  intro m ρ m' ρ' _ hagree
  refine ⟨fun c => valX (a0 m c) (a1 m c) (a2 m c) (a3 m c), fun c => valP (a2 m c) (a3 m c), ?_, ?_⟩
  · exact (θ_run Kernel37Ideal.defs _ _).mono (fun r h c => ⟨((h.1 c).1 4).trans (outX m c), ((h.1 c).1 5).trans (outP m c), h.2 c⟩)
      (θ_run_and (Kernel37Ideal.Gen.run_main (F := Ideal) m ρ) (Kernel37Ideal.Gen.unchanged (F := Ideal) m ρ))
  · refine (θ_run Reference37Ideal.defs _ _).mono (fun r h c => ?_) (Reference37Ideal.Value.run (F := Ideal) m' ρ')
    obtain ⟨e0, e1, e2, e3⟩ := hagree c
    obtain ⟨h0, h1, hargs⟩ := h c
    exact ⟨h0.trans (congr4 valX e0 e1 e2 e3), h1.trans (congr2 valP e2 e3), hargs⟩

end P37

namespace P38

open Cert.BranchFwd

theorem frame_kernel : quiescent_Kernel38 := fun m ρ _ => Kernel38.Gen.frame m ρ

theorem frame_ideal : quiescent_Kernel38Ideal := fun m ρ _ => Kernel38Ideal.Gen.frame m ρ

theorem frame_ref : quiescent_Reference38Ideal := fun m ρ _ =>
  (θ_run Reference38Ideal.defs _ _).mono (fun r h => ⟨fun c => (h c).2, sem_eq_zero_of_no_sems (by decide) r.2⟩) (Reference38Ideal.Value.run (F := Ideal) m ρ)

theorem preserves : preserves_Kernel38_Kernel38Ideal := trivial

theorem algebraic : algebraic_Kernel38Ideal_Reference38Ideal := by
  intro m ρ m' ρ' _ hagree
  refine ⟨fun c => val (a0 m c) (a1 m c), ?_, ?_⟩
  · exact (θ_run Kernel38Ideal.defs _ _).mono (fun r h c => ⟨((h.1 c).1 2).trans (out m c), h.2 c⟩)
      (θ_run_and (Kernel38Ideal.Gen.run_main (F := Ideal) m ρ) (Kernel38Ideal.Gen.unchanged (F := Ideal) m ρ))
  · refine (θ_run Reference38Ideal.defs _ _).mono (fun r h c => ?_) (Reference38Ideal.Value.run (F := Ideal) m' ρ')
    obtain ⟨e0, e1⟩ := hagree c
    obtain ⟨h0, hargs⟩ := h c
    exact ⟨h0.trans (congr2 val e0 e1), hargs⟩

end P38

namespace P39

open Cert.NormFwd

theorem frame_kernel : quiescent_Kernel39 := fun m ρ _ => Kernel39.Gen.frame m ρ

theorem frame_ideal : quiescent_Kernel39Ideal := fun m ρ _ => Kernel39Ideal.Gen.frame m ρ

theorem frame_ref : quiescent_Reference39Ideal := fun m ρ _ =>
  (θ_run Reference39Ideal.defs _ _).mono (fun r h => ⟨fun c => (h c).2, sem_eq_zero_of_no_sems (by decide) r.2⟩) (Reference39Ideal.Value.run (F := Ideal) m ρ)

theorem preserves : preserves_Kernel39_Kernel39Ideal := trivial

theorem algebraic : algebraic_Kernel39Ideal_Reference39Ideal := by
  intro m ρ m' ρ' _ hagree
  refine ⟨fun c => val (a0 m c) (a1 m c) (a2 m c) (a3 m c), ?_, ?_⟩
  · exact (θ_run Kernel39Ideal.defs _ _).mono (fun r h c => ⟨((h.1 c).1 4).trans (out m c), h.2 c⟩)
      (θ_run_and (Kernel39Ideal.Gen.run_main (F := Ideal) m ρ) (Kernel39Ideal.Gen.unchanged (F := Ideal) m ρ))
  · refine (θ_run Reference39Ideal.defs _ _).mono (fun r h c => ?_) (Reference39Ideal.Value.run (F := Ideal) m' ρ')
    obtain ⟨e0, e1, e2, e3⟩ := hagree c
    obtain ⟨h0, hargs⟩ := h c
    exact ⟨h0.trans (congr4 val e0 e1 e2 e3), hargs⟩

end P39

namespace P40

open Cert.Resid

theorem frame_kernel : quiescent_Kernel40 := fun m ρ _ => Kernel40.Gen.frame m ρ

theorem frame_ideal : quiescent_Kernel40Ideal := fun m ρ _ => Kernel40Ideal.Gen.frame m ρ

theorem frame_ref : quiescent_Reference40Ideal := fun m ρ _ =>
  (θ_run Reference40Ideal.defs _ _).mono (fun r h => ⟨fun c => (h c).2.2, sem_eq_zero_of_no_sems (by decide) r.2⟩) (Reference40Ideal.Value.run (F := Ideal) m ρ)

theorem preserves : preserves_Kernel40_Kernel40Ideal := trivial

theorem algebraic : algebraic_Kernel40Ideal_Reference40Ideal := by
  intro m ρ m' ρ' _ hagree
  refine ⟨fun c => valP (a0 m c) (a2 m c), fun c => valT (a1 m c) (a2 m c), ?_, ?_⟩
  · exact (θ_run Kernel40Ideal.defs _ _).mono (fun r h c => ⟨((h.1 c).1 3).trans (outP m c), ((h.1 c).1 4).trans (outT m c), h.2 c⟩)
      (θ_run_and (Kernel40Ideal.Gen.run_main (F := Ideal) m ρ) (Kernel40Ideal.Gen.unchanged (F := Ideal) m ρ))
  · refine (θ_run Reference40Ideal.defs _ _).mono (fun r h c => ?_) (Reference40Ideal.Value.run (F := Ideal) m' ρ')
    obtain ⟨e0, e1, e2⟩ := hagree c
    obtain ⟨h0, h1, hargs⟩ := h c
    exact ⟨h0.trans (congr2 valP e0 e2), h1.trans (congr2 valT e1 e2), hargs⟩

end P40

namespace P41

open Cert.MixFwd

theorem frame_kernel : quiescent_Kernel41 := fun m ρ _ => Kernel41.Gen.frame m ρ

theorem frame_ideal : quiescent_Kernel41Ideal := fun m ρ _ => Kernel41Ideal.Gen.frame m ρ

theorem frame_ref : quiescent_Reference41Ideal := fun m ρ _ =>
  (θ_run Reference41Ideal.defs _ _).mono (fun r h => ⟨fun c => (h c).2, sem_eq_zero_of_no_sems (by decide) r.2⟩) (Reference41Ideal.Value.run (F := Ideal) m ρ)

theorem preserves : preserves_Kernel41_Kernel41Ideal := trivial

theorem algebraic : algebraic_Kernel41Ideal_Reference41Ideal := by
  intro m ρ m' ρ' _ hagree
  refine ⟨fun c => val (a0 m c) (a1 m c) (a2 m c), ?_, ?_⟩
  · exact (θ_run Kernel41Ideal.defs _ _).mono (fun r h c => ⟨((h.1 c).1 4).trans (out m c), h.2 c⟩)
      (θ_run_and (Kernel41Ideal.Gen.run_main (F := Ideal) m ρ) (Kernel41Ideal.Gen.unchanged (F := Ideal) m ρ))
  · refine (θ_run Reference41Ideal.defs _ _).mono (fun r h c => ?_) (Reference41Ideal.Value.run (F := Ideal) m' ρ')
    obtain ⟨e0, e1, e2⟩ := hagree c
    obtain ⟨h0, hargs⟩ := h c
    exact ⟨h0.trans (congr3 val e0 e1 e2), hargs⟩

end P41

namespace P42

open Cert.MixBwd

theorem frame_kernel : quiescent_Kernel42 := fun m ρ _ => Kernel42.Gen.frame m ρ

theorem frame_ideal : quiescent_Kernel42Ideal := fun m ρ _ => Kernel42Ideal.Gen.frame m ρ

theorem frame_ref : quiescent_Reference42Ideal := fun m ρ _ =>
  (θ_run Reference42Ideal.defs _ _).mono (fun r h => ⟨fun c => (h c).2.2.2, sem_eq_zero_of_no_sems (by decide) r.2⟩) (Reference42Ideal.Value.run (F := Ideal) m ρ)

theorem preserves : preserves_Kernel42_Kernel42Ideal := trivial

theorem algebraic : algebraic_Kernel42Ideal_Reference42Ideal := by
  intro m ρ m' ρ' _ hagree
  refine ⟨fun c => valG (a0 m c) (a1 m c) (a2 m c) (a3 m c), fun c => valA (a0 m c) (a3 m c), fun c => valB (a0 m c) (a3 m c), ?_, ?_⟩
  · exact (θ_run Kernel42Ideal.defs _ _).mono (fun r h c => ⟨((h.1 c).1 4).trans (outG m c), ((h.1 c).1 5).trans (outA m c), ((h.1 c).1 6).trans (outB m c), h.2 c⟩)
      (θ_run_and (Kernel42Ideal.Gen.run_main (F := Ideal) m ρ) (Kernel42Ideal.Gen.unchanged (F := Ideal) m ρ))
  · refine (θ_run Reference42Ideal.defs _ _).mono (fun r h c => ?_) (Reference42Ideal.Value.run (F := Ideal) m' ρ')
    obtain ⟨e0, e1, e2, e3⟩ := hagree c
    obtain ⟨h0, h1, h2, hargs⟩ := h c
    exact ⟨h0.trans (congr4 valG e0 e1 e2 e3), h1.trans (congr2 valA e0 e3), h2.trans (congr2 valB e0 e3), hargs⟩

end P42

namespace P43

open Cert.UqFwd

theorem frame_kernel : quiescent_Kernel43 := fun m ρ _ => Kernel43.Gen.frame m ρ

theorem frame_ideal : quiescent_Kernel43Ideal := fun m ρ _ => Kernel43Ideal.Gen.frame m ρ

theorem frame_ref : quiescent_Reference43Ideal := fun m ρ _ =>
  (θ_run Reference43Ideal.defs _ _).mono (fun r h => ⟨fun c => (h c).2, sem_eq_zero_of_no_sems (by decide) r.2⟩) (Reference43Ideal.Value.run (F := Ideal) m ρ)

theorem preserves : preserves_Kernel43_Kernel43Ideal := trivial

theorem algebraic : algebraic_Kernel43Ideal_Reference43Ideal := by
  intro m ρ m' ρ' _ hagree
  refine ⟨fun c => val (a0 m c) (a1 m c), ?_, ?_⟩
  · exact (θ_run Kernel43Ideal.defs _ _).mono (fun r h c => ⟨((h.1 c).1 2).trans (out m c), h.2 c⟩)
      (θ_run_and (Kernel43Ideal.Gen.run_main (F := Ideal) m ρ) (Kernel43Ideal.Gen.unchanged (F := Ideal) m ρ))
  · refine (θ_run Reference43Ideal.defs _ _).mono (fun r h c => ?_) (Reference43Ideal.Value.run (F := Ideal) m' ρ')
    obtain ⟨e0, e1⟩ := hagree c
    obtain ⟨h0, hargs⟩ := h c
    exact ⟨h0.trans (congr2 val e0 e1), hargs⟩

end P43

namespace P44

open Cert.UqDa

theorem frame_kernel : quiescent_Kernel44 := fun m ρ _ => Kernel44.Gen.frame m ρ

theorem frame_ideal : quiescent_Kernel44Ideal := fun m ρ _ => Kernel44Ideal.Gen.frame m ρ

theorem frame_ref : quiescent_Reference44Ideal := fun m ρ _ =>
  (θ_run Reference44Ideal.defs _ _).mono (fun r h => ⟨fun c => (h c).2, sem_eq_zero_of_no_sems (by decide) r.2⟩) (Reference44Ideal.Value.run (F := Ideal) m ρ)

theorem preserves : preserves_Kernel44_Kernel44Ideal := trivial

theorem algebraic : algebraic_Kernel44Ideal_Reference44Ideal := by
  intro m ρ m' ρ' _ hagree
  refine ⟨fun c => val (a0 m c) (a1 m c), ?_, ?_⟩
  · exact (θ_run Kernel44Ideal.defs _ _).mono (fun r h c => ⟨((h.1 c).1 2).trans (out m c), h.2 c⟩)
      (θ_run_and (Kernel44Ideal.Gen.run_main (F := Ideal) m ρ) (Kernel44Ideal.Gen.unchanged (F := Ideal) m ρ))
  · refine (θ_run Reference44Ideal.defs _ _).mono (fun r h c => ?_) (Reference44Ideal.Value.run (F := Ideal) m' ρ')
    obtain ⟨e0, e1⟩ := hagree c
    obtain ⟨h0, hargs⟩ := h c
    exact ⟨h0.trans (congr2 val e0 e1), hargs⟩

end P44

namespace P45

open Cert.UqDw

theorem frame_kernel : quiescent_Kernel45 := fun m ρ _ => Kernel45.Gen.frame m ρ

theorem frame_ideal : quiescent_Kernel45Ideal := fun m ρ _ => Kernel45Ideal.Gen.frame m ρ

theorem frame_ref : quiescent_Reference45Ideal := fun m ρ _ =>
  (θ_run Reference45Ideal.defs _ _).mono (fun r h => ⟨fun c => (h c).2, sem_eq_zero_of_no_sems (by decide) r.2⟩) (Reference45Ideal.Value.run (F := Ideal) m ρ)

theorem preserves : preserves_Kernel45_Kernel45Ideal := trivial

theorem algebraic : algebraic_Kernel45Ideal_Reference45Ideal := by
  intro m ρ m' ρ' _ hagree
  refine ⟨fun c => val (a0 m c) (a1 m c), ?_, ?_⟩
  · exact (θ_run Kernel45Ideal.defs _ _).mono (fun r h c => ⟨((h.1 c).1 2).trans (out m c), h.2 c⟩)
      (θ_run_and (Kernel45Ideal.Gen.run_main (F := Ideal) m ρ) (Kernel45Ideal.Gen.unchanged (F := Ideal) m ρ))
  · refine (θ_run Reference45Ideal.defs _ _).mono (fun r h c => ?_) (Reference45Ideal.Value.run (F := Ideal) m' ρ')
    obtain ⟨e0, e1⟩ := hagree c
    obtain ⟨h0, hargs⟩ := h c
    exact ⟨h0.trans (congr2 val e0 e1), hargs⟩

end P45

namespace P46

open Cert.UkvFwd

theorem frame_kernel : quiescent_Kernel46 := fun m ρ _ => Kernel46.Gen.frame m ρ

theorem frame_ideal : quiescent_Kernel46Ideal := fun m ρ _ => Kernel46Ideal.Gen.frame m ρ

theorem frame_ref : quiescent_Reference46Ideal := fun m ρ _ =>
  (θ_run Reference46Ideal.defs _ _).mono (fun r h => ⟨fun c => (h c).2, sem_eq_zero_of_no_sems (by decide) r.2⟩) (Reference46Ideal.Value.run (F := Ideal) m ρ)

theorem preserves : preserves_Kernel46_Kernel46Ideal := trivial

theorem algebraic : algebraic_Kernel46Ideal_Reference46Ideal := by
  intro m ρ m' ρ' _ hagree
  refine ⟨fun c => val (a0 m c) (a1 m c), ?_, ?_⟩
  · exact (θ_run Kernel46Ideal.defs _ _).mono (fun r h c => ⟨((h.1 c).1 2).trans (out m c), h.2 c⟩)
      (θ_run_and (Kernel46Ideal.Gen.run_main (F := Ideal) m ρ) (Kernel46Ideal.Gen.unchanged (F := Ideal) m ρ))
  · refine (θ_run Reference46Ideal.defs _ _).mono (fun r h c => ?_) (Reference46Ideal.Value.run (F := Ideal) m' ρ')
    obtain ⟨e0, e1⟩ := hagree c
    obtain ⟨h0, hargs⟩ := h c
    exact ⟨h0.trans (congr2 val e0 e1), hargs⟩

end P46

namespace P47

open Cert.UkvDa

theorem frame_kernel : quiescent_Kernel47 := fun m ρ _ => Kernel47.Gen.frame m ρ

theorem frame_ideal : quiescent_Kernel47Ideal := fun m ρ _ => Kernel47Ideal.Gen.frame m ρ

theorem frame_ref : quiescent_Reference47Ideal := fun m ρ _ =>
  (θ_run Reference47Ideal.defs _ _).mono (fun r h => ⟨fun c => (h c).2, sem_eq_zero_of_no_sems (by decide) r.2⟩) (Reference47Ideal.Value.run (F := Ideal) m ρ)

theorem preserves : preserves_Kernel47_Kernel47Ideal := trivial

theorem algebraic : algebraic_Kernel47Ideal_Reference47Ideal := by
  intro m ρ m' ρ' _ hagree
  refine ⟨fun c => val (a0 m c) (a1 m c), ?_, ?_⟩
  · exact (θ_run Kernel47Ideal.defs _ _).mono (fun r h c => ⟨((h.1 c).1 2).trans (out m c), h.2 c⟩)
      (θ_run_and (Kernel47Ideal.Gen.run_main (F := Ideal) m ρ) (Kernel47Ideal.Gen.unchanged (F := Ideal) m ρ))
  · refine (θ_run Reference47Ideal.defs _ _).mono (fun r h c => ?_) (Reference47Ideal.Value.run (F := Ideal) m' ρ')
    obtain ⟨e0, e1⟩ := hagree c
    obtain ⟨h0, hargs⟩ := h c
    exact ⟨h0.trans (congr2 val e0 e1), hargs⟩

end P47

namespace P48

open Cert.UkvDw

theorem frame_kernel : quiescent_Kernel48 := fun m ρ _ => Kernel48.Gen.frame m ρ

theorem frame_ideal : quiescent_Kernel48Ideal := fun m ρ _ => Kernel48Ideal.Gen.frame m ρ

theorem frame_ref : quiescent_Reference48Ideal := fun m ρ _ =>
  (θ_run Reference48Ideal.defs _ _).mono (fun r h => ⟨fun c => (h c).2, sem_eq_zero_of_no_sems (by decide) r.2⟩) (Reference48Ideal.Value.run (F := Ideal) m ρ)

theorem preserves : preserves_Kernel48_Kernel48Ideal := trivial

theorem algebraic : algebraic_Kernel48Ideal_Reference48Ideal := by
  intro m ρ m' ρ' _ hagree
  refine ⟨fun c => val (a0 m c) (a1 m c), ?_, ?_⟩
  · exact (θ_run Kernel48Ideal.defs _ _).mono (fun r h c => ⟨((h.1 c).1 2).trans (out m c), h.2 c⟩)
      (θ_run_and (Kernel48Ideal.Gen.run_main (F := Ideal) m ρ) (Kernel48Ideal.Gen.unchanged (F := Ideal) m ρ))
  · refine (θ_run Reference48Ideal.defs _ _).mono (fun r h c => ?_) (Reference48Ideal.Value.run (F := Ideal) m' ρ')
    obtain ⟨e0, e1⟩ := hagree c
    obtain ⟨h0, hargs⟩ := h c
    exact ⟨h0.trans (congr2 val e0 e1), hargs⟩

end P48

end Cert.ForwardClaims

end
-- ==== Proof.lean ====
module

public import proofs.«01_k».proof.Defs
public import proofs.«01_k».proof.Proof.AttnClaims
public import proofs.«01_k».proof.Proof.ProdClaims
public import proofs.«01_k».proof.Proof.AdamClaims
public import proofs.«01_k».proof.Proof.MoreClaims
public import proofs.«01_k».proof.Proof.ForwardClaims

@[expose] public section

noncomputable section

namespace Cert.Proof

theorem claim : Cert.Claim :=
  ⟨Kernel.Gen.facts, KernelIdeal.Gen.facts, ReferenceIdeal.Gen.facts, Kernel2.Gen.facts,
    Kernel2Ideal.Gen.facts, Reference2Ideal.Gen.facts, Kernel3.Gen.facts,
    Kernel3Ideal.Gen.facts, Reference3Ideal.Gen.facts, Kernel4.Gen.facts,
    Kernel4Ideal.Gen.facts, Reference4Ideal.Gen.facts, Kernel5.Gen.facts,
    Kernel5Ideal.Gen.facts, Reference5Ideal.Gen.facts, Kernel6.Gen.facts,
    Kernel6Ideal.Gen.facts, Reference6Ideal.Gen.facts, Kernel7.Gen.facts,
    Kernel7Ideal.Gen.facts, Reference7Ideal.Gen.facts, Kernel8.Gen.facts,
    Kernel8Ideal.Gen.facts, Reference8Ideal.Gen.facts, Kernel9.Gen.facts,
    Kernel9Ideal.Gen.facts, Reference9Ideal.Gen.facts, Kernel10.Gen.facts,
    Kernel10Ideal.Gen.facts, Reference10Ideal.Gen.facts, Kernel11.Gen.facts,
    Kernel11Ideal.Gen.facts, Reference11Ideal.Gen.facts, Kernel12.Gen.facts,
    Kernel12Ideal.Gen.facts, Reference12Ideal.Gen.facts, Kernel13.Gen.facts,
    Kernel13Ideal.Gen.facts, Reference13Ideal.Gen.facts, Kernel14.Gen.facts,
    Kernel14Ideal.Gen.facts, Reference14Ideal.Gen.facts, Kernel15.Gen.facts,
    Kernel15Ideal.Gen.facts, Reference15Ideal.Gen.facts, Kernel16.Gen.facts,
    Kernel16Ideal.Gen.facts, Reference16Ideal.Gen.facts, Kernel17.Gen.facts,
    Kernel17Ideal.Gen.facts, Reference17Ideal.Gen.facts, Kernel18.Gen.facts,
    Kernel18Ideal.Gen.facts, Reference18Ideal.Gen.facts, Kernel19.Gen.facts,
    Kernel19Ideal.Gen.facts, Reference19Ideal.Gen.facts, Kernel20.Gen.facts,
    Kernel20Ideal.Gen.facts, Reference20Ideal.Gen.facts, Kernel21.Gen.facts,
    Kernel21Ideal.Gen.facts, Reference21Ideal.Gen.facts, Kernel22.Gen.facts,
    Kernel22Ideal.Gen.facts, Reference22Ideal.Gen.facts, Kernel23.Gen.facts,
    Kernel23Ideal.Gen.facts, Reference23Ideal.Gen.facts, Kernel24.Gen.facts,
    Kernel24Ideal.Gen.facts, Reference24Ideal.Gen.facts, Kernel25.Gen.facts,
    Kernel25Ideal.Gen.facts, Reference25Ideal.Gen.facts, Kernel26.Gen.facts,
    Kernel26Ideal.Gen.facts, Reference26Ideal.Gen.facts, Kernel27.Gen.facts,
    Kernel27Ideal.Gen.facts, Reference27Ideal.Gen.facts, Kernel28.Gen.facts,
    Kernel28Ideal.Gen.facts, Reference28Ideal.Gen.facts, Kernel29.Gen.facts,
    Kernel29Ideal.Gen.facts, Reference29Ideal.Gen.facts, Kernel30.Gen.facts,
    Kernel30Ideal.Gen.facts, Reference30Ideal.Gen.facts, Kernel31.Gen.facts,
    Kernel31Ideal.Gen.facts, Reference31Ideal.Gen.facts, Kernel32.Gen.facts,
    Kernel32Ideal.Gen.facts, Reference32Ideal.Gen.facts, Kernel33.Gen.facts,
    Kernel33Ideal.Gen.facts, Reference33Ideal.Gen.facts, Kernel34.Gen.facts,
    Kernel34Ideal.Gen.facts, Reference34Ideal.Gen.facts, Kernel35.Gen.facts,
    Kernel35Ideal.Gen.facts, Reference35Ideal.Gen.facts, Kernel36.Gen.facts,
    Kernel36Ideal.Gen.facts, Reference36Ideal.Gen.facts, Kernel37.Gen.facts,
    Kernel37Ideal.Gen.facts, Reference37Ideal.Gen.facts, Kernel38.Gen.facts,
    Kernel38Ideal.Gen.facts, Reference38Ideal.Gen.facts, Kernel39.Gen.facts,
    Kernel39Ideal.Gen.facts, Reference39Ideal.Gen.facts, Kernel40.Gen.facts,
    Kernel40Ideal.Gen.facts, Reference40Ideal.Gen.facts, Kernel41.Gen.facts,
    Kernel41Ideal.Gen.facts, Reference41Ideal.Gen.facts, Kernel42.Gen.facts,
    Kernel42Ideal.Gen.facts, Reference42Ideal.Gen.facts, Kernel43.Gen.facts,
    Kernel43Ideal.Gen.facts, Reference43Ideal.Gen.facts, Kernel44.Gen.facts,
    Kernel44Ideal.Gen.facts, Reference44Ideal.Gen.facts, Kernel45.Gen.facts,
    Kernel45Ideal.Gen.facts, Reference45Ideal.Gen.facts, Kernel46.Gen.facts,
    Kernel46Ideal.Gen.facts, Reference46Ideal.Gen.facts, Kernel47.Gen.facts,
    Kernel47Ideal.Gen.facts, Reference47Ideal.Gen.facts, Kernel48.Gen.facts,
    Kernel48Ideal.Gen.facts, Reference48Ideal.Gen.facts, AttnPre.facts,
    Pre_finite2.Gen.facts, Pre_finite3.Gen.facts, AttnClaims.frame_kernel,
    AttnClaims.frame_ideal, AttnClaims.frame_ideal_pre, AttnClaims.frame_ref,
    AttnClaims.frame_ref_pre, ProdClaims.P2.frame_kernel, ProdClaims.P2.frame_ideal,
    ProdClaims.P2.frame_ideal_pre, ProdClaims.P2.frame_ref, ProdClaims.P2.frame_ref_pre,
    ProdClaims.P3.frame_kernel, ProdClaims.P3.frame_ideal, ProdClaims.P3.frame_ref,
    ProdClaims.P4.frame_kernel, ProdClaims.P4.frame_ideal, ProdClaims.P4.frame_ref,
    ProdClaims.P5.frame_kernel, ProdClaims.P5.frame_ideal, ProdClaims.P5.frame_ref,
    ProdClaims.P6.frame_kernel, ProdClaims.P6.frame_ideal, ProdClaims.P6.frame_ref,
    ProdClaims.P7.frame_kernel, ProdClaims.P7.frame_ideal, ProdClaims.P7.frame_ref,
    ProdClaims.P8.frame_kernel, ProdClaims.P8.frame_ideal, ProdClaims.P8.frame_ref,
    ProdClaims.P9.frame_kernel, ProdClaims.P9.frame_ideal, ProdClaims.P9.frame_ref,
    ProdClaims.P10.frame_kernel, ProdClaims.P10.frame_ideal, ProdClaims.P10.frame_ref,
    ProdClaims.P11.frame_kernel, ProdClaims.P11.frame_ideal, ProdClaims.P11.frame_ref,
    ProdClaims.P12.frame_kernel, ProdClaims.P12.frame_ideal, ProdClaims.P12.frame_ref,
    ProdClaims.P13.frame_kernel, ProdClaims.P13.frame_ideal, ProdClaims.P13.frame_ref,
    ProdClaims.P14.frame_kernel, ProdClaims.P14.frame_ideal, ProdClaims.P14.frame_ref,
    ProdClaims.P15.frame_kernel, ProdClaims.P15.frame_ideal, ProdClaims.P15.frame_ref,
    ProdClaims.P16.frame_kernel, ProdClaims.P16.frame_ideal, ProdClaims.P16.frame_ref,
    ProdClaims.P17.frame_kernel, ProdClaims.P17.frame_ideal, ProdClaims.P17.frame_ref,
    ProdClaims.P18.frame_kernel, ProdClaims.P18.frame_ideal, ProdClaims.P18.frame_ref,
    ProdClaims.P19.frame_kernel, ProdClaims.P19.frame_ideal, ProdClaims.P19.frame_ref,
    ProdClaims.P20.frame_kernel, ProdClaims.P20.frame_ideal, ProdClaims.P20.frame_ref,
    AdamClaims.P21.frame_kernel, AdamClaims.P21.frame_ideal, AdamClaims.P21.frame_ref,
    AdamClaims.P22.frame_kernel, AdamClaims.P22.frame_ideal, AdamClaims.P22.frame_ref,
    AdamClaims.P23.frame_kernel, AdamClaims.P23.frame_ideal, AdamClaims.P23.frame_ref,
    AdamClaims.P24.frame_kernel, AdamClaims.P24.frame_ideal, AdamClaims.P24.frame_ref,
    AdamClaims.P25.frame_kernel, AdamClaims.P25.frame_ideal, AdamClaims.P25.frame_ref,
    AdamClaims.P26.frame_kernel, AdamClaims.P26.frame_ideal, AdamClaims.P26.frame_ref,
    AdamClaims.P27.frame_kernel, AdamClaims.P27.frame_ideal, AdamClaims.P27.frame_ref,
    AdamClaims.P28.frame_kernel, AdamClaims.P28.frame_ideal, AdamClaims.P28.frame_ref,
    AdamClaims.P29.frame_kernel, AdamClaims.P29.frame_ideal, AdamClaims.P29.frame_ref,
    AdamClaims.P30.frame_kernel, AdamClaims.P30.frame_ideal, AdamClaims.P30.frame_ref,
    MoreClaims.P31.frame_kernel, MoreClaims.P31.frame_ideal, MoreClaims.P31.frame_ref,
    MoreClaims.P32.frame_kernel, MoreClaims.P32.frame_ideal, MoreClaims.P32.frame_ideal_pre,
    MoreClaims.P32.frame_ref, MoreClaims.P32.frame_ref_pre, ForwardClaims.P33.frame_kernel,
    ForwardClaims.P33.frame_ideal, ForwardClaims.P33.frame_ref, ForwardClaims.P34.frame_kernel,
    ForwardClaims.P34.frame_ideal, ForwardClaims.P34.frame_ref, ForwardClaims.P35.frame_kernel,
    ForwardClaims.P35.frame_ideal, ForwardClaims.P35.frame_ref, ForwardClaims.P36.frame_kernel,
    ForwardClaims.P36.frame_ideal, ForwardClaims.P36.frame_ref, ForwardClaims.P37.frame_kernel,
    ForwardClaims.P37.frame_ideal, ForwardClaims.P37.frame_ref, ForwardClaims.P38.frame_kernel,
    ForwardClaims.P38.frame_ideal, ForwardClaims.P38.frame_ref, ForwardClaims.P39.frame_kernel,
    ForwardClaims.P39.frame_ideal, ForwardClaims.P39.frame_ref, ForwardClaims.P40.frame_kernel,
    ForwardClaims.P40.frame_ideal, ForwardClaims.P40.frame_ref, ForwardClaims.P41.frame_kernel,
    ForwardClaims.P41.frame_ideal, ForwardClaims.P41.frame_ref, ForwardClaims.P42.frame_kernel,
    ForwardClaims.P42.frame_ideal, ForwardClaims.P42.frame_ref, ForwardClaims.P43.frame_kernel,
    ForwardClaims.P43.frame_ideal, ForwardClaims.P43.frame_ref, ForwardClaims.P44.frame_kernel,
    ForwardClaims.P44.frame_ideal, ForwardClaims.P44.frame_ref, ForwardClaims.P45.frame_kernel,
    ForwardClaims.P45.frame_ideal, ForwardClaims.P45.frame_ref, ForwardClaims.P46.frame_kernel,
    ForwardClaims.P46.frame_ideal, ForwardClaims.P46.frame_ref, ForwardClaims.P47.frame_kernel,
    ForwardClaims.P47.frame_ideal, ForwardClaims.P47.frame_ref, ForwardClaims.P48.frame_kernel,
    ForwardClaims.P48.frame_ideal, ForwardClaims.P48.frame_ref, AttnClaims.preserves,
    AttnClaims.algebraic, ProdClaims.P2.preserves, ProdClaims.P2.algebraic,
    ProdClaims.P3.preserves, ProdClaims.P3.algebraic, ProdClaims.P4.preserves,
    ProdClaims.P4.algebraic, ProdClaims.P5.preserves, ProdClaims.P5.algebraic,
    ProdClaims.P6.preserves, ProdClaims.P6.algebraic, ProdClaims.P7.preserves,
    ProdClaims.P7.algebraic, ProdClaims.P8.preserves, ProdClaims.P8.algebraic,
    ProdClaims.P9.preserves, ProdClaims.P9.algebraic, ProdClaims.P10.preserves,
    ProdClaims.P10.algebraic, ProdClaims.P11.preserves, ProdClaims.P11.algebraic,
    ProdClaims.P12.preserves, ProdClaims.P12.algebraic, ProdClaims.P13.preserves,
    ProdClaims.P13.algebraic, ProdClaims.P14.preserves, ProdClaims.P14.algebraic,
    ProdClaims.P15.preserves, ProdClaims.P15.algebraic, ProdClaims.P16.preserves,
    ProdClaims.P16.algebraic, ProdClaims.P17.preserves, ProdClaims.P17.algebraic,
    ProdClaims.P18.preserves, ProdClaims.P18.algebraic, ProdClaims.P19.preserves,
    ProdClaims.P19.algebraic, ProdClaims.P20.preserves, ProdClaims.P20.algebraic,
    AdamClaims.P21.preserves, AdamClaims.P21.algebraic, AdamClaims.P22.preserves,
    AdamClaims.P22.algebraic, AdamClaims.P23.preserves, AdamClaims.P23.algebraic,
    AdamClaims.P24.preserves, AdamClaims.P24.algebraic, AdamClaims.P25.preserves,
    AdamClaims.P25.algebraic, AdamClaims.P26.preserves, AdamClaims.P26.algebraic,
    AdamClaims.P27.preserves, AdamClaims.P27.algebraic, AdamClaims.P28.preserves,
    AdamClaims.P28.algebraic, AdamClaims.P29.preserves, AdamClaims.P29.algebraic,
    AdamClaims.P30.preserves, AdamClaims.P30.algebraic, MoreClaims.P31.preserves,
    MoreClaims.P31.algebraic, MoreClaims.P32.preserves, MoreClaims.P32.algebraic,
    ForwardClaims.P33.preserves, ForwardClaims.P33.algebraic, ForwardClaims.P34.preserves,
    ForwardClaims.P34.algebraic, ForwardClaims.P35.preserves, ForwardClaims.P35.algebraic,
    ForwardClaims.P36.preserves, ForwardClaims.P36.algebraic, ForwardClaims.P37.preserves,
    ForwardClaims.P37.algebraic, ForwardClaims.P38.preserves, ForwardClaims.P38.algebraic,
    ForwardClaims.P39.preserves, ForwardClaims.P39.algebraic, ForwardClaims.P40.preserves,
    ForwardClaims.P40.algebraic, ForwardClaims.P41.preserves, ForwardClaims.P41.algebraic,
    ForwardClaims.P42.preserves, ForwardClaims.P42.algebraic, ForwardClaims.P43.preserves,
    ForwardClaims.P43.algebraic, ForwardClaims.P44.preserves, ForwardClaims.P44.algebraic,
    ForwardClaims.P45.preserves, ForwardClaims.P45.algebraic, ForwardClaims.P46.preserves,
    ForwardClaims.P46.algebraic, ForwardClaims.P47.preserves, ForwardClaims.P47.algebraic,
    ForwardClaims.P48.preserves, ForwardClaims.P48.algebraic⟩

end Cert.Proof

end
